-- ==== Defs.lean ====
def Pre_Pair (m : (ℓ : Loc Cert.Pair.nD Cert.Pair.τ Cert.Pair.sig) → Buf (Elt Bits) ℓ) : Prop :=
  True

def Pre_PairIdeal (m : (ℓ : Loc Cert.PairIdeal.nD Cert.PairIdeal.τ Cert.PairIdeal.sig) → Buf (Elt Ideal) ℓ) : Prop :=
  True

def Pre_PairRefIdeal (m : (ℓ : Loc Cert.PairRefIdeal.nD Cert.PairRefIdeal.τ Cert.PairRefIdeal.sig) → Buf (Elt Ideal) ℓ) : Prop :=
  True

def Pre_PairRef (m : (ℓ : Loc Cert.PairRef.nD Cert.PairRef.τ Cert.PairRef.sig) → Buf (Elt Bits) ℓ) : Prop :=
  True

def Pre_Chips (m : (ℓ : Loc Cert.Chips.nD Cert.Chips.τ Cert.Chips.sig) → Buf (Elt Bits) ℓ) : Prop :=
  True

def Pre_ChipsIdeal (m : (ℓ : Loc Cert.ChipsIdeal.nD Cert.ChipsIdeal.τ Cert.ChipsIdeal.sig) → Buf (Elt Ideal) ℓ) : Prop :=
  True

def Pre_ChipsRefIdeal (m : (ℓ : Loc Cert.ChipsRefIdeal.nD Cert.ChipsRefIdeal.τ Cert.ChipsRefIdeal.sig) → Buf (Elt Ideal) ℓ) : Prop :=
  True

def Pre_ChipsRef (m : (ℓ : Loc Cert.ChipsRef.nD Cert.ChipsRef.τ Cert.ChipsRef.sig) → Buf (Elt Bits) ℓ) : Prop :=
  True

def Pre_Halves (m : (ℓ : Loc Cert.Halves.nD Cert.Halves.τ Cert.Halves.sig) → Buf (Elt Bits) ℓ) : Prop :=
  True

def Pre_HalvesIdeal (m : (ℓ : Loc Cert.HalvesIdeal.nD Cert.HalvesIdeal.τ Cert.HalvesIdeal.sig) → Buf (Elt Ideal) ℓ) : Prop :=
  True

def Pre_HalvesRefIdeal (m : (ℓ : Loc Cert.HalvesRefIdeal.nD Cert.HalvesRefIdeal.τ Cert.HalvesRefIdeal.sig) → Buf (Elt Ideal) ℓ) : Prop :=
  True

def Pre_HalvesRef (m : (ℓ : Loc Cert.HalvesRef.nD Cert.HalvesRef.τ Cert.HalvesRef.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_AdamCols (m : (ℓ : Loc Cert.AdamCols.nD Cert.AdamCols.τ Cert.AdamCols.sig) → Buf (Elt Bits) ℓ) : Prop :=
  True

def Pre_AdamColsIdeal (m : (ℓ : Loc Cert.AdamColsIdeal.nD Cert.AdamColsIdeal.τ Cert.AdamColsIdeal.sig) → Buf (Elt Ideal) ℓ) : Prop :=
  True

def Pre_AdamColsRefIdeal (m : (ℓ : Loc Cert.AdamColsRefIdeal.nD Cert.AdamColsRefIdeal.τ Cert.AdamColsRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXRefIdeal (m : (ℓ : Loc Cert.GradXRefIdeal.nD Cert.GradXRefIdeal.τ Cert.GradXRefIdeal.sig) → Buf (Elt Ideal) ℓ) : Prop :=
  True

def Pre_LnFwd (m : (ℓ : Loc Cert.LnFwd.nD Cert.LnFwd.τ Cert.LnFwd.sig) → Buf (Elt Bits) ℓ) : Prop :=
  True

def Pre_LnFwdIdeal (m : (ℓ : Loc Cert.LnFwdIdeal.nD Cert.LnFwdIdeal.τ Cert.LnFwdIdeal.sig) → Buf (Elt Ideal) ℓ) : Prop :=
  True

def Pre_LnFwdRefIdeal (m : (ℓ : Loc Cert.LnFwdRefIdeal.nD Cert.LnFwdRefIdeal.τ Cert.LnFwdRefIdeal.sig) → Buf (Elt Ideal) ℓ) : Prop :=
  True

def Pre_LnLoss (m : (ℓ : Loc Cert.LnLoss.nD Cert.LnLoss.τ Cert.LnLoss.sig) → Buf (Elt Bits) ℓ) : Prop :=
  True

def Pre_LnLossIdeal (m : (ℓ : Loc Cert.LnLossIdeal.nD Cert.LnLossIdeal.τ Cert.LnLossIdeal.sig) → Buf (Elt Ideal) ℓ) : Prop :=
  True

def Pre_LnLossRefIdeal (m : (ℓ : Loc Cert.LnLossRefIdeal.nD Cert.LnLossRefIdeal.τ Cert.LnLossRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownRefIdeal (m : (ℓ : Loc Cert.GradDownRefIdeal.nD Cert.GradDownRefIdeal.τ Cert.GradDownRefIdeal.sig) → Buf (Elt Ideal) ℓ) : Prop :=
  True

def Pre_GradCols (m : (ℓ : Loc Cert.GradCols.nD Cert.GradCols.τ Cert.GradCols.sig) → Buf (Elt Bits) ℓ) : Prop :=
  True

def Pre_GradColsIdeal (m : (ℓ : Loc Cert.GradColsIdeal.nD Cert.GradColsIdeal.τ Cert.GradColsIdeal.sig) → Buf (Elt Ideal) ℓ) : Prop :=
  True

def Pre_GradColsRefIdeal (m : (ℓ : Loc Cert.GradColsRefIdeal.nD Cert.GradColsRefIdeal.τ Cert.GradColsRefIdeal.sig) → Buf (Elt Ideal) ℓ) : Prop :=
  True

def quiescent_Pair [hPair : Cert.Pair.Facts] : Prop :=
  ∀ (m : (ℓ : Loc Cert.Pair.nD Cert.Pair.τ Cert.Pair.sig) → Buf (Elt Bits) ℓ) (g : Dev Cert.Pair.nD → PrngReg), Pre_Pair m →
    θ_run (Cert.Pair.defs (F := Bits)) (onTc (τ := Cert.Pair.τ) (Cert.Pair.main (F := Bits))) ⟨m, fun _ => 0, g⟩ (fun r => (∀ c : Dev Cert.Pair.nD,
      r.2.mem ((c.tc : Thread Cert.Pair.nD Cert.Pair.τ).loc Cert.Pair.main_arg0) = m ((c.tc : Thread Cert.Pair.nD Cert.Pair.τ).loc Cert.Pair.main_arg0)
      ∧ r.2.mem ((c.tc : Thread Cert.Pair.nD Cert.Pair.τ).loc Cert.Pair.main_arg1) = m ((c.tc : Thread Cert.Pair.nD Cert.Pair.τ).loc Cert.Pair.main_arg1)
      ∧ r.2.mem ((c.tc : Thread Cert.Pair.nD Cert.Pair.τ).loc Cert.Pair.main_arg2) = m ((c.tc : Thread Cert.Pair.nD Cert.Pair.τ).loc Cert.Pair.main_arg2)
      ∧ r.2.mem ((c.tc : Thread Cert.Pair.nD Cert.Pair.τ).loc Cert.Pair.main_arg3) = m ((c.tc : Thread Cert.Pair.nD Cert.Pair.τ).loc Cert.Pair.main_arg3)
      ∧ r.2.mem ((c.tc : Thread Cert.Pair.nD Cert.Pair.τ).loc Cert.Pair.main_arg4) = m ((c.tc : Thread Cert.Pair.nD Cert.Pair.τ).loc Cert.Pair.main_arg4)
      ∧ r.2.mem ((c.tc : Thread Cert.Pair.nD Cert.Pair.τ).loc Cert.Pair.main_arg5) = m ((c.tc : Thread Cert.Pair.nD Cert.Pair.τ).loc Cert.Pair.main_arg5)
      ∧ r.2.mem ((c.tc : Thread Cert.Pair.nD Cert.Pair.τ).loc Cert.Pair.main_arg6) = m ((c.tc : Thread Cert.Pair.nD Cert.Pair.τ).loc Cert.Pair.main_arg6)
      ∧ r.2.mem ((c.tc : Thread Cert.Pair.nD Cert.Pair.τ).loc Cert.Pair.main_arg7) = m ((c.tc : Thread Cert.Pair.nD Cert.Pair.τ).loc Cert.Pair.main_arg7))
      ∧ r.2.sem = fun _ => 0)

def quiescent_PairIdeal [hPairIdeal : Cert.PairIdeal.Facts] : Prop :=
  ∀ (m : (ℓ : Loc Cert.PairIdeal.nD Cert.PairIdeal.τ Cert.PairIdeal.sig) → Buf (Elt Ideal) ℓ) (g : Dev Cert.PairIdeal.nD → PrngReg), Pre_PairIdeal m →
    θ_run (Cert.PairIdeal.defs (F := Ideal)) (onTc (τ := Cert.PairIdeal.τ) (Cert.PairIdeal.main (F := Ideal))) ⟨m, fun _ => 0, g⟩ (fun r => (∀ c : Dev Cert.PairIdeal.nD,
      r.2.mem ((c.tc : Thread Cert.PairIdeal.nD Cert.PairIdeal.τ).loc Cert.PairIdeal.main_arg0) = m ((c.tc : Thread Cert.PairIdeal.nD Cert.PairIdeal.τ).loc Cert.PairIdeal.main_arg0)
      ∧ r.2.mem ((c.tc : Thread Cert.PairIdeal.nD Cert.PairIdeal.τ).loc Cert.PairIdeal.main_arg1) = m ((c.tc : Thread Cert.PairIdeal.nD Cert.PairIdeal.τ).loc Cert.PairIdeal.main_arg1)
      ∧ r.2.mem ((c.tc : Thread Cert.PairIdeal.nD Cert.PairIdeal.τ).loc Cert.PairIdeal.main_arg2) = m ((c.tc : Thread Cert.PairIdeal.nD Cert.PairIdeal.τ).loc Cert.PairIdeal.main_arg2)
      ∧ r.2.mem ((c.tc : Thread Cert.PairIdeal.nD Cert.PairIdeal.τ).loc Cert.PairIdeal.main_arg3) = m ((c.tc : Thread Cert.PairIdeal.nD Cert.PairIdeal.τ).loc Cert.PairIdeal.main_arg3)
      ∧ r.2.mem ((c.tc : Thread Cert.PairIdeal.nD Cert.PairIdeal.τ).loc Cert.PairIdeal.main_arg4) = m ((c.tc : Thread Cert.PairIdeal.nD Cert.PairIdeal.τ).loc Cert.PairIdeal.main_arg4)
      ∧ r.2.mem ((c.tc : Thread Cert.PairIdeal.nD Cert.PairIdeal.τ).loc Cert.PairIdeal.main_arg5) = m ((c.tc : Thread Cert.PairIdeal.nD Cert.PairIdeal.τ).loc Cert.PairIdeal.main_arg5)
      ∧ r.2.mem ((c.tc : Thread Cert.PairIdeal.nD Cert.PairIdeal.τ).loc Cert.PairIdeal.main_arg6) = m ((c.tc : Thread Cert.PairIdeal.nD Cert.PairIdeal.τ).loc Cert.PairIdeal.main_arg6)
      ∧ r.2.mem ((c.tc : Thread Cert.PairIdeal.nD Cert.PairIdeal.τ).loc Cert.PairIdeal.main_arg7) = m ((c.tc : Thread Cert.PairIdeal.nD Cert.PairIdeal.τ).loc Cert.PairIdeal.main_arg7))
      ∧ r.2.sem = fun _ => 0)

def quiescent_PairRefIdeal [hPairRefIdeal : Cert.PairRefIdeal.Facts] : Prop :=
  ∀ (m : (ℓ : Loc Cert.PairRefIdeal.nD Cert.PairRefIdeal.τ Cert.PairRefIdeal.sig) → Buf (Elt Ideal) ℓ) (g : Dev Cert.PairRefIdeal.nD → PrngReg), Pre_PairRefIdeal m →
    θ_run (Cert.PairRefIdeal.defs (F := Ideal)) (onTc (τ := Cert.PairRefIdeal.τ) (Cert.PairRefIdeal.main (F := Ideal))) ⟨m, fun _ => 0, g⟩ (fun r => (∀ c : Dev Cert.PairRefIdeal.nD,
      r.2.mem ((c.tc : Thread Cert.PairRefIdeal.nD Cert.PairRefIdeal.τ).loc Cert.PairRefIdeal.main_arg0) = m ((c.tc : Thread Cert.PairRefIdeal.nD Cert.PairRefIdeal.τ).loc Cert.PairRefIdeal.main_arg0)
      ∧ r.2.mem ((c.tc : Thread Cert.PairRefIdeal.nD Cert.PairRefIdeal.τ).loc Cert.PairRefIdeal.main_arg1) = m ((c.tc : Thread Cert.PairRefIdeal.nD Cert.PairRefIdeal.τ).loc Cert.PairRefIdeal.main_arg1)
      ∧ r.2.mem ((c.tc : Thread Cert.PairRefIdeal.nD Cert.PairRefIdeal.τ).loc Cert.PairRefIdeal.main_arg2) = m ((c.tc : Thread Cert.PairRefIdeal.nD Cert.PairRefIdeal.τ).loc Cert.PairRefIdeal.main_arg2)
      ∧ r.2.mem ((c.tc : Thread Cert.PairRefIdeal.nD Cert.PairRefIdeal.τ).loc Cert.PairRefIdeal.main_arg3) = m ((c.tc : Thread Cert.PairRefIdeal.nD Cert.PairRefIdeal.τ).loc Cert.PairRefIdeal.main_arg3)
      ∧ r.2.mem ((c.tc : Thread Cert.PairRefIdeal.nD Cert.PairRefIdeal.τ).loc Cert.PairRefIdeal.main_arg4) = m ((c.tc : Thread Cert.PairRefIdeal.nD Cert.PairRefIdeal.τ).loc Cert.PairRefIdeal.main_arg4)
      ∧ r.2.mem ((c.tc : Thread Cert.PairRefIdeal.nD Cert.PairRefIdeal.τ).loc Cert.PairRefIdeal.main_arg5) = m ((c.tc : Thread Cert.PairRefIdeal.nD Cert.PairRefIdeal.τ).loc Cert.PairRefIdeal.main_arg5)
      ∧ r.2.mem ((c.tc : Thread Cert.PairRefIdeal.nD Cert.PairRefIdeal.τ).loc Cert.PairRefIdeal.main_arg6) = m ((c.tc : Thread Cert.PairRefIdeal.nD Cert.PairRefIdeal.τ).loc Cert.PairRefIdeal.main_arg6)
      ∧ r.2.mem ((c.tc : Thread Cert.PairRefIdeal.nD Cert.PairRefIdeal.τ).loc Cert.PairRefIdeal.main_arg7) = m ((c.tc : Thread Cert.PairRefIdeal.nD Cert.PairRefIdeal.τ).loc Cert.PairRefIdeal.main_arg7))
      ∧ r.2.sem = fun _ => 0)

def quiescent_PairRef [hPairRef : Cert.PairRef.Facts] : Prop :=
  ∀ (m : (ℓ : Loc Cert.PairRef.nD Cert.PairRef.τ Cert.PairRef.sig) → Buf (Elt Bits) ℓ) (g : Dev Cert.PairRef.nD → PrngReg), Pre_PairRef m →
    θ_run (Cert.PairRef.defs (F := Bits)) (onTc (τ := Cert.PairRef.τ) (Cert.PairRef.main (F := Bits))) ⟨m, fun _ => 0, g⟩ (fun r => (∀ c : Dev Cert.PairRef.nD,
      r.2.mem ((c.tc : Thread Cert.PairRef.nD Cert.PairRef.τ).loc Cert.PairRef.main_arg0) = m ((c.tc : Thread Cert.PairRef.nD Cert.PairRef.τ).loc Cert.PairRef.main_arg0)
      ∧ r.2.mem ((c.tc : Thread Cert.PairRef.nD Cert.PairRef.τ).loc Cert.PairRef.main_arg1) = m ((c.tc : Thread Cert.PairRef.nD Cert.PairRef.τ).loc Cert.PairRef.main_arg1)
      ∧ r.2.mem ((c.tc : Thread Cert.PairRef.nD Cert.PairRef.τ).loc Cert.PairRef.main_arg2) = m ((c.tc : Thread Cert.PairRef.nD Cert.PairRef.τ).loc Cert.PairRef.main_arg2)
      ∧ r.2.mem ((c.tc : Thread Cert.PairRef.nD Cert.PairRef.τ).loc Cert.PairRef.main_arg3) = m ((c.tc : Thread Cert.PairRef.nD Cert.PairRef.τ).loc Cert.PairRef.main_arg3)
      ∧ r.2.mem ((c.tc : Thread Cert.PairRef.nD Cert.PairRef.τ).loc Cert.PairRef.main_arg4) = m ((c.tc : Thread Cert.PairRef.nD Cert.PairRef.τ).loc Cert.PairRef.main_arg4)
      ∧ r.2.mem ((c.tc : Thread Cert.PairRef.nD Cert.PairRef.τ).loc Cert.PairRef.main_arg5) = m ((c.tc : Thread Cert.PairRef.nD Cert.PairRef.τ).loc Cert.PairRef.main_arg5)
      ∧ r.2.mem ((c.tc : Thread Cert.PairRef.nD Cert.PairRef.τ).loc Cert.PairRef.main_arg6) = m ((c.tc : Thread Cert.PairRef.nD Cert.PairRef.τ).loc Cert.PairRef.main_arg6)
      ∧ r.2.mem ((c.tc : Thread Cert.PairRef.nD Cert.PairRef.τ).loc Cert.PairRef.main_arg7) = m ((c.tc : Thread Cert.PairRef.nD Cert.PairRef.τ).loc Cert.PairRef.main_arg7))
      ∧ r.2.sem = fun _ => 0)

def quiescent_Chips [hChips : Cert.Chips.Facts] : Prop :=
  ∀ (m : (ℓ : Loc Cert.Chips.nD Cert.Chips.τ Cert.Chips.sig) → Buf (Elt Bits) ℓ) (g : Dev Cert.Chips.nD → PrngReg), Pre_Chips m →
    θ_run (Cert.Chips.defs (F := Bits)) (onTc (τ := Cert.Chips.τ) (Cert.Chips.main (F := Bits))) ⟨m, fun _ => 0, g⟩ (fun r => (∀ c : Dev Cert.Chips.nD,
      r.2.mem ((c.tc : Thread Cert.Chips.nD Cert.Chips.τ).loc Cert.Chips.main_arg0) = m ((c.tc : Thread Cert.Chips.nD Cert.Chips.τ).loc Cert.Chips.main_arg0)
      ∧ r.2.mem ((c.tc : Thread Cert.Chips.nD Cert.Chips.τ).loc Cert.Chips.main_arg1) = m ((c.tc : Thread Cert.Chips.nD Cert.Chips.τ).loc Cert.Chips.main_arg1)
      ∧ r.2.mem ((c.tc : Thread Cert.Chips.nD Cert.Chips.τ).loc Cert.Chips.main_arg2) = m ((c.tc : Thread Cert.Chips.nD Cert.Chips.τ).loc Cert.Chips.main_arg2)
      ∧ r.2.mem ((c.tc : Thread Cert.Chips.nD Cert.Chips.τ).loc Cert.Chips.main_arg3) = m ((c.tc : Thread Cert.Chips.nD Cert.Chips.τ).loc Cert.Chips.main_arg3)
      ∧ r.2.mem ((c.tc : Thread Cert.Chips.nD Cert.Chips.τ).loc Cert.Chips.main_arg4) = m ((c.tc : Thread Cert.Chips.nD Cert.Chips.τ).loc Cert.Chips.main_arg4)
      ∧ r.2.mem ((c.tc : Thread Cert.Chips.nD Cert.Chips.τ).loc Cert.Chips.main_arg5) = m ((c.tc : Thread Cert.Chips.nD Cert.Chips.τ).loc Cert.Chips.main_arg5)
      ∧ r.2.mem ((c.tc : Thread Cert.Chips.nD Cert.Chips.τ).loc Cert.Chips.main_arg6) = m ((c.tc : Thread Cert.Chips.nD Cert.Chips.τ).loc Cert.Chips.main_arg6)
      ∧ r.2.mem ((c.tc : Thread Cert.Chips.nD Cert.Chips.τ).loc Cert.Chips.main_arg7) = m ((c.tc : Thread Cert.Chips.nD Cert.Chips.τ).loc Cert.Chips.main_arg7))
      ∧ r.2.sem = fun _ => 0)

def quiescent_ChipsIdeal [hChipsIdeal : Cert.ChipsIdeal.Facts] : Prop :=
  ∀ (m : (ℓ : Loc Cert.ChipsIdeal.nD Cert.ChipsIdeal.τ Cert.ChipsIdeal.sig) → Buf (Elt Ideal) ℓ) (g : Dev Cert.ChipsIdeal.nD → PrngReg), Pre_ChipsIdeal m →
    θ_run (Cert.ChipsIdeal.defs (F := Ideal)) (onTc (τ := Cert.ChipsIdeal.τ) (Cert.ChipsIdeal.main (F := Ideal))) ⟨m, fun _ => 0, g⟩ (fun r => (∀ c : Dev Cert.ChipsIdeal.nD,
      r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0)
      ∧ r.2.mem ((c.tc : Thread Cert.ChipsIdeal.nD Cert.ChipsIdeal.τ).loc Cert.ChipsIdeal.main_arg1) = m ((c.tc : Thread Cert.ChipsIdeal.nD Cert.ChipsIdeal.τ).loc Cert.ChipsIdeal.main_arg1)
      ∧ r.2.mem ((c.tc : Thread Cert.ChipsIdeal.nD Cert.ChipsIdeal.τ).loc Cert.ChipsIdeal.main_arg2) = m ((c.tc : Thread Cert.ChipsIdeal.nD Cert.ChipsIdeal.τ).loc Cert.ChipsIdeal.main_arg2)
      ∧ r.2.mem ((c.tc : Thread Cert.ChipsIdeal.nD Cert.ChipsIdeal.τ).loc Cert.ChipsIdeal.main_arg3) = m ((c.tc : Thread Cert.ChipsIdeal.nD Cert.ChipsIdeal.τ).loc Cert.ChipsIdeal.main_arg3)
      ∧ r.2.mem ((c.tc : Thread Cert.ChipsIdeal.nD Cert.ChipsIdeal.τ).loc Cert.ChipsIdeal.main_arg4) = m ((c.tc : Thread Cert.ChipsIdeal.nD Cert.ChipsIdeal.τ).loc Cert.ChipsIdeal.main_arg4)
      ∧ r.2.mem ((c.tc : Thread Cert.ChipsIdeal.nD Cert.ChipsIdeal.τ).loc Cert.ChipsIdeal.main_arg5) = m ((c.tc : Thread Cert.ChipsIdeal.nD Cert.ChipsIdeal.τ).loc Cert.ChipsIdeal.main_arg5)
      ∧ r.2.mem ((c.tc : Thread Cert.ChipsIdeal.nD Cert.ChipsIdeal.τ).loc Cert.ChipsIdeal.main_arg6) = m ((c.tc : Thread Cert.ChipsIdeal.nD Cert.ChipsIdeal.τ).loc Cert.ChipsIdeal.main_arg6)
      ∧ r.2.mem ((c.tc : Thread Cert.ChipsIdeal.nD Cert.ChipsIdeal.τ).loc Cert.ChipsIdeal.main_arg7) = m ((c.tc : Thread Cert.ChipsIdeal.nD Cert.ChipsIdeal.τ).loc Cert.ChipsIdeal.main_arg7))
      ∧ r.2.sem = fun _ => 0)

def quiescent_ChipsRefIdeal [hChipsRefIdeal : Cert.ChipsRefIdeal.Facts] : Prop :=
  ∀ (m : (ℓ : Loc Cert.ChipsRefIdeal.nD Cert.ChipsRefIdeal.τ Cert.ChipsRefIdeal.sig) → Buf (Elt Ideal) ℓ) (g : Dev Cert.ChipsRefIdeal.nD → PrngReg), Pre_ChipsRefIdeal m →
    θ_run (Cert.ChipsRefIdeal.defs (F := Ideal)) (onTc (τ := Cert.ChipsRefIdeal.τ) (Cert.ChipsRefIdeal.main (F := Ideal))) ⟨m, fun _ => 0, g⟩ (fun r => (∀ c : Dev Cert.ChipsRefIdeal.nD,
      r.2.mem ((c.tc : Thread Cert.ChipsRefIdeal.nD Cert.ChipsRefIdeal.τ).loc Cert.ChipsRefIdeal.main_arg0) = m ((c.tc : Thread Cert.ChipsRefIdeal.nD Cert.ChipsRefIdeal.τ).loc Cert.ChipsRefIdeal.main_arg0)
      ∧ r.2.mem ((c.tc : Thread Cert.ChipsRefIdeal.nD Cert.ChipsRefIdeal.τ).loc Cert.ChipsRefIdeal.main_arg1) = m ((c.tc : Thread Cert.ChipsRefIdeal.nD Cert.ChipsRefIdeal.τ).loc Cert.ChipsRefIdeal.main_arg1)
      ∧ r.2.mem ((c.tc : Thread Cert.ChipsRefIdeal.nD Cert.ChipsRefIdeal.τ).loc Cert.ChipsRefIdeal.main_arg2) = m ((c.tc : Thread Cert.ChipsRefIdeal.nD Cert.ChipsRefIdeal.τ).loc Cert.ChipsRefIdeal.main_arg2)
      ∧ r.2.mem ((c.tc : Thread Cert.ChipsRefIdeal.nD Cert.ChipsRefIdeal.τ).loc Cert.ChipsRefIdeal.main_arg3) = m ((c.tc : Thread Cert.ChipsRefIdeal.nD Cert.ChipsRefIdeal.τ).loc Cert.ChipsRefIdeal.main_arg3)
      ∧ r.2.mem ((c.tc : Thread Cert.ChipsRefIdeal.nD Cert.ChipsRefIdeal.τ).loc Cert.ChipsRefIdeal.main_arg4) = m ((c.tc : Thread Cert.ChipsRefIdeal.nD Cert.ChipsRefIdeal.τ).loc Cert.ChipsRefIdeal.main_arg4)
      ∧ r.2.mem ((c.tc : Thread Cert.ChipsRefIdeal.nD Cert.ChipsRefIdeal.τ).loc Cert.ChipsRefIdeal.main_arg5) = m ((c.tc : Thread Cert.ChipsRefIdeal.nD Cert.ChipsRefIdeal.τ).loc Cert.ChipsRefIdeal.main_arg5)
      ∧ r.2.mem ((c.tc : Thread Cert.ChipsRefIdeal.nD Cert.ChipsRefIdeal.τ).loc Cert.ChipsRefIdeal.main_arg6) = m ((c.tc : Thread Cert.ChipsRefIdeal.nD Cert.ChipsRefIdeal.τ).loc Cert.ChipsRefIdeal.main_arg6)
      ∧ r.2.mem ((c.tc : Thread Cert.ChipsRefIdeal.nD Cert.ChipsRefIdeal.τ).loc Cert.ChipsRefIdeal.main_arg7) = m ((c.tc : Thread Cert.ChipsRefIdeal.nD Cert.ChipsRefIdeal.τ).loc Cert.ChipsRefIdeal.main_arg7))
      ∧ r.2.sem = fun _ => 0)

def quiescent_ChipsRef [hChipsRef : Cert.ChipsRef.Facts] : Prop :=
  ∀ (m : (ℓ : Loc Cert.ChipsRef.nD Cert.ChipsRef.τ Cert.ChipsRef.sig) → Buf (Elt Bits) ℓ) (g : Dev Cert.ChipsRef.nD → PrngReg), Pre_ChipsRef m →
    θ_run (Cert.ChipsRef.defs (F := Bits)) (onTc (τ := Cert.ChipsRef.τ) (Cert.ChipsRef.main (F := Bits))) ⟨m, fun _ => 0, g⟩ (fun r => (∀ c : Dev Cert.ChipsRef.nD,
      r.2.mem ((c.tc : Thread Cert.ChipsRef.nD Cert.ChipsRef.τ).loc Cert.ChipsRef.main_arg0) = m ((c.tc : Thread Cert.ChipsRef.nD Cert.ChipsRef.τ).loc Cert.ChipsRef.main_arg0)
      ∧ r.2.mem ((c.tc : Thread Cert.ChipsRef.nD Cert.ChipsRef.τ).loc Cert.ChipsRef.main_arg1) = m ((c.tc : Thread Cert.ChipsRef.nD Cert.ChipsRef.τ).loc Cert.ChipsRef.main_arg1)
      ∧ r.2.mem ((c.tc : Thread Cert.ChipsRef.nD Cert.ChipsRef.τ).loc Cert.ChipsRef.main_arg2) = m ((c.tc : Thread Cert.ChipsRef.nD Cert.ChipsRef.τ).loc Cert.ChipsRef.main_arg2)
      ∧ r.2.mem ((c.tc : Thread Cert.ChipsRef.nD Cert.ChipsRef.τ).loc Cert.ChipsRef.main_arg3) = m ((c.tc : Thread Cert.ChipsRef.nD Cert.ChipsRef.τ).loc Cert.ChipsRef.main_arg3)
      ∧ r.2.mem ((c.tc : Thread Cert.ChipsRef.nD Cert.ChipsRef.τ).loc Cert.ChipsRef.main_arg4) = m ((c.tc : Thread Cert.ChipsRef.nD Cert.ChipsRef.τ).loc Cert.ChipsRef.main_arg4)
      ∧ r.2.mem ((c.tc : Thread Cert.ChipsRef.nD Cert.ChipsRef.τ).loc Cert.ChipsRef.main_arg5) = m ((c.tc : Thread Cert.ChipsRef.nD Cert.ChipsRef.τ).loc Cert.ChipsRef.main_arg5)
      ∧ r.2.mem ((c.tc : Thread Cert.ChipsRef.nD Cert.ChipsRef.τ).loc Cert.ChipsRef.main_arg6) = m ((c.tc : Thread Cert.ChipsRef.nD Cert.ChipsRef.τ).loc Cert.ChipsRef.main_arg6)
      ∧ r.2.mem ((c.tc : Thread Cert.ChipsRef.nD Cert.ChipsRef.τ).loc Cert.ChipsRef.main_arg7) = m ((c.tc : Thread Cert.ChipsRef.nD Cert.ChipsRef.τ).loc Cert.ChipsRef.main_arg7))
      ∧ r.2.sem = fun _ => 0)

def quiescent_Halves [hHalves : Cert.Halves.Facts] : Prop :=
  ∀ (m : (ℓ : Loc Cert.Halves.nD Cert.Halves.τ Cert.Halves.sig) → Buf (Elt Bits) ℓ) (g : Dev Cert.Halves.nD → PrngReg), Pre_Halves m →
    θ_run (Cert.Halves.defs (F := Bits)) (onTc (τ := Cert.Halves.τ) (Cert.Halves.main (F := Bits))) ⟨m, fun _ => 0, g⟩ (fun r => (∀ c : Dev Cert.Halves.nD,
      r.2.mem ((c.tc : Thread Cert.Halves.nD Cert.Halves.τ).loc Cert.Halves.main_arg0) = m ((c.tc : Thread Cert.Halves.nD Cert.Halves.τ).loc Cert.Halves.main_arg0)
      ∧ r.2.mem ((c.tc : Thread Cert.Halves.nD Cert.Halves.τ).loc Cert.Halves.main_arg1) = m ((c.tc : Thread Cert.Halves.nD Cert.Halves.τ).loc Cert.Halves.main_arg1)
      ∧ r.2.mem ((c.tc : Thread Cert.Halves.nD Cert.Halves.τ).loc Cert.Halves.main_arg2) = m ((c.tc : Thread Cert.Halves.nD Cert.Halves.τ).loc Cert.Halves.main_arg2)
      ∧ r.2.mem ((c.tc : Thread Cert.Halves.nD Cert.Halves.τ).loc Cert.Halves.main_arg3) = m ((c.tc : Thread Cert.Halves.nD Cert.Halves.τ).loc Cert.Halves.main_arg3)
      ∧ r.2.mem ((c.tc : Thread Cert.Halves.nD Cert.Halves.τ).loc Cert.Halves.main_arg4) = m ((c.tc : Thread Cert.Halves.nD Cert.Halves.τ).loc Cert.Halves.main_arg4)
      ∧ r.2.mem ((c.tc : Thread Cert.Halves.nD Cert.Halves.τ).loc Cert.Halves.main_arg5) = m ((c.tc : Thread Cert.Halves.nD Cert.Halves.τ).loc Cert.Halves.main_arg5)
      ∧ r.2.mem ((c.tc : Thread Cert.Halves.nD Cert.Halves.τ).loc Cert.Halves.main_arg6) = m ((c.tc : Thread Cert.Halves.nD Cert.Halves.τ).loc Cert.Halves.main_arg6)
      ∧ r.2.mem ((c.tc : Thread Cert.Halves.nD Cert.Halves.τ).loc Cert.Halves.main_arg7) = m ((c.tc : Thread Cert.Halves.nD Cert.Halves.τ).loc Cert.Halves.main_arg7))
      ∧ r.2.sem = fun _ => 0)

def quiescent_HalvesIdeal [hHalvesIdeal : Cert.HalvesIdeal.Facts] : Prop :=
  ∀ (m : (ℓ : Loc Cert.HalvesIdeal.nD Cert.HalvesIdeal.τ Cert.HalvesIdeal.sig) → Buf (Elt Ideal) ℓ) (g : Dev Cert.HalvesIdeal.nD → PrngReg), Pre_HalvesIdeal m →
    θ_run (Cert.HalvesIdeal.defs (F := Ideal)) (onTc (τ := Cert.HalvesIdeal.τ) (Cert.HalvesIdeal.main (F := Ideal))) ⟨m, fun _ => 0, g⟩ (fun r => (∀ c : Dev Cert.HalvesIdeal.nD,
      r.2.mem ((c.tc : Thread Cert.HalvesIdeal.nD Cert.HalvesIdeal.τ).loc Cert.HalvesIdeal.main_arg0) = m ((c.tc : Thread Cert.HalvesIdeal.nD Cert.HalvesIdeal.τ).loc Cert.HalvesIdeal.main_arg0)
      ∧ r.2.mem ((c.tc : Thread Cert.HalvesIdeal.nD Cert.HalvesIdeal.τ).loc Cert.HalvesIdeal.main_arg1) = m ((c.tc : Thread Cert.HalvesIdeal.nD Cert.HalvesIdeal.τ).loc Cert.HalvesIdeal.main_arg1)
      ∧ r.2.mem ((c.tc : Thread Cert.HalvesIdeal.nD Cert.HalvesIdeal.τ).loc Cert.HalvesIdeal.main_arg2) = m ((c.tc : Thread Cert.HalvesIdeal.nD Cert.HalvesIdeal.τ).loc Cert.HalvesIdeal.main_arg2)
      ∧ r.2.mem ((c.tc : Thread Cert.HalvesIdeal.nD Cert.HalvesIdeal.τ).loc Cert.HalvesIdeal.main_arg3) = m ((c.tc : Thread Cert.HalvesIdeal.nD Cert.HalvesIdeal.τ).loc Cert.HalvesIdeal.main_arg3)
      ∧ r.2.mem ((c.tc : Thread Cert.HalvesIdeal.nD Cert.HalvesIdeal.τ).loc Cert.HalvesIdeal.main_arg4) = m ((c.tc : Thread Cert.HalvesIdeal.nD Cert.HalvesIdeal.τ).loc Cert.HalvesIdeal.main_arg4)
      ∧ r.2.mem ((c.tc : Thread Cert.HalvesIdeal.nD Cert.HalvesIdeal.τ).loc Cert.HalvesIdeal.main_arg5) = m ((c.tc : Thread Cert.HalvesIdeal.nD Cert.HalvesIdeal.τ).loc Cert.HalvesIdeal.main_arg5)
      ∧ r.2.mem ((c.tc : Thread Cert.HalvesIdeal.nD Cert.HalvesIdeal.τ).loc Cert.HalvesIdeal.main_arg6) = m ((c.tc : Thread Cert.HalvesIdeal.nD Cert.HalvesIdeal.τ).loc Cert.HalvesIdeal.main_arg6)
      ∧ r.2.mem ((c.tc : Thread Cert.HalvesIdeal.nD Cert.HalvesIdeal.τ).loc Cert.HalvesIdeal.main_arg7) = m ((c.tc : Thread Cert.HalvesIdeal.nD Cert.HalvesIdeal.τ).loc Cert.HalvesIdeal.main_arg7))
      ∧ r.2.sem = fun _ => 0)

def quiescent_HalvesRefIdeal [hHalvesRefIdeal : Cert.HalvesRefIdeal.Facts] : Prop :=
  ∀ (m : (ℓ : Loc Cert.HalvesRefIdeal.nD Cert.HalvesRefIdeal.τ Cert.HalvesRefIdeal.sig) → Buf (Elt Ideal) ℓ) (g : Dev Cert.HalvesRefIdeal.nD → PrngReg), Pre_HalvesRefIdeal m →
    θ_run (Cert.HalvesRefIdeal.defs (F := Ideal)) (onTc (τ := Cert.HalvesRefIdeal.τ) (Cert.HalvesRefIdeal.main (F := Ideal))) ⟨m, fun _ => 0, g⟩ (fun r => (∀ c : Dev Cert.HalvesRefIdeal.nD,
      r.2.mem ((c.tc : Thread Cert.HalvesRefIdeal.nD Cert.HalvesRefIdeal.τ).loc Cert.HalvesRefIdeal.main_arg0) = m ((c.tc : Thread Cert.HalvesRefIdeal.nD Cert.HalvesRefIdeal.τ).loc Cert.HalvesRefIdeal.main_arg0)
      ∧ r.2.mem ((c.tc : Thread Cert.HalvesRefIdeal.nD Cert.HalvesRefIdeal.τ).loc Cert.HalvesRefIdeal.main_arg1) = m ((c.tc : Thread Cert.HalvesRefIdeal.nD Cert.HalvesRefIdeal.τ).loc Cert.HalvesRefIdeal.main_arg1)
      ∧ r.2.mem ((c.tc : Thread Cert.HalvesRefIdeal.nD Cert.HalvesRefIdeal.τ).loc Cert.HalvesRefIdeal.main_arg2) = m ((c.tc : Thread Cert.HalvesRefIdeal.nD Cert.HalvesRefIdeal.τ).loc Cert.HalvesRefIdeal.main_arg2)
      ∧ r.2.mem ((c.tc : Thread Cert.HalvesRefIdeal.nD Cert.HalvesRefIdeal.τ).loc Cert.HalvesRefIdeal.main_arg3) = m ((c.tc : Thread Cert.HalvesRefIdeal.nD Cert.HalvesRefIdeal.τ).loc Cert.HalvesRefIdeal.main_arg3)
      ∧ r.2.mem ((c.tc : Thread Cert.HalvesRefIdeal.nD Cert.HalvesRefIdeal.τ).loc Cert.HalvesRefIdeal.main_arg4) = m ((c.tc : Thread Cert.HalvesRefIdeal.nD Cert.HalvesRefIdeal.τ).loc Cert.HalvesRefIdeal.main_arg4)
      ∧ r.2.mem ((c.tc : Thread Cert.HalvesRefIdeal.nD Cert.HalvesRefIdeal.τ).loc Cert.HalvesRefIdeal.main_arg5) = m ((c.tc : Thread Cert.HalvesRefIdeal.nD Cert.HalvesRefIdeal.τ).loc Cert.HalvesRefIdeal.main_arg5)
      ∧ r.2.mem ((c.tc : Thread Cert.HalvesRefIdeal.nD Cert.HalvesRefIdeal.τ).loc Cert.HalvesRefIdeal.main_arg6) = m ((c.tc : Thread Cert.HalvesRefIdeal.nD Cert.HalvesRefIdeal.τ).loc Cert.HalvesRefIdeal.main_arg6)
      ∧ r.2.mem ((c.tc : Thread Cert.HalvesRefIdeal.nD Cert.HalvesRefIdeal.τ).loc Cert.HalvesRefIdeal.main_arg7) = m ((c.tc : Thread Cert.HalvesRefIdeal.nD Cert.HalvesRefIdeal.τ).loc Cert.HalvesRefIdeal.main_arg7))
      ∧ r.2.sem = fun _ => 0)

def quiescent_HalvesRef [hHalvesRef : Cert.HalvesRef.Facts] : Prop :=
  ∀ (m : (ℓ : Loc Cert.HalvesRef.nD Cert.HalvesRef.τ Cert.HalvesRef.sig) → Buf (Elt Bits) ℓ) (g : Dev Cert.HalvesRef.nD → PrngReg), Pre_HalvesRef m →
    θ_run (Cert.HalvesRef.defs (F := Bits)) (onTc (τ := Cert.HalvesRef.τ) (Cert.HalvesRef.main (F := Bits))) ⟨m, fun _ => 0, g⟩ (fun r => (∀ c : Dev Cert.HalvesRef.nD,
      r.2.mem ((c.tc : Thread Cert.HalvesRef.nD Cert.HalvesRef.τ).loc Cert.HalvesRef.main_arg0) = m ((c.tc : Thread Cert.HalvesRef.nD Cert.HalvesRef.τ).loc Cert.HalvesRef.main_arg0)
      ∧ r.2.mem ((c.tc : Thread Cert.HalvesRef.nD Cert.HalvesRef.τ).loc Cert.HalvesRef.main_arg1) = m ((c.tc : Thread Cert.HalvesRef.nD Cert.HalvesRef.τ).loc Cert.HalvesRef.main_arg1)
      ∧ r.2.mem ((c.tc : Thread Cert.HalvesRef.nD Cert.HalvesRef.τ).loc Cert.HalvesRef.main_arg2) = m ((c.tc : Thread Cert.HalvesRef.nD Cert.HalvesRef.τ).loc Cert.HalvesRef.main_arg2)
      ∧ r.2.mem ((c.tc : Thread Cert.HalvesRef.nD Cert.HalvesRef.τ).loc Cert.HalvesRef.main_arg3) = m ((c.tc : Thread Cert.HalvesRef.nD Cert.HalvesRef.τ).loc Cert.HalvesRef.main_arg3)
      ∧ r.2.mem ((c.tc : Thread Cert.HalvesRef.nD Cert.HalvesRef.τ).loc Cert.HalvesRef.main_arg4) = m ((c.tc : Thread Cert.HalvesRef.nD Cert.HalvesRef.τ).loc Cert.HalvesRef.main_arg4)
      ∧ r.2.mem ((c.tc : Thread Cert.HalvesRef.nD Cert.HalvesRef.τ).loc Cert.HalvesRef.main_arg5) = m ((c.tc : Thread Cert.HalvesRef.nD Cert.HalvesRef.τ).loc Cert.HalvesRef.main_arg5)
      ∧ r.2.mem ((c.tc : Thread Cert.HalvesRef.nD Cert.HalvesRef.τ).loc Cert.HalvesRef.main_arg6) = m ((c.tc : Thread Cert.HalvesRef.nD Cert.HalvesRef.τ).loc Cert.HalvesRef.main_arg6)
      ∧ r.2.mem ((c.tc : Thread Cert.HalvesRef.nD Cert.HalvesRef.τ).loc Cert.HalvesRef.main_arg7) = m ((c.tc : Thread Cert.HalvesRef.nD Cert.HalvesRef.τ).loc Cert.HalvesRef.main_arg7))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4)
      ∧ r.2.mem ((c.tc : Thread Cert.Gather.nD Cert.Gather.τ).loc Cert.Gather.main_arg5) = m ((c.tc : Thread Cert.Gather.nD Cert.Gather.τ).loc Cert.Gather.main_arg5)
      ∧ r.2.mem ((c.tc : Thread Cert.Gather.nD Cert.Gather.τ).loc Cert.Gather.main_arg6) = m ((c.tc : Thread Cert.Gather.nD Cert.Gather.τ).loc Cert.Gather.main_arg6)
      ∧ r.2.mem ((c.tc : Thread Cert.Gather.nD Cert.Gather.τ).loc Cert.Gather.main_arg7) = m ((c.tc : Thread Cert.Gather.nD Cert.Gather.τ).loc Cert.Gather.main_arg7)
      ∧ r.2.mem ((c.tc : Thread Cert.Gather.nD Cert.Gather.τ).loc Cert.Gather.main_arg8) = m ((c.tc : Thread Cert.Gather.nD Cert.Gather.τ).loc Cert.Gather.main_arg8))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
      ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
      ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6)
      ∧ r.2.mem ((c.tc : Thread Cert.GatherIdeal.nD Cert.GatherIdeal.τ).loc Cert.GatherIdeal.main_arg7) = m ((c.tc : Thread Cert.GatherIdeal.nD Cert.GatherIdeal.τ).loc Cert.GatherIdeal.main_arg7)
      ∧ r.2.mem ((c.tc : Thread Cert.GatherIdeal.nD Cert.GatherIdeal.τ).loc Cert.GatherIdeal.main_arg8) = m ((c.tc : Thread Cert.GatherIdeal.nD Cert.GatherIdeal.τ).loc Cert.GatherIdeal.main_arg8))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2)
      ∧ r.2.mem ((c.tc : Thread Cert.GatherRefIdeal.nD Cert.GatherRefIdeal.τ).loc Cert.GatherRefIdeal.main_arg3) = m ((c.tc : Thread Cert.GatherRefIdeal.nD Cert.GatherRefIdeal.τ).loc Cert.GatherRefIdeal.main_arg3)
      ∧ r.2.mem ((c.tc : Thread Cert.GatherRefIdeal.nD Cert.GatherRefIdeal.τ).loc Cert.GatherRefIdeal.main_arg4) = m ((c.tc : Thread Cert.GatherRefIdeal.nD Cert.GatherRefIdeal.τ).loc Cert.GatherRefIdeal.main_arg4)
      ∧ r.2.mem ((c.tc : Thread Cert.GatherRefIdeal.nD Cert.GatherRefIdeal.τ).loc Cert.GatherRefIdeal.main_arg5) = m ((c.tc : Thread Cert.GatherRefIdeal.nD Cert.GatherRefIdeal.τ).loc Cert.GatherRefIdeal.main_arg5)
      ∧ r.2.mem ((c.tc : Thread Cert.GatherRefIdeal.nD Cert.GatherRefIdeal.τ).loc Cert.GatherRefIdeal.main_arg6) = m ((c.tc : Thread Cert.GatherRefIdeal.nD Cert.GatherRefIdeal.τ).loc Cert.GatherRefIdeal.main_arg6)
      ∧ r.2.mem ((c.tc : Thread Cert.GatherRefIdeal.nD Cert.GatherRefIdeal.τ).loc Cert.GatherRefIdeal.main_arg7) = m ((c.tc : Thread Cert.GatherRefIdeal.nD Cert.GatherRefIdeal.τ).loc Cert.GatherRefIdeal.main_arg7)
      ∧ r.2.mem ((c.tc : Thread Cert.GatherRefIdeal.nD Cert.GatherRefIdeal.τ).loc Cert.GatherRefIdeal.main_arg8) = m ((c.tc : Thread Cert.GatherRefIdeal.nD Cert.GatherRefIdeal.τ).loc Cert.GatherRefIdeal.main_arg8))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1)
      ∧ r.2.mem ((c.tc : Thread Cert.GatherRef.nD Cert.GatherRef.τ).loc Cert.GatherRef.main_arg2) = m ((c.tc : Thread Cert.GatherRef.nD Cert.GatherRef.τ).loc Cert.GatherRef.main_arg2)
      ∧ r.2.mem ((c.tc : Thread Cert.GatherRef.nD Cert.GatherRef.τ).loc Cert.GatherRef.main_arg3) = m ((c.tc : Thread Cert.GatherRef.nD Cert.GatherRef.τ).loc Cert.GatherRef.main_arg3)
      ∧ r.2.mem ((c.tc : Thread Cert.GatherRef.nD Cert.GatherRef.τ).loc Cert.GatherRef.main_arg4) = m ((c.tc : Thread Cert.GatherRef.nD Cert.GatherRef.τ).loc Cert.GatherRef.main_arg4)
      ∧ r.2.mem ((c.tc : Thread Cert.GatherRef.nD Cert.GatherRef.τ).loc Cert.GatherRef.main_arg5) = m ((c.tc : Thread Cert.GatherRef.nD Cert.GatherRef.τ).loc Cert.GatherRef.main_arg5)
      ∧ r.2.mem ((c.tc : Thread Cert.GatherRef.nD Cert.GatherRef.τ).loc Cert.GatherRef.main_arg6) = m ((c.tc : Thread Cert.GatherRef.nD Cert.GatherRef.τ).loc Cert.GatherRef.main_arg6)
      ∧ r.2.mem ((c.tc : Thread Cert.GatherRef.nD Cert.GatherRef.τ).loc Cert.GatherRef.main_arg7) = m ((c.tc : Thread Cert.GatherRef.nD Cert.GatherRef.τ).loc Cert.GatherRef.main_arg7)
      ∧ r.2.mem ((c.tc : Thread Cert.GatherRef.nD Cert.GatherRef.τ).loc Cert.GatherRef.main_arg8) = m ((c.tc : Thread Cert.GatherRef.nD Cert.GatherRef.τ).loc Cert.GatherRef.main_arg8))
      ∧ r.2.sem = fun _ => 0)

def quiescent_AdamCols [hAdamCols : Cert.AdamCols.Facts] : Prop :=
  ∀ (m : (ℓ : Loc Cert.AdamCols.nD Cert.AdamCols.τ Cert.AdamCols.sig) → Buf (Elt Bits) ℓ) (g : Dev Cert.AdamCols.nD → PrngReg), Pre_AdamCols m →
    θ_run (Cert.AdamCols.defs (F := Bits)) (onTc (τ := Cert.AdamCols.τ) (Cert.AdamCols.main (F := Bits))) ⟨m, fun _ => 0, g⟩ (fun r => (∀ c : Dev Cert.AdamCols.nD,
      r.2.mem ((c.tc : Thread Cert.AdamCols.nD Cert.AdamCols.τ).loc Cert.AdamCols.main_arg0) = m ((c.tc : Thread Cert.AdamCols.nD Cert.AdamCols.τ).loc Cert.AdamCols.main_arg0)
      ∧ r.2.mem ((c.tc : Thread Cert.AdamCols.nD Cert.AdamCols.τ).loc Cert.AdamCols.main_arg1) = m ((c.tc : Thread Cert.AdamCols.nD Cert.AdamCols.τ).loc Cert.AdamCols.main_arg1)
      ∧ r.2.mem ((c.tc : Thread Cert.AdamCols.nD Cert.AdamCols.τ).loc Cert.AdamCols.main_arg2) = m ((c.tc : Thread Cert.AdamCols.nD Cert.AdamCols.τ).loc Cert.AdamCols.main_arg2)
      ∧ r.2.mem ((c.tc : Thread Cert.AdamCols.nD Cert.AdamCols.τ).loc Cert.AdamCols.main_arg3) = m ((c.tc : Thread Cert.AdamCols.nD Cert.AdamCols.τ).loc Cert.AdamCols.main_arg3))
      ∧ r.2.sem = fun _ => 0)

def quiescent_AdamColsIdeal [hAdamColsIdeal : Cert.AdamColsIdeal.Facts] : Prop :=
  ∀ (m : (ℓ : Loc Cert.AdamColsIdeal.nD Cert.AdamColsIdeal.τ Cert.AdamColsIdeal.sig) → Buf (Elt Ideal) ℓ) (g : Dev Cert.AdamColsIdeal.nD → PrngReg), Pre_AdamColsIdeal m →
    θ_run (Cert.AdamColsIdeal.defs (F := Ideal)) (onTc (τ := Cert.AdamColsIdeal.τ) (Cert.AdamColsIdeal.main (F := Ideal))) ⟨m, fun _ => 0, g⟩ (fun r => (∀ c : Dev Cert.AdamColsIdeal.nD,
      r.2.mem ((c.tc : Thread Cert.AdamColsIdeal.nD Cert.AdamColsIdeal.τ).loc Cert.AdamColsIdeal.main_arg0) = m ((c.tc : Thread Cert.AdamColsIdeal.nD Cert.AdamColsIdeal.τ).loc Cert.AdamColsIdeal.main_arg0)
      ∧ r.2.mem ((c.tc : Thread Cert.AdamColsIdeal.nD Cert.AdamColsIdeal.τ).loc Cert.AdamColsIdeal.main_arg1) = m ((c.tc : Thread Cert.AdamColsIdeal.nD Cert.AdamColsIdeal.τ).loc Cert.AdamColsIdeal.main_arg1)
      ∧ r.2.mem ((c.tc : Thread Cert.AdamColsIdeal.nD Cert.AdamColsIdeal.τ).loc Cert.AdamColsIdeal.main_arg2) = m ((c.tc : Thread Cert.AdamColsIdeal.nD Cert.AdamColsIdeal.τ).loc Cert.AdamColsIdeal.main_arg2)
      ∧ r.2.mem ((c.tc : Thread Cert.AdamColsIdeal.nD Cert.AdamColsIdeal.τ).loc Cert.AdamColsIdeal.main_arg3) = m ((c.tc : Thread Cert.AdamColsIdeal.nD Cert.AdamColsIdeal.τ).loc Cert.AdamColsIdeal.main_arg3))
      ∧ r.2.sem = fun _ => 0)

def quiescent_AdamColsRefIdeal [hAdamColsRefIdeal : Cert.AdamColsRefIdeal.Facts] : Prop :=
  ∀ (m : (ℓ : Loc Cert.AdamColsRefIdeal.nD Cert.AdamColsRefIdeal.τ Cert.AdamColsRefIdeal.sig) → Buf (Elt Ideal) ℓ) (g : Dev Cert.AdamColsRefIdeal.nD → PrngReg), Pre_AdamColsRefIdeal m →
    θ_run (Cert.AdamColsRefIdeal.defs (F := Ideal)) (onTc (τ := Cert.AdamColsRefIdeal.τ) (Cert.AdamColsRefIdeal.main (F := Ideal))) ⟨m, fun _ => 0, g⟩ (fun r => (∀ c : Dev Cert.AdamColsRefIdeal.nD,
      r.2.mem ((c.tc : Thread Cert.AdamColsRefIdeal.nD Cert.AdamColsRefIdeal.τ).loc Cert.AdamColsRefIdeal.main_arg0) = m ((c.tc : Thread Cert.AdamColsRefIdeal.nD Cert.AdamColsRefIdeal.τ).loc Cert.AdamColsRefIdeal.main_arg0)
      ∧ r.2.mem ((c.tc : Thread Cert.AdamColsRefIdeal.nD Cert.AdamColsRefIdeal.τ).loc Cert.AdamColsRefIdeal.main_arg1) = m ((c.tc : Thread Cert.AdamColsRefIdeal.nD Cert.AdamColsRefIdeal.τ).loc Cert.AdamColsRefIdeal.main_arg1)
      ∧ r.2.mem ((c.tc : Thread Cert.AdamColsRefIdeal.nD Cert.AdamColsRefIdeal.τ).loc Cert.AdamColsRefIdeal.main_arg2) = m ((c.tc : Thread Cert.AdamColsRefIdeal.nD Cert.AdamColsRefIdeal.τ).loc Cert.AdamColsRefIdeal.main_arg2)
      ∧ r.2.mem ((c.tc : Thread Cert.AdamColsRefIdeal.nD Cert.AdamColsRefIdeal.τ).loc Cert.AdamColsRefIdeal.main_arg3) = m ((c.tc : Thread Cert.AdamColsRefIdeal.nD Cert.AdamColsRefIdeal.τ).loc Cert.AdamColsRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3)
      ∧ r.2.mem ((c.tc : Thread Cert.GradX.nD Cert.GradX.τ).loc Cert.GradX.main_arg4) = m ((c.tc : Thread Cert.GradX.nD Cert.GradX.τ).loc Cert.GradX.main_arg4))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
      ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4))
      ∧ r.2.sem = fun _ => 0)

def quiescent_GradXRefIdeal [hGradXRefIdeal : Cert.GradXRefIdeal.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1)
      ∧ r.2.mem ((c.tc : Thread Cert.GradXRefIdeal.nD Cert.GradXRefIdeal.τ).loc Cert.GradXRefIdeal.main_arg2) = m ((c.tc : Thread Cert.GradXRefIdeal.nD Cert.GradXRefIdeal.τ).loc Cert.GradXRefIdeal.main_arg2)
      ∧ r.2.mem ((c.tc : Thread Cert.GradXRefIdeal.nD Cert.GradXRefIdeal.τ).loc Cert.GradXRefIdeal.main_arg3) = m ((c.tc : Thread Cert.GradXRefIdeal.nD Cert.GradXRefIdeal.τ).loc Cert.GradXRefIdeal.main_arg3)
      ∧ r.2.mem ((c.tc : Thread Cert.GradXRefIdeal.nD Cert.GradXRefIdeal.τ).loc Cert.GradXRefIdeal.main_arg4) = m ((c.tc : Thread Cert.GradXRefIdeal.nD Cert.GradXRefIdeal.τ).loc Cert.GradXRefIdeal.main_arg4))
      ∧ r.2.sem = fun _ => 0)

def quiescent_LnFwd [hLnFwd : Cert.LnFwd.Facts] : Prop :=
  ∀ (m : (ℓ : Loc Cert.LnFwd.nD Cert.LnFwd.τ Cert.LnFwd.sig) → Buf (Elt Bits) ℓ) (g : Dev Cert.LnFwd.nD → PrngReg), Pre_LnFwd m →
    θ_run (Cert.LnFwd.defs (F := Bits)) (onTc (τ := Cert.LnFwd.τ) (Cert.LnFwd.main (F := Bits))) ⟨m, fun _ => 0, g⟩ (fun r => (∀ c : Dev Cert.LnFwd.nD,
      r.2.mem ((c.tc : Thread Cert.LnFwd.nD Cert.LnFwd.τ).loc Cert.LnFwd.main_arg0) = m ((c.tc : Thread Cert.LnFwd.nD Cert.LnFwd.τ).loc Cert.LnFwd.main_arg0)
      ∧ r.2.mem ((c.tc : Thread Cert.LnFwd.nD Cert.LnFwd.τ).loc Cert.LnFwd.main_arg1) = m ((c.tc : Thread Cert.LnFwd.nD Cert.LnFwd.τ).loc Cert.LnFwd.main_arg1)
      ∧ r.2.mem ((c.tc : Thread Cert.LnFwd.nD Cert.LnFwd.τ).loc Cert.LnFwd.main_arg2) = m ((c.tc : Thread Cert.LnFwd.nD Cert.LnFwd.τ).loc Cert.LnFwd.main_arg2))
      ∧ r.2.sem = fun _ => 0)

def quiescent_LnFwdIdeal [hLnFwdIdeal : Cert.LnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg), Pre_LnFwdIdeal m →
    θ_run (Cert.LnFwdIdeal.defs (F := Ideal)) (onTc (τ := Cert.LnFwdIdeal.τ) (Cert.LnFwdIdeal.main (F := Ideal))) ⟨m, fun _ => 0, g⟩ (fun r => (∀ c : Dev Cert.LnFwdIdeal.nD,
      r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
      ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
      ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2))
      ∧ r.2.sem = fun _ => 0)

def quiescent_LnFwdRefIdeal [hLnFwdRefIdeal : Cert.LnFwdRefIdeal.Facts] : Prop :=
  ∀ (m : (ℓ : Loc Cert.LnFwdRefIdeal.nD Cert.LnFwdRefIdeal.τ Cert.LnFwdRefIdeal.sig) → Buf (Elt Ideal) ℓ) (g : Dev Cert.LnFwdRefIdeal.nD → PrngReg), Pre_LnFwdRefIdeal m →
    θ_run (Cert.LnFwdRefIdeal.defs (F := Ideal)) (onTc (τ := Cert.LnFwdRefIdeal.τ) (Cert.LnFwdRefIdeal.main (F := Ideal))) ⟨m, fun _ => 0, g⟩ (fun r => (∀ c : Dev Cert.LnFwdRefIdeal.nD,
      r.2.mem ((c.tc : Thread Cert.LnFwdRefIdeal.nD Cert.LnFwdRefIdeal.τ).loc Cert.LnFwdRefIdeal.main_arg0) = m ((c.tc : Thread Cert.LnFwdRefIdeal.nD Cert.LnFwdRefIdeal.τ).loc Cert.LnFwdRefIdeal.main_arg0)
      ∧ r.2.mem ((c.tc : Thread Cert.LnFwdRefIdeal.nD Cert.LnFwdRefIdeal.τ).loc Cert.LnFwdRefIdeal.main_arg1) = m ((c.tc : Thread Cert.LnFwdRefIdeal.nD Cert.LnFwdRefIdeal.τ).loc Cert.LnFwdRefIdeal.main_arg1)
      ∧ r.2.mem ((c.tc : Thread Cert.LnFwdRefIdeal.nD Cert.LnFwdRefIdeal.τ).loc Cert.LnFwdRefIdeal.main_arg2) = m ((c.tc : Thread Cert.LnFwdRefIdeal.nD Cert.LnFwdRefIdeal.τ).loc Cert.LnFwdRefIdeal.main_arg2))
      ∧ r.2.sem = fun _ => 0)

def quiescent_LnLoss [hLnLoss : Cert.LnLoss.Facts] : Prop :=
  ∀ (m : (ℓ : Loc Cert.LnLoss.nD Cert.LnLoss.τ Cert.LnLoss.sig) → Buf (Elt Bits) ℓ) (g : Dev Cert.LnLoss.nD → PrngReg), Pre_LnLoss m →
    θ_run (Cert.LnLoss.defs (F := Bits)) (onTc (τ := Cert.LnLoss.τ) (Cert.LnLoss.main (F := Bits))) ⟨m, fun _ => 0, g⟩ (fun r => (∀ c : Dev Cert.LnLoss.nD,
      r.2.mem ((c.tc : Thread Cert.LnLoss.nD Cert.LnLoss.τ).loc Cert.LnLoss.main_arg0) = m ((c.tc : Thread Cert.LnLoss.nD Cert.LnLoss.τ).loc Cert.LnLoss.main_arg0)
      ∧ r.2.mem ((c.tc : Thread Cert.LnLoss.nD Cert.LnLoss.τ).loc Cert.LnLoss.main_arg1) = m ((c.tc : Thread Cert.LnLoss.nD Cert.LnLoss.τ).loc Cert.LnLoss.main_arg1)
      ∧ r.2.mem ((c.tc : Thread Cert.LnLoss.nD Cert.LnLoss.τ).loc Cert.LnLoss.main_arg2) = m ((c.tc : Thread Cert.LnLoss.nD Cert.LnLoss.τ).loc Cert.LnLoss.main_arg2)
      ∧ r.2.mem ((c.tc : Thread Cert.LnLoss.nD Cert.LnLoss.τ).loc Cert.LnLoss.main_arg3) = m ((c.tc : Thread Cert.LnLoss.nD Cert.LnLoss.τ).loc Cert.LnLoss.main_arg3))
      ∧ r.2.sem = fun _ => 0)

def quiescent_LnLossIdeal [hLnLossIdeal : Cert.LnLossIdeal.Facts] : Prop :=
  ∀ (m : (ℓ : Loc Cert.LnLossIdeal.nD Cert.LnLossIdeal.τ Cert.LnLossIdeal.sig) → Buf (Elt Ideal) ℓ) (g : Dev Cert.LnLossIdeal.nD → PrngReg), Pre_LnLossIdeal m →
    θ_run (Cert.LnLossIdeal.defs (F := Ideal)) (onTc (τ := Cert.LnLossIdeal.τ) (Cert.LnLossIdeal.main (F := Ideal))) ⟨m, fun _ => 0, g⟩ (fun r => (∀ c : Dev Cert.LnLossIdeal.nD,
      r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
      ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
      ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
      ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3))
      ∧ r.2.sem = fun _ => 0)

def quiescent_LnLossRefIdeal [hLnLossRefIdeal : Cert.LnLossRefIdeal.Facts] : Prop :=
  ∀ (m : (ℓ : Loc Cert.LnLossRefIdeal.nD Cert.LnLossRefIdeal.τ Cert.LnLossRefIdeal.sig) → Buf (Elt Ideal) ℓ) (g : Dev Cert.LnLossRefIdeal.nD → PrngReg), Pre_LnLossRefIdeal m →
    θ_run (Cert.LnLossRefIdeal.defs (F := Ideal)) (onTc (τ := Cert.LnLossRefIdeal.τ) (Cert.LnLossRefIdeal.main (F := Ideal))) ⟨m, fun _ => 0, g⟩ (fun r => (∀ c : Dev Cert.LnLossRefIdeal.nD,
      r.2.mem ((c.tc : Thread Cert.LnLossRefIdeal.nD Cert.LnLossRefIdeal.τ).loc Cert.LnLossRefIdeal.main_arg0) = m ((c.tc : Thread Cert.LnLossRefIdeal.nD Cert.LnLossRefIdeal.τ).loc Cert.LnLossRefIdeal.main_arg0)
      ∧ r.2.mem ((c.tc : Thread Cert.LnLossRefIdeal.nD Cert.LnLossRefIdeal.τ).loc Cert.LnLossRefIdeal.main_arg1) = m ((c.tc : Thread Cert.LnLossRefIdeal.nD Cert.LnLossRefIdeal.τ).loc Cert.LnLossRefIdeal.main_arg1)
      ∧ r.2.mem ((c.tc : Thread Cert.LnLossRefIdeal.nD Cert.LnLossRefIdeal.τ).loc Cert.LnLossRefIdeal.main_arg2) = m ((c.tc : Thread Cert.LnLossRefIdeal.nD Cert.LnLossRefIdeal.τ).loc Cert.LnLossRefIdeal.main_arg2)
      ∧ r.2.mem ((c.tc : Thread Cert.LnLossRefIdeal.nD Cert.LnLossRefIdeal.τ).loc Cert.LnLossRefIdeal.main_arg3) = m ((c.tc : Thread Cert.LnLossRefIdeal.nD Cert.LnLossRefIdeal.τ).loc Cert.LnLossRefIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownRefIdeal [hGradDownRefIdeal : Cert.GradDownRefIdeal.Facts] : Prop :=
  ∀ (m : (ℓ : Loc Cert.GradDownRefIdeal.nD Cert.GradDownRefIdeal.τ Cert.GradDownRefIdeal.sig) → Buf (Elt Ideal) ℓ) (g : Dev Cert.GradDownRefIdeal.nD → PrngReg), Pre_GradDownRefIdeal m →
    θ_run (Cert.GradDownRefIdeal.defs (F := Ideal)) (onTc (τ := Cert.GradDownRefIdeal.τ) (Cert.GradDownRefIdeal.main (F := Ideal))) ⟨m, fun _ => 0, g⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1))
      ∧ r.2.sem = fun _ => 0)

def quiescent_GradCols [hGradCols : Cert.GradCols.Facts] : Prop :=
  ∀ (m : (ℓ : Loc Cert.GradCols.nD Cert.GradCols.τ Cert.GradCols.sig) → Buf (Elt Bits) ℓ) (g : Dev Cert.GradCols.nD → PrngReg), Pre_GradCols m →
    θ_run (Cert.GradCols.defs (F := Bits)) (onTc (τ := Cert.GradCols.τ) (Cert.GradCols.main (F := Bits))) ⟨m, fun _ => 0, g⟩ (fun r => (∀ c : Dev Cert.GradCols.nD,
      r.2.mem ((c.tc : Thread Cert.GradCols.nD Cert.GradCols.τ).loc Cert.GradCols.main_arg0) = m ((c.tc : Thread Cert.GradCols.nD Cert.GradCols.τ).loc Cert.GradCols.main_arg0)
      ∧ r.2.mem ((c.tc : Thread Cert.GradCols.nD Cert.GradCols.τ).loc Cert.GradCols.main_arg1) = m ((c.tc : Thread Cert.GradCols.nD Cert.GradCols.τ).loc Cert.GradCols.main_arg1))
      ∧ r.2.sem = fun _ => 0)

def quiescent_GradColsIdeal [hGradColsIdeal : Cert.GradColsIdeal.Facts] : Prop :=
  ∀ (m : (ℓ : Loc Cert.GradColsIdeal.nD Cert.GradColsIdeal.τ Cert.GradColsIdeal.sig) → Buf (Elt Ideal) ℓ) (g : Dev Cert.GradColsIdeal.nD → PrngReg), Pre_GradColsIdeal m →
    θ_run (Cert.GradColsIdeal.defs (F := Ideal)) (onTc (τ := Cert.GradColsIdeal.τ) (Cert.GradColsIdeal.main (F := Ideal))) ⟨m, fun _ => 0, g⟩ (fun r => (∀ c : Dev Cert.GradColsIdeal.nD,
      r.2.mem ((c.tc : Thread Cert.GradColsIdeal.nD Cert.GradColsIdeal.τ).loc Cert.GradColsIdeal.main_arg0) = m ((c.tc : Thread Cert.GradColsIdeal.nD Cert.GradColsIdeal.τ).loc Cert.GradColsIdeal.main_arg0)
      ∧ r.2.mem ((c.tc : Thread Cert.GradColsIdeal.nD Cert.GradColsIdeal.τ).loc Cert.GradColsIdeal.main_arg1) = m ((c.tc : Thread Cert.GradColsIdeal.nD Cert.GradColsIdeal.τ).loc Cert.GradColsIdeal.main_arg1))
      ∧ r.2.sem = fun _ => 0)

def quiescent_GradColsRefIdeal [hGradColsRefIdeal : Cert.GradColsRefIdeal.Facts] : Prop :=
  ∀ (m : (ℓ : Loc Cert.GradColsRefIdeal.nD Cert.GradColsRefIdeal.τ Cert.GradColsRefIdeal.sig) → Buf (Elt Ideal) ℓ) (g : Dev Cert.GradColsRefIdeal.nD → PrngReg), Pre_GradColsRefIdeal m →
    θ_run (Cert.GradColsRefIdeal.defs (F := Ideal)) (onTc (τ := Cert.GradColsRefIdeal.τ) (Cert.GradColsRefIdeal.main (F := Ideal))) ⟨m, fun _ => 0, g⟩ (fun r => (∀ c : Dev Cert.GradColsRefIdeal.nD,
      r.2.mem ((c.tc : Thread Cert.GradColsRefIdeal.nD Cert.GradColsRefIdeal.τ).loc Cert.GradColsRefIdeal.main_arg0) = m ((c.tc : Thread Cert.GradColsRefIdeal.nD Cert.GradColsRefIdeal.τ).loc Cert.GradColsRefIdeal.main_arg0)
      ∧ r.2.mem ((c.tc : Thread Cert.GradColsRefIdeal.nD Cert.GradColsRefIdeal.τ).loc Cert.GradColsRefIdeal.main_arg1) = m ((c.tc : Thread Cert.GradColsRefIdeal.nD Cert.GradColsRefIdeal.τ).loc Cert.GradColsRefIdeal.main_arg1))
      ∧ r.2.sem = fun _ => 0)

def preserves_Pair_PairIdeal : Prop :=
  True

def bitexact_Pair_PairRef [hPair : Cert.Pair.Facts] [hPairRef : Cert.PairRef.Facts] : Prop :=
  ∀ (m : (ℓ : Loc Cert.Pair.nD Cert.Pair.τ Cert.Pair.sig) → Buf (Elt Bits) ℓ) (g : Dev Cert.Pair.nD → PrngReg)
    (m' : (ℓ : Loc Cert.PairRef.nD Cert.PairRef.τ Cert.PairRef.sig) → Buf (Elt Bits) ℓ) (g' : Dev Cert.PairRef.nD → PrngReg), Pre_Pair m →
    (∀ c : Dev Cert.Pair.nD,
      m ((c.tc : Thread Cert.Pair.nD Cert.Pair.τ).loc Cert.Pair.main_arg0) = Layout.block ⟨3, ![4, 2048, 1408]⟩ ⟨3, ![32, 2048, 1408]⟩ 0 8 c (m' (((0 : Dev Cert.PairRef.nD).tc : Thread Cert.PairRef.nD Cert.PairRef.τ).loc Cert.PairRef.main_arg0))
      ∧ m ((c.tc : Thread Cert.Pair.nD Cert.Pair.τ).loc Cert.Pair.main_arg1) = Layout.block ⟨3, ![4, 2048, 1408]⟩ ⟨3, ![32, 2048, 1408]⟩ 0 8 c (m' (((0 : Dev Cert.PairRef.nD).tc : Thread Cert.PairRef.nD Cert.PairRef.τ).loc Cert.PairRef.main_arg1))
      ∧ m ((c.tc : Thread Cert.Pair.nD Cert.Pair.τ).loc Cert.Pair.main_arg2) = Layout.block ⟨3, ![4, 1408, 2048]⟩ ⟨3, ![32, 1408, 2048]⟩ 0 8 c (m' (((0 : Dev Cert.PairRef.nD).tc : Thread Cert.PairRef.nD Cert.PairRef.τ).loc Cert.PairRef.main_arg2))
      ∧ m ((c.tc : Thread Cert.Pair.nD Cert.Pair.τ).loc Cert.Pair.main_arg3) = Layout.block ⟨3, ![4, 2048, 1280]⟩ ⟨3, ![32, 2048, 1280]⟩ 0 8 c (m' (((0 : Dev Cert.PairRef.nD).tc : Thread Cert.PairRef.nD Cert.PairRef.τ).loc Cert.PairRef.main_arg3))
      ∧ m ((c.tc : Thread Cert.Pair.nD Cert.Pair.τ).loc Cert.Pair.main_arg4) = Layout.block ⟨3, ![4, 512, 2048]⟩ ⟨3, ![32, 512, 2048]⟩ 0 8 c (m' (((0 : Dev Cert.PairRef.nD).tc : Thread Cert.PairRef.nD Cert.PairRef.τ).loc Cert.PairRef.main_arg4))
      ∧ m ((c.tc : Thread Cert.Pair.nD Cert.Pair.τ).loc Cert.Pair.main_arg5) = Layout.block ⟨3, ![4, 2048, 1408]⟩ ⟨3, ![32, 2048, 1408]⟩ 0 8 c (m' (((0 : Dev Cert.PairRef.nD).tc : Thread Cert.PairRef.nD Cert.PairRef.τ).loc Cert.PairRef.main_arg5))
      ∧ m ((c.tc : Thread Cert.Pair.nD Cert.Pair.τ).loc Cert.Pair.main_arg6) = Layout.block ⟨3, ![4, 2048, 1408]⟩ ⟨3, ![32, 2048, 1408]⟩ 0 8 c (m' (((0 : Dev Cert.PairRef.nD).tc : Thread Cert.PairRef.nD Cert.PairRef.τ).loc Cert.PairRef.main_arg6))
      ∧ m ((c.tc : Thread Cert.Pair.nD Cert.Pair.τ).loc Cert.Pair.main_arg7) = Layout.block ⟨3, ![4, 1408, 2048]⟩ ⟨3, ![32, 1408, 2048]⟩ 0 8 c (m' (((0 : Dev Cert.PairRef.nD).tc : Thread Cert.PairRef.nD Cert.PairRef.τ).loc Cert.PairRef.main_arg7))) →
    ∃ (v0 : Buf (Elt Bits) (((0 : Dev Cert.PairRef.nD).tc : Thread Cert.PairRef.nD Cert.PairRef.τ).loc Cert.PairRef.main_v8)) (v1 : Buf (Elt Bits) (((0 : Dev Cert.PairRef.nD).tc : Thread Cert.PairRef.nD Cert.PairRef.τ).loc Cert.PairRef.main_v17)) (v2 : Buf (Elt Bits) (((0 : Dev Cert.PairRef.nD).tc : Thread Cert.PairRef.nD Cert.PairRef.τ).loc Cert.PairRef.main_v26)) (v3 : Buf (Elt Bits) (((0 : Dev Cert.PairRef.nD).tc : Thread Cert.PairRef.nD Cert.PairRef.τ).loc Cert.PairRef.main_v35)) (v4 : Buf (Elt Bits) (((0 : Dev Cert.PairRef.nD).tc : Thread Cert.PairRef.nD Cert.PairRef.τ).loc Cert.PairRef.main_v44)) (v5 : Buf (Elt Bits) (((0 : Dev Cert.PairRef.nD).tc : Thread Cert.PairRef.nD Cert.PairRef.τ).loc Cert.PairRef.main_v53)) (v6 : Buf (Elt Bits) (((0 : Dev Cert.PairRef.nD).tc : Thread Cert.PairRef.nD Cert.PairRef.τ).loc Cert.PairRef.main_v62)) (v7 : Buf (Elt Bits) (((0 : Dev Cert.PairRef.nD).tc : Thread Cert.PairRef.nD Cert.PairRef.τ).loc Cert.PairRef.main_v71)),
      θ_run (Cert.Pair.defs (F := Bits)) (onTc (τ := Cert.Pair.τ) (Cert.Pair.main (F := Bits))) ⟨m, fun _ => 0, g⟩ (fun r => ∀ c : Dev Cert.Pair.nD,
          r.2.mem ((c.tc : Thread Cert.Pair.nD Cert.Pair.τ).loc Cert.Pair.main_v1_0) = Layout.block ⟨3, ![4, 1024, 1408]⟩ ⟨3, ![32, 1024, 1408]⟩ 0 8 c v0
          ∧ r.2.mem ((c.tc : Thread Cert.Pair.nD Cert.Pair.τ).loc Cert.Pair.main_v1_1) = Layout.block ⟨3, ![4, 1024, 1408]⟩ ⟨3, ![32, 1024, 1408]⟩ 0 8 c v1
          ∧ r.2.mem ((c.tc : Thread Cert.Pair.nD Cert.Pair.τ).loc Cert.Pair.main_v1_2) = Layout.block ⟨3, ![4, 704, 2048]⟩ ⟨3, ![32, 704, 2048]⟩ 0 8 c v2
          ∧ r.2.mem ((c.tc : Thread Cert.Pair.nD Cert.Pair.τ).loc Cert.Pair.main_v1_3) = Layout.block ⟨3, ![4, 1024, 1280]⟩ ⟨3, ![32, 1024, 1280]⟩ 0 8 c v3
          ∧ r.2.mem ((c.tc : Thread Cert.Pair.nD Cert.Pair.τ).loc Cert.Pair.main_v1_4) = Layout.block ⟨3, ![4, 256, 2048]⟩ ⟨3, ![32, 256, 2048]⟩ 0 8 c v4
          ∧ r.2.mem ((c.tc : Thread Cert.Pair.nD Cert.Pair.τ).loc Cert.Pair.main_v1_5) = Layout.block ⟨3, ![4, 1024, 1408]⟩ ⟨3, ![32, 1024, 1408]⟩ 0 8 c v5
          ∧ r.2.mem ((c.tc : Thread Cert.Pair.nD Cert.Pair.τ).loc Cert.Pair.main_v1_6) = Layout.block ⟨3, ![4, 1024, 1408]⟩ ⟨3, ![32, 1024, 1408]⟩ 0 8 c v6
          ∧ r.2.mem ((c.tc : Thread Cert.Pair.nD Cert.Pair.τ).loc Cert.Pair.main_v1_7) = Layout.block ⟨3, ![4, 704, 2048]⟩ ⟨3, ![32, 704, 2048]⟩ 0 8 c v7
          ∧ r.2.mem ((c.tc : Thread Cert.Pair.nD Cert.Pair.τ).loc Cert.Pair.main_arg0) = m ((c.tc : Thread Cert.Pair.nD Cert.Pair.τ).loc Cert.Pair.main_arg0)
          ∧ r.2.mem ((c.tc : Thread Cert.Pair.nD Cert.Pair.τ).loc Cert.Pair.main_arg1) = m ((c.tc : Thread Cert.Pair.nD Cert.Pair.τ).loc Cert.Pair.main_arg1)
          ∧ r.2.mem ((c.tc : Thread Cert.Pair.nD Cert.Pair.τ).loc Cert.Pair.main_arg2) = m ((c.tc : Thread Cert.Pair.nD Cert.Pair.τ).loc Cert.Pair.main_arg2)
          ∧ r.2.mem ((c.tc : Thread Cert.Pair.nD Cert.Pair.τ).loc Cert.Pair.main_arg3) = m ((c.tc : Thread Cert.Pair.nD Cert.Pair.τ).loc Cert.Pair.main_arg3)
          ∧ r.2.mem ((c.tc : Thread Cert.Pair.nD Cert.Pair.τ).loc Cert.Pair.main_arg4) = m ((c.tc : Thread Cert.Pair.nD Cert.Pair.τ).loc Cert.Pair.main_arg4)
          ∧ r.2.mem ((c.tc : Thread Cert.Pair.nD Cert.Pair.τ).loc Cert.Pair.main_arg5) = m ((c.tc : Thread Cert.Pair.nD Cert.Pair.τ).loc Cert.Pair.main_arg5)
          ∧ r.2.mem ((c.tc : Thread Cert.Pair.nD Cert.Pair.τ).loc Cert.Pair.main_arg6) = m ((c.tc : Thread Cert.Pair.nD Cert.Pair.τ).loc Cert.Pair.main_arg6)
          ∧ r.2.mem ((c.tc : Thread Cert.Pair.nD Cert.Pair.τ).loc Cert.Pair.main_arg7) = m ((c.tc : Thread Cert.Pair.nD Cert.Pair.τ).loc Cert.Pair.main_arg7))
      ∧ θ_run (Cert.PairRef.defs (F := Bits)) (onTc (τ := Cert.PairRef.τ) (Cert.PairRef.main (F := Bits))) ⟨m', fun _ => 0, g'⟩ (fun r =>
          r.2.mem (((0 : Dev Cert.PairRef.nD).tc : Thread Cert.PairRef.nD Cert.PairRef.τ).loc Cert.PairRef.main_v8) = v0
          ∧ r.2.mem (((0 : Dev Cert.PairRef.nD).tc : Thread Cert.PairRef.nD Cert.PairRef.τ).loc Cert.PairRef.main_v17) = v1
          ∧ r.2.mem (((0 : Dev Cert.PairRef.nD).tc : Thread Cert.PairRef.nD Cert.PairRef.τ).loc Cert.PairRef.main_v26) = v2
          ∧ r.2.mem (((0 : Dev Cert.PairRef.nD).tc : Thread Cert.PairRef.nD Cert.PairRef.τ).loc Cert.PairRef.main_v35) = v3
          ∧ r.2.mem (((0 : Dev Cert.PairRef.nD).tc : Thread Cert.PairRef.nD Cert.PairRef.τ).loc Cert.PairRef.main_v44) = v4
          ∧ r.2.mem (((0 : Dev Cert.PairRef.nD).tc : Thread Cert.PairRef.nD Cert.PairRef.τ).loc Cert.PairRef.main_v53) = v5
          ∧ r.2.mem (((0 : Dev Cert.PairRef.nD).tc : Thread Cert.PairRef.nD Cert.PairRef.τ).loc Cert.PairRef.main_v62) = v6
          ∧ r.2.mem (((0 : Dev Cert.PairRef.nD).tc : Thread Cert.PairRef.nD Cert.PairRef.τ).loc Cert.PairRef.main_v71) = v7
          ∧ r.2.mem (((0 : Dev Cert.PairRef.nD).tc : Thread Cert.PairRef.nD Cert.PairRef.τ).loc Cert.PairRef.main_arg0) = m' (((0 : Dev Cert.PairRef.nD).tc : Thread Cert.PairRef.nD Cert.PairRef.τ).loc Cert.PairRef.main_arg0)
          ∧ r.2.mem (((0 : Dev Cert.PairRef.nD).tc : Thread Cert.PairRef.nD Cert.PairRef.τ).loc Cert.PairRef.main_arg1) = m' (((0 : Dev Cert.PairRef.nD).tc : Thread Cert.PairRef.nD Cert.PairRef.τ).loc Cert.PairRef.main_arg1)
          ∧ r.2.mem (((0 : Dev Cert.PairRef.nD).tc : Thread Cert.PairRef.nD Cert.PairRef.τ).loc Cert.PairRef.main_arg2) = m' (((0 : Dev Cert.PairRef.nD).tc : Thread Cert.PairRef.nD Cert.PairRef.τ).loc Cert.PairRef.main_arg2)
          ∧ r.2.mem (((0 : Dev Cert.PairRef.nD).tc : Thread Cert.PairRef.nD Cert.PairRef.τ).loc Cert.PairRef.main_arg3) = m' (((0 : Dev Cert.PairRef.nD).tc : Thread Cert.PairRef.nD Cert.PairRef.τ).loc Cert.PairRef.main_arg3)
          ∧ r.2.mem (((0 : Dev Cert.PairRef.nD).tc : Thread Cert.PairRef.nD Cert.PairRef.τ).loc Cert.PairRef.main_arg4) = m' (((0 : Dev Cert.PairRef.nD).tc : Thread Cert.PairRef.nD Cert.PairRef.τ).loc Cert.PairRef.main_arg4)
          ∧ r.2.mem (((0 : Dev Cert.PairRef.nD).tc : Thread Cert.PairRef.nD Cert.PairRef.τ).loc Cert.PairRef.main_arg5) = m' (((0 : Dev Cert.PairRef.nD).tc : Thread Cert.PairRef.nD Cert.PairRef.τ).loc Cert.PairRef.main_arg5)
          ∧ r.2.mem (((0 : Dev Cert.PairRef.nD).tc : Thread Cert.PairRef.nD Cert.PairRef.τ).loc Cert.PairRef.main_arg6) = m' (((0 : Dev Cert.PairRef.nD).tc : Thread Cert.PairRef.nD Cert.PairRef.τ).loc Cert.PairRef.main_arg6)
          ∧ r.2.mem (((0 : Dev Cert.PairRef.nD).tc : Thread Cert.PairRef.nD Cert.PairRef.τ).loc Cert.PairRef.main_arg7) = m' (((0 : Dev Cert.PairRef.nD).tc : Thread Cert.PairRef.nD Cert.PairRef.τ).loc Cert.PairRef.main_arg7))

def algebraic_PairIdeal_PairRefIdeal [hPairIdeal : Cert.PairIdeal.Facts] [hPairRefIdeal : Cert.PairRefIdeal.Facts] : Prop :=
  ∀ (m : (ℓ : Loc Cert.PairIdeal.nD Cert.PairIdeal.τ Cert.PairIdeal.sig) → Buf (Elt Ideal) ℓ) (g : Dev Cert.PairIdeal.nD → PrngReg)
    (m' : (ℓ : Loc Cert.PairRefIdeal.nD Cert.PairRefIdeal.τ Cert.PairRefIdeal.sig) → Buf (Elt Ideal) ℓ) (g' : Dev Cert.PairRefIdeal.nD → PrngReg), Pre_PairIdeal m →
    (∀ c : Dev Cert.PairIdeal.nD,
      m ((c.tc : Thread Cert.PairIdeal.nD Cert.PairIdeal.τ).loc Cert.PairIdeal.main_arg0) = Layout.block ⟨3, ![4, 2048, 1408]⟩ ⟨3, ![32, 2048, 1408]⟩ 0 8 c (m' (((0 : Dev Cert.PairRefIdeal.nD).tc : Thread Cert.PairRefIdeal.nD Cert.PairRefIdeal.τ).loc Cert.PairRefIdeal.main_arg0))
      ∧ m ((c.tc : Thread Cert.PairIdeal.nD Cert.PairIdeal.τ).loc Cert.PairIdeal.main_arg1) = Layout.block ⟨3, ![4, 2048, 1408]⟩ ⟨3, ![32, 2048, 1408]⟩ 0 8 c (m' (((0 : Dev Cert.PairRefIdeal.nD).tc : Thread Cert.PairRefIdeal.nD Cert.PairRefIdeal.τ).loc Cert.PairRefIdeal.main_arg1))
      ∧ m ((c.tc : Thread Cert.PairIdeal.nD Cert.PairIdeal.τ).loc Cert.PairIdeal.main_arg2) = Layout.block ⟨3, ![4, 1408, 2048]⟩ ⟨3, ![32, 1408, 2048]⟩ 0 8 c (m' (((0 : Dev Cert.PairRefIdeal.nD).tc : Thread Cert.PairRefIdeal.nD Cert.PairRefIdeal.τ).loc Cert.PairRefIdeal.main_arg2))
      ∧ m ((c.tc : Thread Cert.PairIdeal.nD Cert.PairIdeal.τ).loc Cert.PairIdeal.main_arg3) = Layout.block ⟨3, ![4, 2048, 1280]⟩ ⟨3, ![32, 2048, 1280]⟩ 0 8 c (m' (((0 : Dev Cert.PairRefIdeal.nD).tc : Thread Cert.PairRefIdeal.nD Cert.PairRefIdeal.τ).loc Cert.PairRefIdeal.main_arg3))
      ∧ m ((c.tc : Thread Cert.PairIdeal.nD Cert.PairIdeal.τ).loc Cert.PairIdeal.main_arg4) = Layout.block ⟨3, ![4, 512, 2048]⟩ ⟨3, ![32, 512, 2048]⟩ 0 8 c (m' (((0 : Dev Cert.PairRefIdeal.nD).tc : Thread Cert.PairRefIdeal.nD Cert.PairRefIdeal.τ).loc Cert.PairRefIdeal.main_arg4))
      ∧ m ((c.tc : Thread Cert.PairIdeal.nD Cert.PairIdeal.τ).loc Cert.PairIdeal.main_arg5) = Layout.block ⟨3, ![4, 2048, 1408]⟩ ⟨3, ![32, 2048, 1408]⟩ 0 8 c (m' (((0 : Dev Cert.PairRefIdeal.nD).tc : Thread Cert.PairRefIdeal.nD Cert.PairRefIdeal.τ).loc Cert.PairRefIdeal.main_arg5))
      ∧ m ((c.tc : Thread Cert.PairIdeal.nD Cert.PairIdeal.τ).loc Cert.PairIdeal.main_arg6) = Layout.block ⟨3, ![4, 2048, 1408]⟩ ⟨3, ![32, 2048, 1408]⟩ 0 8 c (m' (((0 : Dev Cert.PairRefIdeal.nD).tc : Thread Cert.PairRefIdeal.nD Cert.PairRefIdeal.τ).loc Cert.PairRefIdeal.main_arg6))
      ∧ m ((c.tc : Thread Cert.PairIdeal.nD Cert.PairIdeal.τ).loc Cert.PairIdeal.main_arg7) = Layout.block ⟨3, ![4, 1408, 2048]⟩ ⟨3, ![32, 1408, 2048]⟩ 0 8 c (m' (((0 : Dev Cert.PairRefIdeal.nD).tc : Thread Cert.PairRefIdeal.nD Cert.PairRefIdeal.τ).loc Cert.PairRefIdeal.main_arg7))) →
    ∃ (v0 : Buf (Elt Ideal) (((0 : Dev Cert.PairRefIdeal.nD).tc : Thread Cert.PairRefIdeal.nD Cert.PairRefIdeal.τ).loc Cert.PairRefIdeal.main_v8)) (v1 : Buf (Elt Ideal) (((0 : Dev Cert.PairRefIdeal.nD).tc : Thread Cert.PairRefIdeal.nD Cert.PairRefIdeal.τ).loc Cert.PairRefIdeal.main_v17)) (v2 : Buf (Elt Ideal) (((0 : Dev Cert.PairRefIdeal.nD).tc : Thread Cert.PairRefIdeal.nD Cert.PairRefIdeal.τ).loc Cert.PairRefIdeal.main_v26)) (v3 : Buf (Elt Ideal) (((0 : Dev Cert.PairRefIdeal.nD).tc : Thread Cert.PairRefIdeal.nD Cert.PairRefIdeal.τ).loc Cert.PairRefIdeal.main_v35)) (v4 : Buf (Elt Ideal) (((0 : Dev Cert.PairRefIdeal.nD).tc : Thread Cert.PairRefIdeal.nD Cert.PairRefIdeal.τ).loc Cert.PairRefIdeal.main_v44)) (v5 : Buf (Elt Ideal) (((0 : Dev Cert.PairRefIdeal.nD).tc : Thread Cert.PairRefIdeal.nD Cert.PairRefIdeal.τ).loc Cert.PairRefIdeal.main_v53)) (v6 : Buf (Elt Ideal) (((0 : Dev Cert.PairRefIdeal.nD).tc : Thread Cert.PairRefIdeal.nD Cert.PairRefIdeal.τ).loc Cert.PairRefIdeal.main_v62)) (v7 : Buf (Elt Ideal) (((0 : Dev Cert.PairRefIdeal.nD).tc : Thread Cert.PairRefIdeal.nD Cert.PairRefIdeal.τ).loc Cert.PairRefIdeal.main_v71)),
      θ_run (Cert.PairIdeal.defs (F := Ideal)) (onTc (τ := Cert.PairIdeal.τ) (Cert.PairIdeal.main (F := Ideal))) ⟨m, fun _ => 0, g⟩ (fun r => ∀ c : Dev Cert.PairIdeal.nD,
          r.2.mem ((c.tc : Thread Cert.PairIdeal.nD Cert.PairIdeal.τ).loc Cert.PairIdeal.main_v1_0) = Layout.block ⟨3, ![4, 1024, 1408]⟩ ⟨3, ![32, 1024, 1408]⟩ 0 8 c v0
          ∧ r.2.mem ((c.tc : Thread Cert.PairIdeal.nD Cert.PairIdeal.τ).loc Cert.PairIdeal.main_v1_1) = Layout.block ⟨3, ![4, 1024, 1408]⟩ ⟨3, ![32, 1024, 1408]⟩ 0 8 c v1
          ∧ r.2.mem ((c.tc : Thread Cert.PairIdeal.nD Cert.PairIdeal.τ).loc Cert.PairIdeal.main_v1_2) = Layout.block ⟨3, ![4, 704, 2048]⟩ ⟨3, ![32, 704, 2048]⟩ 0 8 c v2
          ∧ r.2.mem ((c.tc : Thread Cert.PairIdeal.nD Cert.PairIdeal.τ).loc Cert.PairIdeal.main_v1_3) = Layout.block ⟨3, ![4, 1024, 1280]⟩ ⟨3, ![32, 1024, 1280]⟩ 0 8 c v3
          ∧ r.2.mem ((c.tc : Thread Cert.PairIdeal.nD Cert.PairIdeal.τ).loc Cert.PairIdeal.main_v1_4) = Layout.block ⟨3, ![4, 256, 2048]⟩ ⟨3, ![32, 256, 2048]⟩ 0 8 c v4
          ∧ r.2.mem ((c.tc : Thread Cert.PairIdeal.nD Cert.PairIdeal.τ).loc Cert.PairIdeal.main_v1_5) = Layout.block ⟨3, ![4, 1024, 1408]⟩ ⟨3, ![32, 1024, 1408]⟩ 0 8 c v5
          ∧ r.2.mem ((c.tc : Thread Cert.PairIdeal.nD Cert.PairIdeal.τ).loc Cert.PairIdeal.main_v1_6) = Layout.block ⟨3, ![4, 1024, 1408]⟩ ⟨3, ![32, 1024, 1408]⟩ 0 8 c v6
          ∧ r.2.mem ((c.tc : Thread Cert.PairIdeal.nD Cert.PairIdeal.τ).loc Cert.PairIdeal.main_v1_7) = Layout.block ⟨3, ![4, 704, 2048]⟩ ⟨3, ![32, 704, 2048]⟩ 0 8 c v7
          ∧ r.2.mem ((c.tc : Thread Cert.PairIdeal.nD Cert.PairIdeal.τ).loc Cert.PairIdeal.main_arg0) = m ((c.tc : Thread Cert.PairIdeal.nD Cert.PairIdeal.τ).loc Cert.PairIdeal.main_arg0)
          ∧ r.2.mem ((c.tc : Thread Cert.PairIdeal.nD Cert.PairIdeal.τ).loc Cert.PairIdeal.main_arg1) = m ((c.tc : Thread Cert.PairIdeal.nD Cert.PairIdeal.τ).loc Cert.PairIdeal.main_arg1)
          ∧ r.2.mem ((c.tc : Thread Cert.PairIdeal.nD Cert.PairIdeal.τ).loc Cert.PairIdeal.main_arg2) = m ((c.tc : Thread Cert.PairIdeal.nD Cert.PairIdeal.τ).loc Cert.PairIdeal.main_arg2)
          ∧ r.2.mem ((c.tc : Thread Cert.PairIdeal.nD Cert.PairIdeal.τ).loc Cert.PairIdeal.main_arg3) = m ((c.tc : Thread Cert.PairIdeal.nD Cert.PairIdeal.τ).loc Cert.PairIdeal.main_arg3)
          ∧ r.2.mem ((c.tc : Thread Cert.PairIdeal.nD Cert.PairIdeal.τ).loc Cert.PairIdeal.main_arg4) = m ((c.tc : Thread Cert.PairIdeal.nD Cert.PairIdeal.τ).loc Cert.PairIdeal.main_arg4)
          ∧ r.2.mem ((c.tc : Thread Cert.PairIdeal.nD Cert.PairIdeal.τ).loc Cert.PairIdeal.main_arg5) = m ((c.tc : Thread Cert.PairIdeal.nD Cert.PairIdeal.τ).loc Cert.PairIdeal.main_arg5)
          ∧ r.2.mem ((c.tc : Thread Cert.PairIdeal.nD Cert.PairIdeal.τ).loc Cert.PairIdeal.main_arg6) = m ((c.tc : Thread Cert.PairIdeal.nD Cert.PairIdeal.τ).loc Cert.PairIdeal.main_arg6)
          ∧ r.2.mem ((c.tc : Thread Cert.PairIdeal.nD Cert.PairIdeal.τ).loc Cert.PairIdeal.main_arg7) = m ((c.tc : Thread Cert.PairIdeal.nD Cert.PairIdeal.τ).loc Cert.PairIdeal.main_arg7))
      ∧ θ_run (Cert.PairRefIdeal.defs (F := Ideal)) (onTc (τ := Cert.PairRefIdeal.τ) (Cert.PairRefIdeal.main (F := Ideal))) ⟨m', fun _ => 0, g'⟩ (fun r =>
          r.2.mem (((0 : Dev Cert.PairRefIdeal.nD).tc : Thread Cert.PairRefIdeal.nD Cert.PairRefIdeal.τ).loc Cert.PairRefIdeal.main_v8) = v0
          ∧ r.2.mem (((0 : Dev Cert.PairRefIdeal.nD).tc : Thread Cert.PairRefIdeal.nD Cert.PairRefIdeal.τ).loc Cert.PairRefIdeal.main_v17) = v1
          ∧ r.2.mem (((0 : Dev Cert.PairRefIdeal.nD).tc : Thread Cert.PairRefIdeal.nD Cert.PairRefIdeal.τ).loc Cert.PairRefIdeal.main_v26) = v2
          ∧ r.2.mem (((0 : Dev Cert.PairRefIdeal.nD).tc : Thread Cert.PairRefIdeal.nD Cert.PairRefIdeal.τ).loc Cert.PairRefIdeal.main_v35) = v3
          ∧ r.2.mem (((0 : Dev Cert.PairRefIdeal.nD).tc : Thread Cert.PairRefIdeal.nD Cert.PairRefIdeal.τ).loc Cert.PairRefIdeal.main_v44) = v4
          ∧ r.2.mem (((0 : Dev Cert.PairRefIdeal.nD).tc : Thread Cert.PairRefIdeal.nD Cert.PairRefIdeal.τ).loc Cert.PairRefIdeal.main_v53) = v5
          ∧ r.2.mem (((0 : Dev Cert.PairRefIdeal.nD).tc : Thread Cert.PairRefIdeal.nD Cert.PairRefIdeal.τ).loc Cert.PairRefIdeal.main_v62) = v6
          ∧ r.2.mem (((0 : Dev Cert.PairRefIdeal.nD).tc : Thread Cert.PairRefIdeal.nD Cert.PairRefIdeal.τ).loc Cert.PairRefIdeal.main_v71) = v7
          ∧ r.2.mem (((0 : Dev Cert.PairRefIdeal.nD).tc : Thread Cert.PairRefIdeal.nD Cert.PairRefIdeal.τ).loc Cert.PairRefIdeal.main_arg0) = m' (((0 : Dev Cert.PairRefIdeal.nD).tc : Thread Cert.PairRefIdeal.nD Cert.PairRefIdeal.τ).loc Cert.PairRefIdeal.main_arg0)
          ∧ r.2.mem (((0 : Dev Cert.PairRefIdeal.nD).tc : Thread Cert.PairRefIdeal.nD Cert.PairRefIdeal.τ).loc Cert.PairRefIdeal.main_arg1) = m' (((0 : Dev Cert.PairRefIdeal.nD).tc : Thread Cert.PairRefIdeal.nD Cert.PairRefIdeal.τ).loc Cert.PairRefIdeal.main_arg1)
          ∧ r.2.mem (((0 : Dev Cert.PairRefIdeal.nD).tc : Thread Cert.PairRefIdeal.nD Cert.PairRefIdeal.τ).loc Cert.PairRefIdeal.main_arg2) = m' (((0 : Dev Cert.PairRefIdeal.nD).tc : Thread Cert.PairRefIdeal.nD Cert.PairRefIdeal.τ).loc Cert.PairRefIdeal.main_arg2)
          ∧ r.2.mem (((0 : Dev Cert.PairRefIdeal.nD).tc : Thread Cert.PairRefIdeal.nD Cert.PairRefIdeal.τ).loc Cert.PairRefIdeal.main_arg3) = m' (((0 : Dev Cert.PairRefIdeal.nD).tc : Thread Cert.PairRefIdeal.nD Cert.PairRefIdeal.τ).loc Cert.PairRefIdeal.main_arg3)
          ∧ r.2.mem (((0 : Dev Cert.PairRefIdeal.nD).tc : Thread Cert.PairRefIdeal.nD Cert.PairRefIdeal.τ).loc Cert.PairRefIdeal.main_arg4) = m' (((0 : Dev Cert.PairRefIdeal.nD).tc : Thread Cert.PairRefIdeal.nD Cert.PairRefIdeal.τ).loc Cert.PairRefIdeal.main_arg4)
          ∧ r.2.mem (((0 : Dev Cert.PairRefIdeal.nD).tc : Thread Cert.PairRefIdeal.nD Cert.PairRefIdeal.τ).loc Cert.PairRefIdeal.main_arg5) = m' (((0 : Dev Cert.PairRefIdeal.nD).tc : Thread Cert.PairRefIdeal.nD Cert.PairRefIdeal.τ).loc Cert.PairRefIdeal.main_arg5)
          ∧ r.2.mem (((0 : Dev Cert.PairRefIdeal.nD).tc : Thread Cert.PairRefIdeal.nD Cert.PairRefIdeal.τ).loc Cert.PairRefIdeal.main_arg6) = m' (((0 : Dev Cert.PairRefIdeal.nD).tc : Thread Cert.PairRefIdeal.nD Cert.PairRefIdeal.τ).loc Cert.PairRefIdeal.main_arg6)
          ∧ r.2.mem (((0 : Dev Cert.PairRefIdeal.nD).tc : Thread Cert.PairRefIdeal.nD Cert.PairRefIdeal.τ).loc Cert.PairRefIdeal.main_arg7) = m' (((0 : Dev Cert.PairRefIdeal.nD).tc : Thread Cert.PairRefIdeal.nD Cert.PairRefIdeal.τ).loc Cert.PairRefIdeal.main_arg7))

def preserves_Chips_ChipsIdeal : Prop :=
  True

def bitexact_Chips_ChipsRef [hChips : Cert.Chips.Facts] [hChipsRef : Cert.ChipsRef.Facts] : Prop :=
  ∀ (m : (ℓ : Loc Cert.Chips.nD Cert.Chips.τ Cert.Chips.sig) → Buf (Elt Bits) ℓ) (g : Dev Cert.Chips.nD → PrngReg)
    (m' : (ℓ : Loc Cert.ChipsRef.nD Cert.ChipsRef.τ Cert.ChipsRef.sig) → Buf (Elt Bits) ℓ) (g' : Dev Cert.ChipsRef.nD → PrngReg), Pre_Chips m →
    (∀ c : Dev Cert.Chips.nD,
      m ((c.tc : Thread Cert.Chips.nD Cert.Chips.τ).loc Cert.Chips.main_arg0) = Layout.block ⟨3, ![4, 1024, 1408]⟩ ⟨3, ![32, 1024, 1408]⟩ 0 8 c (m' (((0 : Dev Cert.ChipsRef.nD).tc : Thread Cert.ChipsRef.nD Cert.ChipsRef.τ).loc Cert.ChipsRef.main_arg0))
      ∧ m ((c.tc : Thread Cert.Chips.nD Cert.Chips.τ).loc Cert.Chips.main_arg1) = Layout.block ⟨3, ![4, 1024, 1408]⟩ ⟨3, ![32, 1024, 1408]⟩ 0 8 c (m' (((0 : Dev Cert.ChipsRef.nD).tc : Thread Cert.ChipsRef.nD Cert.ChipsRef.τ).loc Cert.ChipsRef.main_arg1))
      ∧ m ((c.tc : Thread Cert.Chips.nD Cert.Chips.τ).loc Cert.Chips.main_arg2) = Layout.block ⟨3, ![4, 704, 2048]⟩ ⟨3, ![32, 704, 2048]⟩ 0 8 c (m' (((0 : Dev Cert.ChipsRef.nD).tc : Thread Cert.ChipsRef.nD Cert.ChipsRef.τ).loc Cert.ChipsRef.main_arg2))
      ∧ m ((c.tc : Thread Cert.Chips.nD Cert.Chips.τ).loc Cert.Chips.main_arg3) = Layout.block ⟨3, ![4, 1024, 1280]⟩ ⟨3, ![32, 1024, 1280]⟩ 0 8 c (m' (((0 : Dev Cert.ChipsRef.nD).tc : Thread Cert.ChipsRef.nD Cert.ChipsRef.τ).loc Cert.ChipsRef.main_arg3))
      ∧ m ((c.tc : Thread Cert.Chips.nD Cert.Chips.τ).loc Cert.Chips.main_arg4) = Layout.block ⟨3, ![4, 256, 2048]⟩ ⟨3, ![32, 256, 2048]⟩ 0 8 c (m' (((0 : Dev Cert.ChipsRef.nD).tc : Thread Cert.ChipsRef.nD Cert.ChipsRef.τ).loc Cert.ChipsRef.main_arg4))
      ∧ m ((c.tc : Thread Cert.Chips.nD Cert.Chips.τ).loc Cert.Chips.main_arg5) = Layout.block ⟨3, ![4, 1024, 1408]⟩ ⟨3, ![32, 1024, 1408]⟩ 0 8 c (m' (((0 : Dev Cert.ChipsRef.nD).tc : Thread Cert.ChipsRef.nD Cert.ChipsRef.τ).loc Cert.ChipsRef.main_arg5))
      ∧ m ((c.tc : Thread Cert.Chips.nD Cert.Chips.τ).loc Cert.Chips.main_arg6) = Layout.block ⟨3, ![4, 1024, 1408]⟩ ⟨3, ![32, 1024, 1408]⟩ 0 8 c (m' (((0 : Dev Cert.ChipsRef.nD).tc : Thread Cert.ChipsRef.nD Cert.ChipsRef.τ).loc Cert.ChipsRef.main_arg6))
      ∧ m ((c.tc : Thread Cert.Chips.nD Cert.Chips.τ).loc Cert.Chips.main_arg7) = Layout.block ⟨3, ![4, 704, 2048]⟩ ⟨3, ![32, 704, 2048]⟩ 0 8 c (m' (((0 : Dev Cert.ChipsRef.nD).tc : Thread Cert.ChipsRef.nD Cert.ChipsRef.τ).loc Cert.ChipsRef.main_arg7))) →
    ∃ (v0 : Buf (Elt Bits) (((0 : Dev Cert.ChipsRef.nD).tc : Thread Cert.ChipsRef.nD Cert.ChipsRef.τ).loc Cert.ChipsRef.main_v6)) (v1 : Buf (Elt Bits) (((0 : Dev Cert.ChipsRef.nD).tc : Thread Cert.ChipsRef.nD Cert.ChipsRef.τ).loc Cert.ChipsRef.main_v13)) (v2 : Buf (Elt Bits) (((0 : Dev Cert.ChipsRef.nD).tc : Thread Cert.ChipsRef.nD Cert.ChipsRef.τ).loc Cert.ChipsRef.main_v20)) (v3 : Buf (Elt Bits) (((0 : Dev Cert.ChipsRef.nD).tc : Thread Cert.ChipsRef.nD Cert.ChipsRef.τ).loc Cert.ChipsRef.main_v27)) (v4 : Buf (Elt Bits) (((0 : Dev Cert.ChipsRef.nD).tc : Thread Cert.ChipsRef.nD Cert.ChipsRef.τ).loc Cert.ChipsRef.main_v34)) (v5 : Buf (Elt Bits) (((0 : Dev Cert.ChipsRef.nD).tc : Thread Cert.ChipsRef.nD Cert.ChipsRef.τ).loc Cert.ChipsRef.main_v41)) (v6 : Buf (Elt Bits) (((0 : Dev Cert.ChipsRef.nD).tc : Thread Cert.ChipsRef.nD Cert.ChipsRef.τ).loc Cert.ChipsRef.main_v48)) (v7 : Buf (Elt Bits) (((0 : Dev Cert.ChipsRef.nD).tc : Thread Cert.ChipsRef.nD Cert.ChipsRef.τ).loc Cert.ChipsRef.main_v55)),
      θ_run (Cert.Chips.defs (F := Bits)) (onTc (τ := Cert.Chips.τ) (Cert.Chips.main (F := Bits))) ⟨m, fun _ => 0, g⟩ (fun r => ∀ c : Dev Cert.Chips.nD,
          r.2.mem ((c.tc : Thread Cert.Chips.nD Cert.Chips.τ).loc Cert.Chips.main_v1_0) = Layout.block ⟨3, ![3, 1024, 1408]⟩ ⟨3, ![24, 1024, 1408]⟩ 0 8 c v0
          ∧ r.2.mem ((c.tc : Thread Cert.Chips.nD Cert.Chips.τ).loc Cert.Chips.main_v1_1) = Layout.block ⟨3, ![3, 1024, 1408]⟩ ⟨3, ![24, 1024, 1408]⟩ 0 8 c v1
          ∧ r.2.mem ((c.tc : Thread Cert.Chips.nD Cert.Chips.τ).loc Cert.Chips.main_v1_2) = Layout.block ⟨3, ![3, 704, 2048]⟩ ⟨3, ![24, 704, 2048]⟩ 0 8 c v2
          ∧ r.2.mem ((c.tc : Thread Cert.Chips.nD Cert.Chips.τ).loc Cert.Chips.main_v1_3) = Layout.block ⟨3, ![3, 1024, 1280]⟩ ⟨3, ![24, 1024, 1280]⟩ 0 8 c v3
          ∧ r.2.mem ((c.tc : Thread Cert.Chips.nD Cert.Chips.τ).loc Cert.Chips.main_v1_4) = Layout.block ⟨3, ![3, 256, 2048]⟩ ⟨3, ![24, 256, 2048]⟩ 0 8 c v4
          ∧ r.2.mem ((c.tc : Thread Cert.Chips.nD Cert.Chips.τ).loc Cert.Chips.main_v1_5) = Layout.block ⟨3, ![3, 1024, 1408]⟩ ⟨3, ![24, 1024, 1408]⟩ 0 8 c v5
          ∧ r.2.mem ((c.tc : Thread Cert.Chips.nD Cert.Chips.τ).loc Cert.Chips.main_v1_6) = Layout.block ⟨3, ![3, 1024, 1408]⟩ ⟨3, ![24, 1024, 1408]⟩ 0 8 c v6
          ∧ r.2.mem ((c.tc : Thread Cert.Chips.nD Cert.Chips.τ).loc Cert.Chips.main_v1_7) = Layout.block ⟨3, ![3, 704, 2048]⟩ ⟨3, ![24, 704, 2048]⟩ 0 8 c v7
          ∧ r.2.mem ((c.tc : Thread Cert.Chips.nD Cert.Chips.τ).loc Cert.Chips.main_arg0) = m ((c.tc : Thread Cert.Chips.nD Cert.Chips.τ).loc Cert.Chips.main_arg0)
          ∧ r.2.mem ((c.tc : Thread Cert.Chips.nD Cert.Chips.τ).loc Cert.Chips.main_arg1) = m ((c.tc : Thread Cert.Chips.nD Cert.Chips.τ).loc Cert.Chips.main_arg1)
          ∧ r.2.mem ((c.tc : Thread Cert.Chips.nD Cert.Chips.τ).loc Cert.Chips.main_arg2) = m ((c.tc : Thread Cert.Chips.nD Cert.Chips.τ).loc Cert.Chips.main_arg2)
          ∧ r.2.mem ((c.tc : Thread Cert.Chips.nD Cert.Chips.τ).loc Cert.Chips.main_arg3) = m ((c.tc : Thread Cert.Chips.nD Cert.Chips.τ).loc Cert.Chips.main_arg3)
          ∧ r.2.mem ((c.tc : Thread Cert.Chips.nD Cert.Chips.τ).loc Cert.Chips.main_arg4) = m ((c.tc : Thread Cert.Chips.nD Cert.Chips.τ).loc Cert.Chips.main_arg4)
          ∧ r.2.mem ((c.tc : Thread Cert.Chips.nD Cert.Chips.τ).loc Cert.Chips.main_arg5) = m ((c.tc : Thread Cert.Chips.nD Cert.Chips.τ).loc Cert.Chips.main_arg5)
          ∧ r.2.mem ((c.tc : Thread Cert.Chips.nD Cert.Chips.τ).loc Cert.Chips.main_arg6) = m ((c.tc : Thread Cert.Chips.nD Cert.Chips.τ).loc Cert.Chips.main_arg6)
          ∧ r.2.mem ((c.tc : Thread Cert.Chips.nD Cert.Chips.τ).loc Cert.Chips.main_arg7) = m ((c.tc : Thread Cert.Chips.nD Cert.Chips.τ).loc Cert.Chips.main_arg7))
      ∧ θ_run (Cert.ChipsRef.defs (F := Bits)) (onTc (τ := Cert.ChipsRef.τ) (Cert.ChipsRef.main (F := Bits))) ⟨m', fun _ => 0, g'⟩ (fun r =>
          r.2.mem (((0 : Dev Cert.ChipsRef.nD).tc : Thread Cert.ChipsRef.nD Cert.ChipsRef.τ).loc Cert.ChipsRef.main_v6) = v0
          ∧ r.2.mem (((0 : Dev Cert.ChipsRef.nD).tc : Thread Cert.ChipsRef.nD Cert.ChipsRef.τ).loc Cert.ChipsRef.main_v13) = v1
          ∧ r.2.mem (((0 : Dev Cert.ChipsRef.nD).tc : Thread Cert.ChipsRef.nD Cert.ChipsRef.τ).loc Cert.ChipsRef.main_v20) = v2
          ∧ r.2.mem (((0 : Dev Cert.ChipsRef.nD).tc : Thread Cert.ChipsRef.nD Cert.ChipsRef.τ).loc Cert.ChipsRef.main_v27) = v3
          ∧ r.2.mem (((0 : Dev Cert.ChipsRef.nD).tc : Thread Cert.ChipsRef.nD Cert.ChipsRef.τ).loc Cert.ChipsRef.main_v34) = v4
          ∧ r.2.mem (((0 : Dev Cert.ChipsRef.nD).tc : Thread Cert.ChipsRef.nD Cert.ChipsRef.τ).loc Cert.ChipsRef.main_v41) = v5
          ∧ r.2.mem (((0 : Dev Cert.ChipsRef.nD).tc : Thread Cert.ChipsRef.nD Cert.ChipsRef.τ).loc Cert.ChipsRef.main_v48) = v6
          ∧ r.2.mem (((0 : Dev Cert.ChipsRef.nD).tc : Thread Cert.ChipsRef.nD Cert.ChipsRef.τ).loc Cert.ChipsRef.main_v55) = v7
          ∧ r.2.mem (((0 : Dev Cert.ChipsRef.nD).tc : Thread Cert.ChipsRef.nD Cert.ChipsRef.τ).loc Cert.ChipsRef.main_arg0) = m' (((0 : Dev Cert.ChipsRef.nD).tc : Thread Cert.ChipsRef.nD Cert.ChipsRef.τ).loc Cert.ChipsRef.main_arg0)
          ∧ r.2.mem (((0 : Dev Cert.ChipsRef.nD).tc : Thread Cert.ChipsRef.nD Cert.ChipsRef.τ).loc Cert.ChipsRef.main_arg1) = m' (((0 : Dev Cert.ChipsRef.nD).tc : Thread Cert.ChipsRef.nD Cert.ChipsRef.τ).loc Cert.ChipsRef.main_arg1)
          ∧ r.2.mem (((0 : Dev Cert.ChipsRef.nD).tc : Thread Cert.ChipsRef.nD Cert.ChipsRef.τ).loc Cert.ChipsRef.main_arg2) = m' (((0 : Dev Cert.ChipsRef.nD).tc : Thread Cert.ChipsRef.nD Cert.ChipsRef.τ).loc Cert.ChipsRef.main_arg2)
          ∧ r.2.mem (((0 : Dev Cert.ChipsRef.nD).tc : Thread Cert.ChipsRef.nD Cert.ChipsRef.τ).loc Cert.ChipsRef.main_arg3) = m' (((0 : Dev Cert.ChipsRef.nD).tc : Thread Cert.ChipsRef.nD Cert.ChipsRef.τ).loc Cert.ChipsRef.main_arg3)
          ∧ r.2.mem (((0 : Dev Cert.ChipsRef.nD).tc : Thread Cert.ChipsRef.nD Cert.ChipsRef.τ).loc Cert.ChipsRef.main_arg4) = m' (((0 : Dev Cert.ChipsRef.nD).tc : Thread Cert.ChipsRef.nD Cert.ChipsRef.τ).loc Cert.ChipsRef.main_arg4)
          ∧ r.2.mem (((0 : Dev Cert.ChipsRef.nD).tc : Thread Cert.ChipsRef.nD Cert.ChipsRef.τ).loc Cert.ChipsRef.main_arg5) = m' (((0 : Dev Cert.ChipsRef.nD).tc : Thread Cert.ChipsRef.nD Cert.ChipsRef.τ).loc Cert.ChipsRef.main_arg5)
          ∧ r.2.mem (((0 : Dev Cert.ChipsRef.nD).tc : Thread Cert.ChipsRef.nD Cert.ChipsRef.τ).loc Cert.ChipsRef.main_arg6) = m' (((0 : Dev Cert.ChipsRef.nD).tc : Thread Cert.ChipsRef.nD Cert.ChipsRef.τ).loc Cert.ChipsRef.main_arg6)
          ∧ r.2.mem (((0 : Dev Cert.ChipsRef.nD).tc : Thread Cert.ChipsRef.nD Cert.ChipsRef.τ).loc Cert.ChipsRef.main_arg7) = m' (((0 : Dev Cert.ChipsRef.nD).tc : Thread Cert.ChipsRef.nD Cert.ChipsRef.τ).loc Cert.ChipsRef.main_arg7))

def algebraic_ChipsIdeal_ChipsRefIdeal [hChipsIdeal : Cert.ChipsIdeal.Facts] [hChipsRefIdeal : Cert.ChipsRefIdeal.Facts] : Prop :=
  ∀ (m : (ℓ : Loc Cert.ChipsIdeal.nD Cert.ChipsIdeal.τ Cert.ChipsIdeal.sig) → Buf (Elt Ideal) ℓ) (g : Dev Cert.ChipsIdeal.nD → PrngReg)
    (m' : (ℓ : Loc Cert.ChipsRefIdeal.nD Cert.ChipsRefIdeal.τ Cert.ChipsRefIdeal.sig) → Buf (Elt Ideal) ℓ) (g' : Dev Cert.ChipsRefIdeal.nD → PrngReg), Pre_ChipsIdeal m →
    (∀ c : Dev Cert.ChipsIdeal.nD,
      m ((c.tc : Thread Cert.ChipsIdeal.nD Cert.ChipsIdeal.τ).loc Cert.ChipsIdeal.main_arg0) = Layout.block ⟨3, ![4, 1024, 1408]⟩ ⟨3, ![32, 1024, 1408]⟩ 0 8 c (m' (((0 : Dev Cert.ChipsRefIdeal.nD).tc : Thread Cert.ChipsRefIdeal.nD Cert.ChipsRefIdeal.τ).loc Cert.ChipsRefIdeal.main_arg0))
      ∧ m ((c.tc : Thread Cert.ChipsIdeal.nD Cert.ChipsIdeal.τ).loc Cert.ChipsIdeal.main_arg1) = Layout.block ⟨3, ![4, 1024, 1408]⟩ ⟨3, ![32, 1024, 1408]⟩ 0 8 c (m' (((0 : Dev Cert.ChipsRefIdeal.nD).tc : Thread Cert.ChipsRefIdeal.nD Cert.ChipsRefIdeal.τ).loc Cert.ChipsRefIdeal.main_arg1))
      ∧ m ((c.tc : Thread Cert.ChipsIdeal.nD Cert.ChipsIdeal.τ).loc Cert.ChipsIdeal.main_arg2) = Layout.block ⟨3, ![4, 704, 2048]⟩ ⟨3, ![32, 704, 2048]⟩ 0 8 c (m' (((0 : Dev Cert.ChipsRefIdeal.nD).tc : Thread Cert.ChipsRefIdeal.nD Cert.ChipsRefIdeal.τ).loc Cert.ChipsRefIdeal.main_arg2))
      ∧ m ((c.tc : Thread Cert.ChipsIdeal.nD Cert.ChipsIdeal.τ).loc Cert.ChipsIdeal.main_arg3) = Layout.block ⟨3, ![4, 1024, 1280]⟩ ⟨3, ![32, 1024, 1280]⟩ 0 8 c (m' (((0 : Dev Cert.ChipsRefIdeal.nD).tc : Thread Cert.ChipsRefIdeal.nD Cert.ChipsRefIdeal.τ).loc Cert.ChipsRefIdeal.main_arg3))
      ∧ m ((c.tc : Thread Cert.ChipsIdeal.nD Cert.ChipsIdeal.τ).loc Cert.ChipsIdeal.main_arg4) = Layout.block ⟨3, ![4, 256, 2048]⟩ ⟨3, ![32, 256, 2048]⟩ 0 8 c (m' (((0 : Dev Cert.ChipsRefIdeal.nD).tc : Thread Cert.ChipsRefIdeal.nD Cert.ChipsRefIdeal.τ).loc Cert.ChipsRefIdeal.main_arg4))
      ∧ m ((c.tc : Thread Cert.ChipsIdeal.nD Cert.ChipsIdeal.τ).loc Cert.ChipsIdeal.main_arg5) = Layout.block ⟨3, ![4, 1024, 1408]⟩ ⟨3, ![32, 1024, 1408]⟩ 0 8 c (m' (((0 : Dev Cert.ChipsRefIdeal.nD).tc : Thread Cert.ChipsRefIdeal.nD Cert.ChipsRefIdeal.τ).loc Cert.ChipsRefIdeal.main_arg5))
      ∧ m ((c.tc : Thread Cert.ChipsIdeal.nD Cert.ChipsIdeal.τ).loc Cert.ChipsIdeal.main_arg6) = Layout.block ⟨3, ![4, 1024, 1408]⟩ ⟨3, ![32, 1024, 1408]⟩ 0 8 c (m' (((0 : Dev Cert.ChipsRefIdeal.nD).tc : Thread Cert.ChipsRefIdeal.nD Cert.ChipsRefIdeal.τ).loc Cert.ChipsRefIdeal.main_arg6))
      ∧ m ((c.tc : Thread Cert.ChipsIdeal.nD Cert.ChipsIdeal.τ).loc Cert.ChipsIdeal.main_arg7) = Layout.block ⟨3, ![4, 704, 2048]⟩ ⟨3, ![32, 704, 2048]⟩ 0 8 c (m' (((0 : Dev Cert.ChipsRefIdeal.nD).tc : Thread Cert.ChipsRefIdeal.nD Cert.ChipsRefIdeal.τ).loc Cert.ChipsRefIdeal.main_arg7))) →
    ∃ (v0 : Buf (Elt Ideal) (((0 : Dev Cert.ChipsRefIdeal.nD).tc : Thread Cert.ChipsRefIdeal.nD Cert.ChipsRefIdeal.τ).loc Cert.ChipsRefIdeal.main_v6)) (v1 : Buf (Elt Ideal) (((0 : Dev Cert.ChipsRefIdeal.nD).tc : Thread Cert.ChipsRefIdeal.nD Cert.ChipsRefIdeal.τ).loc Cert.ChipsRefIdeal.main_v13)) (v2 : Buf (Elt Ideal) (((0 : Dev Cert.ChipsRefIdeal.nD).tc : Thread Cert.ChipsRefIdeal.nD Cert.ChipsRefIdeal.τ).loc Cert.ChipsRefIdeal.main_v20)) (v3 : Buf (Elt Ideal) (((0 : Dev Cert.ChipsRefIdeal.nD).tc : Thread Cert.ChipsRefIdeal.nD Cert.ChipsRefIdeal.τ).loc Cert.ChipsRefIdeal.main_v27)) (v4 : Buf (Elt Ideal) (((0 : Dev Cert.ChipsRefIdeal.nD).tc : Thread Cert.ChipsRefIdeal.nD Cert.ChipsRefIdeal.τ).loc Cert.ChipsRefIdeal.main_v34)) (v5 : Buf (Elt Ideal) (((0 : Dev Cert.ChipsRefIdeal.nD).tc : Thread Cert.ChipsRefIdeal.nD Cert.ChipsRefIdeal.τ).loc Cert.ChipsRefIdeal.main_v41)) (v6 : Buf (Elt Ideal) (((0 : Dev Cert.ChipsRefIdeal.nD).tc : Thread Cert.ChipsRefIdeal.nD Cert.ChipsRefIdeal.τ).loc Cert.ChipsRefIdeal.main_v48)) (v7 : Buf (Elt Ideal) (((0 : Dev Cert.ChipsRefIdeal.nD).tc : Thread Cert.ChipsRefIdeal.nD Cert.ChipsRefIdeal.τ).loc Cert.ChipsRefIdeal.main_v55)),
      θ_run (Cert.ChipsIdeal.defs (F := Ideal)) (onTc (τ := Cert.ChipsIdeal.τ) (Cert.ChipsIdeal.main (F := Ideal))) ⟨m, fun _ => 0, g⟩ (fun r => ∀ c : Dev Cert.ChipsIdeal.nD,
          r.2.mem ((c.tc : Thread Cert.ChipsIdeal.nD Cert.ChipsIdeal.τ).loc Cert.ChipsIdeal.main_v1_0) = Layout.block ⟨3, ![3, 1024, 1408]⟩ ⟨3, ![24, 1024, 1408]⟩ 0 8 c v0
          ∧ r.2.mem ((c.tc : Thread Cert.ChipsIdeal.nD Cert.ChipsIdeal.τ).loc Cert.ChipsIdeal.main_v1_1) = Layout.block ⟨3, ![3, 1024, 1408]⟩ ⟨3, ![24, 1024, 1408]⟩ 0 8 c v1
          ∧ r.2.mem ((c.tc : Thread Cert.ChipsIdeal.nD Cert.ChipsIdeal.τ).loc Cert.ChipsIdeal.main_v1_2) = Layout.block ⟨3, ![3, 704, 2048]⟩ ⟨3, ![24, 704, 2048]⟩ 0 8 c v2
          ∧ r.2.mem ((c.tc : Thread Cert.ChipsIdeal.nD Cert.ChipsIdeal.τ).loc Cert.ChipsIdeal.main_v1_3) = Layout.block ⟨3, ![3, 1024, 1280]⟩ ⟨3, ![24, 1024, 1280]⟩ 0 8 c v3
          ∧ r.2.mem ((c.tc : Thread Cert.ChipsIdeal.nD Cert.ChipsIdeal.τ).loc Cert.ChipsIdeal.main_v1_4) = Layout.block ⟨3, ![3, 256, 2048]⟩ ⟨3, ![24, 256, 2048]⟩ 0 8 c v4
          ∧ r.2.mem ((c.tc : Thread Cert.ChipsIdeal.nD Cert.ChipsIdeal.τ).loc Cert.ChipsIdeal.main_v1_5) = Layout.block ⟨3, ![3, 1024, 1408]⟩ ⟨3, ![24, 1024, 1408]⟩ 0 8 c v5
          ∧ r.2.mem ((c.tc : Thread Cert.ChipsIdeal.nD Cert.ChipsIdeal.τ).loc Cert.ChipsIdeal.main_v1_6) = Layout.block ⟨3, ![3, 1024, 1408]⟩ ⟨3, ![24, 1024, 1408]⟩ 0 8 c v6
          ∧ r.2.mem ((c.tc : Thread Cert.ChipsIdeal.nD Cert.ChipsIdeal.τ).loc Cert.ChipsIdeal.main_v1_7) = Layout.block ⟨3, ![3, 704, 2048]⟩ ⟨3, ![24, 704, 2048]⟩ 0 8 c v7
          ∧ r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0)
          ∧ r.2.mem ((c.tc : Thread Cert.ChipsIdeal.nD Cert.ChipsIdeal.τ).loc Cert.ChipsIdeal.main_arg1) = m ((c.tc : Thread Cert.ChipsIdeal.nD Cert.ChipsIdeal.τ).loc Cert.ChipsIdeal.main_arg1)
          ∧ r.2.mem ((c.tc : Thread Cert.ChipsIdeal.nD Cert.ChipsIdeal.τ).loc Cert.ChipsIdeal.main_arg2) = m ((c.tc : Thread Cert.ChipsIdeal.nD Cert.ChipsIdeal.τ).loc Cert.ChipsIdeal.main_arg2)
          ∧ r.2.mem ((c.tc : Thread Cert.ChipsIdeal.nD Cert.ChipsIdeal.τ).loc Cert.ChipsIdeal.main_arg3) = m ((c.tc : Thread Cert.ChipsIdeal.nD Cert.ChipsIdeal.τ).loc Cert.ChipsIdeal.main_arg3)
          ∧ r.2.mem ((c.tc : Thread Cert.ChipsIdeal.nD Cert.ChipsIdeal.τ).loc Cert.ChipsIdeal.main_arg4) = m ((c.tc : Thread Cert.ChipsIdeal.nD Cert.ChipsIdeal.τ).loc Cert.ChipsIdeal.main_arg4)
          ∧ r.2.mem ((c.tc : Thread Cert.ChipsIdeal.nD Cert.ChipsIdeal.τ).loc Cert.ChipsIdeal.main_arg5) = m ((c.tc : Thread Cert.ChipsIdeal.nD Cert.ChipsIdeal.τ).loc Cert.ChipsIdeal.main_arg5)
          ∧ r.2.mem ((c.tc : Thread Cert.ChipsIdeal.nD Cert.ChipsIdeal.τ).loc Cert.ChipsIdeal.main_arg6) = m ((c.tc : Thread Cert.ChipsIdeal.nD Cert.ChipsIdeal.τ).loc Cert.ChipsIdeal.main_arg6)
          ∧ r.2.mem ((c.tc : Thread Cert.ChipsIdeal.nD Cert.ChipsIdeal.τ).loc Cert.ChipsIdeal.main_arg7) = m ((c.tc : Thread Cert.ChipsIdeal.nD Cert.ChipsIdeal.τ).loc Cert.ChipsIdeal.main_arg7))
      ∧ θ_run (Cert.ChipsRefIdeal.defs (F := Ideal)) (onTc (τ := Cert.ChipsRefIdeal.τ) (Cert.ChipsRefIdeal.main (F := Ideal))) ⟨m', fun _ => 0, g'⟩ (fun r =>
          r.2.mem (((0 : Dev Cert.ChipsRefIdeal.nD).tc : Thread Cert.ChipsRefIdeal.nD Cert.ChipsRefIdeal.τ).loc Cert.ChipsRefIdeal.main_v6) = v0
          ∧ r.2.mem (((0 : Dev Cert.ChipsRefIdeal.nD).tc : Thread Cert.ChipsRefIdeal.nD Cert.ChipsRefIdeal.τ).loc Cert.ChipsRefIdeal.main_v13) = v1
          ∧ r.2.mem (((0 : Dev Cert.ChipsRefIdeal.nD).tc : Thread Cert.ChipsRefIdeal.nD Cert.ChipsRefIdeal.τ).loc Cert.ChipsRefIdeal.main_v20) = v2
          ∧ r.2.mem (((0 : Dev Cert.ChipsRefIdeal.nD).tc : Thread Cert.ChipsRefIdeal.nD Cert.ChipsRefIdeal.τ).loc Cert.ChipsRefIdeal.main_v27) = v3
          ∧ r.2.mem (((0 : Dev Cert.ChipsRefIdeal.nD).tc : Thread Cert.ChipsRefIdeal.nD Cert.ChipsRefIdeal.τ).loc Cert.ChipsRefIdeal.main_v34) = v4
          ∧ r.2.mem (((0 : Dev Cert.ChipsRefIdeal.nD).tc : Thread Cert.ChipsRefIdeal.nD Cert.ChipsRefIdeal.τ).loc Cert.ChipsRefIdeal.main_v41) = v5
          ∧ r.2.mem (((0 : Dev Cert.ChipsRefIdeal.nD).tc : Thread Cert.ChipsRefIdeal.nD Cert.ChipsRefIdeal.τ).loc Cert.ChipsRefIdeal.main_v48) = v6
          ∧ r.2.mem (((0 : Dev Cert.ChipsRefIdeal.nD).tc : Thread Cert.ChipsRefIdeal.nD Cert.ChipsRefIdeal.τ).loc Cert.ChipsRefIdeal.main_v55) = v7
          ∧ r.2.mem (((0 : Dev Cert.ChipsRefIdeal.nD).tc : Thread Cert.ChipsRefIdeal.nD Cert.ChipsRefIdeal.τ).loc Cert.ChipsRefIdeal.main_arg0) = m' (((0 : Dev Cert.ChipsRefIdeal.nD).tc : Thread Cert.ChipsRefIdeal.nD Cert.ChipsRefIdeal.τ).loc Cert.ChipsRefIdeal.main_arg0)
          ∧ r.2.mem (((0 : Dev Cert.ChipsRefIdeal.nD).tc : Thread Cert.ChipsRefIdeal.nD Cert.ChipsRefIdeal.τ).loc Cert.ChipsRefIdeal.main_arg1) = m' (((0 : Dev Cert.ChipsRefIdeal.nD).tc : Thread Cert.ChipsRefIdeal.nD Cert.ChipsRefIdeal.τ).loc Cert.ChipsRefIdeal.main_arg1)
          ∧ r.2.mem (((0 : Dev Cert.ChipsRefIdeal.nD).tc : Thread Cert.ChipsRefIdeal.nD Cert.ChipsRefIdeal.τ).loc Cert.ChipsRefIdeal.main_arg2) = m' (((0 : Dev Cert.ChipsRefIdeal.nD).tc : Thread Cert.ChipsRefIdeal.nD Cert.ChipsRefIdeal.τ).loc Cert.ChipsRefIdeal.main_arg2)
          ∧ r.2.mem (((0 : Dev Cert.ChipsRefIdeal.nD).tc : Thread Cert.ChipsRefIdeal.nD Cert.ChipsRefIdeal.τ).loc Cert.ChipsRefIdeal.main_arg3) = m' (((0 : Dev Cert.ChipsRefIdeal.nD).tc : Thread Cert.ChipsRefIdeal.nD Cert.ChipsRefIdeal.τ).loc Cert.ChipsRefIdeal.main_arg3)
          ∧ r.2.mem (((0 : Dev Cert.ChipsRefIdeal.nD).tc : Thread Cert.ChipsRefIdeal.nD Cert.ChipsRefIdeal.τ).loc Cert.ChipsRefIdeal.main_arg4) = m' (((0 : Dev Cert.ChipsRefIdeal.nD).tc : Thread Cert.ChipsRefIdeal.nD Cert.ChipsRefIdeal.τ).loc Cert.ChipsRefIdeal.main_arg4)
          ∧ r.2.mem (((0 : Dev Cert.ChipsRefIdeal.nD).tc : Thread Cert.ChipsRefIdeal.nD Cert.ChipsRefIdeal.τ).loc Cert.ChipsRefIdeal.main_arg5) = m' (((0 : Dev Cert.ChipsRefIdeal.nD).tc : Thread Cert.ChipsRefIdeal.nD Cert.ChipsRefIdeal.τ).loc Cert.ChipsRefIdeal.main_arg5)
          ∧ r.2.mem (((0 : Dev Cert.ChipsRefIdeal.nD).tc : Thread Cert.ChipsRefIdeal.nD Cert.ChipsRefIdeal.τ).loc Cert.ChipsRefIdeal.main_arg6) = m' (((0 : Dev Cert.ChipsRefIdeal.nD).tc : Thread Cert.ChipsRefIdeal.nD Cert.ChipsRefIdeal.τ).loc Cert.ChipsRefIdeal.main_arg6)
          ∧ r.2.mem (((0 : Dev Cert.ChipsRefIdeal.nD).tc : Thread Cert.ChipsRefIdeal.nD Cert.ChipsRefIdeal.τ).loc Cert.ChipsRefIdeal.main_arg7) = m' (((0 : Dev Cert.ChipsRefIdeal.nD).tc : Thread Cert.ChipsRefIdeal.nD Cert.ChipsRefIdeal.τ).loc Cert.ChipsRefIdeal.main_arg7))

def preserves_Halves_HalvesIdeal : Prop :=
  True

def bitexact_Halves_HalvesRef [hHalves : Cert.Halves.Facts] [hHalvesRef : Cert.HalvesRef.Facts] : Prop :=
  ∀ (m : (ℓ : Loc Cert.Halves.nD Cert.Halves.τ Cert.Halves.sig) → Buf (Elt Bits) ℓ) (g : Dev Cert.Halves.nD → PrngReg)
    (m' : (ℓ : Loc Cert.HalvesRef.nD Cert.HalvesRef.τ Cert.HalvesRef.sig) → Buf (Elt Bits) ℓ) (g' : Dev Cert.HalvesRef.nD → PrngReg), Pre_Halves m →
    (∀ c : Dev Cert.Halves.nD,
      m ((c.tc : Thread Cert.Halves.nD Cert.Halves.τ).loc Cert.Halves.main_arg0) = Layout.block ⟨2, ![1024, 1408]⟩ ⟨2, ![8192, 1408]⟩ 0 8 c (m' (((0 : Dev Cert.HalvesRef.nD).tc : Thread Cert.HalvesRef.nD Cert.HalvesRef.τ).loc Cert.HalvesRef.main_arg0))
      ∧ m ((c.tc : Thread Cert.Halves.nD Cert.Halves.τ).loc Cert.Halves.main_arg1) = Layout.block ⟨2, ![1024, 1408]⟩ ⟨2, ![8192, 1408]⟩ 0 8 c (m' (((0 : Dev Cert.HalvesRef.nD).tc : Thread Cert.HalvesRef.nD Cert.HalvesRef.τ).loc Cert.HalvesRef.main_arg1))
      ∧ m ((c.tc : Thread Cert.Halves.nD Cert.Halves.τ).loc Cert.Halves.main_arg2) = Layout.block ⟨2, ![704, 2048]⟩ ⟨2, ![5632, 2048]⟩ 0 8 c (m' (((0 : Dev Cert.HalvesRef.nD).tc : Thread Cert.HalvesRef.nD Cert.HalvesRef.τ).loc Cert.HalvesRef.main_arg2))
      ∧ m ((c.tc : Thread Cert.Halves.nD Cert.Halves.τ).loc Cert.Halves.main_arg3) = Layout.block ⟨2, ![1024, 1280]⟩ ⟨2, ![8192, 1280]⟩ 0 8 c (m' (((0 : Dev Cert.HalvesRef.nD).tc : Thread Cert.HalvesRef.nD Cert.HalvesRef.τ).loc Cert.HalvesRef.main_arg3))
      ∧ m ((c.tc : Thread Cert.Halves.nD Cert.Halves.τ).loc Cert.Halves.main_arg4) = Layout.block ⟨2, ![256, 2048]⟩ ⟨2, ![2048, 2048]⟩ 0 8 c (m' (((0 : Dev Cert.HalvesRef.nD).tc : Thread Cert.HalvesRef.nD Cert.HalvesRef.τ).loc Cert.HalvesRef.main_arg4))
      ∧ m ((c.tc : Thread Cert.Halves.nD Cert.Halves.τ).loc Cert.Halves.main_arg5) = Layout.block ⟨2, ![1024, 1408]⟩ ⟨2, ![8192, 1408]⟩ 0 8 c (m' (((0 : Dev Cert.HalvesRef.nD).tc : Thread Cert.HalvesRef.nD Cert.HalvesRef.τ).loc Cert.HalvesRef.main_arg5))
      ∧ m ((c.tc : Thread Cert.Halves.nD Cert.Halves.τ).loc Cert.Halves.main_arg6) = Layout.block ⟨2, ![1024, 1408]⟩ ⟨2, ![8192, 1408]⟩ 0 8 c (m' (((0 : Dev Cert.HalvesRef.nD).tc : Thread Cert.HalvesRef.nD Cert.HalvesRef.τ).loc Cert.HalvesRef.main_arg6))
      ∧ m ((c.tc : Thread Cert.Halves.nD Cert.Halves.τ).loc Cert.Halves.main_arg7) = Layout.block ⟨2, ![704, 2048]⟩ ⟨2, ![5632, 2048]⟩ 0 8 c (m' (((0 : Dev Cert.HalvesRef.nD).tc : Thread Cert.HalvesRef.nD Cert.HalvesRef.τ).loc Cert.HalvesRef.main_arg7))) →
    ∃ (v0 : Buf (Elt Bits) (((0 : Dev Cert.HalvesRef.nD).tc : Thread Cert.HalvesRef.nD Cert.HalvesRef.τ).loc Cert.HalvesRef.main_v2)) (v1 : Buf (Elt Bits) (((0 : Dev Cert.HalvesRef.nD).tc : Thread Cert.HalvesRef.nD Cert.HalvesRef.τ).loc Cert.HalvesRef.main_v5)) (v2 : Buf (Elt Bits) (((0 : Dev Cert.HalvesRef.nD).tc : Thread Cert.HalvesRef.nD Cert.HalvesRef.τ).loc Cert.HalvesRef.main_v8)) (v3 : Buf (Elt Bits) (((0 : Dev Cert.HalvesRef.nD).tc : Thread Cert.HalvesRef.nD Cert.HalvesRef.τ).loc Cert.HalvesRef.main_v11)) (v4 : Buf (Elt Bits) (((0 : Dev Cert.HalvesRef.nD).tc : Thread Cert.HalvesRef.nD Cert.HalvesRef.τ).loc Cert.HalvesRef.main_v14)) (v5 : Buf (Elt Bits) (((0 : Dev Cert.HalvesRef.nD).tc : Thread Cert.HalvesRef.nD Cert.HalvesRef.τ).loc Cert.HalvesRef.main_v17)) (v6 : Buf (Elt Bits) (((0 : Dev Cert.HalvesRef.nD).tc : Thread Cert.HalvesRef.nD Cert.HalvesRef.τ).loc Cert.HalvesRef.main_v20)) (v7 : Buf (Elt Bits) (((0 : Dev Cert.HalvesRef.nD).tc : Thread Cert.HalvesRef.nD Cert.HalvesRef.τ).loc Cert.HalvesRef.main_v23)),
      θ_run (Cert.Halves.defs (F := Bits)) (onTc (τ := Cert.Halves.τ) (Cert.Halves.main (F := Bits))) ⟨m, fun _ => 0, g⟩ (fun r => ∀ c : Dev Cert.Halves.nD,
          r.2.mem ((c.tc : Thread Cert.Halves.nD Cert.Halves.τ).loc Cert.Halves.main_v1_0) = Layout.block ⟨2, ![2048, 1408]⟩ ⟨2, ![16384, 1408]⟩ 0 8 c v0
          ∧ r.2.mem ((c.tc : Thread Cert.Halves.nD Cert.Halves.τ).loc Cert.Halves.main_v1_1) = Layout.block ⟨2, ![2048, 1408]⟩ ⟨2, ![16384, 1408]⟩ 0 8 c v1
          ∧ r.2.mem ((c.tc : Thread Cert.Halves.nD Cert.Halves.τ).loc Cert.Halves.main_v1_2) = Layout.block ⟨2, ![1408, 2048]⟩ ⟨2, ![11264, 2048]⟩ 0 8 c v2
          ∧ r.2.mem ((c.tc : Thread Cert.Halves.nD Cert.Halves.τ).loc Cert.Halves.main_v1_3) = Layout.block ⟨2, ![2048, 1280]⟩ ⟨2, ![16384, 1280]⟩ 0 8 c v3
          ∧ r.2.mem ((c.tc : Thread Cert.Halves.nD Cert.Halves.τ).loc Cert.Halves.main_v1_4) = Layout.block ⟨2, ![512, 2048]⟩ ⟨2, ![4096, 2048]⟩ 0 8 c v4
          ∧ r.2.mem ((c.tc : Thread Cert.Halves.nD Cert.Halves.τ).loc Cert.Halves.main_v1_5) = Layout.block ⟨2, ![2048, 1408]⟩ ⟨2, ![16384, 1408]⟩ 0 8 c v5
          ∧ r.2.mem ((c.tc : Thread Cert.Halves.nD Cert.Halves.τ).loc Cert.Halves.main_v1_6) = Layout.block ⟨2, ![2048, 1408]⟩ ⟨2, ![16384, 1408]⟩ 0 8 c v6
          ∧ r.2.mem ((c.tc : Thread Cert.Halves.nD Cert.Halves.τ).loc Cert.Halves.main_v1_7) = Layout.block ⟨2, ![1408, 2048]⟩ ⟨2, ![11264, 2048]⟩ 0 8 c v7
          ∧ r.2.mem ((c.tc : Thread Cert.Halves.nD Cert.Halves.τ).loc Cert.Halves.main_arg0) = m ((c.tc : Thread Cert.Halves.nD Cert.Halves.τ).loc Cert.Halves.main_arg0)
          ∧ r.2.mem ((c.tc : Thread Cert.Halves.nD Cert.Halves.τ).loc Cert.Halves.main_arg1) = m ((c.tc : Thread Cert.Halves.nD Cert.Halves.τ).loc Cert.Halves.main_arg1)
          ∧ r.2.mem ((c.tc : Thread Cert.Halves.nD Cert.Halves.τ).loc Cert.Halves.main_arg2) = m ((c.tc : Thread Cert.Halves.nD Cert.Halves.τ).loc Cert.Halves.main_arg2)
          ∧ r.2.mem ((c.tc : Thread Cert.Halves.nD Cert.Halves.τ).loc Cert.Halves.main_arg3) = m ((c.tc : Thread Cert.Halves.nD Cert.Halves.τ).loc Cert.Halves.main_arg3)
          ∧ r.2.mem ((c.tc : Thread Cert.Halves.nD Cert.Halves.τ).loc Cert.Halves.main_arg4) = m ((c.tc : Thread Cert.Halves.nD Cert.Halves.τ).loc Cert.Halves.main_arg4)
          ∧ r.2.mem ((c.tc : Thread Cert.Halves.nD Cert.Halves.τ).loc Cert.Halves.main_arg5) = m ((c.tc : Thread Cert.Halves.nD Cert.Halves.τ).loc Cert.Halves.main_arg5)
          ∧ r.2.mem ((c.tc : Thread Cert.Halves.nD Cert.Halves.τ).loc Cert.Halves.main_arg6) = m ((c.tc : Thread Cert.Halves.nD Cert.Halves.τ).loc Cert.Halves.main_arg6)
          ∧ r.2.mem ((c.tc : Thread Cert.Halves.nD Cert.Halves.τ).loc Cert.Halves.main_arg7) = m ((c.tc : Thread Cert.Halves.nD Cert.Halves.τ).loc Cert.Halves.main_arg7))
      ∧ θ_run (Cert.HalvesRef.defs (F := Bits)) (onTc (τ := Cert.HalvesRef.τ) (Cert.HalvesRef.main (F := Bits))) ⟨m', fun _ => 0, g'⟩ (fun r =>
          r.2.mem (((0 : Dev Cert.HalvesRef.nD).tc : Thread Cert.HalvesRef.nD Cert.HalvesRef.τ).loc Cert.HalvesRef.main_v2) = v0
          ∧ r.2.mem (((0 : Dev Cert.HalvesRef.nD).tc : Thread Cert.HalvesRef.nD Cert.HalvesRef.τ).loc Cert.HalvesRef.main_v5) = v1
          ∧ r.2.mem (((0 : Dev Cert.HalvesRef.nD).tc : Thread Cert.HalvesRef.nD Cert.HalvesRef.τ).loc Cert.HalvesRef.main_v8) = v2
          ∧ r.2.mem (((0 : Dev Cert.HalvesRef.nD).tc : Thread Cert.HalvesRef.nD Cert.HalvesRef.τ).loc Cert.HalvesRef.main_v11) = v3
          ∧ r.2.mem (((0 : Dev Cert.HalvesRef.nD).tc : Thread Cert.HalvesRef.nD Cert.HalvesRef.τ).loc Cert.HalvesRef.main_v14) = v4
          ∧ r.2.mem (((0 : Dev Cert.HalvesRef.nD).tc : Thread Cert.HalvesRef.nD Cert.HalvesRef.τ).loc Cert.HalvesRef.main_v17) = v5
          ∧ r.2.mem (((0 : Dev Cert.HalvesRef.nD).tc : Thread Cert.HalvesRef.nD Cert.HalvesRef.τ).loc Cert.HalvesRef.main_v20) = v6
          ∧ r.2.mem (((0 : Dev Cert.HalvesRef.nD).tc : Thread Cert.HalvesRef.nD Cert.HalvesRef.τ).loc Cert.HalvesRef.main_v23) = v7
          ∧ r.2.mem (((0 : Dev Cert.HalvesRef.nD).tc : Thread Cert.HalvesRef.nD Cert.HalvesRef.τ).loc Cert.HalvesRef.main_arg0) = m' (((0 : Dev Cert.HalvesRef.nD).tc : Thread Cert.HalvesRef.nD Cert.HalvesRef.τ).loc Cert.HalvesRef.main_arg0)
          ∧ r.2.mem (((0 : Dev Cert.HalvesRef.nD).tc : Thread Cert.HalvesRef.nD Cert.HalvesRef.τ).loc Cert.HalvesRef.main_arg1) = m' (((0 : Dev Cert.HalvesRef.nD).tc : Thread Cert.HalvesRef.nD Cert.HalvesRef.τ).loc Cert.HalvesRef.main_arg1)
          ∧ r.2.mem (((0 : Dev Cert.HalvesRef.nD).tc : Thread Cert.HalvesRef.nD Cert.HalvesRef.τ).loc Cert.HalvesRef.main_arg2) = m' (((0 : Dev Cert.HalvesRef.nD).tc : Thread Cert.HalvesRef.nD Cert.HalvesRef.τ).loc Cert.HalvesRef.main_arg2)
          ∧ r.2.mem (((0 : Dev Cert.HalvesRef.nD).tc : Thread Cert.HalvesRef.nD Cert.HalvesRef.τ).loc Cert.HalvesRef.main_arg3) = m' (((0 : Dev Cert.HalvesRef.nD).tc : Thread Cert.HalvesRef.nD Cert.HalvesRef.τ).loc Cert.HalvesRef.main_arg3)
          ∧ r.2.mem (((0 : Dev Cert.HalvesRef.nD).tc : Thread Cert.HalvesRef.nD Cert.HalvesRef.τ).loc Cert.HalvesRef.main_arg4) = m' (((0 : Dev Cert.HalvesRef.nD).tc : Thread Cert.HalvesRef.nD Cert.HalvesRef.τ).loc Cert.HalvesRef.main_arg4)
          ∧ r.2.mem (((0 : Dev Cert.HalvesRef.nD).tc : Thread Cert.HalvesRef.nD Cert.HalvesRef.τ).loc Cert.HalvesRef.main_arg5) = m' (((0 : Dev Cert.HalvesRef.nD).tc : Thread Cert.HalvesRef.nD Cert.HalvesRef.τ).loc Cert.HalvesRef.main_arg5)
          ∧ r.2.mem (((0 : Dev Cert.HalvesRef.nD).tc : Thread Cert.HalvesRef.nD Cert.HalvesRef.τ).loc Cert.HalvesRef.main_arg6) = m' (((0 : Dev Cert.HalvesRef.nD).tc : Thread Cert.HalvesRef.nD Cert.HalvesRef.τ).loc Cert.HalvesRef.main_arg6)
          ∧ r.2.mem (((0 : Dev Cert.HalvesRef.nD).tc : Thread Cert.HalvesRef.nD Cert.HalvesRef.τ).loc Cert.HalvesRef.main_arg7) = m' (((0 : Dev Cert.HalvesRef.nD).tc : Thread Cert.HalvesRef.nD Cert.HalvesRef.τ).loc Cert.HalvesRef.main_arg7))

def algebraic_HalvesIdeal_HalvesRefIdeal [hHalvesIdeal : Cert.HalvesIdeal.Facts] [hHalvesRefIdeal : Cert.HalvesRefIdeal.Facts] : Prop :=
  ∀ (m : (ℓ : Loc Cert.HalvesIdeal.nD Cert.HalvesIdeal.τ Cert.HalvesIdeal.sig) → Buf (Elt Ideal) ℓ) (g : Dev Cert.HalvesIdeal.nD → PrngReg)
    (m' : (ℓ : Loc Cert.HalvesRefIdeal.nD Cert.HalvesRefIdeal.τ Cert.HalvesRefIdeal.sig) → Buf (Elt Ideal) ℓ) (g' : Dev Cert.HalvesRefIdeal.nD → PrngReg), Pre_HalvesIdeal m →
    (∀ c : Dev Cert.HalvesIdeal.nD,
      m ((c.tc : Thread Cert.HalvesIdeal.nD Cert.HalvesIdeal.τ).loc Cert.HalvesIdeal.main_arg0) = Layout.block ⟨2, ![1024, 1408]⟩ ⟨2, ![8192, 1408]⟩ 0 8 c (m' (((0 : Dev Cert.HalvesRefIdeal.nD).tc : Thread Cert.HalvesRefIdeal.nD Cert.HalvesRefIdeal.τ).loc Cert.HalvesRefIdeal.main_arg0))
      ∧ m ((c.tc : Thread Cert.HalvesIdeal.nD Cert.HalvesIdeal.τ).loc Cert.HalvesIdeal.main_arg1) = Layout.block ⟨2, ![1024, 1408]⟩ ⟨2, ![8192, 1408]⟩ 0 8 c (m' (((0 : Dev Cert.HalvesRefIdeal.nD).tc : Thread Cert.HalvesRefIdeal.nD Cert.HalvesRefIdeal.τ).loc Cert.HalvesRefIdeal.main_arg1))
      ∧ m ((c.tc : Thread Cert.HalvesIdeal.nD Cert.HalvesIdeal.τ).loc Cert.HalvesIdeal.main_arg2) = Layout.block ⟨2, ![704, 2048]⟩ ⟨2, ![5632, 2048]⟩ 0 8 c (m' (((0 : Dev Cert.HalvesRefIdeal.nD).tc : Thread Cert.HalvesRefIdeal.nD Cert.HalvesRefIdeal.τ).loc Cert.HalvesRefIdeal.main_arg2))
      ∧ m ((c.tc : Thread Cert.HalvesIdeal.nD Cert.HalvesIdeal.τ).loc Cert.HalvesIdeal.main_arg3) = Layout.block ⟨2, ![1024, 1280]⟩ ⟨2, ![8192, 1280]⟩ 0 8 c (m' (((0 : Dev Cert.HalvesRefIdeal.nD).tc : Thread Cert.HalvesRefIdeal.nD Cert.HalvesRefIdeal.τ).loc Cert.HalvesRefIdeal.main_arg3))
      ∧ m ((c.tc : Thread Cert.HalvesIdeal.nD Cert.HalvesIdeal.τ).loc Cert.HalvesIdeal.main_arg4) = Layout.block ⟨2, ![256, 2048]⟩ ⟨2, ![2048, 2048]⟩ 0 8 c (m' (((0 : Dev Cert.HalvesRefIdeal.nD).tc : Thread Cert.HalvesRefIdeal.nD Cert.HalvesRefIdeal.τ).loc Cert.HalvesRefIdeal.main_arg4))
      ∧ m ((c.tc : Thread Cert.HalvesIdeal.nD Cert.HalvesIdeal.τ).loc Cert.HalvesIdeal.main_arg5) = Layout.block ⟨2, ![1024, 1408]⟩ ⟨2, ![8192, 1408]⟩ 0 8 c (m' (((0 : Dev Cert.HalvesRefIdeal.nD).tc : Thread Cert.HalvesRefIdeal.nD Cert.HalvesRefIdeal.τ).loc Cert.HalvesRefIdeal.main_arg5))
      ∧ m ((c.tc : Thread Cert.HalvesIdeal.nD Cert.HalvesIdeal.τ).loc Cert.HalvesIdeal.main_arg6) = Layout.block ⟨2, ![1024, 1408]⟩ ⟨2, ![8192, 1408]⟩ 0 8 c (m' (((0 : Dev Cert.HalvesRefIdeal.nD).tc : Thread Cert.HalvesRefIdeal.nD Cert.HalvesRefIdeal.τ).loc Cert.HalvesRefIdeal.main_arg6))
      ∧ m ((c.tc : Thread Cert.HalvesIdeal.nD Cert.HalvesIdeal.τ).loc Cert.HalvesIdeal.main_arg7) = Layout.block ⟨2, ![704, 2048]⟩ ⟨2, ![5632, 2048]⟩ 0 8 c (m' (((0 : Dev Cert.HalvesRefIdeal.nD).tc : Thread Cert.HalvesRefIdeal.nD Cert.HalvesRefIdeal.τ).loc Cert.HalvesRefIdeal.main_arg7))) →
    ∃ (v0 : Buf (Elt Ideal) (((0 : Dev Cert.HalvesRefIdeal.nD).tc : Thread Cert.HalvesRefIdeal.nD Cert.HalvesRefIdeal.τ).loc Cert.HalvesRefIdeal.main_v2)) (v1 : Buf (Elt Ideal) (((0 : Dev Cert.HalvesRefIdeal.nD).tc : Thread Cert.HalvesRefIdeal.nD Cert.HalvesRefIdeal.τ).loc Cert.HalvesRefIdeal.main_v5)) (v2 : Buf (Elt Ideal) (((0 : Dev Cert.HalvesRefIdeal.nD).tc : Thread Cert.HalvesRefIdeal.nD Cert.HalvesRefIdeal.τ).loc Cert.HalvesRefIdeal.main_v8)) (v3 : Buf (Elt Ideal) (((0 : Dev Cert.HalvesRefIdeal.nD).tc : Thread Cert.HalvesRefIdeal.nD Cert.HalvesRefIdeal.τ).loc Cert.HalvesRefIdeal.main_v11)) (v4 : Buf (Elt Ideal) (((0 : Dev Cert.HalvesRefIdeal.nD).tc : Thread Cert.HalvesRefIdeal.nD Cert.HalvesRefIdeal.τ).loc Cert.HalvesRefIdeal.main_v14)) (v5 : Buf (Elt Ideal) (((0 : Dev Cert.HalvesRefIdeal.nD).tc : Thread Cert.HalvesRefIdeal.nD Cert.HalvesRefIdeal.τ).loc Cert.HalvesRefIdeal.main_v17)) (v6 : Buf (Elt Ideal) (((0 : Dev Cert.HalvesRefIdeal.nD).tc : Thread Cert.HalvesRefIdeal.nD Cert.HalvesRefIdeal.τ).loc Cert.HalvesRefIdeal.main_v20)) (v7 : Buf (Elt Ideal) (((0 : Dev Cert.HalvesRefIdeal.nD).tc : Thread Cert.HalvesRefIdeal.nD Cert.HalvesRefIdeal.τ).loc Cert.HalvesRefIdeal.main_v23)),
      θ_run (Cert.HalvesIdeal.defs (F := Ideal)) (onTc (τ := Cert.HalvesIdeal.τ) (Cert.HalvesIdeal.main (F := Ideal))) ⟨m, fun _ => 0, g⟩ (fun r => ∀ c : Dev Cert.HalvesIdeal.nD,
          r.2.mem ((c.tc : Thread Cert.HalvesIdeal.nD Cert.HalvesIdeal.τ).loc Cert.HalvesIdeal.main_v1_0) = Layout.block ⟨2, ![2048, 1408]⟩ ⟨2, ![16384, 1408]⟩ 0 8 c v0
          ∧ r.2.mem ((c.tc : Thread Cert.HalvesIdeal.nD Cert.HalvesIdeal.τ).loc Cert.HalvesIdeal.main_v1_1) = Layout.block ⟨2, ![2048, 1408]⟩ ⟨2, ![16384, 1408]⟩ 0 8 c v1
          ∧ r.2.mem ((c.tc : Thread Cert.HalvesIdeal.nD Cert.HalvesIdeal.τ).loc Cert.HalvesIdeal.main_v1_2) = Layout.block ⟨2, ![1408, 2048]⟩ ⟨2, ![11264, 2048]⟩ 0 8 c v2
          ∧ r.2.mem ((c.tc : Thread Cert.HalvesIdeal.nD Cert.HalvesIdeal.τ).loc Cert.HalvesIdeal.main_v1_3) = Layout.block ⟨2, ![2048, 1280]⟩ ⟨2, ![16384, 1280]⟩ 0 8 c v3
          ∧ r.2.mem ((c.tc : Thread Cert.HalvesIdeal.nD Cert.HalvesIdeal.τ).loc Cert.HalvesIdeal.main_v1_4) = Layout.block ⟨2, ![512, 2048]⟩ ⟨2, ![4096, 2048]⟩ 0 8 c v4
          ∧ r.2.mem ((c.tc : Thread Cert.HalvesIdeal.nD Cert.HalvesIdeal.τ).loc Cert.HalvesIdeal.main_v1_5) = Layout.block ⟨2, ![2048, 1408]⟩ ⟨2, ![16384, 1408]⟩ 0 8 c v5
          ∧ r.2.mem ((c.tc : Thread Cert.HalvesIdeal.nD Cert.HalvesIdeal.τ).loc Cert.HalvesIdeal.main_v1_6) = Layout.block ⟨2, ![2048, 1408]⟩ ⟨2, ![16384, 1408]⟩ 0 8 c v6
          ∧ r.2.mem ((c.tc : Thread Cert.HalvesIdeal.nD Cert.HalvesIdeal.τ).loc Cert.HalvesIdeal.main_v1_7) = Layout.block ⟨2, ![1408, 2048]⟩ ⟨2, ![11264, 2048]⟩ 0 8 c v7
          ∧ r.2.mem ((c.tc : Thread Cert.HalvesIdeal.nD Cert.HalvesIdeal.τ).loc Cert.HalvesIdeal.main_arg0) = m ((c.tc : Thread Cert.HalvesIdeal.nD Cert.HalvesIdeal.τ).loc Cert.HalvesIdeal.main_arg0)
          ∧ r.2.mem ((c.tc : Thread Cert.HalvesIdeal.nD Cert.HalvesIdeal.τ).loc Cert.HalvesIdeal.main_arg1) = m ((c.tc : Thread Cert.HalvesIdeal.nD Cert.HalvesIdeal.τ).loc Cert.HalvesIdeal.main_arg1)
          ∧ r.2.mem ((c.tc : Thread Cert.HalvesIdeal.nD Cert.HalvesIdeal.τ).loc Cert.HalvesIdeal.main_arg2) = m ((c.tc : Thread Cert.HalvesIdeal.nD Cert.HalvesIdeal.τ).loc Cert.HalvesIdeal.main_arg2)
          ∧ r.2.mem ((c.tc : Thread Cert.HalvesIdeal.nD Cert.HalvesIdeal.τ).loc Cert.HalvesIdeal.main_arg3) = m ((c.tc : Thread Cert.HalvesIdeal.nD Cert.HalvesIdeal.τ).loc Cert.HalvesIdeal.main_arg3)
          ∧ r.2.mem ((c.tc : Thread Cert.HalvesIdeal.nD Cert.HalvesIdeal.τ).loc Cert.HalvesIdeal.main_arg4) = m ((c.tc : Thread Cert.HalvesIdeal.nD Cert.HalvesIdeal.τ).loc Cert.HalvesIdeal.main_arg4)
          ∧ r.2.mem ((c.tc : Thread Cert.HalvesIdeal.nD Cert.HalvesIdeal.τ).loc Cert.HalvesIdeal.main_arg5) = m ((c.tc : Thread Cert.HalvesIdeal.nD Cert.HalvesIdeal.τ).loc Cert.HalvesIdeal.main_arg5)
          ∧ r.2.mem ((c.tc : Thread Cert.HalvesIdeal.nD Cert.HalvesIdeal.τ).loc Cert.HalvesIdeal.main_arg6) = m ((c.tc : Thread Cert.HalvesIdeal.nD Cert.HalvesIdeal.τ).loc Cert.HalvesIdeal.main_arg6)
          ∧ r.2.mem ((c.tc : Thread Cert.HalvesIdeal.nD Cert.HalvesIdeal.τ).loc Cert.HalvesIdeal.main_arg7) = m ((c.tc : Thread Cert.HalvesIdeal.nD Cert.HalvesIdeal.τ).loc Cert.HalvesIdeal.main_arg7))
      ∧ θ_run (Cert.HalvesRefIdeal.defs (F := Ideal)) (onTc (τ := Cert.HalvesRefIdeal.τ) (Cert.HalvesRefIdeal.main (F := Ideal))) ⟨m', fun _ => 0, g'⟩ (fun r =>
          r.2.mem (((0 : Dev Cert.HalvesRefIdeal.nD).tc : Thread Cert.HalvesRefIdeal.nD Cert.HalvesRefIdeal.τ).loc Cert.HalvesRefIdeal.main_v2) = v0
          ∧ r.2.mem (((0 : Dev Cert.HalvesRefIdeal.nD).tc : Thread Cert.HalvesRefIdeal.nD Cert.HalvesRefIdeal.τ).loc Cert.HalvesRefIdeal.main_v5) = v1
          ∧ r.2.mem (((0 : Dev Cert.HalvesRefIdeal.nD).tc : Thread Cert.HalvesRefIdeal.nD Cert.HalvesRefIdeal.τ).loc Cert.HalvesRefIdeal.main_v8) = v2
          ∧ r.2.mem (((0 : Dev Cert.HalvesRefIdeal.nD).tc : Thread Cert.HalvesRefIdeal.nD Cert.HalvesRefIdeal.τ).loc Cert.HalvesRefIdeal.main_v11) = v3
          ∧ r.2.mem (((0 : Dev Cert.HalvesRefIdeal.nD).tc : Thread Cert.HalvesRefIdeal.nD Cert.HalvesRefIdeal.τ).loc Cert.HalvesRefIdeal.main_v14) = v4
          ∧ r.2.mem (((0 : Dev Cert.HalvesRefIdeal.nD).tc : Thread Cert.HalvesRefIdeal.nD Cert.HalvesRefIdeal.τ).loc Cert.HalvesRefIdeal.main_v17) = v5
          ∧ r.2.mem (((0 : Dev Cert.HalvesRefIdeal.nD).tc : Thread Cert.HalvesRefIdeal.nD Cert.HalvesRefIdeal.τ).loc Cert.HalvesRefIdeal.main_v20) = v6
          ∧ r.2.mem (((0 : Dev Cert.HalvesRefIdeal.nD).tc : Thread Cert.HalvesRefIdeal.nD Cert.HalvesRefIdeal.τ).loc Cert.HalvesRefIdeal.main_v23) = v7
          ∧ r.2.mem (((0 : Dev Cert.HalvesRefIdeal.nD).tc : Thread Cert.HalvesRefIdeal.nD Cert.HalvesRefIdeal.τ).loc Cert.HalvesRefIdeal.main_arg0) = m' (((0 : Dev Cert.HalvesRefIdeal.nD).tc : Thread Cert.HalvesRefIdeal.nD Cert.HalvesRefIdeal.τ).loc Cert.HalvesRefIdeal.main_arg0)
          ∧ r.2.mem (((0 : Dev Cert.HalvesRefIdeal.nD).tc : Thread Cert.HalvesRefIdeal.nD Cert.HalvesRefIdeal.τ).loc Cert.HalvesRefIdeal.main_arg1) = m' (((0 : Dev Cert.HalvesRefIdeal.nD).tc : Thread Cert.HalvesRefIdeal.nD Cert.HalvesRefIdeal.τ).loc Cert.HalvesRefIdeal.main_arg1)
          ∧ r.2.mem (((0 : Dev Cert.HalvesRefIdeal.nD).tc : Thread Cert.HalvesRefIdeal.nD Cert.HalvesRefIdeal.τ).loc Cert.HalvesRefIdeal.main_arg2) = m' (((0 : Dev Cert.HalvesRefIdeal.nD).tc : Thread Cert.HalvesRefIdeal.nD Cert.HalvesRefIdeal.τ).loc Cert.HalvesRefIdeal.main_arg2)
          ∧ r.2.mem (((0 : Dev Cert.HalvesRefIdeal.nD).tc : Thread Cert.HalvesRefIdeal.nD Cert.HalvesRefIdeal.τ).loc Cert.HalvesRefIdeal.main_arg3) = m' (((0 : Dev Cert.HalvesRefIdeal.nD).tc : Thread Cert.HalvesRefIdeal.nD Cert.HalvesRefIdeal.τ).loc Cert.HalvesRefIdeal.main_arg3)
          ∧ r.2.mem (((0 : Dev Cert.HalvesRefIdeal.nD).tc : Thread Cert.HalvesRefIdeal.nD Cert.HalvesRefIdeal.τ).loc Cert.HalvesRefIdeal.main_arg4) = m' (((0 : Dev Cert.HalvesRefIdeal.nD).tc : Thread Cert.HalvesRefIdeal.nD Cert.HalvesRefIdeal.τ).loc Cert.HalvesRefIdeal.main_arg4)
          ∧ r.2.mem (((0 : Dev Cert.HalvesRefIdeal.nD).tc : Thread Cert.HalvesRefIdeal.nD Cert.HalvesRefIdeal.τ).loc Cert.HalvesRefIdeal.main_arg5) = m' (((0 : Dev Cert.HalvesRefIdeal.nD).tc : Thread Cert.HalvesRefIdeal.nD Cert.HalvesRefIdeal.τ).loc Cert.HalvesRefIdeal.main_arg5)
          ∧ r.2.mem (((0 : Dev Cert.HalvesRefIdeal.nD).tc : Thread Cert.HalvesRefIdeal.nD Cert.HalvesRefIdeal.τ).loc Cert.HalvesRefIdeal.main_arg6) = m' (((0 : Dev Cert.HalvesRefIdeal.nD).tc : Thread Cert.HalvesRefIdeal.nD Cert.HalvesRefIdeal.τ).loc Cert.HalvesRefIdeal.main_arg6)
          ∧ r.2.mem (((0 : Dev Cert.HalvesRefIdeal.nD).tc : Thread Cert.HalvesRefIdeal.nD Cert.HalvesRefIdeal.τ).loc Cert.HalvesRefIdeal.main_arg7) = m' (((0 : Dev Cert.HalvesRefIdeal.nD).tc : Thread Cert.HalvesRefIdeal.nD Cert.HalvesRefIdeal.τ).loc Cert.HalvesRefIdeal.main_arg7))

def preserves_Gather_GatherIdeal : Prop :=
  True

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.blockN ⟨2, ![2048, 1408]⟩ ⟨2, ![8192, 1408]⟩ (Layout.meshBlock [2, 2, 2] ![[0, 1], []] c) (m' (((0 : Dev Cert.GatherRef.nD).tc : Thread Cert.GatherRef.nD Cert.GatherRef.τ).loc Cert.GatherRef.main_arg0))
      ∧ m ((c.tc : Thread Cert.Gather.nD Cert.Gather.τ).loc Cert.Gather.main_arg1) = Layout.blockN ⟨2, ![2048, 1408]⟩ ⟨2, ![8192, 1408]⟩ (Layout.meshBlock [2, 2, 2] ![[0, 1], []] c) (m' (((0 : Dev Cert.GatherRef.nD).tc : Thread Cert.GatherRef.nD Cert.GatherRef.τ).loc Cert.GatherRef.main_arg1))
      ∧ m ((c.tc : Thread Cert.Gather.nD Cert.Gather.τ).loc Cert.Gather.main_arg2) = Layout.blockN ⟨2, ![1408, 2048]⟩ ⟨2, ![5632, 2048]⟩ (Layout.meshBlock [2, 2, 2] ![[0, 1], []] c) (m' (((0 : Dev Cert.GatherRef.nD).tc : Thread Cert.GatherRef.nD Cert.GatherRef.τ).loc Cert.GatherRef.main_arg2))
      ∧ m ((c.tc : Thread Cert.Gather.nD Cert.Gather.τ).loc Cert.Gather.main_arg3) = Layout.blockN ⟨2, ![2048, 1280]⟩ ⟨2, ![8192, 1280]⟩ (Layout.meshBlock [2, 2, 2] ![[0, 1], []] c) (m' (((0 : Dev Cert.GatherRef.nD).tc : Thread Cert.GatherRef.nD Cert.GatherRef.τ).loc Cert.GatherRef.main_arg3))
      ∧ m ((c.tc : Thread Cert.Gather.nD Cert.Gather.τ).loc Cert.Gather.main_arg4) = Layout.blockN ⟨2, ![512, 2048]⟩ ⟨2, ![2048, 2048]⟩ (Layout.meshBlock [2, 2, 2] ![[0, 1], []] c) (m' (((0 : Dev Cert.GatherRef.nD).tc : Thread Cert.GatherRef.nD Cert.GatherRef.τ).loc Cert.GatherRef.main_arg4))
      ∧ m ((c.tc : Thread Cert.Gather.nD Cert.Gather.τ).loc Cert.Gather.main_arg5) = Layout.blockN ⟨2, ![2048, 1408]⟩ ⟨2, ![8192, 1408]⟩ (Layout.meshBlock [2, 2, 2] ![[0, 1], []] c) (m' (((0 : Dev Cert.GatherRef.nD).tc : Thread Cert.GatherRef.nD Cert.GatherRef.τ).loc Cert.GatherRef.main_arg5))
      ∧ m ((c.tc : Thread Cert.Gather.nD Cert.Gather.τ).loc Cert.Gather.main_arg6) = Layout.blockN ⟨2, ![2048, 1408]⟩ ⟨2, ![8192, 1408]⟩ (Layout.meshBlock [2, 2, 2] ![[0, 1], []] c) (m' (((0 : Dev Cert.GatherRef.nD).tc : Thread Cert.GatherRef.nD Cert.GatherRef.τ).loc Cert.GatherRef.main_arg6))
      ∧ m ((c.tc : Thread Cert.Gather.nD Cert.Gather.τ).loc Cert.Gather.main_arg7) = Layout.blockN ⟨2, ![1408, 2048]⟩ ⟨2, ![5632, 2048]⟩ (Layout.meshBlock [2, 2, 2] ![[0, 1], []] c) (m' (((0 : Dev Cert.GatherRef.nD).tc : Thread Cert.GatherRef.nD Cert.GatherRef.τ).loc Cert.GatherRef.main_arg7))
      ∧ m ((c.tc : Thread Cert.Gather.nD Cert.Gather.τ).loc Cert.Gather.main_arg8) = Layout.blockN ⟨2, ![8, 256]⟩ ⟨2, ![32, 256]⟩ (Layout.meshBlock [2, 2, 2] ![[0, 1], []] c) (m' (((0 : Dev Cert.GatherRef.nD).tc : Thread Cert.GatherRef.nD Cert.GatherRef.τ).loc Cert.GatherRef.main_arg8))) →
    ∃ (v0 : Buf (Elt Bits) (((0 : Dev Cert.GatherRef.nD).tc : Thread Cert.GatherRef.nD Cert.GatherRef.τ).loc Cert.GatherRef.main_v0)) (v1 : Buf (Elt Bits) (((0 : Dev Cert.GatherRef.nD).tc : Thread Cert.GatherRef.nD Cert.GatherRef.τ).loc Cert.GatherRef.main_v1)) (v2 : Buf (Elt Bits) (((0 : Dev Cert.GatherRef.nD).tc : Thread Cert.GatherRef.nD Cert.GatherRef.τ).loc Cert.GatherRef.main_v2)) (v3 : Buf (Elt Bits) (((0 : Dev Cert.GatherRef.nD).tc : Thread Cert.GatherRef.nD Cert.GatherRef.τ).loc Cert.GatherRef.main_v3)) (v4 : Buf (Elt Bits) (((0 : Dev Cert.GatherRef.nD).tc : Thread Cert.GatherRef.nD Cert.GatherRef.τ).loc Cert.GatherRef.main_v4)) (v5 : Buf (Elt Bits) (((0 : Dev Cert.GatherRef.nD).tc : Thread Cert.GatherRef.nD Cert.GatherRef.τ).loc Cert.GatherRef.main_v5)) (v6 : Buf (Elt Bits) (((0 : Dev Cert.GatherRef.nD).tc : Thread Cert.GatherRef.nD Cert.GatherRef.τ).loc Cert.GatherRef.main_v6)) (v7 : Buf (Elt Bits) (((0 : Dev Cert.GatherRef.nD).tc : Thread Cert.GatherRef.nD Cert.GatherRef.τ).loc Cert.GatherRef.main_v7)) (v8 : Buf (Elt Bits) (((0 : Dev Cert.GatherRef.nD).tc : Thread Cert.GatherRef.nD Cert.GatherRef.τ).loc Cert.GatherRef.main_v8)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_v1_3) = v3
          ∧ r.2.mem ((c.tc : Thread Cert.Gather.nD Cert.Gather.τ).loc Cert.Gather.main_v1_4) = v4
          ∧ r.2.mem ((c.tc : Thread Cert.Gather.nD Cert.Gather.τ).loc Cert.Gather.main_v1_5) = v5
          ∧ r.2.mem ((c.tc : Thread Cert.Gather.nD Cert.Gather.τ).loc Cert.Gather.main_v1_6) = v6
          ∧ r.2.mem ((c.tc : Thread Cert.Gather.nD Cert.Gather.τ).loc Cert.Gather.main_v1_7) = v7
          ∧ r.2.mem ((c.tc : Thread Cert.Gather.nD Cert.Gather.τ).loc Cert.Gather.main_v1_8) = v8
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3)
          ∧ r.2.mem ((c.tc : Thread Cert.Gather.nD Cert.Gather.τ).loc Cert.Gather.main_arg4) = m ((c.tc : Thread Cert.Gather.nD Cert.Gather.τ).loc Cert.Gather.main_arg4)
          ∧ r.2.mem ((c.tc : Thread Cert.Gather.nD Cert.Gather.τ).loc Cert.Gather.main_arg5) = m ((c.tc : Thread Cert.Gather.nD Cert.Gather.τ).loc Cert.Gather.main_arg5)
          ∧ r.2.mem ((c.tc : Thread Cert.Gather.nD Cert.Gather.τ).loc Cert.Gather.main_arg6) = m ((c.tc : Thread Cert.Gather.nD Cert.Gather.τ).loc Cert.Gather.main_arg6)
          ∧ r.2.mem ((c.tc : Thread Cert.Gather.nD Cert.Gather.τ).loc Cert.Gather.main_arg7) = m ((c.tc : Thread Cert.Gather.nD Cert.Gather.τ).loc Cert.Gather.main_arg7)
          ∧ r.2.mem ((c.tc : Thread Cert.Gather.nD Cert.Gather.τ).loc Cert.Gather.main_arg8) = m ((c.tc : Thread Cert.Gather.nD Cert.Gather.τ).loc Cert.Gather.main_arg8))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_v1) = v1
          ∧ r.2.mem (((0 : Dev Cert.GatherRef.nD).tc : Thread Cert.GatherRef.nD Cert.GatherRef.τ).loc Cert.GatherRef.main_v2) = v2
          ∧ r.2.mem (((0 : Dev Cert.GatherRef.nD).tc : Thread Cert.GatherRef.nD Cert.GatherRef.τ).loc Cert.GatherRef.main_v3) = v3
          ∧ r.2.mem (((0 : Dev Cert.GatherRef.nD).tc : Thread Cert.GatherRef.nD Cert.GatherRef.τ).loc Cert.GatherRef.main_v4) = v4
          ∧ r.2.mem (((0 : Dev Cert.GatherRef.nD).tc : Thread Cert.GatherRef.nD Cert.GatherRef.τ).loc Cert.GatherRef.main_v5) = v5
          ∧ r.2.mem (((0 : Dev Cert.GatherRef.nD).tc : Thread Cert.GatherRef.nD Cert.GatherRef.τ).loc Cert.GatherRef.main_v6) = v6
          ∧ r.2.mem (((0 : Dev Cert.GatherRef.nD).tc : Thread Cert.GatherRef.nD Cert.GatherRef.τ).loc Cert.GatherRef.main_v7) = v7
          ∧ r.2.mem (((0 : Dev Cert.GatherRef.nD).tc : Thread Cert.GatherRef.nD Cert.GatherRef.τ).loc Cert.GatherRef.main_v8) = v8
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0)
          ∧ r.2.mem (((0 : Dev Cert.GatherRef.nD).tc : Thread Cert.GatherRef.nD Cert.GatherRef.τ).loc Cert.GatherRef.main_arg1) = m' (((0 : Dev Cert.GatherRef.nD).tc : Thread Cert.GatherRef.nD Cert.GatherRef.τ).loc Cert.GatherRef.main_arg1)
          ∧ r.2.mem (((0 : Dev Cert.GatherRef.nD).tc : Thread Cert.GatherRef.nD Cert.GatherRef.τ).loc Cert.GatherRef.main_arg2) = m' (((0 : Dev Cert.GatherRef.nD).tc : Thread Cert.GatherRef.nD Cert.GatherRef.τ).loc Cert.GatherRef.main_arg2)
          ∧ r.2.mem (((0 : Dev Cert.GatherRef.nD).tc : Thread Cert.GatherRef.nD Cert.GatherRef.τ).loc Cert.GatherRef.main_arg3) = m' (((0 : Dev Cert.GatherRef.nD).tc : Thread Cert.GatherRef.nD Cert.GatherRef.τ).loc Cert.GatherRef.main_arg3)
          ∧ r.2.mem (((0 : Dev Cert.GatherRef.nD).tc : Thread Cert.GatherRef.nD Cert.GatherRef.τ).loc Cert.GatherRef.main_arg4) = m' (((0 : Dev Cert.GatherRef.nD).tc : Thread Cert.GatherRef.nD Cert.GatherRef.τ).loc Cert.GatherRef.main_arg4)
          ∧ r.2.mem (((0 : Dev Cert.GatherRef.nD).tc : Thread Cert.GatherRef.nD Cert.GatherRef.τ).loc Cert.GatherRef.main_arg5) = m' (((0 : Dev Cert.GatherRef.nD).tc : Thread Cert.GatherRef.nD Cert.GatherRef.τ).loc Cert.GatherRef.main_arg5)
          ∧ r.2.mem (((0 : Dev Cert.GatherRef.nD).tc : Thread Cert.GatherRef.nD Cert.GatherRef.τ).loc Cert.GatherRef.main_arg6) = m' (((0 : Dev Cert.GatherRef.nD).tc : Thread Cert.GatherRef.nD Cert.GatherRef.τ).loc Cert.GatherRef.main_arg6)
          ∧ r.2.mem (((0 : Dev Cert.GatherRef.nD).tc : Thread Cert.GatherRef.nD Cert.GatherRef.τ).loc Cert.GatherRef.main_arg7) = m' (((0 : Dev Cert.GatherRef.nD).tc : Thread Cert.GatherRef.nD Cert.GatherRef.τ).loc Cert.GatherRef.main_arg7)
          ∧ r.2.mem (((0 : Dev Cert.GatherRef.nD).tc : Thread Cert.GatherRef.nD Cert.GatherRef.τ).loc Cert.GatherRef.main_arg8) = m' (((0 : Dev Cert.GatherRef.nD).tc : Thread Cert.GatherRef.nD Cert.GatherRef.τ).loc Cert.GatherRef.main_arg8))

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![2048, 1408]⟩ ⟨2, ![8192, 1408]⟩ (Layout.meshBlock [2, 2, 2] ![[0, 1], []] c) (m' (((0 : Dev Cert.GatherRefIdeal.nD).tc : Thread Cert.GatherRefIdeal.nD Cert.GatherRefIdeal.τ).loc Cert.GatherRefIdeal.main_arg0))
      ∧ m ((c.tc : Thread Cert.GatherIdeal.nD Cert.GatherIdeal.τ).loc Cert.GatherIdeal.main_arg1) = Layout.blockN ⟨2, ![2048, 1408]⟩ ⟨2, ![8192, 1408]⟩ (Layout.meshBlock [2, 2, 2] ![[0, 1], []] c) (m' (((0 : Dev Cert.GatherRefIdeal.nD).tc : Thread Cert.GatherRefIdeal.nD Cert.GatherRefIdeal.τ).loc Cert.GatherRefIdeal.main_arg1))
      ∧ m ((c.tc : Thread Cert.GatherIdeal.nD Cert.GatherIdeal.τ).loc Cert.GatherIdeal.main_arg2) = Layout.blockN ⟨2, ![1408, 2048]⟩ ⟨2, ![5632, 2048]⟩ (Layout.meshBlock [2, 2, 2] ![[0, 1], []] c) (m' (((0 : Dev Cert.GatherRefIdeal.nD).tc : Thread Cert.GatherRefIdeal.nD Cert.GatherRefIdeal.τ).loc Cert.GatherRefIdeal.main_arg2))
      ∧ m ((c.tc : Thread Cert.GatherIdeal.nD Cert.GatherIdeal.τ).loc Cert.GatherIdeal.main_arg3) = Layout.blockN ⟨2, ![2048, 1280]⟩ ⟨2, ![8192, 1280]⟩ (Layout.meshBlock [2, 2, 2] ![[0, 1], []] c) (m' (((0 : Dev Cert.GatherRefIdeal.nD).tc : Thread Cert.GatherRefIdeal.nD Cert.GatherRefIdeal.τ).loc Cert.GatherRefIdeal.main_arg3))
      ∧ m ((c.tc : Thread Cert.GatherIdeal.nD Cert.GatherIdeal.τ).loc Cert.GatherIdeal.main_arg4) = Layout.blockN ⟨2, ![512, 2048]⟩ ⟨2, ![2048, 2048]⟩ (Layout.meshBlock [2, 2, 2] ![[0, 1], []] c) (m' (((0 : Dev Cert.GatherRefIdeal.nD).tc : Thread Cert.GatherRefIdeal.nD Cert.GatherRefIdeal.τ).loc Cert.GatherRefIdeal.main_arg4))
      ∧ m ((c.tc : Thread Cert.GatherIdeal.nD Cert.GatherIdeal.τ).loc Cert.GatherIdeal.main_arg5) = Layout.blockN ⟨2, ![2048, 1408]⟩ ⟨2, ![8192, 1408]⟩ (Layout.meshBlock [2, 2, 2] ![[0, 1], []] c) (m' (((0 : Dev Cert.GatherRefIdeal.nD).tc : Thread Cert.GatherRefIdeal.nD Cert.GatherRefIdeal.τ).loc Cert.GatherRefIdeal.main_arg5))
      ∧ m ((c.tc : Thread Cert.GatherIdeal.nD Cert.GatherIdeal.τ).loc Cert.GatherIdeal.main_arg6) = Layout.blockN ⟨2, ![2048, 1408]⟩ ⟨2, ![8192, 1408]⟩ (Layout.meshBlock [2, 2, 2] ![[0, 1], []] c) (m' (((0 : Dev Cert.GatherRefIdeal.nD).tc : Thread Cert.GatherRefIdeal.nD Cert.GatherRefIdeal.τ).loc Cert.GatherRefIdeal.main_arg6))
      ∧ m ((c.tc : Thread Cert.GatherIdeal.nD Cert.GatherIdeal.τ).loc Cert.GatherIdeal.main_arg7) = Layout.blockN ⟨2, ![1408, 2048]⟩ ⟨2, ![5632, 2048]⟩ (Layout.meshBlock [2, 2, 2] ![[0, 1], []] c) (m' (((0 : Dev Cert.GatherRefIdeal.nD).tc : Thread Cert.GatherRefIdeal.nD Cert.GatherRefIdeal.τ).loc Cert.GatherRefIdeal.main_arg7))
      ∧ m ((c.tc : Thread Cert.GatherIdeal.nD Cert.GatherIdeal.τ).loc Cert.GatherIdeal.main_arg8) = Layout.blockN ⟨2, ![8, 256]⟩ ⟨2, ![32, 256]⟩ (Layout.meshBlock [2, 2, 2] ![[0, 1], []] c) (m' (((0 : Dev Cert.GatherRefIdeal.nD).tc : Thread Cert.GatherRefIdeal.nD Cert.GatherRefIdeal.τ).loc Cert.GatherRefIdeal.main_arg8))) →
    ∃ (v0 : Buf (Elt Ideal) (((0 : Dev Cert.GatherRefIdeal.nD).tc : Thread Cert.GatherRefIdeal.nD Cert.GatherRefIdeal.τ).loc Cert.GatherRefIdeal.main_v0)) (v1 : Buf (Elt Ideal) (((0 : Dev Cert.GatherRefIdeal.nD).tc : Thread Cert.GatherRefIdeal.nD Cert.GatherRefIdeal.τ).loc Cert.GatherRefIdeal.main_v1)) (v2 : Buf (Elt Ideal) (((0 : Dev Cert.GatherRefIdeal.nD).tc : Thread Cert.GatherRefIdeal.nD Cert.GatherRefIdeal.τ).loc Cert.GatherRefIdeal.main_v2)) (v3 : Buf (Elt Ideal) (((0 : Dev Cert.GatherRefIdeal.nD).tc : Thread Cert.GatherRefIdeal.nD Cert.GatherRefIdeal.τ).loc Cert.GatherRefIdeal.main_v3)) (v4 : Buf (Elt Ideal) (((0 : Dev Cert.GatherRefIdeal.nD).tc : Thread Cert.GatherRefIdeal.nD Cert.GatherRefIdeal.τ).loc Cert.GatherRefIdeal.main_v4)) (v5 : Buf (Elt Ideal) (((0 : Dev Cert.GatherRefIdeal.nD).tc : Thread Cert.GatherRefIdeal.nD Cert.GatherRefIdeal.τ).loc Cert.GatherRefIdeal.main_v5)) (v6 : Buf (Elt Ideal) (((0 : Dev Cert.GatherRefIdeal.nD).tc : Thread Cert.GatherRefIdeal.nD Cert.GatherRefIdeal.τ).loc Cert.GatherRefIdeal.main_v6)) (v7 : Buf (Elt Ideal) (((0 : Dev Cert.GatherRefIdeal.nD).tc : Thread Cert.GatherRefIdeal.nD Cert.GatherRefIdeal.τ).loc Cert.GatherRefIdeal.main_v7)) (v8 : Buf (Elt Ideal) (((0 : Dev Cert.GatherRefIdeal.nD).tc : Thread Cert.GatherRefIdeal.nD Cert.GatherRefIdeal.τ).loc Cert.GatherRefIdeal.main_v8)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_v1_4) = v4
          ∧ r.2.mem ((c.tc : Thread Cert.GatherIdeal.nD Cert.GatherIdeal.τ).loc Cert.GatherIdeal.main_v1_5) = v5
          ∧ r.2.mem ((c.tc : Thread Cert.GatherIdeal.nD Cert.GatherIdeal.τ).loc Cert.GatherIdeal.main_v1_6) = v6
          ∧ r.2.mem ((c.tc : Thread Cert.GatherIdeal.nD Cert.GatherIdeal.τ).loc Cert.GatherIdeal.main_v1_7) = v7
          ∧ r.2.mem ((c.tc : Thread Cert.GatherIdeal.nD Cert.GatherIdeal.τ).loc Cert.GatherIdeal.main_v1_8) = v8
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
          ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
          ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6)
          ∧ r.2.mem ((c.tc : Thread Cert.GatherIdeal.nD Cert.GatherIdeal.τ).loc Cert.GatherIdeal.main_arg7) = m ((c.tc : Thread Cert.GatherIdeal.nD Cert.GatherIdeal.τ).loc Cert.GatherIdeal.main_arg7)
          ∧ r.2.mem ((c.tc : Thread Cert.GatherIdeal.nD Cert.GatherIdeal.τ).loc Cert.GatherIdeal.main_arg8) = m ((c.tc : Thread Cert.GatherIdeal.nD Cert.GatherIdeal.τ).loc Cert.GatherIdeal.main_arg8))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_v1) = v1
          ∧ r.2.mem (((0 : Dev Cert.GatherRefIdeal.nD).tc : Thread Cert.GatherRefIdeal.nD Cert.GatherRefIdeal.τ).loc Cert.GatherRefIdeal.main_v2) = v2
          ∧ r.2.mem (((0 : Dev Cert.GatherRefIdeal.nD).tc : Thread Cert.GatherRefIdeal.nD Cert.GatherRefIdeal.τ).loc Cert.GatherRefIdeal.main_v3) = v3
          ∧ r.2.mem (((0 : Dev Cert.GatherRefIdeal.nD).tc : Thread Cert.GatherRefIdeal.nD Cert.GatherRefIdeal.τ).loc Cert.GatherRefIdeal.main_v4) = v4
          ∧ r.2.mem (((0 : Dev Cert.GatherRefIdeal.nD).tc : Thread Cert.GatherRefIdeal.nD Cert.GatherRefIdeal.τ).loc Cert.GatherRefIdeal.main_v5) = v5
          ∧ r.2.mem (((0 : Dev Cert.GatherRefIdeal.nD).tc : Thread Cert.GatherRefIdeal.nD Cert.GatherRefIdeal.τ).loc Cert.GatherRefIdeal.main_v6) = v6
          ∧ r.2.mem (((0 : Dev Cert.GatherRefIdeal.nD).tc : Thread Cert.GatherRefIdeal.nD Cert.GatherRefIdeal.τ).loc Cert.GatherRefIdeal.main_v7) = v7
          ∧ r.2.mem (((0 : Dev Cert.GatherRefIdeal.nD).tc : Thread Cert.GatherRefIdeal.nD Cert.GatherRefIdeal.τ).loc Cert.GatherRefIdeal.main_v8) = v8
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0)
          ∧ r.2.mem (((0 : Dev Cert.GatherRefIdeal.nD).tc : Thread Cert.GatherRefIdeal.nD Cert.GatherRefIdeal.τ).loc Cert.GatherRefIdeal.main_arg1) = m' (((0 : Dev Cert.GatherRefIdeal.nD).tc : Thread Cert.GatherRefIdeal.nD Cert.GatherRefIdeal.τ).loc Cert.GatherRefIdeal.main_arg1)
          ∧ r.2.mem (((0 : Dev Cert.GatherRefIdeal.nD).tc : Thread Cert.GatherRefIdeal.nD Cert.GatherRefIdeal.τ).loc Cert.GatherRefIdeal.main_arg2) = m' (((0 : Dev Cert.GatherRefIdeal.nD).tc : Thread Cert.GatherRefIdeal.nD Cert.GatherRefIdeal.τ).loc Cert.GatherRefIdeal.main_arg2)
          ∧ r.2.mem (((0 : Dev Cert.GatherRefIdeal.nD).tc : Thread Cert.GatherRefIdeal.nD Cert.GatherRefIdeal.τ).loc Cert.GatherRefIdeal.main_arg3) = m' (((0 : Dev Cert.GatherRefIdeal.nD).tc : Thread Cert.GatherRefIdeal.nD Cert.GatherRefIdeal.τ).loc Cert.GatherRefIdeal.main_arg3)
          ∧ r.2.mem (((0 : Dev Cert.GatherRefIdeal.nD).tc : Thread Cert.GatherRefIdeal.nD Cert.GatherRefIdeal.τ).loc Cert.GatherRefIdeal.main_arg4) = m' (((0 : Dev Cert.GatherRefIdeal.nD).tc : Thread Cert.GatherRefIdeal.nD Cert.GatherRefIdeal.τ).loc Cert.GatherRefIdeal.main_arg4)
          ∧ r.2.mem (((0 : Dev Cert.GatherRefIdeal.nD).tc : Thread Cert.GatherRefIdeal.nD Cert.GatherRefIdeal.τ).loc Cert.GatherRefIdeal.main_arg5) = m' (((0 : Dev Cert.GatherRefIdeal.nD).tc : Thread Cert.GatherRefIdeal.nD Cert.GatherRefIdeal.τ).loc Cert.GatherRefIdeal.main_arg5)
          ∧ r.2.mem (((0 : Dev Cert.GatherRefIdeal.nD).tc : Thread Cert.GatherRefIdeal.nD Cert.GatherRefIdeal.τ).loc Cert.GatherRefIdeal.main_arg6) = m' (((0 : Dev Cert.GatherRefIdeal.nD).tc : Thread Cert.GatherRefIdeal.nD Cert.GatherRefIdeal.τ).loc Cert.GatherRefIdeal.main_arg6)
          ∧ r.2.mem (((0 : Dev Cert.GatherRefIdeal.nD).tc : Thread Cert.GatherRefIdeal.nD Cert.GatherRefIdeal.τ).loc Cert.GatherRefIdeal.main_arg7) = m' (((0 : Dev Cert.GatherRefIdeal.nD).tc : Thread Cert.GatherRefIdeal.nD Cert.GatherRefIdeal.τ).loc Cert.GatherRefIdeal.main_arg7)
          ∧ r.2.mem (((0 : Dev Cert.GatherRefIdeal.nD).tc : Thread Cert.GatherRefIdeal.nD Cert.GatherRefIdeal.τ).loc Cert.GatherRefIdeal.main_arg8) = m' (((0 : Dev Cert.GatherRefIdeal.nD).tc : Thread Cert.GatherRefIdeal.nD Cert.GatherRefIdeal.τ).loc Cert.GatherRefIdeal.main_arg8))

def preserves_AdamCols_AdamColsIdeal : Prop :=
  True

def algebraic_AdamColsIdeal_AdamColsRefIdeal [hAdamColsIdeal : Cert.AdamColsIdeal.Facts] [hAdamColsRefIdeal : Cert.AdamColsRefIdeal.Facts] : Prop :=
  ∀ (m : (ℓ : Loc Cert.AdamColsIdeal.nD Cert.AdamColsIdeal.τ Cert.AdamColsIdeal.sig) → Buf (Elt Ideal) ℓ) (g : Dev Cert.AdamColsIdeal.nD → PrngReg)
    (m' : (ℓ : Loc Cert.AdamColsRefIdeal.nD Cert.AdamColsRefIdeal.τ Cert.AdamColsRefIdeal.sig) → Buf (Elt Ideal) ℓ) (g' : Dev Cert.AdamColsRefIdeal.nD → PrngReg), Pre_AdamColsIdeal m →
    (∀ c : Dev Cert.AdamColsIdeal.nD,
      m' ((c.tc : Thread Cert.AdamColsRefIdeal.nD Cert.AdamColsRefIdeal.τ).loc Cert.AdamColsRefIdeal.main_arg0) = m ((c.tc : Thread Cert.AdamColsIdeal.nD Cert.AdamColsIdeal.τ).loc Cert.AdamColsIdeal.main_arg0)
      ∧ m' ((c.tc : Thread Cert.AdamColsRefIdeal.nD Cert.AdamColsRefIdeal.τ).loc Cert.AdamColsRefIdeal.main_arg1) = m ((c.tc : Thread Cert.AdamColsIdeal.nD Cert.AdamColsIdeal.τ).loc Cert.AdamColsIdeal.main_arg1)
      ∧ m' ((c.tc : Thread Cert.AdamColsRefIdeal.nD Cert.AdamColsRefIdeal.τ).loc Cert.AdamColsRefIdeal.main_arg2) = m ((c.tc : Thread Cert.AdamColsIdeal.nD Cert.AdamColsIdeal.τ).loc Cert.AdamColsIdeal.main_arg2)
      ∧ m' ((c.tc : Thread Cert.AdamColsRefIdeal.nD Cert.AdamColsRefIdeal.τ).loc Cert.AdamColsRefIdeal.main_arg3) = m ((c.tc : Thread Cert.AdamColsIdeal.nD Cert.AdamColsIdeal.τ).loc Cert.AdamColsIdeal.main_arg3)) →
    ∃ (v0 : (c : Dev Cert.AdamColsIdeal.nD) → Buf (Elt Ideal) ((c.tc : Thread Cert.AdamColsIdeal.nD Cert.AdamColsIdeal.τ).loc Cert.AdamColsIdeal.main_v0_0)) (v1 : (c : Dev Cert.AdamColsIdeal.nD) → Buf (Elt Ideal) ((c.tc : Thread Cert.AdamColsIdeal.nD Cert.AdamColsIdeal.τ).loc Cert.AdamColsIdeal.main_v0_1)) (v2 : (c : Dev Cert.AdamColsIdeal.nD) → Buf (Elt Ideal) ((c.tc : Thread Cert.AdamColsIdeal.nD Cert.AdamColsIdeal.τ).loc Cert.AdamColsIdeal.main_v0_2)),
      θ_run (Cert.AdamColsIdeal.defs (F := Ideal)) (onTc (τ := Cert.AdamColsIdeal.τ) (Cert.AdamColsIdeal.main (F := Ideal))) ⟨m, fun _ => 0, g⟩ (fun r => ∀ c : Dev Cert.AdamColsIdeal.nD,
          r.2.mem ((c.tc : Thread Cert.AdamColsIdeal.nD Cert.AdamColsIdeal.τ).loc Cert.AdamColsIdeal.main_v0_0) = v0 c
          ∧ r.2.mem ((c.tc : Thread Cert.AdamColsIdeal.nD Cert.AdamColsIdeal.τ).loc Cert.AdamColsIdeal.main_v0_1) = v1 c
          ∧ r.2.mem ((c.tc : Thread Cert.AdamColsIdeal.nD Cert.AdamColsIdeal.τ).loc Cert.AdamColsIdeal.main_v0_2) = v2 c
          ∧ r.2.mem ((c.tc : Thread Cert.AdamColsIdeal.nD Cert.AdamColsIdeal.τ).loc Cert.AdamColsIdeal.main_arg0) = m ((c.tc : Thread Cert.AdamColsIdeal.nD Cert.AdamColsIdeal.τ).loc Cert.AdamColsIdeal.main_arg0)
          ∧ r.2.mem ((c.tc : Thread Cert.AdamColsIdeal.nD Cert.AdamColsIdeal.τ).loc Cert.AdamColsIdeal.main_arg1) = m ((c.tc : Thread Cert.AdamColsIdeal.nD Cert.AdamColsIdeal.τ).loc Cert.AdamColsIdeal.main_arg1)
          ∧ r.2.mem ((c.tc : Thread Cert.AdamColsIdeal.nD Cert.AdamColsIdeal.τ).loc Cert.AdamColsIdeal.main_arg2) = m ((c.tc : Thread Cert.AdamColsIdeal.nD Cert.AdamColsIdeal.τ).loc Cert.AdamColsIdeal.main_arg2)
          ∧ r.2.mem ((c.tc : Thread Cert.AdamColsIdeal.nD Cert.AdamColsIdeal.τ).loc Cert.AdamColsIdeal.main_arg3) = m ((c.tc : Thread Cert.AdamColsIdeal.nD Cert.AdamColsIdeal.τ).loc Cert.AdamColsIdeal.main_arg3))
      ∧ θ_run (Cert.AdamColsRefIdeal.defs (F := Ideal)) (onTc (τ := Cert.AdamColsRefIdeal.τ) (Cert.AdamColsRefIdeal.main (F := Ideal))) ⟨m', fun _ => 0, g'⟩ (fun r => ∀ c : Dev Cert.AdamColsRefIdeal.nD,
          r.2.mem ((c.tc : Thread Cert.AdamColsRefIdeal.nD Cert.AdamColsRefIdeal.τ).loc Cert.AdamColsRefIdeal.main_v23) = v0 c
          ∧ r.2.mem ((c.tc : Thread Cert.AdamColsRefIdeal.nD Cert.AdamColsRefIdeal.τ).loc Cert.AdamColsRefIdeal.main_v4) = v1 c
          ∧ r.2.mem ((c.tc : Thread Cert.AdamColsRefIdeal.nD Cert.AdamColsRefIdeal.τ).loc Cert.AdamColsRefIdeal.main_v10) = v2 c
          ∧ r.2.mem ((c.tc : Thread Cert.AdamColsRefIdeal.nD Cert.AdamColsRefIdeal.τ).loc Cert.AdamColsRefIdeal.main_arg0) = m' ((c.tc : Thread Cert.AdamColsRefIdeal.nD Cert.AdamColsRefIdeal.τ).loc Cert.AdamColsRefIdeal.main_arg0)
          ∧ r.2.mem ((c.tc : Thread Cert.AdamColsRefIdeal.nD Cert.AdamColsRefIdeal.τ).loc Cert.AdamColsRefIdeal.main_arg1) = m' ((c.tc : Thread Cert.AdamColsRefIdeal.nD Cert.AdamColsRefIdeal.τ).loc Cert.AdamColsRefIdeal.main_arg1)
          ∧ r.2.mem ((c.tc : Thread Cert.AdamColsRefIdeal.nD Cert.AdamColsRefIdeal.τ).loc Cert.AdamColsRefIdeal.main_arg2) = m' ((c.tc : Thread Cert.AdamColsRefIdeal.nD Cert.AdamColsRefIdeal.τ).loc Cert.AdamColsRefIdeal.main_arg2)
          ∧ r.2.mem ((c.tc : Thread Cert.AdamColsRefIdeal.nD Cert.AdamColsRefIdeal.τ).loc Cert.AdamColsRefIdeal.main_arg3) = m' ((c.tc : Thread Cert.AdamColsRefIdeal.nD Cert.AdamColsRefIdeal.τ).loc Cert.AdamColsRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_GradX_GradXIdeal : Prop :=
  True

def algebraic_GradXIdeal_GradXRefIdeal [hGradXIdeal : Cert.GradXIdeal.Facts] [hGradXRefIdeal : Cert.GradXRefIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXRefIdeal.nD Cert.GradXRefIdeal.τ Cert.GradXRefIdeal.sig) → Buf (Elt Ideal) ℓ) (g' : Dev Cert.GradXRefIdeal.nD → PrngReg), Pre_GradXIdeal m →
    (∀ c : Dev Cert.GradXIdeal.nD,
      m' ((c.tc : Thread Cert.GradXRefIdeal.nD Cert.GradXRefIdeal.τ).loc Cert.GradXRefIdeal.main_arg0) = m ((c.tc : Thread Cert.GradXIdeal.nD Cert.GradXIdeal.τ).loc Cert.GradXIdeal.main_arg0)
      ∧ m' ((c.tc : Thread Cert.GradXRefIdeal.nD Cert.GradXRefIdeal.τ).loc Cert.GradXRefIdeal.main_arg1) = m ((c.tc : Thread Cert.GradXIdeal.nD Cert.GradXIdeal.τ).loc Cert.GradXIdeal.main_arg1)
      ∧ m' ((c.tc : Thread Cert.GradXRefIdeal.nD Cert.GradXRefIdeal.τ).loc Cert.GradXRefIdeal.main_arg2) = m ((c.tc : Thread Cert.GradXIdeal.nD Cert.GradXIdeal.τ).loc Cert.GradXIdeal.main_arg2)
      ∧ m' ((c.tc : Thread Cert.GradXRefIdeal.nD Cert.GradXRefIdeal.τ).loc Cert.GradXRefIdeal.main_arg3) = m ((c.tc : Thread Cert.GradXIdeal.nD Cert.GradXIdeal.τ).loc Cert.GradXIdeal.main_arg3)
      ∧ m' ((c.tc : Thread Cert.GradXRefIdeal.nD Cert.GradXRefIdeal.τ).loc Cert.GradXRefIdeal.main_arg4) = m ((c.tc : Thread Cert.GradXIdeal.nD Cert.GradXIdeal.τ).loc Cert.GradXIdeal.main_arg4)) →
    ∃ (v0 : (c : Dev Cert.GradXIdeal.nD) → Buf (Elt Ideal) ((c.tc : Thread Cert.GradXIdeal.nD Cert.GradXIdeal.τ).loc Cert.GradXIdeal.main_v0)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0) = v0 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
          ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4))
      ∧ θ_run (Cert.GradXRefIdeal.defs (F := Ideal)) (onTc (τ := Cert.GradXRefIdeal.τ) (Cert.GradXRefIdeal.main (F := Ideal))) ⟨m', fun _ => 0, g'⟩ (fun r => ∀ c : Dev Cert.GradXRefIdeal.nD,
          r.2.mem ((c.tc : Thread Cert.GradXRefIdeal.nD Cert.GradXRefIdeal.τ).loc Cert.GradXRefIdeal.main_v7) = v0 c
          ∧ r.2.mem ((c.tc : Thread Cert.GradXRefIdeal.nD Cert.GradXRefIdeal.τ).loc Cert.GradXRefIdeal.main_arg0) = m' ((c.tc : Thread Cert.GradXRefIdeal.nD Cert.GradXRefIdeal.τ).loc Cert.GradXRefIdeal.main_arg0)
          ∧ r.2.mem ((c.tc : Thread Cert.GradXRefIdeal.nD Cert.GradXRefIdeal.τ).loc Cert.GradXRefIdeal.main_arg1) = m' ((c.tc : Thread Cert.GradXRefIdeal.nD Cert.GradXRefIdeal.τ).loc Cert.GradXRefIdeal.main_arg1)
          ∧ r.2.mem ((c.tc : Thread Cert.GradXRefIdeal.nD Cert.GradXRefIdeal.τ).loc Cert.GradXRefIdeal.main_arg2) = m' ((c.tc : Thread Cert.GradXRefIdeal.nD Cert.GradXRefIdeal.τ).loc Cert.GradXRefIdeal.main_arg2)
          ∧ r.2.mem ((c.tc : Thread Cert.GradXRefIdeal.nD Cert.GradXRefIdeal.τ).loc Cert.GradXRefIdeal.main_arg3) = m' ((c.tc : Thread Cert.GradXRefIdeal.nD Cert.GradXRefIdeal.τ).loc Cert.GradXRefIdeal.main_arg3)
          ∧ r.2.mem ((c.tc : Thread Cert.GradXRefIdeal.nD Cert.GradXRefIdeal.τ).loc Cert.GradXRefIdeal.main_arg4) = m' ((c.tc : Thread Cert.GradXRefIdeal.nD Cert.GradXRefIdeal.τ).loc Cert.GradXRefIdeal.main_arg4))

def preserves_LnFwd_LnFwdIdeal : Prop :=
  True

def algebraic_LnFwdIdeal_LnFwdRefIdeal [hLnFwdIdeal : Cert.LnFwdIdeal.Facts] [hLnFwdRefIdeal : Cert.LnFwdRefIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg)
    (m' : (ℓ : Loc Cert.LnFwdRefIdeal.nD Cert.LnFwdRefIdeal.τ Cert.LnFwdRefIdeal.sig) → Buf (Elt Ideal) ℓ) (g' : Dev Cert.LnFwdRefIdeal.nD → PrngReg), Pre_LnFwdIdeal m →
    (∀ c : Dev Cert.LnFwdIdeal.nD,
      m' ((c.tc : Thread Cert.LnFwdRefIdeal.nD Cert.LnFwdRefIdeal.τ).loc Cert.LnFwdRefIdeal.main_arg0) = m ((c.tc : Thread Cert.LnFwdIdeal.nD Cert.LnFwdIdeal.τ).loc Cert.LnFwdIdeal.main_arg0)
      ∧ m' ((c.tc : Thread Cert.LnFwdRefIdeal.nD Cert.LnFwdRefIdeal.τ).loc Cert.LnFwdRefIdeal.main_arg1) = m ((c.tc : Thread Cert.LnFwdIdeal.nD Cert.LnFwdIdeal.τ).loc Cert.LnFwdIdeal.main_arg1)
      ∧ m' ((c.tc : Thread Cert.LnFwdRefIdeal.nD Cert.LnFwdRefIdeal.τ).loc Cert.LnFwdRefIdeal.main_arg2) = m ((c.tc : Thread Cert.LnFwdIdeal.nD Cert.LnFwdIdeal.τ).loc Cert.LnFwdIdeal.main_arg2)) →
    ∃ (v0 : (c : Dev Cert.LnFwdIdeal.nD) → Buf (Elt Ideal) ((c.tc : Thread Cert.LnFwdIdeal.nD Cert.LnFwdIdeal.τ).loc Cert.LnFwdIdeal.main_v0_0)) (v1 : (c : Dev Cert.LnFwdIdeal.nD) → Buf (Elt Ideal) ((c.tc : Thread Cert.LnFwdIdeal.nD Cert.LnFwdIdeal.τ).loc Cert.LnFwdIdeal.main_v0_1)),
      θ_run (Cert.LnFwdIdeal.defs (F := Ideal)) (onTc (τ := Cert.LnFwdIdeal.τ) (Cert.LnFwdIdeal.main (F := Ideal))) ⟨m, fun _ => 0, g⟩ (fun r => ∀ c : Dev Cert.LnFwdIdeal.nD,
          r.2.mem ((c.tc : Thread Cert.LnFwdIdeal.nD Cert.LnFwdIdeal.τ).loc Cert.LnFwdIdeal.main_v0_0) = v0 c
          ∧ r.2.mem ((c.tc : Thread Cert.LnFwdIdeal.nD Cert.LnFwdIdeal.τ).loc Cert.LnFwdIdeal.main_v0_1) = v1 c
          ∧ r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
          ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
          ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2))
      ∧ θ_run (Cert.LnFwdRefIdeal.defs (F := Ideal)) (onTc (τ := Cert.LnFwdRefIdeal.τ) (Cert.LnFwdRefIdeal.main (F := Ideal))) ⟨m', fun _ => 0, g'⟩ (fun r => ∀ c : Dev Cert.LnFwdRefIdeal.nD,
          r.2.mem ((c.tc : Thread Cert.LnFwdRefIdeal.nD Cert.LnFwdRefIdeal.τ).loc Cert.LnFwdRefIdeal.main_v19) = v0 c
          ∧ r.2.mem ((c.tc : Thread Cert.LnFwdRefIdeal.nD Cert.LnFwdRefIdeal.τ).loc Cert.LnFwdRefIdeal.main_v20) = v1 c
          ∧ r.2.mem ((c.tc : Thread Cert.LnFwdRefIdeal.nD Cert.LnFwdRefIdeal.τ).loc Cert.LnFwdRefIdeal.main_arg0) = m' ((c.tc : Thread Cert.LnFwdRefIdeal.nD Cert.LnFwdRefIdeal.τ).loc Cert.LnFwdRefIdeal.main_arg0)
          ∧ r.2.mem ((c.tc : Thread Cert.LnFwdRefIdeal.nD Cert.LnFwdRefIdeal.τ).loc Cert.LnFwdRefIdeal.main_arg1) = m' ((c.tc : Thread Cert.LnFwdRefIdeal.nD Cert.LnFwdRefIdeal.τ).loc Cert.LnFwdRefIdeal.main_arg1)
          ∧ r.2.mem ((c.tc : Thread Cert.LnFwdRefIdeal.nD Cert.LnFwdRefIdeal.τ).loc Cert.LnFwdRefIdeal.main_arg2) = m' ((c.tc : Thread Cert.LnFwdRefIdeal.nD Cert.LnFwdRefIdeal.τ).loc Cert.LnFwdRefIdeal.main_arg2))

def preserves_LnLoss_LnLossIdeal : Prop :=
  True

def algebraic_LnLossIdeal_LnLossRefIdeal [hLnLossIdeal : Cert.LnLossIdeal.Facts] [hLnLossRefIdeal : Cert.LnLossRefIdeal.Facts] : Prop :=
  ∀ (m : (ℓ : Loc Cert.LnLossIdeal.nD Cert.LnLossIdeal.τ Cert.LnLossIdeal.sig) → Buf (Elt Ideal) ℓ) (g : Dev Cert.LnLossIdeal.nD → PrngReg)
    (m' : (ℓ : Loc Cert.LnLossRefIdeal.nD Cert.LnLossRefIdeal.τ Cert.LnLossRefIdeal.sig) → Buf (Elt Ideal) ℓ) (g' : Dev Cert.LnLossRefIdeal.nD → PrngReg), Pre_LnLossIdeal m →
    (∀ c : Dev Cert.LnLossIdeal.nD,
      m' ((c.tc : Thread Cert.LnLossRefIdeal.nD Cert.LnLossRefIdeal.τ).loc Cert.LnLossRefIdeal.main_arg0) = m ((c.tc : Thread Cert.LnLossIdeal.nD Cert.LnLossIdeal.τ).loc Cert.LnLossIdeal.main_arg0)
      ∧ m' ((c.tc : Thread Cert.LnLossRefIdeal.nD Cert.LnLossRefIdeal.τ).loc Cert.LnLossRefIdeal.main_arg1) = m ((c.tc : Thread Cert.LnLossIdeal.nD Cert.LnLossIdeal.τ).loc Cert.LnLossIdeal.main_arg1)
      ∧ m' ((c.tc : Thread Cert.LnLossRefIdeal.nD Cert.LnLossRefIdeal.τ).loc Cert.LnLossRefIdeal.main_arg2) = m ((c.tc : Thread Cert.LnLossIdeal.nD Cert.LnLossIdeal.τ).loc Cert.LnLossIdeal.main_arg2)
      ∧ m' ((c.tc : Thread Cert.LnLossRefIdeal.nD Cert.LnLossRefIdeal.τ).loc Cert.LnLossRefIdeal.main_arg3) = m ((c.tc : Thread Cert.LnLossIdeal.nD Cert.LnLossIdeal.τ).loc Cert.LnLossIdeal.main_arg3)) →
    ∃ (v0 : (c : Dev Cert.LnLossIdeal.nD) → Buf (Elt Ideal) ((c.tc : Thread Cert.LnLossIdeal.nD Cert.LnLossIdeal.τ).loc Cert.LnLossIdeal.main_v0_0)) (v1 : (c : Dev Cert.LnLossIdeal.nD) → Buf (Elt Ideal) ((c.tc : Thread Cert.LnLossIdeal.nD Cert.LnLossIdeal.τ).loc Cert.LnLossIdeal.main_v0_1)),
      θ_run (Cert.LnLossIdeal.defs (F := Ideal)) (onTc (τ := Cert.LnLossIdeal.τ) (Cert.LnLossIdeal.main (F := Ideal))) ⟨m, fun _ => 0, g⟩ (fun r => ∀ c : Dev Cert.LnLossIdeal.nD,
          r.2.mem ((c.tc : Thread Cert.LnLossIdeal.nD Cert.LnLossIdeal.τ).loc Cert.LnLossIdeal.main_v0_0) = v0 c
          ∧ r.2.mem ((c.tc : Thread Cert.LnLossIdeal.nD Cert.LnLossIdeal.τ).loc Cert.LnLossIdeal.main_v0_1) = v1 c
          ∧ r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
          ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
          ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
          ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3))
      ∧ θ_run (Cert.LnLossRefIdeal.defs (F := Ideal)) (onTc (τ := Cert.LnLossRefIdeal.τ) (Cert.LnLossRefIdeal.main (F := Ideal))) ⟨m', fun _ => 0, g'⟩ (fun r => ∀ c : Dev Cert.LnLossRefIdeal.nD,
          r.2.mem ((c.tc : Thread Cert.LnLossRefIdeal.nD Cert.LnLossRefIdeal.τ).loc Cert.LnLossRefIdeal.main_v22) = v0 c
          ∧ r.2.mem ((c.tc : Thread Cert.LnLossRefIdeal.nD Cert.LnLossRefIdeal.τ).loc Cert.LnLossRefIdeal.main_v25) = v1 c
          ∧ r.2.mem ((c.tc : Thread Cert.LnLossRefIdeal.nD Cert.LnLossRefIdeal.τ).loc Cert.LnLossRefIdeal.main_arg0) = m' ((c.tc : Thread Cert.LnLossRefIdeal.nD Cert.LnLossRefIdeal.τ).loc Cert.LnLossRefIdeal.main_arg0)
          ∧ r.2.mem ((c.tc : Thread Cert.LnLossRefIdeal.nD Cert.LnLossRefIdeal.τ).loc Cert.LnLossRefIdeal.main_arg1) = m' ((c.tc : Thread Cert.LnLossRefIdeal.nD Cert.LnLossRefIdeal.τ).loc Cert.LnLossRefIdeal.main_arg1)
          ∧ r.2.mem ((c.tc : Thread Cert.LnLossRefIdeal.nD Cert.LnLossRefIdeal.τ).loc Cert.LnLossRefIdeal.main_arg2) = m' ((c.tc : Thread Cert.LnLossRefIdeal.nD Cert.LnLossRefIdeal.τ).loc Cert.LnLossRefIdeal.main_arg2)
          ∧ r.2.mem ((c.tc : Thread Cert.LnLossRefIdeal.nD Cert.LnLossRefIdeal.τ).loc Cert.LnLossRefIdeal.main_arg3) = m' ((c.tc : Thread Cert.LnLossRefIdeal.nD Cert.LnLossRefIdeal.τ).loc Cert.LnLossRefIdeal.main_arg3))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)) (v2 : (c : Dev Cert.FfnUpIdeal.nD) → Buf (Elt Ideal) ((c.tc : Thread Cert.FfnUpIdeal.nD Cert.FfnUpIdeal.τ).loc Cert.FfnUpIdeal.main_v0_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_v0_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v6) = v0 c
          ∧ r.2.mem ((c.tc : Thread Cert.FfnUpRefIdeal.nD Cert.FfnUpRefIdeal.τ).loc Cert.FfnUpRefIdeal.main_v7) = v1 c
          ∧ r.2.mem ((c.tc : Thread Cert.FfnUpRefIdeal.nD Cert.FfnUpRefIdeal.τ).loc Cert.FfnUpRefIdeal.main_v10) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v5) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)) →
    ∃ (v0 : (c : Dev Cert.MixInIdeal.nD) → Buf (Elt Ideal) ((c.tc : Thread Cert.MixInIdeal.nD Cert.MixInIdeal.τ).loc Cert.MixInIdeal.main_v0)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v4) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v5) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def preserves_GradDown_GradDownIdeal : Prop :=
  True

def algebraic_GradDownIdeal_GradDownRefIdeal [hGradDownIdeal : Cert.GradDownIdeal.Facts] [hGradDownRefIdeal : Cert.GradDownRefIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownRefIdeal.nD Cert.GradDownRefIdeal.τ Cert.GradDownRefIdeal.sig) → Buf (Elt Ideal) ℓ) (g' : Dev Cert.GradDownRefIdeal.nD → PrngReg), Pre_GradDownIdeal m →
    (∀ c : Dev Cert.GradDownIdeal.nD,
      m' ((c.tc : Thread Cert.GradDownRefIdeal.nD Cert.GradDownRefIdeal.τ).loc Cert.GradDownRefIdeal.main_arg0) = m ((c.tc : Thread Cert.GradDownIdeal.nD Cert.GradDownIdeal.τ).loc Cert.GradDownIdeal.main_arg0)
      ∧ m' ((c.tc : Thread Cert.GradDownRefIdeal.nD Cert.GradDownRefIdeal.τ).loc Cert.GradDownRefIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v0)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v0) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownRefIdeal.defs (F := Ideal)) (onTc (τ := Cert.GradDownRefIdeal.τ) (Cert.GradDownRefIdeal.main (F := Ideal))) ⟨m', fun _ => 0, g'⟩ (fun r => ∀ c : Dev Cert.GradDownRefIdeal.nD,
          r.2.mem ((c.tc : Thread Cert.GradDownRefIdeal.nD Cert.GradDownRefIdeal.τ).loc Cert.GradDownRefIdeal.main_v2) = v0 c
          ∧ r.2.mem ((c.tc : Thread Cert.GradDownRefIdeal.nD Cert.GradDownRefIdeal.τ).loc Cert.GradDownRefIdeal.main_arg0) = m' ((c.tc : Thread Cert.GradDownRefIdeal.nD Cert.GradDownRefIdeal.τ).loc Cert.GradDownRefIdeal.main_arg0)
          ∧ r.2.mem ((c.tc : Thread Cert.GradDownRefIdeal.nD Cert.GradDownRefIdeal.τ).loc Cert.GradDownRefIdeal.main_arg1) = m' ((c.tc : Thread Cert.GradDownRefIdeal.nD Cert.GradDownRefIdeal.τ).loc Cert.GradDownRefIdeal.main_arg1))

def preserves_GradCols_GradColsIdeal : Prop :=
  True

def algebraic_GradColsIdeal_GradColsRefIdeal [hGradColsIdeal : Cert.GradColsIdeal.Facts] [hGradColsRefIdeal : Cert.GradColsRefIdeal.Facts] : Prop :=
  ∀ (m : (ℓ : Loc Cert.GradColsIdeal.nD Cert.GradColsIdeal.τ Cert.GradColsIdeal.sig) → Buf (Elt Ideal) ℓ) (g : Dev Cert.GradColsIdeal.nD → PrngReg)
    (m' : (ℓ : Loc Cert.GradColsRefIdeal.nD Cert.GradColsRefIdeal.τ Cert.GradColsRefIdeal.sig) → Buf (Elt Ideal) ℓ) (g' : Dev Cert.GradColsRefIdeal.nD → PrngReg), Pre_GradColsIdeal m →
    (∀ c : Dev Cert.GradColsIdeal.nD,
      m' ((c.tc : Thread Cert.GradColsRefIdeal.nD Cert.GradColsRefIdeal.τ).loc Cert.GradColsRefIdeal.main_arg0) = m ((c.tc : Thread Cert.GradColsIdeal.nD Cert.GradColsIdeal.τ).loc Cert.GradColsIdeal.main_arg0)
      ∧ m' ((c.tc : Thread Cert.GradColsRefIdeal.nD Cert.GradColsRefIdeal.τ).loc Cert.GradColsRefIdeal.main_arg1) = m ((c.tc : Thread Cert.GradColsIdeal.nD Cert.GradColsIdeal.τ).loc Cert.GradColsIdeal.main_arg1)) →
    ∃ (v0 : (c : Dev Cert.GradColsIdeal.nD) → Buf (Elt Ideal) ((c.tc : Thread Cert.GradColsIdeal.nD Cert.GradColsIdeal.τ).loc Cert.GradColsIdeal.main_v0)),
      θ_run (Cert.GradColsIdeal.defs (F := Ideal)) (onTc (τ := Cert.GradColsIdeal.τ) (Cert.GradColsIdeal.main (F := Ideal))) ⟨m, fun _ => 0, g⟩ (fun r => ∀ c : Dev Cert.GradColsIdeal.nD,
          r.2.mem ((c.tc : Thread Cert.GradColsIdeal.nD Cert.GradColsIdeal.τ).loc Cert.GradColsIdeal.main_v0) = v0 c
          ∧ r.2.mem ((c.tc : Thread Cert.GradColsIdeal.nD Cert.GradColsIdeal.τ).loc Cert.GradColsIdeal.main_arg0) = m ((c.tc : Thread Cert.GradColsIdeal.nD Cert.GradColsIdeal.τ).loc Cert.GradColsIdeal.main_arg0)
          ∧ r.2.mem ((c.tc : Thread Cert.GradColsIdeal.nD Cert.GradColsIdeal.τ).loc Cert.GradColsIdeal.main_arg1) = m ((c.tc : Thread Cert.GradColsIdeal.nD Cert.GradColsIdeal.τ).loc Cert.GradColsIdeal.main_arg1))
      ∧ θ_run (Cert.GradColsRefIdeal.defs (F := Ideal)) (onTc (τ := Cert.GradColsRefIdeal.τ) (Cert.GradColsRefIdeal.main (F := Ideal))) ⟨m', fun _ => 0, g'⟩ (fun r => ∀ c : Dev Cert.GradColsRefIdeal.nD,
          r.2.mem ((c.tc : Thread Cert.GradColsRefIdeal.nD Cert.GradColsRefIdeal.τ).loc Cert.GradColsRefIdeal.main_v4) = v0 c
          ∧ r.2.mem ((c.tc : Thread Cert.GradColsRefIdeal.nD Cert.GradColsRefIdeal.τ).loc Cert.GradColsRefIdeal.main_arg0) = m' ((c.tc : Thread Cert.GradColsRefIdeal.nD Cert.GradColsRefIdeal.τ).loc Cert.GradColsRefIdeal.main_arg0)
          ∧ r.2.mem ((c.tc : Thread Cert.GradColsRefIdeal.nD Cert.GradColsRefIdeal.τ).loc Cert.GradColsRefIdeal.main_arg1) = m' ((c.tc : Thread Cert.GradColsRefIdeal.nD Cert.GradColsRefIdeal.τ).loc Cert.GradColsRefIdeal.main_arg1))

def Claim : Prop :=
  ∃ (hPair : Cert.Pair.Facts) (hPairIdeal : Cert.PairIdeal.Facts) (hPairRefIdeal : Cert.PairRefIdeal.Facts) (hPairRef : Cert.PairRef.Facts) (hChips : Cert.Chips.Facts) (hChipsIdeal : Cert.ChipsIdeal.Facts) (hChipsRefIdeal : Cert.ChipsRefIdeal.Facts) (hChipsRef : Cert.ChipsRef.Facts) (hHalves : Cert.Halves.Facts) (hHalvesIdeal : Cert.HalvesIdeal.Facts) (hHalvesRefIdeal : Cert.HalvesRefIdeal.Facts) (hHalvesRef : Cert.HalvesRef.Facts) (hGather : Cert.Gather.Facts) (hGatherIdeal : Cert.GatherIdeal.Facts) (hGatherRefIdeal : Cert.GatherRefIdeal.Facts) (hGatherRef : Cert.GatherRef.Facts) (hAdamCols : Cert.AdamCols.Facts) (hAdamColsIdeal : Cert.AdamColsIdeal.Facts) (hAdamColsRefIdeal : Cert.AdamColsRefIdeal.Facts) (hAdamDown : Cert.AdamDown.Facts) (hAdamDownIdeal : Cert.AdamDownIdeal.Facts) (hAdamDownRefIdeal : Cert.AdamDownRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hGradX : Cert.GradX.Facts) (hGradXIdeal : Cert.GradXIdeal.Facts) (hGradXRefIdeal : Cert.GradXRefIdeal.Facts) (hLnFwd : Cert.LnFwd.Facts) (hLnFwdIdeal : Cert.LnFwdIdeal.Facts) (hLnFwdRefIdeal : Cert.LnFwdRefIdeal.Facts) (hLnLoss : Cert.LnLoss.Facts) (hLnLossIdeal : Cert.LnLossIdeal.Facts) (hLnLossRefIdeal : Cert.LnLossRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hMixIn : Cert.MixIn.Facts) (hMixInIdeal : Cert.MixInIdeal.Facts) (hMixInRefIdeal : Cert.MixInRefIdeal.Facts) (hMixOut : Cert.MixOut.Facts) (hMixOutIdeal : Cert.MixOutIdeal.Facts) (hMixOutRefIdeal : Cert.MixOutRefIdeal.Facts) (hGradDown : Cert.GradDown.Facts) (hGradDownIdeal : Cert.GradDownIdeal.Facts) (hGradDownRefIdeal : Cert.GradDownRefIdeal.Facts) (hGradCols : Cert.GradCols.Facts) (hGradColsIdeal : Cert.GradColsIdeal.Facts) (hGradColsRefIdeal : Cert.GradColsRefIdeal.Facts),
    quiescent_Pair (hPair := hPair)
    ∧ quiescent_PairIdeal (hPairIdeal := hPairIdeal)
    ∧ quiescent_PairRefIdeal (hPairRefIdeal := hPairRefIdeal)
    ∧ quiescent_PairRef (hPairRef := hPairRef)
    ∧ quiescent_Chips (hChips := hChips)
    ∧ quiescent_ChipsIdeal (hChipsIdeal := hChipsIdeal)
    ∧ quiescent_ChipsRefIdeal (hChipsRefIdeal := hChipsRefIdeal)
    ∧ quiescent_ChipsRef (hChipsRef := hChipsRef)
    ∧ quiescent_Halves (hHalves := hHalves)
    ∧ quiescent_HalvesIdeal (hHalvesIdeal := hHalvesIdeal)
    ∧ quiescent_HalvesRefIdeal (hHalvesRefIdeal := hHalvesRefIdeal)
    ∧ quiescent_HalvesRef (hHalvesRef := hHalvesRef)
    ∧ quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_AdamCols (hAdamCols := hAdamCols)
    ∧ quiescent_AdamColsIdeal (hAdamColsIdeal := hAdamColsIdeal)
    ∧ quiescent_AdamColsRefIdeal (hAdamColsRefIdeal := hAdamColsRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_GradX (hGradX := hGradX)
    ∧ quiescent_GradXIdeal (hGradXIdeal := hGradXIdeal)
    ∧ quiescent_GradXRefIdeal (hGradXRefIdeal := hGradXRefIdeal)
    ∧ quiescent_LnFwd (hLnFwd := hLnFwd)
    ∧ quiescent_LnFwdIdeal (hLnFwdIdeal := hLnFwdIdeal)
    ∧ quiescent_LnFwdRefIdeal (hLnFwdRefIdeal := hLnFwdRefIdeal)
    ∧ quiescent_LnLoss (hLnLoss := hLnLoss)
    ∧ quiescent_LnLossIdeal (hLnLossIdeal := hLnLossIdeal)
    ∧ quiescent_LnLossRefIdeal (hLnLossRefIdeal := hLnLossRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_GradDown (hGradDown := hGradDown)
    ∧ quiescent_GradDownIdeal (hGradDownIdeal := hGradDownIdeal)
    ∧ quiescent_GradDownRefIdeal (hGradDownRefIdeal := hGradDownRefIdeal)
    ∧ quiescent_GradCols (hGradCols := hGradCols)
    ∧ quiescent_GradColsIdeal (hGradColsIdeal := hGradColsIdeal)
    ∧ quiescent_GradColsRefIdeal (hGradColsRefIdeal := hGradColsRefIdeal)
    ∧ preserves_Pair_PairIdeal
    ∧ bitexact_Pair_PairRef (hPair := hPair) (hPairRef := hPairRef)
    ∧ algebraic_PairIdeal_PairRefIdeal (hPairIdeal := hPairIdeal) (hPairRefIdeal := hPairRefIdeal)
    ∧ preserves_Chips_ChipsIdeal
    ∧ bitexact_Chips_ChipsRef (hChips := hChips) (hChipsRef := hChipsRef)
    ∧ algebraic_ChipsIdeal_ChipsRefIdeal (hChipsIdeal := hChipsIdeal) (hChipsRefIdeal := hChipsRefIdeal)
    ∧ preserves_Halves_HalvesIdeal
    ∧ bitexact_Halves_HalvesRef (hHalves := hHalves) (hHalvesRef := hHalvesRef)
    ∧ algebraic_HalvesIdeal_HalvesRefIdeal (hHalvesIdeal := hHalvesIdeal) (hHalvesRefIdeal := hHalvesRefIdeal)
    ∧ preserves_Gather_GatherIdeal
    ∧ bitexact_Gather_GatherRef (hGather := hGather) (hGatherRef := hGatherRef)
    ∧ algebraic_GatherIdeal_GatherRefIdeal (hGatherIdeal := hGatherIdeal) (hGatherRefIdeal := hGatherRefIdeal)
    ∧ preserves_AdamCols_AdamColsIdeal
    ∧ algebraic_AdamColsIdeal_AdamColsRefIdeal (hAdamColsIdeal := hAdamColsIdeal) (hAdamColsRefIdeal := hAdamColsRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_GradX_GradXIdeal
    ∧ algebraic_GradXIdeal_GradXRefIdeal (hGradXIdeal := hGradXIdeal) (hGradXRefIdeal := hGradXRefIdeal)
    ∧ preserves_LnFwd_LnFwdIdeal
    ∧ algebraic_LnFwdIdeal_LnFwdRefIdeal (hLnFwdIdeal := hLnFwdIdeal) (hLnFwdRefIdeal := hLnFwdRefIdeal)
    ∧ preserves_LnLoss_LnLossIdeal
    ∧ algebraic_LnLossIdeal_LnLossRefIdeal (hLnLossIdeal := hLnLossIdeal) (hLnLossRefIdeal := hLnLossRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_MixIn_MixInIdeal
    ∧ algebraic_MixInIdeal_MixInRefIdeal (hMixInIdeal := hMixInIdeal) (hMixInRefIdeal := hMixInRefIdeal)
    ∧ preserves_MixOut_MixOutIdeal
    ∧ algebraic_MixOutIdeal_MixOutRefIdeal (hMixOutIdeal := hMixOutIdeal) (hMixOutRefIdeal := hMixOutRefIdeal)
    ∧ preserves_GradDown_GradDownIdeal
    ∧ algebraic_GradDownIdeal_GradDownRefIdeal (hGradDownIdeal := hGradDownIdeal) (hGradDownRefIdeal := hGradDownRefIdeal)
    ∧ preserves_GradCols_GradColsIdeal
    ∧ algebraic_GradColsIdeal_GradColsRefIdeal (hGradColsIdeal := hGradColsIdeal) (hGradColsRefIdeal := hGradColsRefIdeal)
-- ==== Pair.lean ====
abbrev S4x2048x1408 : Shape := ⟨3, ![4, 2048, 1408]⟩
abbrev S4x1408x2048 : Shape := ⟨3, ![4, 1408, 2048]⟩
abbrev S4x2048x1280 : Shape := ⟨3, ![4, 2048, 1280]⟩
abbrev S4x512x2048 : Shape := ⟨3, ![4, 512, 2048]⟩
abbrev S4x1024x1408 : Shape := ⟨3, ![4, 1024, 1408]⟩
abbrev S4x704x2048 : Shape := ⟨3, ![4, 704, 2048]⟩
abbrev S4x1024x1280 : Shape := ⟨3, ![4, 1024, 1280]⟩
abbrev S4x256x2048 : Shape := ⟨3, ![4, 256, 2048]⟩
abbrev S8 : Shape := ⟨1, ![8]⟩
abbrev S1 : Shape := ⟨1, ![1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x1408, .bf16⟩
  | .hbm, ⟨1, _⟩ => ⟨S4x2048x1408, .bf16⟩
  | .hbm, ⟨2, _⟩ => ⟨S4x1408x2048, .bf16⟩
  | .hbm, ⟨3, _⟩ => ⟨S4x2048x1280, .bf16⟩
  | .hbm, ⟨4, _⟩ => ⟨S4x512x2048, .bf16⟩
  | .hbm, ⟨5, _⟩ => ⟨S4x2048x1408, .bf16⟩
  | .hbm, ⟨6, _⟩ => ⟨S4x2048x1408, .bf16⟩
  | .hbm, ⟨7, _⟩ => ⟨S4x1408x2048, .bf16⟩
  | .hbm, ⟨8, _⟩ => ⟨S4x1024x1408, .bf16⟩
  | .hbm, ⟨9, _⟩ => ⟨S4x1024x1408, .bf16⟩
  | .hbm, ⟨10, _⟩ => ⟨S4x704x2048, .bf16⟩
  | .hbm, ⟨11, _⟩ => ⟨S4x1024x1280, .bf16⟩
  | .hbm, ⟨12, _⟩ => ⟨S4x256x2048, .bf16⟩
  | .hbm, ⟨13, _⟩ => ⟨S4x1024x1408, .bf16⟩
  | .hbm, ⟨14, _⟩ => ⟨S4x1024x1408, .bf16⟩
  | .hbm, ⟨15, _⟩ => ⟨S4x704x2048, .bf16⟩
  | _, _ => ⟨S4x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev main_v1_7 : Ref sig .tc := ⟨.hbm, 15, rfl⟩

abbrev nD : Nat := 8
abbrev τ : Topo := Topo.v7x

variable {F : FTy → Type} [FloatOps F]

abbrev grid0 : Pipeline.Grid := .none

def k0_mult1 (d0 : Dev nD) : BitVec 32 :=
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1024_i32 : BitVec 32 := 1024#32
  let v10 : BitVec 32 := Scalar.muli v9 c1024_i32
  v10
def k0_mult2 (d0 : Dev nD) : BitVec 32 :=
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1024_i32_6 : BitVec 32 := 1024#32
  let v14 : BitVec 32 := Scalar.muli v13 c1024_i32_6
  v14
def k0_mult3 (d0 : Dev nD) : BitVec 32 :=
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c704_i32 : BitVec 32 := 704#32
  let v18 : BitVec 32 := Scalar.muli v17 c704_i32
  v18
def k0_mult4 (d0 : Dev nD) : BitVec 32 :=
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_10 v8
  let c1024_i32_11 : BitVec 32 := 1024#32
  let v22 : BitVec 32 := Scalar.muli v21 c1024_i32_11
  v22
def k0_mult5 (d0 : Dev nD) : BitVec 32 :=
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_13 v8
  let c256_i32 : BitVec 32 := 256#32
  let v26 : BitVec 32 := Scalar.muli v25 c256_i32
  v26
def k0_mult6 (d0 : Dev nD) : BitVec 32 :=
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_15 v8
  let c1024_i32_16 : BitVec 32 := 1024#32
  let v30 : BitVec 32 := Scalar.muli v29 c1024_i32_16
  v30
def k0_mult7 (d0 : Dev nD) : BitVec 32 :=
  let c1_i32_18 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.subi c1_i32_18 v8
  let c1024_i32_19 : BitVec 32 := 1024#32
  let v34 : BitVec 32 := Scalar.muli v33 c1024_i32_19
  v34
def k0_mult8 (d0 : Dev nD) : BitVec 32 :=
  let c1_i32_21 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_21 v8
  let c704_i32_22 : BitVec 32 := 704#32
  let v38 : BitVec 32 := Scalar.muli v37 c704_i32_22
  v38
def k0_off1 (d0 : Dev nD) : Fin 3 → Nat :=
  let c0_i32_29 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1024_i32 : BitVec 32 := 1024#32
  let v10 : BitVec 32 := Scalar.muli v9 c1024_i32
  let v11 : BitVec 32 := v10
  let c0_i32_30 : BitVec 32 := 0#32
  ![0, v11.toNat, 0]
def k0_dev1 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_25 : BitVec 32 := 4#32
  let v41 : BitVec 32 := Scalar.muli v2 c4_i32_25
  let v42 : BitVec 32 := Scalar.addi c0_i32_26 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_27 : BitVec 32 := 2#32
  let v43 : BitVec 32 := Scalar.muli v5 c2_i32_27
  let v44 : BitVec 32 := Scalar.addi v42 v43
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_28 : BitVec 32 := 1#32
  let v45 : BitVec 32 := Scalar.muli v12 c1_i32_28
  let v46 : BitVec 32 := Scalar.addi v44 v45
  v46.toNat
def k0_dev2 (d0 : Dev nD) : Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_33 : BitVec 32 := 4#32
  let v52 : BitVec 32 := Scalar.muli v2 c4_i32_33
  let v53 : BitVec 32 := Scalar.addi c0_i32_34 v52
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_35 : BitVec 32 := 2#32
  let v54 : BitVec 32 := Scalar.muli v5 c2_i32_35
  let v55 : BitVec 32 := Scalar.addi v53 v54
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_7 v8
  let c1_i32_36 : BitVec 32 := 1#32
  let v56 : BitVec 32 := Scalar.muli v16 c1_i32_36
  let v57 : BitVec 32 := Scalar.addi v55 v56
  v57.toNat
def k0_off2 (d0 : Dev nD) : Fin 3 → Nat :=
  let c0_i32_45 : BitVec 32 := 0#32
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c704_i32 : BitVec 32 := 704#32
  let v18 : BitVec 32 := Scalar.muli v17 c704_i32
  let v19 : BitVec 32 := v18
  let c0_i32_46 : BitVec 32 := 0#32
  ![0, v19.toNat, 0]
def k0_dev3 (d0 : Dev nD) : Nat :=
  let c0_i32_42 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_41 : BitVec 32 := 4#32
  let v63 : BitVec 32 := Scalar.muli v2 c4_i32_41
  let v64 : BitVec 32 := Scalar.addi c0_i32_42 v63
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_43 : BitVec 32 := 2#32
  let v65 : BitVec 32 := Scalar.muli v5 c2_i32_43
  let v66 : BitVec 32 := Scalar.addi v64 v65
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_9 v8
  let c1_i32_44 : BitVec 32 := 1#32
  let v67 : BitVec 32 := Scalar.muli v20 c1_i32_44
  let v68 : BitVec 32 := Scalar.addi v66 v67
  v68.toNat
def k0_off3 (d0 : Dev nD) : Fin 3 → Nat :=
  let c0_i32_52 : BitVec 32 := 0#32
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_10 v8
  let c1024_i32_11 : BitVec 32 := 1024#32
  let v22 : BitVec 32 := Scalar.muli v21 c1024_i32_11
  let v23 : BitVec 32 := v22
  let c0_i32_53 : BitVec 32 := 0#32
  ![0, v23.toNat, 0]
def k0_dev4 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v74 : BitVec 32 := Scalar.muli v2 c4_i32_48
  let v75 : BitVec 32 := Scalar.addi c0_i32_49 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v76 : BitVec 32 := Scalar.muli v5 c2_i32_50
  let v77 : BitVec 32 := Scalar.addi v75 v76
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_12 v8
  let c1_i32_51 : BitVec 32 := 1#32
  let v78 : BitVec 32 := Scalar.muli v24 c1_i32_51
  let v79 : BitVec 32 := Scalar.addi v77 v78
  v79.toNat
def k0_off4 (d0 : Dev nD) : Fin 3 → Nat :=
  let c0_i32_60 : BitVec 32 := 0#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_13 v8
  let c256_i32 : BitVec 32 := 256#32
  let v26 : BitVec 32 := Scalar.muli v25 c256_i32
  let v27 : BitVec 32 := v26
  let c0_i32_61 : BitVec 32 := 0#32
  ![0, v27.toNat, 0]
def k0_dev5 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_56 : BitVec 32 := 4#32
  let v85 : BitVec 32 := Scalar.muli v2 c4_i32_56
  let v86 : BitVec 32 := Scalar.addi c0_i32_57 v85
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_58 : BitVec 32 := 2#32
  let v87 : BitVec 32 := Scalar.muli v5 c2_i32_58
  let v88 : BitVec 32 := Scalar.addi v86 v87
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_14 v8
  let c1_i32_59 : BitVec 32 := 1#32
  let v89 : BitVec 32 := Scalar.muli v28 c1_i32_59
  let v90 : BitVec 32 := Scalar.addi v88 v89
  v90.toNat
def k0_dev6 (d0 : Dev nD) : Nat :=
  let c0_i32_64 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_63 : BitVec 32 := 4#32
  let v96 : BitVec 32 := Scalar.muli v2 c4_i32_63
  let v97 : BitVec 32 := Scalar.addi c0_i32_64 v96
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_65 : BitVec 32 := 2#32
  let v98 : BitVec 32 := Scalar.muli v5 c2_i32_65
  let v99 : BitVec 32 := Scalar.addi v97 v98
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.subi c1_i32_17 v8
  let c1_i32_66 : BitVec 32 := 1#32
  let v100 : BitVec 32 := Scalar.muli v32 c1_i32_66
  let v101 : BitVec 32 := Scalar.addi v99 v100
  v101.toNat
def k0_dev7 (d0 : Dev nD) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v107 : BitVec 32 := Scalar.muli v2 c4_i32_70
  let v108 : BitVec 32 := Scalar.addi c0_i32_71 v107
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_72 : BitVec 32 := 2#32
  let v109 : BitVec 32 := Scalar.muli v5 c2_i32_72
  let v110 : BitVec 32 := Scalar.addi v108 v109
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.subi c1_i32_20 v8
  let c1_i32_73 : BitVec 32 := 1#32
  let v111 : BitVec 32 := Scalar.muli v36 c1_i32_73
  let v112 : BitVec 32 := Scalar.addi v110 v111
  v112.toNat
def k0_dev8 (d0 : Dev nD) : Nat :=
  let c0_i32_78 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_77 : BitVec 32 := 4#32
  let v118 : BitVec 32 := Scalar.muli v2 c4_i32_77
  let v119 : BitVec 32 := Scalar.addi c0_i32_78 v118
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_79 : BitVec 32 := 2#32
  let v120 : BitVec 32 := Scalar.muli v5 c2_i32_79
  let v121 : BitVec 32 := Scalar.addi v119 v120
  let c1_i32_23 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v40 : BitVec 32 := Scalar.subi c1_i32_23 v8
  let c1_i32_80 : BitVec 32 := 1#32
  let v122 : BitVec 32 := Scalar.muli v40 c1_i32_80
  let v123 : BitVec 32 := Scalar.addi v121 v122
  v123.toNat
-- ==== PairRef.lean ====
abbrev S32x2048x1408 : Shape := ⟨3, ![32, 2048, 1408]⟩
abbrev S32x1408x2048 : Shape := ⟨3, ![32, 1408, 2048]⟩
abbrev S32x2048x1280 : Shape := ⟨3, ![32, 2048, 1280]⟩
abbrev S32x512x2048 : Shape := ⟨3, ![32, 512, 2048]⟩
abbrev S4x2x4x2x1024x1408 : Shape := ⟨6, ![4, 2, 4, 2, 1024, 1408]⟩
abbrev S4x1x4x1x1024x1408 : Shape := ⟨6, ![4, 1, 4, 1, 1024, 1408]⟩
abbrev S4x4x1024x1408 : Shape := ⟨4, ![4, 4, 1024, 1408]⟩
abbrev S4x1x4x1024x1408 : Shape := ⟨5, ![4, 1, 4, 1024, 1408]⟩
abbrev S4x2x4x1024x1408 : Shape := ⟨5, ![4, 2, 4, 1024, 1408]⟩
abbrev S32x1024x1408 : Shape := ⟨3, ![32, 1024, 1408]⟩
abbrev S4x2x4x2x704x2048 : Shape := ⟨6, ![4, 2, 4, 2, 704, 2048]⟩
abbrev S4x1x4x1x704x2048 : Shape := ⟨6, ![4, 1, 4, 1, 704, 2048]⟩
abbrev S4x4x704x2048 : Shape := ⟨4, ![4, 4, 704, 2048]⟩
abbrev S4x1x4x704x2048 : Shape := ⟨5, ![4, 1, 4, 704, 2048]⟩
abbrev S4x2x4x704x2048 : Shape := ⟨5, ![4, 2, 4, 704, 2048]⟩
abbrev S32x704x2048 : Shape := ⟨3, ![32, 704, 2048]⟩
abbrev S4x2x4x2x1024x1280 : Shape := ⟨6, ![4, 2, 4, 2, 1024, 1280]⟩
abbrev S4x1x4x1x1024x1280 : Shape := ⟨6, ![4, 1, 4, 1, 1024, 1280]⟩
abbrev S4x4x1024x1280 : Shape := ⟨4, ![4, 4, 1024, 1280]⟩
abbrev S4x1x4x1024x1280 : Shape := ⟨5, ![4, 1, 4, 1024, 1280]⟩
abbrev S4x2x4x1024x1280 : Shape := ⟨5, ![4, 2, 4, 1024, 1280]⟩
abbrev S32x1024x1280 : Shape := ⟨3, ![32, 1024, 1280]⟩
abbrev S4x2x4x2x256x2048 : Shape := ⟨6, ![4, 2, 4, 2, 256, 2048]⟩
abbrev S4x1x4x1x256x2048 : Shape := ⟨6, ![4, 1, 4, 1, 256, 2048]⟩
abbrev S4x4x256x2048 : Shape := ⟨4, ![4, 4, 256, 2048]⟩
abbrev S4x1x4x256x2048 : Shape := ⟨5, ![4, 1, 4, 256, 2048]⟩
abbrev S4x2x4x256x2048 : Shape := ⟨5, ![4, 2, 4, 256, 2048]⟩
abbrev S32x256x2048 : Shape := ⟨3, ![32, 256, 2048]⟩

abbrev nBuf : Space → Nat
  | .hbm => 80
  | .vmem => 0
  | .smem => 0
  | _ => 0

abbrev bufTy : (tb : Table) → Fin (tcTables nBuf tb) → BufTy
  | .hbm, ⟨0, _⟩ => ⟨S32x2048x1408, .bf16⟩
  | .hbm, ⟨1, _⟩ => ⟨S32x2048x1408, .bf16⟩
  | .hbm, ⟨2, _⟩ => ⟨S32x1408x2048, .bf16⟩
  | .hbm, ⟨3, _⟩ => ⟨S32x2048x1280, .bf16⟩
  | .hbm, ⟨4, _⟩ => ⟨S32x512x2048, .bf16⟩
  | .hbm, ⟨5, _⟩ => ⟨S32x2048x1408, .bf16⟩
  | .hbm, ⟨6, _⟩ => ⟨S32x2048x1408, .bf16⟩
  | .hbm, ⟨7, _⟩ => ⟨S32x1408x2048, .bf16⟩
  | .hbm, ⟨8, _⟩ => ⟨S4x2x4x2x1024x1408, .bf16⟩
  | .hbm, ⟨9, _⟩ => ⟨S4x1x4x1x1024x1408, .bf16⟩
  | .hbm, ⟨10, _⟩ => ⟨S4x4x1024x1408, .bf16⟩
  | .hbm, ⟨11, _⟩ => ⟨S4x1x4x1x1024x1408, .bf16⟩
  | .hbm, ⟨12, _⟩ => ⟨S4x4x1024x1408, .bf16⟩
  | .hbm, ⟨13, _⟩ => ⟨S4x1x4x1024x1408, .bf16⟩
  | .hbm, ⟨14, _⟩ => ⟨S4x1x4x1024x1408, .bf16⟩
  | .hbm, ⟨15, _⟩ => ⟨S4x2x4x1024x1408, .bf16⟩
  | .hbm, ⟨16, _⟩ => ⟨S32x1024x1408, .bf16⟩
  | .hbm, ⟨17, _⟩ => ⟨S4x2x4x2x1024x1408, .bf16⟩
  | .hbm, ⟨18, _⟩ => ⟨S4x1x4x1x1024x1408, .bf16⟩
  | .hbm, ⟨19, _⟩ => ⟨S4x4x1024x1408, .bf16⟩
  | .hbm, ⟨20, _⟩ => ⟨S4x1x4x1x1024x1408, .bf16⟩
  | .hbm, ⟨21, _⟩ => ⟨S4x4x1024x1408, .bf16⟩
  | .hbm, ⟨22, _⟩ => ⟨S4x1x4x1024x1408, .bf16⟩
  | .hbm, ⟨23, _⟩ => ⟨S4x1x4x1024x1408, .bf16⟩
  | .hbm, ⟨24, _⟩ => ⟨S4x2x4x1024x1408, .bf16⟩
  | .hbm, ⟨25, _⟩ => ⟨S32x1024x1408, .bf16⟩
  | .hbm, ⟨26, _⟩ => ⟨S4x2x4x2x704x2048, .bf16⟩
  | .hbm, ⟨27, _⟩ => ⟨S4x1x4x1x704x2048, .bf16⟩
  | .hbm, ⟨28, _⟩ => ⟨S4x4x704x2048, .bf16⟩
  | .hbm, ⟨29, _⟩ => ⟨S4x1x4x1x704x2048, .bf16⟩
  | .hbm, ⟨30, _⟩ => ⟨S4x4x704x2048, .bf16⟩
  | .hbm, ⟨31, _⟩ => ⟨S4x1x4x704x2048, .bf16⟩
  | .hbm, ⟨32, _⟩ => ⟨S4x1x4x704x2048, .bf16⟩
  | .hbm, ⟨33, _⟩ => ⟨S4x2x4x704x2048, .bf16⟩
  | .hbm, ⟨34, _⟩ => ⟨S32x704x2048, .bf16⟩
  | .hbm, ⟨35, _⟩ => ⟨S4x2x4x2x1024x1280, .bf16⟩
  | .hbm, ⟨36, _⟩ => ⟨S4x1x4x1x1024x1280, .bf16⟩
  | .hbm, ⟨37, _⟩ => ⟨S4x4x1024x1280, .bf16⟩
  | .hbm, ⟨38, _⟩ => ⟨S4x1x4x1x1024x1280, .bf16⟩
  | .hbm, ⟨39, _⟩ => ⟨S4x4x1024x1280, .bf16⟩
  | .hbm, ⟨40, _⟩ => ⟨S4x1x4x1024x1280, .bf16⟩
  | .hbm, ⟨41, _⟩ => ⟨S4x1x4x1024x1280, .bf16⟩
  | .hbm, ⟨42, _⟩ => ⟨S4x2x4x1024x1280, .bf16⟩
  | .hbm, ⟨43, _⟩ => ⟨S32x1024x1280, .bf16⟩
  | .hbm, ⟨44, _⟩ => ⟨S4x2x4x2x256x2048, .bf16⟩
  | .hbm, ⟨45, _⟩ => ⟨S4x1x4x1x256x2048, .bf16⟩
  | .hbm, ⟨46, _⟩ => ⟨S4x4x256x2048, .bf16⟩
  | .hbm, ⟨47, _⟩ => ⟨S4x1x4x1x256x2048, .bf16⟩
  | .hbm, ⟨48, _⟩ => ⟨S4x4x256x2048, .bf16⟩
  | .hbm, ⟨49, _⟩ => ⟨S4x1x4x256x2048, .bf16⟩
  | .hbm, ⟨50, _⟩ => ⟨S4x1x4x256x2048, .bf16⟩
  | .hbm, ⟨51, _⟩ => ⟨S4x2x4x256x2048, .bf16⟩
  | .hbm, ⟨52, _⟩ => ⟨S32x256x2048, .bf16⟩
  | .hbm, ⟨53, _⟩ => ⟨S4x2x4x2x1024x1408, .bf16⟩
  | .hbm, ⟨54, _⟩ => ⟨S4x1x4x1x1024x1408, .bf16⟩
  | .hbm, ⟨55, _⟩ => ⟨S4x4x1024x1408, .bf16⟩
  | .hbm, ⟨56, _⟩ => ⟨S4x1x4x1x1024x1408, .bf16⟩
  | .hbm, ⟨57, _⟩ => ⟨S4x4x1024x1408, .bf16⟩
  | .hbm, ⟨58, _⟩ => ⟨S4x1x4x1024x1408, .bf16⟩
  | .hbm, ⟨59, _⟩ => ⟨S4x1x4x1024x1408, .bf16⟩
  | .hbm, ⟨60, _⟩ => ⟨S4x2x4x1024x1408, .bf16⟩
  | .hbm, ⟨61, _⟩ => ⟨S32x1024x1408, .bf16⟩
  | .hbm, ⟨62, _⟩ => ⟨S4x2x4x2x1024x1408, .bf16⟩
  | .hbm, ⟨63, _⟩ => ⟨S4x1x4x1x1024x1408, .bf16⟩
  | .hbm, ⟨64, _⟩ => ⟨S4x4x1024x1408, .bf16⟩
  | .hbm, ⟨65, _⟩ => ⟨S4x1x4x1x1024x1408, .bf16⟩
  | .hbm, ⟨66, _⟩ => ⟨S4x4x1024x1408, .bf16⟩
  | .hbm, ⟨67, _⟩ => ⟨S4x1x4x1024x1408, .bf16⟩
  | .hbm, ⟨68, _⟩ => ⟨S4x1x4x1024x1408, .bf16⟩
  | .hbm, ⟨69, _⟩ => ⟨S4x2x4x1024x1408, .bf16⟩
  | .hbm, ⟨70, _⟩ => ⟨S32x1024x1408, .bf16⟩
  | .hbm, ⟨71, _⟩ => ⟨S4x2x4x2x704x2048, .bf16⟩
  | .hbm, ⟨72, _⟩ => ⟨S4x1x4x1x704x2048, .bf16⟩
  | .hbm, ⟨73, _⟩ => ⟨S4x4x704x2048, .bf16⟩
  | .hbm, ⟨74, _⟩ => ⟨S4x1x4x1x704x2048, .bf16⟩
  | .hbm, ⟨75, _⟩ => ⟨S4x4x704x2048, .bf16⟩
  | .hbm, ⟨76, _⟩ => ⟨S4x1x4x704x2048, .bf16⟩
  | .hbm, ⟨77, _⟩ => ⟨S4x1x4x704x2048, .bf16⟩
  | .hbm, ⟨78, _⟩ => ⟨S4x2x4x704x2048, .bf16⟩
  | .hbm, ⟨79, _⟩ => ⟨S32x704x2048, .bf16⟩
  | _, _ => ⟨S32x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩

abbrev nD : Nat := 1
abbrev τ : Topo := Topo.v7x

variable {F : FTy → Type} [FloatOps F]
-- ==== Chips.lean ====
abbrev S4x1024x1408 : Shape := ⟨3, ![4, 1024, 1408]⟩
abbrev S4x704x2048 : Shape := ⟨3, ![4, 704, 2048]⟩
abbrev S4x1024x1280 : Shape := ⟨3, ![4, 1024, 1280]⟩
abbrev S4x256x2048 : Shape := ⟨3, ![4, 256, 2048]⟩
abbrev S3x1024x1408 : Shape := ⟨3, ![3, 1024, 1408]⟩
abbrev S3x704x2048 : Shape := ⟨3, ![3, 704, 2048]⟩
abbrev S3x1024x1280 : Shape := ⟨3, ![3, 1024, 1280]⟩
abbrev S3x256x2048 : Shape := ⟨3, ![3, 256, 2048]⟩
abbrev S24 : Shape := ⟨1, ![24]⟩
abbrev S1 : Shape := ⟨1, ![1]⟩
abbrev S_ : Shape := ⟨0, ![]⟩
abbrev S1x1024x1408 : Shape := ⟨3, ![1, 1024, 1408]⟩
abbrev S1024x1408 : Shape := ⟨2, ![1024, 1408]⟩
abbrev S1x704x2048 : Shape := ⟨3, ![1, 704, 2048]⟩
abbrev S704x2048 : Shape := ⟨2, ![704, 2048]⟩
abbrev S1x1024x1280 : Shape := ⟨3, ![1, 1024, 1280]⟩
abbrev S1024x1280 : Shape := ⟨2, ![1024, 1280]⟩
abbrev S1x256x2048 : Shape := ⟨3, ![1, 256, 2048]⟩
abbrev S256x2048 : Shape := ⟨2, ![256, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4x1024x1408, .bf16⟩
  | .hbm, ⟨1, _⟩ => ⟨S4x1024x1408, .bf16⟩
  | .hbm, ⟨2, _⟩ => ⟨S4x704x2048, .bf16⟩
  | .hbm, ⟨3, _⟩ => ⟨S4x1024x1280, .bf16⟩
  | .hbm, ⟨4, _⟩ => ⟨S4x256x2048, .bf16⟩
  | .hbm, ⟨5, _⟩ => ⟨S4x1024x1408, .bf16⟩
  | .hbm, ⟨6, _⟩ => ⟨S4x1024x1408, .bf16⟩
  | .hbm, ⟨7, _⟩ => ⟨S4x704x2048, .bf16⟩
  | .hbm, ⟨8, _⟩ => ⟨S3x1024x1408, .bf16⟩
  | .hbm, ⟨9, _⟩ => ⟨S3x1024x1408, .bf16⟩
  | .hbm, ⟨10, _⟩ => ⟨S3x704x2048, .bf16⟩
  | .hbm, ⟨11, _⟩ => ⟨S3x1024x1280, .bf16⟩
  | .hbm, ⟨12, _⟩ => ⟨S3x256x2048, .bf16⟩
  | .hbm, ⟨13, _⟩ => ⟨S3x1024x1408, .bf16⟩
  | .hbm, ⟨14, _⟩ => ⟨S3x1024x1408, .bf16⟩
  | .hbm, ⟨15, _⟩ => ⟨S3x704x2048, .bf16⟩
  | _, _ => ⟨S4x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev main_v1_7 : Ref sig .tc := ⟨.hbm, 15, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v13 : BitVec 32 := Scalar.muli c2_i32_7 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_18 : BitVec 32 := 0#32
  let c0_i32_19 : BitVec 32 := 0#32
  ![v14.toNat, 0, 0]
def k0_dev1 (d0 : Dev nD) : Nat :=
  let c0_i32_13 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_12 : BitVec 32 := 4#32
  let v19 : BitVec 32 := Scalar.muli v9 c4_i32_12
  let v20 : BitVec 32 := Scalar.addi c0_i32_13 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v21 : BitVec 32 := Scalar.muli v5 c2_i32_14
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v23 : BitVec 32 := Scalar.muli v8 c1_i32_15
  let v24 : BitVec 32 := Scalar.addi v22 v23
  v24.toNat
def k0_off2 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v16 : BitVec 32 := Scalar.addi v15 v10
  let c0_i32_29 : BitVec 32 := 0#32
  let c0_i32_30 : BitVec 32 := 0#32
  ![v16.toNat, 0, 0]
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v33 : BitVec 32 := Scalar.muli v2 c4_i32_23
  let v34 : BitVec 32 := Scalar.addi c0_i32_24 v33
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_25 : BitVec 32 := 2#32
  let v35 : BitVec 32 := Scalar.muli v10 c2_i32_25
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v37 : BitVec 32 := Scalar.muli v8 c1_i32_26
  let v38 : BitVec 32 := Scalar.addi v36 v37
  v38.toNat
def k0_off3 (d0 : Dev nD) : Fin 3 → Nat :=
  let c2_i32_9 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v17 : BitVec 32 := Scalar.muli c2_i32_9 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v18 : BitVec 32 := Scalar.addi v17 v12
  let c0_i32_40 : BitVec 32 := 0#32
  let c0_i32_41 : BitVec 32 := 0#32
  ![v18.toNat, 0, 0]
def k0_dev3 (d0 : Dev nD) : Nat :=
  let c0_i32_35 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_34 : BitVec 32 := 4#32
  let v47 : BitVec 32 := Scalar.muli v11 c4_i32_34
  let v48 : BitVec 32 := Scalar.addi c0_i32_35 v47
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_36 : BitVec 32 := 2#32
  let v49 : BitVec 32 := Scalar.muli v12 c2_i32_36
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v51 : BitVec 32 := Scalar.muli v8 c1_i32_37
  let v52 : BitVec 32 := Scalar.addi v50 v51
  v52.toNat
def k0_dev4 (d0 : Dev nD) : Nat :=
  let c0_i32_45 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_44 : BitVec 32 := 4#32
  let v61 : BitVec 32 := Scalar.muli v9 c4_i32_44
  let v62 : BitVec 32 := Scalar.addi c0_i32_45 v61
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_46 : BitVec 32 := 2#32
  let v63 : BitVec 32 := Scalar.muli v5 c2_i32_46
  let v64 : BitVec 32 := Scalar.addi v62 v63
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v65 : BitVec 32 := Scalar.muli v8 c1_i32_47
  let v66 : BitVec 32 := Scalar.addi v64 v65
  v66.toNat
def k0_dev5 (d0 : Dev nD) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_55 : BitVec 32 := 4#32
  let v75 : BitVec 32 := Scalar.muli v2 c4_i32_55
  let v76 : BitVec 32 := Scalar.addi c0_i32_56 v75
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_57 : BitVec 32 := 2#32
  let v77 : BitVec 32 := Scalar.muli v10 c2_i32_57
  let v78 : BitVec 32 := Scalar.addi v76 v77
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v79 : BitVec 32 := Scalar.muli v8 c1_i32_58
  let v80 : BitVec 32 := Scalar.addi v78 v79
  v80.toNat
def k0_dev6 (d0 : Dev nD) : Nat :=
  let c0_i32_66 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_65 : BitVec 32 := 4#32
  let v89 : BitVec 32 := Scalar.muli v11 c4_i32_65
  let v90 : BitVec 32 := Scalar.addi c0_i32_66 v89
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_67 : BitVec 32 := 2#32
  let v91 : BitVec 32 := Scalar.muli v12 c2_i32_67
  let v92 : BitVec 32 := Scalar.addi v90 v91
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v93 : BitVec 32 := Scalar.muli v8 c1_i32_68
  let v94 : BitVec 32 := Scalar.addi v92 v93
  v94.toNat
def k0_off4 (d0 : Dev nD) : Fin 3 → Nat :=
  let c2_i32_7 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v13 : BitVec 32 := Scalar.muli c2_i32_7 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_81 : BitVec 32 := 0#32
  let c0_i32_82 : BitVec 32 := 0#32
  ![v14.toNat, 0, 0]
def k0_dev7 (d0 : Dev nD) : Nat :=
  let c0_i32_76 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_75 : BitVec 32 := 4#32
  let v103 : BitVec 32 := Scalar.muli v9 c4_i32_75
  let v104 : BitVec 32 := Scalar.addi c0_i32_76 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_77 : BitVec 32 := 2#32
  let v105 : BitVec 32 := Scalar.muli v5 c2_i32_77
  let v106 : BitVec 32 := Scalar.addi v104 v105
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_78 : BitVec 32 := 1#32
  let v107 : BitVec 32 := Scalar.muli v8 c1_i32_78
  let v108 : BitVec 32 := Scalar.addi v106 v107
  v108.toNat
def k0_off5 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v16 : BitVec 32 := Scalar.addi v15 v10
  let c0_i32_91 : BitVec 32 := 0#32
  let c0_i32_92 : BitVec 32 := 0#32
  ![v16.toNat, 0, 0]
def k0_dev8 (d0 : Dev nD) : Nat :=
  let c0_i32_86 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_85 : BitVec 32 := 4#32
  let v117 : BitVec 32 := Scalar.muli v2 c4_i32_85
  let v118 : BitVec 32 := Scalar.addi c0_i32_86 v117
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_87 : BitVec 32 := 2#32
  let v119 : BitVec 32 := Scalar.muli v10 c2_i32_87
  let v120 : BitVec 32 := Scalar.addi v118 v119
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_88 : BitVec 32 := 1#32
  let v121 : BitVec 32 := Scalar.muli v8 c1_i32_88
  let v122 : BitVec 32 := Scalar.addi v120 v121
  v122.toNat
def k0_off6 (d0 : Dev nD) : Fin 3 → Nat :=
  let c2_i32_9 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v17 : BitVec 32 := Scalar.muli c2_i32_9 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v18 : BitVec 32 := Scalar.addi v17 v12
  let c0_i32_101 : BitVec 32 := 0#32
  let c0_i32_102 : BitVec 32 := 0#32
  ![v18.toNat, 0, 0]
def k0_dev9 (d0 : Dev nD) : Nat :=
  let c0_i32_96 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_95 : BitVec 32 := 4#32
  let v131 : BitVec 32 := Scalar.muli v11 c4_i32_95
  let v132 : BitVec 32 := Scalar.addi c0_i32_96 v131
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_97 : BitVec 32 := 2#32
  let v133 : BitVec 32 := Scalar.muli v12 c2_i32_97
  let v134 : BitVec 32 := Scalar.addi v132 v133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_98 : BitVec 32 := 1#32
  let v135 : BitVec 32 := Scalar.muli v8 c1_i32_98
  let v136 : BitVec 32 := Scalar.addi v134 v135
  v136.toNat
def k0_off7 (d0 : Dev nD) : Fin 3 → Nat :=
  let c2_i32_7 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v13 : BitVec 32 := Scalar.muli c2_i32_7 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_111 : BitVec 32 := 0#32
  let c0_i32_112 : BitVec 32 := 0#32
  ![v14.toNat, 0, 0]
def k0_dev10 (d0 : Dev nD) : Nat :=
  let c0_i32_106 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_105 : BitVec 32 := 4#32
  let v145 : BitVec 32 := Scalar.muli v9 c4_i32_105
  let v146 : BitVec 32 := Scalar.addi c0_i32_106 v145
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_107 : BitVec 32 := 2#32
  let v147 : BitVec 32 := Scalar.muli v5 c2_i32_107
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_108 : BitVec 32 := 1#32
  let v149 : BitVec 32 := Scalar.muli v8 c1_i32_108
  let v150 : BitVec 32 := Scalar.addi v148 v149
  v150.toNat
def k0_off8 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v16 : BitVec 32 := Scalar.addi v15 v10
  let c0_i32_121 : BitVec 32 := 0#32
  let c0_i32_122 : BitVec 32 := 0#32
  ![v16.toNat, 0, 0]
def k0_dev11 (d0 : Dev nD) : Nat :=
  let c0_i32_116 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_115 : BitVec 32 := 4#32
  let v159 : BitVec 32 := Scalar.muli v2 c4_i32_115
  let v160 : BitVec 32 := Scalar.addi c0_i32_116 v159
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_117 : BitVec 32 := 2#32
  let v161 : BitVec 32 := Scalar.muli v10 c2_i32_117
  let v162 : BitVec 32 := Scalar.addi v160 v161
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_118 : BitVec 32 := 1#32
  let v163 : BitVec 32 := Scalar.muli v8 c1_i32_118
  let v164 : BitVec 32 := Scalar.addi v162 v163
  v164.toNat
def k0_off9 (d0 : Dev nD) : Fin 3 → Nat :=
  let c2_i32_9 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v17 : BitVec 32 := Scalar.muli c2_i32_9 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v18 : BitVec 32 := Scalar.addi v17 v12
  let c0_i32_131 : BitVec 32 := 0#32
  let c0_i32_132 : BitVec 32 := 0#32
  ![v18.toNat, 0, 0]
def k0_dev12 (d0 : Dev nD) : Nat :=
  let c0_i32_126 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_125 : BitVec 32 := 4#32
  let v173 : BitVec 32 := Scalar.muli v11 c4_i32_125
  let v174 : BitVec 32 := Scalar.addi c0_i32_126 v173
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_127 : BitVec 32 := 2#32
  let v175 : BitVec 32 := Scalar.muli v12 c2_i32_127
  let v176 : BitVec 32 := Scalar.addi v174 v175
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_128 : BitVec 32 := 1#32
  let v177 : BitVec 32 := Scalar.muli v8 c1_i32_128
  let v178 : BitVec 32 := Scalar.addi v176 v177
  v178.toNat
def k0_off10 (d0 : Dev nD) : Fin 3 → Nat :=
  let c2_i32_7 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v13 : BitVec 32 := Scalar.muli c2_i32_7 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_141 : BitVec 32 := 0#32
  let c0_i32_142 : BitVec 32 := 0#32
  ![v14.toNat, 0, 0]
def k0_dev13 (d0 : Dev nD) : Nat :=
  let c0_i32_136 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_135 : BitVec 32 := 4#32
  let v187 : BitVec 32 := Scalar.muli v9 c4_i32_135
  let v188 : BitVec 32 := Scalar.addi c0_i32_136 v187
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_137 : BitVec 32 := 2#32
  let v189 : BitVec 32 := Scalar.muli v5 c2_i32_137
  let v190 : BitVec 32 := Scalar.addi v188 v189
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_138 : BitVec 32 := 1#32
  let v191 : BitVec 32 := Scalar.muli v8 c1_i32_138
  let v192 : BitVec 32 := Scalar.addi v190 v191
  v192.toNat
def k0_off11 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v16 : BitVec 32 := Scalar.addi v15 v10
  let c0_i32_151 : BitVec 32 := 0#32
  let c0_i32_152 : BitVec 32 := 0#32
  ![v16.toNat, 0, 0]
def k0_dev14 (d0 : Dev nD) : Nat :=
  let c0_i32_146 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_145 : BitVec 32 := 4#32
  let v201 : BitVec 32 := Scalar.muli v2 c4_i32_145
  let v202 : BitVec 32 := Scalar.addi c0_i32_146 v201
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_147 : BitVec 32 := 2#32
  let v203 : BitVec 32 := Scalar.muli v10 c2_i32_147
  let v204 : BitVec 32 := Scalar.addi v202 v203
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_148 : BitVec 32 := 1#32
  let v205 : BitVec 32 := Scalar.muli v8 c1_i32_148
  let v206 : BitVec 32 := Scalar.addi v204 v205
  v206.toNat
def k0_off12 (d0 : Dev nD) : Fin 3 → Nat :=
  let c2_i32_9 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v17 : BitVec 32 := Scalar.muli c2_i32_9 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v18 : BitVec 32 := Scalar.addi v17 v12
  let c0_i32_161 : BitVec 32 := 0#32
  let c0_i32_162 : BitVec 32 := 0#32
  ![v18.toNat, 0, 0]
def k0_dev15 (d0 : Dev nD) : Nat :=
  let c0_i32_156 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_155 : BitVec 32 := 4#32
  let v215 : BitVec 32 := Scalar.muli v11 c4_i32_155
  let v216 : BitVec 32 := Scalar.addi c0_i32_156 v215
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_157 : BitVec 32 := 2#32
  let v217 : BitVec 32 := Scalar.muli v12 c2_i32_157
  let v218 : BitVec 32 := Scalar.addi v216 v217
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_158 : BitVec 32 := 1#32
  let v219 : BitVec 32 := Scalar.muli v8 c1_i32_158
  let v220 : BitVec 32 := Scalar.addi v218 v219
  v220.toNat
def k0_dev16 (d0 : Dev nD) : Nat :=
  let c0_i32_166 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_165 : BitVec 32 := 4#32
  let v229 : BitVec 32 := Scalar.muli v9 c4_i32_165
  let v230 : BitVec 32 := Scalar.addi c0_i32_166 v229
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_167 : BitVec 32 := 2#32
  let v231 : BitVec 32 := Scalar.muli v5 c2_i32_167
  let v232 : BitVec 32 := Scalar.addi v230 v231
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_168 : BitVec 32 := 1#32
  let v233 : BitVec 32 := Scalar.muli v8 c1_i32_168
  let v234 : BitVec 32 := Scalar.addi v232 v233
  v234.toNat
def k0_dev17 (d0 : Dev nD) : Nat :=
  let c0_i32_176 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_175 : BitVec 32 := 4#32
  let v243 : BitVec 32 := Scalar.muli v2 c4_i32_175
  let v244 : BitVec 32 := Scalar.addi c0_i32_176 v243
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_177 : BitVec 32 := 2#32
  let v245 : BitVec 32 := Scalar.muli v10 c2_i32_177
  let v246 : BitVec 32 := Scalar.addi v244 v245
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_178 : BitVec 32 := 1#32
  let v247 : BitVec 32 := Scalar.muli v8 c1_i32_178
  let v248 : BitVec 32 := Scalar.addi v246 v247
  v248.toNat
def k0_dev18 (d0 : Dev nD) : Nat :=
  let c0_i32_186 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_185 : BitVec 32 := 4#32
  let v257 : BitVec 32 := Scalar.muli v11 c4_i32_185
  let v258 : BitVec 32 := Scalar.addi c0_i32_186 v257
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_187 : BitVec 32 := 2#32
  let v259 : BitVec 32 := Scalar.muli v12 c2_i32_187
  let v260 : BitVec 32 := Scalar.addi v258 v259
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_188 : BitVec 32 := 1#32
  let v261 : BitVec 32 := Scalar.muli v8 c1_i32_188
  let v262 : BitVec 32 := Scalar.addi v260 v261
  v262.toNat
def k0_dev19 (d0 : Dev nD) : Nat :=
  let c0_i32_196 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_195 : BitVec 32 := 4#32
  let v271 : BitVec 32 := Scalar.muli v9 c4_i32_195
  let v272 : BitVec 32 := Scalar.addi c0_i32_196 v271
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_197 : BitVec 32 := 2#32
  let v273 : BitVec 32 := Scalar.muli v5 c2_i32_197
  let v274 : BitVec 32 := Scalar.addi v272 v273
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_198 : BitVec 32 := 1#32
  let v275 : BitVec 32 := Scalar.muli v8 c1_i32_198
  let v276 : BitVec 32 := Scalar.addi v274 v275
  v276.toNat
def k0_dev20 (d0 : Dev nD) : Nat :=
  let c0_i32_206 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_205 : BitVec 32 := 4#32
  let v285 : BitVec 32 := Scalar.muli v2 c4_i32_205
  let v286 : BitVec 32 := Scalar.addi c0_i32_206 v285
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_207 : BitVec 32 := 2#32
  let v287 : BitVec 32 := Scalar.muli v10 c2_i32_207
  let v288 : BitVec 32 := Scalar.addi v286 v287
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_208 : BitVec 32 := 1#32
  let v289 : BitVec 32 := Scalar.muli v8 c1_i32_208
  let v290 : BitVec 32 := Scalar.addi v288 v289
  v290.toNat
def k0_dev21 (d0 : Dev nD) : Nat :=
  let c0_i32_216 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_215 : BitVec 32 := 4#32
  let v299 : BitVec 32 := Scalar.muli v11 c4_i32_215
  let v300 : BitVec 32 := Scalar.addi c0_i32_216 v299
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_217 : BitVec 32 := 2#32
  let v301 : BitVec 32 := Scalar.muli v12 c2_i32_217
  let v302 : BitVec 32 := Scalar.addi v300 v301
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_218 : BitVec 32 := 1#32
  let v303 : BitVec 32 := Scalar.muli v8 c1_i32_218
  let v304 : BitVec 32 := Scalar.addi v302 v303
  v304.toNat
def k0_dev22 (d0 : Dev nD) : Nat :=
  let c0_i32_226 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_225 : BitVec 32 := 4#32
  let v313 : BitVec 32 := Scalar.muli v9 c4_i32_225
  let v314 : BitVec 32 := Scalar.addi c0_i32_226 v313
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_227 : BitVec 32 := 2#32
  let v315 : BitVec 32 := Scalar.muli v5 c2_i32_227
  let v316 : BitVec 32 := Scalar.addi v314 v315
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_228 : BitVec 32 := 1#32
  let v317 : BitVec 32 := Scalar.muli v8 c1_i32_228
  let v318 : BitVec 32 := Scalar.addi v316 v317
  v318.toNat
def k0_dev23 (d0 : Dev nD) : Nat :=
  let c0_i32_236 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_235 : BitVec 32 := 4#32
  let v327 : BitVec 32 := Scalar.muli v2 c4_i32_235
  let v328 : BitVec 32 := Scalar.addi c0_i32_236 v327
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_237 : BitVec 32 := 2#32
  let v329 : BitVec 32 := Scalar.muli v10 c2_i32_237
  let v330 : BitVec 32 := Scalar.addi v328 v329
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_238 : BitVec 32 := 1#32
  let v331 : BitVec 32 := Scalar.muli v8 c1_i32_238
  let v332 : BitVec 32 := Scalar.addi v330 v331
  v332.toNat
def k0_dev24 (d0 : Dev nD) : Nat :=
  let c0_i32_246 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_245 : BitVec 32 := 4#32
  let v341 : BitVec 32 := Scalar.muli v11 c4_i32_245
  let v342 : BitVec 32 := Scalar.addi c0_i32_246 v341
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_247 : BitVec 32 := 2#32
  let v343 : BitVec 32 := Scalar.muli v12 c2_i32_247
  let v344 : BitVec 32 := Scalar.addi v342 v343
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_248 : BitVec 32 := 1#32
  let v345 : BitVec 32 := Scalar.muli v8 c1_i32_248
  let v346 : BitVec 32 := Scalar.addi v344 v345
  v346.toNat
-- ==== ChipsRef.lean ====
abbrev S32x1024x1408 : Shape := ⟨3, ![32, 1024, 1408]⟩
abbrev S32x704x2048 : Shape := ⟨3, ![32, 704, 2048]⟩
abbrev S32x1024x1280 : Shape := ⟨3, ![32, 1024, 1280]⟩
abbrev S32x256x2048 : Shape := ⟨3, ![32, 256, 2048]⟩
abbrev S24 : Shape := ⟨1, ![24]⟩
abbrev S_ : Shape := ⟨0, ![]⟩
abbrev S24x1 : Shape := ⟨2, ![24, 1]⟩
abbrev S24x1024x1408 : Shape := ⟨3, ![24, 1024, 1408]⟩
abbrev S24x704x2048 : Shape := ⟨3, ![24, 704, 2048]⟩
abbrev S24x1024x1280 : Shape := ⟨3, ![24, 1024, 1280]⟩
abbrev S24x256x2048 : Shape := ⟨3, ![24, 256, 2048]⟩

abbrev nBuf : Space → Nat
  | .hbm => 88
  | .vmem => 0
  | .smem => 0
  | _ => 0

abbrev bufTy : (tb : Table) → Fin (tcTables nBuf tb) → BufTy
  | .hbm, ⟨0, _⟩ => ⟨S32x1024x1408, .bf16⟩
  | .hbm, ⟨1, _⟩ => ⟨S32x1024x1408, .bf16⟩
  | .hbm, ⟨2, _⟩ => ⟨S32x704x2048, .bf16⟩
  | .hbm, ⟨3, _⟩ => ⟨S32x1024x1280, .bf16⟩
  | .hbm, ⟨4, _⟩ => ⟨S32x256x2048, .bf16⟩
  | .hbm, ⟨5, _⟩ => ⟨S32x1024x1408, .bf16⟩
  | .hbm, ⟨6, _⟩ => ⟨S32x1024x1408, .bf16⟩
  | .hbm, ⟨7, _⟩ => ⟨S32x704x2048, .bf16⟩
  | .hbm, ⟨8, _⟩ => ⟨S24, .i32⟩
  | .hbm, ⟨9, _⟩ => ⟨S24, .i32⟩
  | .hbm, ⟨10, _⟩ => ⟨S24, .i32⟩
  | .hbm, ⟨11, _⟩ => ⟨S24, .i32⟩
  | .hbm, ⟨12, _⟩ => ⟨S24, .i32⟩
  | .hbm, ⟨13, _⟩ => ⟨S24, .i32⟩
  | .hbm, ⟨14, _⟩ => ⟨S24, .i32⟩
  | .hbm, ⟨15, _⟩ => ⟨S24, .i32⟩
  | .hbm, ⟨16, _⟩ => ⟨S_, .i32⟩
  | .hbm, ⟨17, _⟩ => ⟨S24, .i32⟩
  | .hbm, ⟨18, _⟩ => ⟨S24, .i1⟩
  | .hbm, ⟨19, _⟩ => ⟨S_, .i32⟩
  | .hbm, ⟨20, _⟩ => ⟨S24, .i32⟩
  | .hbm, ⟨21, _⟩ => ⟨S24, .i32⟩
  | .hbm, ⟨22, _⟩ => ⟨S24, .i32⟩
  | .hbm, ⟨23, _⟩ => ⟨S24x1, .i32⟩
  | .hbm, ⟨24, _⟩ => ⟨S24x1024x1408, .bf16⟩
  | .hbm, ⟨25, _⟩ => ⟨S_, .i32⟩
  | .hbm, ⟨26, _⟩ => ⟨S24, .i32⟩
  | .hbm, ⟨27, _⟩ => ⟨S24, .i1⟩
  | .hbm, ⟨28, _⟩ => ⟨S_, .i32⟩
  | .hbm, ⟨29, _⟩ => ⟨S24, .i32⟩
  | .hbm, ⟨30, _⟩ => ⟨S24, .i32⟩
  | .hbm, ⟨31, _⟩ => ⟨S24, .i32⟩
  | .hbm, ⟨32, _⟩ => ⟨S24x1, .i32⟩
  | .hbm, ⟨33, _⟩ => ⟨S24x1024x1408, .bf16⟩
  | .hbm, ⟨34, _⟩ => ⟨S_, .i32⟩
  | .hbm, ⟨35, _⟩ => ⟨S24, .i32⟩
  | .hbm, ⟨36, _⟩ => ⟨S24, .i1⟩
  | .hbm, ⟨37, _⟩ => ⟨S_, .i32⟩
  | .hbm, ⟨38, _⟩ => ⟨S24, .i32⟩
  | .hbm, ⟨39, _⟩ => ⟨S24, .i32⟩
  | .hbm, ⟨40, _⟩ => ⟨S24, .i32⟩
  | .hbm, ⟨41, _⟩ => ⟨S24x1, .i32⟩
  | .hbm, ⟨42, _⟩ => ⟨S24x704x2048, .bf16⟩
  | .hbm, ⟨43, _⟩ => ⟨S_, .i32⟩
  | .hbm, ⟨44, _⟩ => ⟨S24, .i32⟩
  | .hbm, ⟨45, _⟩ => ⟨S24, .i1⟩
  | .hbm, ⟨46, _⟩ => ⟨S_, .i32⟩
  | .hbm, ⟨47, _⟩ => ⟨S24, .i32⟩
  | .hbm, ⟨48, _⟩ => ⟨S24, .i32⟩
  | .hbm, ⟨49, _⟩ => ⟨S24, .i32⟩
  | .hbm, ⟨50, _⟩ => ⟨S24x1, .i32⟩
  | .hbm, ⟨51, _⟩ => ⟨S24x1024x1280, .bf16⟩
  | .hbm, ⟨52, _⟩ => ⟨S_, .i32⟩
  | .hbm, ⟨53, _⟩ => ⟨S24, .i32⟩
  | .hbm, ⟨54, _⟩ => ⟨S24, .i1⟩
  | .hbm, ⟨55, _⟩ => ⟨S_, .i32⟩
  | .hbm, ⟨56, _⟩ => ⟨S24, .i32⟩
  | .hbm, ⟨57, _⟩ => ⟨S24, .i32⟩
  | .hbm, ⟨58, _⟩ => ⟨S24, .i32⟩
  | .hbm, ⟨59, _⟩ => ⟨S24x1, .i32⟩
  | .hbm, ⟨60, _⟩ => ⟨S24x256x2048, .bf16⟩
  | .hbm, ⟨61, _⟩ => ⟨S_, .i32⟩
  | .hbm, ⟨62, _⟩ => ⟨S24, .i32⟩
  | .hbm, ⟨63, _⟩ => ⟨S24, .i1⟩
  | .hbm, ⟨64, _⟩ => ⟨S_, .i32⟩
  | .hbm, ⟨65, _⟩ => ⟨S24, .i32⟩
  | .hbm, ⟨66, _⟩ => ⟨S24, .i32⟩
  | .hbm, ⟨67, _⟩ => ⟨S24, .i32⟩
  | .hbm, ⟨68, _⟩ => ⟨S24x1, .i32⟩
  | .hbm, ⟨69, _⟩ => ⟨S24x1024x1408, .bf16⟩
  | .hbm, ⟨70, _⟩ => ⟨S_, .i32⟩
  | .hbm, ⟨71, _⟩ => ⟨S24, .i32⟩
  | .hbm, ⟨72, _⟩ => ⟨S24, .i1⟩
  | .hbm, ⟨73, _⟩ => ⟨S_, .i32⟩
  | .hbm, ⟨74, _⟩ => ⟨S24, .i32⟩
  | .hbm, ⟨75, _⟩ => ⟨S24, .i32⟩
  | .hbm, ⟨76, _⟩ => ⟨S24, .i32⟩
  | .hbm, ⟨77, _⟩ => ⟨S24x1, .i32⟩
  | .hbm, ⟨78, _⟩ => ⟨S24x1024x1408, .bf16⟩
  | .hbm, ⟨79, _⟩ => ⟨S_, .i32⟩
  | .hbm, ⟨80, _⟩ => ⟨S24, .i32⟩
  | .hbm, ⟨81, _⟩ => ⟨S24, .i1⟩
  | .hbm, ⟨82, _⟩ => ⟨S_, .i32⟩
  | .hbm, ⟨83, _⟩ => ⟨S24, .i32⟩
  | .hbm, ⟨84, _⟩ => ⟨S24, .i32⟩
  | .hbm, ⟨85, _⟩ => ⟨S24, .i32⟩
  | .hbm, ⟨86, _⟩ => ⟨S24x1, .i32⟩
  | .hbm, ⟨87, _⟩ => ⟨S24x704x2048, .bf16⟩
  | _, _ => ⟨S32x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_c_2 : Ref sig .tc := ⟨.hbm, 11, rfl⟩
abbrev main_c_3 : Ref sig .tc := ⟨.hbm, 12, rfl⟩
abbrev main_c_4 : Ref sig .tc := ⟨.hbm, 13, rfl⟩
abbrev main_c_5 : Ref sig .tc := ⟨.hbm, 14, rfl⟩
abbrev main_c_6 : Ref sig .tc := ⟨.hbm, 15, rfl⟩
abbrev main_c_7 : Ref sig .tc := ⟨.hbm, 16, rfl⟩
abbrev main_v0 : Ref sig .tc := ⟨.hbm, 17, rfl⟩
abbrev main_v1 : Ref sig .tc := ⟨.hbm, 18, rfl⟩
abbrev main_c_8 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_9 : Ref sig .tc := ⟨.hbm, 25, rfl⟩
abbrev main_v7 : Ref sig .tc := ⟨.hbm, 26, rfl⟩
abbrev main_v8 : Ref sig .tc := ⟨.hbm, 27, rfl⟩
abbrev main_c_10 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_11 : Ref sig .tc := ⟨.hbm, 34, rfl⟩
abbrev main_v14 : Ref sig .tc := ⟨.hbm, 35, rfl⟩
abbrev main_v15 : Ref sig .tc := ⟨.hbm, 36, rfl⟩
abbrev main_c_12 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_13 : Ref sig .tc := ⟨.hbm, 43, rfl⟩
abbrev main_v21 : Ref sig .tc := ⟨.hbm, 44, rfl⟩
abbrev main_v22 : Ref sig .tc := ⟨.hbm, 45, rfl⟩
abbrev main_c_14 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_15 : Ref sig .tc := ⟨.hbm, 52, rfl⟩
abbrev main_v28 : Ref sig .tc := ⟨.hbm, 53, rfl⟩
abbrev main_v29 : Ref sig .tc := ⟨.hbm, 54, rfl⟩
abbrev main_c_16 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_17 : Ref sig .tc := ⟨.hbm, 61, rfl⟩
abbrev main_v35 : Ref sig .tc := ⟨.hbm, 62, rfl⟩
abbrev main_v36 : Ref sig .tc := ⟨.hbm, 63, rfl⟩
abbrev main_c_18 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_19 : Ref sig .tc := ⟨.hbm, 70, rfl⟩
abbrev main_v42 : Ref sig .tc := ⟨.hbm, 71, rfl⟩
abbrev main_v43 : Ref sig .tc := ⟨.hbm, 72, rfl⟩
abbrev main_c_20 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_21 : Ref sig .tc := ⟨.hbm, 79, rfl⟩
abbrev main_v49 : Ref sig .tc := ⟨.hbm, 80, rfl⟩
abbrev main_v50 : Ref sig .tc := ⟨.hbm, 81, rfl⟩
abbrev main_c_22 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩

abbrev nD : Nat := 1
abbrev τ : Topo := Topo.v7x

variable {F : FTy → Type} [FloatOps F]
-- ==== Halves.lean ====
abbrev S1024x1408 : Shape := ⟨2, ![1024, 1408]⟩
abbrev S704x2048 : Shape := ⟨2, ![704, 2048]⟩
abbrev S1024x1280 : Shape := ⟨2, ![1024, 1280]⟩
abbrev S256x2048 : Shape := ⟨2, ![256, 2048]⟩
abbrev S2048x1408 : Shape := ⟨2, ![2048, 1408]⟩
abbrev S1408x2048 : Shape := ⟨2, ![1408, 2048]⟩
abbrev S2048x1280 : Shape := ⟨2, ![2048, 1280]⟩
abbrev S512x2048 : Shape := ⟨2, ![512, 2048]⟩
abbrev S8 : Shape := ⟨1, ![8]⟩
abbrev S1 : Shape := ⟨1, ![1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S704x2048, .f32⟩
  | .hbm, ⟨3, _⟩ => ⟨S1024x1280, .f32⟩
  | .hbm, ⟨4, _⟩ => ⟨S256x2048, .f32⟩
  | .hbm, ⟨5, _⟩ => ⟨S1024x1408, .f32⟩
  | .hbm, ⟨6, _⟩ => ⟨S1024x1408, .f32⟩
  | .hbm, ⟨7, _⟩ => ⟨S704x2048, .f32⟩
  | .hbm, ⟨8, _⟩ => ⟨S2048x1408, .f32⟩
  | .hbm, ⟨9, _⟩ => ⟨S2048x1408, .f32⟩
  | .hbm, ⟨10, _⟩ => ⟨S1408x2048, .f32⟩
  | .hbm, ⟨11, _⟩ => ⟨S2048x1280, .f32⟩
  | .hbm, ⟨12, _⟩ => ⟨S512x2048, .f32⟩
  | .hbm, ⟨13, _⟩ => ⟨S2048x1408, .f32⟩
  | .hbm, ⟨14, _⟩ => ⟨S2048x1408, .f32⟩
  | .hbm, ⟨15, _⟩ => ⟨S1408x2048, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev main_v1_7 : Ref sig .tc := ⟨.hbm, 15, rfl⟩

abbrev nD : Nat := 8
abbrev τ : Topo := Topo.v7x

variable {F : FTy → Type} [FloatOps F]

abbrev grid0 : Pipeline.Grid := .none

def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v9 : BitVec 32 := Scalar.muli v8 c1024_i32
  v9
def k0_mult2 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_4 : BitVec 32 := 1024#32
  let v12 : BitVec 32 := Scalar.muli v8 c1024_i32_4
  v12
def k0_mult3 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32 : BitVec 32 := 704#32
  let v15 : BitVec 32 := Scalar.muli v8 c704_i32
  v15
def k0_mult4 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_7 : BitVec 32 := 1024#32
  let v18 : BitVec 32 := Scalar.muli v8 c1024_i32_7
  v18
def k0_mult5 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32 : BitVec 32 := 256#32
  let v21 : BitVec 32 := Scalar.muli v8 c256_i32
  v21
def k0_mult6 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_10 : BitVec 32 := 1024#32
  let v24 : BitVec 32 := Scalar.muli v8 c1024_i32_10
  v24
def k0_mult7 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_12 : BitVec 32 := 1024#32
  let v27 : BitVec 32 := Scalar.muli v8 c1024_i32_12
  v27
def k0_mult8 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_14 : BitVec 32 := 704#32
  let v30 : BitVec 32 := Scalar.muli v8 c704_i32_14
  v30
def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v9 : BitVec 32 := Scalar.muli v8 c1024_i32
  let v10 : BitVec 32 := v9
  let c0_i32_16 : BitVec 32 := 0#32
  ![v10.toNat, 0]
def k0_off2 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32 : BitVec 32 := 704#32
  let v15 : BitVec 32 := Scalar.muli v8 c704_i32
  let v16 : BitVec 32 := v15
  let c0_i32_20 : BitVec 32 := 0#32
  ![v16.toNat, 0]
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_7 : BitVec 32 := 1024#32
  let v18 : BitVec 32 := Scalar.muli v8 c1024_i32_7
  let v19 : BitVec 32 := v18
  let c0_i32_21 : BitVec 32 := 0#32
  ![v19.toNat, 0]
def k0_off4 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32 : BitVec 32 := 256#32
  let v21 : BitVec 32 := Scalar.muli v8 c256_i32
  let v22 : BitVec 32 := v21
  let c0_i32_23 : BitVec 32 := 0#32
  ![v22.toNat, 0]
def k0_dev1 (d0 : Dev nD) : Nat :=
  let c0_i32_30 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_29 : BitVec 32 := 4#32
  let v57 : BitVec 32 := Scalar.muli v2 c4_i32_29
  let v58 : BitVec 32 := Scalar.addi c0_i32_30 v57
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v59 : BitVec 32 := Scalar.muli v5 c2_i32_31
  let v60 : BitVec 32 := Scalar.addi v58 v59
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_3 v8
  let c1_i32_32 : BitVec 32 := 1#32
  let v61 : BitVec 32 := Scalar.muli v11 c1_i32_32
  let v62 : BitVec 32 := Scalar.addi v60 v61
  v62.toNat
def k0_dev2 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v68 : BitVec 32 := Scalar.muli v2 c4_i32_36
  let v69 : BitVec 32 := Scalar.addi c0_i32_37 v68
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v70 : BitVec 32 := Scalar.muli v5 c2_i32_38
  let v71 : BitVec 32 := Scalar.addi v69 v70
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_5 v8
  let c1_i32_39 : BitVec 32 := 1#32
  let v72 : BitVec 32 := Scalar.muli v14 c1_i32_39
  let v73 : BitVec 32 := Scalar.addi v71 v72
  v73.toNat
def k0_dev3 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_43 : BitVec 32 := 4#32
  let v79 : BitVec 32 := Scalar.muli v2 c4_i32_43
  let v80 : BitVec 32 := Scalar.addi c0_i32_44 v79
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v81 : BitVec 32 := Scalar.muli v5 c2_i32_45
  let v82 : BitVec 32 := Scalar.addi v80 v81
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_6 v8
  let c1_i32_46 : BitVec 32 := 1#32
  let v83 : BitVec 32 := Scalar.muli v17 c1_i32_46
  let v84 : BitVec 32 := Scalar.addi v82 v83
  v84.toNat
def k0_dev4 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v90 : BitVec 32 := Scalar.muli v2 c4_i32_50
  let v91 : BitVec 32 := Scalar.addi c0_i32_51 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_52 : BitVec 32 := 2#32
  let v92 : BitVec 32 := Scalar.muli v5 c2_i32_52
  let v93 : BitVec 32 := Scalar.addi v91 v92
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_8 v8
  let c1_i32_53 : BitVec 32 := 1#32
  let v94 : BitVec 32 := Scalar.muli v20 c1_i32_53
  let v95 : BitVec 32 := Scalar.addi v93 v94
  v95.toNat
def k0_dev5 (d0 : Dev nD) : Nat :=
  let c0_i32_58 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_57 : BitVec 32 := 4#32
  let v101 : BitVec 32 := Scalar.muli v2 c4_i32_57
  let v102 : BitVec 32 := Scalar.addi c0_i32_58 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v103 : BitVec 32 := Scalar.muli v5 c2_i32_59
  let v104 : BitVec 32 := Scalar.addi v102 v103
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_9 v8
  let c1_i32_60 : BitVec 32 := 1#32
  let v105 : BitVec 32 := Scalar.muli v23 c1_i32_60
  let v106 : BitVec 32 := Scalar.addi v104 v105
  v106.toNat
def k0_dev6 (d0 : Dev nD) : Nat :=
  let c0_i32_65 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_64 : BitVec 32 := 4#32
  let v112 : BitVec 32 := Scalar.muli v2 c4_i32_64
  let v113 : BitVec 32 := Scalar.addi c0_i32_65 v112
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_66 : BitVec 32 := 2#32
  let v114 : BitVec 32 := Scalar.muli v5 c2_i32_66
  let v115 : BitVec 32 := Scalar.addi v113 v114
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_11 v8
  let c1_i32_67 : BitVec 32 := 1#32
  let v116 : BitVec 32 := Scalar.muli v26 c1_i32_67
  let v117 : BitVec 32 := Scalar.addi v115 v116
  v117.toNat
def k0_dev7 (d0 : Dev nD) : Nat :=
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_71 : BitVec 32 := 4#32
  let v123 : BitVec 32 := Scalar.muli v2 c4_i32_71
  let v124 : BitVec 32 := Scalar.addi c0_i32_72 v123
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_73 : BitVec 32 := 2#32
  let v125 : BitVec 32 := Scalar.muli v5 c2_i32_73
  let v126 : BitVec 32 := Scalar.addi v124 v125
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_13 v8
  let c1_i32_74 : BitVec 32 := 1#32
  let v127 : BitVec 32 := Scalar.muli v29 c1_i32_74
  let v128 : BitVec 32 := Scalar.addi v126 v127
  v128.toNat
def k0_dev8 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v134 : BitVec 32 := Scalar.muli v2 c4_i32_78
  let v135 : BitVec 32 := Scalar.addi c0_i32_79 v134
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v136 : BitVec 32 := Scalar.muli v5 c2_i32_80
  let v137 : BitVec 32 := Scalar.addi v135 v136
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.subi c1_i32_15 v8
  let c1_i32_81 : BitVec 32 := 1#32
  let v138 : BitVec 32 := Scalar.muli v32 c1_i32_81
  let v139 : BitVec 32 := Scalar.addi v137 v138
  v139.toNat
def k0_mult9 (d0 : Dev nD) : BitVec 32 :=
  let c1_i32_83 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v145 : BitVec 32 := Scalar.subi c1_i32_83 v8
  let c1024_i32_84 : BitVec 32 := 1024#32
  let v146 : BitVec 32 := Scalar.muli v145 c1024_i32_84
  v146
def k0_off5 (d0 : Dev nD) : Fin 2 → Nat :=
  let c1_i32_83 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v145 : BitVec 32 := Scalar.subi c1_i32_83 v8
  let c1024_i32_84 : BitVec 32 := 1024#32
  let v146 : BitVec 32 := Scalar.muli v145 c1024_i32_84
  let v147 : BitVec 32 := v146
  let c0_i32_91 : BitVec 32 := 0#32
  ![v147.toNat, 0]
def k0_mult10 (d0 : Dev nD) : BitVec 32 :=
  let c1_i32_92 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v157 : BitVec 32 := Scalar.subi c1_i32_92 v8
  let c1024_i32_93 : BitVec 32 := 1024#32
  let v158 : BitVec 32 := Scalar.muli v157 c1024_i32_93
  v158
def k0_mult11 (d0 : Dev nD) : BitVec 32 :=
  let c1_i32_101 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v169 : BitVec 32 := Scalar.subi c1_i32_101 v8
  let c704_i32_102 : BitVec 32 := 704#32
  let v170 : BitVec 32 := Scalar.muli v169 c704_i32_102
  v170
def k0_off6 (d0 : Dev nD) : Fin 2 → Nat :=
  let c1_i32_101 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v169 : BitVec 32 := Scalar.subi c1_i32_101 v8
  let c704_i32_102 : BitVec 32 := 704#32
  let v170 : BitVec 32 := Scalar.muli v169 c704_i32_102
  let v171 : BitVec 32 := v170
  let c0_i32_109 : BitVec 32 := 0#32
  ![v171.toNat, 0]
def k0_mult12 (d0 : Dev nD) : BitVec 32 :=
  let c1_i32_110 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v181 : BitVec 32 := Scalar.subi c1_i32_110 v8
  let c1024_i32_111 : BitVec 32 := 1024#32
  let v182 : BitVec 32 := Scalar.muli v181 c1024_i32_111
  v182
def k0_off7 (d0 : Dev nD) : Fin 2 → Nat :=
  let c1_i32_110 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v181 : BitVec 32 := Scalar.subi c1_i32_110 v8
  let c1024_i32_111 : BitVec 32 := 1024#32
  let v182 : BitVec 32 := Scalar.muli v181 c1024_i32_111
  let v183 : BitVec 32 := v182
  let c0_i32_118 : BitVec 32 := 0#32
  ![v183.toNat, 0]
def k0_mult13 (d0 : Dev nD) : BitVec 32 :=
  let c1_i32_119 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v193 : BitVec 32 := Scalar.subi c1_i32_119 v8
  let c256_i32_120 : BitVec 32 := 256#32
  let v194 : BitVec 32 := Scalar.muli v193 c256_i32_120
  v194
def k0_off8 (d0 : Dev nD) : Fin 2 → Nat :=
  let c1_i32_119 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v193 : BitVec 32 := Scalar.subi c1_i32_119 v8
  let c256_i32_120 : BitVec 32 := 256#32
  let v194 : BitVec 32 := Scalar.muli v193 c256_i32_120
  let v195 : BitVec 32 := v194
  let c0_i32_127 : BitVec 32 := 0#32
  ![v195.toNat, 0]
def k0_mult14 (d0 : Dev nD) : BitVec 32 :=
  let c1_i32_128 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v205 : BitVec 32 := Scalar.subi c1_i32_128 v8
  let c1024_i32_129 : BitVec 32 := 1024#32
  let v206 : BitVec 32 := Scalar.muli v205 c1024_i32_129
  v206
def k0_mult15 (d0 : Dev nD) : BitVec 32 :=
  let c1_i32_137 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v217 : BitVec 32 := Scalar.subi c1_i32_137 v8
  let c1024_i32_138 : BitVec 32 := 1024#32
  let v218 : BitVec 32 := Scalar.muli v217 c1024_i32_138
  v218
def k0_mult16 (d0 : Dev nD) : BitVec 32 :=
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v229 : BitVec 32 := Scalar.subi c1_i32_146 v8
  let c704_i32_147 : BitVec 32 := 704#32
  let v230 : BitVec 32 := Scalar.muli v229 c704_i32_147
  v230
-- ==== HalvesRef.lean ====
abbrev S8192x1408 : Shape := ⟨2, ![8192, 1408]⟩
abbrev S5632x2048 : Shape := ⟨2, ![5632, 2048]⟩
abbrev S8192x1280 : Shape := ⟨2, ![8192, 1280]⟩
abbrev S2048x2048 : Shape := ⟨2, ![2048, 2048]⟩
abbrev S4x1x2048x1408 : Shape := ⟨4, ![4, 1, 2048, 1408]⟩
abbrev S4x2x2048x1408 : Shape := ⟨4, ![4, 2, 2048, 1408]⟩
abbrev S16384x1408 : Shape := ⟨2, ![16384, 1408]⟩
abbrev S4x1x1408x2048 : Shape := ⟨4, ![4, 1, 1408, 2048]⟩
abbrev S4x2x1408x2048 : Shape := ⟨4, ![4, 2, 1408, 2048]⟩
abbrev S11264x2048 : Shape := ⟨2, ![11264, 2048]⟩
abbrev S4x1x2048x1280 : Shape := ⟨4, ![4, 1, 2048, 1280]⟩
abbrev S4x2x2048x1280 : Shape := ⟨4, ![4, 2, 2048, 1280]⟩
abbrev S16384x1280 : Shape := ⟨2, ![16384, 1280]⟩
abbrev S4x1x512x2048 : Shape := ⟨4, ![4, 1, 512, 2048]⟩
abbrev S4x2x512x2048 : Shape := ⟨4, ![4, 2, 512, 2048]⟩
abbrev S4096x2048 : Shape := ⟨2, ![4096, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8192x1408, .f32⟩
  | .hbm, ⟨1, _⟩ => ⟨S8192x1408, .f32⟩
  | .hbm, ⟨2, _⟩ => ⟨S5632x2048, .f32⟩
  | .hbm, ⟨3, _⟩ => ⟨S8192x1280, .f32⟩
  | .hbm, ⟨4, _⟩ => ⟨S2048x2048, .f32⟩
  | .hbm, ⟨5, _⟩ => ⟨S8192x1408, .f32⟩
  | .hbm, ⟨6, _⟩ => ⟨S8192x1408, .f32⟩
  | .hbm, ⟨7, _⟩ => ⟨S5632x2048, .f32⟩
  | .hbm, ⟨8, _⟩ => ⟨S4x1x2048x1408, .f32⟩
  | .hbm, ⟨9, _⟩ => ⟨S4x2x2048x1408, .f32⟩
  | .hbm, ⟨10, _⟩ => ⟨S16384x1408, .f32⟩
  | .hbm, ⟨11, _⟩ => ⟨S4x1x2048x1408, .f32⟩
  | .hbm, ⟨12, _⟩ => ⟨S4x2x2048x1408, .f32⟩
  | .hbm, ⟨13, _⟩ => ⟨S16384x1408, .f32⟩
  | .hbm, ⟨14, _⟩ => ⟨S4x1x1408x2048, .f32⟩
  | .hbm, ⟨15, _⟩ => ⟨S4x2x1408x2048, .f32⟩
  | .hbm, ⟨16, _⟩ => ⟨S11264x2048, .f32⟩
  | .hbm, ⟨17, _⟩ => ⟨S4x1x2048x1280, .f32⟩
  | .hbm, ⟨18, _⟩ => ⟨S4x2x2048x1280, .f32⟩
  | .hbm, ⟨19, _⟩ => ⟨S16384x1280, .f32⟩
  | .hbm, ⟨20, _⟩ => ⟨S4x1x512x2048, .f32⟩
  | .hbm, ⟨21, _⟩ => ⟨S4x2x512x2048, .f32⟩
  | .hbm, ⟨22, _⟩ => ⟨S4096x2048, .f32⟩
  | .hbm, ⟨23, _⟩ => ⟨S4x1x2048x1408, .f32⟩
  | .hbm, ⟨24, _⟩ => ⟨S4x2x2048x1408, .f32⟩
  | .hbm, ⟨25, _⟩ => ⟨S16384x1408, .f32⟩
  | .hbm, ⟨26, _⟩ => ⟨S4x1x2048x1408, .f32⟩
  | .hbm, ⟨27, _⟩ => ⟨S4x2x2048x1408, .f32⟩
  | .hbm, ⟨28, _⟩ => ⟨S16384x1408, .f32⟩
  | .hbm, ⟨29, _⟩ => ⟨S4x1x1408x2048, .f32⟩
  | .hbm, ⟨30, _⟩ => ⟨S4x2x1408x2048, .f32⟩
  | .hbm, ⟨31, _⟩ => ⟨S11264x2048, .f32⟩
  | _, _ => ⟨S8192x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Gather.lean ====
abbrev S2048x1408 : Shape := ⟨2, ![2048, 1408]⟩
abbrev S1408x2048 : Shape := ⟨2, ![1408, 2048]⟩
abbrev S2048x1280 : Shape := ⟨2, ![2048, 1280]⟩
abbrev S512x2048 : Shape := ⟨2, ![512, 2048]⟩
abbrev S8x256 : Shape := ⟨2, ![8, 256]⟩
abbrev S4x2048x1408 : Shape := ⟨3, ![4, 2048, 1408]⟩
abbrev S4x1408x2048 : Shape := ⟨3, ![4, 1408, 2048]⟩
abbrev S4x2048x1280 : Shape := ⟨3, ![4, 2048, 1280]⟩
abbrev S4x512x2048 : Shape := ⟨3, ![4, 512, 2048]⟩
abbrev S4x8x256 : Shape := ⟨3, ![4, 8, 256]⟩
abbrev S24 : Shape := ⟨1, ![24]⟩
abbrev S9 : Shape := ⟨1, ![9]⟩
abbrev S3 : Shape := ⟨1, ![3]⟩
abbrev S1 : Shape := ⟨1, ![1]⟩
abbrev S_ : Shape := ⟨0, ![]⟩
abbrev S1x2048x1408 : Shape := ⟨3, ![1, 2048, 1408]⟩
abbrev S1x1408x2048 : Shape := ⟨3, ![1, 1408, 2048]⟩
abbrev S1x2048x1280 : Shape := ⟨3, ![1, 2048, 1280]⟩
abbrev S1x512x2048 : Shape := ⟨3, ![1, 512, 2048]⟩
abbrev S1x8x256 : Shape := ⟨3, ![1, 8, 256]⟩
abbrev S1x1024x1408 : Shape := ⟨3, ![1, 1024, 1408]⟩
abbrev S1024x1408 : Shape := ⟨2, ![1024, 1408]⟩
abbrev S1x704x2048 : Shape := ⟨3, ![1, 704, 2048]⟩
abbrev S704x2048 : Shape := ⟨2, ![704, 2048]⟩
abbrev S1x1024x1280 : Shape := ⟨3, ![1, 1024, 1280]⟩
abbrev S1024x1280 : Shape := ⟨2, ![1024, 1280]⟩
abbrev S1x256x2048 : Shape := ⟨3, ![1, 256, 2048]⟩
abbrev S256x2048 : Shape := ⟨2, ![256, 2048]⟩

abbrev nBuf : Space → Nat
  | .hbm => 18
  | .vmem => 0
  | .smem => 0
  | _ => 0

abbrev bufTy : (tb : Table) → Fin (tcTables nBuf tb) → BufTy
  | .hbm, ⟨0, _⟩ => ⟨S2048x1408, .bf16⟩
  | .hbm, ⟨1, _⟩ => ⟨S2048x1408, .bf16⟩
  | .hbm, ⟨2, _⟩ => ⟨S1408x2048, .bf16⟩
  | .hbm, ⟨3, _⟩ => ⟨S2048x1280, .bf16⟩
  | .hbm, ⟨4, _⟩ => ⟨S512x2048, .bf16⟩
  | .hbm, ⟨5, _⟩ => ⟨S2048x1408, .bf16⟩
  | .hbm, ⟨6, _⟩ => ⟨S2048x1408, .bf16⟩
  | .hbm, ⟨7, _⟩ => ⟨S1408x2048, .bf16⟩
  | .hbm, ⟨8, _⟩ => ⟨S8x256, .f32⟩
  | .hbm, ⟨9, _⟩ => ⟨S4x2048x1408, .bf16⟩
  | .hbm, ⟨10, _⟩ => ⟨S4x2048x1408, .bf16⟩
  | .hbm, ⟨11, _⟩ => ⟨S4x1408x2048, .bf16⟩
  | .hbm, ⟨12, _⟩ => ⟨S4x2048x1280, .bf16⟩
  | .hbm, ⟨13, _⟩ => ⟨S4x512x2048, .bf16⟩
  | .hbm, ⟨14, _⟩ => ⟨S4x2048x1408, .bf16⟩
  | .hbm, ⟨15, _⟩ => ⟨S4x2048x1408, .bf16⟩
  | .hbm, ⟨16, _⟩ => ⟨S4x1408x2048, .bf16⟩
  | .hbm, ⟨17, _⟩ => ⟨S4x8x256, .f32⟩
  | _, _ => ⟨S2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 111 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | _ => false

abbrev sig : RefSig :=
  ofTc nBuf bufTy 0 111 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev main_v1_7 : Ref sig .tc := ⟨.hbm, 16, rfl⟩
abbrev main_v1_8 : Ref sig .tc := ⟨.hbm, 17, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_12 : BitVec 32 := 0#32
  let c0_i32_13 : BitVec 32 := 0#32
  ![v14.toNat, 0, 0]
def k0_off2 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_18 : BitVec 32 := 0#32
  let c0_i32_19 : BitVec 32 := 0#32
  ![v14.toNat, 0, 0]
def k0_off3 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_20 : BitVec 32 := 0#32
  let c0_i32_21 : BitVec 32 := 0#32
  ![v14.toNat, 0, 0]
def k0_off4 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_23 : BitVec 32 := 0#32
  let c0_i32_24 : BitVec 32 := 0#32
  ![v14.toNat, 0, 0]
def k0_off5 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_31 : BitVec 32 := 0#32
  let c0_i32_32 : BitVec 32 := 0#32
  ![v14.toNat, 0, 0]
def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v58 : BitVec 32 := Scalar.muli v8 c1024_i32
  v58
def k0_mult2 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_33 : BitVec 32 := 1024#32
  let v60 : BitVec 32 := Scalar.muli v8 c1024_i32_33
  v60
def k0_mult3 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_34 : BitVec 32 := 1024#32
  let v62 : BitVec 32 := Scalar.muli v8 c1024_i32_34
  v62
def k0_mult4 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_35 : BitVec 32 := 1024#32
  let v64 : BitVec 32 := Scalar.muli v8 c1024_i32_35
  v64
def k0_mult5 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_36 : BitVec 32 := 1024#32
  let v66 : BitVec 32 := Scalar.muli v8 c1024_i32_36
  v66
def k0_mult6 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_37 : BitVec 32 := 1024#32
  let v68 : BitVec 32 := Scalar.muli v8 c1024_i32_37
  v68
def k0_mult7 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_38 : BitVec 32 := 1024#32
  let v70 : BitVec 32 := Scalar.muli v8 c1024_i32_38
  v70
def k0_mult8 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_39 : BitVec 32 := 1024#32
  let v72 : BitVec 32 := Scalar.muli v8 c1024_i32_39
  v72
def k0_mult9 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_40 : BitVec 32 := 1024#32
  let v74 : BitVec 32 := Scalar.muli v8 c1024_i32_40
  v74
def k0_mult10 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_41 : BitVec 32 := 1024#32
  let v76 : BitVec 32 := Scalar.muli v8 c1024_i32_41
  v76
def k0_mult11 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_42 : BitVec 32 := 1024#32
  let v78 : BitVec 32 := Scalar.muli v8 c1024_i32_42
  v78
def k0_mult12 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_43 : BitVec 32 := 1024#32
  let v80 : BitVec 32 := Scalar.muli v8 c1024_i32_43
  v80
def k0_mult13 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32 : BitVec 32 := 704#32
  let v82 : BitVec 32 := Scalar.muli v8 c704_i32
  v82
def k0_mult14 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_44 : BitVec 32 := 704#32
  let v84 : BitVec 32 := Scalar.muli v8 c704_i32_44
  v84
def k0_mult15 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_45 : BitVec 32 := 704#32
  let v86 : BitVec 32 := Scalar.muli v8 c704_i32_45
  v86
def k0_mult16 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_46 : BitVec 32 := 704#32
  let v88 : BitVec 32 := Scalar.muli v8 c704_i32_46
  v88
def k0_mult17 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_47 : BitVec 32 := 704#32
  let v90 : BitVec 32 := Scalar.muli v8 c704_i32_47
  v90
def k0_mult18 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_48 : BitVec 32 := 704#32
  let v92 : BitVec 32 := Scalar.muli v8 c704_i32_48
  v92
def k0_mult19 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_49 : BitVec 32 := 1024#32
  let v94 : BitVec 32 := Scalar.muli v8 c1024_i32_49
  v94
def k0_mult20 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_50 : BitVec 32 := 1024#32
  let v96 : BitVec 32 := Scalar.muli v8 c1024_i32_50
  v96
def k0_mult21 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_51 : BitVec 32 := 1024#32
  let v98 : BitVec 32 := Scalar.muli v8 c1024_i32_51
  v98
def k0_mult22 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_52 : BitVec 32 := 1024#32
  let v100 : BitVec 32 := Scalar.muli v8 c1024_i32_52
  v100
def k0_mult23 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_53 : BitVec 32 := 1024#32
  let v102 : BitVec 32 := Scalar.muli v8 c1024_i32_53
  v102
def k0_mult24 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_54 : BitVec 32 := 1024#32
  let v104 : BitVec 32 := Scalar.muli v8 c1024_i32_54
  v104
def k0_mult25 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32 : BitVec 32 := 256#32
  let v106 : BitVec 32 := Scalar.muli v8 c256_i32
  v106
def k0_mult26 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_55 : BitVec 32 := 256#32
  let v108 : BitVec 32 := Scalar.muli v8 c256_i32_55
  v108
def k0_mult27 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_56 : BitVec 32 := 256#32
  let v110 : BitVec 32 := Scalar.muli v8 c256_i32_56
  v110
def k0_mult28 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_57 : BitVec 32 := 256#32
  let v112 : BitVec 32 := Scalar.muli v8 c256_i32_57
  v112
def k0_mult29 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_58 : BitVec 32 := 256#32
  let v114 : BitVec 32 := Scalar.muli v8 c256_i32_58
  v114
def k0_mult30 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_59 : BitVec 32 := 256#32
  let v116 : BitVec 32 := Scalar.muli v8 c256_i32_59
  v116
def k0_mult31 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_60 : BitVec 32 := 1024#32
  let v118 : BitVec 32 := Scalar.muli v8 c1024_i32_60
  v118
def k0_mult32 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_61 : BitVec 32 := 1024#32
  let v120 : BitVec 32 := Scalar.muli v8 c1024_i32_61
  v120
def k0_mult33 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_62 : BitVec 32 := 1024#32
  let v122 : BitVec 32 := Scalar.muli v8 c1024_i32_62
  v122
def k0_mult34 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_63 : BitVec 32 := 1024#32
  let v124 : BitVec 32 := Scalar.muli v8 c1024_i32_63
  v124
def k0_mult35 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_64 : BitVec 32 := 1024#32
  let v126 : BitVec 32 := Scalar.muli v8 c1024_i32_64
  v126
def k0_mult36 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_65 : BitVec 32 := 1024#32
  let v128 : BitVec 32 := Scalar.muli v8 c1024_i32_65
  v128
def k0_mult37 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_66 : BitVec 32 := 1024#32
  let v130 : BitVec 32 := Scalar.muli v8 c1024_i32_66
  v130
def k0_mult38 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_67 : BitVec 32 := 1024#32
  let v132 : BitVec 32 := Scalar.muli v8 c1024_i32_67
  v132
def k0_mult39 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_68 : BitVec 32 := 1024#32
  let v134 : BitVec 32 := Scalar.muli v8 c1024_i32_68
  v134
def k0_mult40 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_69 : BitVec 32 := 1024#32
  let v136 : BitVec 32 := Scalar.muli v8 c1024_i32_69
  v136
def k0_mult41 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_70 : BitVec 32 := 1024#32
  let v138 : BitVec 32 := Scalar.muli v8 c1024_i32_70
  v138
def k0_mult42 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_71 : BitVec 32 := 1024#32
  let v140 : BitVec 32 := Scalar.muli v8 c1024_i32_71
  v140
def k0_mult43 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_72 : BitVec 32 := 704#32
  let v142 : BitVec 32 := Scalar.muli v8 c704_i32_72
  v142
def k0_mult44 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_73 : BitVec 32 := 704#32
  let v144 : BitVec 32 := Scalar.muli v8 c704_i32_73
  v144
def k0_mult45 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_74 : BitVec 32 := 704#32
  let v146 : BitVec 32 := Scalar.muli v8 c704_i32_74
  v146
def k0_mult46 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_75 : BitVec 32 := 704#32
  let v148 : BitVec 32 := Scalar.muli v8 c704_i32_75
  v148
def k0_mult47 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_76 : BitVec 32 := 704#32
  let v150 : BitVec 32 := Scalar.muli v8 c704_i32_76
  v150
def k0_mult48 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_77 : BitVec 32 := 704#32
  let v152 : BitVec 32 := Scalar.muli v8 c704_i32_77
  v152
def k0_off6 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_33 : BitVec 32 := 1024#32
  let v60 : BitVec 32 := Scalar.muli v8 c1024_i32_33
  let v61 : BitVec 32 := v60
  let c0_i32_84 : BitVec 32 := 0#32
  ![v14.toNat, v61.toNat, 0]
def k0_off7 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v58 : BitVec 32 := Scalar.muli v8 c1024_i32
  let v59 : BitVec 32 := v58
  let c0_i32_85 : BitVec 32 := 0#32
  ![v59.toNat, 0]
def k0_dev1 (d0 : Dev nD) : Nat :=
  let c0_i32_81 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_80 : BitVec 32 := 4#32
  let v154 : BitVec 32 := Scalar.muli v9 c4_i32_80
  let v155 : BitVec 32 := Scalar.addi c0_i32_81 v154
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_82 : BitVec 32 := 2#32
  let v156 : BitVec 32 := Scalar.muli v5 c2_i32_82
  let v157 : BitVec 32 := Scalar.addi v155 v156
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_83 : BitVec 32 := 1#32
  let v158 : BitVec 32 := Scalar.muli v8 c1_i32_83
  let v159 : BitVec 32 := Scalar.addi v157 v158
  v159.toNat
def k0_dev2 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_88 : BitVec 32 := 4#32
  let v167 : BitVec 32 := Scalar.muli v2 c4_i32_88
  let v168 : BitVec 32 := Scalar.addi c0_i32_89 v167
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_90 : BitVec 32 := 2#32
  let v169 : BitVec 32 := Scalar.muli v10 c2_i32_90
  let v170 : BitVec 32 := Scalar.addi v168 v169
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_91 : BitVec 32 := 1#32
  let v171 : BitVec 32 := Scalar.muli v8 c1_i32_91
  let v172 : BitVec 32 := Scalar.addi v170 v171
  v172.toNat
def k0_dev3 (d0 : Dev nD) : Nat :=
  let c0_i32_97 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_96 : BitVec 32 := 4#32
  let v180 : BitVec 32 := Scalar.muli v11 c4_i32_96
  let v181 : BitVec 32 := Scalar.addi c0_i32_97 v180
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_98 : BitVec 32 := 2#32
  let v182 : BitVec 32 := Scalar.muli v12 c2_i32_98
  let v183 : BitVec 32 := Scalar.addi v181 v182
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_99 : BitVec 32 := 1#32
  let v184 : BitVec 32 := Scalar.muli v8 c1_i32_99
  let v185 : BitVec 32 := Scalar.addi v183 v184
  v185.toNat
def k0_dev4 (d0 : Dev nD) : Nat :=
  let c0_i32_105 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_104 : BitVec 32 := 4#32
  let v193 : BitVec 32 := Scalar.muli v9 c4_i32_104
  let v194 : BitVec 32 := Scalar.addi c0_i32_105 v193
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_106 : BitVec 32 := 2#32
  let v195 : BitVec 32 := Scalar.muli v5 c2_i32_106
  let v196 : BitVec 32 := Scalar.addi v194 v195
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v197 : BitVec 32 := Scalar.muli v8 c1_i32_107
  let v198 : BitVec 32 := Scalar.addi v196 v197
  v198.toNat
def k0_dev5 (d0 : Dev nD) : Nat :=
  let c0_i32_113 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_112 : BitVec 32 := 4#32
  let v206 : BitVec 32 := Scalar.muli v2 c4_i32_112
  let v207 : BitVec 32 := Scalar.addi c0_i32_113 v206
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_114 : BitVec 32 := 2#32
  let v208 : BitVec 32 := Scalar.muli v10 c2_i32_114
  let v209 : BitVec 32 := Scalar.addi v207 v208
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_115 : BitVec 32 := 1#32
  let v210 : BitVec 32 := Scalar.muli v8 c1_i32_115
  let v211 : BitVec 32 := Scalar.addi v209 v210
  v211.toNat
def k0_dev6 (d0 : Dev nD) : Nat :=
  let c0_i32_121 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_120 : BitVec 32 := 4#32
  let v219 : BitVec 32 := Scalar.muli v11 c4_i32_120
  let v220 : BitVec 32 := Scalar.addi c0_i32_121 v219
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_122 : BitVec 32 := 2#32
  let v221 : BitVec 32 := Scalar.muli v12 c2_i32_122
  let v222 : BitVec 32 := Scalar.addi v220 v221
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_123 : BitVec 32 := 1#32
  let v223 : BitVec 32 := Scalar.muli v8 c1_i32_123
  let v224 : BitVec 32 := Scalar.addi v222 v223
  v224.toNat
def k0_off8 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_44 : BitVec 32 := 704#32
  let v84 : BitVec 32 := Scalar.muli v8 c704_i32_44
  let v85 : BitVec 32 := v84
  let c0_i32_132 : BitVec 32 := 0#32
  ![v14.toNat, v85.toNat, 0]
def k0_off9 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32 : BitVec 32 := 704#32
  let v82 : BitVec 32 := Scalar.muli v8 c704_i32
  let v83 : BitVec 32 := v82
  let c0_i32_133 : BitVec 32 := 0#32
  ![v83.toNat, 0]
def k0_dev7 (d0 : Dev nD) : Nat :=
  let c0_i32_129 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_128 : BitVec 32 := 4#32
  let v232 : BitVec 32 := Scalar.muli v9 c4_i32_128
  let v233 : BitVec 32 := Scalar.addi c0_i32_129 v232
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_130 : BitVec 32 := 2#32
  let v234 : BitVec 32 := Scalar.muli v5 c2_i32_130
  let v235 : BitVec 32 := Scalar.addi v233 v234
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_131 : BitVec 32 := 1#32
  let v236 : BitVec 32 := Scalar.muli v8 c1_i32_131
  let v237 : BitVec 32 := Scalar.addi v235 v236
  v237.toNat
def k0_dev8 (d0 : Dev nD) : Nat :=
  let c0_i32_137 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_136 : BitVec 32 := 4#32
  let v245 : BitVec 32 := Scalar.muli v2 c4_i32_136
  let v246 : BitVec 32 := Scalar.addi c0_i32_137 v245
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_138 : BitVec 32 := 2#32
  let v247 : BitVec 32 := Scalar.muli v10 c2_i32_138
  let v248 : BitVec 32 := Scalar.addi v246 v247
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_139 : BitVec 32 := 1#32
  let v249 : BitVec 32 := Scalar.muli v8 c1_i32_139
  let v250 : BitVec 32 := Scalar.addi v248 v249
  v250.toNat
def k0_dev9 (d0 : Dev nD) : Nat :=
  let c0_i32_145 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_144 : BitVec 32 := 4#32
  let v258 : BitVec 32 := Scalar.muli v11 c4_i32_144
  let v259 : BitVec 32 := Scalar.addi c0_i32_145 v258
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_146 : BitVec 32 := 2#32
  let v260 : BitVec 32 := Scalar.muli v12 c2_i32_146
  let v261 : BitVec 32 := Scalar.addi v259 v260
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_147 : BitVec 32 := 1#32
  let v262 : BitVec 32 := Scalar.muli v8 c1_i32_147
  let v263 : BitVec 32 := Scalar.addi v261 v262
  v263.toNat
def k0_off10 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_50 : BitVec 32 := 1024#32
  let v96 : BitVec 32 := Scalar.muli v8 c1024_i32_50
  let v97 : BitVec 32 := v96
  let c0_i32_155 : BitVec 32 := 0#32
  ![v14.toNat, v97.toNat, 0]
def k0_off11 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_49 : BitVec 32 := 1024#32
  let v94 : BitVec 32 := Scalar.muli v8 c1024_i32_49
  let v95 : BitVec 32 := v94
  let c0_i32_156 : BitVec 32 := 0#32
  ![v95.toNat, 0]
def k0_dev10 (d0 : Dev nD) : Nat :=
  let c0_i32_152 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_151 : BitVec 32 := 4#32
  let v271 : BitVec 32 := Scalar.muli v9 c4_i32_151
  let v272 : BitVec 32 := Scalar.addi c0_i32_152 v271
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_153 : BitVec 32 := 2#32
  let v273 : BitVec 32 := Scalar.muli v5 c2_i32_153
  let v274 : BitVec 32 := Scalar.addi v272 v273
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_154 : BitVec 32 := 1#32
  let v275 : BitVec 32 := Scalar.muli v8 c1_i32_154
  let v276 : BitVec 32 := Scalar.addi v274 v275
  v276.toNat
def k0_dev11 (d0 : Dev nD) : Nat :=
  let c0_i32_159 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_158 : BitVec 32 := 4#32
  let v284 : BitVec 32 := Scalar.muli v2 c4_i32_158
  let v285 : BitVec 32 := Scalar.addi c0_i32_159 v284
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_160 : BitVec 32 := 2#32
  let v286 : BitVec 32 := Scalar.muli v10 c2_i32_160
  let v287 : BitVec 32 := Scalar.addi v285 v286
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_161 : BitVec 32 := 1#32
  let v288 : BitVec 32 := Scalar.muli v8 c1_i32_161
  let v289 : BitVec 32 := Scalar.addi v287 v288
  v289.toNat
def k0_dev12 (d0 : Dev nD) : Nat :=
  let c0_i32_166 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_165 : BitVec 32 := 4#32
  let v297 : BitVec 32 := Scalar.muli v11 c4_i32_165
  let v298 : BitVec 32 := Scalar.addi c0_i32_166 v297
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_167 : BitVec 32 := 2#32
  let v299 : BitVec 32 := Scalar.muli v12 c2_i32_167
  let v300 : BitVec 32 := Scalar.addi v298 v299
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_168 : BitVec 32 := 1#32
  let v301 : BitVec 32 := Scalar.muli v8 c1_i32_168
  let v302 : BitVec 32 := Scalar.addi v300 v301
  v302.toNat
def k0_off12 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_55 : BitVec 32 := 256#32
  let v108 : BitVec 32 := Scalar.muli v8 c256_i32_55
  let v109 : BitVec 32 := v108
  let c0_i32_176 : BitVec 32 := 0#32
  ![v14.toNat, v109.toNat, 0]
def k0_off13 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32 : BitVec 32 := 256#32
  let v106 : BitVec 32 := Scalar.muli v8 c256_i32
  let v107 : BitVec 32 := v106
  let c0_i32_177 : BitVec 32 := 0#32
  ![v107.toNat, 0]
def k0_dev13 (d0 : Dev nD) : Nat :=
  let c0_i32_173 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_172 : BitVec 32 := 4#32
  let v310 : BitVec 32 := Scalar.muli v9 c4_i32_172
  let v311 : BitVec 32 := Scalar.addi c0_i32_173 v310
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_174 : BitVec 32 := 2#32
  let v312 : BitVec 32 := Scalar.muli v5 c2_i32_174
  let v313 : BitVec 32 := Scalar.addi v311 v312
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_175 : BitVec 32 := 1#32
  let v314 : BitVec 32 := Scalar.muli v8 c1_i32_175
  let v315 : BitVec 32 := Scalar.addi v313 v314
  v315.toNat
def k0_dev14 (d0 : Dev nD) : Nat :=
  let c0_i32_180 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_179 : BitVec 32 := 4#32
  let v323 : BitVec 32 := Scalar.muli v2 c4_i32_179
  let v324 : BitVec 32 := Scalar.addi c0_i32_180 v323
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_181 : BitVec 32 := 2#32
  let v325 : BitVec 32 := Scalar.muli v10 c2_i32_181
  let v326 : BitVec 32 := Scalar.addi v324 v325
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_182 : BitVec 32 := 1#32
  let v327 : BitVec 32 := Scalar.muli v8 c1_i32_182
  let v328 : BitVec 32 := Scalar.addi v326 v327
  v328.toNat
def k0_dev15 (d0 : Dev nD) : Nat :=
  let c0_i32_187 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_186 : BitVec 32 := 4#32
  let v336 : BitVec 32 := Scalar.muli v11 c4_i32_186
  let v337 : BitVec 32 := Scalar.addi c0_i32_187 v336
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_188 : BitVec 32 := 2#32
  let v338 : BitVec 32 := Scalar.muli v12 c2_i32_188
  let v339 : BitVec 32 := Scalar.addi v337 v338
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_189 : BitVec 32 := 1#32
  let v340 : BitVec 32 := Scalar.muli v8 c1_i32_189
  let v341 : BitVec 32 := Scalar.addi v339 v340
  v341.toNat
def k0_dev16 (d0 : Dev nD) : Nat :=
  let c0_i32_194 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_193 : BitVec 32 := 4#32
  let v349 : BitVec 32 := Scalar.muli v9 c4_i32_193
  let v350 : BitVec 32 := Scalar.addi c0_i32_194 v349
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_195 : BitVec 32 := 2#32
  let v351 : BitVec 32 := Scalar.muli v5 c2_i32_195
  let v352 : BitVec 32 := Scalar.addi v350 v351
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_196 : BitVec 32 := 1#32
  let v353 : BitVec 32 := Scalar.muli v8 c1_i32_196
  let v354 : BitVec 32 := Scalar.addi v352 v353
  v354.toNat
def k0_dev17 (d0 : Dev nD) : Nat :=
  let c0_i32_201 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_200 : BitVec 32 := 4#32
  let v362 : BitVec 32 := Scalar.muli v2 c4_i32_200
  let v363 : BitVec 32 := Scalar.addi c0_i32_201 v362
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_202 : BitVec 32 := 2#32
  let v364 : BitVec 32 := Scalar.muli v10 c2_i32_202
  let v365 : BitVec 32 := Scalar.addi v363 v364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_203 : BitVec 32 := 1#32
  let v366 : BitVec 32 := Scalar.muli v8 c1_i32_203
  let v367 : BitVec 32 := Scalar.addi v365 v366
  v367.toNat
def k0_dev18 (d0 : Dev nD) : Nat :=
  let c0_i32_208 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_207 : BitVec 32 := 4#32
  let v375 : BitVec 32 := Scalar.muli v11 c4_i32_207
  let v376 : BitVec 32 := Scalar.addi c0_i32_208 v375
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_209 : BitVec 32 := 2#32
  let v377 : BitVec 32 := Scalar.muli v12 c2_i32_209
  let v378 : BitVec 32 := Scalar.addi v376 v377
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_210 : BitVec 32 := 1#32
  let v379 : BitVec 32 := Scalar.muli v8 c1_i32_210
  let v380 : BitVec 32 := Scalar.addi v378 v379
  v380.toNat
def k0_dev19 (d0 : Dev nD) : Nat :=
  let c0_i32_215 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_214 : BitVec 32 := 4#32
  let v388 : BitVec 32 := Scalar.muli v9 c4_i32_214
  let v389 : BitVec 32 := Scalar.addi c0_i32_215 v388
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_216 : BitVec 32 := 2#32
  let v390 : BitVec 32 := Scalar.muli v5 c2_i32_216
  let v391 : BitVec 32 := Scalar.addi v389 v390
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_217 : BitVec 32 := 1#32
  let v392 : BitVec 32 := Scalar.muli v8 c1_i32_217
  let v393 : BitVec 32 := Scalar.addi v391 v392
  v393.toNat
def k0_dev20 (d0 : Dev nD) : Nat :=
  let c0_i32_222 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_221 : BitVec 32 := 4#32
  let v401 : BitVec 32 := Scalar.muli v2 c4_i32_221
  let v402 : BitVec 32 := Scalar.addi c0_i32_222 v401
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_223 : BitVec 32 := 2#32
  let v403 : BitVec 32 := Scalar.muli v10 c2_i32_223
  let v404 : BitVec 32 := Scalar.addi v402 v403
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_224 : BitVec 32 := 1#32
  let v405 : BitVec 32 := Scalar.muli v8 c1_i32_224
  let v406 : BitVec 32 := Scalar.addi v404 v405
  v406.toNat
def k0_dev21 (d0 : Dev nD) : Nat :=
  let c0_i32_229 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_228 : BitVec 32 := 4#32
  let v414 : BitVec 32 := Scalar.muli v11 c4_i32_228
  let v415 : BitVec 32 := Scalar.addi c0_i32_229 v414
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_230 : BitVec 32 := 2#32
  let v416 : BitVec 32 := Scalar.muli v12 c2_i32_230
  let v417 : BitVec 32 := Scalar.addi v415 v416
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_231 : BitVec 32 := 1#32
  let v418 : BitVec 32 := Scalar.muli v8 c1_i32_231
  let v419 : BitVec 32 := Scalar.addi v417 v418
  v419.toNat
def k0_dev22 (d0 : Dev nD) : Nat :=
  let c0_i32_236 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_235 : BitVec 32 := 4#32
  let v427 : BitVec 32 := Scalar.muli v9 c4_i32_235
  let v428 : BitVec 32 := Scalar.addi c0_i32_236 v427
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_237 : BitVec 32 := 2#32
  let v429 : BitVec 32 := Scalar.muli v5 c2_i32_237
  let v430 : BitVec 32 := Scalar.addi v428 v429
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_238 : BitVec 32 := 1#32
  let v431 : BitVec 32 := Scalar.muli v8 c1_i32_238
  let v432 : BitVec 32 := Scalar.addi v430 v431
  v432.toNat
def k0_dev23 (d0 : Dev nD) : Nat :=
  let c0_i32_243 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_242 : BitVec 32 := 4#32
  let v440 : BitVec 32 := Scalar.muli v2 c4_i32_242
  let v441 : BitVec 32 := Scalar.addi c0_i32_243 v440
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_244 : BitVec 32 := 2#32
  let v442 : BitVec 32 := Scalar.muli v10 c2_i32_244
  let v443 : BitVec 32 := Scalar.addi v441 v442
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_245 : BitVec 32 := 1#32
  let v444 : BitVec 32 := Scalar.muli v8 c1_i32_245
  let v445 : BitVec 32 := Scalar.addi v443 v444
  v445.toNat
def k0_dev24 (d0 : Dev nD) : Nat :=
  let c0_i32_250 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_249 : BitVec 32 := 4#32
  let v453 : BitVec 32 := Scalar.muli v11 c4_i32_249
  let v454 : BitVec 32 := Scalar.addi c0_i32_250 v453
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_251 : BitVec 32 := 2#32
  let v455 : BitVec 32 := Scalar.muli v12 c2_i32_251
  let v456 : BitVec 32 := Scalar.addi v454 v455
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_252 : BitVec 32 := 1#32
  let v457 : BitVec 32 := Scalar.muli v8 c1_i32_252
  let v458 : BitVec 32 := Scalar.addi v456 v457
  v458.toNat
def k0_dev25 (d0 : Dev nD) : Nat :=
  let c0_i32_258 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_257 : BitVec 32 := 4#32
  let v466 : BitVec 32 := Scalar.muli v9 c4_i32_257
  let v467 : BitVec 32 := Scalar.addi c0_i32_258 v466
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_259 : BitVec 32 := 2#32
  let v468 : BitVec 32 := Scalar.muli v5 c2_i32_259
  let v469 : BitVec 32 := Scalar.addi v467 v468
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_260 : BitVec 32 := 1#32
  let v470 : BitVec 32 := Scalar.muli v8 c1_i32_260
  let v471 : BitVec 32 := Scalar.addi v469 v470
  v471.toNat
def k0_dev26 (d0 : Dev nD) : Nat :=
  let c0_i32_266 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_265 : BitVec 32 := 4#32
  let v478 : BitVec 32 := Scalar.muli v2 c4_i32_265
  let v479 : BitVec 32 := Scalar.addi c0_i32_266 v478
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_267 : BitVec 32 := 2#32
  let v480 : BitVec 32 := Scalar.muli v10 c2_i32_267
  let v481 : BitVec 32 := Scalar.addi v479 v480
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_268 : BitVec 32 := 1#32
  let v482 : BitVec 32 := Scalar.muli v8 c1_i32_268
  let v483 : BitVec 32 := Scalar.addi v481 v482
  v483.toNat
def k0_dev27 (d0 : Dev nD) : Nat :=
  let c0_i32_274 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_273 : BitVec 32 := 4#32
  let v490 : BitVec 32 := Scalar.muli v11 c4_i32_273
  let v491 : BitVec 32 := Scalar.addi c0_i32_274 v490
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_275 : BitVec 32 := 2#32
  let v492 : BitVec 32 := Scalar.muli v12 c2_i32_275
  let v493 : BitVec 32 := Scalar.addi v491 v492
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_276 : BitVec 32 := 1#32
  let v494 : BitVec 32 := Scalar.muli v8 c1_i32_276
  let v495 : BitVec 32 := Scalar.addi v493 v494
  v495.toNat
def k0_mult49 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_279 : BitVec 32 := 1024#32
  let v502 : BitVec 32 := Scalar.muli v8 c1024_i32_279
  v502
def k0_off14 (d0 : Dev nD) : Fin 3 → Nat :=
  let c2_i32_8 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v15 : BitVec 32 := Scalar.muli c2_i32_8 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_279 : BitVec 32 := 1024#32
  let v502 : BitVec 32 := Scalar.muli v8 c1024_i32_279
  let v503 : BitVec 32 := v502
  let c0_i32_286 : BitVec 32 := 0#32
  ![v16.toNat, v503.toNat, 0]
def k0_dev28 (d0 : Dev nD) : Nat :=
  let c0_i32_291 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_290 : BitVec 32 := 4#32
  let v516 : BitVec 32 := Scalar.muli v2 c4_i32_290
  let v517 : BitVec 32 := Scalar.addi c0_i32_291 v516
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_292 : BitVec 32 := 2#32
  let v518 : BitVec 32 := Scalar.muli v5 c2_i32_292
  let v519 : BitVec 32 := Scalar.addi v517 v518
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_293 : BitVec 32 := 1#32
  let v520 : BitVec 32 := Scalar.muli v21 c1_i32_293
  let v521 : BitVec 32 := Scalar.addi v519 v520
  v521.toNat
def k0_mult50 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_296 : BitVec 32 := 1024#32
  let v530 : BitVec 32 := Scalar.muli v8 c1024_i32_296
  v530
def k0_dev29 (d0 : Dev nD) : Nat :=
  let c0_i32_308 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_307 : BitVec 32 := 4#32
  let v544 : BitVec 32 := Scalar.muli v2 c4_i32_307
  let v545 : BitVec 32 := Scalar.addi c0_i32_308 v544
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_309 : BitVec 32 := 2#32
  let v546 : BitVec 32 := Scalar.muli v5 c2_i32_309
  let v547 : BitVec 32 := Scalar.addi v545 v546
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_310 : BitVec 32 := 1#32
  let v548 : BitVec 32 := Scalar.muli v21 c1_i32_310
  let v549 : BitVec 32 := Scalar.addi v547 v548
  v549.toNat
def k0_mult51 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_313 : BitVec 32 := 704#32
  let v558 : BitVec 32 := Scalar.muli v8 c704_i32_313
  v558
def k0_off15 (d0 : Dev nD) : Fin 3 → Nat :=
  let c2_i32_8 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v15 : BitVec 32 := Scalar.muli c2_i32_8 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_313 : BitVec 32 := 704#32
  let v558 : BitVec 32 := Scalar.muli v8 c704_i32_313
  let v559 : BitVec 32 := v558
  let c0_i32_320 : BitVec 32 := 0#32
  ![v16.toNat, v559.toNat, 0]
def k0_dev30 (d0 : Dev nD) : Nat :=
  let c0_i32_325 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_324 : BitVec 32 := 4#32
  let v572 : BitVec 32 := Scalar.muli v2 c4_i32_324
  let v573 : BitVec 32 := Scalar.addi c0_i32_325 v572
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_326 : BitVec 32 := 2#32
  let v574 : BitVec 32 := Scalar.muli v5 c2_i32_326
  let v575 : BitVec 32 := Scalar.addi v573 v574
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_327 : BitVec 32 := 1#32
  let v576 : BitVec 32 := Scalar.muli v21 c1_i32_327
  let v577 : BitVec 32 := Scalar.addi v575 v576
  v577.toNat
def k0_mult52 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_330 : BitVec 32 := 1024#32
  let v586 : BitVec 32 := Scalar.muli v8 c1024_i32_330
  v586
def k0_off16 (d0 : Dev nD) : Fin 3 → Nat :=
  let c2_i32_8 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v15 : BitVec 32 := Scalar.muli c2_i32_8 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_330 : BitVec 32 := 1024#32
  let v586 : BitVec 32 := Scalar.muli v8 c1024_i32_330
  let v587 : BitVec 32 := v586
  let c0_i32_337 : BitVec 32 := 0#32
  ![v16.toNat, v587.toNat, 0]
def k0_dev31 (d0 : Dev nD) : Nat :=
  let c0_i32_342 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_341 : BitVec 32 := 4#32
  let v600 : BitVec 32 := Scalar.muli v2 c4_i32_341
  let v601 : BitVec 32 := Scalar.addi c0_i32_342 v600
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_343 : BitVec 32 := 2#32
  let v602 : BitVec 32 := Scalar.muli v5 c2_i32_343
  let v603 : BitVec 32 := Scalar.addi v601 v602
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_344 : BitVec 32 := 1#32
  let v604 : BitVec 32 := Scalar.muli v21 c1_i32_344
  let v605 : BitVec 32 := Scalar.addi v603 v604
  v605.toNat
def k0_mult53 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_347 : BitVec 32 := 256#32
  let v614 : BitVec 32 := Scalar.muli v8 c256_i32_347
  v614
def k0_off17 (d0 : Dev nD) : Fin 3 → Nat :=
  let c2_i32_8 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v15 : BitVec 32 := Scalar.muli c2_i32_8 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_347 : BitVec 32 := 256#32
  let v614 : BitVec 32 := Scalar.muli v8 c256_i32_347
  let v615 : BitVec 32 := v614
  let c0_i32_354 : BitVec 32 := 0#32
  ![v16.toNat, v615.toNat, 0]
def k0_dev32 (d0 : Dev nD) : Nat :=
  let c0_i32_359 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_358 : BitVec 32 := 4#32
  let v628 : BitVec 32 := Scalar.muli v2 c4_i32_358
  let v629 : BitVec 32 := Scalar.addi c0_i32_359 v628
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_360 : BitVec 32 := 2#32
  let v630 : BitVec 32 := Scalar.muli v5 c2_i32_360
  let v631 : BitVec 32 := Scalar.addi v629 v630
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_361 : BitVec 32 := 1#32
  let v632 : BitVec 32 := Scalar.muli v21 c1_i32_361
  let v633 : BitVec 32 := Scalar.addi v631 v632
  v633.toNat
def k0_mult54 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_364 : BitVec 32 := 1024#32
  let v642 : BitVec 32 := Scalar.muli v8 c1024_i32_364
  v642
def k0_dev33 (d0 : Dev nD) : Nat :=
  let c0_i32_376 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_375 : BitVec 32 := 4#32
  let v656 : BitVec 32 := Scalar.muli v2 c4_i32_375
  let v657 : BitVec 32 := Scalar.addi c0_i32_376 v656
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_377 : BitVec 32 := 2#32
  let v658 : BitVec 32 := Scalar.muli v5 c2_i32_377
  let v659 : BitVec 32 := Scalar.addi v657 v658
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_378 : BitVec 32 := 1#32
  let v660 : BitVec 32 := Scalar.muli v21 c1_i32_378
  let v661 : BitVec 32 := Scalar.addi v659 v660
  v661.toNat
def k0_mult55 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_381 : BitVec 32 := 1024#32
  let v670 : BitVec 32 := Scalar.muli v8 c1024_i32_381
  v670
def k0_dev34 (d0 : Dev nD) : Nat :=
  let c0_i32_393 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_392 : BitVec 32 := 4#32
  let v684 : BitVec 32 := Scalar.muli v2 c4_i32_392
  let v685 : BitVec 32 := Scalar.addi c0_i32_393 v684
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_394 : BitVec 32 := 2#32
  let v686 : BitVec 32 := Scalar.muli v5 c2_i32_394
  let v687 : BitVec 32 := Scalar.addi v685 v686
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_395 : BitVec 32 := 1#32
  let v688 : BitVec 32 := Scalar.muli v21 c1_i32_395
  let v689 : BitVec 32 := Scalar.addi v687 v688
  v689.toNat
def k0_mult56 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_398 : BitVec 32 := 704#32
  let v698 : BitVec 32 := Scalar.muli v8 c704_i32_398
  v698
def k0_dev35 (d0 : Dev nD) : Nat :=
  let c0_i32_410 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_409 : BitVec 32 := 4#32
  let v712 : BitVec 32 := Scalar.muli v2 c4_i32_409
  let v713 : BitVec 32 := Scalar.addi c0_i32_410 v712
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_411 : BitVec 32 := 2#32
  let v714 : BitVec 32 := Scalar.muli v5 c2_i32_411
  let v715 : BitVec 32 := Scalar.addi v713 v714
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_412 : BitVec 32 := 1#32
  let v716 : BitVec 32 := Scalar.muli v21 c1_i32_412
  let v717 : BitVec 32 := Scalar.addi v715 v716
  v717.toNat
def k0_mult57 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_415 : BitVec 32 := 1024#32
  let v726 : BitVec 32 := Scalar.muli v8 c1024_i32_415
  v726
def k0_off18 (d0 : Dev nD) : Fin 3 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v18 : BitVec 32 := Scalar.addi v17 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_415 : BitVec 32 := 1024#32
  let v726 : BitVec 32 := Scalar.muli v8 c1024_i32_415
  let v727 : BitVec 32 := v726
  let c0_i32_422 : BitVec 32 := 0#32
  ![v18.toNat, v727.toNat, 0]
def k0_dev36 (d0 : Dev nD) : Nat :=
  let c0_i32_427 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_426 : BitVec 32 := 4#32
  let v740 : BitVec 32 := Scalar.muli v2 c4_i32_426
  let v741 : BitVec 32 := Scalar.addi c0_i32_427 v740
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_428 : BitVec 32 := 2#32
  let v742 : BitVec 32 := Scalar.muli v5 c2_i32_428
  let v743 : BitVec 32 := Scalar.addi v741 v742
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_429 : BitVec 32 := 1#32
  let v744 : BitVec 32 := Scalar.muli v21 c1_i32_429
  let v745 : BitVec 32 := Scalar.addi v743 v744
  v745.toNat
def k0_mult58 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_432 : BitVec 32 := 1024#32
  let v754 : BitVec 32 := Scalar.muli v8 c1024_i32_432
  v754
def k0_dev37 (d0 : Dev nD) : Nat :=
  let c0_i32_444 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_443 : BitVec 32 := 4#32
  let v768 : BitVec 32 := Scalar.muli v2 c4_i32_443
  let v769 : BitVec 32 := Scalar.addi c0_i32_444 v768
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_445 : BitVec 32 := 2#32
  let v770 : BitVec 32 := Scalar.muli v5 c2_i32_445
  let v771 : BitVec 32 := Scalar.addi v769 v770
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_446 : BitVec 32 := 1#32
  let v772 : BitVec 32 := Scalar.muli v21 c1_i32_446
  let v773 : BitVec 32 := Scalar.addi v771 v772
  v773.toNat
def k0_mult59 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_449 : BitVec 32 := 704#32
  let v782 : BitVec 32 := Scalar.muli v8 c704_i32_449
  v782
def k0_off19 (d0 : Dev nD) : Fin 3 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v18 : BitVec 32 := Scalar.addi v17 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_449 : BitVec 32 := 704#32
  let v782 : BitVec 32 := Scalar.muli v8 c704_i32_449
  let v783 : BitVec 32 := v782
  let c0_i32_456 : BitVec 32 := 0#32
  ![v18.toNat, v783.toNat, 0]
def k0_dev38 (d0 : Dev nD) : Nat :=
  let c0_i32_461 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_460 : BitVec 32 := 4#32
  let v796 : BitVec 32 := Scalar.muli v2 c4_i32_460
  let v797 : BitVec 32 := Scalar.addi c0_i32_461 v796
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_462 : BitVec 32 := 2#32
  let v798 : BitVec 32 := Scalar.muli v5 c2_i32_462
  let v799 : BitVec 32 := Scalar.addi v797 v798
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_463 : BitVec 32 := 1#32
  let v800 : BitVec 32 := Scalar.muli v21 c1_i32_463
  let v801 : BitVec 32 := Scalar.addi v799 v800
  v801.toNat
def k0_mult60 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_466 : BitVec 32 := 1024#32
  let v810 : BitVec 32 := Scalar.muli v8 c1024_i32_466
  v810
def k0_off20 (d0 : Dev nD) : Fin 3 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v18 : BitVec 32 := Scalar.addi v17 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_466 : BitVec 32 := 1024#32
  let v810 : BitVec 32 := Scalar.muli v8 c1024_i32_466
  let v811 : BitVec 32 := v810
  let c0_i32_473 : BitVec 32 := 0#32
  ![v18.toNat, v811.toNat, 0]
def k0_dev39 (d0 : Dev nD) : Nat :=
  let c0_i32_478 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_477 : BitVec 32 := 4#32
  let v824 : BitVec 32 := Scalar.muli v2 c4_i32_477
  let v825 : BitVec 32 := Scalar.addi c0_i32_478 v824
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_479 : BitVec 32 := 2#32
  let v826 : BitVec 32 := Scalar.muli v5 c2_i32_479
  let v827 : BitVec 32 := Scalar.addi v825 v826
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_480 : BitVec 32 := 1#32
  let v828 : BitVec 32 := Scalar.muli v21 c1_i32_480
  let v829 : BitVec 32 := Scalar.addi v827 v828
  v829.toNat
def k0_mult61 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_483 : BitVec 32 := 256#32
  let v838 : BitVec 32 := Scalar.muli v8 c256_i32_483
  v838
def k0_off21 (d0 : Dev nD) : Fin 3 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v18 : BitVec 32 := Scalar.addi v17 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_483 : BitVec 32 := 256#32
  let v838 : BitVec 32 := Scalar.muli v8 c256_i32_483
  let v839 : BitVec 32 := v838
  let c0_i32_490 : BitVec 32 := 0#32
  ![v18.toNat, v839.toNat, 0]
def k0_dev40 (d0 : Dev nD) : Nat :=
  let c0_i32_495 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_494 : BitVec 32 := 4#32
  let v852 : BitVec 32 := Scalar.muli v2 c4_i32_494
  let v853 : BitVec 32 := Scalar.addi c0_i32_495 v852
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_496 : BitVec 32 := 2#32
  let v854 : BitVec 32 := Scalar.muli v5 c2_i32_496
  let v855 : BitVec 32 := Scalar.addi v853 v854
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_497 : BitVec 32 := 1#32
  let v856 : BitVec 32 := Scalar.muli v21 c1_i32_497
  let v857 : BitVec 32 := Scalar.addi v855 v856
  v857.toNat
def k0_mult62 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_500 : BitVec 32 := 1024#32
  let v866 : BitVec 32 := Scalar.muli v8 c1024_i32_500
  v866
def k0_dev41 (d0 : Dev nD) : Nat :=
  let c0_i32_512 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_511 : BitVec 32 := 4#32
  let v880 : BitVec 32 := Scalar.muli v2 c4_i32_511
  let v881 : BitVec 32 := Scalar.addi c0_i32_512 v880
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_513 : BitVec 32 := 2#32
  let v882 : BitVec 32 := Scalar.muli v5 c2_i32_513
  let v883 : BitVec 32 := Scalar.addi v881 v882
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_514 : BitVec 32 := 1#32
  let v884 : BitVec 32 := Scalar.muli v21 c1_i32_514
  let v885 : BitVec 32 := Scalar.addi v883 v884
  v885.toNat
def k0_mult63 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_517 : BitVec 32 := 1024#32
  let v894 : BitVec 32 := Scalar.muli v8 c1024_i32_517
  v894
def k0_dev42 (d0 : Dev nD) : Nat :=
  let c0_i32_529 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_528 : BitVec 32 := 4#32
  let v908 : BitVec 32 := Scalar.muli v2 c4_i32_528
  let v909 : BitVec 32 := Scalar.addi c0_i32_529 v908
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_530 : BitVec 32 := 2#32
  let v910 : BitVec 32 := Scalar.muli v5 c2_i32_530
  let v911 : BitVec 32 := Scalar.addi v909 v910
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_531 : BitVec 32 := 1#32
  let v912 : BitVec 32 := Scalar.muli v21 c1_i32_531
  let v913 : BitVec 32 := Scalar.addi v911 v912
  v913.toNat
def k0_mult64 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_534 : BitVec 32 := 704#32
  let v922 : BitVec 32 := Scalar.muli v8 c704_i32_534
  v922
def k0_dev43 (d0 : Dev nD) : Nat :=
  let c0_i32_546 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_545 : BitVec 32 := 4#32
  let v936 : BitVec 32 := Scalar.muli v2 c4_i32_545
  let v937 : BitVec 32 := Scalar.addi c0_i32_546 v936
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_547 : BitVec 32 := 2#32
  let v938 : BitVec 32 := Scalar.muli v5 c2_i32_547
  let v939 : BitVec 32 := Scalar.addi v937 v938
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_548 : BitVec 32 := 1#32
  let v940 : BitVec 32 := Scalar.muli v21 c1_i32_548
  let v941 : BitVec 32 := Scalar.addi v939 v940
  v941.toNat
def k0_mult65 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_551 : BitVec 32 := 1024#32
  let v950 : BitVec 32 := Scalar.muli v8 c1024_i32_551
  v950
def k0_off22 (d0 : Dev nD) : Fin 3 → Nat :=
  let c2_i32_10 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v19 : BitVec 32 := Scalar.muli c2_i32_10 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v20 : BitVec 32 := Scalar.addi v19 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_551 : BitVec 32 := 1024#32
  let v950 : BitVec 32 := Scalar.muli v8 c1024_i32_551
  let v951 : BitVec 32 := v950
  let c0_i32_558 : BitVec 32 := 0#32
  ![v20.toNat, v951.toNat, 0]
def k0_dev44 (d0 : Dev nD) : Nat :=
  let c0_i32_563 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_562 : BitVec 32 := 4#32
  let v964 : BitVec 32 := Scalar.muli v2 c4_i32_562
  let v965 : BitVec 32 := Scalar.addi c0_i32_563 v964
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_564 : BitVec 32 := 2#32
  let v966 : BitVec 32 := Scalar.muli v5 c2_i32_564
  let v967 : BitVec 32 := Scalar.addi v965 v966
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_565 : BitVec 32 := 1#32
  let v968 : BitVec 32 := Scalar.muli v21 c1_i32_565
  let v969 : BitVec 32 := Scalar.addi v967 v968
  v969.toNat
def k0_mult66 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_568 : BitVec 32 := 1024#32
  let v978 : BitVec 32 := Scalar.muli v8 c1024_i32_568
  v978
def k0_dev45 (d0 : Dev nD) : Nat :=
  let c0_i32_580 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_579 : BitVec 32 := 4#32
  let v992 : BitVec 32 := Scalar.muli v2 c4_i32_579
  let v993 : BitVec 32 := Scalar.addi c0_i32_580 v992
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_581 : BitVec 32 := 2#32
  let v994 : BitVec 32 := Scalar.muli v5 c2_i32_581
  let v995 : BitVec 32 := Scalar.addi v993 v994
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_582 : BitVec 32 := 1#32
  let v996 : BitVec 32 := Scalar.muli v21 c1_i32_582
  let v997 : BitVec 32 := Scalar.addi v995 v996
  v997.toNat
def k0_mult67 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_585 : BitVec 32 := 704#32
  let v1006 : BitVec 32 := Scalar.muli v8 c704_i32_585
  v1006
def k0_off23 (d0 : Dev nD) : Fin 3 → Nat :=
  let c2_i32_10 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v19 : BitVec 32 := Scalar.muli c2_i32_10 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v20 : BitVec 32 := Scalar.addi v19 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_585 : BitVec 32 := 704#32
  let v1006 : BitVec 32 := Scalar.muli v8 c704_i32_585
  let v1007 : BitVec 32 := v1006
  let c0_i32_592 : BitVec 32 := 0#32
  ![v20.toNat, v1007.toNat, 0]
def k0_dev46 (d0 : Dev nD) : Nat :=
  let c0_i32_597 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_596 : BitVec 32 := 4#32
  let v1020 : BitVec 32 := Scalar.muli v2 c4_i32_596
  let v1021 : BitVec 32 := Scalar.addi c0_i32_597 v1020
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_598 : BitVec 32 := 2#32
  let v1022 : BitVec 32 := Scalar.muli v5 c2_i32_598
  let v1023 : BitVec 32 := Scalar.addi v1021 v1022
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_599 : BitVec 32 := 1#32
  let v1024 : BitVec 32 := Scalar.muli v21 c1_i32_599
  let v1025 : BitVec 32 := Scalar.addi v1023 v1024
  v1025.toNat
def k0_mult68 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_602 : BitVec 32 := 1024#32
  let v1034 : BitVec 32 := Scalar.muli v8 c1024_i32_602
  v1034
def k0_off24 (d0 : Dev nD) : Fin 3 → Nat :=
  let c2_i32_10 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v19 : BitVec 32 := Scalar.muli c2_i32_10 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v20 : BitVec 32 := Scalar.addi v19 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_602 : BitVec 32 := 1024#32
  let v1034 : BitVec 32 := Scalar.muli v8 c1024_i32_602
  let v1035 : BitVec 32 := v1034
  let c0_i32_609 : BitVec 32 := 0#32
  ![v20.toNat, v1035.toNat, 0]
def k0_dev47 (d0 : Dev nD) : Nat :=
  let c0_i32_614 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_613 : BitVec 32 := 4#32
  let v1048 : BitVec 32 := Scalar.muli v2 c4_i32_613
  let v1049 : BitVec 32 := Scalar.addi c0_i32_614 v1048
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_615 : BitVec 32 := 2#32
  let v1050 : BitVec 32 := Scalar.muli v5 c2_i32_615
  let v1051 : BitVec 32 := Scalar.addi v1049 v1050
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_616 : BitVec 32 := 1#32
  let v1052 : BitVec 32 := Scalar.muli v21 c1_i32_616
  let v1053 : BitVec 32 := Scalar.addi v1051 v1052
  v1053.toNat
def k0_mult69 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_619 : BitVec 32 := 256#32
  let v1062 : BitVec 32 := Scalar.muli v8 c256_i32_619
  v1062
def k0_off25 (d0 : Dev nD) : Fin 3 → Nat :=
  let c2_i32_10 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v19 : BitVec 32 := Scalar.muli c2_i32_10 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v20 : BitVec 32 := Scalar.addi v19 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_619 : BitVec 32 := 256#32
  let v1062 : BitVec 32 := Scalar.muli v8 c256_i32_619
  let v1063 : BitVec 32 := v1062
  let c0_i32_626 : BitVec 32 := 0#32
  ![v20.toNat, v1063.toNat, 0]
def k0_dev48 (d0 : Dev nD) : Nat :=
  let c0_i32_631 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_630 : BitVec 32 := 4#32
  let v1076 : BitVec 32 := Scalar.muli v2 c4_i32_630
  let v1077 : BitVec 32 := Scalar.addi c0_i32_631 v1076
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_632 : BitVec 32 := 2#32
  let v1078 : BitVec 32 := Scalar.muli v5 c2_i32_632
  let v1079 : BitVec 32 := Scalar.addi v1077 v1078
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_633 : BitVec 32 := 1#32
  let v1080 : BitVec 32 := Scalar.muli v21 c1_i32_633
  let v1081 : BitVec 32 := Scalar.addi v1079 v1080
  v1081.toNat
def k0_mult70 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_636 : BitVec 32 := 1024#32
  let v1090 : BitVec 32 := Scalar.muli v8 c1024_i32_636
  v1090
def k0_dev49 (d0 : Dev nD) : Nat :=
  let c0_i32_648 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_647 : BitVec 32 := 4#32
  let v1104 : BitVec 32 := Scalar.muli v2 c4_i32_647
  let v1105 : BitVec 32 := Scalar.addi c0_i32_648 v1104
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_649 : BitVec 32 := 2#32
  let v1106 : BitVec 32 := Scalar.muli v5 c2_i32_649
  let v1107 : BitVec 32 := Scalar.addi v1105 v1106
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_650 : BitVec 32 := 1#32
  let v1108 : BitVec 32 := Scalar.muli v21 c1_i32_650
  let v1109 : BitVec 32 := Scalar.addi v1107 v1108
  v1109.toNat
def k0_mult71 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_653 : BitVec 32 := 1024#32
  let v1118 : BitVec 32 := Scalar.muli v8 c1024_i32_653
  v1118
def k0_dev50 (d0 : Dev nD) : Nat :=
  let c0_i32_665 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_664 : BitVec 32 := 4#32
  let v1132 : BitVec 32 := Scalar.muli v2 c4_i32_664
  let v1133 : BitVec 32 := Scalar.addi c0_i32_665 v1132
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_666 : BitVec 32 := 2#32
  let v1134 : BitVec 32 := Scalar.muli v5 c2_i32_666
  let v1135 : BitVec 32 := Scalar.addi v1133 v1134
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_667 : BitVec 32 := 1#32
  let v1136 : BitVec 32 := Scalar.muli v21 c1_i32_667
  let v1137 : BitVec 32 := Scalar.addi v1135 v1136
  v1137.toNat
def k0_mult72 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c704_i32_670 : BitVec 32 := 704#32
  let v1146 : BitVec 32 := Scalar.muli v8 c704_i32_670
  v1146
def k0_dev51 (d0 : Dev nD) : Nat :=
  let c0_i32_682 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_681 : BitVec 32 := 4#32
  let v1160 : BitVec 32 := Scalar.muli v2 c4_i32_681
  let v1161 : BitVec 32 := Scalar.addi c0_i32_682 v1160
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_683 : BitVec 32 := 2#32
  let v1162 : BitVec 32 := Scalar.muli v5 c2_i32_683
  let v1163 : BitVec 32 := Scalar.addi v1161 v1162
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_11 v8
  let c1_i32_684 : BitVec 32 := 1#32
  let v1164 : BitVec 32 := Scalar.muli v21 c1_i32_684
  let v1165 : BitVec 32 := Scalar.addi v1163 v1164
  v1165.toNat
def k0_mult73 (d0 : Dev nD) : BitVec 32 :=
  let c1_i32_687 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1174 : BitVec 32 := Scalar.subi c1_i32_687 v8
  let c1024_i32_688 : BitVec 32 := 1024#32
  let v1175 : BitVec 32 := Scalar.muli v1174 c1024_i32_688
  v1175
def k0_off26 (d0 : Dev nD) : Fin 3 → Nat :=
  let c2_i32_8 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v15 : BitVec 32 := Scalar.muli c2_i32_8 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c1_i32_687 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1174 : BitVec 32 := Scalar.subi c1_i32_687 v8
  let c1024_i32_688 : BitVec 32 := 1024#32
  let v1175 : BitVec 32 := Scalar.muli v1174 c1024_i32_688
  let v1176 : BitVec 32 := v1175
  let c0_i32_695 : BitVec 32 := 0#32
  ![v16.toNat, v1176.toNat, 0]
def k0_mult74 (d0 : Dev nD) : BitVec 32 :=
  let c1_i32_697 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1189 : BitVec 32 := Scalar.subi c1_i32_697 v8
  let c1024_i32_698 : BitVec 32 := 1024#32
  let v1190 : BitVec 32 := Scalar.muli v1189 c1024_i32_698
  v1190
def k0_mult75 (d0 : Dev nD) : BitVec 32 :=
  let c1_i32_707 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1204 : BitVec 32 := Scalar.subi c1_i32_707 v8
  let c704_i32_708 : BitVec 32 := 704#32
  let v1205 : BitVec 32 := Scalar.muli v1204 c704_i32_708
  v1205
def k0_off27 (d0 : Dev nD) : Fin 3 → Nat :=
  let c2_i32_8 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v15 : BitVec 32 := Scalar.muli c2_i32_8 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c1_i32_707 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1204 : BitVec 32 := Scalar.subi c1_i32_707 v8
  let c704_i32_708 : BitVec 32 := 704#32
  let v1205 : BitVec 32 := Scalar.muli v1204 c704_i32_708
  let v1206 : BitVec 32 := v1205
  let c0_i32_715 : BitVec 32 := 0#32
  ![v16.toNat, v1206.toNat, 0]
def k0_mult76 (d0 : Dev nD) : BitVec 32 :=
  let c1_i32_717 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1219 : BitVec 32 := Scalar.subi c1_i32_717 v8
  let c1024_i32_718 : BitVec 32 := 1024#32
  let v1220 : BitVec 32 := Scalar.muli v1219 c1024_i32_718
  v1220
def k0_off28 (d0 : Dev nD) : Fin 3 → Nat :=
  let c2_i32_8 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v15 : BitVec 32 := Scalar.muli c2_i32_8 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c1_i32_717 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1219 : BitVec 32 := Scalar.subi c1_i32_717 v8
  let c1024_i32_718 : BitVec 32 := 1024#32
  let v1220 : BitVec 32 := Scalar.muli v1219 c1024_i32_718
  let v1221 : BitVec 32 := v1220
  let c0_i32_725 : BitVec 32 := 0#32
  ![v16.toNat, v1221.toNat, 0]
def k0_mult77 (d0 : Dev nD) : BitVec 32 :=
  let c1_i32_727 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1234 : BitVec 32 := Scalar.subi c1_i32_727 v8
  let c256_i32_728 : BitVec 32 := 256#32
  let v1235 : BitVec 32 := Scalar.muli v1234 c256_i32_728
  v1235
def k0_off29 (d0 : Dev nD) : Fin 3 → Nat :=
  let c2_i32_8 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v15 : BitVec 32 := Scalar.muli c2_i32_8 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c1_i32_727 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1234 : BitVec 32 := Scalar.subi c1_i32_727 v8
  let c256_i32_728 : BitVec 32 := 256#32
  let v1235 : BitVec 32 := Scalar.muli v1234 c256_i32_728
  let v1236 : BitVec 32 := v1235
  let c0_i32_735 : BitVec 32 := 0#32
  ![v16.toNat, v1236.toNat, 0]
def k0_mult78 (d0 : Dev nD) : BitVec 32 :=
  let c1_i32_737 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1249 : BitVec 32 := Scalar.subi c1_i32_737 v8
  let c1024_i32_738 : BitVec 32 := 1024#32
  let v1250 : BitVec 32 := Scalar.muli v1249 c1024_i32_738
  v1250
def k0_mult79 (d0 : Dev nD) : BitVec 32 :=
  let c1_i32_747 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1264 : BitVec 32 := Scalar.subi c1_i32_747 v8
  let c1024_i32_748 : BitVec 32 := 1024#32
  let v1265 : BitVec 32 := Scalar.muli v1264 c1024_i32_748
  v1265
def k0_mult80 (d0 : Dev nD) : BitVec 32 :=
  let c1_i32_757 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1279 : BitVec 32 := Scalar.subi c1_i32_757 v8
  let c704_i32_758 : BitVec 32 := 704#32
  let v1280 : BitVec 32 := Scalar.muli v1279 c704_i32_758
  v1280
def k0_off30 (d0 : Dev nD) : Fin 3 → Nat :=
  let c2_i32_8 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v15 : BitVec 32 := Scalar.muli c2_i32_8 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c0_i32_773 : BitVec 32 := 0#32
  let c0_i32_774 : BitVec 32 := 0#32
  ![v16.toNat, 0, 0]
def k0_mult81 (d0 : Dev nD) : BitVec 32 :=
  let c1_i32_775 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1304 : BitVec 32 := Scalar.subi c1_i32_775 v8
  let c1024_i32_776 : BitVec 32 := 1024#32
  let v1305 : BitVec 32 := Scalar.muli v1304 c1024_i32_776
  v1305
def k0_off31 (d0 : Dev nD) : Fin 3 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v18 : BitVec 32 := Scalar.addi v17 v10
  let c1_i32_775 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1304 : BitVec 32 := Scalar.subi c1_i32_775 v8
  let c1024_i32_776 : BitVec 32 := 1024#32
  let v1305 : BitVec 32 := Scalar.muli v1304 c1024_i32_776
  let v1306 : BitVec 32 := v1305
  let c0_i32_783 : BitVec 32 := 0#32
  ![v18.toNat, v1306.toNat, 0]
def k0_mult82 (d0 : Dev nD) : BitVec 32 :=
  let c1_i32_785 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1319 : BitVec 32 := Scalar.subi c1_i32_785 v8
  let c1024_i32_786 : BitVec 32 := 1024#32
  let v1320 : BitVec 32 := Scalar.muli v1319 c1024_i32_786
  v1320
def k0_mult83 (d0 : Dev nD) : BitVec 32 :=
  let c1_i32_795 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1334 : BitVec 32 := Scalar.subi c1_i32_795 v8
  let c704_i32_796 : BitVec 32 := 704#32
  let v1335 : BitVec 32 := Scalar.muli v1334 c704_i32_796
  v1335
def k0_off32 (d0 : Dev nD) : Fin 3 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v18 : BitVec 32 := Scalar.addi v17 v10
  let c1_i32_795 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1334 : BitVec 32 := Scalar.subi c1_i32_795 v8
  let c704_i32_796 : BitVec 32 := 704#32
  let v1335 : BitVec 32 := Scalar.muli v1334 c704_i32_796
  let v1336 : BitVec 32 := v1335
  let c0_i32_803 : BitVec 32 := 0#32
  ![v18.toNat, v1336.toNat, 0]
def k0_mult84 (d0 : Dev nD) : BitVec 32 :=
  let c1_i32_805 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1349 : BitVec 32 := Scalar.subi c1_i32_805 v8
  let c1024_i32_806 : BitVec 32 := 1024#32
  let v1350 : BitVec 32 := Scalar.muli v1349 c1024_i32_806
  v1350
def k0_off33 (d0 : Dev nD) : Fin 3 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v18 : BitVec 32 := Scalar.addi v17 v10
  let c1_i32_805 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1349 : BitVec 32 := Scalar.subi c1_i32_805 v8
  let c1024_i32_806 : BitVec 32 := 1024#32
  let v1350 : BitVec 32 := Scalar.muli v1349 c1024_i32_806
  let v1351 : BitVec 32 := v1350
  let c0_i32_813 : BitVec 32 := 0#32
  ![v18.toNat, v1351.toNat, 0]
def k0_mult85 (d0 : Dev nD) : BitVec 32 :=
  let c1_i32_815 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1364 : BitVec 32 := Scalar.subi c1_i32_815 v8
  let c256_i32_816 : BitVec 32 := 256#32
  let v1365 : BitVec 32 := Scalar.muli v1364 c256_i32_816
  v1365
def k0_off34 (d0 : Dev nD) : Fin 3 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v18 : BitVec 32 := Scalar.addi v17 v10
  let c1_i32_815 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1364 : BitVec 32 := Scalar.subi c1_i32_815 v8
  let c256_i32_816 : BitVec 32 := 256#32
  let v1365 : BitVec 32 := Scalar.muli v1364 c256_i32_816
  let v1366 : BitVec 32 := v1365
  let c0_i32_823 : BitVec 32 := 0#32
  ![v18.toNat, v1366.toNat, 0]
def k0_mult86 (d0 : Dev nD) : BitVec 32 :=
  let c1_i32_825 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1379 : BitVec 32 := Scalar.subi c1_i32_825 v8
  let c1024_i32_826 : BitVec 32 := 1024#32
  let v1380 : BitVec 32 := Scalar.muli v1379 c1024_i32_826
  v1380
def k0_mult87 (d0 : Dev nD) : BitVec 32 :=
  let c1_i32_835 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1394 : BitVec 32 := Scalar.subi c1_i32_835 v8
  let c1024_i32_836 : BitVec 32 := 1024#32
  let v1395 : BitVec 32 := Scalar.muli v1394 c1024_i32_836
  v1395
def k0_mult88 (d0 : Dev nD) : BitVec 32 :=
  let c1_i32_845 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1409 : BitVec 32 := Scalar.subi c1_i32_845 v8
  let c704_i32_846 : BitVec 32 := 704#32
  let v1410 : BitVec 32 := Scalar.muli v1409 c704_i32_846
  v1410
def k0_off35 (d0 : Dev nD) : Fin 3 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v18 : BitVec 32 := Scalar.addi v17 v10
  let c0_i32_861 : BitVec 32 := 0#32
  let c0_i32_862 : BitVec 32 := 0#32
  ![v18.toNat, 0, 0]
def k0_mult89 (d0 : Dev nD) : BitVec 32 :=
  let c1_i32_863 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : BitVec 32 := Scalar.subi c1_i32_863 v8
  let c1024_i32_864 : BitVec 32 := 1024#32
  let v1435 : BitVec 32 := Scalar.muli v1434 c1024_i32_864
  v1435
def k0_off36 (d0 : Dev nD) : Fin 3 → Nat :=
  let c2_i32_10 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v19 : BitVec 32 := Scalar.muli c2_i32_10 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v20 : BitVec 32 := Scalar.addi v19 v12
  let c1_i32_863 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : BitVec 32 := Scalar.subi c1_i32_863 v8
  let c1024_i32_864 : BitVec 32 := 1024#32
  let v1435 : BitVec 32 := Scalar.muli v1434 c1024_i32_864
  let v1436 : BitVec 32 := v1435
  let c0_i32_871 : BitVec 32 := 0#32
  ![v20.toNat, v1436.toNat, 0]
def k0_mult90 (d0 : Dev nD) : BitVec 32 :=
  let c1_i32_873 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1449 : BitVec 32 := Scalar.subi c1_i32_873 v8
  let c1024_i32_874 : BitVec 32 := 1024#32
  let v1450 : BitVec 32 := Scalar.muli v1449 c1024_i32_874
  v1450
def k0_mult91 (d0 : Dev nD) : BitVec 32 :=
  let c1_i32_883 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1464 : BitVec 32 := Scalar.subi c1_i32_883 v8
  let c704_i32_884 : BitVec 32 := 704#32
  let v1465 : BitVec 32 := Scalar.muli v1464 c704_i32_884
  v1465
def k0_off37 (d0 : Dev nD) : Fin 3 → Nat :=
  let c2_i32_10 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v19 : BitVec 32 := Scalar.muli c2_i32_10 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v20 : BitVec 32 := Scalar.addi v19 v12
  let c1_i32_883 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1464 : BitVec 32 := Scalar.subi c1_i32_883 v8
  let c704_i32_884 : BitVec 32 := 704#32
  let v1465 : BitVec 32 := Scalar.muli v1464 c704_i32_884
  let v1466 : BitVec 32 := v1465
  let c0_i32_891 : BitVec 32 := 0#32
  ![v20.toNat, v1466.toNat, 0]
def k0_mult92 (d0 : Dev nD) : BitVec 32 :=
  let c1_i32_893 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1479 : BitVec 32 := Scalar.subi c1_i32_893 v8
  let c1024_i32_894 : BitVec 32 := 1024#32
  let v1480 : BitVec 32 := Scalar.muli v1479 c1024_i32_894
  v1480
def k0_off38 (d0 : Dev nD) : Fin 3 → Nat :=
  let c2_i32_10 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v19 : BitVec 32 := Scalar.muli c2_i32_10 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v20 : BitVec 32 := Scalar.addi v19 v12
  let c1_i32_893 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1479 : BitVec 32 := Scalar.subi c1_i32_893 v8
  let c1024_i32_894 : BitVec 32 := 1024#32
  let v1480 : BitVec 32 := Scalar.muli v1479 c1024_i32_894
  let v1481 : BitVec 32 := v1480
  let c0_i32_901 : BitVec 32 := 0#32
  ![v20.toNat, v1481.toNat, 0]
def k0_mult93 (d0 : Dev nD) : BitVec 32 :=
  let c1_i32_903 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1494 : BitVec 32 := Scalar.subi c1_i32_903 v8
  let c256_i32_904 : BitVec 32 := 256#32
  let v1495 : BitVec 32 := Scalar.muli v1494 c256_i32_904
  v1495
def k0_off39 (d0 : Dev nD) : Fin 3 → Nat :=
  let c2_i32_10 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v19 : BitVec 32 := Scalar.muli c2_i32_10 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v20 : BitVec 32 := Scalar.addi v19 v12
  let c1_i32_903 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1494 : BitVec 32 := Scalar.subi c1_i32_903 v8
  let c256_i32_904 : BitVec 32 := 256#32
  let v1495 : BitVec 32 := Scalar.muli v1494 c256_i32_904
  let v1496 : BitVec 32 := v1495
  let c0_i32_911 : BitVec 32 := 0#32
  ![v20.toNat, v1496.toNat, 0]
def k0_mult94 (d0 : Dev nD) : BitVec 32 :=
  let c1_i32_913 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1509 : BitVec 32 := Scalar.subi c1_i32_913 v8
  let c1024_i32_914 : BitVec 32 := 1024#32
  let v1510 : BitVec 32 := Scalar.muli v1509 c1024_i32_914
  v1510
def k0_mult95 (d0 : Dev nD) : BitVec 32 :=
  let c1_i32_923 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1524 : BitVec 32 := Scalar.subi c1_i32_923 v8
  let c1024_i32_924 : BitVec 32 := 1024#32
  let v1525 : BitVec 32 := Scalar.muli v1524 c1024_i32_924
  v1525
def k0_mult96 (d0 : Dev nD) : BitVec 32 :=
  let c1_i32_933 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1539 : BitVec 32 := Scalar.subi c1_i32_933 v8
  let c704_i32_934 : BitVec 32 := 704#32
  let v1540 : BitVec 32 := Scalar.muli v1539 c704_i32_934
  v1540
def k0_off40 (d0 : Dev nD) : Fin 3 → Nat :=
  let c2_i32_10 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v19 : BitVec 32 := Scalar.muli c2_i32_10 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v20 : BitVec 32 := Scalar.addi v19 v12
  let c0_i32_949 : BitVec 32 := 0#32
  let c0_i32_950 : BitVec 32 := 0#32
  ![v20.toNat, 0, 0]
-- ==== GatherRef.lean ====
abbrev S8192x1408 : Shape := ⟨2, ![8192, 1408]⟩
abbrev S5632x2048 : Shape := ⟨2, ![5632, 2048]⟩
abbrev S8192x1280 : Shape := ⟨2, ![8192, 1280]⟩
abbrev S2048x2048 : Shape := ⟨2, ![2048, 2048]⟩
abbrev S32x256 : Shape := ⟨2, ![32, 256]⟩
abbrev S4x2048x1408 : Shape := ⟨3, ![4, 2048, 1408]⟩
abbrev S4x1408x2048 : Shape := ⟨3, ![4, 1408, 2048]⟩
abbrev S4x2048x1280 : Shape := ⟨3, ![4, 2048, 1280]⟩
abbrev S4x512x2048 : Shape := ⟨3, ![4, 512, 2048]⟩
abbrev S4x8x256 : Shape := ⟨3, ![4, 8, 256]⟩

abbrev nBuf : Space → Nat
  | .hbm => 18
  | .vmem => 0
  | .smem => 0
  | _ => 0

abbrev bufTy : (tb : Table) → Fin (tcTables nBuf tb) → BufTy
  | .hbm, ⟨0, _⟩ => ⟨S8192x1408, .bf16⟩
  | .hbm, ⟨1, _⟩ => ⟨S8192x1408, .bf16⟩
  | .hbm, ⟨2, _⟩ => ⟨S5632x2048, .bf16⟩
  | .hbm, ⟨3, _⟩ => ⟨S8192x1280, .bf16⟩
  | .hbm, ⟨4, _⟩ => ⟨S2048x2048, .bf16⟩
  | .hbm, ⟨5, _⟩ => ⟨S8192x1408, .bf16⟩
  | .hbm, ⟨6, _⟩ => ⟨S8192x1408, .bf16⟩
  | .hbm, ⟨7, _⟩ => ⟨S5632x2048, .bf16⟩
  | .hbm, ⟨8, _⟩ => ⟨S32x256, .f32⟩
  | .hbm, ⟨9, _⟩ => ⟨S4x2048x1408, .bf16⟩
  | .hbm, ⟨10, _⟩ => ⟨S4x2048x1408, .bf16⟩
  | .hbm, ⟨11, _⟩ => ⟨S4x1408x2048, .bf16⟩
  | .hbm, ⟨12, _⟩ => ⟨S4x2048x1280, .bf16⟩
  | .hbm, ⟨13, _⟩ => ⟨S4x512x2048, .bf16⟩
  | .hbm, ⟨14, _⟩ => ⟨S4x2048x1408, .bf16⟩
  | .hbm, ⟨15, _⟩ => ⟨S4x2048x1408, .bf16⟩
  | .hbm, ⟨16, _⟩ => ⟨S4x1408x2048, .bf16⟩
  | .hbm, ⟨17, _⟩ => ⟨S4x8x256, .f32⟩
  | _, _ => ⟨S8192x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩

abbrev nD : Nat := 1
abbrev τ : Topo := Topo.v7x

variable {F : FTy → Type} [FloatOps F]
-- ==== AdamCols.lean ====
abbrev S2048x1408 : Shape := ⟨2, ![2048, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamColsIdeal.lean ====
abbrev S2048x1408 : Shape := ⟨2, ![2048, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamColsRefIdeal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S1408x2048 : Shape := ⟨2, ![1408, 2048]⟩
abbrev S176x2048 : Shape := ⟨2, ![176, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S1408x2048 : Shape := ⟨2, ![1408, 2048]⟩
abbrev S176x2048 : Shape := ⟨2, ![176, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S2048x1280 : Shape := ⟨2, ![2048, 1280]⟩
abbrev S256x1280 : Shape := ⟨2, ![256, 1280]⟩

abbrev nBuf : Space → Nat
  | .hbm => 7
  | .vmem => 14
  | .smem => 0
  | _ => 0

abbrev bufTy : (tb : Table) → Fin (tcTables nBuf tb) → BufTy
  | .hbm, ⟨0, _⟩ => ⟨S2048x1280, .f32⟩
  | .hbm, ⟨1, _⟩ => ⟨S2048x1280, .f32⟩
  | .hbm, ⟨2, _⟩ => ⟨S2048x1280, .f32⟩
  | .hbm, ⟨3, _⟩ => ⟨S2048x1280, .f32⟩
  | .hbm, ⟨4, _⟩ => ⟨S2048x1280, .f32⟩
  | .hbm, ⟨5, _⟩ => ⟨S2048x1280, .f32⟩
  | .hbm, ⟨6, _⟩ => ⟨S2048x1280, .f32⟩
  | .local _ .vmem, ⟨0, _⟩ => ⟨S256x1280, .f32⟩
  | .local _ .vmem, ⟨1, _⟩ => ⟨S256x1280, .f32⟩
  | .local _ .vmem, ⟨2, _⟩ => ⟨S256x1280, .f32⟩
  | .local _ .vmem, ⟨3, _⟩ => ⟨S256x1280, .f32⟩
  | .local _ .vmem, ⟨4, _⟩ => ⟨S256x1280, .f32⟩
  | .local _ .vmem, ⟨5, _⟩ => ⟨S256x1280, .f32⟩
  | .local _ .vmem, ⟨6, _⟩ => ⟨S256x1280, .f32⟩
  | .local _ .vmem, ⟨7, _⟩ => ⟨S256x1280, .f32⟩
  | .local _ .vmem, ⟨8, _⟩ => ⟨S256x1280, .f32⟩
  | .local _ .vmem, ⟨9, _⟩ => ⟨S256x1280, .f32⟩
  | .local _ .vmem, ⟨10, _⟩ => ⟨S256x1280, .f32⟩
  | .local _ .vmem, ⟨11, _⟩ => ⟨S256x1280, .f32⟩
  | .local _ .vmem, ⟨12, _⟩ => ⟨S256x1280, .f32⟩
  | .local _ .vmem, ⟨13, _⟩ => ⟨S256x1280, .f32⟩
  | _, _ => ⟨S2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S2048x1280 : Shape := ⟨2, ![2048, 1280]⟩
abbrev S256x1280 : Shape := ⟨2, ![256, 1280]⟩

abbrev nBuf : Space → Nat
  | .hbm => 7
  | .vmem => 14
  | .smem => 0
  | _ => 0

abbrev bufTy : (tb : Table) → Fin (tcTables nBuf tb) → BufTy
  | .hbm, ⟨0, _⟩ => ⟨S2048x1280, .f32⟩
  | .hbm, ⟨1, _⟩ => ⟨S2048x1280, .f32⟩
  | .hbm, ⟨2, _⟩ => ⟨S2048x1280, .f32⟩
  | .hbm, ⟨3, _⟩ => ⟨S2048x1280, .f32⟩
  | .hbm, ⟨4, _⟩ => ⟨S2048x1280, .f32⟩
  | .hbm, ⟨5, _⟩ => ⟨S2048x1280, .f32⟩
  | .hbm, ⟨6, _⟩ => ⟨S2048x1280, .f32⟩
  | .local _ .vmem, ⟨0, _⟩ => ⟨S256x1280, .f32⟩
  | .local _ .vmem, ⟨1, _⟩ => ⟨S256x1280, .f32⟩
  | .local _ .vmem, ⟨2, _⟩ => ⟨S256x1280, .f32⟩
  | .local _ .vmem, ⟨3, _⟩ => ⟨S256x1280, .f32⟩
  | .local _ .vmem, ⟨4, _⟩ => ⟨S256x1280, .f32⟩
  | .local _ .vmem, ⟨5, _⟩ => ⟨S256x1280, .f32⟩
  | .local _ .vmem, ⟨6, _⟩ => ⟨S256x1280, .f32⟩
  | .local _ .vmem, ⟨7, _⟩ => ⟨S256x1280, .f32⟩
  | .local _ .vmem, ⟨8, _⟩ => ⟨S256x1280, .f32⟩
  | .local _ .vmem, ⟨9, _⟩ => ⟨S256x1280, .f32⟩
  | .local _ .vmem, ⟨10, _⟩ => ⟨S256x1280, .f32⟩
  | .local _ .vmem, ⟨11, _⟩ => ⟨S256x1280, .f32⟩
  | .local _ .vmem, ⟨12, _⟩ => ⟨S256x1280, .f32⟩
  | .local _ .vmem, ⟨13, _⟩ => ⟨S256x1280, .f32⟩
  | _, _ => ⟨S2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S2048x1280 : Shape := ⟨2, ![2048, 1280]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1280, .f32⟩
  | .hbm, ⟨1, _⟩ => ⟨S2048x1280, .f32⟩
  | .hbm, ⟨2, _⟩ => ⟨S2048x1280, .f32⟩
  | .hbm, ⟨3, _⟩ => ⟨S2048x1280, .f32⟩
  | .hbm, ⟨4, _⟩ => ⟨S_, .f32⟩
  | .hbm, ⟨5, _⟩ => ⟨S2048x1280, .f32⟩
  | .hbm, ⟨6, _⟩ => ⟨S2048x1280, .f32⟩
  | .hbm, ⟨7, _⟩ => ⟨S_, .f32⟩
  | .hbm, ⟨8, _⟩ => ⟨S2048x1280, .f32⟩
  | .hbm, ⟨9, _⟩ => ⟨S2048x1280, .f32⟩
  | .hbm, ⟨10, _⟩ => ⟨S2048x1280, .f32⟩
  | .hbm, ⟨11, _⟩ => ⟨S_, .f32⟩
  | .hbm, ⟨12, _⟩ => ⟨S2048x1280, .f32⟩
  | .hbm, ⟨13, _⟩ => ⟨S2048x1280, .f32⟩
  | .hbm, ⟨14, _⟩ => ⟨S2048x1280, .f32⟩
  | .hbm, ⟨15, _⟩ => ⟨S_, .f32⟩
  | .hbm, ⟨16, _⟩ => ⟨S2048x1280, .f32⟩
  | .hbm, ⟨17, _⟩ => ⟨S2048x1280, .f32⟩
  | .hbm, ⟨18, _⟩ => ⟨S2048x1280, .f32⟩
  | .hbm, ⟨19, _⟩ => ⟨S_, .f32⟩
  | .hbm, ⟨20, _⟩ => ⟨S2048x1280, .f32⟩
  | .hbm, ⟨21, _⟩ => ⟨S2048x1280, .f32⟩
  | .hbm, ⟨22, _⟩ => ⟨S_, .f32⟩
  | .hbm, ⟨23, _⟩ => ⟨S2048x1280, .f32⟩
  | .hbm, ⟨24, _⟩ => ⟨S2048x1280, .f32⟩
  | .hbm, ⟨25, _⟩ => ⟨S2048x1280, .f32⟩
  | .hbm, ⟨26, _⟩ => ⟨S_, .f32⟩
  | .hbm, ⟨27, _⟩ => ⟨S2048x1280, .f32⟩
  | .hbm, ⟨28, _⟩ => ⟨S2048x1280, .f32⟩
  | .hbm, ⟨29, _⟩ => ⟨S2048x1280, .f32⟩
  | .hbm, ⟨30, _⟩ => ⟨S_, .f32⟩
  | .hbm, ⟨31, _⟩ => ⟨S2048x1280, .f32⟩
  | .hbm, ⟨32, _⟩ => ⟨S2048x1280, .f32⟩
  | .hbm, ⟨33, _⟩ => ⟨S2048x1280, .f32⟩
  | .hbm, ⟨34, _⟩ => ⟨S_, .f32⟩
  | .hbm, ⟨35, _⟩ => ⟨S2048x1280, .f32⟩
  | .hbm, ⟨36, _⟩ => ⟨S2048x1280, .f32⟩
  | _, _ => ⟨S2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== GradX.lean ====
abbrev S8192x5632 : Shape := ⟨2, ![8192, 5632]⟩
abbrev S4x2048x1408 : Shape := ⟨3, ![4, 2048, 1408]⟩
abbrev S8192x2048 : Shape := ⟨2, ![8192, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S4x2048x1408, .bf16⟩
  | .hbm, ⟨3, _⟩ => ⟨S4x2048x1408, .bf16⟩
  | .hbm, ⟨4, _⟩ => ⟨S8192x2048, .f32⟩
  | .hbm, ⟨5, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_19 : BitVec 32 := 0#32
  let v23 : BitVec 1 := Scalar.cmpi .ne v22 c0_i32_19
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GradXRefIdeal.lean ====
abbrev S8192x5632 : Shape := ⟨2, ![8192, 5632]⟩
abbrev S4x2048x1408 : Shape := ⟨3, ![4, 2048, 1408]⟩
abbrev S8192x2048 : Shape := ⟨2, ![8192, 2048]⟩
abbrev S2048x4x1408 : Shape := ⟨3, ![2048, 4, 1408]⟩
abbrev S2048x5632 : Shape := ⟨2, ![2048, 5632]⟩

abbrev nBuf : Space → Nat
  | .hbm => 13
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S4x2048x1408, .bf16⟩
  | .hbm, ⟨3, _⟩ => ⟨S4x2048x1408, .bf16⟩
  | .hbm, ⟨4, _⟩ => ⟨S8192x2048, .f32⟩
  | .hbm, ⟨5, _⟩ => ⟨S2048x4x1408, .bf16⟩
  | .hbm, ⟨6, _⟩ => ⟨S2048x5632, .bf16⟩
  | .hbm, ⟨7, _⟩ => ⟨S2048x4x1408, .bf16⟩
  | .hbm, ⟨8, _⟩ => ⟨S2048x5632, .bf16⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== LnFwd.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S8192x2048, .f32⟩
  | .hbm, ⟨4, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LnFwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== LnLoss.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LnLossRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S2048, .f32⟩
  | .hbm, ⟨36, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== FfnUp.lean ====
abbrev S8192x2048 : Shape := ⟨2, ![8192, 2048]⟩
abbrev S4x2048x1408 : Shape := ⟨3, ![4, 2048, 1408]⟩
abbrev S8192x5632 : Shape := ⟨2, ![8192, 5632]⟩
abbrev S256x2048 : Shape := ⟨2, ![256, 2048]⟩
abbrev S1x2048x1408 : Shape := ⟨3, ![1, 2048, 1408]⟩
abbrev S256x1408 : Shape := ⟨2, ![256, 1408]⟩
abbrev S2048x1408 : Shape := ⟨2, ![2048, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S4x2048x1408, .bf16⟩
  | .hbm, ⟨2, _⟩ => ⟨S4x2048x1408, .bf16⟩
  | .hbm, ⟨3, _⟩ => ⟨S8192x5632, .bf16⟩
  | .hbm, ⟨4, _⟩ => ⟨S8192x5632, .bf16⟩
  | .hbm, ⟨5, _⟩ => ⟨S8192x5632, .bf16⟩
  | .local _ .vmem, ⟨0, _⟩ => ⟨S256x2048, .bf16⟩
  | .local _ .vmem, ⟨1, _⟩ => ⟨S256x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S256x1408, .bf16⟩
  | .local _ .vmem, ⟨7, _⟩ => ⟨S256x1408, .bf16⟩
  | .local _ .vmem, ⟨8, _⟩ => ⟨S256x1408, .bf16⟩
  | .local _ .vmem, ⟨9, _⟩ => ⟨S256x1408, .bf16⟩
  | .local _ .vmem, ⟨10, _⟩ => ⟨S256x1408, .bf16⟩
  | .local _ .vmem, ⟨11, _⟩ => ⟨S256x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnUpRefIdeal.lean ====
abbrev S8192x2048 : Shape := ⟨2, ![8192, 2048]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S8192x5632 : Shape := ⟨2, ![8192, 5632]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x1408, .bf16⟩
  | .hbm, ⟨2, _⟩ => ⟨S4x2048x1408, .bf16⟩
  | .hbm, ⟨3, _⟩ => ⟨S2048x4x1408, .bf16⟩
  | .hbm, ⟨4, _⟩ => ⟨S2048x5632, .bf16⟩
  | .hbm, ⟨5, _⟩ => ⟨S2048x4x1408, .bf16⟩
  | .hbm, ⟨6, _⟩ => ⟨S2048x5632, .bf16⟩
  | .hbm, ⟨7, _⟩ => ⟨S8192x5632, .f32⟩
  | .hbm, ⟨8, _⟩ => ⟨S8192x5632, .f32⟩
  | .hbm, ⟨9, _⟩ => ⟨S8192x5632, .bf16⟩
  | .hbm, ⟨10, _⟩ => ⟨S8192x5632, .bf16⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== FfnDown.lean ====
abbrev S8192x5632 : Shape := ⟨2, ![8192, 5632]⟩
abbrev S8192x2048 : Shape := ⟨2, ![8192, 2048]⟩
abbrev S5632x2048 : Shape := ⟨2, ![5632, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S5632x2048, .bf16⟩
  | .hbm, ⟨3, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S8192x5632 : Shape := ⟨2, ![8192, 5632]⟩
abbrev S8192x2048 : Shape := ⟨2, ![8192, 2048]⟩
abbrev S5632x2048 : Shape := ⟨2, ![5632, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S5632x2048, .bf16⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== MixIn.lean ====
abbrev S8192x2048 : Shape := ⟨2, ![8192, 2048]⟩
abbrev S4x2048x1280 : Shape := ⟨3, ![4, 2048, 1280]⟩
abbrev S1x5120 : Shape := ⟨2, ![1, 5120]⟩
abbrev S8192x5120 : Shape := ⟨2, ![8192, 5120]⟩
abbrev S512x2048 : Shape := ⟨2, ![512, 2048]⟩
abbrev S1x2048x1280 : Shape := ⟨3, ![1, 2048, 1280]⟩
abbrev S1x1280 : Shape := ⟨2, ![1, 1280]⟩
abbrev S512x1280 : Shape := ⟨2, ![512, 1280]⟩
abbrev S2048x1280 : Shape := ⟨2, ![2048, 1280]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x2048x1280, .bf16⟩
  | .hbm, ⟨2, _⟩ => ⟨S1x5120, .f32⟩
  | .hbm, ⟨3, _⟩ => ⟨S8192x5120, .f32⟩
  | .local _ .vmem, ⟨0, _⟩ => ⟨S512x2048, .bf16⟩
  | .local _ .vmem, ⟨1, _⟩ => ⟨S512x2048, .bf16⟩
  | .local _ .vmem, ⟨2, _⟩ => ⟨S1x2048x1280, .bf16⟩
  | .local _ .vmem, ⟨3, _⟩ => ⟨S1x2048x1280, .bf16⟩
  | .local _ .vmem, ⟨4, _⟩ => ⟨S1x1280, .f32⟩
  | .local _ .vmem, ⟨5, _⟩ => ⟨S1x1280, .f32⟩
  | .local _ .vmem, ⟨6, _⟩ => ⟨S512x1280, .f32⟩
  | .local _ .vmem, ⟨7, _⟩ => ⟨S512x1280, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixInRefIdeal.lean ====
abbrev S8192x2048 : Shape := ⟨2, ![8192, 2048]⟩
abbrev S4x2048x1280 : Shape := ⟨3, ![4, 2048, 1280]⟩
abbrev S1x5120 : Shape := ⟨2, ![1, 5120]⟩
abbrev S2048x4x1280 : Shape := ⟨3, ![2048, 4, 1280]⟩
abbrev S2048x5120 : Shape := ⟨2, ![2048, 5120]⟩
abbrev S8192x5120 : Shape := ⟨2, ![8192, 5120]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x1280, .bf16⟩
  | .hbm, ⟨2, _⟩ => ⟨S1x5120, .f32⟩
  | .hbm, ⟨3, _⟩ => ⟨S2048x4x1280, .bf16⟩
  | .hbm, ⟨4, _⟩ => ⟨S2048x5120, .bf16⟩
  | .hbm, ⟨5, _⟩ => ⟨S8192x5120, .f32⟩
  | .hbm, ⟨6, _⟩ => ⟨S8192x5120, .f32⟩
  | .hbm, ⟨7, _⟩ => ⟨S8192x5120, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixOut.lean ====
abbrev S8192x2048 : Shape := ⟨2, ![8192, 2048]⟩
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .bf16⟩
  | .hbm, ⟨3, _⟩ => ⟨S1x2048, .f32⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== MixOutRefIdeal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .bf16⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== GradDown.lean ====
abbrev S8192x5632 : Shape := ⟨2, ![8192, 5632]⟩
abbrev S8192x2048 : Shape := ⟨2, ![8192, 2048]⟩
abbrev S5632x2048 : Shape := ⟨2, ![5632, 2048]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradDownRefIdeal.lean ====
abbrev S8192x5632 : Shape := ⟨2, ![8192, 5632]⟩
abbrev S8192x2048 : Shape := ⟨2, ![8192, 2048]⟩
abbrev S5632x8192 : Shape := ⟨2, ![5632, 8192]⟩
abbrev S5632x2048 : Shape := ⟨2, ![5632, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x8192, .bf16⟩
  | .hbm, ⟨3, _⟩ => ⟨S5632x2048, .f32⟩
  | .hbm, ⟨4, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradCols.lean ====
abbrev S8192x2048 : Shape := ⟨2, ![8192, 2048]⟩
abbrev S8192x5632 : Shape := ⟨2, ![8192, 5632]⟩
abbrev S4x2048x1408 : Shape := ⟨3, ![4, 2048, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S4x2048x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradColsRefIdeal.lean ====
abbrev S8192x2048 : Shape := ⟨2, ![8192, 2048]⟩
abbrev S8192x5632 : Shape := ⟨2, ![8192, 5632]⟩
abbrev S2048x8192 : Shape := ⟨2, ![2048, 8192]⟩
abbrev S2048x5632 : Shape := ⟨2, ![2048, 5632]⟩
abbrev S2048x4x1408 : Shape := ⟨3, ![2048, 4, 1408]⟩
abbrev S4x2048x1408 : Shape := ⟨3, ![4, 2048, 1408]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2048x8192, .bf16⟩
  | .hbm, ⟨3, _⟩ => ⟨S2048x5632, .f32⟩
  | .hbm, ⟨4, _⟩ => ⟨S2048x4x1408, .f32⟩
  | .hbm, ⟨5, _⟩ => ⟨S4x2048x1408, .f32⟩
  | .hbm, ⟨6, _⟩ => ⟨S4x2048x1408, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Start.lean ====
/-
# Launching a region that talks across devices without a barrier

A call whose windows are empty — every operand and result a whole HBM array — whose body copies into the results of
its peers without asking first. The peers' results are therefore dealt at the launch: the certificate's one global step
(`hstart`) holds the own semaphores and the HBM arrays of ALL devices together, allocates the cells' invariants, and
gives each device what its body starts from — among it the regions of its peers' arrays that it will write.
-/
module

public import Idealize.ShloMosaic.Lib.Pipeline.Launch
public import Idealize.ShloMosaic.Lib.Pipeline.Kit
public import Idealize.ShloMosaic.Lib.Tactic

@[expose] public section

noncomputable section

namespace Cert.Moves

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline Idealize.ShloMosaic.Pipeline.PerCore

variable {nD : Nat} {τ : Topo} {sig : RefSig} {Val : EltTy → Type}
variable {U : Type} [URA U] {Λ₀ : Labels} {P : Type} [Fintype P] [DecidableEq P]

local notation "𝕄" => MT nD τ sig Unit Val ℕ U ℕ

variable (cfgs : P → Cfg sig Λ₀)

/-- The configurations as the pipeline library takes them, with no prefetched table. -/
abbrev pcs : P → PCfg sig Λ₀ Val := fun p => (cfgs p).toPCfg
/-- Their (only) admissible tables, the same on each device. -/
abbrev adm : Dev nD → (p : P) → ((cfgs p).toPCfg (Val := Val)).Adm := fun _ p => (cfgs p).toPCfg_adm

variable (rdats : (p : P) → (c : Dev nD) → RDat τ Val Unit ℕ U ℕ (pinD (pcs cfgs) (adm (Val := Val) cfgs) c p) c)

theorem levels_everywhere (L : GSem nD τ sig → Finset Unit) (lv : GSem nD τ sig → Unit → ℕ) (hL : ∀ g : GSem nD τ sig, g.1.2 ≠ .tc → L g = ∅) :
    (bigSep Finset.univ fun c : Dev nD => levels0 (Ix := Unit) (Val := Val) (Name := ℕ) (U := U) (Lvl := ℕ) (τ := τ) (sig := sig) c)
      ⊢ (|==> levAts L lv : sProp 𝕄) := by
  have hcell : ∀ t : Thread nD τ, t.2 ≠ .tc → (coreLevAts t L lv : sProp 𝕄) = BI.emp := fun t ht => by
    unfold coreLevAts
    rw [bigSep_congr (Ψ := fun _ : SemLoc sig => (BI.emp : sProp 𝕄)) fun sm _ => by rw [hL (t, sm) ht, BI.bigSep_empty]]
    exact BI.bigSep_emp_const _
  have hall : (levAts L lv : sProp 𝕄) = bigSep Finset.univ fun t : Thread nD τ => coreLevAts t L lv :=
    bigSep_univ_prod fun g : GSem nD τ sig => bigSep (L g) fun i => levAt g i (lv g i)
  have hothers : (bigSep Finset.univ fun d : Dev nD => bigSep (Finset.univ.erase Proc.tc) fun q => (coreLevAts ((d, q) : Thread nD τ) L lv : sProp 𝕄)) = BI.emp := by
    rw [bigSep_congr (Ψ := fun _ : Dev nD => (BI.emp : sProp 𝕄)) fun d _ => by
      rw [bigSep_congr (Ψ := fun _ : Proc τ => (BI.emp : sProp 𝕄)) fun q hq => hcell (d, q) (Finset.ne_of_mem_erase hq)]
      exact BI.bigSep_emp_const _]
    exact BI.bigSep_emp_const _
  refine ((bigSep_mono fun c _ => lev_assign_cells (c.tc : Thread nD τ) L lv).trans (BI.bigSep_bupd _ _)).trans (BI.bupd_mono ?_)
  rw [hall, bigSep_threads fun t : Thread nD τ => coreLevAts t L lv, hothers, bigSep_sep']
  have hdrop (A B : sProp 𝕄) : iprop(A ∗ B) ⊢ iprop(B ∗ BI.emp) := by
    iintro ⟨-, H⟩
    isplitl [H]; · iexact H
    iempintro
  exact hdrop _ _

section Run

variable (phinj : Function.Injective (cellOf (nD := nD) (τ := τ) cfgs)) (p : P)
variable {K : Type} [Fintype K] {osem : K → SemLoc sig}
variable (hw : WinFacts (cfgs p).spec) (ho : OwnSemFacts (cfgs p).spec osem) (hempty : IsEmpty (Fin (cfgs p).W))
variable (EP : Emb (URounds (GSem nD τ sig) Unit) (MT nD τ sig Unit Val ℕ U ℕ))
variable (defs₀ : Defs nD τ sig Val Λ₀) (𝒱₀ : Variants)

include phinj hw ho hempty in
/-- One call, first and alone in @main, with no window: from any memory with every counter at zero, given one global
    step from all devices' own semaphores and arrays to what each body starts from (`hstart`), the body's obligation,
    and what is read off at the end (`hread`), every weakly fair run ends, with `Q` and the counters of every scoped
    semaphore at zero. -/
theorem run_moves [∀ e, Nonempty (Val e)] [EP.LandsIn (upEmb : UEmb _ 𝕄)]
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hmain : ∀ c, main c = .op (.customCall (entry p) ()) fun _ => .ret ⟨⟩)
    (hbody : ∀ c, (rdats p c).BodyObligation defs₀ 𝒱₀ () Set.univ)
    (O₀ : Dev nD → CellTallies nD τ sig Unit) (howed₀ : ∀ c, (rdats p c).owed 0 = O₀ c) (howedN : ∀ c, (rdats p c).owed (Fin.last _) = 0)
    (L : GSem nD τ sig → Finset Unit) (lv : GSem nD τ sig → Unit → ℕ) (hL : ∀ g : GSem nD τ sig, g.1.2 ≠ .tc → L g = ∅)
    (G : Dev nD → sProp 𝕄) (u₀ : U)
    (hu₀ : (ownU u₀ : sProp 𝕄)
      ⊢ |={Set.univ}=> iprop(BI.own (EP (initOf (cells (pinD (pcs cfgs) (adm (Val := Val) cfgs)) phinj) (launchToks (pinD (pcs cfgs) (adm (Val := Val) cfgs)) phinj))) ∗ bigSep Finset.univ G))
    (X Y : Dev nD → sProp 𝕄)
    (hstart : iprop(levAts L lv ∗ bigSep Finset.univ fun c : Dev nD => iprop(ownSems0 osem c
        ∗ unscopedRest (cfgs p).spec c (fun b => m ((c.tc : Thread nD τ).loc b)) ∗ launchCred O₀ c ∗ G c))
      ⊢ |={Set.univ}=> bigSep Finset.univ X)
    (hin : ∀ c, iprop(X c ∗ scopedRest (cfgs p).spec c) ⊢ (rdats p c).Φ 0)
    (hout : ∀ c, (rdats p c).Φ (Fin.last (pinD (pcs cfgs) (adm (Val := Val) cfgs) c p).N) ⊢ iprop(Y c ∗ ownSems0 osem c ∗ scopedRest (cfgs p).spec c))
    (QY : Dev nD → MemSt nD τ sig Val → Prop)
    (hread : ∀ c (s' : Phys nD τ sig Val), iprop(Y c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs (pcs cfgs) defs₀) (onTc main) ⟨m, fun _ => 0, g⟩ Q := by
  classical
  have hsems := fun c : Dev nD => scopedSems0_split (pinD (pcs cfgs) (adm (Val := Val) cfgs)) phinj p (fun _ => hw.to₀) (fun _ => ho) (Ix := Unit) (Val := Val) (Name := ℕ) (U := U) (Lvl := ℕ) c
  have hbufs := fun c : Dev nD => scopedBufs_split (pinD (pcs cfgs) (adm (Val := Val) cfgs)) p c hw.to₀.stage_scoped hw.to₀.stage_inj (fun w => (hempty.false w).elim) (nD := nD) (τ := τ) (Ix := Unit) (Val := Val) (Name := ℕ) (U := U) (Lvl := ℕ)
  have hrest := fun c : Dev nD => unscopedBufs_split (pinD (pcs cfgs) (adm (Val := Val) cfgs)) p c hw.to₀.arr_unscoped hw.arr_inj (Ix := Unit) (Name := ℕ) (U := U) (Lvl := ℕ) (fun b => m ((c.tc : Thread nD τ).loc b))
  let before : Dev nD → sProp 𝕄 := fun c => iprop((scopedBufs (c.tc : Thread nD τ) ∗ cellsSems0 (pinD (pcs cfgs) (adm (Val := Val) cfgs)) p c ∗ idleSems0 (pinD (pcs cfgs) (adm (Val := Val) cfgs)) phinj p (fun _ => ho) c)
    ∗ owes (c.tc : Thread nD τ) (O₀ c) ∅ ∗ cellsGhost (pinD (pcs cfgs) (adm (Val := Val) cfgs)) EP p c ∗ toksInit (pinD (pcs cfgs) (adm (Val := Val) cfgs)) EP p c ∗ X c)
  let after : Dev nD → sProp 𝕄 := fun c => iprop(Y c ∗ scopedSems0 (c.tc : Thread nD τ))
  refine (θ_run (Pipeline.defs (pcs cfgs) defs₀) _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu (Pipeline.defs (pcs cfgs) defs₀) _ _ _
    (reflect_intro_fupd_tc_sems (X := Unit) (Variants.lift 𝒱₀) (owing O₀) 0 (noBookings fun _ => le_rfl) (owing_of_ne O₀) u₀ (fun _ => before) (fun _ => after)
      (fun _ => iprop(emp)) Set.univ ?_ (fun _ c => ?_) fun _ => ?_))
  · -- everything the devices hold at launch, dealt
    have hone (c : Dev nD) :
        coreInit (Ix := Unit) (Name := ℕ) (U := U) (Lvl := ℕ) (owing O₀) 0 (⟨m, fun _ => 0, g⟩ : MemSt nD τ sig Val) (c.tc : Thread nD τ)
          ⊢ iprop((scopedBufs (c.tc : Thread nD τ) ∗ cellsSems0 (pinD (pcs cfgs) (adm (Val := Val) cfgs)) p c ∗ idleSems0 (pinD (pcs cfgs) (adm (Val := Val) cfgs)) phinj p (fun _ => ho) c)
              ∗ owes (c.tc : Thread nD τ) (O₀ c) ∅ ∗ levels0 c
              ∗ ownSems0 osem c ∗ unscopedRest (cfgs p).spec c (fun b => m ((c.tc : Thread nD τ).loc b)) ∗ launchCred O₀ c) :=
      (coreInit_boundary_owing O₀ m g c).trans (by
        unfold boundary
        rw [hsems c, hrest c]
        iintro ⟨⟨Hsc, ⟨⟨Hcells, Hown⟩, Hidle⟩, -⟩, ⟨-, Hrest⟩, -, HO, Hlev, -, Hcred⟩
        isplitl [Hsc Hcells Hidle]
        · isplitl [Hsc]; · iexact Hsc
          isplitl [Hcells] <;> iassumption
        isplitl [HO]; · iexact HO
        isplitl [Hlev]; · iexact Hlev
        isplitl [Hown]; · iexact Hown
        isplitl [Hrest] <;> iassumption)
    have hdeal := show (bigSep Finset.univ fun c : Dev nD => coreInit (Ix := Unit) (Name := ℕ) (U := U) (Lvl := ℕ) (owing O₀) 0 (⟨m, fun _ => 0, g⟩ : MemSt nD τ sig Val) (c.tc : Thread nD τ)) ⊢ _ from
      bigSep_mono fun c _ => hone c
    simp only [bigSep_sep'] at hdeal
    have hpick (Φ : P → Dev nD → sProp 𝕄) :
        (bigSep Finset.univ fun c : Dev nD => bigSep Finset.univ fun p' => Φ p' c) ⊢ bigSep Finset.univ fun c : Dev nD => Φ p c :=
      bigSep_mono fun c _ => BI.bigSep_elim (Finset.mem_univ p)
    simp only [bigSep_sep'] at hstart
    iintro ⟨Hcores, Hu⟩
    ihave Hd := hdeal $$ Hcores
    icases Hd with ⟨Hb, HO, Hlev, Hown, Hrest, Hcred⟩
    imod (levels_everywhere L lv hL) $$ Hlev with Hlev
    imod hu₀ $$ Hu with ⟨HP, HG⟩
    imod (fund_ghost (pinD (pcs cfgs) (adm (Val := Val) cfgs)) EP phinj) $$ HP with ⟨Hg, Ht⟩
    imod hstart $$ [Hlev Hown Hrest Hcred HG] with HX
    · isplitl [Hlev]; · iexact Hlev
      isplitl [Hown]; · iexact Hown
      isplitl [Hrest]; · iexact Hrest
      isplitl [Hcred] <;> iassumption
    imodintro
    iexists ()
    isplitr []
    · simp only [before, bigSep_sep']
      isplitl [Hb]; · iexact Hb
      isplitl [HO]; · iexact HO
      isplitl [Hg]; · iapply (hpick fun p' c => cellsGhost (pinD (pcs cfgs) (adm (Val := Val) cfgs)) EP p' c); iexact Hg
      isplitl [Ht]; · iapply (hpick fun p' c => toksInit (pinD (pcs cfgs) (adm (Val := Val) cfgs)) EP p' c); iexact Ht
      iexact HX
    · iempintro
  · -- one device's run: the region, then the return
    have hnone (Φ : Fin (cfgs p).W → sProp 𝕄) : (BI.emp : sProp 𝕄) ⊢ bigSep Finset.univ Φ := by
      rw [Finset.univ_eq_empty, BI.bigSep_empty]
    have hleave : iprop((rdats p c).Φ (Fin.last (pinD (pcs cfgs) (adm (Val := Val) cfgs) c p).N) ∗ cellsSems0 (pinD (pcs cfgs) (adm (Val := Val) cfgs)) p c ∗ Dat.staging (pinD (pcs cfgs) (adm (Val := Val) cfgs) c p) c ∗ idleSems0 (pinD (pcs cfgs) (adm (Val := Val) cfgs)) phinj p (fun _ => ho) c)
        ⊢ iprop(Y c ∗ scopedSems0 (c.tc : Thread nD τ) ∗ scopedBufs (c.tc : Thread nD τ)) := by
      rw [hsems c, hbufs c]
      iintro ⟨HΦ, Hcells, Hst, Hidle⟩
      ihave H := (hout c) $$ HΦ
      icases H with ⟨HY, Hown, Hsr⟩
      isplitl [HY]; · iexact HY
      isplitl [Hcells Hown Hidle]
      · isplitl [Hcells Hown]; · isplitl [Hcells] <;> iassumption
        iexact Hidle
      isplitl [Hst] <;> iassumption
    have hwait : (BI.emp : sProp 𝕄) ⊢ PerCore.RDat.cellsWaits (pinD (pcs cfgs) (adm (Val := Val) cfgs)) rdats () p c :=
      hnone _
    simp only [before]
    rw [hmain c]
    iintro ⟨⟨Hsc, Hcells, Hidle⟩, HO, Hg, Ht, HX⟩
    iapply (fupd_wp frame (wpE (Pipeline.defs (pcs cfgs) defs₀) (Variants.lift 𝒱₀) (c.tc : Thread nD τ) none) Set.univ _ _)
    imod (PerCore.RDat.cellsInit_alloc (pinD (pcs cfgs) (adm (Val := Val) cfgs)) rdats EP phinj p c) $$ [Hcells Hg] with ⟨%κ, -, Hinit⟩
    · isplitl [Hcells] <;> iassumption
    imodintro
    iapply (PerCore.RDat.wp_customCall_entry_frame (pcs cfgs) (adm (Val := Val) cfgs) rdats () EP κ phinj p defs₀ 𝒱₀ (fun _ => fullShare.right) c Set.univ (fun _ _ => Set.mem_univ _)
        (hbody c) (fun w => (hempty.false w).elim) none (fun u h => nomatch h) (X := X c) (Y := Y c) (R := scopedRest (cfgs p).spec c) (I := idleSems0 (pinD (pcs cfgs) (adm (Val := Val) cfgs)) phinj p (fun _ => ho) c)
        (Entails.of_eq (hbufs c)) (by iintro ⟨HX, -, HR⟩; iapply (hin c); isplitl [HX] <;> iassumption) hleave
        (k := fun _ => .ret ⟨⟩) (Q := fun _ => post (liftTc after BI.emp) (c.tc : Thread nD τ))) $$ [HO Hinit Ht HX Hidle Hsc]
    · isplitl [HO Hinit Ht]
      · unfold PerCore.RDat.EntryPre RDat.owesAt owesWithin
        rw [howed₀ c]
        isplitr; · iapply (show (BI.emp : sProp 𝕄) ⊢ (rdats p c).arrays (rdats p c).A from hnone _); iempintro
        isplitl [HO]
        · iexists ∅; isplitr; · ipureintro; rw [Finset.coe_empty]; exact Set.empty_subset _
          iexact HO
        isplitr; · iapply hwait; iempintro
        isplitl [Hinit] <;> iassumption
      isplitr; · unfold prefHeld; rw [Finset.univ_eq_empty, BI.bigSep_empty]; iempintro
      isplitl [HX]; · iexact HX
      isplitl [Hidle]; · iexact Hidle
      iexact Hsc
    iintro ⟨Hpost, HY, Hss, -⟩
    rw [wp_ret]; imodintro
    unfold post PerCore.RDat.EntryPost RDat.owesAt owesWithin
    simp only [liftTc_tc, after, howedN c]
    icases Hpost with ⟨-, ⟨%W, -, HW⟩⟩
    isplitr [HW]
    · isplitl [HY] <;> iassumption
    · iexists W; iexact HW
  · -- the ends, read against a final state
    have hend (c : Dev nD) (s' : Phys nD τ sig Val) : iprop(after c ∗ SI s') ⊢ |={Set.univ}=>
        iprop(⌜QY c s'.mem ∧ ∀ sm : SemLoc sig, sm.isScoped .tc = true → s'.mem.sem ((c.tc : Thread nD τ), sm) = 0⌝ ∗ SI s') := by
      simp only [after]
      iintro ⟨⟨HY, Hss⟩, HSI⟩
      ihave %hz := (tcScoped_read_pers c s') $$ [Hss HSI]
      · isplitl [Hss] <;> iassumption
      imod (hread c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ hend s') $$ [H HSI] with %h
    · isplitl [H] <;> iassumption
    imodintro
    ipureintro
    exact ⟨fun c => h c (Finset.mem_univ c), hsc⟩

end Run

end Cert.Moves

end
-- ==== Proof.Moves.lean ====
/-
# The protocol of a body that only copies, each transfer on semaphores of its own

Every device starts a list of transfers, remote ones (`T`) and local ones (`C`), forwards some of them once they have
landed, and waits for everything. Each transfer has cells nobody else uses: a remote transfer `t` of device `c` credits
the sender's `send t` once its source has been read, and the receiver's `recv t` once it has landed. Device `c` sends
transfer `t` to `peer t c`, and `peer t` is an involution, so device `c` receives transfer `t` from `peer t c` too.

* `send t` of device `c`: credited by `c`'s own transfer, waited for by `c`. It hands over nothing.
* `recv t` of device `c`: credited by the transfer of `peer t c`, waited for by `c`. It hands over the part of `c`'s array
  that the transfer has rewritten, at its new contents (`landed`).
* the cell of a local transfer `u`: the part of the array rewritten (`copied`).
-/
module

public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.Moves

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

/-- One copy between two views of arrays in HBM. -/
structure Xfer (sig : RefSig) where
  s : Shape
  e : EltTy
  src : Memref sig .tc .hbm s e
  dst : Memref sig .tc .hbm s e
  hsrc : src.view.WordExact
  hdst : dst.view.WordExact
  hsc : dst.view.ref.isScScratch = false
  pos : 0 < s.numel

/-- The copies of a body, with what is in the arrays when each starts. -/
structure Plan (nD : Nat) (τ : Topo) (sig : RefSig) (Val : EltTy → Type) (T C : Type) where
  /-- the remote copies, of each device -/
  xf : T → Dev nD → Xfer sig
  /-- whom each goes to -/
  peer : T → Dev nD → Dev nD
  peer_peer : ∀ t c, peer t (peer t c) = c
  send : T → DmaSem sig
  recv : T → DmaSem sig
  /-- the local copies -/
  lf : C → Dev nD → Xfer sig
  loc : C → DmaSem sig
  n : T → ℕ
  n_eq : ∀ t c, (xf t c).dst.view.dmaCredit = n t
  ln : C → ℕ
  ln_eq : ∀ u c, (lf u c).dst.view.dmaCredit = ln u
  /-- how late in a chain of forwards each lands: the first ones at 1 -/
  rank : T → ℕ
  share : T → PosShare TreeShare
  lshare : C → PosShare TreeShare
  src : ∀ t c, (xf t c).src.view.ref.ty.Contents Val
  old : ∀ t c, (xf t c).dst.view.ref.ty.Contents Val
  lsrc : ∀ u c, (lf u c).src.view.ref.ty.Contents Val
  lold : ∀ u c, (lf u c).dst.view.ref.ty.Contents Val

/-- The cells of a device. -/
abbrev Key (T C : Type) : Type := T ⊕ (T ⊕ C)

variable {nD : Nat} {τ : Topo} {sig : RefSig} {Val : EltTy → Type} {T C : Type}

namespace Plan

variable (P : Plan nD τ sig Val T C)

def osem : Key T C → SemLoc sig
  | .inl t => .dma (P.send t)
  | .inr (.inl t) => .dma (P.recv t)
  | .inr (.inr u) => .dma (P.loc u)

def amt : Key T C → ℕ
  | .inl t => P.n t
  | .inr (.inl t) => P.n t
  | .inr (.inr u) => P.ln u

theorem osem_send (t : T) : P.osem (.inl t) = .dma (P.send t) := rfl
theorem osem_recv (t : T) : P.osem (.inr (.inl t)) = .dma (P.recv t) := rfl
theorem osem_loc (u : C) : P.osem (.inr (.inr u)) = .dma (P.loc u) := rfl

abbrev cell (c : Dev nD) (k : Key T C) : GSem nD τ sig := ((c.tc : Thread nD τ), P.osem k)

open Classical in
/-- The key of a semaphore. -/
def key (s : SemLoc sig) : Option (Key T C) := if h : ∃ k, P.osem k = s then some h.choose else none

theorem key_osem (hinj : Function.Injective P.osem) (k : Key T C) : P.key (P.osem k) = some k := by
  unfold key
  have h : ∃ k', P.osem k' = P.osem k := ⟨k, rfl⟩
  rw [dif_pos h]
  exact congrArg some (hinj h.choose_spec)

theorem amt_pos (k : Key T C) [Nonempty (Dev nD)] : 0 < P.amt k := by
  have c : Dev nD := Classical.arbitrary _
  rcases k with t | t | u
  · show 0 < P.n t
    rw [← P.n_eq t c]; exact View.dmaCredit_pos _ (P.xf t c).pos
  · show 0 < P.n t
    rw [← P.n_eq t c]; exact View.dmaCredit_pos _ (P.xf t c).pos
  · show 0 < P.ln u
    rw [← P.ln_eq u c]; exact View.dmaCredit_pos _ (P.lf u c).pos

end Plan

abbrev UM (nD : Nat) (τ : Topo) (sig : RefSig) : Type := URounds (GSem nD τ sig) Unit × URounds (GSem nD τ sig) Unit

local notation "𝕄" => MT nD τ sig Unit Val ℕ (UM nD τ sig) ℕ

abbrev EP : Emb (URounds (GSem nD τ sig) Unit) (MT nD τ sig Unit Val ℕ (UM nD τ sig) ℕ) := embL
abbrev ER : Emb (URounds (GSem nD τ sig) Unit) (MT nD τ sig Unit Val ℕ (UM nD τ sig) ℕ) := embR

namespace Plan

variable (P : Plan nD τ sig Val T C)

/-! ## What the cells hand over -/

def srcPts (t : T) (c : Dev nD) : sProp 𝕄 :=
  (P.xf t c).src.view.loc (c.tc : Thread nD τ) ↦[(P.xf t c).src.view.set]{P.share t} P.src t c
def dstPts (t : T) (c : Dev nD) : sProp 𝕄 :=
  (P.xf t c).dst.view.loc ((P.peer t c).tc : Thread nD τ) ↦[(P.xf t c).dst.view.set]{fullShare} P.old t c
def landedBuf (t : T) (c : Dev nD) : Buf Val ((P.xf t c).dst.view.loc ((P.peer t c).tc : Thread nD τ)) :=
  (P.xf t c).dst.view.write Val (P.old t c) ((P.xf t c).src.view.read Val (P.src t c)) Finset.univ
/-- What `c`'s transfer `t` leaves at its receiver. -/
def landed (t : T) (c : Dev nD) : sProp 𝕄 :=
  (P.xf t c).dst.view.loc ((P.peer t c).tc : Thread nD τ) ↦[(P.xf t c).dst.view.set]{fullShare} P.landedBuf t c
def lsrcPts (u : C) (c : Dev nD) : sProp 𝕄 :=
  (P.lf u c).src.view.loc (c.tc : Thread nD τ) ↦[(P.lf u c).src.view.set]{P.lshare u} P.lsrc u c
def ldstPts (u : C) (c : Dev nD) : sProp 𝕄 :=
  (P.lf u c).dst.view.loc (c.tc : Thread nD τ) ↦[(P.lf u c).dst.view.set]{fullShare} P.lold u c
def copiedBuf (u : C) (c : Dev nD) : Buf Val ((P.lf u c).dst.view.loc (c.tc : Thread nD τ)) :=
  (P.lf u c).dst.view.write Val (P.lold u c) ((P.lf u c).src.view.read Val (P.lsrc u c)) Finset.univ
/-- What `c`'s local copy `u` leaves. -/
def copied (u : C) (c : Dev nD) : sProp 𝕄 :=
  (P.lf u c).dst.view.loc (c.tc : Thread nD τ) ↦[(P.lf u c).dst.view.set]{fullShare} P.copiedBuf u c

def pay : Key T C → Dev nD → sProp 𝕄
  | .inl _, _ => iprop(emp)
  | .inr (.inl t), c => P.landed t (P.peer t c)
  | .inr (.inr u), c => P.copied u c

instance pay_storable (k : Key T C) (c : Dev nD) : BI.Storable (upEmb : UEmb _ 𝕄) (P.pay k c) := by
  rcases k with t | t | u
  · show BI.Storable upEmb (iprop(emp) : sProp 𝕄); infer_instance
  · show BI.Storable upEmb (P.landed t (P.peer t c)); unfold landed; infer_instance
  · show BI.Storable upEmb (P.copied u c); unfold copied; infer_instance

/-! ## The schedule: one duty a cell -/

variable [Nonempty (Dev nD)]

open Classical in
def Rd : Rounds.Schedule (GSem nD τ sig) Unit 𝕄 where
  duties g r := if r = 0 ∧ g.1.2 = .tc ∧ P.key g.2 ≠ none then {()} else ∅
  unitless _ := False
  amount g _ _ := match P.key g.2 with | none => 1 | some k => P.amt k
  payload g _ _ := match P.key g.2 with | none => iprop(emp) | some k => P.pay k g.1.1
  amount_pos g _ _ _ := by
    cases P.key g.2 with
    | none => exact Nat.one_pos
    | some k => exact P.amt_pos k

instance Rd_payload_storable (g : GSem nD τ sig) (r : ℕ) (d : Unit) : BI.Storable (upEmb : UEmb _ 𝕄) (P.Rd.payload g r d) := by
  show BI.Storable upEmb (match P.key g.2 with | none => (iprop(emp) : sProp 𝕄) | some k => P.pay k g.1.1)
  cases P.key g.2 with
  | none => infer_instance
  | some k => exact P.pay_storable k g.1.1

section Sched

variable (hinj : Function.Injective P.osem)
include hinj

theorem duties_cell (c : Dev nD) (k : Key T C) : P.Rd.duties (P.cell c k) 0 = {()} := by
  dsimp only [Rd]
  exact if_pos ⟨rfl, rfl, by rw [P.key_osem hinj]; exact Option.some_ne_none k⟩
theorem amount_cell (c : Dev nD) (k : Key T C) (u : Unit) : P.Rd.amount (P.cell c k) 0 u = P.amt k := by
  dsimp only [Rd]; rw [P.key_osem hinj]
theorem payload_cell (c : Dev nD) (k : Key T C) (u : Unit) : P.Rd.payload (P.cell c k) 0 u = P.pay k c := by
  dsimp only [Rd]; rw [P.key_osem hinj]
theorem expect_cell (c : Dev nD) (k : Key T C) : P.Rd.expect (P.cell c k) 0 = P.amt k := by
  unfold Schedule.expect Schedule.amountOf; rw [P.duties_cell hinj, Finset.sum_singleton, P.amount_cell hinj]
theorem rest_cell (c : Dev nD) (k : Key T C) :
    bigSep (P.Rd.duties (P.cell c k) 0 \ ∅) (fun u => P.Rd.payload (P.cell c k) 0 u) = P.pay k c := by
  rw [Finset.sdiff_empty, P.duties_cell hinj, bigSep_singleton, P.payload_cell hinj]

end Sched

theorem duties_later (g : GSem nD τ sig) : ∀ r, 1 ≤ r → P.Rd.duties g r = ∅ :=
  fun r hr => by dsimp only [Rd]; exact if_neg fun h => by omega

/-! ## What is owed, and the levels -/

def owed (c : Dev nD) (l : List T) : CellTallies nD τ sig Unit := (l.map fun t => tallyAt (P.cell (P.peer t c) (.inr (.inl t))) () (P.n t)).sum

omit [Nonempty (Dev nD)] in
theorem owed_cons (c : Dev nD) (t : T) (l : List T) : P.owed c (t :: l) = P.owed c l + tallyAt (P.cell (P.peer t c) (.inr (.inl t))) () (P.n t) := by
  unfold owed; rw [List.map_cons, List.sum_cons, add_comm]
omit [Nonempty (Dev nD)] in
theorem owed_nil (c : Dev nD) : P.owed c [] = 0 := rfl

omit [Nonempty (Dev nD)] in
theorem owed_pos {c : Dev nD} {l : List T} {g : GSem nD τ sig} {u : Unit} (h : 0 < P.owed c l g u) :
    ∃ t ∈ l, g = P.cell (P.peer t c) (.inr (.inl t)) := by
  induction l with
  | nil => exact absurd h (Nat.lt_irrefl 0)
  | cons t l ih =>
    rw [owed_cons, Pi.add_apply, Finsupp.add_apply] at h
    rcases Nat.add_pos_iff_pos_or_pos.mp h with h | h
    · obtain ⟨t', ht', e⟩ := ih h
      exact ⟨t', List.mem_cons_of_mem _ ht', e⟩
    · rw [tallyAt_apply] at h
      split at h
      · next hg => exact ⟨t, List.mem_cons_self, hg.1⟩
      · exact absurd h (Nat.lt_irrefl 0)

def L (g : GSem nD τ sig) : Finset Unit := if g.1.2 = .tc then {()} else ∅
def lvl : Key T C → ℕ
  | .inl _ => 0
  | .inr (.inl t) => P.rank t
  | .inr (.inr _) => 0
def lv (g : GSem nD τ sig) (_ : Unit) : ℕ := match P.key g.2 with | none => 0 | some k => P.lvl k

omit [Nonempty (Dev nD)] in
theorem L_of_ne (g : GSem nD τ sig) (h : g.1.2 ≠ .tc) : L g = ∅ := if_neg h
omit [Nonempty (Dev nD)] in
theorem L_cell (c : Dev nD) (k : Key T C) : L (P.cell c k) = {()} := if_pos rfl
omit [Nonempty (Dev nD)] in
theorem lv_cell (hinj : Function.Injective P.osem) (c : Dev nD) (k : Key T C) (u : Unit) : P.lv (P.cell c k) u = P.lvl k := by
  dsimp only [lv]; rw [P.key_osem hinj]

omit [Nonempty (Dev nD)] in
theorem mayWait (hinj : Function.Injective P.osem) (c : Dev nD) (k : Key T C) (l : List T) (hl : ∀ t ∈ l, P.lvl k < P.rank t) :
    (levAts L P.lv : sProp 𝕄) ⊢ MayWait (c.tc : Thread nD τ) (P.osem k) () (P.owed c l) :=
  MayOwe.of_cut (L := L) (lev := P.lv) (P.lvl k) (fun p hp => by rw [Finset.mem_singleton.mp hp, P.L_cell]; exact Finset.mem_singleton_self _)
    (fun g u hg => by
      obtain ⟨t, -, rfl⟩ := P.owed_pos hg
      rw [P.L_cell]; exact Finset.mem_singleton_self _)
    (fun p hp => by rw [Finset.mem_singleton.mp hp, P.lv_cell hinj])
    (fun g u hg => by
      obtain ⟨t, ht, rfl⟩ := P.owed_pos hg
      rw [P.lv_cell hinj]; exact hl t ht)

/-! ## The records every device holds -/

variable [Fintype T] [Fintype C] [DecidableEq T] [DecidableEq C]

def records (κ : Dev nD × Key T C → ℕ) : sProp 𝕄 :=
  iprop((bigSep Finset.univ fun ck : Dev nD × Key T C => cellInv ER P.Rd (κ ck) (P.cell ck.1 ck.2))
    ∗ bigSep Finset.univ fun ck : Dev nD × Key T C => reached ER (P.cell ck.1 ck.2) 0)
instance records_persistent (κ : Dev nD × Key T C → ℕ) : BI.Persistent (P.records κ) := by unfold records; infer_instance

theorem inv_at (κ : Dev nD × Key T C → ℕ) (c : Dev nD) (k : Key T C) : P.records κ ⊢ cellInv ER P.Rd (κ (c, k)) (P.cell c k) := by
  unfold records
  exact sep_elim_left.trans (bigSep_elim (Finset.mem_univ (c, k)))
theorem reached_at (κ : Dev nD × Key T C → ℕ) (c : Dev nD) (k : Key T C) : P.records κ ⊢ reached ER (P.cell c k) 0 := by
  unfold records
  exact sep_elim_right.trans (bigSep_elim (Finset.mem_univ (c, k)))

end Plan

end Cert.Moves
-- ==== Proof.Steps.lean ====
/-
# The body of a copying call, run once for every device

The body is three lists: the copies started first; the forwards, each a wait for a landing and then a copy of what has
landed; and the waits for all the rest. `wp_body` runs it from what the launch deals a device to what it ends with.
-/
module

public import proofs.«01_k».proof.Proof.Moves

@[expose] public section

noncomputable section

namespace Cert.Moves

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {T C : Type}

local notation "𝕄" => MT nD τ sig Unit Val ℕ (UM nD τ sig) ℕ

namespace Plan

variable (P : Plan nD τ sig Val T C)

/-- A wait for the cell of a key: the array it names and the amount. -/
structure WaitOp where
  k : Key T C
  b : Ref sig .tc
  s : Shape
  e : EltTy
  hb : b.HasMemref s e
  amt_eq : b.dmaCredit s e = P.amt k

variable {Λ₀ : Labels}

/-- The wait naming the destination `v`. -/
abbrev WaitOp.of (k : Key T C) {s : Shape} {e : EltTy} (v : Memref sig .tc .hbm s e) (h : v.view.dmaCredit = P.amt k) : P.WaitOp :=
  ⟨k, v.view.ref, s, e, v.hasMemref, h⟩

/-- The semaphore of a key, a DMA semaphore. -/
def dsem : Key T C → DmaSem sig
  | .inl t => P.send t
  | .inr (.inl t) => P.recv t
  | .inr (.inr u) => P.loc u
theorem osem_eq (k : Key T C) : P.osem k = .dma (P.dsem k) := by rcases k with t | t | u <;> rfl

def startOp (c : Dev nD) : T ⊕ C → TpuEff nD τ sig Val Λ₀ .tc PUnit
  | .inl t => .enqueueDma (P.xf t c).src (.remote ((P.peer t c).tc : Thread nD τ) (P.xf t c).dst (.dma (P.send t)) (P.xf t c).hsc) (.dma (P.recv t))
      (P.xf t c).hsrc (P.xf t c).hdst ⟨⟨rfl, Or.inl rfl⟩, trivial⟩
  | .inr u => .enqueueDma (P.lf u c).src (.here (P.lf u c).dst) (.dma (P.loc u)) (P.lf u c).hsrc (P.lf u c).hdst ⟨Or.inl rfl, trivial⟩

def waitOp (w : P.WaitOp) : TpuEff nD τ sig Val Λ₀ .tc PUnit := .waitDma (P.dsem w.k) w.b w.s w.e (.inr w.hb)

/-- Operations in a row, then the rest. -/
def run (ops : List (TpuEff nD τ sig Val Λ₀ .tc PUnit)) (k : Prog (TpuEff nD τ sig Val Λ₀ .tc) PUnit) : Prog (TpuEff nD τ sig Val Λ₀ .tc) PUnit :=
  ops.foldr (fun o k => .op o fun _ => k) k
theorem run_nil (k : Prog (TpuEff nD τ sig Val Λ₀ .tc) PUnit) : run [] k = k := rfl
theorem run_cons (o : TpuEff nD τ sig Val Λ₀ .tc PUnit) (l : List (TpuEff nD τ sig Val Λ₀ .tc PUnit)) (k : Prog (TpuEff nD τ sig Val Λ₀ .tc) PUnit) :
    run (o :: l) k = .op o fun _ => run l k := rfl

variable (defs₀ : Defs nD τ sig Val Λ₀) (𝒱₀ : Variants) [Nonempty (Dev nD)] [Fintype T] [Fintype C] [DecidableEq T] [DecidableEq C]

/-- A program of device `c`'s core, to be run to its return. -/
abbrev wpAt (c : Dev nD) (p : Prog (TpuEff nD τ sig Val Λ₀ .tc) PUnit) (Q : PUnit.{1} → sProp 𝕄) : sProp 𝕄 :=
  wp frame (wpE defs₀ 𝒱₀ (c.tc : Thread nD τ) none) Set.univ p Q

def toks (t : T) (c : Dev nD) : sProp 𝕄 := iprop(dutyTok ER (P.cell c (.inl t)) 0 () ∗ dutyTok ER (P.cell (P.peer t c) (.inr (.inl t))) 0 ())
/-- What starting a copy takes. -/
def startRes (c : Dev nD) : T ⊕ C → sProp 𝕄
  | .inl t => iprop(P.toks t c ∗ P.srcPts t c ∗ P.dstPts t c)
  | .inr u => iprop(dutyTok ER (P.cell c (.inr (.inr u))) 0 () ∗ P.lsrcPts u c ∗ P.ldstPts u c)
/-- The credit for a cell. -/
def credOf (c : Dev nD) (k : Key T C) : sProp 𝕄 := cred (tallyAt (P.cell c k) () (P.amt k))
def selfKey : T ⊕ C → Key T C
  | .inl t => .inl t
  | .inr u => .inr (.inr u)
def sends : List (T ⊕ C) → List T
  | [] => []
  | .inl t :: l => t :: sends l
  | .inr _ :: l => sends l

section Run

variable (hinj : Function.Injective P.osem)
include hinj

theorem wp_remote (κ : Dev nD × Key T C → ℕ) (c : Dev nD) (t : T) (l : List T) (W : Waits sig Unit)
    {k : PUnit.{1} → Prog (TpuEff nD τ sig Val Λ₀ .tc) PUnit} {Q : PUnit.{1} → sProp 𝕄} :
    iprop(P.records κ ∗ P.startRes c (.inl t) ∗ owes (c.tc : Thread nD τ) (P.owed c (t :: l)) W)
      ⊢ iprop((P.credOf c (.inl t) ∗ owes (c.tc : Thread nD τ) (P.owed c l) W -∗ wpAt defs₀ 𝒱₀ c (k ⟨⟩) Q)
          -∗ wpAt defs₀ 𝒱₀ c (.op (P.startOp c (.inl t)) k) Q) := by
  unfold startRes toks
  iintro ⟨#HR, ⟨⟨Ht1, Ht2⟩, Hs, Hd⟩, HO⟩
  ihave #HI1 := (P.inv_at κ c (.inl t)) $$ HR
  ihave #HI2 := (P.inv_at κ (P.peer t c) (.inr (.inl t))) $$ HR
  ihave #HR1 := (P.reached_at κ c (.inl t)) $$ HR
  ihave #HR2 := (P.reached_at κ (P.peer t c) (.inr (.inl t))) $$ HR
  unfold srcPts dstPts wpAt
  simp only [startOp]
  iapply (Rounds.wp_send_pointsTo 𝒱₀ ER P.Rd (c.tc : Thread nD τ) none (κ₁ := κ (c, .inl t)) (κ₂ := κ (P.peer t c, .inr (.inl t)))
    (c' := ((P.peer t c).tc : Thread nD τ)) (src := (P.xf t c).src) (dst := (P.xf t c).dst) (sS := .dma (P.send t)) (sem := .dma (P.recv t))
    (r₁ := 0) (r₂ := 0) (d₁ := ()) (d₂ := ()) (fs := P.src t c) (fd := P.old t c) (q := P.share t)
    (by rw [← P.osem_send, P.duties_cell hinj]; exact Finset.mem_singleton_self _) (by rw [← P.osem_recv, P.duties_cell hinj]; exact Finset.mem_singleton_self _)
    () () (P.n t) (P.n_eq t c) (P.amount_cell hinj c (.inl t) ()) (P.amount_cell hinj (P.peer t c) (.inr (.inl t)) ()) (P.owed c l) (P.owed_cons c t l) (W := W)
    (by rw [← P.osem_send, P.payload_cell hinj]; unfold pay; iintro -; iempintro)
    (by rw [← P.osem_recv, P.payload_cell hinj]; show _ ⊢ P.landed t (P.peer t (P.peer t c)); rw [P.peer_peer]; exact .rfl)) $$ [Ht1 Ht2 Hs Hd HO]
  isplitr; · iexact HI1
  isplitr; · iexact HI2
  isplitl [Hs]; · iexact Hs
  isplitl [Hd]; · iexact Hd
  isplitl [HO]; · iexact HO
  isplitl [Ht1]; · iexact Ht1
  isplitr; · iexact HR1
  isplitl [Ht2]; · iexact Ht2
  iexact HR2

theorem wp_local (κ : Dev nD × Key T C → ℕ) (c : Dev nD) (u : C)
    {k : PUnit.{1} → Prog (TpuEff nD τ sig Val Λ₀ .tc) PUnit} {Q : PUnit.{1} → sProp 𝕄} :
    iprop(P.records κ ∗ P.startRes c (.inr u))
      ⊢ iprop((P.credOf c (.inr (.inr u)) -∗ wpAt defs₀ 𝒱₀ c (k ⟨⟩) Q) -∗ wpAt defs₀ 𝒱₀ c (.op (P.startOp c (.inr u)) k) Q) := by
  unfold startRes
  iintro ⟨#HR, ⟨Ht, Hs, Hd⟩⟩
  ihave #HI1 := (P.inv_at κ c (.inr (.inr u))) $$ HR
  ihave #HR1 := (P.reached_at κ c (.inr (.inr u))) $$ HR
  unfold lsrcPts ldstPts wpAt
  simp only [startOp]
  iapply (Rounds.wp_copy_pointsTo 𝒱₀ ER P.Rd (c.tc : Thread nD τ) none (κ := κ (c, .inr (.inr u)))
    (src := (P.lf u c).src) (dst := (P.lf u c).dst) (sem := .dma (P.loc u))
    (r := 0) (d := ()) (fs := P.lsrc u c) (fd := P.lold u c) (q := P.lshare u)
    (by rw [← P.osem_loc, P.duties_cell hinj]; exact Finset.mem_singleton_self _)
    () (P.ln u) (P.ln_eq u c) (P.amount_cell hinj c (.inr (.inr u)) ())
    (by rw [← P.osem_loc, P.payload_cell hinj]; show _ ⊢ P.copied u c; unfold copied copiedBuf; iintro ⟨H, -⟩; iexact H)) $$ [Ht Hs Hd]
  isplitr; · iexact HI1
  isplitl [Hs]; · iexact Hs
  isplitl [Hd]; · iexact Hd
  isplitl [Ht]; · iexact Ht
  iexact HR1

theorem wp_wait (κ : Dev nD × Key T C → ℕ) (c : Dev nD) (w : P.WaitOp) (l : List T) (hl : ∀ t ∈ l, P.lvl w.k < P.rank t) (W : Waits sig Unit)
    {k : PUnit.{1} → Prog (TpuEff nD τ sig Val Λ₀ .tc) PUnit} {Q : PUnit.{1} → sProp 𝕄} :
    iprop(P.records κ ∗ levAts L P.lv ∗ P.credOf c w.k ∗ atPos ER (P.cell c w.k) 0 ∅ 0 ∗ owes (c.tc : Thread nD τ) (P.owed c l) W)
      ⊢ iprop(((∃ W', owes (c.tc : Thread nD τ) (P.owed c l) W') ∗ atPos ER (P.cell c w.k) 1 ∅ 0 ∗ P.pay w.k c -∗ wpAt defs₀ 𝒱₀ c (k ⟨⟩) Q)
          -∗ wpAt defs₀ 𝒱₀ c (.op (P.waitOp w) k) Q) := by
  iintro ⟨#HR, #Hlev, Hc, Hat, HO⟩ Hk
  ihave #HI := (P.inv_at κ c w.k) $$ HR
  unfold credOf
  iapply (Rounds.wp_wait_rest_token 𝒱₀ ER P.Rd (c.tc : Thread nD τ) none (κ := κ (c, w.k)) (sm := P.osem w.k) (k' := P.amt w.k)
      (fun K => by rw [P.osem_eq, ← w.amt_eq]; exact wpE_waitDma_eq 𝒱₀ (c.tc : Thread nD τ) none Set.univ K) (Set.mem_univ _) () (O := P.owed c l) (W := W) (R := 0) (m := 0) (T := ∅)
      (by rw [Nat.zero_add, P.expect_cell hinj])) $$ [Hc HO Hat]
  · isplitr; · iexact HI
    isplitl [Hc]; · iexact Hc
    isplitl [HO]; · iexact HO
    isplitr; · iapply (P.mayWait hinj c w.k l hl); iexact Hlev
    iexact Hat
  iintro ⟨HO, Hat, -, Hpay⟩
  iapply Hk
  isplitl [HO]; · iexists _; iexact HO
  isplitl [Hat]; · iexact Hat
  iapply (Entails.of_eq (P.rest_cell hinj c w.k)); iexact Hpay

/-- The copies started first. -/
theorem wp_starts (κ : Dev nD × Key T C → ℕ) (c : Dev nD) (S : List (T ⊕ C)) (l : List T) (W : Waits sig Unit)
    {k : Prog (TpuEff nD τ sig Val Λ₀ .tc) PUnit} {Q : PUnit.{1} → sProp 𝕄} :
    iprop(P.records κ ∗ bigSepL S (P.startRes c) ∗ owes (c.tc : Thread nD τ) (P.owed c (sends S ++ l)) W)
      ⊢ iprop((bigSepL S (fun x => P.credOf c (selfKey x)) ∗ owes (c.tc : Thread nD τ) (P.owed c l) W -∗ wpAt defs₀ 𝒱₀ c k Q)
          -∗ wpAt defs₀ 𝒱₀ c (run (S.map (P.startOp c)) k) Q) := by
  induction S with
  | nil =>
    rw [List.map_nil, run_nil]
    iintro ⟨-, H, HO⟩ Hk
    iapply Hk
    isplitl [H]; · iexact H
    iexact HO
  | cons x S ih =>
    rw [bigSepL_cons', bigSepL_cons']
    rw [List.map_cons, run_cons]
    rcases x with t | u
    · iintro ⟨#HR, ⟨Hx, HS⟩, HO⟩ Hk
      iapply (P.wp_remote defs₀ 𝒱₀ hinj κ c t (sends S ++ l) W) $$ [Hx HO]
      · isplitr; · iexact HR
        isplitl [Hx]; · iexact Hx
        iexact HO
      iintro ⟨Hc, HO⟩
      iapply ih $$ [HS HO]
      · isplitr; · iexact HR
        isplitl [HS]; · iexact HS
        iexact HO
      iintro ⟨Hcs, HO⟩
      iapply Hk
      isplitl [Hc Hcs]
      · isplitl [Hc]; · iexact Hc
        iexact Hcs
      iexact HO
    · iintro ⟨#HR, ⟨Hx, HS⟩, HO⟩ Hk
      iapply (P.wp_local defs₀ 𝒱₀ hinj κ c u) $$ [Hx]
      · isplitr; · iexact HR
        iexact Hx
      iintro Hc
      iapply ih $$ [HS HO]
      · isplitr; · iexact HR
        isplitl [HS]; · iexact HS
        iexact HO
      iintro ⟨Hcs, HO⟩
      iapply Hk
      isplitl [Hc Hcs]
      · isplitl [Hc]; · iexact Hc
        iexact Hcs
      iexact HO

/-- The waits: each cell's payload. -/
theorem wp_waits (κ : Dev nD × Key T C → ℕ) (c : Dev nD) (Wl : List P.WaitOp) (W : Waits sig Unit) {Q : PUnit.{1} → sProp 𝕄} :
    iprop(P.records κ ∗ levAts L P.lv ∗ bigSepL Wl (fun w => P.credOf c w.k) ∗ bigSepL Wl (fun w => atPos ER (P.cell c w.k) 0 ∅ 0)
        ∗ owes (c.tc : Thread nD τ) (P.owed c []) W)
      ⊢ iprop(((∃ W', owes (c.tc : Thread nD τ) (0 : CellTallies nD τ sig Unit) W') ∗ bigSepL Wl (fun w => atPos ER (P.cell c w.k) 1 ∅ 0) ∗ bigSepL Wl (fun w => P.pay w.k c)
            -∗ |={Set.univ}=> Q ⟨⟩)
          -∗ wpAt defs₀ 𝒱₀ c (run (Wl.map P.waitOp) (.ret ⟨⟩)) Q) := by
  induction Wl generalizing W with
  | nil =>
    rw [List.map_nil, run_nil]
    unfold wpAt
    rw [wp_ret]
    iintro ⟨-, -, H1, H2, HO⟩ Hk
    iapply Hk
    isplitl [HO]; · iexists W; iexact HO
    isplitl [H1]; · iexact H1
    iexact H2
  | cons w Wl ih =>
    simp only [bigSepL_cons']
    rw [List.map_cons, run_cons]
    iintro ⟨#HR, #Hlev, ⟨Hc, Hcs⟩, ⟨Hat, Hats⟩, HO⟩ Hk
    iapply (P.wp_wait defs₀ 𝒱₀ hinj κ c w [] (fun t ht => absurd ht List.not_mem_nil) W) $$ [Hc Hat HO]
    · isplitr; · iexact HR
      isplitr; · iexact Hlev
      isplitl [Hc]; · iexact Hc
      isplitl [Hat]; · iexact Hat
      iexact HO
    iintro ⟨⟨%W', HO⟩, Hat, Hp⟩
    iapply (ih W') $$ [Hcs Hats HO]
    · isplitr; · iexact HR
      isplitr; · iexact Hlev
      isplitl [Hcs]; · iexact Hcs
      isplitl [Hats]; · iexact Hats
      iexact HO
    iintro ⟨HO, Hats, Hps⟩
    iapply Hk
    isplitl [HO]; · iexact HO
    isplitl [Hat Hats]
    · isplitl [Hat]; · iexact Hat
      iexact Hats
    isplitl [Hp]; · iexact Hp
    iexact Hps

/-- The forwards: each waits for a landing, keeps part of it and copies the rest on. -/
theorem wp_forwards (κ : Dev nD × Key T C → ℕ) (c : Dev nD) (keep : T → sProp 𝕄) (Rl : List (P.WaitOp × T))
    (hrel : ∀ x ∈ Rl, P.pay x.1.k c ⊢ iprop(P.srcPts x.2 c ∗ keep x.2))
    (hlvl : ∀ x ∈ Rl, ∀ y ∈ Rl, P.lvl x.1.k < P.rank y.2) (W : Waits sig Unit)
    {k : Prog (TpuEff nD τ sig Val Λ₀ .tc) PUnit} {Q : PUnit.{1} → sProp 𝕄} :
    iprop(P.records κ ∗ levAts L P.lv ∗ bigSepL Rl (fun x => P.credOf c x.1.k) ∗ bigSepL Rl (fun x => atPos ER (P.cell c x.1.k) 0 ∅ 0)
        ∗ bigSepL Rl (fun x => iprop(P.toks x.2 c ∗ P.dstPts x.2 c)) ∗ owes (c.tc : Thread nD τ) (P.owed c (Rl.map Prod.snd)) W)
      ⊢ iprop(((∃ W', owes (c.tc : Thread nD τ) (P.owed c []) W') ∗ bigSepL Rl (fun x => atPos ER (P.cell c x.1.k) 1 ∅ 0)
              ∗ bigSepL Rl (fun x => P.credOf c (.inl x.2)) ∗ bigSepL Rl (fun x => keep x.2) -∗ wpAt defs₀ 𝒱₀ c k Q)
          -∗ wpAt defs₀ 𝒱₀ c (run (Rl.flatMap fun x => [P.waitOp x.1, P.startOp c (.inl x.2)]) k) Q) := by
  induction Rl generalizing W with
  | nil =>
    rw [List.flatMap_nil, run_nil]
    iintro ⟨-, -, H1, H2, H3, HO⟩ Hk
    iapply Hk
    isplitl [HO]; · iexists W; iexact HO
    isplitl [H1]; · iexact H1
    isplitl [H2]; · iexact H2
    iexact H3
  | cons x Rl ih =>
    have hmem : ∀ y ∈ Rl, y ∈ x :: Rl := fun y hy => List.mem_cons_of_mem _ hy
    simp only [bigSepL_cons']
    rw [List.flatMap_cons, List.cons_append, List.cons_append, List.nil_append, run_cons, run_cons]
    iintro ⟨#HR, #Hlev, ⟨Hc, Hcs⟩, ⟨Hat, Hats⟩, ⟨⟨Ht, Hd⟩, Hds⟩, HO⟩ Hk
    iapply (P.wp_wait defs₀ 𝒱₀ hinj κ c x.1 ((x :: Rl).map Prod.snd) (fun t ht => by
        obtain ⟨y, hy, rfl⟩ := List.mem_map.mp ht
        exact hlvl x List.mem_cons_self y hy) W) $$ [Hc Hat HO]
    · isplitr; · iexact HR
      isplitr; · iexact Hlev
      isplitl [Hc]; · iexact Hc
      isplitl [Hat]; · iexact Hat
      iexact HO
    iintro ⟨⟨%W', HO⟩, Hat, Hp⟩
    ihave Hp' := (hrel x List.mem_cons_self) $$ Hp
    icases Hp' with ⟨Hs, Hkeep⟩
    iapply (P.wp_remote defs₀ 𝒱₀ hinj κ c x.2 (Rl.map Prod.snd) W') $$ [Ht Hs Hd HO]
    · isplitr; · iexact HR
      isplitl [Ht Hs Hd]
      · unfold startRes
        isplitl [Ht]; · iexact Ht
        isplitl [Hs]; · iexact Hs
        iexact Hd
      iexact HO
    iintro ⟨Hsc, HO⟩
    iapply (ih (fun y hy => hrel y (hmem y hy)) (fun y hy z hz => hlvl y (hmem y hy) z (hmem z hz)) W') $$ [Hcs Hats Hds HO]
    · isplitr; · iexact HR
      isplitr; · iexact Hlev
      isplitl [Hcs]; · iexact Hcs
      isplitl [Hats]; · iexact Hats
      isplitl [Hds]; · iexact Hds
      iexact HO
    iintro ⟨HO, Hats, Hscs, Hkeeps⟩
    iapply Hk
    isplitl [HO]; · iexact HO
    isplitl [Hat Hats]
    · isplitl [Hat]; · iexact Hat
      iexact Hats
    isplitl [Hsc Hscs]
    · isplitl [Hsc]; · iexact Hsc
      iexact Hscs
    isplitl [Hkeep]; · iexact Hkeep
    iexact Hkeeps

end Run

end Plan

end Cert.Moves
-- ==== Proof.Deal.lean ====
/-
# A script, and its run on one device

A script is a body as three lists (the copies started first, the forwards, the waits) with the facts that make it use
every transfer and every cell exactly once. `wp_body` runs it from what the launch deals (`start`) to what it ends with.
-/
module

public import proofs.«01_k».proof.Proof.Steps

@[expose] public section

noncomputable section

namespace Cert.Moves

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {T C : Type}

local notation "𝕄" => MT nD τ sig Unit Val ℕ (UM nD τ sig) ℕ

theorem bigSepL_perm {M : Type} [URA M] {I : Type} [DecidableEq I] {l l' : List I} (h : l.Perm l') (hn : l.Nodup) (Φ : I → sProp M) :
    bigSepL l Φ = bigSepL l' Φ := by
  rw [← bigSep_eq_bigSepL l hn Φ, ← bigSep_eq_bigSepL l' (h.nodup_iff.mp hn) Φ, List.toFinset_eq_of_perm _ _ h]

theorem bigSepL_sep {M : Type} [URA M] {I : Type} (l : List I) (Φ Ψ : I → sProp M) :
    iprop(bigSepL l Φ ∗ bigSepL l Ψ) ⊢ bigSepL l fun i => iprop(Φ i ∗ Ψ i) := by
  induction l with
  | nil => rw [bigSepL_nil, bigSepL_nil, bigSepL_nil]; iintro ⟨-, -⟩; iempintro
  | cons i l ih =>
    rw [bigSepL_cons', bigSepL_cons', bigSepL_cons']
    iintro ⟨⟨H1, H2⟩, H3, H4⟩
    isplitl [H1 H3]
    · isplitl [H1] <;> iassumption
    iapply ih
    isplitl [H2] <;> iassumption

namespace Plan

variable (P : Plan nD τ sig Val T C) [Nonempty (Dev nD)] [Fintype T] [Fintype C] [DecidableEq T] [DecidableEq C]

theorem selfKey_injective : Function.Injective (selfKey (T := T) (C := C)) := by
  intro a b h
  rcases a with a | a <;> rcases b with b | b <;> simp only [selfKey, Sum.inl.injEq, Sum.inr.injEq, reduceCtorEq] at h
  · rw [h]
  · rw [h]
theorem selfKey_ne_recv (x : T ⊕ C) (t : T) : selfKey x ≠ .inr (.inl t) := by
  rcases x with a | a <;> simp [selfKey]

theorem mem_sends {S : List (T ⊕ C)} {t : T} : t ∈ sends S ↔ .inl t ∈ S := by
  induction S with
  | nil => simp [sends]
  | cons x S ih => rcases x with a | a <;> simp [sends, ih]
theorem sends_nodup {S : List (T ⊕ C)} (h : S.Nodup) : (sends S).Nodup := by
  induction S with
  | nil => simp [sends]
  | cons x S ih =>
    rw [List.nodup_cons] at h
    rcases x with a | a
    · simp only [sends, List.nodup_cons]
      exact ⟨fun hm => h.1 (mem_sends.mp hm), ih h.2⟩
    · exact ih h.2
theorem sends_append (S S' : List (T ⊕ C)) : sends (S ++ S') = sends S ++ sends S' := by
  induction S with
  | nil => rfl
  | cons x S ih => rcases x with a | a <;> simp [sends, ih]
theorem sends_inl {α : Type} (l : List α) (f : α → T) : sends (l.map fun x => (.inl (f x) : T ⊕ C)) = l.map f := by
  induction l with
  | nil => rfl
  | cons x S ih => simp [sends, ih]

/-- What starting a copy takes besides its tokens. -/
def sdata (c : Dev nD) : T ⊕ C → sProp 𝕄
  | .inl t => iprop(P.srcPts t c ∗ P.dstPts t c)
  | .inr u => iprop(P.lsrcPts u c ∗ P.ldstPts u c)
def tokOf (c : Dev nD) : T ⊕ C → sProp 𝕄
  | .inl t => P.toks t c
  | .inr u => dutyTok ER (P.cell c (.inr (.inr u))) 0 ()
theorem startRes_intro (c : Dev nD) (x : T ⊕ C) : iprop(P.tokOf c x ∗ P.sdata c x) ⊢ P.startRes c x := by
  rcases x with t | u
  · exact .rfl
  · exact .rfl

/-- A body, as three lists. -/
structure Script where
  S : List (T ⊕ C)
  Rl : List (P.WaitOp × T)
  /-- the transfers the forwards wait for, and the others -/
  rl : List T
  rest : List T
  Wl : List P.WaitOp
  rl_eq : (Rl.map fun x => x.1.k) = rl.map fun t => .inr (.inl t)
  recvs : (rl ++ rest).Nodup
  recvs_all : ∀ t, t ∈ rl ++ rest
  starts : (S ++ Rl.map fun x => (Sum.inl x.2 : T ⊕ C)).Nodup
  starts_all : ∀ x, x ∈ S ++ Rl.map fun x => (Sum.inl x.2 : T ⊕ C)
  waits : (Wl.map fun w => w.k).Perm ((rest.map fun t => (Sum.inr (Sum.inl t) : Key T C)) ++ (S ++ Rl.map fun x => (Sum.inl x.2 : T ⊕ C)).map selfKey)
  keep : T → Dev nD → sProp 𝕄
  relay : ∀ c, ∀ x ∈ Rl, P.pay x.1.k c ⊢ iprop(P.srcPts x.2 c ∗ keep x.2 c)
  late : ∀ x ∈ Rl, ∀ y ∈ Rl, P.lvl x.1.k < P.rank y.2

namespace Script

variable {P} (Z : P.Script)

variable {Λ₀ : Labels}

def body (c : Dev nD) : Prog (TpuEff nD τ sig Val Λ₀ .tc) PUnit :=
  run (Z.S.map (P.startOp c)) (run (Z.Rl.flatMap fun x => [P.waitOp x.1, P.startOp c (.inl x.2)]) (run (Z.Wl.map P.waitOp) (.ret ⟨⟩)))

def sendsAll : List T := sends Z.S ++ Z.Rl.map Prod.snd

theorem sendsAll_eq : Z.sendsAll = sends (Z.S ++ Z.Rl.map fun x => (Sum.inl x.2 : T ⊕ C)) := by
  rw [sends_append, sends_inl]; rfl
theorem sendsAll_nodup : Z.sendsAll.Nodup := by rw [sendsAll_eq]; exact sends_nodup Z.starts
theorem sendsAll_all : Finset.univ = Z.sendsAll.toFinset := by
  refine (Finset.eq_univ_of_forall fun t => ?_).symm
  rw [List.mem_toFinset, sendsAll_eq, mem_sends]
  exact Z.starts_all _

theorem recv_cells (Φ : Key T C → sProp 𝕄) :
    (bigSep Finset.univ fun t => Φ (.inr (.inl t))) = iprop(bigSepL Z.Rl (fun x => Φ x.1.k) ∗ bigSepL Z.rest fun t => Φ (.inr (.inl t))) := by
  rw [bigSep_univ_eq_bigSepL (Z.rl ++ Z.rest) (Finset.eq_univ_of_forall fun t => List.mem_toFinset.mpr (Z.recvs_all t)).symm Z.recvs,
    bigSepL_append, ← bigSepL_map (fun t => (.inr (.inl t) : Key T C)) Z.rl Φ, ← Z.rl_eq, bigSepL_map]

theorem self_cells (Φ : T ⊕ C → sProp 𝕄) :
    bigSep Finset.univ Φ = iprop(bigSepL Z.S Φ ∗ bigSepL Z.Rl fun x => Φ (.inl x.2)) := by
  rw [bigSep_univ_eq_bigSepL (Z.S ++ Z.Rl.map fun x => (Sum.inl x.2 : T ⊕ C)) (Finset.eq_univ_of_forall fun t => List.mem_toFinset.mpr (Z.starts_all t)).symm Z.starts,
    bigSepL_append, bigSepL_map]

theorem waits_nodup : ((Z.rest.map fun t => (Sum.inr (Sum.inl t) : Key T C)) ++ (Z.S ++ Z.Rl.map fun x => (Sum.inl x.2 : T ⊕ C)).map selfKey : List (Key T C)).Nodup := by
  refine List.nodup_append.mpr ⟨(List.nodup_append.mp Z.recvs).2.1.map fun a b h => by simpa using h, Z.starts.map selfKey_injective, ?_⟩
  intro a ha b hb e
  obtain ⟨t, -, rfl⟩ := List.mem_map.mp ha
  obtain ⟨x, -, rfl⟩ := List.mem_map.mp hb
  exact selfKey_ne_recv x t e.symm

theorem wait_cells (Φ : Key T C → sProp 𝕄) :
    bigSepL Z.Wl (fun w => Φ w.k)
      = iprop((bigSepL Z.rest fun t => Φ (.inr (.inl t))) ∗ (bigSepL Z.S fun x => Φ (selfKey x)) ∗ bigSepL Z.Rl fun x => Φ (.inl x.2)) := by
  rw [← bigSepL_map (fun w : P.WaitOp => w.k) Z.Wl Φ, ← bigSepL_perm Z.waits.symm Z.waits_nodup, bigSepL_append, bigSepL_map, bigSepL_map, bigSepL_append, bigSepL_map]
  rfl

theorem all_cells (Φ : Key T C → sProp 𝕄) :
    bigSep Finset.univ Φ = iprop(bigSepL Z.Rl (fun x => Φ x.1.k) ∗ bigSepL Z.Wl fun w => Φ w.k) := by
  rw [← bigSepL_map (fun w : P.WaitOp => w.k) Z.Wl Φ, ← bigSepL_map (fun x : P.WaitOp × T => x.1.k) Z.Rl Φ, ← bigSepL_append]
  refine bigSep_univ_eq_bigSepL _ (Finset.eq_univ_of_forall fun k => ?_).symm ?_ Φ
  · rw [List.mem_toFinset, List.mem_append, Z.rl_eq, Z.waits.mem_iff, List.mem_append]
    rcases k with t | t | u
    · exact .inr (.inr (List.mem_map.mpr ⟨.inl t, Z.starts_all _, rfl⟩))
    · rcases List.mem_append.mp (Z.recvs_all t) with h | h
      · exact .inl (List.mem_map.mpr ⟨t, h, rfl⟩)
      · exact .inr (.inl (List.mem_map.mpr ⟨t, h, rfl⟩))
    · exact .inr (.inr (List.mem_map.mpr ⟨.inr u, Z.starts_all _, rfl⟩))
  · rw [Z.rl_eq]
    refine List.nodup_append.mpr ⟨(List.nodup_append.mp Z.recvs).1.map fun a b h => by simpa using h, Z.waits.nodup_iff.mpr Z.waits_nodup, ?_⟩
    intro a ha b hb e
    obtain ⟨t, ht, rfl⟩ := List.mem_map.mp ha
    subst e
    rcases List.mem_append.mp (Z.waits.mem_iff.mp hb) with h | h
    · obtain ⟨t', ht', e⟩ := List.mem_map.mp h
      have e : t' = t := by simpa using e
      subst e
      exact (List.nodup_append.mp Z.recvs).2.2 _ ht _ ht' rfl
    · obtain ⟨x, -, e⟩ := List.mem_map.mp h
      exact selfKey_ne_recv x t e

/-- The arrays' parts a device starts with. -/
def data (keep0 : Dev nD → sProp 𝕄) (c : Dev nD) : sProp 𝕄 :=
  iprop(bigSepL Z.S (P.sdata c) ∗ (bigSepL Z.Rl fun x => P.dstPts x.2 c) ∗ keep0 c)

/-- What the launch deals a device. -/
def start (keep0 : Dev nD → sProp 𝕄) (κ : Dev nD × Key T C → ℕ) (c : Dev nD) : sProp 𝕄 :=
  iprop(P.records κ ∗ levAts L P.lv ∗ (bigSep Finset.univ fun k => atPos ER (P.cell c k) 0 ∅ 0)
    ∗ (bigSep Finset.univ (P.tokOf c)) ∗ (bigSep Finset.univ fun t => P.credOf c (.inr (.inl t))) ∗ Z.data keep0 c)

/-- The parts of the arrays it ends with. -/
def parts (keep0 : Dev nD → sProp 𝕄) (c : Dev nD) : sProp 𝕄 :=
  iprop((bigSepL Z.Rl fun x => Z.keep x.2 c) ∗ (bigSepL Z.Wl fun w => P.pay w.k c) ∗ keep0 c)

theorem close_cells (κ : Dev nD × Key T C → ℕ) (c : Dev nD) :
    iprop(P.records κ ∗ bigSep Finset.univ fun k => atPos ER (P.cell c k) 1 ∅ 0) ⊢ |={Set.univ}=> ownSems0 P.osem c := by
  refine (bigSep_with_persistent (R := P.records κ) (Ψ := fun k => iprop(|={Set.univ}=> semVal (P.cell c k) 0)) fun k _ => ?_).trans (BI.bigSep_fupd _ _)
  iintro ⟨#HR, Hat⟩
  ihave #HI := (P.inv_at κ c k) $$ HR
  iapply (Rounds.cell_close ER P.Rd (Set.mem_univ (κ (c, k))) (fun h => h) (R := 1) (P.duties_later _))
  isplitr; · iexact HI
  iexact Hat

variable (defs₀ : Defs nD τ sig Val Λ₀) (𝒱₀ : Variants)

theorem wp_body (hinj : Function.Injective P.osem) (keep0 : Dev nD → sProp 𝕄) (κ : Dev nD × Key T C → ℕ) (c : Dev nD) (W : Waits sig Unit) {Q : PUnit.{1} → sProp 𝕄} :
    iprop(Z.start keep0 κ c ∗ owes (c.tc : Thread nD τ) (P.owed c Z.sendsAll) W)
      ⊢ iprop(((∃ W', owes (c.tc : Thread nD τ) (0 : CellTallies nD τ sig Unit) W') ∗ ownSems0 P.osem c ∗ Z.parts keep0 c -∗ |={Set.univ}=> Q ⟨⟩)
          -∗ wpAt defs₀ 𝒱₀ c (Z.body c) Q) := by
  unfold start data body
  rw [Z.all_cells, Z.self_cells, Z.recv_cells (P.credOf c)]
  iintro ⟨⟨#HR, #Hlev, ⟨HatR, HatW⟩, ⟨HtS, HtR⟩, ⟨HcR, Hcr⟩, HS, HdR, Hk0⟩, HO⟩ Hk
  iapply (P.wp_starts defs₀ 𝒱₀ hinj κ c Z.S (Z.Rl.map Prod.snd) W) $$ [HtS HS HO]
  · isplitr; · iexact HR
    isplitl [HtS HS]
    · iapply ((bigSepL_sep Z.S _ _).trans (bigSepL_mono fun x _ => P.startRes_intro c x))
      isplitl [HtS]; · iexact HtS
      iexact HS
    iexact HO
  iintro ⟨HcS, HO⟩
  iapply (P.wp_forwards defs₀ 𝒱₀ hinj κ c (fun t => Z.keep t c) Z.Rl (Z.relay c) Z.late W) $$ [HcR HatR HtR HdR HO]
  · isplitr; · iexact HR
    isplitr; · iexact Hlev
    isplitl [HcR]; · iexact HcR
    isplitl [HatR]; · iexact HatR
    isplitl [HtR HdR]
    · iapply (bigSepL_sep Z.Rl (fun x => P.toks x.2 c) fun x => P.dstPts x.2 c)
      isplitl [HtR]; · iexact HtR
      iexact HdR
    iexact HO
  iintro ⟨⟨%W', HO⟩, HatR, HcF, Hkeep⟩
  iapply (P.wp_waits defs₀ 𝒱₀ hinj κ c Z.Wl W') $$ [Hcr HcS HcF HatW HO]
  · isplitr; · iexact HR
    isplitr; · iexact Hlev
    isplitl [Hcr HcS HcF]
    · rw [Z.wait_cells (P.credOf c)]
      isplitl [Hcr]; · iexact Hcr
      isplitl [HcS]; · iexact HcS
      iexact HcF
    isplitl [HatW]; · iexact HatW
    iexact HO
  iintro ⟨HO, HatW, Hp⟩
  imod (close_cells κ c) $$ [HatR HatW] with Hsem
  · isplitr; · iexact HR
    rw [Z.all_cells]
    isplitl [HatR]; · iexact HatR
    iexact HatW
  iapply Hk
  isplitl [HO]; · iexact HO
  isplitl [Hsem]; · iexact Hsem
  unfold parts
  isplitl [Hkeep]; · iexact Hkeep
  isplitl [Hp]; · iexact Hp
  iexact Hk0

end Script

end Plan

end Cert.Moves
-- ==== Proof.Run.lean ====
/-
# A script, run from the launch

The launch's ghost state, dealt (`fund_plan`, `deal`): every cell's invariant is allocated, each device gets the tokens of
its own transfers — those of the receiving cells come from the peers — and the credit for what its peers will land. Then
`run_plan`: the whole program's runs, from a script.
-/
module

public import proofs.«01_k».proof.Proof.Start
public import proofs.«01_k».proof.Proof.Deal

@[expose] public section

noncomputable section

namespace Cert.Moves

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline Idealize.ShloMosaic.Pipeline.PerCore

variable {nD : Nat} {τ : Topo} {sig : RefSig} {Val : EltTy → Type} {T C : Type}

local notation "𝕄" => MT nD τ sig Unit Val ℕ (UM nD τ sig) ℕ

namespace Plan

variable (P : Plan nD τ sig Val T C) [Nonempty (Dev nD)] [Fintype T] [Fintype C] [DecidableEq T] [DecidableEq C]

/-! ## The ghost state -/

section Fund

variable (hinj : Function.Injective P.osem)

def kcell (ck : Dev nD × Key T C) : GSem nD τ sig := P.cell ck.1 ck.2
include hinj in
theorem kcell_injective : Function.Injective P.kcell := by
  intro a b h
  have h1 : a.1 = b.1 := congrArg (fun g : GSem nD τ sig => g.1.1) h
  have h2 : P.osem a.2 = P.osem b.2 := congrArg Prod.snd h
  exact Prod.ext h1 (hinj h2)

def planCells : Finset (GSem nD τ sig) := Finset.univ.map ⟨P.kcell, P.kcell_injective hinj⟩
def planToks : Finset (GSem nD τ sig × ℕ × Unit) :=
  Finset.univ.map ⟨fun ck : Dev nD × Key T C => (P.kcell ck, 0, ()), fun _ _ h => P.kcell_injective hinj (congrArg Prod.fst h)⟩

/-- What each device has before the tokens are exchanged. -/
def ghost (c : Dev nD) : sProp 𝕄 :=
  iprop((bigSep Finset.univ fun k => roundState ER P.Rd (P.cell c k) 0)
    ∗ (bigSep Finset.univ fun k => reached ER (P.cell c k) 0) ∗ (bigSep Finset.univ fun k => atPos ER (P.cell c k) 0 ∅ 0)
    ∗ bigSep Finset.univ fun k => dutyTok ER (P.cell c k) 0 ())

theorem fund_plan : BI.own (ER (initOf (P.planCells hinj) (P.planToks hinj))) ⊢ (|==> bigSep Finset.univ P.ghost : sProp 𝕄) := by
  have hX (Φ : GSem nD τ sig → sProp 𝕄) : bigSep (P.planCells hinj) Φ = bigSep Finset.univ fun c : Dev nD => bigSep Finset.univ fun k => Φ (P.cell c k) := by
    unfold planCells; rw [bigSep_map, bigSep_univ_prod]; rfl
  have hT : bigSep (P.planToks hinj) (fun x => (dutyTok ER x.1 x.2.1 x.2.2 : sProp 𝕄))
      = bigSep Finset.univ fun c : Dev nD => bigSep Finset.univ fun k => dutyTok ER (P.cell c k) 0 () := by
    unfold planToks; rw [bigSep_map, bigSep_univ_prod]; rfl
  refine (Rounds.fund ER P.Rd (P.planCells hinj) (P.planToks hinj)).trans (BI.bupd_mono ?_)
  unfold ghost
  simp only [bigSep_sep']
  rw [hX, hX, hX, hT]
  exact (show ∀ X : sProp 𝕄, X ⊢ X from fun _ => .rfl) _

end Fund

/-! ## Dealing -/

theorem alloc_cells :
    iprop((bigSep Finset.univ fun c : Dev nD => ownSems0 P.osem c) ∗ bigSep Finset.univ fun c : Dev nD => bigSep Finset.univ fun k => roundState ER P.Rd (P.cell c k) 0)
      ⊢ |={Set.univ}=> iprop(∃ κ : Dev nD × Key T C → ℕ, bigSep Finset.univ fun ck : Dev nD × Key T C => (cellInv ER P.Rd (κ ck) (P.cell ck.1 ck.2) : sProp 𝕄)) := by
  have h : (bigSep Finset.univ fun c : Dev nD => (ownSems0 P.osem c : sProp 𝕄)) = bigSep Finset.univ fun ck : Dev nD × Key T C => semVal (P.cell ck.1 ck.2) 0 :=
    (bigSep_univ_prod fun ck : Dev nD × Key T C => (semVal (P.cell ck.1 ck.2) 0 : sProp 𝕄)).symm
  rw [h, ← bigSep_univ_prod fun ck : Dev nD × Key T C => (roundState ER P.Rd (P.cell ck.1 ck.2) 0 : sProp 𝕄), ← bigSep_sep']
  refine (show _ ⊢ |={Set.univ}=> _ from (bigSep_mono fun ck _ => (Rounds.body_intro ER P.Rd (P.cell ck.1 ck.2)).trans inv_alloc).trans (bigSep_fupd _ _)).trans (BI.fupd_mono ?_)
  exact BI.bigSep_exists_pi Finset.univ (fun (ck : Dev nD × Key T C) (κ : ℕ) => (cellInv ER P.Rd κ (P.cell ck.1 ck.2) : sProp 𝕄))

def peerEquiv (t : T) : Dev nD ≃ Dev nD := ⟨P.peer t, P.peer t, P.peer_peer t, P.peer_peer t⟩

/-- The tokens of each transfer go to the device that starts it. -/
theorem deal_toks :
    (bigSep Finset.univ fun c : Dev nD => bigSep Finset.univ fun k => (dutyTok ER (P.cell c k) 0 () : sProp 𝕄))
      ⊢ bigSep Finset.univ fun c : Dev nD => bigSep Finset.univ (P.tokOf c) := by
  have hswap : (bigSep Finset.univ fun c : Dev nD => bigSep Finset.univ fun t : T => (dutyTok ER (P.cell c (.inr (.inl t))) 0 () : sProp 𝕄))
      = bigSep Finset.univ fun c : Dev nD => bigSep Finset.univ fun t : T => dutyTok ER (P.cell (P.peer t c) (.inr (.inl t))) 0 () := by
    rw [BI.bigSep_univ_comm, BI.bigSep_univ_comm (fun (c : Dev nD) (t : T) => (dutyTok ER (P.cell (P.peer t c) (.inr (.inl t))) 0 () : sProp 𝕄))]
    exact bigSep_congr fun t _ => bigSep_univ_equiv (P.peerEquiv t) fun c => (dutyTok ER (P.cell c (.inr (.inl t))) 0 () : sProp 𝕄)
  have hL : (bigSep Finset.univ fun c : Dev nD => bigSep Finset.univ fun k => (dutyTok ER (P.cell c k) 0 () : sProp 𝕄))
      = iprop((bigSep Finset.univ fun c : Dev nD => bigSep Finset.univ fun t : T => dutyTok ER (P.cell c (.inl t)) 0 ())
        ∗ (bigSep Finset.univ fun c : Dev nD => bigSep Finset.univ fun t : T => dutyTok ER (P.cell c (.inr (.inl t))) 0 ())
        ∗ bigSep Finset.univ fun c : Dev nD => bigSep Finset.univ fun u : C => dutyTok ER (P.cell c (.inr (.inr u))) 0 ()) := by
    rw [← bigSep_sep', ← bigSep_sep']
    exact bigSep_congr fun c _ => by rw [bigSep_univ_sum, bigSep_univ_sum (fun b => (dutyTok ER (P.cell c (.inr b)) 0 () : sProp 𝕄))]; rfl
  have hR : (bigSep Finset.univ fun c : Dev nD => bigSep Finset.univ (P.tokOf c))
      = iprop(((bigSep Finset.univ fun c : Dev nD => bigSep Finset.univ fun t : T => dutyTok ER (P.cell c (.inl t)) 0 ())
        ∗ (bigSep Finset.univ fun c : Dev nD => bigSep Finset.univ fun t : T => dutyTok ER (P.cell (P.peer t c) (.inr (.inl t))) 0 ()))
        ∗ bigSep Finset.univ fun c : Dev nD => bigSep Finset.univ fun u : C => (dutyTok ER (P.cell c (.inr (.inr u))) 0 () : sProp 𝕄)) := by
    rw [← bigSep_sep', ← bigSep_sep']
    exact bigSep_congr fun c _ => by rw [bigSep_univ_sum, ← bigSep_sep']; rfl
  rw [hL, hR, hswap]
  iintro ⟨H1, H2, H3⟩
  isplitl [H1 H2]
  · isplitl [H1] <;> iassumption
  iexact H3

variable {P} in
/-- The credit for what the peers land. -/
theorem launch_credit (Z : P.Script) (c : Dev nD) :
    (launchCred (fun d => P.owed d Z.sendsAll) c : sProp 𝕄) ⊢ bigSep Finset.univ fun t => P.credOf c (.inr (.inl t)) := by
  have h : (fun d => P.owed d Z.sendsAll) = fun d => ∑ t : T, tallyAt (P.cell (P.peer t d) (.inr (.inl t))) () (P.n t) := funext fun d => by
    unfold owed
    rw [Z.sendsAll_all, List.sum_toFinset _ Z.sendsAll_nodup]
  rw [h, launchCred_sum Finset.univ (fun t d => tallyAt (P.cell (P.peer t d) (.inr (.inl t))) () (P.n t)) c]
  exact bigSep_mono fun t _ => launchCred_tallyAt (P.osem (.inr (.inl t))) (P.peer t) (P.peer t) (P.peer_peer t) (P.peer_peer t) () (P.n t) c

variable {P} in
/-- From what all devices hold at launch to what each body starts from. -/
theorem deal (Z : P.Script) (keep0 : Dev nD → sProp 𝕄) (rest : Dev nD → sProp 𝕄)
    (hdata : bigSep Finset.univ rest ⊢ bigSep Finset.univ (Z.data keep0)) :
    iprop(levAts L P.lv ∗ bigSep Finset.univ fun c : Dev nD => iprop(ownSems0 P.osem c ∗ rest c ∗ launchCred (fun d => P.owed d Z.sendsAll) c ∗ P.ghost c))
      ⊢ |={Set.univ}=> bigSep Finset.univ fun c => iprop(∃ κ, Z.start keep0 κ c) := by
  unfold ghost
  simp only [bigSep_sep']
  iintro ⟨#Hlev, Hsem, Hrest, Hcr, Hst, Hre, Hat, Htok⟩
  imod (P.alloc_cells) $$ [Hsem Hst] with ⟨%κ, #HI⟩
  · isplitl [Hsem] <;> iassumption
  imodintro
  ihave Htk := P.deal_toks $$ Htok
  ihave Hd := hdata $$ Hrest
  ihave Hc := (show (bigSep Finset.univ fun c : Dev nD => launchCred (fun d => P.owed d Z.sendsAll) c : sProp 𝕄) ⊢ _ from bigSep_mono fun c _ => launch_credit Z c) $$ Hcr
  ihave #Hre' := (Entails.of_eq (bigSep_univ_prod fun ck : Dev nD × Key T C => (reached ER (P.cell ck.1 ck.2) 0 : sProp 𝕄)).symm) $$ Hre
  iapply (bigSep_with_persistent (R := iprop(P.records κ ∗ levAts L P.lv))
    (Φ := fun c => iprop((bigSep Finset.univ fun k => atPos ER (P.cell c k) 0 ∅ 0) ∗ (bigSep Finset.univ (P.tokOf c))
      ∗ (bigSep Finset.univ fun t => P.credOf c (.inr (.inl t))) ∗ Z.data keep0 c)) fun c _ => ?_)
  rotate_left
  · isplitr
    · isplitr
      · unfold records; isplitr; · iexact HI
        iexact Hre'
      iexact Hlev
    simp only [bigSep_sep']
    isplitl [Hat]; · iexact Hat
    isplitl [Htk]; · iexact Htk
    isplitl [Hc]; · iexact Hc
    iexact Hd
  · iintro ⟨⟨#HR, #Hl⟩, H1, H2, H3, H4⟩
    iexists κ
    unfold Script.start
    isplitr; · iexact HR
    isplitr; · iexact Hl
    isplitl [H1]; · iexact H1
    isplitl [H2]; · iexact H2
    isplitl [H3]; · iexact H3
    iexact H4

/-! ## Reading the end -/

/-- What transfer `t` of device `c` has left at its receiver. -/
def Landed (t : T) (c : Dev nD) (s : MemSt nD τ sig Val) : Prop :=
  (P.xf t c).dst.view.read Val (s.mem ((P.xf t c).dst.view.loc ((P.peer t c).tc : Thread nD τ))) = (P.xf t c).src.view.read Val (P.src t c)
def Copied (u : C) (c : Dev nD) (s : MemSt nD τ sig Val) : Prop :=
  (P.lf u c).dst.view.read Val (s.mem ((P.lf u c).dst.view.loc (c.tc : Thread nD τ))) = (P.lf u c).src.view.read Val (P.lsrc u c)

theorem landed_read (t : T) (c : Dev nD) (q : PosShare TreeShare) (s : Phys nD τ sig Val) :
    iprop(((P.xf t c).dst.view.loc ((P.peer t c).tc : Thread nD τ) ↦[(P.xf t c).dst.view.set]{q} P.landedBuf t c) ∗ SI s) ⊢ (⌜P.Landed t c s.mem⌝ : sProp 𝕄) := by
  iintro ⟨H, HSI⟩
  ihave %h := (SI_pointsTo_agree (st := s)) $$ [H HSI]
  · isplitl [HSI]; · iexact HSI
    iexact H
  ipureintro
  unfold Landed
  exact (View.read_congr h).trans (by unfold landedBuf; rw [View.read_write_univ])

theorem copied_read (u : C) (c : Dev nD) (s : Phys nD τ sig Val) : iprop(P.copied u c ∗ SI s) ⊢ (⌜P.Copied u c s.mem⌝ : sProp 𝕄) := by
  unfold copied
  iintro ⟨H, HSI⟩
  ihave %h := (SI_pointsTo_agree (st := s)) $$ [H HSI]
  · isplitl [HSI]; · iexact HSI
    iexact H
  ipureintro
  unfold Copied
  exact (View.read_congr h).trans (by unfold copiedBuf; rw [View.read_write_univ])

theorem list_read {I : Type} (l : List I) (Φ : I → sProp 𝕄) (φ : I → Prop) (s : Phys nD τ sig Val)
    (h : ∀ i ∈ l, iprop(Φ i ∗ SI s) ⊢ (⌜φ i⌝ : sProp 𝕄)) : iprop(bigSepL l Φ ∗ SI s) ⊢ (⌜∀ i ∈ l, φ i⌝ : sProp 𝕄) := by
  induction l with
  | nil => iintro -; ipureintro; exact fun i hi => absurd hi List.not_mem_nil
  | cons i l ih =>
    rw [bigSepL_cons']
    iintro ⟨⟨Hi, Hl⟩, HSI⟩
    ihave H := (persistent_entails_right (h i List.mem_cons_self)) $$ [Hi HSI]
    · isplitl [Hi] <;> iassumption
    icases H with ⟨%hi, -, HSI⟩
    ihave %hl := (ih fun j hj => h j (List.mem_cons_of_mem _ hj)) $$ [Hl HSI]
    · isplitl [Hl] <;> iassumption
    ipureintro
    intro j hj
    rcases List.mem_cons.mp hj with rfl | hj
    · exact hi
    · exact hl j hj

/-- What the payload of a cell says of the final memory. -/
def Paid : Key T C → Dev nD → MemSt nD τ sig Val → Prop
  | .inl _, _, _ => True
  | .inr (.inl t), c, s => P.Landed t (P.peer t c) s
  | .inr (.inr u), c, s => P.Copied u c s
theorem pay_read (k : Key T C) (c : Dev nD) (s : Phys nD τ sig Val) : iprop(P.pay k c ∗ SI s) ⊢ (⌜P.Paid k c s.mem⌝ : sProp 𝕄) := by
  rcases k with t | t | u
  · iintro -; ipureintro; trivial
  · exact P.landed_read t (P.peer t c) fullShare s
  · exact P.copied_read u c s

variable {P} in
theorem parts_read (Z : P.Script) (keep0 : Dev nD → sProp 𝕄) (c : Dev nD) (KF : T → Dev nD → MemSt nD τ sig Val → Prop) (KF0 : Dev nD → MemSt nD τ sig Val → Prop)
    (hkeep : ∀ t c s, iprop(Z.keep t c ∗ SI s) ⊢ (⌜KF t c s.mem⌝ : sProp 𝕄)) (hkeep0 : ∀ c s, iprop(keep0 c ∗ SI s) ⊢ (⌜KF0 c s.mem⌝ : sProp 𝕄))
    (s : Phys nD τ sig Val) :
    iprop(Z.parts keep0 c ∗ SI s) ⊢ (⌜(∀ w ∈ Z.Wl, P.Paid w.k c s.mem) ∧ (∀ x ∈ Z.Rl, KF x.2 c s.mem) ∧ KF0 c s.mem⌝ : sProp 𝕄) := by
  unfold Script.parts
  iintro ⟨⟨H1, H2, H3⟩, HSI⟩
  ihave H := (persistent_entails_right (list_read Z.Rl (fun x => Z.keep x.2 c) (fun x => KF x.2 c s.mem) s fun x _ => hkeep x.2 c s)) $$ [H1 HSI]
  · isplitl [H1] <;> iassumption
  icases H with ⟨%h1, -, HSI⟩
  ihave H := (persistent_entails_right (list_read Z.Wl (fun w => P.pay w.k c) (fun w => P.Paid w.k c s.mem) s fun w _ => P.pay_read w.k c s)) $$ [H2 HSI]
  · isplitl [H2] <;> iassumption
  icases H with ⟨%h2, -, HSI⟩
  ihave %h3 := (hkeep0 c s) $$ [H3 HSI]
  · isplitl [H3] <;> iassumption
  ipureintro
  exact ⟨h2, h1, h3⟩

end Plan

/-! ## The program -/

section Program

variable {Λ₀ : Labels} (cfgs : Fin 1 → Cfg sig Λ₀) (phinj : Function.Injective (cellOf (nD := nD) (τ := τ) cfgs))
variable (hempty : ∀ p, IsEmpty (Fin (cfgs p).W))
variable (defs₀ : Defs nD τ sig Val Λ₀) (𝒱₀ : Variants)

/-- The region's proof data: what the body starts from, then what it ends with. -/
def rdat (O₀ : Dev nD → CellTallies nD τ sig Unit) (A B : Dev nD → sProp 𝕄) (p : Fin 1) (c : Dev nD) :
    RDat τ Val Unit ℕ (UM nD τ sig) ℕ (pinD (pcs cfgs) (adm (Val := Val) cfgs) c p) c where
  A := fun w => ((hempty p).false w).elim
  after := fun _ _ _ _ => True
  Φ := fun t => if t.val = 0 then A c else B c
  q := fun _ => fullShare
  owed := fun t => if t.val = 0 then O₀ c else 0

section Sides

variable (O₀ : Dev nD → CellTallies nD τ sig Unit) (A B : Dev nD → sProp (MT nD τ sig Unit Val ℕ (UM nD τ sig) ℕ)) (p : Fin 1) (c : Dev nD)
  (t : Fin ((pinD (pcs (Val := Val) cfgs) (adm (Val := Val) cfgs) c p).N + 1))

theorem rdat_first (h : t.val = 0) : (rdat cfgs hempty O₀ A B p c).Φ t = A c := if_pos h
theorem rdat_last (h : t.val ≠ 0) : (rdat cfgs hempty O₀ A B p c).Φ t = B c := if_neg h
theorem owed_first (h : t.val = 0) : (rdat cfgs hempty O₀ A B p c).owed t = O₀ c := if_pos h
theorem owed_last (h : t.val ≠ 0) : (rdat cfgs hempty O₀ A B p c).owed t = 0 := if_neg h

end Sides

variable {P : Plan nD τ sig Val T C} [Nonempty (Dev nD)] [Fintype T] [Fintype C] [DecidableEq T] [DecidableEq C] (Z : P.Script)

include phinj hempty in
theorem run_plan [∀ e, Nonempty (Val e)] (hinj : Function.Injective P.osem)
    (hw : WinFacts (cfgs 0).spec) (ho : OwnSemFacts (cfgs 0).spec P.osem) (hN : (cfgs 0).N = 1)
    (m : (ℓ : Loc nD τ sig) → Buf Val ℓ) (g : Dev nD → PrngReg)
    (main : Dev nD → Prog (TpuEff nD τ sig Val (Sig Λ₀ (Fin 1) fun p => ((cfgs p).toPCfg (Val := Val)).Adm) .tc) PUnit)
    (hmain : ∀ c, main c = .op (.customCall (entry 0) ()) fun _ => .ret ⟨⟩)
    (hprog : ∀ (c : Dev nD) (t : Fin (cfgs 0).N) (Q : sProp 𝕄), Plan.wpAt defs₀ 𝒱₀ c (.op .deviceId fun d => Z.body d) (fun _ => Q)
      ⊢ wp frame (wpE defs₀ 𝒱₀ (c.tc : Thread nD τ) none) Set.univ (defs₀ .tc (cfgs 0).body ((cfgs 0).bodyArgs t ((cfgs 0).slots t))) fun _ => Q)
    (keep0 : Dev nD → sProp 𝕄)
    (hdata : (bigSep Finset.univ fun c : Dev nD => unscopedRest (cfgs 0).spec c (fun b => m ((c.tc : Thread nD τ).loc b))) ⊢ bigSep Finset.univ (Z.data keep0))
    (KF : T → Dev nD → MemSt nD τ sig Val → Prop) (KF0 : Dev nD → MemSt nD τ sig Val → Prop)
    (hkeep : ∀ t c s, iprop(Z.keep t c ∗ SI s) ⊢ (⌜KF t c s.mem⌝ : sProp 𝕄)) (hkeep0 : ∀ c s, iprop(keep0 c ∗ SI s) ⊢ (⌜KF0 c s.mem⌝ : sProp 𝕄))
    {Q : PUnit × MemSt nD τ sig Val → Prop}
    (hQ : ∀ s : MemSt nD τ sig Val, (∀ t ∈ Z.rest, ∀ c, P.Landed t c s) → (∀ x ∈ Z.Rl, ∀ c, KF x.2 c s) → (∀ u c, P.Copied u c s) → (∀ c, KF0 c s) →
      (∀ g' : GSem nD τ sig, (g'.1.2 ≠ .tc ∨ g'.2.isScoped .tc = true) → s.sem g' = 0) → Q (⟨⟩, s)) :
    θ_run (Pipeline.defs (pcs cfgs) defs₀) (onTc main) ⟨m, fun _ => 0, g⟩ Q := by
  let sr : Dev nD → sProp 𝕄 := fun c => scopedRest (cfgs 0).spec c
  let A : Dev nD → sProp 𝕄 := fun c => iprop((∃ κ, Z.start keep0 κ c) ∗ sr c)
  let B : Dev nD → sProp 𝕄 := fun c => iprop(Z.parts keep0 c ∗ ownSems0 P.osem c ∗ sr c)
  have hbody : ∀ c, (rdat cfgs hempty (fun d => P.owed d Z.sendsAll) A B 0 c).BodyObligation defs₀ 𝒱₀ () Set.univ := by
    intro c t Y hY
    have ht : t.val = 0 := by have := t.isLt; have h : (pinD (pcs cfgs) (adm (Val := Val) cfgs) c 0).N = 1 := hN; omega
    have hnone (Ψ : Fin (cfgs 0).W → sProp 𝕄) : (BI.emp : sProp 𝕄) ⊢ bigSep Finset.univ Ψ := by
      haveI := hempty 0
      rw [Finset.univ_eq_empty, BI.bigSep_empty]
    rw [rdat_first cfgs hempty _ A B 0 c t.castSucc ht, rdat_last cfgs hempty _ A B 0 c t.succ (by rw [Fin.val_succ]; omega)]
    refine BIBase.Entails.trans ?_ (hprog c t _)
    unfold Plan.wpAt
    rw [wp_deviceId]
    unfold RDat.owesAt owesWithin RDat.bound
    rw [owed_first cfgs hempty _ A B 0 c t.castSucc ht, owed_last cfgs hempty _ A B 0 c t.succ (by rw [Fin.val_succ]; omega)]
    iintro ⟨⟨⟨%κ, HX⟩, Hsr⟩, ⟨%W, -, HO⟩, -⟩
    iapply (Z.wp_body defs₀ 𝒱₀ hinj keep0 κ c W) $$ [HX HO]
    · isplitl [HX] <;> iassumption
    iintro ⟨⟨%W', HO⟩, Hsem, HY⟩
    imodintro
    isplitl [Hsem HY Hsr]
    · isplitl [HY]; · iexact HY
      isplitl [Hsem] <;> iassumption
    isplitl [HO]
    · iexists W'
      isplitr; · ipureintro; exact fun _ _ => Or.inl trivial
      iexact HO
    iapply (hnone _); iempintro
  have hlast (c : Dev nD) : (Fin.last (pinD (pcs (Val := Val) cfgs) (adm (Val := Val) cfgs) c 0).N).val ≠ 0 := by
    rw [Fin.val_last, show (pinD (pcs (Val := Val) cfgs) (adm (Val := Val) cfgs) c 0).N = 1 from hN]; exact Nat.one_ne_zero
  refine run_moves cfgs (rdat cfgs hempty (fun d => P.owed d Z.sendsAll) A B) phinj 0 hw ho (hempty 0) EP defs₀ 𝒱₀ m g main hmain hbody
    (fun d => P.owed d Z.sendsAll) (fun c => owed_first cfgs hempty _ A B 0 c _ rfl) (fun c => owed_last cfgs hempty _ A B 0 c _ (hlast c))
    Plan.L P.lv (fun g' h => Plan.L_of_ne g' h) P.ghost
    (initOf (cells (pinD (pcs cfgs) (adm (Val := Val) cfgs)) phinj) (launchToks (pinD (pcs cfgs) (adm (Val := Val) cfgs)) phinj), initOf (P.planCells hinj) (P.planToks hinj))
    ?_ (fun c => iprop(∃ κ, Z.start keep0 κ c)) (Z.parts keep0) ?_ (fun c => Entails.of_eq (rdat_first cfgs hempty _ A B 0 c _ rfl).symm) (fun c => Entails.of_eq (rdat_last cfgs hempty _ A B 0 c _ (hlast c)))
    (fun c s => (∀ w ∈ Z.Wl, P.Paid w.k c s) ∧ (∀ x ∈ Z.Rl, KF x.2 c s) ∧ KF0 c s) (fun c s' => ?_) ?_
  · iintro H
    ihave H' := (ownU_pair _ _) $$ H
    icases H' with ⟨H1, H2⟩
    imod (P.fund_plan hinj) $$ H2 with H2
    imodintro
    isplitl [H1] <;> iassumption
  · exact Plan.deal Z keep0 _ hdata
  · refine (persistent_entails_right (Plan.parts_read Z keep0 c KF KF0 hkeep hkeep0 s')).trans ?_
    iintro ⟨%h, -, HSI⟩
    imodintro
    isplitr; · ipureintro; exact h
    iexact HSI
  · intro s hs hz
    have hin (k : Key T C) (hk : k ∈ Z.Wl.map fun w => w.k) (c : Dev nD) : P.Paid k c s := by
      obtain ⟨w, hw, rfl⟩ := List.mem_map.mp hk
      exact (hs c).1 w hw
    refine hQ s (fun t ht c => ?_) (fun x hx c => (hs c).2.1 x hx) (fun u c => ?_) (fun c => (hs c).2.2) hz
    · have h := hin (.inr (.inl t)) (Z.waits.mem_iff.mpr (List.mem_append.mpr (.inl (List.mem_map.mpr ⟨t, ht, rfl⟩)))) (P.peer t c)
      have h' : P.Landed t (P.peer t (P.peer t c)) s := h
      rwa [P.peer_peer] at h'
    · exact hin (.inr (.inr u)) (Z.waits.mem_iff.mpr (List.mem_append.mpr (.inr (List.mem_map.mpr ⟨.inr u, Z.starts_all _, rfl⟩)))) c

end Program

end Cert.Moves
-- ==== Proof.Share.lean ====
/-
# Dealing the arrays out to the transfers

At the launch every device holds its arrays whole. A transfer's source is read at a share of its own of the array, so
that an array may be the source of several; a remainder is kept, and says at the end that the array was not written. Of
an array written, every transfer gets the part it writes: the parts of one array are disjoint. The parts that other
devices write go over to them (`swap`): transfer `t` writes to `peer t`, an involution.
-/
module

public import proofs.«01_k».proof.Proof.Run
public import Idealize.ShloMosaic.Lib.Transfers

@[expose] public section

noncomputable section

namespace Cert.Moves

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline

variable {nD : Nat} {τ : Topo} {sig : RefSig} {Val : EltTy → Type} {T C : Type}

local notation "𝕄" => MT nD τ sig Unit Val ℕ (UM nD τ sig) ℕ

theorem bigSepL_unsep {M : Type} [URA M] {I : Type} (l : List I) (Φ Ψ : I → sProp M) :
    (bigSepL l fun i => iprop(Φ i ∗ Ψ i)) ⊢ (iprop(bigSepL l Φ ∗ bigSepL l Ψ) : sProp M) := by
  induction l with
  | nil => rw [bigSepL_nil, bigSepL_nil, bigSepL_nil]; iintro -; isplitr <;> iempintro
  | cons i l ih =>
    rw [bigSepL_cons', bigSepL_cons', bigSepL_cons']
    iintro ⟨⟨H1, H2⟩, H⟩
    ihave H' := ih $$ H
    icases H' with ⟨H3, H4⟩
    isplitl [H1 H3]
    · isplitl [H1] <;> iassumption
    · isplitl [H2] <;> iassumption

theorem bigSepL_flatMap {M : Type} [URA M] {I J : Type} (l : List I) (f : I → List J) (Φ : J → sProp M) :
    bigSepL (l.flatMap f) Φ = bigSepL l fun i => bigSepL (f i) Φ := by
  induction l with
  | nil => rfl
  | cons i l ih => rw [List.flatMap_cons, bigSepL_append, bigSepL_cons', ih]

/-- Memory at the launch. -/
abbrev Mem0 (nD : Nat) (τ : Topo) (sig : RefSig) (Val : EltTy → Type) : Type := (ℓ : Loc nD τ sig) → Buf Val ℓ

variable (m : Mem0 nD τ sig Val)

/-- A view's part of its array at device `c`, as at the launch, at share `q`. -/
def viewPts {s : Shape} {e : EltTy} (v : Memref sig .tc .hbm s e) (q : PosShare TreeShare) (c : Dev nD) : sProp 𝕄 :=
  v.view.loc (c.tc : Thread nD τ) ↦[v.view.set]{q} m (v.view.loc (c.tc : Thread nD τ))

/-- A whole array at device `c`, as at the launch. -/
def wholePts (r : Ref sig .tc) (q : PosShare TreeShare) (c : Dev nD) : sProp 𝕄 :=
  ((c.tc : Thread nD τ).loc r) ↦{q} m ((c.tc : Thread nD τ).loc r)

/-- The elements of a view, in an array known to be its own. -/
def setIn {s : Shape} {e : EltTy} (v : Memref sig .tc .hbm s e) (r : Ref sig .tc) (h : v.view.ref = r) : Finset r.ty.Idx :=
  h ▸ v.view.set

theorem viewPts_eq {s : Shape} {e : EltTy} (v : Memref sig .tc .hbm s e) (r : Ref sig .tc) (h : v.view.ref = r) (q : PosShare TreeShare) (c : Dev nD) :
    (viewPts m v q c : sProp 𝕄) = (((c.tc : Thread nD τ).loc r) ↦[setIn v r h]{q} m ((c.tc : Thread nD τ).loc r)) := by
  subst h; rfl

theorem viewPts_of_whole {s : Shape} {e : EltTy} (v : Memref sig .tc .hbm s e) (r : Ref sig .tc) (h : v.view.ref = r) (q : PosShare TreeShare) (c : Dev nD) :
    wholePts m r q c ⊢ (viewPts m v q c : sProp 𝕄) := by
  rw [viewPts_eq m v r h]
  unfold wholePts
  iintro H
  ihave H' := (pointsTo_split_subset (Finset.subset_univ (setIn v r h))).1 $$ H
  icases H' with ⟨H, -⟩
  iexact H

/-- An array at `n` shares and a remainder. -/
theorem deal_src {n : ℕ} (r : Ref sig .tc) (c : Dev nD) (x : Fin n → Xfer sig) (h : ∀ k, (x k).src.view.ref = r) :
    wholePts m r fullShare c ⊢ (iprop((bigSep Finset.univ fun k => viewPts m (x k).src (shareTok fullShare n k) c) ∗ wholePts m r (shareDrop fullShare n) c) : sProp 𝕄) := by
  have e : wholePts m r fullShare c ⊢ (iprop(wholePts m r (shareDrop fullShare n) c ∗ bigSep Finset.univ fun k => wholePts m r (shareTok fullShare n k) c) : sProp 𝕄) :=
    pointsTo_toks_split fullShare n
  refine e.trans ?_
  iintro ⟨H0, H⟩
  isplitl [H]
  · iapply (show (bigSep Finset.univ fun k : Fin n => wholePts m r (shareTok fullShare n k) c) ⊢ (bigSep Finset.univ fun k : Fin n => viewPts m (x k).src (shareTok fullShare n k) c : sProp 𝕄) from
      bigSep_mono fun k _ => viewPts_of_whole m (x k).src r (h k) _ c)
    iexact H
  · iexact H0

/-- Disjoint parts of an array. -/
theorem deal_dst {K : Type} [Fintype K] (r : Ref sig .tc) (c : Dev nD) (x : K → Xfer sig) (h : ∀ k, (x k).dst.view.ref = r)
    (hd : ∀ k k', k ≠ k' → Disjoint (setIn (x k).dst r (h k)) (setIn (x k').dst r (h k'))) :
    wholePts m r fullShare c ⊢ (bigSep Finset.univ fun k => viewPts m (x k).dst fullShare c : sProp 𝕄) := by
  classical
  have e : (fun k => (viewPts m (x k).dst fullShare c : sProp 𝕄)) = fun k => (((c.tc : Thread nD τ).loc r) ↦[setIn (x k).dst r (h k)]{fullShare} m ((c.tc : Thread nD τ).loc r)) :=
    funext fun k => viewPts_eq m _ r (h k) _ c
  rw [e]
  let S : K → Finset (Idx ((c.tc : Thread nD τ).loc r)) := fun k => setIn (x k).dst r (h k)
  refine BIBase.Entails.trans ?_ (Entails.of_eq (pointsTo_biUnion (ℓ := (c.tc : Thread nD τ).loc r) (q := fullShare) (f := m ((c.tc : Thread nD τ).loc r))
    Finset.univ S fun t _ t' _ hne => hd t t' hne))
  unfold wholePts
  iintro H
  ihave H' := (pointsTo_split_subset (Finset.subset_univ (Finset.univ.biUnion S))).1 $$ H
  icases H' with ⟨H, -⟩
  iexact H

/-- A remainder says that the array is as it was. -/
theorem whole_read (r : Ref sig .tc) (q : PosShare TreeShare) (c : Dev nD) (s : Phys nD τ sig Val) :
    iprop(wholePts m r q c ∗ SI s) ⊢ (⌜s.mem.mem ((c.tc : Thread nD τ).loc r) = m ((c.tc : Thread nD τ).loc r)⌝ : sProp 𝕄) := by
  unfold wholePts
  iintro ⟨H, HSI⟩
  ihave %h := (SI_pointsTo_agree (st := s)) $$ [H HSI]
  · isplitl [HSI]; · iexact HSI
    iexact H
  ipureintro
  exact funext fun i => h i (Finset.mem_univ i)

/-- The arrays of a list, at their remainders. -/
def rests (l : List (Ref sig .tc)) (q : PosShare TreeShare) (c : Dev nD) : sProp 𝕄 := bigSepL l fun r => wholePts m r q c

theorem rests_read [Nonempty (Dev nD)] (l : List (Ref sig .tc)) (q : PosShare TreeShare) (c : Dev nD) (s : Phys nD τ sig Val) :
    iprop(rests m l q c ∗ SI s) ⊢ (⌜∀ r ∈ l, s.mem.mem ((c.tc : Thread nD τ).loc r) = m ((c.tc : Thread nD τ).loc r)⌝ : sProp 𝕄) :=
  Plan.list_read l _ _ s fun r _ => whole_read m r q c s

variable {m} (P : Plan nD τ sig Val T C)

namespace Plan

/-- The part of device `d`'s array that transfer `t` of `peer t d` writes. -/
def inPts (m : Mem0 nD τ sig Val) (t : T) (d : Dev nD) : sProp 𝕄 := viewPts m (P.xf t (P.peer t d)).dst fullShare d

variable (hold : ∀ t c, P.old t c = m ((P.xf t c).dst.view.loc ((P.peer t c).tc : Thread nD τ)))

include hold in
theorem inPts_peer (t : T) (c : Dev nD) : (P.inPts m t (P.peer t c) : sProp 𝕄) = P.dstPts t c := by
  unfold inPts dstPts
  rw [P.peer_peer, hold]
  rfl

include hold in
theorem swap_one (t : T) : (bigSep Finset.univ fun d : Dev nD => P.inPts m t d) = (bigSep Finset.univ fun c : Dev nD => P.dstPts t c : sProp 𝕄) := by
  rw [BI.bigSep_univ_equiv (P.peerEquiv t)]
  exact congrArg _ (funext fun c => P.inPts_peer hold t c)

theorem bigSepL_comm {I : Type} (l : List I) (Φ : I → Dev nD → sProp 𝕄) :
    (bigSep Finset.univ fun d : Dev nD => bigSepL l fun t => Φ t d) = bigSepL l fun t => bigSep Finset.univ fun d : Dev nD => Φ t d := by
  induction l with
  | nil => simp only [bigSepL_nil]; exact BI.bigSep_emp_const _
  | cons t l ih => simp only [bigSepL_cons', bigSep_sep', ih]

include hold in
/-- The parts written go over to the devices that write them. -/
theorem swap (l : List T) : (bigSep Finset.univ fun d : Dev nD => bigSepL l fun t => P.inPts m t d) = (bigSep Finset.univ fun c : Dev nD => bigSepL l fun t => P.dstPts t c : sProp 𝕄) := by
  rw [bigSepL_comm, bigSepL_comm]
  exact congrArg _ (funext fun t => P.swap_one hold t)

end Plan

end Cert.Moves
-- ==== Proof.Pair.lean ====
/-
# The exchange of the half-gradients between the two cores of a chip: the run

Each device sends, of each of its eight gradients, the half belonging to the other core of its chip, which receives it
in its result; then it waits for its eight sends and its eight arrivals.
-/
module

public import proofs.«01_k».proof.Proof.Share
public import proofs.«01_k».proof.Proof.Gen.PairIdeal.Launch
public import proofs.«01_k».proof.Proof.Gen.PairIdeal.Points
public import proofs.«01_k».proof.Proof.Gen.PairIdeal.Skeleton

@[expose] public section

noncomputable section

namespace Cert.PairIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)
open Idealize.ShloMosaic.Pipeline
open Cert.Moves
open Facts₀ Facts

variable {F : FTy → Type} [FloatOps F]

local notation "𝕄" => MT nD τ sig Unit (Elt F) ℕ (UM nD τ sig) ℕ

/-! ## The copies -/

def cols (a : Memref sig .tc .hbm S4x2048x1408 .bf16) (ha : a.IsWhole) (b : Memref sig .tc .hbm S4x1024x1408 .bf16) (hb : b.IsWhole)
    (hsc : b.view.ref.isScScratch = false) (c : Dev nD) : Xfer sig :=
  ⟨S4x1024x1408, .bf16, a.slice (Rect.unit (s := S4x2048x1408) (k0_off1 c) S4x1024x1408.size (k0_off1_inb c)) (fun _ => rfl), b,
    ha.wordExact_slice rfl _ (k0_off1_wordsbf16 c), hb.wordExact, hsc, by decide⟩
def down (a : Memref sig .tc .hbm S4x1408x2048 .bf16) (ha : a.IsWhole) (b : Memref sig .tc .hbm S4x704x2048 .bf16) (hb : b.IsWhole)
    (hsc : b.view.ref.isScScratch = false) (c : Dev nD) : Xfer sig :=
  ⟨S4x704x2048, .bf16, a.slice (Rect.unit (s := S4x1408x2048) (k0_off2 c) S4x704x2048.size (k0_off2_inb c)) (fun _ => rfl), b,
    ha.wordExact_slice rfl _ (k0_off2_wordsbf16 c), hb.wordExact, hsc, by decide⟩
def win (a : Memref sig .tc .hbm S4x2048x1280 .bf16) (ha : a.IsWhole) (b : Memref sig .tc .hbm S4x1024x1280 .bf16) (hb : b.IsWhole)
    (hsc : b.view.ref.isScScratch = false) (c : Dev nD) : Xfer sig :=
  ⟨S4x1024x1280, .bf16, a.slice (Rect.unit (s := S4x2048x1280) (k0_off3 c) S4x1024x1280.size (k0_off3_inb c)) (fun _ => rfl), b,
    ha.wordExact_slice rfl _ (k0_off3_wordsbf16 c), hb.wordExact, hsc, by decide⟩
def wout (a : Memref sig .tc .hbm S4x512x2048 .bf16) (ha : a.IsWhole) (b : Memref sig .tc .hbm S4x256x2048 .bf16) (hb : b.IsWhole)
    (hsc : b.view.ref.isScScratch = false) (c : Dev nD) : Xfer sig :=
  ⟨S4x256x2048, .bf16, a.slice (Rect.unit (s := S4x512x2048) (k0_off4 c) S4x256x2048.size (k0_off4_inb c)) (fun _ => rfl), b,
    ha.wordExact_slice rfl _ (k0_off4_wordsbf16 c), hb.wordExact, hsc, by decide⟩

def xf : Fin 8 → Dev nD → Xfer sig
  | 0, c => cols (Memref.whole main_arg0) (Memref.isWhole_whole _) (Memref.whole main_v1_0) (Memref.isWhole_whole _) rfl c
  | 1, c => cols (Memref.whole main_arg1) (Memref.isWhole_whole _) (Memref.whole main_v1_1) (Memref.isWhole_whole _) rfl c
  | 2, c => down (Memref.whole main_arg2) (Memref.isWhole_whole _) (Memref.whole main_v1_2) (Memref.isWhole_whole _) rfl c
  | 3, c => win (Memref.whole main_arg3) (Memref.isWhole_whole _) (Memref.whole main_v1_3) (Memref.isWhole_whole _) rfl c
  | 4, c => wout (Memref.whole main_arg4) (Memref.isWhole_whole _) (Memref.whole main_v1_4) (Memref.isWhole_whole _) rfl c
  | 5, c => cols (Memref.whole main_arg5) (Memref.isWhole_whole _) (Memref.whole main_v1_5) (Memref.isWhole_whole _) rfl c
  | 6, c => cols (Memref.whole main_arg6) (Memref.isWhole_whole _) (Memref.whole main_v1_6) (Memref.isWhole_whole _) rfl c
  | 7, c => down (Memref.whole main_arg7) (Memref.isWhole_whole _) (Memref.whole main_v1_7) (Memref.isWhole_whole _) rfl c

def peer : Fin 8 → Dev nD → Dev nD
  | 0, c => ⟨k0_dev1 c, k0_dev1_lt c⟩
  | 1, c => ⟨k0_dev2 c, k0_dev2_lt c⟩
  | 2, c => ⟨k0_dev3 c, k0_dev3_lt c⟩
  | 3, c => ⟨k0_dev4 c, k0_dev4_lt c⟩
  | 4, c => ⟨k0_dev5 c, k0_dev5_lt c⟩
  | 5, c => ⟨k0_dev6 c, k0_dev6_lt c⟩
  | 6, c => ⟨k0_dev7 c, k0_dev7_lt c⟩
  | 7, c => ⟨k0_dev8 c, k0_dev8_lt c⟩

/-- The other core of the chip. -/
def sib (c : Dev nD) : Dev nD := ⟨c.val + 1 - 2 * (c.val % 2), by have h : c.val < 8 := c.isLt; show _ < 8; omega⟩
theorem sib_sib (c : Dev nD) : sib (sib c) = c := by revert c; decide
theorem peer_eq (t : Fin 8) (c : Dev nD) : peer t c = sib c := by
  fin_cases t <;> (revert c; decide)

def sem (a : DmaSems sig S8) (t : Fin 8) : DmaSem sig :=
  match t with
  | 0 => ((a.slice (Rect.unit (s := S8) ![0] S1.size inb_S8_S1_0)).squeeze S_ squeezes_S1_S_).sem
  | 1 => ((a.slice (Rect.unit (s := S8) ![1] S1.size inb_S8_S1_1)).squeeze S_ squeezes_S1_S_).sem
  | 2 => ((a.slice (Rect.unit (s := S8) ![2] S1.size inb_S8_S1_2)).squeeze S_ squeezes_S1_S_).sem
  | 3 => ((a.slice (Rect.unit (s := S8) ![3] S1.size inb_S8_S1_3)).squeeze S_ squeezes_S1_S_).sem
  | 4 => ((a.slice (Rect.unit (s := S8) ![4] S1.size inb_S8_S1_4)).squeeze S_ squeezes_S1_S_).sem
  | 5 => ((a.slice (Rect.unit (s := S8) ![5] S1.size inb_S8_S1_5)).squeeze S_ squeezes_S1_S_).sem
  | 6 => ((a.slice (Rect.unit (s := S8) ![6] S1.size inb_S8_S1_6)).squeeze S_ squeezes_S1_S_).sem
  | 7 => ((a.slice (Rect.unit (s := S8) ![7] S1.size inb_S8_S1_7)).squeeze S_ squeezes_S1_S_).sem

def amount (t : Fin 8) : ℕ := (xf t 0).dst.view.dmaCredit
theorem amount_eq (t : Fin 8) (c : Dev nD) : (xf t c).dst.view.dmaCredit = amount t := by
  fin_cases t <;> rfl
variable (m : Mem0 nD τ sig (Elt F))

def plan : Plan nD τ sig (Elt F) (Fin 8) Empty where
  xf := xf
  peer := peer
  peer_peer t c := by rw [peer_eq, peer_eq, sib_sib]
  send := sem cc0_scratch0
  recv := sem cc0_scratch1
  lf u := u.elim
  loc u := u.elim
  n := amount
  n_eq := amount_eq
  ln u := u.elim
  ln_eq u := u.elim
  rank _ := 1
  share _ := shareTok fullShare 1 0
  lshare u := u.elim
  src t c := m ((xf t c).src.view.loc (c.tc : Thread nD τ))
  old t c := m ((xf t c).dst.view.loc ((peer t c).tc : Thread nD τ))
  lsrc u := u.elim
  lold u := u.elim

theorem osem_injective : Function.Injective (plan m).osem := by
  have h : ∀ a b : Fin 8 ⊕ Fin 8, (Sum.elim (sem cc0_scratch0) (sem cc0_scratch1) a) = (Sum.elim (sem cc0_scratch0) (sem cc0_scratch1) b) → a = b := by decide
  rintro (a | a | a) (b | b | b) hab <;> first | exact a.elim | exact b.elim | skip
  all_goals (have hab := SemLoc.dma.inj hab)
  · have := h (.inl a) (.inl b) hab; simp_all
  · have := h (.inl a) (.inr b) hab; simp_all
  · have := h (.inr a) (.inl b) hab; simp_all
  · have := h (.inr a) (.inr b) hab; simp_all

theorem ownSems : OwnSemFacts (cfgs 0).spec (plan m).osem where
  isScoped := by rintro (t | t | u) <;> first | exact u.elim | (fin_cases t <;> rfl)
  inj := osem_injective m
  disj _ w := w.elim0

def all : List (Fin 8) := [0, 1, 2, 3, 4, 5, 6, 7]

/-- The arrays, and the shape of what is sent. -/
def argRef : Fin 8 → Ref sig .tc
  | 0 => main_arg0 | 1 => main_arg1 | 2 => main_arg2 | 3 => main_arg3 | 4 => main_arg4 | 5 => main_arg5 | 6 => main_arg6 | 7 => main_arg7
def resRef : Fin 8 → Ref sig .tc
  | 0 => main_v1_0 | 1 => main_v1_1 | 2 => main_v1_2 | 3 => main_v1_3 | 4 => main_v1_4 | 5 => main_v1_5 | 6 => main_v1_6 | 7 => main_v1_7
def half : Fin 8 → Shape
  | 0 => S4x1024x1408 | 1 => S4x1024x1408 | 2 => S4x704x2048 | 3 => S4x1024x1280 | 4 => S4x256x2048 | 5 => S4x1024x1408 | 6 => S4x1024x1408 | 7 => S4x704x2048

theorem src_ref (t : Fin 8) (c : Dev nD) : (xf t c).src.view.ref = argRef t := by fin_cases t <;> rfl
theorem dst_ref (t : Fin 8) (c : Dev nD) : (xf t c).dst.view.ref = resRef t := by fin_cases t <;> rfl
theorem shape_eq (t : Fin 8) (c : Dev nD) : (xf t c).s = half t := by fin_cases t <;> rfl
theorem elt_eq (t : Fin 8) (c : Dev nD) : (xf t c).e = .bf16 := by fin_cases t <;> rfl
theorem arg_memref (t : Fin 8) : (argRef t).HasMemref (half t) .bf16 := by
  have h := (xf t 0).src.hasMemref
  rwa [src_ref, shape_eq, elt_eq] at h
theorem res_memref (t : Fin 8) : (resRef t).HasMemref (half t) .bf16 := by
  have h := (xf t 0).dst.hasMemref
  rwa [dst_ref, shape_eq, elt_eq] at h
theorem arg_credit (t : Fin 8) : (argRef t).dmaCredit (half t) .bf16 = amount t := by fin_cases t <;> rfl
theorem res_credit (t : Fin 8) : (resRef t).dmaCredit (half t) .bf16 = amount t := by fin_cases t <;> rfl

/-- The waits for a copy: that its source has been read, and that the one sent here has landed. -/
def sent (t : Fin 8) : (plan m).WaitOp := ⟨.inl t, argRef t, half t, .bf16, arg_memref t, arg_credit t⟩
def got (t : Fin 8) : (plan m).WaitOp := ⟨.inr (.inl t), resRef t, half t, .bf16, res_memref t, res_credit t⟩

def script : (plan m).Script where
  S := all.map Sum.inl
  Rl := []
  rl := []
  rest := all
  Wl := all.flatMap fun t => [sent m t, got m t]
  rl_eq := rfl
  recvs := by decide
  recvs_all := by decide
  starts := by show (all.map (Sum.inl : Fin 8 → Fin 8 ⊕ Empty)).Nodup; decide
  starts_all := by
    rintro (t | u)
    · exact List.mem_append_left _ (List.mem_map.mpr ⟨t, (by revert t; decide), rfl⟩)
    · exact u.elim
  waits := by
    show (all.flatMap fun t => [(Sum.inl t : Key (Fin 8) Empty), .inr (.inl t)]).Perm
      ((all.map fun t => (Sum.inr (Sum.inl t) : Key (Fin 8) Empty)) ++ all.map fun t => (Sum.inl t : Key (Fin 8) Empty))
    decide
  keep _ _ := iprop(emp)
  relay _ _ h := absurd h List.not_mem_nil
  late _ h := absurd h List.not_mem_nil

end Cert.PairIdeal.Run
-- ==== Proof.PairBody.lean ====
/-
# The exchange between the two cores of a chip: the body is its copies and waits
-/
module

public import proofs.«01_k».proof.Proof.Pair
public import proofs.«01_k».proof.Proof.Gen.PairIdeal.Launch
public import proofs.«01_k».proof.Proof.Gen.PairIdeal.Points
public import proofs.«01_k».proof.Proof.Gen.PairIdeal.Skeleton

@[expose] public section

noncomputable section

namespace Cert.PairIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)
open Idealize.ShloMosaic.Pipeline
open Cert.Moves
open Facts₀ Facts

variable {F : FTy → Type} [FloatOps F]

local notation "𝕄" => MT nD τ sig Unit (Elt F) ℕ (UM nD τ sig) ℕ

variable (m : Mem0 nD τ sig (Elt F))

theorem body_eq (t : Fin cfg0.N) : Gen.bodyAt0 (F := F) t = .op .deviceId fun d => (script (F := F) m).body d := by
  chain_rfl

end Cert.PairIdeal.Run
-- ==== Proof.PairRun.lean ====
/-
# The exchange between the two cores of a chip: every run of it

Every device ends with, in each of its eight results, the half that the other core of its chip sent; its gradients are
as they were, and every semaphore reads zero.
-/
module

public import proofs.«01_k».proof.Proof.PairBody
public import proofs.«01_k».proof.Proof.Gen.PairIdeal.Launch
public import proofs.«01_k».proof.Proof.Gen.PairIdeal.Points
public import proofs.«01_k».proof.Proof.Gen.PairIdeal.Skeleton

@[expose] public section

noncomputable section

namespace Cert.PairIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)
open Idealize.ShloMosaic.Pipeline
open Cert.Moves
open Facts₀ Facts

variable {F : FTy → Type} [FloatOps F]

local notation "𝕄" => MT nD τ sig Unit (Elt F) ℕ (UM nD τ sig) ℕ

variable (m : Mem0 nD τ sig (Elt F))

abbrev keep0 (c : Dev nD) : sProp 𝕄 := rests m (all.map argRef) (shareDrop fullShare 1) c

theorem rest_eq (c : Dev nD) : (unscopedRest (cfgs 0).spec c (fun b => m ((c.tc : Thread nD τ).loc b)) : sProp 𝕄)
    = iprop((bigSepL all fun t => wholePts m (argRef t) fullShare c) ∗ bigSepL all fun t => wholePts m (resRef t) fullShare c) := by
  rw [unscopedRest_eq_of_list (cfgs 0).spec c _ (all.map argRef ++ all.map resRef) (by decide) (by decide), bigSepL_append, bigSepL_map, bigSepL_map]
  rfl

theorem deal_device (c : Dev nD) : (unscopedRest (cfgs 0).spec c (fun b => m ((c.tc : Thread nD τ).loc b)) : sProp 𝕄)
    ⊢ iprop((bigSepL all fun t => (plan m).srcPts t c) ∗ keep0 m c ∗ bigSepL all fun t => (plan m).inPts m t c) := by
  rw [rest_eq]
  have h1 : (bigSepL all fun t => wholePts m (argRef t) fullShare c : sProp 𝕄)
      ⊢ iprop((bigSepL all fun t => (plan m).srcPts t c) ∗ keep0 m c) := by
    unfold keep0 rests
    rw [bigSepL_map]
    refine BIBase.Entails.trans (bigSepL_mono fun t _ => ?_) (show (bigSepL all fun t => iprop((plan m).srcPts t c ∗ wholePts m (argRef t) (shareDrop fullShare 1) c) : sProp 𝕄) ⊢ _ from bigSepL_unsep _ _ _)
    refine (deal_src m (argRef t) c (fun _ : Fin 1 => xf t c) fun _ => src_ref t c).trans ?_
    rw [BI.bigSep_univ_of_subsingleton (0 : Fin 1)]
    exact .rfl
  have h2 : (bigSepL all fun t => wholePts m (resRef t) fullShare c : sProp 𝕄) ⊢ bigSepL all fun t => (plan m).inPts m t c :=
    bigSepL_mono fun t _ => viewPts_of_whole m (xf t (peer t c)).dst (resRef t) (dst_ref t _) _ c
  iintro ⟨HA, HR⟩
  ihave HA' := h1 $$ HA
  icases HA' with ⟨HS, HK⟩
  isplitl [HS]; · iexact HS
  isplitl [HK]; · iexact HK
  iapply h2; iexact HR

theorem deal_all : (bigSep Finset.univ fun c : Dev nD => unscopedRest (cfgs 0).spec c (fun b => m ((c.tc : Thread nD τ).loc b)))
    ⊢ (bigSep Finset.univ ((script m).data (keep0 m)) : sProp 𝕄) := by
  refine (bigSep_mono fun c _ => deal_device m c).trans ?_
  rw [bigSep_sep', bigSep_sep', (plan m).swap (fun _ _ => rfl) all, ← bigSep_sep', ← bigSep_sep']
  refine bigSep_mono fun c _ => ?_
  unfold Plan.Script.data
  show _ ⊢ iprop((bigSepL (all.map Sum.inl) ((plan m).sdata c)) ∗ bigSepL [] _ ∗ keep0 m c)
  rw [bigSepL_map, bigSepL_nil]
  iintro ⟨HS, HK, HD⟩
  isplitl [HS HD]
  · iapply (show _ ⊢ (bigSepL all fun t => (plan m).sdata c (.inl t) : sProp 𝕄) from bigSepL_sep all (fun t => (plan m).srcPts t c) fun t => (plan m).dstPts t c)
    isplitl [HS] <;> iassumption
  isplitr; · iempintro
  iexact HK

theorem sem_zero (s : MemSt nD τ sig (Elt F)) (h : ∀ g : GSem nD τ sig, (g.1.2 ≠ .tc ∨ g.2.isScoped .tc = true) → s.sem g = 0) : s.sem = fun _ => 0 :=
  have hsc : ∀ x : SemLoc sig, x.isScoped .tc = true := by decide
  funext fun g => h g (.inr (hsc g.2))

/-- What every run of the exchange ends with. -/
def Ends (r : PUnit × MemSt nD τ sig (Elt F)) : Prop :=
  (∀ t c, (plan m).Landed t c r.2) ∧ (∀ (c : Dev nD) t, r.2.mem ((c.tc : Thread nD τ).loc (argRef t)) = m ((c.tc : Thread nD τ).loc (argRef t)))
    ∧ r.2.sem = fun _ => 0

theorem ends (ρ : Dev nD → PrngReg) : θ_run (defs (F := F)) (onTc (τ := τ) (main (F := F))) ⟨m, fun _ => 0, ρ⟩ (Ends m) := by
  refine run_plan cfgs Gen.cellOf_inj (fun p => by fin_cases p; exact ⟨fun w => w.elim0⟩) defs₀ Variants.none (script m) (osem_injective m)
    Gen.winFacts0 (ownSems m) Gen.N_0 m ρ main (fun c => rfl) (fun c t Q => ?_) (keep0 m) (deal_all m)
    (fun _ _ _ => True) (fun c s => ∀ r ∈ all.map argRef, s.mem ((c.tc : Thread nD τ).loc r) = m ((c.tc : Thread nD τ).loc r))
    (fun _ _ _ => by iintro -; ipureintro; trivial) (fun c s => rests_read m _ _ c s) fun s hl _ _ hk hz => ?_
  · unfold Plan.wpAt
    rw [← body_eq m t]
    exact (show ∀ X : sProp 𝕄, X ⊢ X from fun _ => .rfl) _
  · have hmem (t : Fin 8) : t ∈ all := by revert t; decide
    exact ⟨fun t c => hl t (hmem t) c, fun c t => hk c _ (List.mem_map.mpr ⟨t, hmem t, rfl⟩), sem_zero s hz⟩

end Cert.PairIdeal.Run
-- ==== Proof.Swap.lean ====
/-
# The reference of the exchange between the two cores of a chip, read at an index

The reference regroups the rows of an array by chip and core and the middle axis by halves; the first core's result is
the second core's first half, the second core's result the first core's second half.  Here that chain of reshapes,
slices and one concatenation is read at an index, at any extents.
-/
module

public import Idealize.ShloMosaic.Lib.Pipeline.Value
public import Idealize.ShloMosaic.Lib.Pointwise.Index
public import Idealize.ShloMosaic.Lib.Pointwise.Reshape
public import Idealize.ShloMosaic.Lib.Layout
public import Mathlib.Tactic.Ring

@[expose] public section

namespace Cert.Swap

open Idealize.ShloMosaic

variable {α : Type} {H h b : Nat}

/-- The rows of core `e` of every chip, of their half `f`. -/
def part (e f : Nat) (p : (⟨3, ![32, H, b]⟩ : Shape).Idx → α) (h₁ : (⟨3, ![32, H, b]⟩ : Shape).ShapeCasts ⟨6, ![4, 2, 4, 2, h, b]⟩)
    (h₂ : (⟨6, ![4, 2, 4, 2, h, b]⟩ : Shape).Slices ![0, e, 0, f, 0, 0] ⟨6, ![4, 1, 4, 1, h, b]⟩)
    (h₃ : (⟨6, ![4, 1, 4, 1, h, b]⟩ : Shape).ShapeCasts ⟨4, ![4, 4, h, b]⟩)
    (h₄ : (⟨4, ![4, 4, h, b]⟩ : Shape).BroadcastsInDim ⟨5, ![4, 1, 4, h, b]⟩ ![0, 2, 3, 4]) : (⟨5, ![4, 1, 4, h, b]⟩ : Shape).Idx → α :=
  broadcastInDim ⟨5, ![4, 1, 4, h, b]⟩ ![0, 2, 3, 4] h₄ (shapeCast ⟨4, ![4, 4, h, b]⟩
    (extractStridedSlice ⟨6, ![4, 1, 4, 1, h, b]⟩ ![0, e, 0, f, 0, 0] (shapeCast ⟨6, ![4, 2, 4, 2, h, b]⟩ p h₁) h₂) h₃)

theorem part_apply (hb : 1 < b) (hh : 1 < h) (hH : H = 2 * h) (e f : Nat) (he : e < 2) (hf : f < 2) (p : (⟨3, ![32, H, b]⟩ : Shape).Idx → α) (h₁ h₂ h₃ h₄)
    (a : Fin 4) (i : Fin 4) (x : Fin h) (y : Fin b) (k : (⟨3, ![32, H, b]⟩ : Shape).Idx)
    (k0 : (k 0).val = (2 * a.val + e) * 4 + i.val) (k1 : (k 1).val = f * h + x.val) (k2 : (k 2).val = y.val) :
    part e f p h₁ h₂ h₃ h₄ (ix5 (n1 := 1) a 0 i x y) = p k := by
  subst hH
  unfold part
  refine (broadcastInDim_apply _ h₄ _ _ (ix4 a i x y) fun u => ?_).trans ?_
  · match u with
    | ⟨0, _⟩ => rfl
    | ⟨1, _⟩ => rfl
    | ⟨2, _⟩ => show x.val = if h = 1 then 0 else x.val; rw [if_neg (by omega)]
    | ⟨3, _⟩ => show y.val = if b = 1 then 0 else y.val; rw [if_neg (by omega)]
  refine (shapeCast_apply _ h₃ _ (ix6 a (0 : Fin 1) i (0 : Fin 1) x y) ?_).trans ?_
  · rw [rowMajor_val6 _ _ _ _ _ _ rfl rfl rfl rfl rfl, rowMajor_val4 _ _ _ _ rfl rfl rfl]
    show a.val * (1 * (4 * (1 * (h * b)))) + 0 * (4 * (1 * (h * b))) + i.val * (1 * (h * b)) + 0 * (h * b) + x.val * b + y.val
      = a.val * (4 * (h * b)) + i.val * (h * b) + x.val * b + y.val
    ring
  refine (extractStridedSlice_apply _ _ h₂ _ (ix6 a (⟨e, he⟩ : Fin 2) i (⟨f, hf⟩ : Fin 2) x y) fun u => ?_).trans ?_
  · match u with
    | ⟨0, _⟩ => show a.val = 0 + a.val; omega
    | ⟨1, _⟩ => rfl
    | ⟨2, _⟩ => show i.val = 0 + i.val; omega
    | ⟨3, _⟩ => rfl
    | ⟨4, _⟩ => show x.val = 0 + x.val; omega
    | ⟨5, _⟩ => show y.val = 0 + y.val; omega
  refine shapeCast_apply _ h₁ _ k ?_
  rw [rowMajor_val6 _ _ _ _ _ _ rfl rfl rfl rfl rfl, rowMajor_val3 _ _ _ rfl rfl, k0, k1, k2]
  show ((2 * a.val + e) * 4 + i.val) * (2 * h * b) + (f * h + x.val) * b + y.val
    = a.val * (2 * (4 * (2 * (h * b)))) + e * (4 * (2 * (h * b))) + i.val * (2 * (h * b)) + f * (h * b) + x.val * b + y.val
  ring

/-- What the chain asks of the extents. -/
structure Parts (H h b : Nat) : Prop where
  wide : 1 < b
  tall : 1 < h
  two : H = 2 * h
  split : (⟨3, ![32, H, b]⟩ : Shape).ShapeCasts ⟨6, ![4, 2, 4, 2, h, b]⟩
  second : (⟨6, ![4, 2, 4, 2, h, b]⟩ : Shape).Slices ![0, 1, 0, 0, 0, 0] ⟨6, ![4, 1, 4, 1, h, b]⟩
  first : (⟨6, ![4, 2, 4, 2, h, b]⟩ : Shape).Slices ![0, 0, 0, 1, 0, 0] ⟨6, ![4, 1, 4, 1, h, b]⟩
  drop : (⟨6, ![4, 1, 4, 1, h, b]⟩ : Shape).ShapeCasts ⟨4, ![4, 4, h, b]⟩
  add : (⟨4, ![4, 4, h, b]⟩ : Shape).BroadcastsInDim ⟨5, ![4, 1, 4, h, b]⟩ ![0, 2, 3, 4]
  stack : Shape.Concatenates [⟨5, ![4, 1, 4, h, b]⟩, ⟨5, ![4, 1, 4, h, b]⟩] ⟨5, ![4, 2, 4, h, b]⟩ 1
  join : (⟨5, ![4, 2, 4, h, b]⟩ : Shape).ShapeCasts ⟨3, ![32, h, b]⟩

/-- The reference's result. -/
def swapped (P : Parts H h b) (p : (⟨3, ![32, H, b]⟩ : Shape).Idx → α) : (⟨3, ![32, h, b]⟩ : Shape).Idx → α :=
  shapeCast ⟨3, ![32, h, b]⟩ (concatenate ⟨5, ![4, 2, 4, h, b]⟩ 1
    [⟨⟨5, ![4, 1, 4, h, b]⟩, part 1 0 p P.split P.second P.drop P.add⟩, ⟨⟨5, ![4, 1, 4, h, b]⟩, part 0 1 p P.split P.first P.drop P.add⟩] P.stack) P.join

theorem swapped_apply (P : Parts H h b) (p : (⟨3, ![32, H, b]⟩ : Shape).Idx → α)
    (j : (⟨3, ![32, h, b]⟩ : Shape).Idx) (k : (⟨3, ![32, H, b]⟩ : Shape).Idx)
    (k0 : (k 0).val = 8 * ((j 0).val / 8) + (1 - (j 0).val / 4 % 2) * 4 + (j 0).val % 4)
    (k1 : (k 1).val = ((j 0).val / 4 % 2) * h + (j 1).val) (k2 : (k 2).val = (j 2).val) : swapped P p j = p k := by
  unfold swapped
  have j0 : (j 0).val < 32 := (j 0).isLt
  obtain ⟨a, ha⟩ : ∃ a : Fin 4, a.val = (j 0).val / 8 := ⟨⟨_, by omega⟩, rfl⟩
  obtain ⟨i, hi⟩ : ∃ i : Fin 4, i.val = (j 0).val % 4 := ⟨⟨_, by omega⟩, rfl⟩
  obtain ⟨x, hx⟩ : ∃ x : Fin h, x.val = (j 1).val := ⟨j 1, rfl⟩
  obtain ⟨y, hy⟩ : ∃ y : Fin b, y.val = (j 2).val := ⟨j 2, rfl⟩
  obtain ⟨e, he⟩ : ∃ e : Fin 2, e.val = (j 0).val / 4 % 2 := ⟨⟨_, by omega⟩, rfl⟩
  rw [← ha, ← hi, ← he] at k0
  rw [← he, ← hx] at k1
  rw [← hy] at k2
  refine (shapeCast_apply _ P.join _ (ix5 a e i x y) ?_).trans ?_
  · rw [rowMajor_val5 _ _ _ _ _ rfl rfl rfl rfl, rowMajor_val3 _ _ _ rfl rfl, ← hx, ← hy,
      show (j 0).val = (2 * a.val + e.val) * 4 + i.val by omega]
    show a.val * (2 * (4 * (h * b))) + e.val * (4 * (h * b)) + i.val * (h * b) + x.val * b + y.val
      = ((2 * a.val + e.val) * 4 + i.val) * (h * b) + x.val * b + y.val
    ring
  match e with
  | ⟨0, _⟩ =>
    refine (concatenate_pair_apply_left _ _ _ P.stack _ rfl (ix5 (n1 := 1) a 0 i x y) fun u => ?_).trans
      (part_apply P.wide P.tall P.two 1 0 (by omega) (by omega) p _ _ _ _ a i x y k ?_ ?_ k2)
    · match u with
      | ⟨0, _⟩ => rfl
      | ⟨1, _⟩ => rfl
      | ⟨2, _⟩ => rfl
      | ⟨3, _⟩ => rfl
      | ⟨4, _⟩ => rfl
    · rw [k0]; show 8 * a.val + (1 - 0) * 4 + i.val = _; omega
    · rw [k1]
  | ⟨1, _⟩ =>
    refine (concatenate_pair_apply_right _ _ _ P.stack _ rfl rfl (ix5 (n1 := 1) a 0 i x y) (fun u hu => ?_) rfl).trans
      (part_apply P.wide P.tall P.two 0 1 (by omega) (by omega) p _ _ _ _ a i x y k ?_ ?_ k2)
    · match u with
      | ⟨0, _⟩ => rfl
      | ⟨1, _⟩ => exact absurd rfl hu
      | ⟨2, _⟩ => rfl
      | ⟨3, _⟩ => rfl
      | ⟨4, _⟩ => rfl
    · rw [k0]; show 8 * a.val + (1 - 1) * 4 + i.val = _; omega
    · rw [k1]

/-- Device `c` holds of the result the half that the other core `d` of its chip cut from its own rows. -/
theorem block_swapped (P : Parts H h b) (p : (⟨3, ![32, H, b]⟩ : Shape).Idx → α) (c d : Fin 8) (hd : d.val = c.val + 1 - 2 * (c.val % 2))
    (off : Fin 3 → Nat) (hoff : off = ![0, h - h * (d.val % 2), 0])
    (inb : ∀ a, off a + (⟨3, ![4, h, b]⟩ : Shape).size a ≤ (⟨3, ![4, H, b]⟩ : Shape).size a)
    (hT : Layout.Tiles ⟨3, ![4, H, b]⟩ ⟨3, ![32, H, b]⟩ 0 8) (hR : Layout.Tiles ⟨3, ![4, h, b]⟩ ⟨3, ![32, h, b]⟩ 0 8) :
    (fun i => Layout.block ⟨3, ![4, H, b]⟩ ⟨3, ![32, H, b]⟩ 0 8 d p hT
        ((Rect.unit (s := ⟨3, ![4, H, b]⟩) off (⟨3, ![4, h, b]⟩ : Shape).size inb).emb i))
      = Layout.block ⟨3, ![4, h, b]⟩ ⟨3, ![32, h, b]⟩ 0 8 c (swapped P p) hR := by
  funext i
  subst hoff
  have i0 : (i 0).val < 4 := (i 0).isLt
  have key (y x : Nat) (hy : y < 4) : h - h * (d.val % 2) + 1 * x = (c.val * 4 + y) / 4 % 2 * h + x := by
    rcases Nat.mod_two_eq_zero_or_one c.val with hc | hc
    · rw [show d.val % 2 = 1 by omega, show (c.val * 4 + y) / 4 % 2 = 0 by omega]; omega
    · rw [show d.val % 2 = 0 by omega, show (c.val * 4 + y) / 4 % 2 = 1 by omega]; omega
  refine (swapped_apply P p (hR.idx c i) _ ?_ ?_ ?_).symm
  · show d.val * 4 + (0 + 1 * (i 0).val) = 8 * ((c.val * 4 + (i 0).val) / 8) + (1 - (c.val * 4 + (i 0).val) / 4 % 2) * 4 + (c.val * 4 + (i 0).val) % 4
    omega
  · show h - h * (d.val % 2) + 1 * (i 1).val = (c.val * 4 + (i 0).val) / 4 % 2 * h + (i 1).val
    exact key _ _ i0
  · show 0 + 1 * (i 2).val = (i 2).val
    omega

end Cert.Swap
-- ==== Proof.PairValue.lean ====
/-
# The exchange between the two cores of a chip against its reference

What a device receives is its block of the reference's result, at any float interpretation.
-/
module

public import proofs.«01_k».proof.Proof.PairRun
public import proofs.«01_k».proof.Proof.Swap
public import proofs.«01_k».proof.Proof.Gen.PairRefIdeal.Run

@[expose] public section

noncomputable section

namespace Cert.PairIdeal.Run

open Idealize.ShloMosaic Idealize.ShloMosaic.TcCoe
open Idealize.SL.Sem
open Cert.Moves Cert.Swap

variable {F : FTy → Type} [FloatOps F]

theorem parts_cols : Parts 2048 1024 1408 := ⟨by decide, by decide, by decide, by decide, by decide, by decide, by decide, by decide, by decide, by decide⟩
theorem parts_down : Parts 1408 704 2048 := ⟨by decide, by decide, by decide, by decide, by decide, by decide, by decide, by decide, by decide, by decide⟩
theorem parts_win : Parts 2048 1024 1280 := ⟨by decide, by decide, by decide, by decide, by decide, by decide, by decide, by decide, by decide, by decide⟩
theorem parts_wout : Parts 512 256 2048 := ⟨by decide, by decide, by decide, by decide, by decide, by decide, by decide, by decide, by decide, by decide⟩

variable (m : Mem0 nD τ sig (Elt F))

/-- What a device's copy leaves it with, read off the other core's memory. -/
theorem arrived (t : Fin 8) (c : Dev nD) (s : MemSt nD τ sig (Elt F)) (h : (plan m).Landed t (sib c) s) :
    (xf t (sib c)).dst.view.read (Elt F) (s.mem ((xf t (sib c)).dst.view.loc (c.tc : Thread nD τ)))
      = (xf t (sib c)).src.view.read (Elt F) (m ((xf t (sib c)).src.view.loc ((sib c).tc : Thread nD τ))) := by
  have h' : (xf t (sib c)).dst.view.read (Elt F) (s.mem ((xf t (sib c)).dst.view.loc ((peer t (sib c)).tc : Thread nD τ)))
      = (xf t (sib c)).src.view.read (Elt F) (m ((xf t (sib c)).src.view.loc ((sib c).tc : Thread nD τ))) := h
  rwa [peer_eq, sib_sib] at h'

variable (m' : Mem0 Cert.PairRefIdeal.nD Cert.PairRefIdeal.τ Cert.PairRefIdeal.sig (Elt F))

/-- The reference's arrays. -/
abbrev whole (r : Ref Cert.PairRefIdeal.sig .tc) := m' (((0 : Dev Cert.PairRefIdeal.nD).tc : Thread Cert.PairRefIdeal.nD Cert.PairRefIdeal.τ).loc r)

/-- A half that arrived is a block of the reference's result. -/
theorem half_value {α : Type} {H h b : Nat} (P : Parts H h b) (c : Dev nD) (p : (⟨3, ![32, H, b]⟩ : Shape).Idx → α)
    {x : (⟨3, ![4, h, b]⟩ : Shape).Idx → α} {y : (⟨3, ![4, H, b]⟩ : Shape).Idx → α} {off : Fin 3 → Nat}
    (hoff : off = ![0, h - h * ((sib c).val % 2), 0])
    (inb : ∀ a, off a + (⟨3, ![4, h, b]⟩ : Shape).size a ≤ (⟨3, ![4, H, b]⟩ : Shape).size a)
    (hT : Layout.Tiles ⟨3, ![4, H, b]⟩ ⟨3, ![32, H, b]⟩ 0 8) (hR : Layout.Tiles ⟨3, ![4, h, b]⟩ ⟨3, ![32, h, b]⟩ 0 8)
    (hx : x = fun i => y ((Rect.unit (s := ⟨3, ![4, H, b]⟩) off (⟨3, ![4, h, b]⟩ : Shape).size inb).emb i))
    (hy : y = Layout.block ⟨3, ![4, H, b]⟩ ⟨3, ![32, H, b]⟩ 0 8 (sib c) p hT) :
    x = Layout.block ⟨3, ![4, h, b]⟩ ⟨3, ![32, h, b]⟩ 0 8 c (swapped P p) hR := by
  subst hy
  exact hx.trans (block_swapped P p c (sib c) rfl off hoff inb hT hR)

/-- Every device holds its block of the reference's arrays. -/
def Holds : Prop := ∀ c : Dev nD,
    m ((c.tc : Thread nD τ).loc main_arg0) = Layout.block ⟨3, ![4, 2048, 1408]⟩ ⟨3, ![32, 2048, 1408]⟩ 0 8 c (whole m' Cert.PairRefIdeal.main_arg0)
    ∧ m ((c.tc : Thread nD τ).loc main_arg1) = Layout.block ⟨3, ![4, 2048, 1408]⟩ ⟨3, ![32, 2048, 1408]⟩ 0 8 c (whole m' Cert.PairRefIdeal.main_arg1)
    ∧ m ((c.tc : Thread nD τ).loc main_arg2) = Layout.block ⟨3, ![4, 1408, 2048]⟩ ⟨3, ![32, 1408, 2048]⟩ 0 8 c (whole m' Cert.PairRefIdeal.main_arg2)
    ∧ m ((c.tc : Thread nD τ).loc main_arg3) = Layout.block ⟨3, ![4, 2048, 1280]⟩ ⟨3, ![32, 2048, 1280]⟩ 0 8 c (whole m' Cert.PairRefIdeal.main_arg3)
    ∧ m ((c.tc : Thread nD τ).loc main_arg4) = Layout.block ⟨3, ![4, 512, 2048]⟩ ⟨3, ![32, 512, 2048]⟩ 0 8 c (whole m' Cert.PairRefIdeal.main_arg4)
    ∧ m ((c.tc : Thread nD τ).loc main_arg5) = Layout.block ⟨3, ![4, 2048, 1408]⟩ ⟨3, ![32, 2048, 1408]⟩ 0 8 c (whole m' Cert.PairRefIdeal.main_arg5)
    ∧ m ((c.tc : Thread nD τ).loc main_arg6) = Layout.block ⟨3, ![4, 2048, 1408]⟩ ⟨3, ![32, 2048, 1408]⟩ 0 8 c (whole m' Cert.PairRefIdeal.main_arg6)
    ∧ m ((c.tc : Thread nD τ).loc main_arg7) = Layout.block ⟨3, ![4, 1408, 2048]⟩ ⟨3, ![32, 1408, 2048]⟩ 0 8 c (whole m' Cert.PairRefIdeal.main_arg7)

/-- Both programs' runs, side by side. -/
theorem values (ρ : Dev nD → PrngReg) (ρ' : Dev Cert.PairRefIdeal.nD → PrngReg) (hm : Holds m m') :
    θ_run (defs (F := F)) (onTc (τ := τ) (main (F := F))) ⟨m, fun _ => 0, ρ⟩ (fun r => ∀ c : Dev nD,
        r.2.mem ((c.tc : Thread nD τ).loc main_v1_0) = Layout.block ⟨3, ![4, 1024, 1408]⟩ ⟨3, ![32, 1024, 1408]⟩ 0 8 c (swapped parts_cols (whole m' Cert.PairRefIdeal.main_arg0))
        ∧ r.2.mem ((c.tc : Thread nD τ).loc main_v1_1) = Layout.block ⟨3, ![4, 1024, 1408]⟩ ⟨3, ![32, 1024, 1408]⟩ 0 8 c (swapped parts_cols (whole m' Cert.PairRefIdeal.main_arg1))
        ∧ r.2.mem ((c.tc : Thread nD τ).loc main_v1_2) = Layout.block ⟨3, ![4, 704, 2048]⟩ ⟨3, ![32, 704, 2048]⟩ 0 8 c (swapped parts_down (whole m' Cert.PairRefIdeal.main_arg2))
        ∧ r.2.mem ((c.tc : Thread nD τ).loc main_v1_3) = Layout.block ⟨3, ![4, 1024, 1280]⟩ ⟨3, ![32, 1024, 1280]⟩ 0 8 c (swapped parts_win (whole m' Cert.PairRefIdeal.main_arg3))
        ∧ r.2.mem ((c.tc : Thread nD τ).loc main_v1_4) = Layout.block ⟨3, ![4, 256, 2048]⟩ ⟨3, ![32, 256, 2048]⟩ 0 8 c (swapped parts_wout (whole m' Cert.PairRefIdeal.main_arg4))
        ∧ r.2.mem ((c.tc : Thread nD τ).loc main_v1_5) = Layout.block ⟨3, ![4, 1024, 1408]⟩ ⟨3, ![32, 1024, 1408]⟩ 0 8 c (swapped parts_cols (whole m' Cert.PairRefIdeal.main_arg5))
        ∧ r.2.mem ((c.tc : Thread nD τ).loc main_v1_6) = Layout.block ⟨3, ![4, 1024, 1408]⟩ ⟨3, ![32, 1024, 1408]⟩ 0 8 c (swapped parts_cols (whole m' Cert.PairRefIdeal.main_arg6))
        ∧ r.2.mem ((c.tc : Thread nD τ).loc main_v1_7) = Layout.block ⟨3, ![4, 704, 2048]⟩ ⟨3, ![32, 704, 2048]⟩ 0 8 c (swapped parts_down (whole m' Cert.PairRefIdeal.main_arg7))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ θ_run (Cert.PairRefIdeal.defs (F := F)) (onTc (τ := Cert.PairRefIdeal.τ) (Cert.PairRefIdeal.main (F := F))) ⟨m', fun _ => 0, ρ'⟩ (fun r =>
        r.2.mem (((0 : Dev Cert.PairRefIdeal.nD).tc : Thread Cert.PairRefIdeal.nD Cert.PairRefIdeal.τ).loc Cert.PairRefIdeal.main_v8) = swapped parts_cols (whole m' Cert.PairRefIdeal.main_arg0)
        ∧ r.2.mem (((0 : Dev Cert.PairRefIdeal.nD).tc : Thread Cert.PairRefIdeal.nD Cert.PairRefIdeal.τ).loc Cert.PairRefIdeal.main_v17) = swapped parts_cols (whole m' Cert.PairRefIdeal.main_arg1)
        ∧ r.2.mem (((0 : Dev Cert.PairRefIdeal.nD).tc : Thread Cert.PairRefIdeal.nD Cert.PairRefIdeal.τ).loc Cert.PairRefIdeal.main_v26) = swapped parts_down (whole m' Cert.PairRefIdeal.main_arg2)
        ∧ r.2.mem (((0 : Dev Cert.PairRefIdeal.nD).tc : Thread Cert.PairRefIdeal.nD Cert.PairRefIdeal.τ).loc Cert.PairRefIdeal.main_v35) = swapped parts_win (whole m' Cert.PairRefIdeal.main_arg3)
        ∧ r.2.mem (((0 : Dev Cert.PairRefIdeal.nD).tc : Thread Cert.PairRefIdeal.nD Cert.PairRefIdeal.τ).loc Cert.PairRefIdeal.main_v44) = swapped parts_wout (whole m' Cert.PairRefIdeal.main_arg4)
        ∧ r.2.mem (((0 : Dev Cert.PairRefIdeal.nD).tc : Thread Cert.PairRefIdeal.nD Cert.PairRefIdeal.τ).loc Cert.PairRefIdeal.main_v53) = swapped parts_cols (whole m' Cert.PairRefIdeal.main_arg5)
        ∧ r.2.mem (((0 : Dev Cert.PairRefIdeal.nD).tc : Thread Cert.PairRefIdeal.nD Cert.PairRefIdeal.τ).loc Cert.PairRefIdeal.main_v62) = swapped parts_cols (whole m' Cert.PairRefIdeal.main_arg6)
        ∧ r.2.mem (((0 : Dev Cert.PairRefIdeal.nD).tc : Thread Cert.PairRefIdeal.nD Cert.PairRefIdeal.τ).loc Cert.PairRefIdeal.main_v71) = swapped parts_down (whole m' Cert.PairRefIdeal.main_arg7)
        ∧ r.2.mem (((0 : Dev Cert.PairRefIdeal.nD).tc : Thread Cert.PairRefIdeal.nD Cert.PairRefIdeal.τ).loc Cert.PairRefIdeal.main_arg0) = whole m' Cert.PairRefIdeal.main_arg0
        ∧ r.2.mem (((0 : Dev Cert.PairRefIdeal.nD).tc : Thread Cert.PairRefIdeal.nD Cert.PairRefIdeal.τ).loc Cert.PairRefIdeal.main_arg1) = whole m' Cert.PairRefIdeal.main_arg1
        ∧ r.2.mem (((0 : Dev Cert.PairRefIdeal.nD).tc : Thread Cert.PairRefIdeal.nD Cert.PairRefIdeal.τ).loc Cert.PairRefIdeal.main_arg2) = whole m' Cert.PairRefIdeal.main_arg2
        ∧ r.2.mem (((0 : Dev Cert.PairRefIdeal.nD).tc : Thread Cert.PairRefIdeal.nD Cert.PairRefIdeal.τ).loc Cert.PairRefIdeal.main_arg3) = whole m' Cert.PairRefIdeal.main_arg3
        ∧ r.2.mem (((0 : Dev Cert.PairRefIdeal.nD).tc : Thread Cert.PairRefIdeal.nD Cert.PairRefIdeal.τ).loc Cert.PairRefIdeal.main_arg4) = whole m' Cert.PairRefIdeal.main_arg4
        ∧ r.2.mem (((0 : Dev Cert.PairRefIdeal.nD).tc : Thread Cert.PairRefIdeal.nD Cert.PairRefIdeal.τ).loc Cert.PairRefIdeal.main_arg5) = whole m' Cert.PairRefIdeal.main_arg5
        ∧ r.2.mem (((0 : Dev Cert.PairRefIdeal.nD).tc : Thread Cert.PairRefIdeal.nD Cert.PairRefIdeal.τ).loc Cert.PairRefIdeal.main_arg6) = whole m' Cert.PairRefIdeal.main_arg6
        ∧ r.2.mem (((0 : Dev Cert.PairRefIdeal.nD).tc : Thread Cert.PairRefIdeal.nD Cert.PairRefIdeal.τ).loc Cert.PairRefIdeal.main_arg7) = whole m' Cert.PairRefIdeal.main_arg7) := by
  refine ⟨(θ_run defs _ _).mono (fun r h c => ?_) (ends m ρ), (θ_run Cert.PairRefIdeal.defs _ _).mono (fun _ h => h 0) (Cert.PairRefIdeal.Value.run m' ρ')⟩
  obtain ⟨hl, hk, -⟩ := h
  obtain ⟨h0, h1, h2, h3, h4, h5, h6, h7⟩ := hm (sib c)
  exact ⟨half_value parts_cols c _ (Gen.k0_off1_eq _) (Gen.k0_off1_inb _) (by decide) (by decide) (arrived m 0 c r.2 (hl 0 _)) h0,
    half_value parts_cols c _ (Gen.k0_off1_eq _) (Gen.k0_off1_inb _) (by decide) (by decide) (arrived m 1 c r.2 (hl 1 _)) h1,
    half_value parts_down c _ (Gen.k0_off2_eq _) (Gen.k0_off2_inb _) (by decide) (by decide) (arrived m 2 c r.2 (hl 2 _)) h2,
    half_value parts_win c _ (Gen.k0_off3_eq _) (Gen.k0_off3_inb _) (by decide) (by decide) (arrived m 3 c r.2 (hl 3 _)) h3,
    half_value parts_wout c _ (Gen.k0_off4_eq _) (Gen.k0_off4_inb _) (by decide) (by decide) (arrived m 4 c r.2 (hl 4 _)) h4,
    half_value parts_cols c _ (Gen.k0_off1_eq _) (Gen.k0_off1_inb _) (by decide) (by decide) (arrived m 5 c r.2 (hl 5 _)) h5,
    half_value parts_cols c _ (Gen.k0_off1_eq _) (Gen.k0_off1_inb _) (by decide) (by decide) (arrived m 6 c r.2 (hl 6 _)) h6,
    half_value parts_down c _ (Gen.k0_off2_eq _) (Gen.k0_off2_inb _) (by decide) (by decide) (arrived m 7 c r.2 (hl 7 _)) h7,
    hk c 0, hk c 1, hk c 2, hk c 3, hk c 4, hk c 5, hk c 6, hk c 7⟩

end Cert.PairIdeal.Run
-- ==== Proof.PairClaims.lean ====
/-
# The claims on the exchange between the two cores of a chip
-/
module

public import proofs.«01_k».proof.Defs
public import proofs.«01_k».proof.Proof.PairValue
public import proofs.«01_k».proof.Proof.Gen.Pair
public import proofs.«01_k».proof.Proof.Gen.PairRef
public import Idealize.ShloMosaic.Lib.Quiescent

@[expose] public section

noncomputable section

namespace Cert.Proof.Pair

open Idealize.ShloMosaic Idealize.ShloMosaic.TcCoe Idealize.SL.Sem
open Cert.PairIdeal.Run

theorem frame_kernel : Cert.quiescent_Pair := fun m ρ _ =>
  (θ_run Cert.PairIdeal.defs _ _).mono (fun _ h => ⟨fun c => ⟨h.2.1 c 0, h.2.1 c 1, h.2.1 c 2, h.2.1 c 3, h.2.1 c 4, h.2.1 c 5, h.2.1 c 6, h.2.1 c 7⟩, h.2.2⟩)
    (ends (F := Bits) m ρ)

theorem frame_ideal : Cert.quiescent_PairIdeal := fun m ρ _ =>
  (θ_run Cert.PairIdeal.defs _ _).mono (fun _ h => ⟨fun c => ⟨h.2.1 c 0, h.2.1 c 1, h.2.1 c 2, h.2.1 c 3, h.2.1 c 4, h.2.1 c 5, h.2.1 c 6, h.2.1 c 7⟩, h.2.2⟩)
    (ends (F := Ideal) m ρ)

theorem frame_ref_ideal : Cert.quiescent_PairRefIdeal := fun m ρ _ =>
  (θ_run Cert.PairRefIdeal.defs _ _).mono (fun r h => ⟨fun c => (h c).2.2.2.2.2.2.2.2, sem_eq_zero_of_no_sems (by decide) r.2⟩)
    (Cert.PairRefIdeal.Value.run (F := Ideal) m ρ)

theorem frame_ref : Cert.quiescent_PairRef := fun m ρ _ =>
  (θ_run Cert.PairRefIdeal.defs _ _).mono (fun r h => ⟨fun c => (h c).2.2.2.2.2.2.2.2, sem_eq_zero_of_no_sems (by decide) r.2⟩)
    (Cert.PairRefIdeal.Value.run (F := Bits) m ρ)

theorem bitexact : Cert.bitexact_Pair_PairRef := fun m ρ m' ρ' _ hm => ⟨_, _, _, _, _, _, _, _, values (F := Bits) m m' ρ ρ' hm⟩

theorem algebraic : Cert.algebraic_PairIdeal_PairRefIdeal := fun m ρ m' ρ' _ hm => ⟨_, _, _, _, _, _, _, _, values (F := Ideal) m m' ρ ρ' hm⟩

end Cert.Proof.Pair
-- ==== Proof.Seat.lean ====
/-
# Windows of a stack of blocks

A stack of blocks is an array `n × A × b`. A copy into it, or out of it, goes through `h` rows of one block, the unit
axis dropped (`seat`).
-/
module

public import proofs.«01_k».proof.Proof.Share
public import Idealize.ShloMosaic.Lib.Pipeline.Value
public import Idealize.ShloMosaic.Lib.Pointwise.Index
public import Idealize.ShloMosaic.Lib.Pointwise.Reshape
public import Idealize.ShloMosaic.Lib.ValueLayout
public import Idealize.ShloMosaic.Lib.ViewIndex

@[expose] public section

noncomputable section

namespace Cert.Moves

open Idealize.ShloMosaic Idealize.ShloMosaic.TcCoe

variable {sig : RefSig} {Val : EltTy → Type} {n A h h' b : ℕ} {e : EltTy}

/-- `h` rows of one block of a stack. -/
abbrev seat (v : Memref sig .tc .hbm ⟨3, ![n, A, b]⟩ e) (off : Fin 3 → ℕ)
    (inb : ∀ a, off a + (⟨3, ![1, h, b]⟩ : Shape).size a ≤ (⟨3, ![n, A, b]⟩ : Shape).size a)
    (sq : (⟨3, ![1, h, b]⟩ : Shape).Squeezes ⟨2, ![h, b]⟩) : Memref sig .tc .hbm ⟨2, ![h, b]⟩ e :=
  (v.slice (Rect.unit (s := ⟨3, ![n, A, b]⟩) off (⟨3, ![1, h, b]⟩ : Shape).size inb) (fun _ => rfl)).squeeze ⟨2, ![h, b]⟩ sq

theorem seat_read (v : Memref sig .tc .hbm ⟨3, ![n, A, b]⟩ e) (off : Fin 3 → ℕ)
    (inb : ∀ a, off a + (⟨3, ![1, h, b]⟩ : Shape).size a ≤ (⟨3, ![n, A, b]⟩ : Shape).size a)
    (sq : (⟨3, ![1, h, b]⟩ : Shape).Squeezes ⟨2, ![h, b]⟩) (f : v.view.ty.Contents Val)
    (p : Fin h) (q : Fin b) (i : (⟨3, ![n, A, b]⟩ : Shape).Idx)
    (h0 : (i 0).val = off 0) (h1 : (i 1).val = off 1 + p.val) (h2 : (i 2).val = off 2 + q.val) :
    (seat v off inb sq).view.read Val f (ix2 p q) = v.view.read Val f i := by
  show v.view.read Val f ((Rect.unit (s := ⟨3, ![n, A, b]⟩) off (⟨3, ![1, h, b]⟩ : Shape).size inb).emb
    (Shape.reshapeEquiv (s := ⟨3, ![1, h, b]⟩) (s' := ⟨2, ![h, b]⟩) sq.numel_eq (ix2 p q))) = _
  rw [show Shape.reshapeEquiv (s := ⟨3, ![1, h, b]⟩) (s' := ⟨2, ![h, b]⟩) sq.numel_eq (ix2 p q) = ix3 (⟨0, Nat.one_pos⟩ : Fin 1) p q from
    Shape.reshapeEquiv_eq_of_rowMajor _ (by
      rw [Shape.rowMajor_val_three, Shape.rowMajor_val_two]
      show ((0 * h + p.val) * b + q.val) = p.val * b + q.val
      simp only [Nat.zero_mul, Nat.zero_add])]
  refine congrArg _ (funext fun a => Fin.ext ?_)
  match a with
  | ⟨0, _⟩ => show off 0 + 1 * 0 = (i 0).val; omega
  | ⟨1, _⟩ => show off 1 + 1 * p.val = (i 1).val; omega
  | ⟨2, _⟩ => show off 2 + 1 * q.val = (i 2).val; omega

theorem seat_disjoint (v : Memref sig .tc .hbm ⟨3, ![n, A, b]⟩ e) (off off' : Fin 3 → ℕ)
    (inb : ∀ a, off a + (⟨3, ![1, h, b]⟩ : Shape).size a ≤ (⟨3, ![n, A, b]⟩ : Shape).size a)
    (inb' : ∀ a, off' a + (⟨3, ![1, h', b]⟩ : Shape).size a ≤ (⟨3, ![n, A, b]⟩ : Shape).size a)
    (sq : (⟨3, ![1, h, b]⟩ : Shape).Squeezes ⟨2, ![h, b]⟩) (sq' : (⟨3, ![1, h', b]⟩ : Shape).Squeezes ⟨2, ![h', b]⟩)
    (hd : off 0 ≠ off' 0 ∨ off 1 + h ≤ off' 1 ∨ off' 1 + h' ≤ off 1) :
    Disjoint ((seat v off inb sq).view.set : Finset v.view.ty.Idx) (seat v off' inb' sq').view.set := by
  rw [Memref.set_view_squeeze, Memref.set_view_squeeze]
  refine View.disjoint_slice (v := v.view) ?_
  rcases hd with hd | hd
  · refine Rect.disjoint_of_axis _ _ 0 fun j hj j' hj' => ?_
    have hj : j < 1 := hj
    have hj' : j' < 1 := hj'
    show off 0 + 1 * j ≠ off' 0 + 1 * j'
    omega
  · refine Rect.disjoint_of_axis _ _ 1 fun j hj j' hj' => ?_
    have hj : j < h := hj
    have hj' : j' < h' := hj'
    show off 1 + 1 * j ≠ off' 1 + 1 * j'
    omega

end Cert.Moves
-- ==== Proof.ChipsCopies.lean ====
/-
# The exchange of the sums between the chips: its copies

A core has, for each of the four chips, a block of each of the eight sums. It sends each of the three other chips' same
cores its block, which receives it in its result, at the place of the sender among its three.
-/
module

public import proofs.«01_k».proof.Proof.Seat
public import proofs.«01_k».proof.Proof.Gen.ChipsIdeal.Launch
public import proofs.«01_k».proof.Proof.Gen.ChipsIdeal.Points
public import proofs.«01_k».proof.Proof.Gen.ChipsIdeal.Skeleton

@[expose] public section

noncomputable section

namespace Cert.ChipsIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)
open Idealize.ShloMosaic.Pipeline
open Cert.Moves
open Facts₀ Facts

/-- The same core of the other three chips. -/
def other : Fin 3 → Dev nD → Dev nD
  | 0, c => ⟨(c.val + 4) % 8, by show _ < 8; omega⟩
  | 1, c => ⟨c.val / 4 * 4 + (c.val + 2) % 4, by have h : c.val < 8 := c.isLt; show _ < 8; omega⟩
  | 2, c => ⟨(c.val + 4) % 8 / 4 * 4 + (c.val + 2) % 4, by show _ < 8; omega⟩

theorem other_other (k : Fin 3) (c : Dev nD) : other k (other k c) = c := by revert k c; decide

/-- The places of the three in a result. -/
abbrev slot (k : Fin 3) : Fin 3 → ℕ := ![k.val, 0, 0]
theorem slot_inb {h b : ℕ} (k : Fin 3) (a : Fin 3) : slot k a + (⟨3, ![1, h, b]⟩ : Shape).size a ≤ (⟨3, ![3, h, b]⟩ : Shape).size a := by
  have := k.isLt
  match a with
  | ⟨0, _⟩ => show k.val + 1 ≤ 3; omega
  | ⟨1, _⟩ => show 0 + h ≤ h; omega
  | ⟨2, _⟩ => show 0 + b ≤ b; omega

/-- One sum: its blocks, the result, which block goes to each chip. -/
structure Arr where
  h : ℕ
  b : ℕ
  pos : 0 < (⟨2, ![h, b]⟩ : Shape).numel
  a : Memref sig .tc .hbm ⟨3, ![4, h, b]⟩ .bf16
  r : Memref sig .tc .hbm ⟨3, ![3, h, b]⟩ .bf16
  sc : r.view.ref.isScScratch = false
  sq : (⟨3, ![1, h, b]⟩ : Shape).Squeezes ⟨2, ![h, b]⟩
  off : Fin 3 → Dev nD → Fin 3 → ℕ
  off_inb : ∀ k c a, off k c a + (⟨3, ![1, h, b]⟩ : Shape).size a ≤ (⟨3, ![4, h, b]⟩ : Shape).size a
  off_eq : ∀ k c, off k c = ![(other k c).val / 2, 0, 0]
  peer : Fin 3 → Dev nD → Dev nD
  peer_eq : ∀ k c, peer k c = other k c
  wsrc : ∀ k c, (seat a (off k c) (off_inb k c) sq).view.WordExact
  wdst : ∀ k, (seat r (slot k) (slot_inb k) sq).view.WordExact

def Arr.send (x : Arr) (k : Fin 3) (c : Dev nD) : Xfer sig :=
  ⟨⟨2, ![x.h, x.b]⟩, .bf16, seat x.a (x.off k c) (x.off_inb k c) x.sq, seat x.r (slot k) (slot_inb k) x.sq, x.wsrc k c, x.wdst k, x.sc, x.pos⟩

def cols (a : Memref sig .tc .hbm S4x1024x1408 .bf16) (ha : a.IsWhole) (r : Memref sig .tc .hbm S3x1024x1408 .bf16) (hr : r.IsWhole)
    (sc : r.view.ref.isScScratch = false) (peer : Fin 3 → Dev nD → Dev nD) (peer_eq : ∀ k c, peer k c = other k c) : Arr where
  h := 1024
  b := 1408
  pos := by decide
  a := a
  r := r
  sc := sc
  sq := squeezes_S1x1024x1408_S1024x1408
  off
    | 0 => k0_off1
    | 1 => k0_off2
    | 2 => k0_off3
  off_inb
    | 0 => k0_off1_inb
    | 1 => k0_off2_inb
    | 2 => k0_off3_inb
  off_eq := by decide +kernel
  peer := peer
  peer_eq := peer_eq
  wsrc
    | 0, c => (ha.wordExact_slice rfl _ (k0_off1_wordsbf16 c)).reshape _ _
    | 1, c => (ha.wordExact_slice rfl _ (k0_off2_wordsbf16 c)).reshape _ _
    | 2, c => (ha.wordExact_slice rfl _ (k0_off3_wordsbf16 c)).reshape _ _
  wdst
    | 0 => (hr.wordExact_slice rfl _ wordsbf16_S3x1024x1408_S1x1024x1408_0_0_0).reshape _ _
    | 1 => (hr.wordExact_slice rfl _ wordsbf16_S3x1024x1408_S1x1024x1408_1_0_0).reshape _ _
    | 2 => (hr.wordExact_slice rfl _ wordsbf16_S3x1024x1408_S1x1024x1408_2_0_0).reshape _ _

def down (a : Memref sig .tc .hbm S4x704x2048 .bf16) (ha : a.IsWhole) (r : Memref sig .tc .hbm S3x704x2048 .bf16) (hr : r.IsWhole)
    (sc : r.view.ref.isScScratch = false) (peer : Fin 3 → Dev nD → Dev nD) (peer_eq : ∀ k c, peer k c = other k c) : Arr where
  h := 704
  b := 2048
  pos := by decide
  a := a
  r := r
  sc := sc
  sq := squeezes_S1x704x2048_S704x2048
  off
    | 0 => k0_off4
    | 1 => k0_off5
    | 2 => k0_off6
  off_inb
    | 0 => k0_off4_inb
    | 1 => k0_off5_inb
    | 2 => k0_off6_inb
  off_eq := by decide +kernel
  peer := peer
  peer_eq := peer_eq
  wsrc
    | 0, c => (ha.wordExact_slice rfl _ (k0_off4_wordsbf16 c)).reshape _ _
    | 1, c => (ha.wordExact_slice rfl _ (k0_off5_wordsbf16 c)).reshape _ _
    | 2, c => (ha.wordExact_slice rfl _ (k0_off6_wordsbf16 c)).reshape _ _
  wdst
    | 0 => (hr.wordExact_slice rfl _ wordsbf16_S3x704x2048_S1x704x2048_0_0_0).reshape _ _
    | 1 => (hr.wordExact_slice rfl _ wordsbf16_S3x704x2048_S1x704x2048_1_0_0).reshape _ _
    | 2 => (hr.wordExact_slice rfl _ wordsbf16_S3x704x2048_S1x704x2048_2_0_0).reshape _ _

def win (a : Memref sig .tc .hbm S4x1024x1280 .bf16) (ha : a.IsWhole) (r : Memref sig .tc .hbm S3x1024x1280 .bf16) (hr : r.IsWhole)
    (sc : r.view.ref.isScScratch = false) (peer : Fin 3 → Dev nD → Dev nD) (peer_eq : ∀ k c, peer k c = other k c) : Arr where
  h := 1024
  b := 1280
  pos := by decide
  a := a
  r := r
  sc := sc
  sq := squeezes_S1x1024x1280_S1024x1280
  off
    | 0 => k0_off7
    | 1 => k0_off8
    | 2 => k0_off9
  off_inb
    | 0 => k0_off7_inb
    | 1 => k0_off8_inb
    | 2 => k0_off9_inb
  off_eq := by decide +kernel
  peer := peer
  peer_eq := peer_eq
  wsrc
    | 0, c => (ha.wordExact_slice rfl _ (k0_off7_wordsbf16 c)).reshape _ _
    | 1, c => (ha.wordExact_slice rfl _ (k0_off8_wordsbf16 c)).reshape _ _
    | 2, c => (ha.wordExact_slice rfl _ (k0_off9_wordsbf16 c)).reshape _ _
  wdst
    | 0 => (hr.wordExact_slice rfl _ wordsbf16_S3x1024x1280_S1x1024x1280_0_0_0).reshape _ _
    | 1 => (hr.wordExact_slice rfl _ wordsbf16_S3x1024x1280_S1x1024x1280_1_0_0).reshape _ _
    | 2 => (hr.wordExact_slice rfl _ wordsbf16_S3x1024x1280_S1x1024x1280_2_0_0).reshape _ _

def wout (a : Memref sig .tc .hbm S4x256x2048 .bf16) (ha : a.IsWhole) (r : Memref sig .tc .hbm S3x256x2048 .bf16) (hr : r.IsWhole)
    (sc : r.view.ref.isScScratch = false) (peer : Fin 3 → Dev nD → Dev nD) (peer_eq : ∀ k c, peer k c = other k c) : Arr where
  h := 256
  b := 2048
  pos := by decide
  a := a
  r := r
  sc := sc
  sq := squeezes_S1x256x2048_S256x2048
  off
    | 0 => k0_off10
    | 1 => k0_off11
    | 2 => k0_off12
  off_inb
    | 0 => k0_off10_inb
    | 1 => k0_off11_inb
    | 2 => k0_off12_inb
  off_eq := by decide +kernel
  peer := peer
  peer_eq := peer_eq
  wsrc
    | 0, c => (ha.wordExact_slice rfl _ (k0_off10_wordsbf16 c)).reshape _ _
    | 1, c => (ha.wordExact_slice rfl _ (k0_off11_wordsbf16 c)).reshape _ _
    | 2, c => (ha.wordExact_slice rfl _ (k0_off12_wordsbf16 c)).reshape _ _
  wdst
    | 0 => (hr.wordExact_slice rfl _ wordsbf16_S3x256x2048_S1x256x2048_0_0_0).reshape _ _
    | 1 => (hr.wordExact_slice rfl _ wordsbf16_S3x256x2048_S1x256x2048_1_0_0).reshape _ _
    | 2 => (hr.wordExact_slice rfl _ wordsbf16_S3x256x2048_S1x256x2048_2_0_0).reshape _ _

/-- Whom each block goes to. -/
def peerOf : Fin 8 → Fin 3 → Dev nD → Dev nD
  | 0, 0, c => ⟨k0_dev1 c, k0_dev1_lt c⟩
  | 0, 1, c => ⟨k0_dev2 c, k0_dev2_lt c⟩
  | 0, 2, c => ⟨k0_dev3 c, k0_dev3_lt c⟩
  | 1, 0, c => ⟨k0_dev4 c, k0_dev4_lt c⟩
  | 1, 1, c => ⟨k0_dev5 c, k0_dev5_lt c⟩
  | 1, 2, c => ⟨k0_dev6 c, k0_dev6_lt c⟩
  | 2, 0, c => ⟨k0_dev7 c, k0_dev7_lt c⟩
  | 2, 1, c => ⟨k0_dev8 c, k0_dev8_lt c⟩
  | 2, 2, c => ⟨k0_dev9 c, k0_dev9_lt c⟩
  | 3, 0, c => ⟨k0_dev10 c, k0_dev10_lt c⟩
  | 3, 1, c => ⟨k0_dev11 c, k0_dev11_lt c⟩
  | 3, 2, c => ⟨k0_dev12 c, k0_dev12_lt c⟩
  | 4, 0, c => ⟨k0_dev13 c, k0_dev13_lt c⟩
  | 4, 1, c => ⟨k0_dev14 c, k0_dev14_lt c⟩
  | 4, 2, c => ⟨k0_dev15 c, k0_dev15_lt c⟩
  | 5, 0, c => ⟨k0_dev16 c, k0_dev16_lt c⟩
  | 5, 1, c => ⟨k0_dev17 c, k0_dev17_lt c⟩
  | 5, 2, c => ⟨k0_dev18 c, k0_dev18_lt c⟩
  | 6, 0, c => ⟨k0_dev19 c, k0_dev19_lt c⟩
  | 6, 1, c => ⟨k0_dev20 c, k0_dev20_lt c⟩
  | 6, 2, c => ⟨k0_dev21 c, k0_dev21_lt c⟩
  | 7, 0, c => ⟨k0_dev22 c, k0_dev22_lt c⟩
  | 7, 1, c => ⟨k0_dev23 c, k0_dev23_lt c⟩
  | 7, 2, c => ⟨k0_dev24 c, k0_dev24_lt c⟩
theorem peerOf_eq : ∀ i k c, peerOf i k c = other k c := by decide +kernel

def arr : Fin 8 → Arr
  | 0 => cols (Memref.whole main_arg0) (Memref.isWhole_whole _) (Memref.whole main_v1_0) (Memref.isWhole_whole _) rfl (peerOf 0) (peerOf_eq 0)
  | 1 => cols (Memref.whole main_arg1) (Memref.isWhole_whole _) (Memref.whole main_v1_1) (Memref.isWhole_whole _) rfl (peerOf 1) (peerOf_eq 1)
  | 2 => down (Memref.whole main_arg2) (Memref.isWhole_whole _) (Memref.whole main_v1_2) (Memref.isWhole_whole _) rfl (peerOf 2) (peerOf_eq 2)
  | 3 => win (Memref.whole main_arg3) (Memref.isWhole_whole _) (Memref.whole main_v1_3) (Memref.isWhole_whole _) rfl (peerOf 3) (peerOf_eq 3)
  | 4 => wout (Memref.whole main_arg4) (Memref.isWhole_whole _) (Memref.whole main_v1_4) (Memref.isWhole_whole _) rfl (peerOf 4) (peerOf_eq 4)
  | 5 => cols (Memref.whole main_arg5) (Memref.isWhole_whole _) (Memref.whole main_v1_5) (Memref.isWhole_whole _) rfl (peerOf 5) (peerOf_eq 5)
  | 6 => cols (Memref.whole main_arg6) (Memref.isWhole_whole _) (Memref.whole main_v1_6) (Memref.isWhole_whole _) rfl (peerOf 6) (peerOf_eq 6)
  | 7 => down (Memref.whole main_arg7) (Memref.isWhole_whole _) (Memref.whole main_v1_7) (Memref.isWhole_whole _) rfl (peerOf 7) (peerOf_eq 7)

end Cert.ChipsIdeal.Run
-- ==== Proof.Chips.lean ====
/-
# The exchange of the sums between the chips: the run

Each device starts its twenty-four copies, and then waits for each of them and for the one it receives at its place.
-/
module

public import proofs.«01_k».proof.Proof.ChipsCopies
public import proofs.«01_k».proof.Proof.Gen.ChipsIdeal.Launch
public import proofs.«01_k».proof.Proof.Gen.ChipsIdeal.Points
public import proofs.«01_k».proof.Proof.Gen.ChipsIdeal.Skeleton
public import Mathlib.Data.Fintype.Sum
public import Mathlib.Data.Fintype.Basic
public import Mathlib.Data.Fintype.Prod

@[expose] public section

noncomputable section

namespace Cert.ChipsIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)
open Idealize.ShloMosaic.Pipeline
open Cert.Moves
open Facts₀ Facts

variable {F : FTy → Type} [FloatOps F]

local notation "𝕄" => MT nD τ sig Unit (Elt F) ℕ (UM nD τ sig) ℕ

/-! ## The copies and their semaphores -/

abbrev Far : Type := Fin 8 × Fin 3

def xf (t : Far) (c : Dev nD) : Xfer sig := (arr t.1).send t.2 c
def peer (t : Far) (c : Dev nD) : Dev nD := (arr t.1).peer t.2 c

theorem peer_peer (t : Far) (c : Dev nD) : peer t (peer t c) = c := by
  show (arr t.1).peer t.2 ((arr t.1).peer t.2 c) = c
  rw [(arr t.1).peer_eq, (arr t.1).peer_eq, other_other]

def at24 (a : DmaSems sig S24) (x : Far) : DmaSem sig :=
  ((a.slice (Rect.unit (s := S24) ![3 * x.1.val + x.2.val] S1.size
    (fun a => by have := x.1.isLt; have := x.2.isLt; match a with | ⟨0, _⟩ => show 3 * x.1.val + x.2.val + 1 ≤ 24; omega))).squeeze S_ squeezes_S1_S_).sem

def amount (t : Far) : ℕ := (xf t 0).dst.view.dmaCredit
theorem amount_eq (t : Far) (c : Dev nD) : (xf t c).dst.view.dmaCredit = amount t := by
  rcases t with ⟨i, k⟩
  fin_cases i <;> rfl

variable (m : Mem0 nD τ sig (Elt F))

def plan : Plan nD τ sig (Elt F) Far Empty where
  xf := xf
  peer := peer
  peer_peer := peer_peer
  send := at24 cc0_scratch0
  recv := at24 cc0_scratch1
  lf u := u.elim
  loc u := u.elim
  n := amount
  n_eq := amount_eq
  ln u := u.elim
  ln_eq u := u.elim
  rank _ := 1
  share t := shareTok fullShare 3 t.2
  lshare u := u.elim
  src t c := m ((xf t c).src.view.loc (c.tc : Thread nD τ))
  old t c := m ((xf t c).dst.view.loc ((peer t c).tc : Thread nD τ))
  lsrc u := u.elim
  lold u := u.elim

/-- The semaphore of each cell. -/
def semOf : Key Far Empty → DmaSem sig
  | .inl t => at24 cc0_scratch0 t
  | .inr (.inl t) => at24 cc0_scratch1 t
  | .inr (.inr u) => u.elim

set_option synthInstance.maxHeartbeats 400000

theorem semOf_inj (a b : Key Far Empty) (h : semOf a = semOf b) : a = b := by
  have key : ∀ a b : Key Far Empty, (!decide (semOf a = semOf b) || decide (a = b)) = true := by decide +kernel
  have k := key a b
  rw [decide_eq_true h] at k
  exact of_decide_eq_true k

theorem osem_eq (k : Key Far Empty) : (plan m).osem k = .dma (semOf k) := by
  rcases k with t | t | u
  · rfl
  · rfl
  · exact u.elim

theorem osem_injective : Function.Injective (plan m).osem := by
  intro a b hab
  rw [osem_eq, osem_eq] at hab
  exact semOf_inj a b (SemLoc.dma.inj hab)

theorem semOf_scoped : ∀ k, (SemLoc.dma (semOf k) : SemLoc sig).isScoped .tc = true := by decide +kernel

theorem ownSems : OwnSemFacts (cfgs 0).spec (plan m).osem where
  isScoped k := by rw [osem_eq]; exact semOf_scoped k
  inj := osem_injective m
  disj _ w := w.elim0

/-! ## The waits -/

def argRef : Fin 8 → Ref sig .tc
  | 0 => main_arg0 | 1 => main_arg1 | 2 => main_arg2 | 3 => main_arg3 | 4 => main_arg4 | 5 => main_arg5 | 6 => main_arg6 | 7 => main_arg7
def resRef : Fin 8 → Ref sig .tc
  | 0 => main_v1_0 | 1 => main_v1_1 | 2 => main_v1_2 | 3 => main_v1_3 | 4 => main_v1_4 | 5 => main_v1_5 | 6 => main_v1_6 | 7 => main_v1_7
def plane : Fin 8 → Shape
  | 0 => S1024x1408 | 1 => S1024x1408 | 2 => S704x2048 | 3 => S1024x1280 | 4 => S256x2048 | 5 => S1024x1408 | 6 => S1024x1408 | 7 => S704x2048

theorem arr_a_ref (i : Fin 8) : (arr i).a.view.ref = argRef i := by fin_cases i <;> rfl
theorem arr_r_ref (i : Fin 8) : (arr i).r.view.ref = resRef i := by fin_cases i <;> rfl
theorem arg_plane (i : Fin 8) : (argRef i).HasMemref (plane i) .bf16 := by
  have h := ((arr i).send 0 0).src.hasMemref
  fin_cases i <;> exact h
theorem res_plane (i : Fin 8) : (resRef i).HasMemref (plane i) .bf16 := by
  have h := ((arr i).send 0 0).dst.hasMemref
  fin_cases i <;> exact h
theorem arg_credit (t : Far) : (argRef t.1).dmaCredit (plane t.1) .bf16 = amount t := by
  rcases t with ⟨i, k⟩
  fin_cases i <;> rfl
theorem res_credit (t : Far) : (resRef t.1).dmaCredit (plane t.1) .bf16 = amount t := by
  rcases t with ⟨i, k⟩
  fin_cases i <;> rfl

/-- The waits for a copy: that its source has been read, and that the one sent here has landed. -/
def sent (t : Far) : (plan m).WaitOp := ⟨.inl t, argRef t.1, plane t.1, .bf16, arg_plane t.1, arg_credit t⟩
def got (t : Far) : (plan m).WaitOp := ⟨.inr (.inl t), resRef t.1, plane t.1, .bf16, res_plane t.1, res_credit t⟩

/-! ## The order -/

def eight : List (Fin 8) := [0, 1, 2, 3, 4, 5, 6, 7]
def three : List (Fin 3) := [0, 1, 2]
def all : List Far := eight.flatMap fun i => three.map fun k => (i, k)

theorem all_nodup : all.Nodup := by decide +kernel
theorem mem_all : ∀ t, t ∈ all := by decide +kernel
theorem starts_nodup : (all.map (Sum.inl : Far → Far ⊕ Empty)).Nodup := by decide +kernel
theorem waits_perm : (all.flatMap fun t => [(Sum.inl t : Key Far Empty), .inr (.inl t)]).Perm
    ((all.map fun t => (Sum.inr (Sum.inl t) : Key Far Empty)) ++ all.map fun t => (Sum.inl t : Key Far Empty)) := by decide +kernel

def script : (plan m).Script where
  S := all.map Sum.inl
  Rl := []
  rl := []
  rest := all
  Wl := all.flatMap fun t => [sent m t, got m t]
  rl_eq := rfl
  recvs := all_nodup
  recvs_all := mem_all
  starts := starts_nodup
  starts_all := by
    rintro (t | u)
    · exact List.mem_append_left _ (List.mem_map.mpr ⟨t, mem_all t, rfl⟩)
    · exact u.elim
  waits := waits_perm
  keep _ _ := iprop(emp)
  relay _ _ h := absurd h List.not_mem_nil
  late _ h := absurd h List.not_mem_nil

end Cert.ChipsIdeal.Run
-- ==== Proof.ChipsBody.lean ====
/-
# The exchange of the sums between the chips: the body is its copies and waits
-/
module

public import proofs.«01_k».proof.Proof.Chips
public import proofs.«01_k».proof.Proof.Gen.ChipsIdeal.Launch
public import proofs.«01_k».proof.Proof.Gen.ChipsIdeal.Points
public import proofs.«01_k».proof.Proof.Gen.ChipsIdeal.Skeleton

@[expose] public section

noncomputable section

namespace Cert.ChipsIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)
open Idealize.ShloMosaic.Pipeline
open Cert.Moves
open Facts₀ Facts

variable {F : FTy → Type} [FloatOps F]

local notation "𝕄" => MT nD τ sig Unit (Elt F) ℕ (UM nD τ sig) ℕ

variable (m : Mem0 nD τ sig (Elt F))

theorem body_eq (t : Fin cfg0.N) : Gen.bodyAt0 (F := F) t = .op .deviceId fun d => (script (F := F) m).body d := by
  chain_rfl

end Cert.ChipsIdeal.Run
-- ==== Proof.ChipsRun.lean ====
/-
# The exchange of the sums between the chips: every run of it

Every device ends with, at each of the three places of its eight results, the block that one of the other chips had for
its chip; its sums are as they were, and every semaphore reads zero.
-/
module

public import proofs.«01_k».proof.Proof.ChipsBody
public import proofs.«01_k».proof.Proof.Gen.ChipsIdeal.Launch
public import proofs.«01_k».proof.Proof.Gen.ChipsIdeal.Points
public import proofs.«01_k».proof.Proof.Gen.ChipsIdeal.Skeleton

@[expose] public section

noncomputable section

namespace Cert.ChipsIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)
open Idealize.ShloMosaic.Pipeline
open Cert.Moves
open Facts₀ Facts

variable {F : FTy → Type} [FloatOps F]

local notation "𝕄" => MT nD τ sig Unit (Elt F) ℕ (UM nD τ sig) ℕ

variable (m : Mem0 nD τ sig (Elt F))

/-! ## Dealing the arrays out -/

namespace Arr

variable (x : Arr)

/-- The three places of a result. -/
theorem deal (d : Dev nD) : wholePts m x.r.view.ref fullShare d ⊢ (bigSepL three fun k => viewPts m (x.send k (x.peer k d)).dst fullShare d : sProp 𝕄) := by
  refine (deal_dst m x.r.view.ref d (fun k => x.send k (x.peer k d)) (fun _ => rfl) fun k k' h => ?_).trans ?_
  · exact seat_disjoint x.r (slot k) (slot k') (slot_inb k) (slot_inb k') x.sq x.sq (.inl fun e => h (Fin.ext e))
  · rw [bigSep_univ_eq_bigSepL three (by decide) (by decide)]

/-- A sum, lent out to its three copies. -/
theorem lend (c : Dev nD) : wholePts m x.a.view.ref fullShare c
    ⊢ (iprop((bigSepL three fun k => viewPts m (x.send k c).src (shareTok fullShare 3 k) c) ∗ wholePts m x.a.view.ref (shareDrop fullShare 3) c) : sProp 𝕄) := by
  refine (deal_src (n := 3) m x.a.view.ref c (fun k => x.send k c) fun _ => rfl).trans ?_
  rw [bigSep_univ_eq_bigSepL three (by decide) (by decide)]

end Arr

abbrev keep0 (c : Dev nD) : sProp 𝕄 := rests m (eight.map argRef) (shareDrop fullShare 3) c

theorem rest_eq (c : Dev nD) : (unscopedRest (cfgs 0).spec c (fun b => m ((c.tc : Thread nD τ).loc b)) : sProp 𝕄)
    = iprop((bigSepL eight fun i => wholePts m (argRef i) fullShare c) ∗ bigSepL eight fun i => wholePts m (resRef i) fullShare c) := by
  rw [unscopedRest_eq_of_list (cfgs 0).spec c _ (eight.map argRef ++ eight.map resRef) (by decide) (by decide), bigSepL_append, bigSepL_map, bigSepL_map]
  rfl

theorem all_cells (Φ : Far → sProp 𝕄) : bigSepL all Φ = bigSepL eight fun i => bigSepL three fun k => Φ (i, k) := by
  unfold all
  rw [bigSepL_flatMap]
  exact congrArg _ (funext fun i => bigSepL_map _ _ _)

theorem deal_device (c : Dev nD) : (unscopedRest (cfgs 0).spec c (fun b => m ((c.tc : Thread nD τ).loc b)) : sProp 𝕄)
    ⊢ iprop((bigSepL all fun t => (plan m).srcPts t c) ∗ keep0 m c ∗ bigSepL all fun t => (plan m).inPts m t c) := by
  rw [rest_eq]
  have h1 (i : Fin 8) : wholePts m (argRef i) fullShare c
      ⊢ (iprop((bigSepL three fun k => (plan m).srcPts (i, k) c) ∗ wholePts m (argRef i) (shareDrop fullShare 3) c) : sProp 𝕄) := by
    rw [← arr_a_ref]
    exact (arr i).lend m c
  have h2 (i : Fin 8) : wholePts m (resRef i) fullShare c ⊢ (bigSepL three fun k => (plan m).inPts m (i, k) c : sProp 𝕄) := by
    rw [← arr_r_ref]
    exact (arr i).deal m c
  have hA : (bigSepL eight fun i => wholePts m (argRef i) fullShare c : sProp 𝕄)
      ⊢ iprop((bigSepL all fun t => (plan m).srcPts t c) ∗ keep0 m c) := by
    unfold keep0 rests
    rw [all_cells, bigSepL_map]
    exact (bigSepL_mono fun i _ => h1 i).trans (bigSepL_unsep _ _ _)
  have hR : (bigSepL eight fun i => wholePts m (resRef i) fullShare c : sProp 𝕄) ⊢ bigSepL all fun t => (plan m).inPts m t c := by
    rw [all_cells]
    exact bigSepL_mono fun i _ => h2 i
  iintro ⟨HA, HR⟩
  ihave HA' := hA $$ HA
  icases HA' with ⟨HS, HK⟩
  isplitl [HS]; · iexact HS
  isplitl [HK]; · iexact HK
  iapply hR; iexact HR

theorem deal_all : (bigSep Finset.univ fun c : Dev nD => unscopedRest (cfgs 0).spec c (fun b => m ((c.tc : Thread nD τ).loc b)))
    ⊢ (bigSep Finset.univ ((script m).data (keep0 m)) : sProp 𝕄) := by
  refine (bigSep_mono fun c _ => deal_device m c).trans ?_
  rw [bigSep_sep', bigSep_sep', (plan m).swap (fun _ _ => rfl) all, ← bigSep_sep', ← bigSep_sep']
  refine bigSep_mono fun c _ => ?_
  unfold Plan.Script.data
  show _ ⊢ iprop((bigSepL (all.map Sum.inl) ((plan m).sdata c)) ∗ bigSepL [] _ ∗ keep0 m c)
  rw [bigSepL_map, bigSepL_nil]
  iintro ⟨HS, HK, HD⟩
  isplitl [HS HD]
  · iapply (show _ ⊢ (bigSepL all fun t => (plan m).sdata c (.inl t) : sProp 𝕄) from bigSepL_sep all (fun t => (plan m).srcPts t c) fun t => (plan m).dstPts t c)
    isplitl [HS]
    · iexact HS
    · iexact HD
  isplitr; · iempintro
  iexact HK

/-! ## The run -/

theorem sem_zero (s : MemSt nD τ sig (Elt F)) (h : ∀ g : GSem nD τ sig, (g.1.2 ≠ .tc ∨ g.2.isScoped .tc = true) → s.sem g = 0) : s.sem = fun _ => 0 :=
  have hsc : ∀ x : SemLoc sig, x.isScoped .tc = true := by decide +kernel
  funext fun g => h g (.inr (hsc g.2))

/-- What every run of the exchange ends with. -/
def Ends (r : PUnit × MemSt nD τ sig (Elt F)) : Prop :=
  (∀ t c, (plan m).Landed t c r.2) ∧ (∀ (c : Dev nD) i, r.2.mem ((c.tc : Thread nD τ).loc (argRef i)) = m ((c.tc : Thread nD τ).loc (argRef i)))
    ∧ r.2.sem = fun _ => 0

set_option maxRecDepth 20000 in
theorem ends (ρ : Dev nD → PrngReg) : θ_run (defs (F := F)) (onTc (τ := τ) (main (F := F))) ⟨m, fun _ => 0, ρ⟩ (Ends m) := by
  refine run_plan cfgs Gen.cellOf_inj (fun p => by fin_cases p; exact ⟨fun w => w.elim0⟩) defs₀ Variants.none (script m) (osem_injective m)
    Gen.winFacts0 (ownSems m) Gen.N_0 m ρ main (fun c => rfl) (fun c t Q => ?_) (keep0 m) (deal_all m)
    (fun _ _ _ => True) (fun c s => ∀ r ∈ eight.map argRef, s.mem ((c.tc : Thread nD τ).loc r) = m ((c.tc : Thread nD τ).loc r))
    (fun _ _ _ => by iintro -; ipureintro; trivial) (fun c s => rests_read m _ _ c s) fun s hl _ _ hk hz => ?_
  · unfold Plan.wpAt
    rw [← body_eq m t]
    exact (show ∀ X : sProp 𝕄, X ⊢ X from fun _ => .rfl) _
  · have hmem (i : Fin 8) : i ∈ eight := by revert i; decide
    exact ⟨fun t c => hl t (mem_all t) c, fun c i => hk c _ (List.mem_map.mpr ⟨i, hmem i, rfl⟩), sem_zero s hz⟩

end Cert.ChipsIdeal.Run
-- ==== Proof.Pick.lean ====
/-
# Planes picked from a stack

The reference of the exchange between the chips picks, from the stack of all devices' planes, one plane for each device
and each other chip, by a table of 24 rows. What it picks is read here at an index.
-/
module

public import Idealize.ShloMosaic.Lib.Layout
public import Idealize.ShloMosaic.Lib.ValueIdxCore
public import Idealize.ShloMosaic.Lib.Pointwise.Index
public import Idealize.ShloMosaic.Lib.ValueLayout

@[expose] public section

noncomputable section

namespace Cert.Pick

open Idealize.ShloMosaic

variable {α : Type} {N R h b : ℕ}

/-- Whole planes of a stack, by a column of rows. -/
abbrev planes (wf : GatherDims.WF ⟨3, ![N, h, b]⟩ ⟨2, ![R, 1]⟩ ⟨3, ![R, h, b]⟩ [1, 2] [0] [] [0] [] 1 ![1, h, b]) :
    GatherDims ⟨3, ![N, h, b]⟩ ⟨2, ![R, 1]⟩ ⟨3, ![R, h, b]⟩ where
  offsetDims := [1, 2]
  collapsedSliceDims := [0]
  operandBatchingDims := []
  startIndicesBatchingDims := []
  startIndexMap := [0]
  indexVectorDim := 1
  sliceSizes := ![1, h, b]
  wf := wf

theorem planes_apply {w : ℕ} (wf : GatherDims.WF ⟨3, ![N, h, b]⟩ ⟨2, ![R, 1]⟩ ⟨3, ![R, h, b]⟩ [1, 2] [0] [] [0] [] 1 ![1, h, b])
    (x : (⟨3, ![N, h, b]⟩ : Shape).Idx → α) (idx : IVec ⟨2, ![R, 1]⟩ w) (r : Fin R) (p : Fin h) (q : Fin b) (n : Fin N)
    (hn : (idx (ix2 r (0 : Fin 1))).toInt.toNat = n.val) :
    Host.gather (planes wf) x idx (ix3 r p q) = x (ix3 n p q) := by
  unfold Host.gather
  refine congrArg x (funext fun a => Fin.ext ?_)
  show (planes wf).start (ix3 r p q) idx a + (planes wf).batchCoord (ix3 r p q) a + (planes wf).offCoord (ix3 r p q) a = _
  rw [GatherDims.batchCoord_eq_zero _ _ _ List.not_mem_nil, Nat.add_zero]
  match a with
  | ⟨0, _⟩ =>
    rw [GatherDims.offCoord_eq_zero _ _ _ (fun hk => ((GatherDims.mem_sKept _ _).mp hk).1 (List.mem_singleton.mpr rfl)), Nat.add_zero]
    unfold GatherDims.start
    rw [dif_pos (show (⟨0, by decide⟩ : Fin 3) ∈ (planes wf).startIndexMap from List.mem_singleton.mpr rfl)]
    have e : (planes wf).siIdx (ix3 r p q) ⟨List.idxOf (⟨0, by decide⟩ : Fin 3) (planes wf).startIndexMap,
        List.idxOf_lt_length_iff.2 (List.mem_singleton.mpr rfl)⟩ = ix2 r (0 : Fin 1) := by
      funext u; refine Fin.ext ?_
      match u with
      | ⟨0, _⟩ => rfl
      | ⟨1, _⟩ => rfl
    rw [e, hn]
    show min n.val (N - 1) = n.val
    have := n.isLt
    omega
  | ⟨1, _⟩ => show 0 + p.val = p.val; omega
  | ⟨2, _⟩ => show 0 + q.val = q.val; omega

/-- The rows of a table, as printed: a negative one counts from the end. -/
def rows (lit : Fin 24 → BitVec 32) (hc : (⟨1, ![24]⟩ : Shape).BroadcastsInDim ⟨2, ![24, 1]⟩ ![0]) (hs : (⟨0, ![]⟩ : Shape).BroadcastsInDim ⟨1, ![24]⟩ ![]) :
    IVec ⟨2, ![24, 1]⟩ 32 :=
  broadcastInDim ⟨2, ![24, 1]⟩ ![0] hc (select
    (cmpi .slt (fun i => lit ((⟨1, ![24]⟩ : Shape).rowMajor i)) (broadcastInDim ⟨1, ![24]⟩ ![] hs (constantI ⟨0, ![]⟩ 32 0#32)))
    (addi (fun i => lit ((⟨1, ![24]⟩ : Shape).rowMajor i)) (broadcastInDim ⟨1, ![24]⟩ ![] hs (constantI ⟨0, ![]⟩ 32 32#32)))
    (fun i => lit ((⟨1, ![24]⟩ : Shape).rowMajor i)))

/-- The same core of another chip. -/
def away (c : Fin 8) (k : Fin 3) : ℕ :=
  match k with
  | 0 => (c.val + 4) % 8
  | 1 => c.val / 4 * 4 + (c.val + 2) % 4
  | 2 => (c.val + 4) % 8 / 4 * 4 + (c.val + 2) % 4

/-- The table: for each device and each other chip, the plane that the chip's same core has for the device's chip. -/
def Table (lit : Fin 24 → BitVec 32) : Prop :=
  ∀ (c : Fin 8) (k : Fin 3), lit ⟨c.val * 3 + k.val, by omega⟩ = BitVec.ofNat 32 (away c k * 4 + c.val / 2)

instance (lit : Fin 24 → BitVec 32) : Decidable (Table lit) :=
  inferInstanceAs (Decidable (∀ (c : Fin 8) (k : Fin 3), lit ⟨c.val * 3 + k.val, by omega⟩ = BitVec.ofNat 32 (away c k * 4 + c.val / 2)))

theorem away_lt : ∀ (c : Fin 8) (k : Fin 3), away c k * 4 + c.val / 2 < 32 := by decide
/-- A row, one of those counted from the end made plain. -/
abbrev row (v : BitVec 32) : BitVec 32 := Scalar.select (IntOp.cmpi .slt v 0#32) (IntOp.addi v 32#32) v

theorem small_row : ∀ n : Fin 32, (row (BitVec.ofNat 32 n.val)).toInt.toNat = n.val := by decide +kernel

theorem rows_apply (lit : Fin 24 → BitVec 32) (hc hs) (r : Fin 24) :
    rows lit hc hs (ix2 r (0 : Fin 1)) = row (lit r) := by
  unfold rows
  refine (broadcastInDim_apply _ hc _ _ (ix1 r) fun u => ?_).trans ?_
  · match u with
    | ⟨0, _⟩ => rfl
  have e : (⟨1, ![24]⟩ : Shape).rowMajor (ix1 r) = r := Fin.ext (Shape.rowMajor_val_one _)
  show row (lit ((⟨1, ![24]⟩ : Shape).rowMajor (ix1 r))) = _
  rw [e]

/-- The reference's result. -/
def picked (lit : Fin 24 → BitVec 32) (wf : GatherDims.WF ⟨3, ![32, h, b]⟩ ⟨2, ![24, 1]⟩ ⟨3, ![24, h, b]⟩ [1, 2] [0] [] [0] [] 1 ![1, h, b])
    (hc : (⟨1, ![24]⟩ : Shape).BroadcastsInDim ⟨2, ![24, 1]⟩ ![0]) (hs : (⟨0, ![]⟩ : Shape).BroadcastsInDim ⟨1, ![24]⟩ ![]) (x : (⟨3, ![32, h, b]⟩ : Shape).Idx → α) : (⟨3, ![24, h, b]⟩ : Shape).Idx → α :=
  Host.gather (planes wf) x (rows lit hc hs)

/-- A device whose planes are those that the other chips had for it holds its block of what is picked. -/
theorem block_picked {lit : Fin 24 → BitVec 32} (hl : Table lit) (wf hc hs) (x : (⟨3, ![32, h, b]⟩ : Shape).Idx → α) (c : Fin 8)
    (hT : Layout.Tiles ⟨3, ![4, h, b]⟩ ⟨3, ![32, h, b]⟩ 0 8) (hR : Layout.Tiles ⟨3, ![3, h, b]⟩ ⟨3, ![24, h, b]⟩ 0 8)
    (g : (⟨3, ![3, h, b]⟩ : Shape).Idx → α)
    (hg : ∀ (k : Fin 3) (p : Fin h) (q : Fin b), ∃ (d : Fin 8) (j : Fin 4), d.val = away c k ∧ j.val = c.val / 2
      ∧ g (ix3 k p q) = Layout.block ⟨3, ![4, h, b]⟩ ⟨3, ![32, h, b]⟩ 0 8 d x hT (ix3 j p q)) :
    g = Layout.block ⟨3, ![3, h, b]⟩ ⟨3, ![24, h, b]⟩ 0 8 c (picked lit wf hc hs x) hR := by
  funext i
  rw [eq_ix3 i]
  obtain ⟨d, j, hd, hj, e⟩ := hg (i 0) (i 1) (i 2)
  have i0 : (i 0).val < 3 := (i 0).isLt
  refine e.trans ?_
  show x (hT.idx d (ix3 j (i 1) (i 2))) = picked lit wf hc hs x (hR.idx c (ix3 (i 0) (i 1) (i 2)))
  have hr : hR.idx c (ix3 (i 0) (i 1) (i 2)) = ix3 (⟨c.val * 3 + (i 0).val, by omega⟩ : Fin 24) (i 1) (i 2) := by
    funext u; refine Fin.ext ?_
    match u with
    | ⟨0, _⟩ => rfl
    | ⟨1, _⟩ => rfl
    | ⟨2, _⟩ => rfl
  rw [hr]
  unfold picked
  refine Eq.trans ?_ (planes_apply wf x (rows lit hc hs) _ (i 1) (i 2) ⟨_, away_lt c (i 0)⟩ ?_).symm
  · refine congrArg x (funext fun u => Fin.ext ?_)
    match u with
    | ⟨0, _⟩ => show d.val * 4 + j.val = away c (i 0) * 4 + c.val / 2; rw [hd, hj]
    | ⟨1, _⟩ => rfl
    | ⟨2, _⟩ => rfl
  · rw [rows_apply, hl c (i 0)]
    exact small_row ⟨_, away_lt c (i 0)⟩

end Cert.Pick
-- ==== Proof.ChipsValue.lean ====
/-
# The exchange of the sums between the chips against its reference

What a device receives is its block of the reference's result, at any float interpretation.
-/
module

public import proofs.«01_k».proof.Proof.ChipsRun
public import proofs.«01_k».proof.Proof.Pick
public import proofs.«01_k».proof.Proof.Gen.ChipsRefIdeal.Run

@[expose] public section

noncomputable section

namespace Cert.ChipsIdeal.Run

open Idealize.ShloMosaic Idealize.ShloMosaic.TcCoe
open Idealize.SL.Sem
open Cert.Moves Cert.Pick

variable {F : FTy → Type} [FloatOps F]

theorem other_away : ∀ (k : Fin 3) (c : Dev nD), (other k c).val = away c k := by decide

variable (m : Mem0 nD τ sig (Elt F))

/-- A place of a result holds the block that the other chip's core had for this chip. -/
theorem Arr.received (x : Arr) (k : Fin 3) (c : Dev nD) (g : x.r.view.ref.ty.Contents (Elt F)) (f : x.a.view.ref.ty.Contents (Elt F))
    (h : (x.send k (x.peer k c)).dst.view.read (Elt F) g = (x.send k (x.peer k c)).src.view.read (Elt F) f)
    (j : Fin 4) (hj : j.val = c.val / 2) (p : Fin x.h) (q : Fin x.b) :
    x.r.view.read (Elt F) g (ix3 k p q) = x.a.view.read (Elt F) f (ix3 j p q) := by
  have e : x.off k (x.peer k c) = ![c.val / 2, 0, 0] := by rw [x.off_eq, x.peer_eq, other_other]
  refine (seat_read x.r (slot k) (slot_inb k) x.sq g p q (ix3 k p q) rfl (Nat.zero_add _).symm (Nat.zero_add _).symm).symm.trans ((congrFun h (ix2 p q)).trans ?_)
  exact seat_read x.a (x.off k (x.peer k c)) (x.off_inb k _) x.sq f p q (ix3 j p q) (by rw [e]; exact hj) (by rw [e]; exact (Nat.zero_add _).symm) (by rw [e]; exact (Nat.zero_add _).symm)

variable (s : MemSt nD τ sig (Elt F)) (hl : ∀ t c, (plan m).Landed t c s)

include hl in
theorem place (i : Fin 8) (c : Dev nD) (k : Fin 3) (p : Fin (arr i).h) (q : Fin (arr i).b) :
    ∃ (d : Dev nD) (j : Fin 4), d.val = away c k ∧ j.val = c.val / 2
      ∧ (arr i).r.view.read (Elt F) (s.mem ((arr i).r.view.loc (c.tc : Thread nD τ))) (ix3 k p q)
        = (arr i).a.view.read (Elt F) (m ((arr i).a.view.loc (d.tc : Thread nD τ))) (ix3 j p q) := by
  have h : ((arr i).send k ((arr i).peer k c)).dst.view.read (Elt F) (s.mem ((arr i).r.view.loc (((arr i).peer k ((arr i).peer k c)).tc : Thread nD τ)))
      = ((arr i).send k ((arr i).peer k c)).src.view.read (Elt F) (m ((arr i).a.view.loc (((arr i).peer k c).tc : Thread nD τ))) := hl (i, k) ((arr i).peer k c)
  have e : (arr i).peer k ((arr i).peer k c) = c := peer_peer (i, k) c
  rw [e] at h
  have hc : c.val < 8 := c.isLt
  exact ⟨(arr i).peer k c, ⟨c.val / 2, by omega⟩, by rw [(arr i).peer_eq]; exact other_away k c, rfl, (arr i).received k c _ _ h _ rfl p q⟩

/-- Three blocks that arrived are a block of the reference's result. -/
theorem planes_value {α : Type} {h b : ℕ} {lit : Fin 24 → BitVec 32} (hlit : Table lit) (c : Dev nD)
    (wf : GatherDims.WF ⟨3, ![32, h, b]⟩ ⟨2, ![24, 1]⟩ ⟨3, ![24, h, b]⟩ [1, 2] [0] [] [0] [] 1 ![1, h, b])
    (hc : (⟨1, ![24]⟩ : Shape).BroadcastsInDim ⟨2, ![24, 1]⟩ ![0]) (hs : (⟨0, ![]⟩ : Shape).BroadcastsInDim ⟨1, ![24]⟩ ![])
    {g : (⟨3, ![3, h, b]⟩ : Shape).Idx → α} {B : Dev nD → (⟨3, ![4, h, b]⟩ : Shape).Idx → α} {W : (⟨3, ![32, h, b]⟩ : Shape).Idx → α}
    (hT : Layout.Tiles ⟨3, ![4, h, b]⟩ ⟨3, ![32, h, b]⟩ 0 8) (hR : Layout.Tiles ⟨3, ![3, h, b]⟩ ⟨3, ![24, h, b]⟩ 0 8)
    (hB : ∀ d, B d = Layout.block ⟨3, ![4, h, b]⟩ ⟨3, ![32, h, b]⟩ 0 8 d W hT)
    (hg : ∀ (k : Fin 3) (p : Fin h) (q : Fin b), ∃ (d : Dev nD) (j : Fin 4), d.val = away c k ∧ j.val = c.val / 2 ∧ g (ix3 k p q) = B d (ix3 j p q)) :
    g = Layout.block ⟨3, ![3, h, b]⟩ ⟨3, ![24, h, b]⟩ 0 8 c (picked lit wf hc hs W) hR :=
  block_picked hlit wf hc hs W c hT hR g fun k p q => by
    obtain ⟨d, j, hd, hj, e⟩ := hg k p q
    exact ⟨d, j, hd, hj, e.trans (congrFun (hB d) _)⟩

variable (m' : Mem0 Cert.ChipsRefIdeal.nD Cert.ChipsRefIdeal.τ Cert.ChipsRefIdeal.sig (Elt F))

/-- The reference's arrays. -/
abbrev whole (r : Ref Cert.ChipsRefIdeal.sig .tc) := m' (((0 : Dev Cert.ChipsRefIdeal.nD).tc : Thread Cert.ChipsRefIdeal.nD Cert.ChipsRefIdeal.τ).loc r)

/-- Every device holds its block of the reference's arrays. -/
def Holds : Prop := ∀ c : Dev nD,
    m ((c.tc : Thread nD τ).loc main_arg0) = Layout.block ⟨3, ![4, 1024, 1408]⟩ ⟨3, ![32, 1024, 1408]⟩ 0 8 c (whole m' Cert.ChipsRefIdeal.main_arg0)
    ∧ m ((c.tc : Thread nD τ).loc main_arg1) = Layout.block ⟨3, ![4, 1024, 1408]⟩ ⟨3, ![32, 1024, 1408]⟩ 0 8 c (whole m' Cert.ChipsRefIdeal.main_arg1)
    ∧ m ((c.tc : Thread nD τ).loc main_arg2) = Layout.block ⟨3, ![4, 704, 2048]⟩ ⟨3, ![32, 704, 2048]⟩ 0 8 c (whole m' Cert.ChipsRefIdeal.main_arg2)
    ∧ m ((c.tc : Thread nD τ).loc main_arg3) = Layout.block ⟨3, ![4, 1024, 1280]⟩ ⟨3, ![32, 1024, 1280]⟩ 0 8 c (whole m' Cert.ChipsRefIdeal.main_arg3)
    ∧ m ((c.tc : Thread nD τ).loc main_arg4) = Layout.block ⟨3, ![4, 256, 2048]⟩ ⟨3, ![32, 256, 2048]⟩ 0 8 c (whole m' Cert.ChipsRefIdeal.main_arg4)
    ∧ m ((c.tc : Thread nD τ).loc main_arg5) = Layout.block ⟨3, ![4, 1024, 1408]⟩ ⟨3, ![32, 1024, 1408]⟩ 0 8 c (whole m' Cert.ChipsRefIdeal.main_arg5)
    ∧ m ((c.tc : Thread nD τ).loc main_arg6) = Layout.block ⟨3, ![4, 1024, 1408]⟩ ⟨3, ![32, 1024, 1408]⟩ 0 8 c (whole m' Cert.ChipsRefIdeal.main_arg6)
    ∧ m ((c.tc : Thread nD τ).loc main_arg7) = Layout.block ⟨3, ![4, 704, 2048]⟩ ⟨3, ![32, 704, 2048]⟩ 0 8 c (whole m' Cert.ChipsRefIdeal.main_arg7)

/-- The reference's tables. -/
theorem tables : Table Cert.ChipsRefIdeal.lit0 ∧ Table Cert.ChipsRefIdeal.lit1 ∧ Table Cert.ChipsRefIdeal.lit2 ∧ Table Cert.ChipsRefIdeal.lit3 ∧ Table Cert.ChipsRefIdeal.lit4 ∧ Table Cert.ChipsRefIdeal.lit5 ∧ Table Cert.ChipsRefIdeal.lit6 ∧ Table Cert.ChipsRefIdeal.lit7 := by
  refine ⟨?_, ?_, ?_, ?_, ?_, ?_, ?_, ?_⟩ <;> decide +kernel

/-- Both programs' runs, side by side. -/
theorem values (ρ : Dev nD → PrngReg) (ρ' : Dev Cert.ChipsRefIdeal.nD → PrngReg) (hm : Holds m m') :
    θ_run (defs (F := F)) (onTc (τ := τ) (main (F := F))) ⟨m, fun _ => 0, ρ⟩ (fun r => ∀ c : Dev nD,
        r.2.mem ((c.tc : Thread nD τ).loc main_v1_0) = Layout.block ⟨3, ![3, 1024, 1408]⟩ ⟨3, ![24, 1024, 1408]⟩ 0 8 c (picked Cert.ChipsRefIdeal.lit0 Cert.ChipsRefIdeal.Gen.gather_S32x1024x1408_S24x1_S24x1024x1408_12_0_n_n_0_1_110241408_wf Cert.ChipsRefIdeal.Gen.bcast_S24_S24x1_0 Cert.ChipsRefIdeal.Gen.bcast_S_S24 (whole m' Cert.ChipsRefIdeal.main_arg0))
        ∧ r.2.mem ((c.tc : Thread nD τ).loc main_v1_1) = Layout.block ⟨3, ![3, 1024, 1408]⟩ ⟨3, ![24, 1024, 1408]⟩ 0 8 c (picked Cert.ChipsRefIdeal.lit1 Cert.ChipsRefIdeal.Gen.gather_S32x1024x1408_S24x1_S24x1024x1408_12_0_n_n_0_1_110241408_wf Cert.ChipsRefIdeal.Gen.bcast_S24_S24x1_0 Cert.ChipsRefIdeal.Gen.bcast_S_S24 (whole m' Cert.ChipsRefIdeal.main_arg1))
        ∧ r.2.mem ((c.tc : Thread nD τ).loc main_v1_2) = Layout.block ⟨3, ![3, 704, 2048]⟩ ⟨3, ![24, 704, 2048]⟩ 0 8 c (picked Cert.ChipsRefIdeal.lit2 Cert.ChipsRefIdeal.Gen.gather_S32x704x2048_S24x1_S24x704x2048_12_0_n_n_0_1_17042048_wf Cert.ChipsRefIdeal.Gen.bcast_S24_S24x1_0 Cert.ChipsRefIdeal.Gen.bcast_S_S24 (whole m' Cert.ChipsRefIdeal.main_arg2))
        ∧ r.2.mem ((c.tc : Thread nD τ).loc main_v1_3) = Layout.block ⟨3, ![3, 1024, 1280]⟩ ⟨3, ![24, 1024, 1280]⟩ 0 8 c (picked Cert.ChipsRefIdeal.lit3 Cert.ChipsRefIdeal.Gen.gather_S32x1024x1280_S24x1_S24x1024x1280_12_0_n_n_0_1_110241280_wf Cert.ChipsRefIdeal.Gen.bcast_S24_S24x1_0 Cert.ChipsRefIdeal.Gen.bcast_S_S24 (whole m' Cert.ChipsRefIdeal.main_arg3))
        ∧ r.2.mem ((c.tc : Thread nD τ).loc main_v1_4) = Layout.block ⟨3, ![3, 256, 2048]⟩ ⟨3, ![24, 256, 2048]⟩ 0 8 c (picked Cert.ChipsRefIdeal.lit4 Cert.ChipsRefIdeal.Gen.gather_S32x256x2048_S24x1_S24x256x2048_12_0_n_n_0_1_12562048_wf Cert.ChipsRefIdeal.Gen.bcast_S24_S24x1_0 Cert.ChipsRefIdeal.Gen.bcast_S_S24 (whole m' Cert.ChipsRefIdeal.main_arg4))
        ∧ r.2.mem ((c.tc : Thread nD τ).loc main_v1_5) = Layout.block ⟨3, ![3, 1024, 1408]⟩ ⟨3, ![24, 1024, 1408]⟩ 0 8 c (picked Cert.ChipsRefIdeal.lit5 Cert.ChipsRefIdeal.Gen.gather_S32x1024x1408_S24x1_S24x1024x1408_12_0_n_n_0_1_110241408_wf Cert.ChipsRefIdeal.Gen.bcast_S24_S24x1_0 Cert.ChipsRefIdeal.Gen.bcast_S_S24 (whole m' Cert.ChipsRefIdeal.main_arg5))
        ∧ r.2.mem ((c.tc : Thread nD τ).loc main_v1_6) = Layout.block ⟨3, ![3, 1024, 1408]⟩ ⟨3, ![24, 1024, 1408]⟩ 0 8 c (picked Cert.ChipsRefIdeal.lit6 Cert.ChipsRefIdeal.Gen.gather_S32x1024x1408_S24x1_S24x1024x1408_12_0_n_n_0_1_110241408_wf Cert.ChipsRefIdeal.Gen.bcast_S24_S24x1_0 Cert.ChipsRefIdeal.Gen.bcast_S_S24 (whole m' Cert.ChipsRefIdeal.main_arg6))
        ∧ r.2.mem ((c.tc : Thread nD τ).loc main_v1_7) = Layout.block ⟨3, ![3, 704, 2048]⟩ ⟨3, ![24, 704, 2048]⟩ 0 8 c (picked Cert.ChipsRefIdeal.lit7 Cert.ChipsRefIdeal.Gen.gather_S32x704x2048_S24x1_S24x704x2048_12_0_n_n_0_1_17042048_wf Cert.ChipsRefIdeal.Gen.bcast_S24_S24x1_0 Cert.ChipsRefIdeal.Gen.bcast_S_S24 (whole m' Cert.ChipsRefIdeal.main_arg7))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ θ_run (Cert.ChipsRefIdeal.defs (F := F)) (onTc (τ := Cert.ChipsRefIdeal.τ) (Cert.ChipsRefIdeal.main (F := F))) ⟨m', fun _ => 0, ρ'⟩ (fun r =>
        r.2.mem (((0 : Dev Cert.ChipsRefIdeal.nD).tc : Thread Cert.ChipsRefIdeal.nD Cert.ChipsRefIdeal.τ).loc Cert.ChipsRefIdeal.main_v6) = picked Cert.ChipsRefIdeal.lit0 Cert.ChipsRefIdeal.Gen.gather_S32x1024x1408_S24x1_S24x1024x1408_12_0_n_n_0_1_110241408_wf Cert.ChipsRefIdeal.Gen.bcast_S24_S24x1_0 Cert.ChipsRefIdeal.Gen.bcast_S_S24 (whole m' Cert.ChipsRefIdeal.main_arg0)
        ∧ r.2.mem (((0 : Dev Cert.ChipsRefIdeal.nD).tc : Thread Cert.ChipsRefIdeal.nD Cert.ChipsRefIdeal.τ).loc Cert.ChipsRefIdeal.main_v13) = picked Cert.ChipsRefIdeal.lit1 Cert.ChipsRefIdeal.Gen.gather_S32x1024x1408_S24x1_S24x1024x1408_12_0_n_n_0_1_110241408_wf Cert.ChipsRefIdeal.Gen.bcast_S24_S24x1_0 Cert.ChipsRefIdeal.Gen.bcast_S_S24 (whole m' Cert.ChipsRefIdeal.main_arg1)
        ∧ r.2.mem (((0 : Dev Cert.ChipsRefIdeal.nD).tc : Thread Cert.ChipsRefIdeal.nD Cert.ChipsRefIdeal.τ).loc Cert.ChipsRefIdeal.main_v20) = picked Cert.ChipsRefIdeal.lit2 Cert.ChipsRefIdeal.Gen.gather_S32x704x2048_S24x1_S24x704x2048_12_0_n_n_0_1_17042048_wf Cert.ChipsRefIdeal.Gen.bcast_S24_S24x1_0 Cert.ChipsRefIdeal.Gen.bcast_S_S24 (whole m' Cert.ChipsRefIdeal.main_arg2)
        ∧ r.2.mem (((0 : Dev Cert.ChipsRefIdeal.nD).tc : Thread Cert.ChipsRefIdeal.nD Cert.ChipsRefIdeal.τ).loc Cert.ChipsRefIdeal.main_v27) = picked Cert.ChipsRefIdeal.lit3 Cert.ChipsRefIdeal.Gen.gather_S32x1024x1280_S24x1_S24x1024x1280_12_0_n_n_0_1_110241280_wf Cert.ChipsRefIdeal.Gen.bcast_S24_S24x1_0 Cert.ChipsRefIdeal.Gen.bcast_S_S24 (whole m' Cert.ChipsRefIdeal.main_arg3)
        ∧ r.2.mem (((0 : Dev Cert.ChipsRefIdeal.nD).tc : Thread Cert.ChipsRefIdeal.nD Cert.ChipsRefIdeal.τ).loc Cert.ChipsRefIdeal.main_v34) = picked Cert.ChipsRefIdeal.lit4 Cert.ChipsRefIdeal.Gen.gather_S32x256x2048_S24x1_S24x256x2048_12_0_n_n_0_1_12562048_wf Cert.ChipsRefIdeal.Gen.bcast_S24_S24x1_0 Cert.ChipsRefIdeal.Gen.bcast_S_S24 (whole m' Cert.ChipsRefIdeal.main_arg4)
        ∧ r.2.mem (((0 : Dev Cert.ChipsRefIdeal.nD).tc : Thread Cert.ChipsRefIdeal.nD Cert.ChipsRefIdeal.τ).loc Cert.ChipsRefIdeal.main_v41) = picked Cert.ChipsRefIdeal.lit5 Cert.ChipsRefIdeal.Gen.gather_S32x1024x1408_S24x1_S24x1024x1408_12_0_n_n_0_1_110241408_wf Cert.ChipsRefIdeal.Gen.bcast_S24_S24x1_0 Cert.ChipsRefIdeal.Gen.bcast_S_S24 (whole m' Cert.ChipsRefIdeal.main_arg5)
        ∧ r.2.mem (((0 : Dev Cert.ChipsRefIdeal.nD).tc : Thread Cert.ChipsRefIdeal.nD Cert.ChipsRefIdeal.τ).loc Cert.ChipsRefIdeal.main_v48) = picked Cert.ChipsRefIdeal.lit6 Cert.ChipsRefIdeal.Gen.gather_S32x1024x1408_S24x1_S24x1024x1408_12_0_n_n_0_1_110241408_wf Cert.ChipsRefIdeal.Gen.bcast_S24_S24x1_0 Cert.ChipsRefIdeal.Gen.bcast_S_S24 (whole m' Cert.ChipsRefIdeal.main_arg6)
        ∧ r.2.mem (((0 : Dev Cert.ChipsRefIdeal.nD).tc : Thread Cert.ChipsRefIdeal.nD Cert.ChipsRefIdeal.τ).loc Cert.ChipsRefIdeal.main_v55) = picked Cert.ChipsRefIdeal.lit7 Cert.ChipsRefIdeal.Gen.gather_S32x704x2048_S24x1_S24x704x2048_12_0_n_n_0_1_17042048_wf Cert.ChipsRefIdeal.Gen.bcast_S24_S24x1_0 Cert.ChipsRefIdeal.Gen.bcast_S_S24 (whole m' Cert.ChipsRefIdeal.main_arg7)
        ∧ r.2.mem (((0 : Dev Cert.ChipsRefIdeal.nD).tc : Thread Cert.ChipsRefIdeal.nD Cert.ChipsRefIdeal.τ).loc Cert.ChipsRefIdeal.main_arg0) = whole m' Cert.ChipsRefIdeal.main_arg0
        ∧ r.2.mem (((0 : Dev Cert.ChipsRefIdeal.nD).tc : Thread Cert.ChipsRefIdeal.nD Cert.ChipsRefIdeal.τ).loc Cert.ChipsRefIdeal.main_arg1) = whole m' Cert.ChipsRefIdeal.main_arg1
        ∧ r.2.mem (((0 : Dev Cert.ChipsRefIdeal.nD).tc : Thread Cert.ChipsRefIdeal.nD Cert.ChipsRefIdeal.τ).loc Cert.ChipsRefIdeal.main_arg2) = whole m' Cert.ChipsRefIdeal.main_arg2
        ∧ r.2.mem (((0 : Dev Cert.ChipsRefIdeal.nD).tc : Thread Cert.ChipsRefIdeal.nD Cert.ChipsRefIdeal.τ).loc Cert.ChipsRefIdeal.main_arg3) = whole m' Cert.ChipsRefIdeal.main_arg3
        ∧ r.2.mem (((0 : Dev Cert.ChipsRefIdeal.nD).tc : Thread Cert.ChipsRefIdeal.nD Cert.ChipsRefIdeal.τ).loc Cert.ChipsRefIdeal.main_arg4) = whole m' Cert.ChipsRefIdeal.main_arg4
        ∧ r.2.mem (((0 : Dev Cert.ChipsRefIdeal.nD).tc : Thread Cert.ChipsRefIdeal.nD Cert.ChipsRefIdeal.τ).loc Cert.ChipsRefIdeal.main_arg5) = whole m' Cert.ChipsRefIdeal.main_arg5
        ∧ r.2.mem (((0 : Dev Cert.ChipsRefIdeal.nD).tc : Thread Cert.ChipsRefIdeal.nD Cert.ChipsRefIdeal.τ).loc Cert.ChipsRefIdeal.main_arg6) = whole m' Cert.ChipsRefIdeal.main_arg6
        ∧ r.2.mem (((0 : Dev Cert.ChipsRefIdeal.nD).tc : Thread Cert.ChipsRefIdeal.nD Cert.ChipsRefIdeal.τ).loc Cert.ChipsRefIdeal.main_arg7) = whole m' Cert.ChipsRefIdeal.main_arg7) := by
  refine ⟨(θ_run defs _ _).mono (fun r h c => ?_) (ends m ρ), (θ_run Cert.ChipsRefIdeal.defs _ _).mono (fun _ h => h 0) (Cert.ChipsRefIdeal.Value.run m' ρ')⟩
  obtain ⟨hl, hk, -⟩ := h
  obtain ⟨t0, t1, t2, t3, t4, t5, t6, t7⟩ := tables
  have w := place m r.2 hl
  exact ⟨planes_value t0 c _ _ _ (by decide) (by decide) (fun d => (hm d).1) (w 0 c),
    planes_value t1 c _ _ _ (by decide) (by decide) (fun d => (hm d).2.1) (w 1 c),
    planes_value t2 c _ _ _ (by decide) (by decide) (fun d => (hm d).2.2.1) (w 2 c),
    planes_value t3 c _ _ _ (by decide) (by decide) (fun d => (hm d).2.2.2.1) (w 3 c),
    planes_value t4 c _ _ _ (by decide) (by decide) (fun d => (hm d).2.2.2.2.1) (w 4 c),
    planes_value t5 c _ _ _ (by decide) (by decide) (fun d => (hm d).2.2.2.2.2.1) (w 5 c),
    planes_value t6 c _ _ _ (by decide) (by decide) (fun d => (hm d).2.2.2.2.2.2.1) (w 6 c),
    planes_value t7 c _ _ _ (by decide) (by decide) (fun d => (hm d).2.2.2.2.2.2.2) (w 7 c),
    hk c 0, hk c 1, hk c 2, hk c 3, hk c 4, hk c 5, hk c 6, hk c 7⟩

end Cert.ChipsIdeal.Run
-- ==== Proof.ChipsClaims.lean ====
/-
# The claims on the exchange of the sums between the chips
-/
module

public import proofs.«01_k».proof.Defs
public import proofs.«01_k».proof.Proof.ChipsValue
public import proofs.«01_k».proof.Proof.Gen.Chips
public import proofs.«01_k».proof.Proof.Gen.ChipsRef
public import Idealize.ShloMosaic.Lib.Quiescent

@[expose] public section

noncomputable section

namespace Cert.Proof.Chips

open Idealize.ShloMosaic Idealize.ShloMosaic.TcCoe Idealize.SL.Sem
open Cert.ChipsIdeal.Run

theorem frame_kernel : Cert.quiescent_Chips := fun m ρ _ =>
  (θ_run Cert.ChipsIdeal.defs _ _).mono (fun _ h => ⟨fun c => ⟨h.2.1 c 0, h.2.1 c 1, h.2.1 c 2, h.2.1 c 3, h.2.1 c 4, h.2.1 c 5, h.2.1 c 6, h.2.1 c 7⟩, h.2.2⟩)
    (ends (F := Bits) m ρ)

theorem frame_ideal : Cert.quiescent_ChipsIdeal := fun m ρ _ =>
  (θ_run Cert.ChipsIdeal.defs _ _).mono (fun _ h => ⟨fun c => ⟨h.2.1 c 0, h.2.1 c 1, h.2.1 c 2, h.2.1 c 3, h.2.1 c 4, h.2.1 c 5, h.2.1 c 6, h.2.1 c 7⟩, h.2.2⟩)
    (ends (F := Ideal) m ρ)

theorem frame_ref_ideal : Cert.quiescent_ChipsRefIdeal := fun m ρ _ =>
  (θ_run Cert.ChipsRefIdeal.defs _ _).mono (fun r h => ⟨fun c => (h c).2.2.2.2.2.2.2.2, sem_eq_zero_of_no_sems (by decide) r.2⟩)
    (Cert.ChipsRefIdeal.Value.run (F := Ideal) m ρ)

theorem frame_ref : Cert.quiescent_ChipsRef := fun m ρ _ =>
  (θ_run Cert.ChipsRefIdeal.defs _ _).mono (fun r h => ⟨fun c => (h c).2.2.2.2.2.2.2.2, sem_eq_zero_of_no_sems (by decide) r.2⟩)
    (Cert.ChipsRefIdeal.Value.run (F := Bits) m ρ)

set_option maxHeartbeats 4000000 in
theorem bitexact : Cert.bitexact_Chips_ChipsRef := fun m ρ m' ρ' _ hm => ⟨_, _, _, _, _, _, _, _, values (F := Bits) m m' ρ ρ' hm⟩

theorem algebraic : Cert.algebraic_ChipsIdeal_ChipsRefIdeal := fun m ρ m' ρ' _ hm => ⟨_, _, _, _, _, _, _, _, values (F := Ideal) m m' ρ ρ' hm⟩

end Cert.Proof.Chips
-- ==== Proof.HalvesCopies.lean ====
/-
# The exchange of the halves between the two cores of a chip: its copies

Each core of a chip has a half of the rows of each of eight arrays. It copies its half to its place in its own result,
and sends it to the same place in the result of the other core.
-/
module

public import proofs.«01_k».proof.Proof.Seat
public import proofs.«01_k».proof.Proof.Gen.HalvesIdeal.Launch
public import proofs.«01_k».proof.Proof.Gen.HalvesIdeal.Points
public import proofs.«01_k».proof.Proof.Gen.HalvesIdeal.Skeleton

@[expose] public section

noncomputable section

namespace Cert.HalvesIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)
open Idealize.ShloMosaic.Pipeline
open Cert.Moves
open Facts₀ Facts

/-- The other core of the chip. -/
def sib (c : Dev nD) : Dev nD := ⟨c.val + 1 - 2 * (c.val % 2), by have h : c.val < 8 := c.isLt; show _ < 8; omega⟩

theorem sib_sib (c : Dev nD) : sib (sib c) = c := by revert c; decide
theorem sib_core (c : Dev nD) : (sib c).val % 2 = 1 - c.val % 2 := by revert c; decide
theorem sib_chip (c : Dev nD) : (sib c).val / 2 = c.val / 2 := by revert c; decide

/-- One array: the half, the result of both halves, the half's place in it, whom it is sent to. -/
structure Arr where
  A : ℕ
  h : ℕ
  b : ℕ
  two : A = 2 * h
  pos : 0 < (⟨2, ![h, b]⟩ : Shape).numel
  a : Memref sig .tc .hbm ⟨2, ![h, b]⟩ .f32
  r : Memref sig .tc .hbm ⟨2, ![A, b]⟩ .f32
  sc : r.view.ref.isScScratch = false
  put : Dev nD → Fin 2 → ℕ
  put_inb : ∀ c a, put c a + (⟨2, ![h, b]⟩ : Shape).size a ≤ (⟨2, ![A, b]⟩ : Shape).size a
  put_eq : ∀ c, put c = ![h * (c.val % 2), 0]
  peer : Dev nD → Dev nD
  peer_eq : ∀ c, peer c = sib c
  wsrc : a.view.WordExact
  wdst : ∀ c, (r.slice (Rect.unit (s := ⟨2, ![A, b]⟩) (put c) (⟨2, ![h, b]⟩ : Shape).size (put_inb c)) (fun _ => rfl)).view.WordExact

/-- The half of `c`, to its place. -/
def Arr.half (x : Arr) (c : Dev nD) : Xfer sig :=
  ⟨⟨2, ![x.h, x.b]⟩, .f32, x.a, x.r.slice (Rect.unit (s := ⟨2, ![x.A, x.b]⟩) (x.put c) (⟨2, ![x.h, x.b]⟩ : Shape).size (x.put_inb c)) (fun _ => rfl),
    x.wsrc, x.wdst c, x.sc, x.pos⟩

def cols (a : Memref sig .tc .hbm S1024x1408 .f32) (ha : a.IsWhole) (r : Memref sig .tc .hbm S2048x1408 .f32)
    (sc : r.view.ref.isScScratch = false) (peer : Dev nD → Dev nD) (peer_eq : ∀ c, peer c = sib c) : Arr where
  A := 2048
  h := 1024
  b := 1408
  two := rfl
  pos := by decide
  a := a
  r := r
  sc := sc
  put := k0_off1
  put_inb := k0_off1_inb
  put_eq := by decide +kernel
  peer := peer
  peer_eq := peer_eq
  wsrc := ha.wordExact
  wdst c := View.wordExact_bits rfl

def down (a : Memref sig .tc .hbm S704x2048 .f32) (ha : a.IsWhole) (r : Memref sig .tc .hbm S1408x2048 .f32)
    (sc : r.view.ref.isScScratch = false) (peer : Dev nD → Dev nD) (peer_eq : ∀ c, peer c = sib c) : Arr where
  A := 1408
  h := 704
  b := 2048
  two := rfl
  pos := by decide
  a := a
  r := r
  sc := sc
  put := k0_off2
  put_inb := k0_off2_inb
  put_eq := by decide +kernel
  peer := peer
  peer_eq := peer_eq
  wsrc := ha.wordExact
  wdst c := View.wordExact_bits rfl

def win (a : Memref sig .tc .hbm S1024x1280 .f32) (ha : a.IsWhole) (r : Memref sig .tc .hbm S2048x1280 .f32)
    (sc : r.view.ref.isScScratch = false) (peer : Dev nD → Dev nD) (peer_eq : ∀ c, peer c = sib c) : Arr where
  A := 2048
  h := 1024
  b := 1280
  two := rfl
  pos := by decide
  a := a
  r := r
  sc := sc
  put := k0_off3
  put_inb := k0_off3_inb
  put_eq := by decide +kernel
  peer := peer
  peer_eq := peer_eq
  wsrc := ha.wordExact
  wdst c := View.wordExact_bits rfl

def wout (a : Memref sig .tc .hbm S256x2048 .f32) (ha : a.IsWhole) (r : Memref sig .tc .hbm S512x2048 .f32)
    (sc : r.view.ref.isScScratch = false) (peer : Dev nD → Dev nD) (peer_eq : ∀ c, peer c = sib c) : Arr where
  A := 512
  h := 256
  b := 2048
  two := rfl
  pos := by decide
  a := a
  r := r
  sc := sc
  put := k0_off4
  put_inb := k0_off4_inb
  put_eq := by decide +kernel
  peer := peer
  peer_eq := peer_eq
  wsrc := ha.wordExact
  wdst c := View.wordExact_bits rfl

/-- Whom each half is sent to. -/
def peerOf : Fin 8 → Dev nD → Dev nD
  | 0, c => ⟨k0_dev1 c, k0_dev1_lt c⟩
  | 1, c => ⟨k0_dev2 c, k0_dev2_lt c⟩
  | 2, c => ⟨k0_dev3 c, k0_dev3_lt c⟩
  | 3, c => ⟨k0_dev4 c, k0_dev4_lt c⟩
  | 4, c => ⟨k0_dev5 c, k0_dev5_lt c⟩
  | 5, c => ⟨k0_dev6 c, k0_dev6_lt c⟩
  | 6, c => ⟨k0_dev7 c, k0_dev7_lt c⟩
  | 7, c => ⟨k0_dev8 c, k0_dev8_lt c⟩
theorem peerOf_eq : ∀ i c, peerOf i c = sib c := by decide +kernel

def arr : Fin 8 → Arr
  | 0 => cols (Memref.whole main_arg0) (Memref.isWhole_whole _) (Memref.whole main_v1_0) rfl (peerOf 0) (peerOf_eq 0)
  | 1 => cols (Memref.whole main_arg1) (Memref.isWhole_whole _) (Memref.whole main_v1_1) rfl (peerOf 1) (peerOf_eq 1)
  | 2 => down (Memref.whole main_arg2) (Memref.isWhole_whole _) (Memref.whole main_v1_2) rfl (peerOf 2) (peerOf_eq 2)
  | 3 => win (Memref.whole main_arg3) (Memref.isWhole_whole _) (Memref.whole main_v1_3) rfl (peerOf 3) (peerOf_eq 3)
  | 4 => wout (Memref.whole main_arg4) (Memref.isWhole_whole _) (Memref.whole main_v1_4) rfl (peerOf 4) (peerOf_eq 4)
  | 5 => cols (Memref.whole main_arg5) (Memref.isWhole_whole _) (Memref.whole main_v1_5) rfl (peerOf 5) (peerOf_eq 5)
  | 6 => cols (Memref.whole main_arg6) (Memref.isWhole_whole _) (Memref.whole main_v1_6) rfl (peerOf 6) (peerOf_eq 6)
  | 7 => down (Memref.whole main_arg7) (Memref.isWhole_whole _) (Memref.whole main_v1_7) rfl (peerOf 7) (peerOf_eq 7)

end Cert.HalvesIdeal.Run
-- ==== Proof.Halves.lean ====
/-
# The exchange of the halves between the two cores of a chip: the run

Each device starts the eight copies of its own halves and the eight copies to the other core, and then waits for the
halves that are sent to it, for its own to have been sent, and for its own copies.
-/
module

public import proofs.«01_k».proof.Proof.HalvesCopies
public import proofs.«01_k».proof.Proof.Gen.HalvesIdeal.Launch
public import proofs.«01_k».proof.Proof.Gen.HalvesIdeal.Points
public import proofs.«01_k».proof.Proof.Gen.HalvesIdeal.Skeleton
public import Mathlib.Data.Fintype.Sum
public import Mathlib.Data.Fintype.Basic
public import Mathlib.Data.Fintype.Prod

@[expose] public section

noncomputable section

namespace Cert.HalvesIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)
open Idealize.ShloMosaic.Pipeline
open Cert.Moves
open Facts₀ Facts

variable {F : FTy → Type} [FloatOps F]

local notation "𝕄" => MT nD τ sig Unit (Elt F) ℕ (UM nD τ sig) ℕ

/-! ## The copies and their semaphores -/

def xf (t : Fin 8) (c : Dev nD) : Xfer sig := (arr t).half c
def peer (t : Fin 8) (c : Dev nD) : Dev nD := (arr t).peer c

theorem peer_peer (t : Fin 8) (c : Dev nD) : peer t (peer t c) = c := by
  show (arr t).peer ((arr t).peer c) = c
  rw [(arr t).peer_eq, (arr t).peer_eq, sib_sib]

def at8 (a : DmaSems sig S8) (i : Fin 8) : DmaSem sig :=
  ((a.slice (Rect.unit (s := S8) ![i.val] S1.size
    (fun a => by have := i.isLt; match a with | ⟨0, _⟩ => show i.val + 1 ≤ 8; omega))).squeeze S_ squeezes_S1_S_).sem

def amount (t : Fin 8) : ℕ := (xf t 0).dst.view.dmaCredit
theorem amount_eq (t : Fin 8) (c : Dev nD) : (xf t c).dst.view.dmaCredit = amount t := by
  fin_cases t <;> rfl

variable (m : Mem0 nD τ sig (Elt F))

def plan : Plan nD τ sig (Elt F) (Fin 8) (Fin 8) where
  xf := xf
  peer := peer
  peer_peer := peer_peer
  send := at8 cc0_scratch0
  recv := at8 cc0_scratch1
  lf := xf
  loc := at8 cc0_scratch2
  n := amount
  n_eq := amount_eq
  ln := amount
  ln_eq := amount_eq
  rank _ := 1
  share _ := shareTok fullShare 2 1
  lshare _ := shareTok fullShare 2 0
  src t c := m ((xf t c).src.view.loc (c.tc : Thread nD τ))
  old t c := m ((xf t c).dst.view.loc ((peer t c).tc : Thread nD τ))
  lsrc u c := m ((xf u c).src.view.loc (c.tc : Thread nD τ))
  lold u c := m ((xf u c).dst.view.loc (c.tc : Thread nD τ))

/-- The semaphore of each cell. -/
def semOf : Key (Fin 8) (Fin 8) → DmaSem sig
  | .inl t => at8 cc0_scratch0 t
  | .inr (.inl t) => at8 cc0_scratch1 t
  | .inr (.inr u) => at8 cc0_scratch2 u

set_option synthInstance.maxHeartbeats 400000

theorem semOf_inj (a b : Key (Fin 8) (Fin 8)) (h : semOf a = semOf b) : a = b := by
  have key : ∀ a b : Key (Fin 8) (Fin 8), (!decide (semOf a = semOf b) || decide (a = b)) = true := by decide +kernel
  have k := key a b
  rw [decide_eq_true h] at k
  exact of_decide_eq_true k

theorem osem_eq (k : Key (Fin 8) (Fin 8)) : (plan m).osem k = .dma (semOf k) := by
  rcases k with t | t | u <;> rfl

theorem osem_injective : Function.Injective (plan m).osem := by
  intro a b hab
  rw [osem_eq, osem_eq] at hab
  exact semOf_inj a b (SemLoc.dma.inj hab)

theorem semOf_scoped : ∀ k, (SemLoc.dma (semOf k) : SemLoc sig).isScoped .tc = true := by decide +kernel

theorem ownSems : OwnSemFacts (cfgs 0).spec (plan m).osem where
  isScoped k := by rw [osem_eq]; exact semOf_scoped k
  inj := osem_injective m
  disj _ w := w.elim0

/-! ## The waits -/

def argRef : Fin 8 → Ref sig .tc
  | 0 => main_arg0 | 1 => main_arg1 | 2 => main_arg2 | 3 => main_arg3 | 4 => main_arg4 | 5 => main_arg5 | 6 => main_arg6 | 7 => main_arg7
def resRef : Fin 8 → Ref sig .tc
  | 0 => main_v1_0 | 1 => main_v1_1 | 2 => main_v1_2 | 3 => main_v1_3 | 4 => main_v1_4 | 5 => main_v1_5 | 6 => main_v1_6 | 7 => main_v1_7
def plane : Fin 8 → Shape
  | 0 => S1024x1408 | 1 => S1024x1408 | 2 => S704x2048 | 3 => S1024x1280 | 4 => S256x2048 | 5 => S1024x1408 | 6 => S1024x1408 | 7 => S704x2048

theorem arr_a_ref (i : Fin 8) : (arr i).a.view.ref = argRef i := by fin_cases i <;> rfl
theorem arr_r_ref (i : Fin 8) : (arr i).r.view.ref = resRef i := by fin_cases i <;> rfl
theorem arg_plane (i : Fin 8) : (argRef i).HasMemref (plane i) .f32 := by
  have h := ((arr i).half 0).src.hasMemref
  fin_cases i <;> exact h
theorem res_plane (i : Fin 8) : (resRef i).HasMemref (plane i) .f32 := by
  have h := ((arr i).half 0).dst.hasMemref
  fin_cases i <;> exact h
theorem arg_credit (i : Fin 8) : (argRef i).dmaCredit (plane i) .f32 = amount i := by fin_cases i <;> rfl
theorem res_credit (i : Fin 8) : (resRef i).dmaCredit (plane i) .f32 = amount i := by fin_cases i <;> rfl

/-- The waits: that a half has been sent, that the other core's has landed, that the own has been copied. -/
def sent (i : Fin 8) : (plan m).WaitOp := ⟨.inl i, argRef i, plane i, .f32, arg_plane i, arg_credit i⟩
def got (i : Fin 8) : (plan m).WaitOp := ⟨.inr (.inl i), resRef i, plane i, .f32, res_plane i, res_credit i⟩
def copied (i : Fin 8) : (plan m).WaitOp := ⟨.inr (.inr i), resRef i, plane i, .f32, res_plane i, res_credit i⟩

/-! ## The order -/

def eight : List (Fin 8) := [0, 1, 2, 3, 4, 5, 6, 7]

theorem eight_nodup : eight.Nodup := by decide
theorem mem_eight : ∀ i, i ∈ eight := by decide
theorem starts_nodup : (eight.map (Sum.inr : Fin 8 → Fin 8 ⊕ Fin 8) ++ eight.map Sum.inl).Nodup := by decide +kernel
theorem waits_perm : (eight.map (fun i => (Sum.inr (Sum.inl i) : Key (Fin 8) (Fin 8))) ++ (eight.map (fun i => (Sum.inl i : Key (Fin 8) (Fin 8)))
      ++ eight.map fun i => (Sum.inr (Sum.inr i) : Key (Fin 8) (Fin 8)))).Perm
    ((eight.map fun i => (Sum.inr (Sum.inl i) : Key (Fin 8) (Fin 8))) ++ (eight.map Sum.inr ++ eight.map Sum.inl : List (Fin 8 ⊕ Fin 8)).map Plan.selfKey) := by decide +kernel

def script : (plan m).Script where
  S := eight.map Sum.inr ++ eight.map Sum.inl
  Rl := []
  rl := []
  rest := eight
  Wl := eight.map (got m) ++ (eight.map (sent m) ++ eight.map (copied m))
  rl_eq := rfl
  recvs := eight_nodup
  recvs_all := mem_eight
  starts := starts_nodup
  starts_all := by
    rintro (t | u)
    · exact List.mem_append_left _ (List.mem_append_right _ (List.mem_map.mpr ⟨t, mem_eight t, rfl⟩))
    · exact List.mem_append_left _ (List.mem_append_left _ (List.mem_map.mpr ⟨u, mem_eight u, rfl⟩))
  waits := by
    rw [List.map_nil, List.append_nil, List.map_append, List.map_append, List.map_map, List.map_map, List.map_map]
    exact waits_perm
  keep _ _ := iprop(emp)
  relay _ _ h := absurd h List.not_mem_nil
  late _ h := absurd h List.not_mem_nil

end Cert.HalvesIdeal.Run
-- ==== Proof.HalvesBody.lean ====
/-
# The exchange of the halves between the two cores of a chip: the body is its copies and waits
-/
module

public import proofs.«01_k».proof.Proof.Halves
public import proofs.«01_k».proof.Proof.Gen.HalvesIdeal.Launch
public import proofs.«01_k».proof.Proof.Gen.HalvesIdeal.Points
public import proofs.«01_k».proof.Proof.Gen.HalvesIdeal.Skeleton

@[expose] public section

noncomputable section

namespace Cert.HalvesIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)
open Idealize.ShloMosaic.Pipeline
open Cert.Moves
open Facts₀ Facts

variable {F : FTy → Type} [FloatOps F]

local notation "𝕄" => MT nD τ sig Unit (Elt F) ℕ (UM nD τ sig) ℕ

variable (m : Mem0 nD τ sig (Elt F))

theorem body_eq (t : Fin cfg0.N) : Gen.bodyAt0 (F := F) t = .op .deviceId fun d => (script (F := F) m).body d := by
  chain_rfl

end Cert.HalvesIdeal.Run
-- ==== Proof.HalvesRun.lean ====
/-
# The exchange of the halves between the two cores of a chip: every run of it

Every device ends with its own half and the other core's at their places in each of its eight results; its halves are as
they were, and every semaphore reads zero.
-/
module

public import proofs.«01_k».proof.Proof.HalvesBody
public import proofs.«01_k».proof.Proof.Gen.HalvesIdeal.Launch
public import proofs.«01_k».proof.Proof.Gen.HalvesIdeal.Points
public import proofs.«01_k».proof.Proof.Gen.HalvesIdeal.Skeleton

@[expose] public section

noncomputable section

namespace Cert.HalvesIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)
open Idealize.ShloMosaic.Pipeline
open Cert.Moves
open Facts₀ Facts

variable {F : FTy → Type} [FloatOps F]

local notation "𝕄" => MT nD τ sig Unit (Elt F) ℕ (UM nD τ sig) ℕ

variable (m : Mem0 nD τ sig (Elt F))

/-! ## Dealing the arrays out -/

namespace Arr

variable (x : Arr)

/-- The parts of the result at `d`: the own half, the other core's. -/
def part (d : Dev nD) : Fin 2 → Xfer sig
  | 0 => x.half d
  | 1 => x.half (x.peer d)

theorem part_ref (d : Dev nD) (k : Fin 2) : (x.part d k).dst.view.ref = x.r.view.ref := by
  fin_cases k <;> rfl

theorem halves_apart (c d : Dev nD) (h : x.put c 0 + x.h ≤ x.put d 0 ∨ x.put d 0 + x.h ≤ x.put c 0) :
    Disjoint (setIn (x.half c).dst x.r.view.ref rfl) (setIn (x.half d).dst x.r.view.ref rfl) := by
  refine View.disjoint_slice (v := x.r.view) (Rect.disjoint_of_axis _ _ 0 fun j hj j' hj' => ?_)
  have hj : j < x.h := hj
  have hj' : j' < x.h := hj'
  show x.put c 0 + 1 * j ≠ x.put d 0 + 1 * j'
  omega

theorem put_at (c : Dev nD) : x.put c 0 = x.h * (c.val % 2) := congrFun (x.put_eq c) 0
theorem put_peer (c : Dev nD) : x.put (x.peer c) 0 = x.h * (1 - c.val % 2) := by rw [x.put_at, x.peer_eq, sib_core]

theorem own_peer (d : Dev nD) : x.put d 0 + x.h ≤ x.put (x.peer d) 0 ∨ x.put (x.peer d) 0 + x.h ≤ x.put d 0 := by
  rw [x.put_peer, x.put_at]
  rcases Nat.mod_two_eq_zero_or_one d.val with e | e <;> rw [e] <;> simp

theorem part_disjoint (d : Dev nD) (k k' : Fin 2) (h : k ≠ k') :
    Disjoint (setIn (x.part d k).dst x.r.view.ref (x.part_ref d k)) (setIn (x.part d k').dst x.r.view.ref (x.part_ref d k')) := by
  match k, k', h with
  | 0, 0, h => exact absurd rfl h
  | 0, 1, _ => exact x.halves_apart d (x.peer d) (x.own_peer d)
  | 1, 0, _ => exact x.halves_apart (x.peer d) d (x.own_peer d).symm
  | 1, 1, h => exact absurd rfl h

/-- The result, dealt out. -/
theorem deal (d : Dev nD) : wholePts m x.r.view.ref fullShare d
    ⊢ (iprop(viewPts m (x.half d).dst fullShare d ∗ viewPts m (x.half (x.peer d)).dst fullShare d) : sProp 𝕄) := by
  refine (deal_dst m x.r.view.ref d (x.part d) (x.part_ref d) (x.part_disjoint d)).trans ?_
  rw [bigSep_univ_eq_bigSepL ([0, 1] : List (Fin 2)) (by decide) (by decide), bigSepL_cons', bigSepL_cons', bigSepL_nil]
  iintro ⟨H1, H2, -⟩
  isplitl [H1]
  · iexact H1
  · iexact H2

/-- The half, lent out to its copy and to its sending. -/
theorem lend (c : Dev nD) : wholePts m x.a.view.ref fullShare c
    ⊢ (iprop((viewPts m (x.half c).src (shareTok fullShare 2 0) c ∗ viewPts m (x.half c).src (shareTok fullShare 2 1) c)
      ∗ wholePts m x.a.view.ref (shareDrop fullShare 2) c) : sProp 𝕄) := by
  refine (deal_src (n := 2) m x.a.view.ref c (fun _ => x.half c) fun _ => rfl).trans ?_
  rw [bigSep_univ_eq_bigSepL ([0, 1] : List (Fin 2)) (by decide) (by decide), bigSepL_cons', bigSepL_cons', bigSepL_nil]
  iintro ⟨⟨H1, H2, -⟩, H3⟩
  isplitl [H1 H2]
  · isplitl [H1]
    · iexact H1
    · iexact H2
  · iexact H3

end Arr

abbrev keep0 (c : Dev nD) : sProp 𝕄 := rests m (eight.map argRef) (shareDrop fullShare 2) c

theorem rest_eq (c : Dev nD) : (unscopedRest (cfgs 0).spec c (fun b => m ((c.tc : Thread nD τ).loc b)) : sProp 𝕄)
    = iprop((bigSepL eight fun i => wholePts m (argRef i) fullShare c) ∗ bigSepL eight fun i => wholePts m (resRef i) fullShare c) := by
  rw [unscopedRest_eq_of_list (cfgs 0).spec c _ (eight.map argRef ++ eight.map resRef) (by decide) (by decide), bigSepL_append, bigSepL_map, bigSepL_map]
  rfl

/-- What a device has before the parts of the results change hands. -/
def lent (c : Dev nD) : sProp 𝕄 :=
  iprop((bigSepL eight fun i => (plan m).lsrcPts i c) ∗ (bigSepL eight fun i => (plan m).ldstPts i c) ∗ (bigSepL eight fun i => (plan m).srcPts i c) ∗ keep0 m c)

theorem lend_all (c : Dev nD) : (bigSepL eight fun i => wholePts m (argRef i) fullShare c : sProp 𝕄)
    ⊢ iprop(iprop((bigSepL eight fun i => (plan m).lsrcPts i c) ∗ bigSepL eight fun i => (plan m).srcPts i c) ∗ keep0 m c) := by
  have h (i : Fin 8) : wholePts m (argRef i) fullShare c
      ⊢ (iprop(iprop((plan m).lsrcPts i c ∗ (plan m).srcPts i c) ∗ wholePts m (argRef i) (shareDrop fullShare 2) c) : sProp 𝕄) := by
    rw [← arr_a_ref]
    exact (arr i).lend m c
  unfold keep0 rests
  rw [bigSepL_map]
  exact ((bigSepL_mono fun i _ => h i).trans (bigSepL_unsep _ _ _)).trans (BIClass.sep_mono (bigSepL_unsep _ _ _) .rfl)

theorem deal_dsts (d : Dev nD) : (bigSepL eight fun i => wholePts m (resRef i) fullShare d : sProp 𝕄)
    ⊢ iprop((bigSepL eight fun i => (plan m).ldstPts i d) ∗ bigSepL eight fun i => (plan m).inPts m i d) := by
  have h (i : Fin 8) : wholePts m (resRef i) fullShare d ⊢ (iprop((plan m).ldstPts i d ∗ (plan m).inPts m i d) : sProp 𝕄) := by
    rw [← arr_r_ref]
    exact (arr i).deal m d
  exact (bigSepL_mono fun i _ => h i).trans (bigSepL_unsep _ _ _)

theorem before (c : Dev nD) : (unscopedRest (cfgs 0).spec c (fun b => m ((c.tc : Thread nD τ).loc b)) : sProp 𝕄)
    ⊢ iprop(lent m c ∗ bigSepL eight fun t => (plan m).inPts m t c) := by
  rw [rest_eq]
  refine (BIClass.sep_mono (lend_all m c) (deal_dsts m c)).trans ?_
  unfold lent
  iintro ⟨⟨⟨H1, H2⟩, H3⟩, H4, H5⟩
  isplitl [H1 H2 H3 H4]
  · isplitl [H1]; · iexact H1
    isplitl [H4]; · iexact H4
    isplitl [H2]; · iexact H2
    iexact H3
  · iexact H5

theorem data_eq (c : Dev nD) : (script m).data (keep0 m) c = (iprop(iprop((bigSepL eight fun i => iprop((plan m).lsrcPts i c ∗ (plan m).ldstPts i c))
    ∗ bigSepL eight fun i => iprop((plan m).srcPts i c ∗ (plan m).dstPts i c)) ∗ emp ∗ keep0 m c) : sProp 𝕄) := by
  unfold Plan.Script.data
  show iprop((bigSepL (eight.map Sum.inr ++ eight.map Sum.inl) ((plan m).sdata c)) ∗ bigSepL [] _ ∗ keep0 m c) = _
  rw [bigSepL_append, bigSepL_map, bigSepL_map, bigSepL_nil]
  rfl

theorem after (c : Dev nD) : iprop(lent m c ∗ bigSepL eight fun t => (plan m).dstPts t c) ⊢ ((script m).data (keep0 m) c : sProp 𝕄) := by
  rw [data_eq]
  unfold lent
  iintro ⟨⟨HLS, HLD, HS, HK⟩, HD⟩
  isplitl [HLS HLD HS HD]
  · isplitl [HLS HLD]
    · iapply (bigSepL_sep eight (fun i => (plan m).lsrcPts i c) fun i => (plan m).ldstPts i c)
      isplitl [HLS]
      · iexact HLS
      · iexact HLD
    · iapply (bigSepL_sep eight (fun i => (plan m).srcPts i c) fun i => (plan m).dstPts i c)
      isplitl [HS]
      · iexact HS
      · iexact HD
  isplitr; · iempintro
  iexact HK

theorem deal_all : (bigSep Finset.univ fun c : Dev nD => unscopedRest (cfgs 0).spec c (fun b => m ((c.tc : Thread nD τ).loc b)))
    ⊢ (bigSep Finset.univ ((script m).data (keep0 m)) : sProp 𝕄) := by
  refine (bigSep_mono fun c _ => before m c).trans ?_
  rw [bigSep_sep', (plan m).swap (fun _ _ => rfl) eight, ← bigSep_sep']
  exact bigSep_mono fun c _ => after m c

/-! ## The run -/

theorem sem_zero (s : MemSt nD τ sig (Elt F)) (h : ∀ g : GSem nD τ sig, (g.1.2 ≠ .tc ∨ g.2.isScoped .tc = true) → s.sem g = 0) : s.sem = fun _ => 0 :=
  have hsc : ∀ x : SemLoc sig, x.isScoped .tc = true := by decide +kernel
  funext fun g => h g (.inr (hsc g.2))

/-- What every run of the exchange ends with. -/
def Ends (r : PUnit × MemSt nD τ sig (Elt F)) : Prop :=
  (∀ t c, (plan m).Landed t c r.2) ∧ (∀ u c, (plan m).Copied u c r.2)
    ∧ (∀ (c : Dev nD) i, r.2.mem ((c.tc : Thread nD τ).loc (argRef i)) = m ((c.tc : Thread nD τ).loc (argRef i))) ∧ r.2.sem = fun _ => 0

set_option maxRecDepth 20000 in
theorem ends (ρ : Dev nD → PrngReg) : θ_run (defs (F := F)) (onTc (τ := τ) (main (F := F))) ⟨m, fun _ => 0, ρ⟩ (Ends m) := by
  refine run_plan cfgs Gen.cellOf_inj (fun p => by fin_cases p; exact ⟨fun w => w.elim0⟩) defs₀ Variants.none (script m) (osem_injective m)
    Gen.winFacts0 (ownSems m) Gen.N_0 m ρ main (fun c => rfl) (fun c t Q => ?_) (keep0 m) (deal_all m)
    (fun _ _ _ => True) (fun c s => ∀ r ∈ eight.map argRef, s.mem ((c.tc : Thread nD τ).loc r) = m ((c.tc : Thread nD τ).loc r))
    (fun _ _ _ => by iintro -; ipureintro; trivial) (fun c s => rests_read m _ _ c s) fun s hl _ hu hk hz => ?_
  · unfold Plan.wpAt
    rw [← body_eq m t]
    exact (show ∀ X : sProp 𝕄, X ⊢ X from fun _ => .rfl) _
  · exact ⟨fun t c => hl t (mem_eight t) c, hu, fun c i => hk c _ (List.mem_map.mpr ⟨i, mem_eight i, rfl⟩), sem_zero s hz⟩

end Cert.HalvesIdeal.Run
-- ==== Proof.Both.lean ====
/-
# The rows of a chip, for both its cores

An array cut in eight along its rows, a block for each core of four chips. The reference repeats the rows of each chip
for both its cores. Here it is read at an index, at any extents.
-/
module

public import proofs.«01_k».proof.Proof.Seat
public import Idealize.ShloMosaic.Lib.Pipeline.Value
public import Idealize.ShloMosaic.Lib.Layout
public import Mathlib.Tactic.Ring

@[expose] public section

noncomputable section

namespace Cert.Both

open Idealize.ShloMosaic Cert.Moves

variable {α : Type} {N M A h b : ℕ}

/-- The reference's result: `N` rows, `A` for each of four chips, repeated for two cores. -/
def repeated (h₁ : (⟨2, ![N, b]⟩ : Shape).ShapeCasts ⟨4, ![4, 1, A, b]⟩)
    (h₂ : (⟨4, ![4, 1, A, b]⟩ : Shape).BroadcastsInDim ⟨4, ![4, 2, A, b]⟩ ![0, 1, 2, 3])
    (h₃ : (⟨4, ![4, 2, A, b]⟩ : Shape).ShapeCasts ⟨2, ![M, b]⟩) (W : (⟨2, ![N, b]⟩ : Shape).Idx → α) : (⟨2, ![M, b]⟩ : Shape).Idx → α :=
  shapeCast ⟨2, ![M, b]⟩ (broadcastInDim ⟨4, ![4, 2, A, b]⟩ ![0, 1, 2, 3] h₂ (shapeCast ⟨4, ![4, 1, A, b]⟩ W h₁)) h₃

variable (h₁ : (⟨2, ![N, b]⟩ : Shape).ShapeCasts ⟨4, ![4, 1, A, b]⟩)
  (h₂ : (⟨4, ![4, 1, A, b]⟩ : Shape).BroadcastsInDim ⟨4, ![4, 2, A, b]⟩ ![0, 1, 2, 3])
  (h₃ : (⟨4, ![4, 2, A, b]⟩ : Shape).ShapeCasts ⟨2, ![M, b]⟩)

/-- A row of the result is the same row of its chip. -/
theorem repeated_apply (hA : 1 < A) (hb : 1 < b) (W : (⟨2, ![N, b]⟩ : Shape).Idx → α) (j : Fin 4) (e : Fin 2) (r : Fin A) (q : Fin b)
    (i : (⟨2, ![M, b]⟩ : Shape).Idx) (k : (⟨2, ![N, b]⟩ : Shape).Idx)
    (i0 : (i 0).val = (j.val * 2 + e.val) * A + r.val) (i1 : (i 1).val = q.val) (k0 : (k 0).val = j.val * A + r.val) (k1 : (k 1).val = q.val) :
    repeated h₁ h₂ h₃ W i = W k := by
  unfold repeated
  refine (shapeCast_apply _ h₃ _ (ix4 j e r q) ?_).trans ?_
  · rw [Shape.rowMajor_val_four, Shape.rowMajor_val_two]
    show ((j.val * 2 + e.val) * A + r.val) * b + q.val = (i 0).val * b + (i 1).val
    rw [i0, i1]
  refine (broadcastInDim_apply _ h₂ _ _ (ix4 j (0 : Fin 1) r q) fun u => ?_).trans ?_
  · match u with
    | ⟨0, _⟩ => rfl
    | ⟨1, _⟩ => rfl
    | ⟨2, _⟩ => show r.val = if A = 1 then 0 else r.val; rw [if_neg (by omega)]
    | ⟨3, _⟩ => show q.val = if b = 1 then 0 else q.val; rw [if_neg (by omega)]
  refine shapeCast_apply _ h₁ _ k ?_
  rw [Shape.rowMajor_val_four, Shape.rowMajor_val_two]
  show (k 0).val * b + (k 1).val = ((j.val * 1 + 0) * A + r.val) * b + q.val
  rw [k0, k1, Nat.mul_one, Nat.add_zero]

/-- An array whose rows are the rows of both cores of chip `c / 2` is the block of `c` of the reference's result. -/
theorem block_repeated (hA : A = 2 * h) (hA1 : 1 < A) (hb : 1 < b) (W : (⟨2, ![N, b]⟩ : Shape).Idx → α) (c : Fin 8)
    (hT : Layout.Tiles ⟨2, ![h, b]⟩ ⟨2, ![N, b]⟩ 0 8) (hR : Layout.Tiles ⟨2, ![A, b]⟩ ⟨2, ![M, b]⟩ 0 8) (g : (⟨2, ![A, b]⟩ : Shape).Idx → α)
    (hg : ∀ (r : Fin A) (q : Fin b), ∃ (d : Fin 8) (p : Fin h), d.val / 2 = c.val / 2 ∧ r.val = h * (d.val % 2) + p.val
      ∧ g (ix2 r q) = Layout.block ⟨2, ![h, b]⟩ ⟨2, ![N, b]⟩ 0 8 d W hT (ix2 p q)) :
    g = Layout.block ⟨2, ![A, b]⟩ ⟨2, ![M, b]⟩ 0 8 c (repeated h₁ h₂ h₃ W) hR := by
  funext i
  rw [eq_ix2 i]
  obtain ⟨d, p, hd, hr, e⟩ := hg (i 0) (i 1)
  refine e.trans ?_
  have hc : c.val < 8 := c.isLt
  refine (repeated_apply h₁ h₂ h₃ hA1 hb W ⟨c.val / 2, by omega⟩ ⟨c.val % 2, by omega⟩ (i 0) (i 1) (hR.idx c (ix2 (i 0) (i 1))) (hT.idx d (ix2 p (i 1))) ?_ rfl ?_ rfl).symm
  · show c.val * A + (i 0).val = (c.val / 2 * 2 + c.val % 2) * A + (i 0).val
    rw [show c.val / 2 * 2 + c.val % 2 = c.val by omega]
  · show d.val * h + p.val = c.val / 2 * A + (i 0).val
    rw [hr, hA, ← hd, ← Nat.add_assoc]
    congr 1
    calc d.val * h = (2 * (d.val / 2) + d.val % 2) * h := by rw [Nat.div_add_mod]
      _ = d.val / 2 * (2 * h) + h * (d.val % 2) := by ring

end Cert.Both
-- ==== Proof.HalvesValue.lean ====
/-
# The exchange of the halves between the two cores of a chip against its reference

What a device ends with is its block of the reference's result, at any float interpretation.
-/
module

public import proofs.«01_k».proof.Proof.HalvesRun
public import proofs.«01_k».proof.Proof.Both
public import proofs.«01_k».proof.Proof.Gen.HalvesRefIdeal.Run

@[expose] public section

noncomputable section

namespace Cert.HalvesIdeal.Run

open Idealize.ShloMosaic Idealize.ShloMosaic.TcCoe
open Idealize.SL.Sem
open Cert.Moves Cert.Both

variable {F : FTy → Type} [FloatOps F]

variable (m : Mem0 nD τ sig (Elt F))

namespace Arr

variable (x : Arr)

theorem put_read (d : Dev nD) (g : x.r.view.ref.ty.Contents (Elt F)) (p : Fin x.h) (q : Fin x.b) (r : Fin x.A) (hr : r.val = x.h * (d.val % 2) + p.val) :
    (x.half d).dst.view.read (Elt F) g (ix2 p q) = x.r.view.read (Elt F) g (ix2 r q) := by
  show x.r.view.read (Elt F) g ((Rect.unit (s := ⟨2, ![x.A, x.b]⟩) (x.put d) (⟨2, ![x.h, x.b]⟩ : Shape).size (x.put_inb d)).emb (ix2 p q)) = _
  have e0 : x.put d 0 = x.h * (d.val % 2) := congrFun (x.put_eq d) 0
  have e1 : x.put d 1 = 0 := congrFun (x.put_eq d) 1
  refine congrArg _ (funext fun a => Fin.ext ?_)
  match a with
  | ⟨0, _⟩ => show x.put d 0 + 1 * p.val = r.val; rw [e0, hr]; omega
  | ⟨1, _⟩ => show x.put d 1 + 1 * q.val = q.val; rw [e1]; omega

/-- Every row of the result is a row of one of the chip's two cores. -/
theorem joined (c : Dev nD) (g : x.r.view.ref.ty.Contents (Elt F)) (B : Dev nD → x.a.view.ref.ty.Contents (Elt F))
    (h1 : (x.half c).dst.view.read (Elt F) g = x.a.view.read (Elt F) (B c))
    (h2 : (x.half (x.peer c)).dst.view.read (Elt F) g = x.a.view.read (Elt F) (B (x.peer c))) (r : Fin x.A) (q : Fin x.b) :
    ∃ (d : Dev nD) (p : Fin x.h), d.val / 2 = c.val / 2 ∧ r.val = x.h * (d.val % 2) + p.val
      ∧ x.r.view.read (Elt F) g (ix2 r q) = x.a.view.read (Elt F) (B d) (ix2 p q) := by
  have hr : r.val < 2 * x.h := x.two ▸ r.isLt
  have key (d : Dev nD) (hd : d.val / 2 = c.val / 2) (hB : (x.half d).dst.view.read (Elt F) g = x.a.view.read (Elt F) (B d))
      (lo : x.h * (d.val % 2) ≤ r.val) (hi : r.val < x.h * (d.val % 2) + x.h) :
      ∃ (d : Dev nD) (p : Fin x.h), d.val / 2 = c.val / 2 ∧ r.val = x.h * (d.val % 2) + p.val
        ∧ x.r.view.read (Elt F) g (ix2 r q) = x.a.view.read (Elt F) (B d) (ix2 p q) := by
    have hp : r.val = x.h * (d.val % 2) + (r.val - x.h * (d.val % 2)) := by omega
    exact ⟨d, ⟨r.val - x.h * (d.val % 2), by omega⟩, hd, hp, (x.put_read d g _ q r hp).symm.trans (congrFun hB _)⟩
  have own := key c rfl h1
  have other := key (x.peer c) (by rw [x.peer_eq]; exact sib_chip c) h2
  rw [show (x.peer c).val % 2 = 1 - c.val % 2 by rw [x.peer_eq]; exact sib_core c] at other
  rcases Nat.mod_two_eq_zero_or_one c.val with e | e <;> rw [e] at own other <;> simp only [Nat.mul_zero, Nat.mul_one, Nat.sub_zero, Nat.sub_self] at own other
  · by_cases hq : r.val < x.h
    · exact own (by omega) (by omega)
    · exact other (by omega) (by omega)
  · by_cases hq : r.val < x.h
    · exact other (by omega) (by omega)
    · exact own (by omega) (by omega)

end Arr

variable (s : MemSt nD τ sig (Elt F)) (hl : ∀ t c, (plan m).Landed t c s) (hu : ∀ u c, (plan m).Copied u c s)

include hl hu in
theorem rows (i : Fin 8) (c : Dev nD) (r : Fin (arr i).A) (q : Fin (arr i).b) :
    ∃ (d : Dev nD) (p : Fin (arr i).h), d.val / 2 = c.val / 2 ∧ r.val = (arr i).h * (d.val % 2) + p.val
      ∧ (arr i).r.view.read (Elt F) (s.mem ((arr i).r.view.loc (c.tc : Thread nD τ))) (ix2 r q)
        = (arr i).a.view.read (Elt F) (m ((arr i).a.view.loc (d.tc : Thread nD τ))) (ix2 p q) := by
  have h : ((arr i).half ((arr i).peer c)).dst.view.read (Elt F) (s.mem ((arr i).r.view.loc (((arr i).peer ((arr i).peer c)).tc : Thread nD τ)))
      = (arr i).a.view.read (Elt F) (m ((arr i).a.view.loc (((arr i).peer c).tc : Thread nD τ))) := hl i ((arr i).peer c)
  have e : (arr i).peer ((arr i).peer c) = c := peer_peer i c
  rw [e] at h
  exact (arr i).joined c _ (fun d => m ((arr i).a.view.loc (d.tc : Thread nD τ))) (hu i c) h r q

/-- The rows of both cores are a block of the reference's result. -/
theorem rows_value {α : Type} {N M A h b : ℕ} (hA : A = 2 * h) (hA1 : 1 < A) (hb : 1 < b)
    (h₁ : (⟨2, ![N, b]⟩ : Shape).ShapeCasts ⟨4, ![4, 1, A, b]⟩) (h₂ : (⟨4, ![4, 1, A, b]⟩ : Shape).BroadcastsInDim ⟨4, ![4, 2, A, b]⟩ ![0, 1, 2, 3])
    (h₃ : (⟨4, ![4, 2, A, b]⟩ : Shape).ShapeCasts ⟨2, ![M, b]⟩) (c : Dev nD)
    {g : (⟨2, ![A, b]⟩ : Shape).Idx → α} {B : Dev nD → (⟨2, ![h, b]⟩ : Shape).Idx → α} {W : (⟨2, ![N, b]⟩ : Shape).Idx → α}
    (hT : Layout.Tiles ⟨2, ![h, b]⟩ ⟨2, ![N, b]⟩ 0 8) (hR : Layout.Tiles ⟨2, ![A, b]⟩ ⟨2, ![M, b]⟩ 0 8)
    (hB : ∀ d, B d = Layout.block ⟨2, ![h, b]⟩ ⟨2, ![N, b]⟩ 0 8 d W hT)
    (hg : ∀ (r : Fin A) (q : Fin b), ∃ (d : Dev nD) (p : Fin h), d.val / 2 = c.val / 2 ∧ r.val = h * (d.val % 2) + p.val ∧ g (ix2 r q) = B d (ix2 p q)) :
    g = Layout.block ⟨2, ![A, b]⟩ ⟨2, ![M, b]⟩ 0 8 c (repeated h₁ h₂ h₃ W) hR :=
  block_repeated h₁ h₂ h₃ hA hA1 hb W c hT hR g fun r q => by
    obtain ⟨d, p, hd, hp, e⟩ := hg r q
    exact ⟨d, p, hd, hp, e.trans (congrFun (hB d) _)⟩

variable (m' : Mem0 Cert.HalvesRefIdeal.nD Cert.HalvesRefIdeal.τ Cert.HalvesRefIdeal.sig (Elt F))

/-- The reference's arrays. -/
abbrev whole (r : Ref Cert.HalvesRefIdeal.sig .tc) := m' (((0 : Dev Cert.HalvesRefIdeal.nD).tc : Thread Cert.HalvesRefIdeal.nD Cert.HalvesRefIdeal.τ).loc r)

/-- Every device holds its block of the reference's arrays. -/
def Holds : Prop := ∀ c : Dev nD,
    m ((c.tc : Thread nD τ).loc main_arg0) = Layout.block ⟨2, ![1024, 1408]⟩ ⟨2, ![8192, 1408]⟩ 0 8 c (whole m' Cert.HalvesRefIdeal.main_arg0)
    ∧ m ((c.tc : Thread nD τ).loc main_arg1) = Layout.block ⟨2, ![1024, 1408]⟩ ⟨2, ![8192, 1408]⟩ 0 8 c (whole m' Cert.HalvesRefIdeal.main_arg1)
    ∧ m ((c.tc : Thread nD τ).loc main_arg2) = Layout.block ⟨2, ![704, 2048]⟩ ⟨2, ![5632, 2048]⟩ 0 8 c (whole m' Cert.HalvesRefIdeal.main_arg2)
    ∧ m ((c.tc : Thread nD τ).loc main_arg3) = Layout.block ⟨2, ![1024, 1280]⟩ ⟨2, ![8192, 1280]⟩ 0 8 c (whole m' Cert.HalvesRefIdeal.main_arg3)
    ∧ m ((c.tc : Thread nD τ).loc main_arg4) = Layout.block ⟨2, ![256, 2048]⟩ ⟨2, ![2048, 2048]⟩ 0 8 c (whole m' Cert.HalvesRefIdeal.main_arg4)
    ∧ m ((c.tc : Thread nD τ).loc main_arg5) = Layout.block ⟨2, ![1024, 1408]⟩ ⟨2, ![8192, 1408]⟩ 0 8 c (whole m' Cert.HalvesRefIdeal.main_arg5)
    ∧ m ((c.tc : Thread nD τ).loc main_arg6) = Layout.block ⟨2, ![1024, 1408]⟩ ⟨2, ![8192, 1408]⟩ 0 8 c (whole m' Cert.HalvesRefIdeal.main_arg6)
    ∧ m ((c.tc : Thread nD τ).loc main_arg7) = Layout.block ⟨2, ![704, 2048]⟩ ⟨2, ![5632, 2048]⟩ 0 8 c (whole m' Cert.HalvesRefIdeal.main_arg7)

/-- Both programs' runs, side by side. -/
theorem values (ρ : Dev nD → PrngReg) (ρ' : Dev Cert.HalvesRefIdeal.nD → PrngReg) (hm : Holds m m') :
    θ_run (defs (F := F)) (onTc (τ := τ) (main (F := F))) ⟨m, fun _ => 0, ρ⟩ (fun r => ∀ c : Dev nD,
        r.2.mem ((c.tc : Thread nD τ).loc main_v1_0) = Layout.block ⟨2, ![2048, 1408]⟩ ⟨2, ![16384, 1408]⟩ 0 8 c (repeated Cert.HalvesRefIdeal.Gen.shapeCasts_S8192x1408_S4x1x2048x1408 Cert.HalvesRefIdeal.Gen.bcast_S4x1x2048x1408_S4x2x2048x1408_0_1_2_3 Cert.HalvesRefIdeal.Gen.shapeCasts_S4x2x2048x1408_S16384x1408 (whole m' Cert.HalvesRefIdeal.main_arg0))
        ∧ r.2.mem ((c.tc : Thread nD τ).loc main_v1_1) = Layout.block ⟨2, ![2048, 1408]⟩ ⟨2, ![16384, 1408]⟩ 0 8 c (repeated Cert.HalvesRefIdeal.Gen.shapeCasts_S8192x1408_S4x1x2048x1408 Cert.HalvesRefIdeal.Gen.bcast_S4x1x2048x1408_S4x2x2048x1408_0_1_2_3 Cert.HalvesRefIdeal.Gen.shapeCasts_S4x2x2048x1408_S16384x1408 (whole m' Cert.HalvesRefIdeal.main_arg1))
        ∧ r.2.mem ((c.tc : Thread nD τ).loc main_v1_2) = Layout.block ⟨2, ![1408, 2048]⟩ ⟨2, ![11264, 2048]⟩ 0 8 c (repeated Cert.HalvesRefIdeal.Gen.shapeCasts_S5632x2048_S4x1x1408x2048 Cert.HalvesRefIdeal.Gen.bcast_S4x1x1408x2048_S4x2x1408x2048_0_1_2_3 Cert.HalvesRefIdeal.Gen.shapeCasts_S4x2x1408x2048_S11264x2048 (whole m' Cert.HalvesRefIdeal.main_arg2))
        ∧ r.2.mem ((c.tc : Thread nD τ).loc main_v1_3) = Layout.block ⟨2, ![2048, 1280]⟩ ⟨2, ![16384, 1280]⟩ 0 8 c (repeated Cert.HalvesRefIdeal.Gen.shapeCasts_S8192x1280_S4x1x2048x1280 Cert.HalvesRefIdeal.Gen.bcast_S4x1x2048x1280_S4x2x2048x1280_0_1_2_3 Cert.HalvesRefIdeal.Gen.shapeCasts_S4x2x2048x1280_S16384x1280 (whole m' Cert.HalvesRefIdeal.main_arg3))
        ∧ r.2.mem ((c.tc : Thread nD τ).loc main_v1_4) = Layout.block ⟨2, ![512, 2048]⟩ ⟨2, ![4096, 2048]⟩ 0 8 c (repeated Cert.HalvesRefIdeal.Gen.shapeCasts_S2048x2048_S4x1x512x2048 Cert.HalvesRefIdeal.Gen.bcast_S4x1x512x2048_S4x2x512x2048_0_1_2_3 Cert.HalvesRefIdeal.Gen.shapeCasts_S4x2x512x2048_S4096x2048 (whole m' Cert.HalvesRefIdeal.main_arg4))
        ∧ r.2.mem ((c.tc : Thread nD τ).loc main_v1_5) = Layout.block ⟨2, ![2048, 1408]⟩ ⟨2, ![16384, 1408]⟩ 0 8 c (repeated Cert.HalvesRefIdeal.Gen.shapeCasts_S8192x1408_S4x1x2048x1408 Cert.HalvesRefIdeal.Gen.bcast_S4x1x2048x1408_S4x2x2048x1408_0_1_2_3 Cert.HalvesRefIdeal.Gen.shapeCasts_S4x2x2048x1408_S16384x1408 (whole m' Cert.HalvesRefIdeal.main_arg5))
        ∧ r.2.mem ((c.tc : Thread nD τ).loc main_v1_6) = Layout.block ⟨2, ![2048, 1408]⟩ ⟨2, ![16384, 1408]⟩ 0 8 c (repeated Cert.HalvesRefIdeal.Gen.shapeCasts_S8192x1408_S4x1x2048x1408 Cert.HalvesRefIdeal.Gen.bcast_S4x1x2048x1408_S4x2x2048x1408_0_1_2_3 Cert.HalvesRefIdeal.Gen.shapeCasts_S4x2x2048x1408_S16384x1408 (whole m' Cert.HalvesRefIdeal.main_arg6))
        ∧ r.2.mem ((c.tc : Thread nD τ).loc main_v1_7) = Layout.block ⟨2, ![1408, 2048]⟩ ⟨2, ![11264, 2048]⟩ 0 8 c (repeated Cert.HalvesRefIdeal.Gen.shapeCasts_S5632x2048_S4x1x1408x2048 Cert.HalvesRefIdeal.Gen.bcast_S4x1x1408x2048_S4x2x1408x2048_0_1_2_3 Cert.HalvesRefIdeal.Gen.shapeCasts_S4x2x1408x2048_S11264x2048 (whole m' Cert.HalvesRefIdeal.main_arg7))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ θ_run (Cert.HalvesRefIdeal.defs (F := F)) (onTc (τ := Cert.HalvesRefIdeal.τ) (Cert.HalvesRefIdeal.main (F := F))) ⟨m', fun _ => 0, ρ'⟩ (fun r =>
        r.2.mem (((0 : Dev Cert.HalvesRefIdeal.nD).tc : Thread Cert.HalvesRefIdeal.nD Cert.HalvesRefIdeal.τ).loc Cert.HalvesRefIdeal.main_v2) = repeated Cert.HalvesRefIdeal.Gen.shapeCasts_S8192x1408_S4x1x2048x1408 Cert.HalvesRefIdeal.Gen.bcast_S4x1x2048x1408_S4x2x2048x1408_0_1_2_3 Cert.HalvesRefIdeal.Gen.shapeCasts_S4x2x2048x1408_S16384x1408 (whole m' Cert.HalvesRefIdeal.main_arg0)
        ∧ r.2.mem (((0 : Dev Cert.HalvesRefIdeal.nD).tc : Thread Cert.HalvesRefIdeal.nD Cert.HalvesRefIdeal.τ).loc Cert.HalvesRefIdeal.main_v5) = repeated Cert.HalvesRefIdeal.Gen.shapeCasts_S8192x1408_S4x1x2048x1408 Cert.HalvesRefIdeal.Gen.bcast_S4x1x2048x1408_S4x2x2048x1408_0_1_2_3 Cert.HalvesRefIdeal.Gen.shapeCasts_S4x2x2048x1408_S16384x1408 (whole m' Cert.HalvesRefIdeal.main_arg1)
        ∧ r.2.mem (((0 : Dev Cert.HalvesRefIdeal.nD).tc : Thread Cert.HalvesRefIdeal.nD Cert.HalvesRefIdeal.τ).loc Cert.HalvesRefIdeal.main_v8) = repeated Cert.HalvesRefIdeal.Gen.shapeCasts_S5632x2048_S4x1x1408x2048 Cert.HalvesRefIdeal.Gen.bcast_S4x1x1408x2048_S4x2x1408x2048_0_1_2_3 Cert.HalvesRefIdeal.Gen.shapeCasts_S4x2x1408x2048_S11264x2048 (whole m' Cert.HalvesRefIdeal.main_arg2)
        ∧ r.2.mem (((0 : Dev Cert.HalvesRefIdeal.nD).tc : Thread Cert.HalvesRefIdeal.nD Cert.HalvesRefIdeal.τ).loc Cert.HalvesRefIdeal.main_v11) = repeated Cert.HalvesRefIdeal.Gen.shapeCasts_S8192x1280_S4x1x2048x1280 Cert.HalvesRefIdeal.Gen.bcast_S4x1x2048x1280_S4x2x2048x1280_0_1_2_3 Cert.HalvesRefIdeal.Gen.shapeCasts_S4x2x2048x1280_S16384x1280 (whole m' Cert.HalvesRefIdeal.main_arg3)
        ∧ r.2.mem (((0 : Dev Cert.HalvesRefIdeal.nD).tc : Thread Cert.HalvesRefIdeal.nD Cert.HalvesRefIdeal.τ).loc Cert.HalvesRefIdeal.main_v14) = repeated Cert.HalvesRefIdeal.Gen.shapeCasts_S2048x2048_S4x1x512x2048 Cert.HalvesRefIdeal.Gen.bcast_S4x1x512x2048_S4x2x512x2048_0_1_2_3 Cert.HalvesRefIdeal.Gen.shapeCasts_S4x2x512x2048_S4096x2048 (whole m' Cert.HalvesRefIdeal.main_arg4)
        ∧ r.2.mem (((0 : Dev Cert.HalvesRefIdeal.nD).tc : Thread Cert.HalvesRefIdeal.nD Cert.HalvesRefIdeal.τ).loc Cert.HalvesRefIdeal.main_v17) = repeated Cert.HalvesRefIdeal.Gen.shapeCasts_S8192x1408_S4x1x2048x1408 Cert.HalvesRefIdeal.Gen.bcast_S4x1x2048x1408_S4x2x2048x1408_0_1_2_3 Cert.HalvesRefIdeal.Gen.shapeCasts_S4x2x2048x1408_S16384x1408 (whole m' Cert.HalvesRefIdeal.main_arg5)
        ∧ r.2.mem (((0 : Dev Cert.HalvesRefIdeal.nD).tc : Thread Cert.HalvesRefIdeal.nD Cert.HalvesRefIdeal.τ).loc Cert.HalvesRefIdeal.main_v20) = repeated Cert.HalvesRefIdeal.Gen.shapeCasts_S8192x1408_S4x1x2048x1408 Cert.HalvesRefIdeal.Gen.bcast_S4x1x2048x1408_S4x2x2048x1408_0_1_2_3 Cert.HalvesRefIdeal.Gen.shapeCasts_S4x2x2048x1408_S16384x1408 (whole m' Cert.HalvesRefIdeal.main_arg6)
        ∧ r.2.mem (((0 : Dev Cert.HalvesRefIdeal.nD).tc : Thread Cert.HalvesRefIdeal.nD Cert.HalvesRefIdeal.τ).loc Cert.HalvesRefIdeal.main_v23) = repeated Cert.HalvesRefIdeal.Gen.shapeCasts_S5632x2048_S4x1x1408x2048 Cert.HalvesRefIdeal.Gen.bcast_S4x1x1408x2048_S4x2x1408x2048_0_1_2_3 Cert.HalvesRefIdeal.Gen.shapeCasts_S4x2x1408x2048_S11264x2048 (whole m' Cert.HalvesRefIdeal.main_arg7)
        ∧ r.2.mem (((0 : Dev Cert.HalvesRefIdeal.nD).tc : Thread Cert.HalvesRefIdeal.nD Cert.HalvesRefIdeal.τ).loc Cert.HalvesRefIdeal.main_arg0) = whole m' Cert.HalvesRefIdeal.main_arg0
        ∧ r.2.mem (((0 : Dev Cert.HalvesRefIdeal.nD).tc : Thread Cert.HalvesRefIdeal.nD Cert.HalvesRefIdeal.τ).loc Cert.HalvesRefIdeal.main_arg1) = whole m' Cert.HalvesRefIdeal.main_arg1
        ∧ r.2.mem (((0 : Dev Cert.HalvesRefIdeal.nD).tc : Thread Cert.HalvesRefIdeal.nD Cert.HalvesRefIdeal.τ).loc Cert.HalvesRefIdeal.main_arg2) = whole m' Cert.HalvesRefIdeal.main_arg2
        ∧ r.2.mem (((0 : Dev Cert.HalvesRefIdeal.nD).tc : Thread Cert.HalvesRefIdeal.nD Cert.HalvesRefIdeal.τ).loc Cert.HalvesRefIdeal.main_arg3) = whole m' Cert.HalvesRefIdeal.main_arg3
        ∧ r.2.mem (((0 : Dev Cert.HalvesRefIdeal.nD).tc : Thread Cert.HalvesRefIdeal.nD Cert.HalvesRefIdeal.τ).loc Cert.HalvesRefIdeal.main_arg4) = whole m' Cert.HalvesRefIdeal.main_arg4
        ∧ r.2.mem (((0 : Dev Cert.HalvesRefIdeal.nD).tc : Thread Cert.HalvesRefIdeal.nD Cert.HalvesRefIdeal.τ).loc Cert.HalvesRefIdeal.main_arg5) = whole m' Cert.HalvesRefIdeal.main_arg5
        ∧ r.2.mem (((0 : Dev Cert.HalvesRefIdeal.nD).tc : Thread Cert.HalvesRefIdeal.nD Cert.HalvesRefIdeal.τ).loc Cert.HalvesRefIdeal.main_arg6) = whole m' Cert.HalvesRefIdeal.main_arg6
        ∧ r.2.mem (((0 : Dev Cert.HalvesRefIdeal.nD).tc : Thread Cert.HalvesRefIdeal.nD Cert.HalvesRefIdeal.τ).loc Cert.HalvesRefIdeal.main_arg7) = whole m' Cert.HalvesRefIdeal.main_arg7) := by
  refine ⟨(θ_run defs _ _).mono (fun r h c => ?_) (ends m ρ), (θ_run Cert.HalvesRefIdeal.defs _ _).mono (fun _ h => h 0) (Cert.HalvesRefIdeal.Value.run m' ρ')⟩
  obtain ⟨hl, hu, hk, -⟩ := h
  have w := rows m r.2 hl hu
  exact ⟨rows_value rfl (by decide) (by decide) _ _ _ c (by decide) (by decide) (fun d => (hm d).1) (w 0 c),
    rows_value rfl (by decide) (by decide) _ _ _ c (by decide) (by decide) (fun d => (hm d).2.1) (w 1 c),
    rows_value rfl (by decide) (by decide) _ _ _ c (by decide) (by decide) (fun d => (hm d).2.2.1) (w 2 c),
    rows_value rfl (by decide) (by decide) _ _ _ c (by decide) (by decide) (fun d => (hm d).2.2.2.1) (w 3 c),
    rows_value rfl (by decide) (by decide) _ _ _ c (by decide) (by decide) (fun d => (hm d).2.2.2.2.1) (w 4 c),
    rows_value rfl (by decide) (by decide) _ _ _ c (by decide) (by decide) (fun d => (hm d).2.2.2.2.2.1) (w 5 c),
    rows_value rfl (by decide) (by decide) _ _ _ c (by decide) (by decide) (fun d => (hm d).2.2.2.2.2.2.1) (w 6 c),
    rows_value rfl (by decide) (by decide) _ _ _ c (by decide) (by decide) (fun d => (hm d).2.2.2.2.2.2.2) (w 7 c),
    hk c 0, hk c 1, hk c 2, hk c 3, hk c 4, hk c 5, hk c 6, hk c 7⟩

end Cert.HalvesIdeal.Run
-- ==== Proof.HalvesClaims.lean ====
/-
# The claims on the exchange of the halves between the two cores of a chip
-/
module

public import proofs.«01_k».proof.Defs
public import proofs.«01_k».proof.Proof.HalvesValue
public import proofs.«01_k».proof.Proof.Gen.Halves
public import proofs.«01_k».proof.Proof.Gen.HalvesRef
public import Idealize.ShloMosaic.Lib.Quiescent

@[expose] public section

noncomputable section

namespace Cert.Proof.Halves

open Idealize.ShloMosaic Idealize.ShloMosaic.TcCoe Idealize.SL.Sem
open Cert.HalvesIdeal.Run

theorem frame_kernel : Cert.quiescent_Halves := fun m ρ _ =>
  (θ_run Cert.HalvesIdeal.defs _ _).mono (fun _ h => ⟨fun c => ⟨h.2.2.1 c 0, h.2.2.1 c 1, h.2.2.1 c 2, h.2.2.1 c 3, h.2.2.1 c 4, h.2.2.1 c 5, h.2.2.1 c 6, h.2.2.1 c 7⟩, h.2.2.2⟩)
    (ends (F := Bits) m ρ)

theorem frame_ideal : Cert.quiescent_HalvesIdeal := fun m ρ _ =>
  (θ_run Cert.HalvesIdeal.defs _ _).mono (fun _ h => ⟨fun c => ⟨h.2.2.1 c 0, h.2.2.1 c 1, h.2.2.1 c 2, h.2.2.1 c 3, h.2.2.1 c 4, h.2.2.1 c 5, h.2.2.1 c 6, h.2.2.1 c 7⟩, h.2.2.2⟩)
    (ends (F := Ideal) m ρ)

theorem frame_ref_ideal : Cert.quiescent_HalvesRefIdeal := fun m ρ _ =>
  (θ_run Cert.HalvesRefIdeal.defs _ _).mono (fun r h => ⟨fun c => (h c).2.2.2.2.2.2.2.2, sem_eq_zero_of_no_sems (by decide) r.2⟩)
    (Cert.HalvesRefIdeal.Value.run (F := Ideal) m ρ)

theorem frame_ref : Cert.quiescent_HalvesRef := fun m ρ _ =>
  (θ_run Cert.HalvesRefIdeal.defs _ _).mono (fun r h => ⟨fun c => (h c).2.2.2.2.2.2.2.2, sem_eq_zero_of_no_sems (by decide) r.2⟩)
    (Cert.HalvesRefIdeal.Value.run (F := Bits) m ρ)

set_option maxHeartbeats 4000000 in
theorem bitexact : Cert.bitexact_Halves_HalvesRef := fun m ρ m' ρ' _ hm => ⟨_, _, _, _, _, _, _, _, values (F := Bits) m m' ρ ρ' hm⟩

theorem algebraic : Cert.algebraic_HalvesIdeal_HalvesRefIdeal := fun m ρ m' ρ' _ hm => ⟨_, _, _, _, _, _, _, _, values (F := Ideal) m m' ρ ρ' hm⟩

end Cert.Proof.Halves
-- ==== Proof.GatherCopies.lean ====
/-
# The gathering of the weights: its copies

Every chip holds one block of each weight, and each of its two cores holds it. A core copies its block to its place in
its result, and sends its half of the block (of the small array: all of it) to the core of the same number of each of
the three other chips. A half that arrives is sent on to the other core of the chip.
-/
module

public import proofs.«01_k».proof.Proof.Seat
public import proofs.«01_k».proof.Proof.Gen.GatherIdeal.Launch
public import proofs.«01_k».proof.Proof.Gen.GatherIdeal.Points
public import proofs.«01_k».proof.Proof.Gen.GatherIdeal.Skeleton

@[expose] public section

noncomputable section

namespace Cert.GatherIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)
open Idealize.ShloMosaic.Pipeline
open Cert.Moves
open Facts₀ Facts

/-! ## The devices -/

/-- The other core of the chip. -/
def sib (c : Dev nD) : Dev nD := ⟨c.val + 1 - 2 * (c.val % 2), by have h : c.val < 8 := c.isLt; show _ < 8; omega⟩

/-- The same core of the other three chips. -/
def other : Fin 3 → Dev nD → Dev nD
  | 0, c => ⟨(c.val + 4) % 8, by show _ < 8; omega⟩
  | 1, c => ⟨c.val / 4 * 4 + (c.val + 2) % 4, by have h : c.val < 8 := c.isLt; show _ < 8; omega⟩
  | 2, c => ⟨(c.val + 4) % 8 / 4 * 4 + (c.val + 2) % 4, by show _ < 8; omega⟩

theorem sib_sib (c : Dev nD) : sib (sib c) = c := by revert c; decide
theorem other_other (k : Fin 3) (c : Dev nD) : other k (other k c) = c := by revert k c; decide
theorem other_core (k : Fin 3) (c : Dev nD) : (other k c).val % 2 = c.val % 2 := by revert k c; decide
theorem other_chip (k : Fin 3) (c : Dev nD) : (other k c).val / 2 ≠ c.val / 2 := by revert k c; decide
theorem other_chips (k k' : Fin 3) (c : Dev nD) (h : k ≠ k') : (other k c).val / 2 ≠ (other k' c).val / 2 := by revert k k' c; decide
theorem other_sib (k : Fin 3) (c : Dev nD) : (other k (sib c)).val / 2 = (other k c).val / 2 := by revert k c; decide
theorem sib_core (c : Dev nD) : (sib c).val % 2 = 1 - c.val % 2 := by revert c; decide

/-! ## One weight -/

/-- A weight: its block, the result, where each copy goes and to whom. -/
structure Arr where
  A : ℕ
  h : ℕ
  b : ℕ
  two : A = 2 * h
  pos : 0 < (⟨2, ![h, b]⟩ : Shape).numel
  posA : 0 < (⟨2, ![A, b]⟩ : Shape).numel
  a : Memref sig .tc .hbm ⟨2, ![A, b]⟩ .bf16
  r : Memref sig .tc .hbm ⟨3, ![4, A, b]⟩ .bf16
  sc : r.view.ref.isScScratch = false
  sqA : (⟨3, ![1, A, b]⟩ : Shape).Squeezes ⟨2, ![A, b]⟩
  sq : (⟨3, ![1, h, b]⟩ : Shape).Squeezes ⟨2, ![h, b]⟩
  /-- the place of the whole block -/
  own : Dev nD → Fin 3 → ℕ
  own_inb : ∀ c a, own c a + (⟨3, ![1, A, b]⟩ : Shape).size a ≤ (⟨3, ![4, A, b]⟩ : Shape).size a
  own_eq : ∀ c, own c = ![c.val / 2, 0, 0]
  /-- the place of the half sent, at the receivers -/
  put : Dev nD → Fin 3 → ℕ
  put_inb : ∀ c a, put c a + (⟨3, ![1, h, b]⟩ : Shape).size a ≤ (⟨3, ![4, A, b]⟩ : Shape).size a
  put_eq : ∀ c, put c = ![c.val / 2, h * (c.val % 2), 0]
  /-- the half sent -/
  cut : Dev nD → Fin 2 → ℕ
  cut_inb : ∀ c a, cut c a + (⟨2, ![h, b]⟩ : Shape).size a ≤ (⟨2, ![A, b]⟩ : Shape).size a
  cut_eq : ∀ c, cut c = ![h * (c.val % 2), 0]
  /-- the place of a half that arrived, sent on -/
  piece : Fin 3 → Dev nD → Fin 3 → ℕ
  piece_inb : ∀ k c a, piece k c a + (⟨3, ![1, h, b]⟩ : Shape).size a ≤ (⟨3, ![4, A, b]⟩ : Shape).size a
  piece_eq : ∀ k c, piece k c = ![(other k c).val / 2, h * (c.val % 2), 0]
  peer : Fin 3 → Dev nD → Dev nD
  peer_eq : ∀ k c, peer k c = other k c
  fwd : Fin 3 → Dev nD → Dev nD
  fwd_eq : ∀ k c, fwd k c = sib c
  wa : a.view.WordExact
  wcut : ∀ c, (a.slice (Rect.unit (s := ⟨2, ![A, b]⟩) (cut c) (⟨2, ![h, b]⟩ : Shape).size (cut_inb c)) (fun _ => rfl)).view.WordExact
  wown : ∀ c, (seat r (own c) (own_inb c) sqA).view.WordExact
  wput : ∀ c, (seat r (put c) (put_inb c) sq).view.WordExact
  wpiece : ∀ k c, (seat r (piece k c) (piece_inb k c) sq).view.WordExact

namespace Arr

variable (x : Arr)

def home (c : Dev nD) : Xfer sig :=
  ⟨⟨2, ![x.A, x.b]⟩, .bf16, x.a, seat x.r (x.own c) (x.own_inb c) x.sqA, x.wa, x.wown c, x.sc, x.posA⟩
def send (c : Dev nD) : Xfer sig :=
  ⟨⟨2, ![x.h, x.b]⟩, .bf16, x.a.slice (Rect.unit (s := ⟨2, ![x.A, x.b]⟩) (x.cut c) (⟨2, ![x.h, x.b]⟩ : Shape).size (x.cut_inb c)) (fun _ => rfl),
    seat x.r (x.put c) (x.put_inb c) x.sq, x.wcut c, x.wput c, x.sc, x.pos⟩
def onward (k : Fin 3) (c : Dev nD) : Xfer sig :=
  ⟨⟨2, ![x.h, x.b]⟩, .bf16, seat x.r (x.piece k c) (x.piece_inb k c) x.sq, seat x.r (x.piece k c) (x.piece_inb k c) x.sq,
    x.wpiece k c, x.wpiece k c, x.sc, x.pos⟩

end Arr

/-! ## The weights -/

def cols (a : Memref sig .tc .hbm S2048x1408 .bf16) (ha : a.IsWhole) (r : Memref sig .tc .hbm S4x2048x1408 .bf16) (hr : r.IsWhole)
    (sc : r.view.ref.isScScratch = false) (peer : Fin 3 → Dev nD → Dev nD) (peer_eq : ∀ k c, peer k c = other k c)
    (fwd : Fin 3 → Dev nD → Dev nD) (fwd_eq : ∀ k c, fwd k c = sib c) : Arr where
  A := 2048
  h := 1024
  b := 1408
  two := rfl
  pos := by decide
  posA := by decide
  a := a
  r := r
  sc := sc
  sqA := squeezes_S1x2048x1408_S2048x1408
  sq := squeezes_S1x1024x1408_S1024x1408
  own := k0_off1
  own_inb := k0_off1_inb
  own_eq := by decide +kernel
  put := k0_off6
  put_inb := k0_off6_inb
  put_eq := by decide +kernel
  cut := k0_off7
  cut_inb := k0_off7_inb
  cut_eq := by decide +kernel
  piece
    | 0 => k0_off14
    | 1 => k0_off18
    | 2 => k0_off22
  piece_inb
    | 0 => k0_off14_inb
    | 1 => k0_off18_inb
    | 2 => k0_off22_inb
  piece_eq := by decide +kernel
  peer := peer
  peer_eq := peer_eq
  fwd := fwd
  fwd_eq := fwd_eq
  wa := ha.wordExact
  wcut c := ha.wordExact_slice rfl _ (k0_off7_wordsbf16 c)
  wown c := (hr.wordExact_slice rfl _ (k0_off1_wordsbf16 c)).reshape _ _
  wput c := (hr.wordExact_slice rfl _ (k0_off6_wordsbf16 c)).reshape _ _
  wpiece
    | 0, c => (hr.wordExact_slice rfl _ (k0_off14_wordsbf16 c)).reshape _ _
    | 1, c => (hr.wordExact_slice rfl _ (k0_off18_wordsbf16 c)).reshape _ _
    | 2, c => (hr.wordExact_slice rfl _ (k0_off22_wordsbf16 c)).reshape _ _

def down (a : Memref sig .tc .hbm S1408x2048 .bf16) (ha : a.IsWhole) (r : Memref sig .tc .hbm S4x1408x2048 .bf16) (hr : r.IsWhole)
    (sc : r.view.ref.isScScratch = false) (peer : Fin 3 → Dev nD → Dev nD) (peer_eq : ∀ k c, peer k c = other k c)
    (fwd : Fin 3 → Dev nD → Dev nD) (fwd_eq : ∀ k c, fwd k c = sib c) : Arr where
  A := 1408
  h := 704
  b := 2048
  two := rfl
  pos := by decide
  posA := by decide
  a := a
  r := r
  sc := sc
  sqA := squeezes_S1x1408x2048_S1408x2048
  sq := squeezes_S1x704x2048_S704x2048
  own := k0_off2
  own_inb := k0_off2_inb
  own_eq := by decide +kernel
  put := k0_off8
  put_inb := k0_off8_inb
  put_eq := by decide +kernel
  cut := k0_off9
  cut_inb := k0_off9_inb
  cut_eq := by decide +kernel
  piece
    | 0 => k0_off15
    | 1 => k0_off19
    | 2 => k0_off23
  piece_inb
    | 0 => k0_off15_inb
    | 1 => k0_off19_inb
    | 2 => k0_off23_inb
  piece_eq := by decide +kernel
  peer := peer
  peer_eq := peer_eq
  fwd := fwd
  fwd_eq := fwd_eq
  wa := ha.wordExact
  wcut c := ha.wordExact_slice rfl _ (k0_off9_wordsbf16 c)
  wown c := (hr.wordExact_slice rfl _ (k0_off2_wordsbf16 c)).reshape _ _
  wput c := (hr.wordExact_slice rfl _ (k0_off8_wordsbf16 c)).reshape _ _
  wpiece
    | 0, c => (hr.wordExact_slice rfl _ (k0_off15_wordsbf16 c)).reshape _ _
    | 1, c => (hr.wordExact_slice rfl _ (k0_off19_wordsbf16 c)).reshape _ _
    | 2, c => (hr.wordExact_slice rfl _ (k0_off23_wordsbf16 c)).reshape _ _

def win (a : Memref sig .tc .hbm S2048x1280 .bf16) (ha : a.IsWhole) (r : Memref sig .tc .hbm S4x2048x1280 .bf16) (hr : r.IsWhole)
    (sc : r.view.ref.isScScratch = false) (peer : Fin 3 → Dev nD → Dev nD) (peer_eq : ∀ k c, peer k c = other k c)
    (fwd : Fin 3 → Dev nD → Dev nD) (fwd_eq : ∀ k c, fwd k c = sib c) : Arr where
  A := 2048
  h := 1024
  b := 1280
  two := rfl
  pos := by decide
  posA := by decide
  a := a
  r := r
  sc := sc
  sqA := squeezes_S1x2048x1280_S2048x1280
  sq := squeezes_S1x1024x1280_S1024x1280
  own := k0_off3
  own_inb := k0_off3_inb
  own_eq := by decide +kernel
  put := k0_off10
  put_inb := k0_off10_inb
  put_eq := by decide +kernel
  cut := k0_off11
  cut_inb := k0_off11_inb
  cut_eq := by decide +kernel
  piece
    | 0 => k0_off16
    | 1 => k0_off20
    | 2 => k0_off24
  piece_inb
    | 0 => k0_off16_inb
    | 1 => k0_off20_inb
    | 2 => k0_off24_inb
  piece_eq := by decide +kernel
  peer := peer
  peer_eq := peer_eq
  fwd := fwd
  fwd_eq := fwd_eq
  wa := ha.wordExact
  wcut c := ha.wordExact_slice rfl _ (k0_off11_wordsbf16 c)
  wown c := (hr.wordExact_slice rfl _ (k0_off3_wordsbf16 c)).reshape _ _
  wput c := (hr.wordExact_slice rfl _ (k0_off10_wordsbf16 c)).reshape _ _
  wpiece
    | 0, c => (hr.wordExact_slice rfl _ (k0_off16_wordsbf16 c)).reshape _ _
    | 1, c => (hr.wordExact_slice rfl _ (k0_off20_wordsbf16 c)).reshape _ _
    | 2, c => (hr.wordExact_slice rfl _ (k0_off24_wordsbf16 c)).reshape _ _

def wout (a : Memref sig .tc .hbm S512x2048 .bf16) (ha : a.IsWhole) (r : Memref sig .tc .hbm S4x512x2048 .bf16) (hr : r.IsWhole)
    (sc : r.view.ref.isScScratch = false) (peer : Fin 3 → Dev nD → Dev nD) (peer_eq : ∀ k c, peer k c = other k c)
    (fwd : Fin 3 → Dev nD → Dev nD) (fwd_eq : ∀ k c, fwd k c = sib c) : Arr where
  A := 512
  h := 256
  b := 2048
  two := rfl
  pos := by decide
  posA := by decide
  a := a
  r := r
  sc := sc
  sqA := squeezes_S1x512x2048_S512x2048
  sq := squeezes_S1x256x2048_S256x2048
  own := k0_off4
  own_inb := k0_off4_inb
  own_eq := by decide +kernel
  put := k0_off12
  put_inb := k0_off12_inb
  put_eq := by decide +kernel
  cut := k0_off13
  cut_inb := k0_off13_inb
  cut_eq := by decide +kernel
  piece
    | 0 => k0_off17
    | 1 => k0_off21
    | 2 => k0_off25
  piece_inb
    | 0 => k0_off17_inb
    | 1 => k0_off21_inb
    | 2 => k0_off25_inb
  piece_eq := by decide +kernel
  peer := peer
  peer_eq := peer_eq
  fwd := fwd
  fwd_eq := fwd_eq
  wa := ha.wordExact
  wcut c := ha.wordExact_slice rfl _ (k0_off13_wordsbf16 c)
  wown c := (hr.wordExact_slice rfl _ (k0_off4_wordsbf16 c)).reshape _ _
  wput c := (hr.wordExact_slice rfl _ (k0_off12_wordsbf16 c)).reshape _ _
  wpiece
    | 0, c => (hr.wordExact_slice rfl _ (k0_off17_wordsbf16 c)).reshape _ _
    | 1, c => (hr.wordExact_slice rfl _ (k0_off21_wordsbf16 c)).reshape _ _
    | 2, c => (hr.wordExact_slice rfl _ (k0_off25_wordsbf16 c)).reshape _ _

/-- Whom each half goes to, and who it is sent on to. -/
def peerOf : Fin 8 → Fin 3 → Dev nD → Dev nD
  | 0, 0, c => ⟨k0_dev1 c, k0_dev1_lt c⟩
  | 0, 1, c => ⟨k0_dev2 c, k0_dev2_lt c⟩
  | 0, 2, c => ⟨k0_dev3 c, k0_dev3_lt c⟩
  | 1, 0, c => ⟨k0_dev4 c, k0_dev4_lt c⟩
  | 1, 1, c => ⟨k0_dev5 c, k0_dev5_lt c⟩
  | 1, 2, c => ⟨k0_dev6 c, k0_dev6_lt c⟩
  | 2, 0, c => ⟨k0_dev7 c, k0_dev7_lt c⟩
  | 2, 1, c => ⟨k0_dev8 c, k0_dev8_lt c⟩
  | 2, 2, c => ⟨k0_dev9 c, k0_dev9_lt c⟩
  | 3, 0, c => ⟨k0_dev10 c, k0_dev10_lt c⟩
  | 3, 1, c => ⟨k0_dev11 c, k0_dev11_lt c⟩
  | 3, 2, c => ⟨k0_dev12 c, k0_dev12_lt c⟩
  | 4, 0, c => ⟨k0_dev13 c, k0_dev13_lt c⟩
  | 4, 1, c => ⟨k0_dev14 c, k0_dev14_lt c⟩
  | 4, 2, c => ⟨k0_dev15 c, k0_dev15_lt c⟩
  | 5, 0, c => ⟨k0_dev16 c, k0_dev16_lt c⟩
  | 5, 1, c => ⟨k0_dev17 c, k0_dev17_lt c⟩
  | 5, 2, c => ⟨k0_dev18 c, k0_dev18_lt c⟩
  | 6, 0, c => ⟨k0_dev19 c, k0_dev19_lt c⟩
  | 6, 1, c => ⟨k0_dev20 c, k0_dev20_lt c⟩
  | 6, 2, c => ⟨k0_dev21 c, k0_dev21_lt c⟩
  | 7, 0, c => ⟨k0_dev22 c, k0_dev22_lt c⟩
  | 7, 1, c => ⟨k0_dev23 c, k0_dev23_lt c⟩
  | 7, 2, c => ⟨k0_dev24 c, k0_dev24_lt c⟩
def fwdOf : Fin 8 → Fin 3 → Dev nD → Dev nD
  | 0, 0, c => ⟨k0_dev28 c, k0_dev28_lt c⟩
  | 0, 1, c => ⟨k0_dev36 c, k0_dev36_lt c⟩
  | 0, 2, c => ⟨k0_dev44 c, k0_dev44_lt c⟩
  | 1, 0, c => ⟨k0_dev29 c, k0_dev29_lt c⟩
  | 1, 1, c => ⟨k0_dev37 c, k0_dev37_lt c⟩
  | 1, 2, c => ⟨k0_dev45 c, k0_dev45_lt c⟩
  | 2, 0, c => ⟨k0_dev30 c, k0_dev30_lt c⟩
  | 2, 1, c => ⟨k0_dev38 c, k0_dev38_lt c⟩
  | 2, 2, c => ⟨k0_dev46 c, k0_dev46_lt c⟩
  | 3, 0, c => ⟨k0_dev31 c, k0_dev31_lt c⟩
  | 3, 1, c => ⟨k0_dev39 c, k0_dev39_lt c⟩
  | 3, 2, c => ⟨k0_dev47 c, k0_dev47_lt c⟩
  | 4, 0, c => ⟨k0_dev32 c, k0_dev32_lt c⟩
  | 4, 1, c => ⟨k0_dev40 c, k0_dev40_lt c⟩
  | 4, 2, c => ⟨k0_dev48 c, k0_dev48_lt c⟩
  | 5, 0, c => ⟨k0_dev33 c, k0_dev33_lt c⟩
  | 5, 1, c => ⟨k0_dev41 c, k0_dev41_lt c⟩
  | 5, 2, c => ⟨k0_dev49 c, k0_dev49_lt c⟩
  | 6, 0, c => ⟨k0_dev34 c, k0_dev34_lt c⟩
  | 6, 1, c => ⟨k0_dev42 c, k0_dev42_lt c⟩
  | 6, 2, c => ⟨k0_dev50 c, k0_dev50_lt c⟩
  | 7, 0, c => ⟨k0_dev35 c, k0_dev35_lt c⟩
  | 7, 1, c => ⟨k0_dev43 c, k0_dev43_lt c⟩
  | 7, 2, c => ⟨k0_dev51 c, k0_dev51_lt c⟩
theorem peerOf_eq : ∀ i k c, peerOf i k c = other k c := by decide +kernel
theorem fwdOf_eq : ∀ i k c, fwdOf i k c = sib c := by decide +kernel

def arr : Fin 8 → Arr
  | 0 => cols (Memref.whole main_arg0) (Memref.isWhole_whole _) (Memref.whole main_v1_0) (Memref.isWhole_whole _) rfl (peerOf 0) (peerOf_eq 0) (fwdOf 0) (fwdOf_eq 0)
  | 1 => cols (Memref.whole main_arg1) (Memref.isWhole_whole _) (Memref.whole main_v1_1) (Memref.isWhole_whole _) rfl (peerOf 1) (peerOf_eq 1) (fwdOf 1) (fwdOf_eq 1)
  | 2 => down (Memref.whole main_arg2) (Memref.isWhole_whole _) (Memref.whole main_v1_2) (Memref.isWhole_whole _) rfl (peerOf 2) (peerOf_eq 2) (fwdOf 2) (fwdOf_eq 2)
  | 3 => win (Memref.whole main_arg3) (Memref.isWhole_whole _) (Memref.whole main_v1_3) (Memref.isWhole_whole _) rfl (peerOf 3) (peerOf_eq 3) (fwdOf 3) (fwdOf_eq 3)
  | 4 => wout (Memref.whole main_arg4) (Memref.isWhole_whole _) (Memref.whole main_v1_4) (Memref.isWhole_whole _) rfl (peerOf 4) (peerOf_eq 4) (fwdOf 4) (fwdOf_eq 4)
  | 5 => cols (Memref.whole main_arg5) (Memref.isWhole_whole _) (Memref.whole main_v1_5) (Memref.isWhole_whole _) rfl (peerOf 5) (peerOf_eq 5) (fwdOf 5) (fwdOf_eq 5)
  | 6 => cols (Memref.whole main_arg6) (Memref.isWhole_whole _) (Memref.whole main_v1_6) (Memref.isWhole_whole _) rfl (peerOf 6) (peerOf_eq 6) (fwdOf 6) (fwdOf_eq 6)
  | 7 => down (Memref.whole main_arg7) (Memref.isWhole_whole _) (Memref.whole main_v1_7) (Memref.isWhole_whole _) rfl (peerOf 7) (peerOf_eq 7) (fwdOf 7) (fwdOf_eq 7)

/-! ## The small array -/

def small (c : Dev nD) : Xfer sig :=
  ⟨S8x256, .f32, Memref.whole main_arg8, seat (Memref.whole main_v1_8) (k0_off5 c) (k0_off5_inb c) squeezes_S1x8x256_S8x256,
    (Memref.isWhole_whole _).wordExact, (View.wordExact_bits rfl).reshape _ _, rfl, by decide⟩
theorem small_eq : ∀ c, k0_off5 c = ![c.val / 2, 0, 0] := by decide +kernel

def smallPeer : Fin 3 → Dev nD → Dev nD
  | 0, c => ⟨k0_dev25 c, k0_dev25_lt c⟩
  | 1, c => ⟨k0_dev26 c, k0_dev26_lt c⟩
  | 2, c => ⟨k0_dev27 c, k0_dev27_lt c⟩
theorem smallPeer_eq : ∀ k c, smallPeer k c = other k c := by decide +kernel

end Cert.GatherIdeal.Run
-- ==== Proof.GatherOrder.lean ====
/-
# The gathering of the weights: the order of its copies and waits
-/
module

public import proofs.«01_k».proof.Proof.Steps
public import proofs.«01_k».proof.Proof.GatherCopies
public import Mathlib.Data.Fintype.Sum
public import Mathlib.Data.Fintype.Basic
public import Mathlib.Data.Fintype.Prod

@[expose] public section

namespace Cert.GatherIdeal.Run

set_option synthInstance.maxHeartbeats 400000

/-! ## The copies -/

/-- The remote copies: a half of a weight, the small array, a half sent on. -/
abbrev Far : Type := (Fin 8 × Fin 3) ⊕ (Fin 3 ⊕ (Fin 8 × Fin 3))
/-- The local ones: a weight's block, the small array. -/
abbrev Near : Type := Fin 8 ⊕ Unit

abbrev first (i : Fin 8) (k : Fin 3) : Far := .inl (i, k)
abbrev tiny (k : Fin 3) : Far := .inr (.inl k)
abbrev second (i : Fin 8) (k : Fin 3) : Far := .inr (.inr (i, k))

/-! ## The order -/

def eight : List (Fin 8) := [0, 1, 2, 3, 4, 5, 6, 7]
def three : List (Fin 3) := [0, 1, 2]

def nears : List Near := eight.map Sum.inl ++ [.inr ()]
def firsts : List Far := eight.flatMap fun i => three.map fun k => first i k
def tinies : List Far := three.map tiny
def pairs : List (Fin 8 × Fin 3) := three.flatMap fun k => eight.map fun i => (i, k)
def seconds : List Far := pairs.map fun x => second x.1 x.2
def rest : List Far := three.flatMap fun k => (eight.map fun i => second i k) ++ [tiny k]

def starts : List (Far ⊕ Near) := nears.map Sum.inr ++ (firsts.map Sum.inl ++ tinies.map Sum.inl)
def waits : List (Cert.Moves.Key Far Near) := (rest.map fun t => .inr (.inl t)) ++ (firsts.map Sum.inl ++ (tinies.map Sum.inl ++ (seconds.map Sum.inl ++ nears.map fun u => .inr (.inr u))))

theorem waits_perm : waits.Perm ((rest.map fun t => (Sum.inr (Sum.inl t) : Cert.Moves.Key Far Near)) ++
    (starts ++ pairs.map fun x => (Sum.inl (second x.1 x.2) : Far ⊕ Near)).map Cert.Moves.Plan.selfKey) := by
  decide +kernel
theorem recvs_nodup : ((pairs.map fun x => first x.1 x.2) ++ rest).Nodup := by decide +kernel
instance memDec {α : Type} [DecidableEq α] (x : α) (l : List α) : Decidable (x ∈ l) :=
  decidable_of_iff (l.any (fun y => decide (y = x)) = true) (by simp)

theorem recvs_mem (t : Far) : t ∈ (pairs.map fun x => first x.1 x.2) ++ rest :=
  of_decide_eq_true ((by decide +kernel : ∀ t, decide (t ∈ (pairs.map fun x => first x.1 x.2) ++ rest) = true) t)
theorem starts_nodup : (starts ++ pairs.map fun x => (Sum.inl (second x.1 x.2) : Far ⊕ Near)).Nodup := by decide +kernel
theorem starts_mem (x : Far ⊕ Near) : x ∈ starts ++ pairs.map fun x => (Sum.inl (second x.1 x.2) : Far ⊕ Near) :=
  of_decide_eq_true ((by decide +kernel : ∀ x, decide (x ∈ starts ++ pairs.map fun x => (Sum.inl (second x.1 x.2) : Far ⊕ Near)) = true) x)

end Cert.GatherIdeal.Run
-- ==== Proof.Gather.lean ====
/-
# The gathering of the weights: the run

Each device starts its own copies and its sends; a half that arrives is sent on at once to the other core of the chip;
then it waits for what the other core sends on, for the small array, and for all its own sends and copies.
-/
module

public import proofs.«01_k».proof.Proof.GatherOrder
public import Mathlib.Data.Fintype.Sum
public import Mathlib.Data.Fintype.Basic
public import Mathlib.Data.Fintype.Prod
public import proofs.«01_k».proof.Proof.Gen.GatherIdeal.Launch
public import proofs.«01_k».proof.Proof.Gen.GatherIdeal.Points
public import proofs.«01_k».proof.Proof.Gen.GatherIdeal.Skeleton

@[expose] public section

noncomputable section

namespace Cert.GatherIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)
open Idealize.ShloMosaic.Pipeline
open Cert.Moves
open Facts₀ Facts

variable {F : FTy → Type} [FloatOps F]

local notation "𝕄" => MT nD τ sig Unit (Elt F) ℕ (UM nD τ sig) ℕ

/-! ## The copies and their semaphores -/

def xf : Far → Dev nD → Xfer sig
  | .inl (i, _), c => (arr i).send c
  | .inr (.inl _), c => small c
  | .inr (.inr (i, k)), c => (arr i).onward k c

def peer : Far → Dev nD → Dev nD
  | .inl (i, k), c => (arr i).peer k c
  | .inr (.inl k), c => smallPeer k c
  | .inr (.inr (i, k)), c => (arr i).fwd k c

theorem peer_peer (t : Far) (c : Dev nD) : peer t (peer t c) = c := by
  rcases t with ⟨i, k⟩ | k | ⟨i, k⟩
  · show (arr i).peer k ((arr i).peer k c) = c
    rw [(arr i).peer_eq, (arr i).peer_eq, other_other]
  · show smallPeer k (smallPeer k c) = c
    rw [smallPeer_eq, smallPeer_eq, other_other]
  · show (arr i).fwd k ((arr i).fwd k c) = c
    rw [(arr i).fwd_eq, (arr i).fwd_eq, sib_sib]

def lf : Near → Dev nD → Xfer sig
  | .inl i, c => (arr i).home c
  | .inr _, c => small c

def at24 (a : DmaSems sig S24) (x : Fin 8 × Fin 3) : DmaSem sig :=
  ((a.slice (Rect.unit (s := S24) ![3 * x.1.val + x.2.val] S1.size
    (fun a => by have := x.1.isLt; have := x.2.isLt; match a with | ⟨0, _⟩ => show 3 * x.1.val + x.2.val + 1 ≤ 24; omega))).squeeze S_ squeezes_S1_S_).sem
def at3 (a : DmaSems sig S3) (k : Fin 3) : DmaSem sig :=
  ((a.slice (Rect.unit (s := S3) ![k.val] S1.size
    (fun a => by have := k.isLt; match a with | ⟨0, _⟩ => show k.val + 1 ≤ 3; omega))).squeeze S_ squeezes_S1_S_).sem
def at9 (a : DmaSems sig S9) (i : Fin 9) : DmaSem sig :=
  ((a.slice (Rect.unit (s := S9) ![i.val] S1.size
    (fun a => by have := i.isLt; match a with | ⟨0, _⟩ => show i.val + 1 ≤ 9; omega))).squeeze S_ squeezes_S1_S_).sem

def send : Far → DmaSem sig
  | .inl x => at24 cc0_scratch0 x
  | .inr (.inl k) => at3 cc0_scratch5 k
  | .inr (.inr x) => at24 cc0_scratch2 x
def recv : Far → DmaSem sig
  | .inl x => at24 cc0_scratch1 x
  | .inr (.inl k) => at3 cc0_scratch6 k
  | .inr (.inr x) => at24 cc0_scratch3 x
def loc : Near → DmaSem sig
  | .inl i => at9 cc0_scratch4 i.castSucc
  | .inr _ => at9 cc0_scratch4 8

def amount (t : Far) : ℕ := (xf t 0).dst.view.dmaCredit
theorem amount_eq (t : Far) (c : Dev nD) : (xf t c).dst.view.dmaCredit = amount t := by
  rcases t with ⟨i, k⟩ | k | ⟨i, k⟩
  · fin_cases i <;> rfl
  · rfl
  · fin_cases i <;> fin_cases k <;> rfl
def lamount (u : Near) : ℕ := (lf u 0).dst.view.dmaCredit
theorem lamount_eq (u : Near) (c : Dev nD) : (lf u c).dst.view.dmaCredit = lamount u := by
  rcases u with i | _
  · fin_cases i <;> rfl
  · rfl

def share : Far → PosShare TreeShare
  | .inl (_, k) => shareTok fullShare 4 k.succ
  | .inr (.inl k) => shareTok fullShare 4 k.succ
  | .inr (.inr _) => shareTok fullShare 1 0

variable (m : Mem0 nD τ sig (Elt F))

/-- What is at `c` once a half from `c'` has landed there. -/
def Arr.arrived (x : Arr) (c' c : Dev nD) : x.r.view.ref.ty.Contents (Elt F) :=
  (x.send c').dst.view.write (Elt F) (m (x.r.view.loc (c.tc : Thread nD τ))) ((x.send c').src.view.read (Elt F) (m (x.a.view.loc (c'.tc : Thread nD τ)))) Finset.univ

def src : (t : Far) → (c : Dev nD) → (xf t c).src.view.ref.ty.Contents (Elt F)
  | .inl (i, _), c => m ((arr i).a.view.loc (c.tc : Thread nD τ))
  | .inr (.inl _), c => m ((small c).src.view.loc (c.tc : Thread nD τ))
  | .inr (.inr (i, k)), c => (arr i).arrived m ((arr i).peer k c) c

def plan : Plan nD τ sig (Elt F) Far Near where
  xf := xf
  peer := peer
  peer_peer := peer_peer
  send := send
  recv := recv
  lf := lf
  loc := loc
  n := amount
  n_eq := amount_eq
  ln := lamount
  ln_eq := lamount_eq
  rank
    | .inl _ => 1
    | .inr (.inl _) => 1
    | .inr (.inr _) => 2
  share := share
  lshare _ := shareTok fullShare 4 0
  src := src m
  old t c := m ((xf t c).dst.view.loc ((peer t c).tc : Thread nD τ))
  lsrc u c := m ((lf u c).src.view.loc (c.tc : Thread nD τ))
  lold u c := m ((lf u c).dst.view.loc (c.tc : Thread nD τ))

/-- The semaphore of each cell. -/
def semOf : Key Far Near → DmaSem sig
  | .inl t => send t
  | .inr (.inl t) => recv t
  | .inr (.inr u) => loc u

set_option synthInstance.maxHeartbeats 400000

theorem semOf_inj (a b : Key Far Near) (h : semOf a = semOf b) : a = b := by
  have key : ∀ a b : Key Far Near, (!decide (semOf a = semOf b) || decide (a = b)) = true := by decide +kernel
  have k := key a b
  rw [decide_eq_true h] at k
  exact of_decide_eq_true k

theorem osem_eq (k : Key Far Near) : (plan m).osem k = .dma (semOf k) := by
  rcases k with t | t | u <;> rfl

theorem osem_injective : Function.Injective (plan m).osem := by
  intro a b hab
  rw [osem_eq, osem_eq] at hab
  exact semOf_inj a b (SemLoc.dma.inj hab)

theorem semOf_scoped : ∀ k, (SemLoc.dma (semOf k) : SemLoc sig).isScoped .tc = true := by decide +kernel

theorem ownSems : OwnSemFacts (cfgs 0).spec (plan m).osem where
  isScoped k := by rw [osem_eq]; exact semOf_scoped k
  inj := osem_injective m
  disj _ w := w.elim0

/-! ## The waits -/

def argRef : Fin 8 → Ref sig .tc
  | 0 => main_arg0 | 1 => main_arg1 | 2 => main_arg2 | 3 => main_arg3 | 4 => main_arg4 | 5 => main_arg5 | 6 => main_arg6 | 7 => main_arg7
def resRef : Fin 8 → Ref sig .tc
  | 0 => main_v1_0 | 1 => main_v1_1 | 2 => main_v1_2 | 3 => main_v1_3 | 4 => main_v1_4 | 5 => main_v1_5 | 6 => main_v1_6 | 7 => main_v1_7
def block : Fin 8 → Shape
  | 0 => S2048x1408 | 1 => S2048x1408 | 2 => S1408x2048 | 3 => S2048x1280 | 4 => S512x2048 | 5 => S2048x1408 | 6 => S2048x1408 | 7 => S1408x2048
def half : Fin 8 → Shape
  | 0 => S1024x1408 | 1 => S1024x1408 | 2 => S704x2048 | 3 => S1024x1280 | 4 => S256x2048 | 5 => S1024x1408 | 6 => S1024x1408 | 7 => S704x2048

theorem arr_a_ref (i : Fin 8) : (arr i).a.view.ref = argRef i := by fin_cases i <;> rfl
theorem arr_r_ref (i : Fin 8) : (arr i).r.view.ref = resRef i := by fin_cases i <;> rfl
theorem arg_half (i : Fin 8) : (argRef i).HasMemref (half i) .bf16 := by
  have h := ((arr i).send 0).src.hasMemref
  fin_cases i <;> exact h
theorem res_half (i : Fin 8) : (resRef i).HasMemref (half i) .bf16 := by
  have h := ((arr i).send 0).dst.hasMemref
  fin_cases i <;> exact h
theorem res_block (i : Fin 8) : (resRef i).HasMemref (block i) .bf16 := by
  have h := ((arr i).home 0).dst.hasMemref
  fin_cases i <;> exact h
theorem arg_half_credit (i : Fin 8) (k : Fin 3) : (argRef i).dmaCredit (half i) .bf16 = amount (first i k) := by fin_cases i <;> rfl
theorem res_half_credit (i : Fin 8) (k : Fin 3) : (resRef i).dmaCredit (half i) .bf16 = amount (first i k) := by fin_cases i <;> rfl
theorem res_half_credit' (i : Fin 8) (k : Fin 3) : (resRef i).dmaCredit (half i) .bf16 = amount (second i k) := by
  fin_cases i <;> fin_cases k <;> rfl
theorem res_block_credit (i : Fin 8) : (resRef i).dmaCredit (block i) .bf16 = lamount (.inl i) := by fin_cases i <;> rfl

/-- The wait at each cell: the array and the shape it names. -/
def wait : Key Far Near → (plan m).WaitOp
  | .inl (.inl (i, k)) => ⟨.inl (first i k), argRef i, half i, .bf16, arg_half i, arg_half_credit i k⟩
  | .inl (.inr (.inl k)) => ⟨.inl (tiny k), main_arg8, S8x256, .f32, (small 0).src.hasMemref, rfl⟩
  | .inl (.inr (.inr (i, k))) => ⟨.inl (second i k), resRef i, half i, .bf16, res_half i, res_half_credit' i k⟩
  | .inr (.inl (.inl (i, k))) => ⟨.inr (.inl (first i k)), resRef i, half i, .bf16, res_half i, res_half_credit i k⟩
  | .inr (.inl (.inr (.inl k))) => ⟨.inr (.inl (tiny k)), main_v1_8, S8x256, .f32, (small 0).dst.hasMemref, rfl⟩
  | .inr (.inl (.inr (.inr (i, k)))) => ⟨.inr (.inl (second i k)), resRef i, half i, .bf16, res_half i, res_half_credit' i k⟩
  | .inr (.inr (.inl i)) => ⟨.inr (.inr (.inl i)), resRef i, block i, .bf16, res_block i, res_block_credit i⟩
  | .inr (.inr (.inr _)) => ⟨.inr (.inr (.inr ())), main_v1_8, S8x256, .f32, (small 0).dst.hasMemref, rfl⟩

theorem wait_k (k : Key Far Near) : (wait m k).k = k := by
  rcases k with (⟨i, k⟩ | k | ⟨i, k⟩) | (⟨i, k⟩ | k | ⟨i, k⟩) | i | _ <;> rfl

/-! ## A half that arrived, sent on -/

variable {m} in
/-- A part of an array, at equal places of equal devices. -/
theorem pts_congr (x : Arr) {d c : Dev nD} (hd : d = c) {o o' : Fin 3 → ℕ} (ho : o = o')
    (i : ∀ a, o a + (⟨3, ![1, x.h, x.b]⟩ : Shape).size a ≤ (⟨3, ![4, x.A, x.b]⟩ : Shape).size a)
    (i' : ∀ a, o' a + (⟨3, ![1, x.h, x.b]⟩ : Shape).size a ≤ (⟨3, ![4, x.A, x.b]⟩ : Shape).size a) (q : PosShare TreeShare)
    (f : Dev nD → x.r.view.ref.ty.Contents (Elt F)) :
    (((seat x.r o i x.sq).view.loc (d.tc : Thread nD τ) ↦[(seat x.r o i x.sq).view.set]{q} f d) : sProp 𝕄)
      = ((seat x.r o' i' x.sq).view.loc (c.tc : Thread nD τ) ↦[(seat x.r o' i' x.sq).view.set]{q} f c) := by
  subst hd ho; rfl

theorem piece_put (x : Arr) (k : Fin 3) (c : Dev nD) : x.put (x.peer k c) = x.piece k c := by
  rw [x.put_eq, x.piece_eq, x.peer_eq, other_core]

/-- What is kept of a half sent on. -/
def kept (i : Fin 8) (k : Fin 3) (c : Dev nD) : sProp 𝕄 :=
    ((plan m).xf (first i k) ((plan m).peer (first i k) c)).dst.view.loc (((plan m).peer (first i k) ((plan m).peer (first i k) c)).tc : Thread nD τ)
      ↦[((plan m).xf (first i k) ((plan m).peer (first i k) c)).dst.view.set]{shareDrop fullShare 1} (plan m).landedBuf (first i k) ((plan m).peer (first i k) c)

def keep : Far → Dev nD → sProp 𝕄
  | .inl _, _ => iprop(emp)
  | .inr (.inl _), _ => iprop(emp)
  | .inr (.inr (i, k)), c => kept m i k c

theorem relay (i : Fin 8) (k : Fin 3) (c : Dev nD) :
    (plan m).landed (first i k) ((plan m).peer (first i k) c) ⊢ iprop((plan m).srcPts (second i k) c ∗ kept m i k c) := by
  unfold kept
  unfold Plan.landed
  refine (Idealize.ShloMosaic.Transfers.pointsTo_toks_split fullShare 1).trans ?_
  rw [BI.bigSep_univ_of_subsingleton (0 : Fin 1)]
  iintro ⟨HK, HS⟩
  isplitl [HS]
  · have e := pts_congr (arr i) (peer_peer (first i k) c) (piece_put (arr i) k c) ((arr i).put_inb _) ((arr i).piece_inb k c) (shareTok fullShare 1 0)
      fun d => (arr i).arrived m ((arr i).peer k c) d
    iapply (show _ ⊢ ((plan m).srcPts (second i k) c : sProp 𝕄) from Entails.of_eq e)
    iexact HS
  · iexact HK

def script : (plan m).Script where
  S := starts
  Rl := pairs.map fun x => (wait m (.inr (.inl (first x.1 x.2))), second x.1 x.2)
  rl := pairs.map fun x => first x.1 x.2
  rest := rest
  Wl := waits.map (wait m)
  rl_eq := by rw [List.map_map, List.map_map]; rfl
  recvs := recvs_nodup
  recvs_all := recvs_mem
  starts := by rw [List.map_map]; exact starts_nodup
  starts_all := by rw [List.map_map]; exact starts_mem
  waits := by
    rw [List.map_map, List.map_map, show (fun w => w.k) ∘ wait m = id from funext fun k => wait_k m k, List.map_id]
    exact waits_perm
  keep := keep m
  relay c x hx := by
    obtain ⟨y, -, rfl⟩ := List.mem_map.mp hx
    exact relay m y.1 y.2 c
  late x hx y hy := by
    obtain ⟨x', -, rfl⟩ := List.mem_map.mp hx
    obtain ⟨y', -, rfl⟩ := List.mem_map.mp hy
    show (1 : ℕ) < 2
    exact Nat.lt_succ_self 1

end Cert.GatherIdeal.Run
-- ==== Proof.GatherDeal.lean ====
/-
# The gathering of the weights: dealing the arrays out

At the launch a device lends each of its blocks to its copy and its three sends, and gives the seven parts of each of its
results to those that write them.
-/
module

public import proofs.«01_k».proof.Proof.Gather
public import proofs.«01_k».proof.Proof.Gen.GatherIdeal.Launch
public import proofs.«01_k».proof.Proof.Gen.GatherIdeal.Points
public import proofs.«01_k».proof.Proof.Gen.GatherIdeal.Skeleton

@[expose] public section

noncomputable section

namespace Cert.GatherIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)
open Idealize.ShloMosaic.Pipeline
open Cert.Moves
open Facts₀ Facts

variable {F : FTy → Type} [FloatOps F]

local notation "𝕄" => MT nD τ sig Unit (Elt F) ℕ (UM nD τ sig) ℕ

variable (m : Mem0 nD τ sig (Elt F))

/-! ## One weight -/

namespace Arr

variable (x : Arr)

/-- The parts of the result at `d`: its own block, the halves that arrive, the halves sent on to it. -/
def part (d : Dev nD) : Unit ⊕ (Fin 3 ⊕ Fin 3) → Xfer sig
  | .inl _ => x.home d
  | .inr (.inl k) => x.send (x.peer k d)
  | .inr (.inr k) => x.onward k (x.fwd k d)

theorem part_ref (d : Dev nD) (k : Unit ⊕ (Fin 3 ⊕ Fin 3)) : (x.part d k).dst.view.ref = x.r.view.ref := by
  rcases k with _ | k | k <;> rfl

theorem put_at (k : Fin 3) (d : Dev nD) : x.put (x.peer k d) = ![(other k d).val / 2, x.h * (d.val % 2), 0] := by
  rw [x.put_eq, x.peer_eq, other_core]
theorem piece_at (k : Fin 3) (d : Dev nD) : x.piece k (x.fwd k d) = ![(other k d).val / 2, x.h * (1 - d.val % 2), 0] := by
  rw [x.piece_eq, x.fwd_eq, other_sib, sib_core]

theorem own_put (k : Fin 3) (d : Dev nD) : Disjoint (setIn (x.part d (.inl ())).dst x.r.view.ref rfl) (setIn (x.part d (.inr (.inl k))).dst x.r.view.ref rfl) := by
  refine seat_disjoint x.r (x.own d) (x.put (x.peer k d)) (x.own_inb d) (x.put_inb _) x.sqA x.sq (.inl ?_)
  rw [x.own_eq, x.put_at]
  exact (other_chip k d).symm
theorem own_piece (k : Fin 3) (d : Dev nD) : Disjoint (setIn (x.part d (.inl ())).dst x.r.view.ref rfl) (setIn (x.part d (.inr (.inr k))).dst x.r.view.ref rfl) := by
  refine seat_disjoint x.r (x.own d) (x.piece k (x.fwd k d)) (x.own_inb d) (x.piece_inb k _) x.sqA x.sq (.inl ?_)
  rw [x.own_eq, x.piece_at]
  exact (other_chip k d).symm
theorem put_put (k k' : Fin 3) (h : k ≠ k') (d : Dev nD) : Disjoint (setIn (x.part d (.inr (.inl k))).dst x.r.view.ref rfl) (setIn (x.part d (.inr (.inl k'))).dst x.r.view.ref rfl) := by
  refine seat_disjoint x.r (x.put (x.peer k d)) (x.put (x.peer k' d)) (x.put_inb _) (x.put_inb _) x.sq x.sq (.inl ?_)
  rw [x.put_at, x.put_at]
  exact other_chips k k' d h
theorem piece_piece (k k' : Fin 3) (h : k ≠ k') (d : Dev nD) : Disjoint (setIn (x.part d (.inr (.inr k))).dst x.r.view.ref rfl) (setIn (x.part d (.inr (.inr k'))).dst x.r.view.ref rfl) := by
  refine seat_disjoint x.r (x.piece k (x.fwd k d)) (x.piece k' (x.fwd k' d)) (x.piece_inb k _) (x.piece_inb k' _) x.sq x.sq (.inl ?_)
  rw [x.piece_at, x.piece_at]
  exact other_chips k k' d h
theorem put_piece (k k' : Fin 3) (d : Dev nD) : Disjoint (setIn (x.part d (.inr (.inl k))).dst x.r.view.ref rfl) (setIn (x.part d (.inr (.inr k'))).dst x.r.view.ref rfl) := by
  refine seat_disjoint x.r (x.put (x.peer k d)) (x.piece k' (x.fwd k' d)) (x.put_inb _) (x.piece_inb k' _) x.sq x.sq (.inr ?_)
  rw [x.put_at, x.piece_at]
  show x.h * (d.val % 2) + x.h ≤ x.h * (1 - d.val % 2) ∨ x.h * (1 - d.val % 2) + x.h ≤ x.h * (d.val % 2)
  rcases Nat.mod_two_eq_zero_or_one d.val with e | e <;> rw [e] <;> simp

theorem part_disjoint (d : Dev nD) (k k' : Unit ⊕ (Fin 3 ⊕ Fin 3)) (h : k ≠ k') :
    Disjoint (setIn (x.part d k).dst x.r.view.ref (x.part_ref d k)) (setIn (x.part d k').dst x.r.view.ref (x.part_ref d k')) := by
  rcases k with ⟨⟩ | k | k <;> rcases k' with ⟨⟩ | k' | k'
  · exact absurd rfl h
  · exact x.own_put k' d
  · exact x.own_piece k' d
  · exact (x.own_put k d).symm
  · exact x.put_put k k' (fun e => h (by rw [e])) d
  · exact x.put_piece k k' d
  · exact (x.own_piece k d).symm
  · exact (x.put_piece k' k d).symm
  · exact x.piece_piece k k' (fun e => h (by rw [e])) d

/-- The result, dealt out. -/
theorem deal (d : Dev nD) : wholePts m x.r.view.ref fullShare d ⊢ (iprop(viewPts m (x.home d).dst fullShare d
    ∗ (bigSepL three fun k => viewPts m (x.send (x.peer k d)).dst fullShare d)
    ∗ bigSepL three fun k => viewPts m (x.onward k (x.fwd k d)).dst fullShare d) : sProp 𝕄) := by
  refine (deal_dst m x.r.view.ref d (x.part d) (x.part_ref d) (x.part_disjoint d)).trans ?_
  rw [bigSep_univ_eq_bigSepL ([.inl ()] ++ ((three.map fun k => .inr (.inl k)) ++ three.map fun k => .inr (.inr k)) : List (Unit ⊕ (Fin 3 ⊕ Fin 3))) (by decide) (by decide),
    bigSepL_append, bigSepL_append, bigSepL_map, bigSepL_map, bigSepL_cons', bigSepL_nil]
  iintro ⟨⟨H1, -⟩, H2, H3⟩
  isplitl [H1]; · iexact H1
  isplitl [H2]; · iexact H2
  iexact H3

/-- The block, lent out. -/
theorem lend (c : Dev nD) : wholePts m x.a.view.ref fullShare c ⊢ (iprop((viewPts m (x.home c).src (shareTok fullShare 4 0) c
    ∗ bigSepL three fun k => viewPts m (x.send c).src (shareTok fullShare 4 k.succ) c) ∗ wholePts m x.a.view.ref (shareDrop fullShare 4) c) : sProp 𝕄) := by
  refine (deal_src (n := 4) m x.a.view.ref c (fun j => Fin.cases (x.home c) (fun _ => x.send c) j) (fun j => Fin.cases rfl (fun _ => rfl) j)).trans ?_
  rw [bigSep_univ_eq_bigSepL ((0 : Fin 4) :: three.map Fin.succ) (by decide) (by decide), bigSepL_cons', bigSepL_map]
  exact .rfl

end Arr

/-! ## The small array -/

def smallPart (d : Dev nD) : Unit ⊕ Fin 3 → Xfer sig
  | .inl _ => small d
  | .inr k => small (smallPeer k d)

theorem smallPart_ref (d : Dev nD) (k : Unit ⊕ Fin 3) : (smallPart d k).dst.view.ref = main_v1_8 := by
  rcases k with _ | k <;> rfl

theorem small_apart (d d' : Dev nD) (h : d.val / 2 ≠ d'.val / 2) : Disjoint (setIn (small d).dst main_v1_8 rfl) (setIn (small d').dst main_v1_8 rfl) := by
  refine seat_disjoint (Memref.whole main_v1_8) (k0_off5 d) (k0_off5 d') (k0_off5_inb d) (k0_off5_inb d') squeezes_S1x8x256_S8x256 squeezes_S1x8x256_S8x256 (.inl ?_)
  rw [small_eq, small_eq]
  exact h

theorem smallPart_disjoint (d : Dev nD) (k k' : Unit ⊕ Fin 3) (h : k ≠ k') :
    Disjoint (setIn (smallPart d k).dst main_v1_8 (smallPart_ref d k)) (setIn (smallPart d k').dst main_v1_8 (smallPart_ref d k')) := by
  rcases k with ⟨⟩ | k <;> rcases k' with ⟨⟩ | k'
  · exact absurd rfl h
  · exact small_apart d (smallPeer k' d) (by rw [smallPeer_eq]; exact (other_chip k' d).symm)
  · exact small_apart (smallPeer k d) d (by rw [smallPeer_eq]; exact other_chip k d)
  · exact small_apart (smallPeer k d) (smallPeer k' d) (by rw [smallPeer_eq, smallPeer_eq]; exact other_chips k k' d fun e => h (by rw [e]))

theorem small_deal (d : Dev nD) : wholePts m main_v1_8 fullShare d ⊢ (iprop(viewPts m (small d).dst fullShare d
    ∗ bigSepL three fun k => viewPts m (small (smallPeer k d)).dst fullShare d) : sProp 𝕄) := by
  refine (deal_dst m main_v1_8 d (smallPart d) (smallPart_ref d) (smallPart_disjoint d)).trans ?_
  rw [bigSep_univ_eq_bigSepL ([.inl ()] ++ three.map fun k => .inr k : List (Unit ⊕ Fin 3)) (by decide) (by decide),
    bigSepL_append, bigSepL_map, bigSepL_cons', bigSepL_nil]
  iintro ⟨⟨H1, -⟩, H2⟩
  isplitl [H1]; · iexact H1
  iexact H2

theorem small_lend (c : Dev nD) : wholePts m main_arg8 fullShare c ⊢ (iprop((viewPts m (small c).src (shareTok fullShare 4 0) c
    ∗ bigSepL three fun k => viewPts m (small c).src (shareTok fullShare 4 k.succ) c) ∗ wholePts m main_arg8 (shareDrop fullShare 4) c) : sProp 𝕄) := by
  refine (deal_src (n := 4) m main_arg8 c (fun _ => small c) (fun _ => rfl)).trans ?_
  rw [bigSep_univ_eq_bigSepL ((0 : Fin 4) :: three.map Fin.succ) (by decide) (by decide), bigSepL_cons', bigSepL_map]

/-! ## A device -/

def args : List (Ref sig .tc) := eight.map argRef ++ [main_arg8]
abbrev keep0 (c : Dev nD) : sProp 𝕄 := rests m args (shareDrop fullShare 4) c

theorem rest_le (c : Dev nD) : (unscopedRest (cfgs 0).spec c (fun b => m ((c.tc : Thread nD τ).loc b)) : sProp 𝕄)
    ⊢ iprop(iprop((bigSepL eight fun i => wholePts m (argRef i) fullShare c) ∗ wholePts m main_arg8 fullShare c)
      ∗ iprop((bigSepL eight fun i => wholePts m (resRef i) fullShare c) ∗ wholePts m main_v1_8 fullShare c)) := by
  unfold wholePts
  rw [unscopedRest_eq_of_list (cfgs 0).spec c _ ((eight.map argRef ++ [main_arg8]) ++ (eight.map resRef ++ [main_v1_8])) (by decide) (by decide),
    bigSepL_append, bigSepL_append, bigSepL_append, bigSepL_map, bigSepL_map, bigSepL_cons', bigSepL_nil, bigSepL_cons', bigSepL_nil]
  iintro ⟨⟨H1, H2, -⟩, H3, H4, -⟩
  isplitl [H1 H2]
  · isplitl [H1]
    · iexact H1
    · iexact H2
  · isplitl [H3]
    · iexact H3
    · iexact H4

theorem lend_all (c : Dev nD) : iprop((bigSepL eight fun i => wholePts m (argRef i) fullShare c) ∗ wholePts m main_arg8 fullShare c)
    ⊢ (iprop((bigSepL nears fun u => (plan m).lsrcPts u c) ∗ (bigSepL firsts fun t => (plan m).srcPts t c) ∗ (bigSepL tinies fun t => (plan m).srcPts t c) ∗ keep0 m c) : sProp 𝕄) := by
  have h (i : Fin 8) : wholePts m (argRef i) fullShare c ⊢ (iprop((iprop((plan m).lsrcPts (.inl i) c ∗ bigSepL three fun k => (plan m).srcPts (first i k) c)) ∗ wholePts m (argRef i) (shareDrop fullShare 4) c) : sProp 𝕄) := by
    rw [← arr_a_ref]
    exact (arr i).lend m c
  have hs : wholePts m main_arg8 fullShare c ⊢ (iprop((iprop((plan m).lsrcPts (.inr ()) c ∗ bigSepL three fun k => (plan m).srcPts (tiny k) c)) ∗ wholePts m main_arg8 (shareDrop fullShare 4) c) : sProp 𝕄) :=
    small_lend m c
  have hw : (bigSepL eight fun i => wholePts m (argRef i) fullShare c : sProp 𝕄)
      ⊢ iprop((iprop((bigSepL eight fun i => (plan m).lsrcPts (.inl i) c) ∗ bigSepL eight fun i => bigSepL three fun k => (plan m).srcPts (first i k) c))
        ∗ bigSepL eight fun i => wholePts m (argRef i) (shareDrop fullShare 4) c) :=
    ((bigSepL_mono fun i _ => h i).trans (bigSepL_unsep _ _ _)).trans (sep_mono (bigSepL_unsep _ _ _) .rfl)
  unfold keep0 rests args nears firsts tinies
  rw [bigSepL_append, bigSepL_append, bigSepL_map, bigSepL_map, bigSepL_map, bigSepL_flatMap]
  simp only [bigSepL_map, bigSepL_cons', bigSepL_nil]
  iintro ⟨HA, H8⟩
  ihave HA' := hw $$ HA
  ihave H8' := hs $$ H8
  icases HA' with ⟨⟨H1, H2⟩, H3⟩
  icases H8' with ⟨⟨H4, H5⟩, H6⟩
  isplitl [H1 H4]
  · isplitl [H1]; · iexact H1
    isplitl [H4]; · iexact H4
    iempintro
  isplitl [H2]; · iexact H2
  isplitl [H5]; · iexact H5
  isplitl [H3]; · iexact H3
  isplitl [H6]; · iexact H6
  iempintro

theorem pairs_perm : pairs.Perm (eight.flatMap fun i => three.map fun k => (i, k)) := by decide

theorem deal_dsts (d : Dev nD) : iprop((bigSepL eight fun i => wholePts m (resRef i) fullShare d) ∗ wholePts m main_v1_8 fullShare d)
    ⊢ (iprop((bigSepL nears fun u => (plan m).ldstPts u d) ∗ (bigSepL firsts fun t => (plan m).inPts m t d) ∗ (bigSepL tinies fun t => (plan m).inPts m t d)
      ∗ (bigSepL seconds fun t => (plan m).inPts m t d)) : sProp 𝕄) := by
  have h (i : Fin 8) : wholePts m (resRef i) fullShare d ⊢ (iprop((plan m).ldstPts (.inl i) d ∗ iprop((bigSepL three fun k => (plan m).inPts m (first i k) d) ∗ bigSepL three fun k => (plan m).inPts m (second i k) d)) : sProp 𝕄) := by
    rw [← arr_r_ref]
    exact (arr i).deal m d
  have hs : wholePts m main_v1_8 fullShare d ⊢ (iprop((plan m).ldstPts (.inr ()) d ∗ bigSepL three fun k => (plan m).inPts m (tiny k) d) : sProp 𝕄) :=
    small_deal m d
  have hw : (bigSepL eight fun i => wholePts m (resRef i) fullShare d : sProp 𝕄)
      ⊢ iprop((bigSepL eight fun i => (plan m).ldstPts (.inl i) d)
        ∗ iprop((bigSepL eight fun i => bigSepL three fun k => (plan m).inPts m (first i k) d) ∗ bigSepL eight fun i => bigSepL three fun k => (plan m).inPts m (second i k) d)) :=
    ((bigSepL_mono fun i _ => h i).trans (bigSepL_unsep _ _ _)).trans (sep_mono .rfl (bigSepL_unsep _ _ _))
  unfold nears firsts tinies seconds
  rw [bigSepL_append, bigSepL_map, bigSepL_map, bigSepL_map, bigSepL_flatMap, bigSepL_perm pairs_perm (by decide), bigSepL_flatMap]
  simp only [bigSepL_map, bigSepL_cons', bigSepL_nil]
  iintro ⟨HA, H8⟩
  ihave HA' := hw $$ HA
  ihave H8' := hs $$ H8
  icases HA' with ⟨H1, H2, H3⟩
  icases H8' with ⟨H4, H5⟩
  isplitl [H1 H4]
  · isplitl [H1]; · iexact H1
    isplitl [H4]; · iexact H4
    iempintro
  isplitl [H2]; · iexact H2
  isplitl [H5]; · iexact H5
  iexact H3

/-- What a device has before the parts of the results change hands, and after. -/
def lent (c : Dev nD) : sProp 𝕄 :=
  iprop((bigSepL nears fun u => (plan m).lsrcPts u c) ∗ (bigSepL firsts fun t => (plan m).srcPts t c) ∗ (bigSepL tinies fun t => (plan m).srcPts t c) ∗ keep0 m c
    ∗ (bigSepL nears fun u => (plan m).ldstPts u c))
def far : List Far := firsts ++ (tinies ++ seconds)

theorem before (c : Dev nD) : (unscopedRest (cfgs 0).spec c (fun b => m ((c.tc : Thread nD τ).loc b)) : sProp 𝕄)
    ⊢ iprop(lent m c ∗ bigSepL far fun t => (plan m).inPts m t c) := by
  refine ((rest_le m c).trans (BIClass.sep_mono (lend_all m c) (deal_dsts m c))).trans ?_
  unfold lent far
  rw [bigSepL_append, bigSepL_append]
  iintro ⟨⟨H1, H2, H3, H4⟩, H5, H6⟩
  isplitl [H1 H2 H3 H4 H5]
  · isplitl [H1]; · iexact H1
    isplitl [H2]; · iexact H2
    isplitl [H3]; · iexact H3
    isplitl [H4]; · iexact H4
    iexact H5
  · iexact H6

theorem data_eq (c : Dev nD) : (script m).data (keep0 m) c = (iprop((bigSepL starts ((plan m).sdata c))
    ∗ (bigSepL pairs fun x => (plan m).dstPts (second x.1 x.2) c) ∗ keep0 m c) : sProp 𝕄) := by
  rw [← bigSepL_map (fun x => (wait m (.inr (.inl (first x.1 x.2))), second x.1 x.2)) pairs fun x => (plan m).dstPts x.2 c]
  rfl

theorem starts_data (c : Dev nD) : (bigSepL starts ((plan m).sdata c) : sProp 𝕄)
    = iprop((bigSepL nears fun u => iprop((plan m).lsrcPts u c ∗ (plan m).ldstPts u c)) ∗ (bigSepL firsts fun t => iprop((plan m).srcPts t c ∗ (plan m).dstPts t c))
      ∗ bigSepL tinies fun t => iprop((plan m).srcPts t c ∗ (plan m).dstPts t c)) := by
  unfold starts
  rw [bigSepL_append, bigSepL_append, bigSepL_map, bigSepL_map, bigSepL_map]
  rfl

theorem after (c : Dev nD) : iprop(lent m c ∗ bigSepL far fun t => (plan m).dstPts t c) ⊢ ((script m).data (keep0 m) c : sProp 𝕄) := by
  rw [data_eq, starts_data]
  unfold lent far seconds
  rw [bigSepL_append, bigSepL_append, bigSepL_map]
  iintro ⟨⟨HNS, HFS, HTS, HK, HND⟩, HFD, HTD, HD⟩
  isplitl [HNS HND HFS HFD HTS HTD]
  · isplitl [HNS HND]
    · iapply (bigSepL_sep nears (fun u => (plan m).lsrcPts u c) fun u => (plan m).ldstPts u c)
      isplitl [HNS]
      · iexact HNS
      · iexact HND
    isplitl [HFS HFD]
    · iapply (bigSepL_sep firsts (fun t => (plan m).srcPts t c) fun t => (plan m).dstPts t c)
      isplitl [HFS]
      · iexact HFS
      · iexact HFD
    · iapply (bigSepL_sep tinies (fun t => (plan m).srcPts t c) fun t => (plan m).dstPts t c)
      isplitl [HTS]
      · iexact HTS
      · iexact HTD
  isplitl [HD]
  · iexact HD
  iexact HK

theorem deal_all : (bigSep Finset.univ fun c : Dev nD => unscopedRest (cfgs 0).spec c (fun b => m ((c.tc : Thread nD τ).loc b)))
    ⊢ (bigSep Finset.univ ((script m).data (keep0 m)) : sProp 𝕄) := by
  refine (bigSep_mono fun c _ => before m c).trans ?_
  rw [bigSep_sep', (plan m).swap (fun _ _ => rfl) far, ← bigSep_sep']
  exact bigSep_mono fun c _ => after m c

end Cert.GatherIdeal.Run
-- ==== Proof.GatherBody.lean ====
/-
# The gathering of the weights: the body is its copies and waits
-/
module

public import proofs.«01_k».proof.Proof.Gather
public import proofs.«01_k».proof.Proof.Gen.GatherIdeal.Launch
public import proofs.«01_k».proof.Proof.Gen.GatherIdeal.Points
public import proofs.«01_k».proof.Proof.Gen.GatherIdeal.Skeleton

@[expose] public section

noncomputable section

namespace Cert.GatherIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)
open Idealize.ShloMosaic.Pipeline
open Cert.Moves
open Facts₀ Facts

variable {F : FTy → Type} [FloatOps F]

local notation "𝕄" => MT nD τ sig Unit (Elt F) ℕ (UM nD τ sig) ℕ

variable (m : Mem0 nD τ sig (Elt F))

theorem body_eq (t : Fin cfg0.N) : Gen.bodyAt0 (F := F) t = .op .deviceId fun d => (script (F := F) m).body d := by
  chain_rfl

end Cert.GatherIdeal.Run
-- ==== Proof.GatherRun.lean ====
/-
# The gathering of the weights: every run of it

Every device ends with every half that was sent to it, and every half that was sent on to it; its blocks are as they
were, and every semaphore reads zero.
-/
module

public import proofs.«01_k».proof.Proof.GatherDeal
public import proofs.«01_k».proof.Proof.GatherBody
public import proofs.«01_k».proof.Proof.Gen.GatherIdeal.Launch
public import proofs.«01_k».proof.Proof.Gen.GatherIdeal.Points
public import proofs.«01_k».proof.Proof.Gen.GatherIdeal.Skeleton

@[expose] public section

noncomputable section

namespace Cert.GatherIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)
open Idealize.ShloMosaic.Pipeline
open Cert.Moves
open Facts₀ Facts

variable {F : FTy → Type} [FloatOps F]

local notation "𝕄" => MT nD τ sig Unit (Elt F) ℕ (UM nD τ sig) ℕ

variable (m : Mem0 nD τ sig (Elt F))

theorem sem_zero (s : MemSt nD τ sig (Elt F)) (h : ∀ g : GSem nD τ sig, (g.1.2 ≠ .tc ∨ g.2.isScoped .tc = true) → s.sem g = 0) : s.sem = fun _ => 0 :=
  have hsc : ∀ x : SemLoc sig, x.isScoped .tc = true := by decide +kernel
  funext fun g => h g (.inr (hsc g.2))

/-- What is known of a half that was sent on: that it had arrived. -/
def Kept : Far → Dev nD → MemSt nD τ sig (Elt F) → Prop
  | .inl _, _, _ => True
  | .inr (.inl _), _, _ => True
  | .inr (.inr (i, k)), c, s => (plan m).Landed (first i k) ((plan m).peer (first i k) c) s

theorem keep_read (t : Far) (c : Dev nD) (s : Phys nD τ sig (Elt F)) : iprop((script m).keep t c ∗ SI s) ⊢ (⌜Kept m t c s.mem⌝ : sProp 𝕄) := by
  rcases t with x | k | ⟨i, k⟩
  · iintro -; ipureintro; trivial
  · iintro -; ipureintro; trivial
  · exact (plan m).landed_read (first i k) _ _ s

/-- What every run of the gathering ends with. -/
def Ends (r : PUnit × MemSt nD τ sig (Elt F)) : Prop :=
  (∀ t c, (plan m).Landed t c r.2) ∧ (∀ u c, (plan m).Copied u c r.2)
    ∧ (∀ (c : Dev nD), ∀ a ∈ args, r.2.mem ((c.tc : Thread nD τ).loc a) = m ((c.tc : Thread nD τ).loc a)) ∧ r.2.sem = fun _ => 0

theorem all_landed (s : MemSt nD τ sig (Elt F)) (hl : ∀ t ∈ rest, ∀ c, (plan m).Landed t c s)
    (hk : ∀ x ∈ (script m).Rl, ∀ c, Kept m x.2 c s) (t : Far) (c : Dev nD) : (plan m).Landed t c s := by
  rcases List.mem_append.mp (recvs_mem t) with h | h
  · obtain ⟨x, hx, rfl⟩ := List.mem_map.mp h
    have h1 : (plan m).Landed (first x.1 x.2) ((plan m).peer (first x.1 x.2) ((plan m).peer (first x.1 x.2) c)) s :=
      hk _ (List.mem_map.mpr ⟨x, hx, rfl⟩) _
    rwa [(plan m).peer_peer] at h1
  · exact hl t h c

set_option maxRecDepth 20000 in
theorem ends (ρ : Dev nD → PrngReg) : θ_run (defs (F := F)) (onTc (τ := τ) (main (F := F))) ⟨m, fun _ => 0, ρ⟩ (Ends m) := by
  refine run_plan cfgs Gen.cellOf_inj (fun p => by fin_cases p; exact ⟨fun w => w.elim0⟩) defs₀ Variants.none (script m) (osem_injective m)
    Gen.winFacts0 (ownSems m) Gen.N_0 m ρ main (fun c => rfl) (fun c t Q => ?_) (keep0 m) (deal_all m)
    (Kept m) (fun c s => ∀ a ∈ args, s.mem ((c.tc : Thread nD τ).loc a) = m ((c.tc : Thread nD τ).loc a))
    (keep_read m) (fun c s => rests_read m _ _ c s) fun s hl hf hu hk hz => ?_
  · unfold Plan.wpAt
    rw [← body_eq m t]
    exact (show ∀ X : sProp 𝕄, X ⊢ X from fun _ => .rfl) _
  · exact ⟨all_landed m s hl hf, hu, hk, sem_zero s hz⟩

end Cert.GatherIdeal.Run
-- ==== Proof.Stack.lean ====
/-
# Blocks of an array, stacked

An array cut in four along its rows, block `j` held by both devices of chip `j`: its blocks, one on the other, are the
array reshaped.
-/
module

public import proofs.«01_k».proof.Proof.Seat
public import Idealize.ShloMosaic.Lib.Layout
public import Mathlib.Tactic.Ring

@[expose] public section

noncomputable section

namespace Cert.Moves

open Idealize.ShloMosaic

variable {α : Type} {N A b : ℕ}

/-- The array a device holds a block of. -/
abbrev blockOf (W : (⟨2, ![N, b]⟩ : Shape).Idx → α)
    (hT : Layout.TilesN ⟨2, ![A, b]⟩ ⟨2, ![N, b]⟩ fun i => Layout.cutSize [2, 2, 2] ((![[0, 1], []] : Fin 2 → List ℕ) i)) (d : Fin 8) : (⟨2, ![A, b]⟩ : Shape).Idx → α :=
  Layout.blockN ⟨2, ![A, b]⟩ ⟨2, ![N, b]⟩ (Layout.meshBlock [2, 2, 2] ![[0, 1], []] d) W hT

theorem chip_block : ∀ d : Fin 8, ((Layout.meshBlock [2, 2, 2] ![[0, 1], []] d) 0).val = d.val / 2 := by decide
theorem only_block : ∀ d : Fin 8, ((Layout.meshBlock [2, 2, 2] ![[0, 1], []] d) 1).val = 0 := by decide

theorem stacked (hN : N = 4 * A) (W : (⟨2, ![N, b]⟩ : Shape).Idx → α)
    (hT : Layout.TilesN ⟨2, ![A, b]⟩ ⟨2, ![N, b]⟩ fun i => Layout.cutSize [2, 2, 2] ((![[0, 1], []] : Fin 2 → List ℕ) i))
    (hs : (⟨2, ![N, b]⟩ : Shape).ShapeCasts ⟨3, ![4, A, b]⟩) (g : (⟨3, ![4, A, b]⟩ : Shape).Idx → α)
    (h : ∀ (j : Fin 4) (p : Fin A) (q : Fin b), ∃ d : Fin 8, d.val / 2 = j.val ∧ g (ix3 j p q) = blockOf W hT d (ix2 p q)) :
    g = shapeCast _ W hs := by
  funext i
  rw [eq_ix3 i]
  obtain ⟨d, hd, e⟩ := h (i 0) (i 1) (i 2)
  refine e.trans ?_
  show W (hT.idx _ (ix2 (i 1) (i 2))) = W (Shape.reshapeEquiv hs (ix3 (i 0) (i 1) (i 2)))
  refine congrArg W (Eq.symm (Shape.reshapeEquiv_eq_of_rowMajor _ ?_))
  rw [Shape.rowMajor_val_three, Shape.rowMajor_val_two]
  have h0 : (hT.idx (Layout.meshBlock [2, 2, 2] ![[0, 1], []] d) (ix2 (n0 := A) (n1 := b) (i 1) (i 2)) 0).val = (i 0).val * A + (i 1).val := by
    rw [Layout.TilesN.idx_val]
    show ((Layout.meshBlock [2, 2, 2] ![[0, 1], []] d) 0).val * A + (i 1).val = _
    rw [chip_block, hd]
  have h1 : (hT.idx (Layout.meshBlock [2, 2, 2] ![[0, 1], []] d) (ix2 (n0 := A) (n1 := b) (i 1) (i 2)) 1).val = (i 2).val := by
    rw [Layout.TilesN.idx_val]
    show ((Layout.meshBlock [2, 2, 2] ![[0, 1], []] d) 1).val * b + (i 2).val = _
    rw [only_block, Nat.zero_mul, Nat.zero_add]
  show (hT.idx (Layout.meshBlock [2, 2, 2] ![[0, 1], []] d) (ix2 (n0 := A) (n1 := b) (i 1) (i 2)) 0).val * b
    + (hT.idx (Layout.meshBlock [2, 2, 2] ![[0, 1], []] d) (ix2 (n0 := A) (n1 := b) (i 1) (i 2)) 1).val = _
  rw [h0, h1]
  rfl

end Cert.Moves
-- ==== Proof.GatherValue.lean ====
/-
# The gathering of the weights against its reference

Every device ends with every weight whole, the blocks of the four chips one on the other: the array reshaped.
-/
module

public import proofs.«01_k».proof.Proof.GatherRun
public import proofs.«01_k».proof.Proof.Stack
public import proofs.«01_k».proof.Proof.Gen.GatherRefIdeal.Run

@[expose] public section

noncomputable section

namespace Cert.GatherIdeal.Run

open Idealize.ShloMosaic Idealize.ShloMosaic.TcCoe
open Idealize.SL.Sem
open Cert.Moves
open Facts₀ Facts

variable {F : FTy → Type} [FloatOps F]

theorem chips (c : Dev nD) (j : Fin 4) : j.val = c.val / 2 ∨ ∃ k, j.val = (other k c).val / 2 := by revert c j; decide

variable (m : Mem0 nD τ sig (Elt F))

namespace Arr

variable (x : Arr)

theorem cut_read (d : Dev nD) (f : x.a.view.ref.ty.Contents (Elt F)) (p : Fin x.h) (q : Fin x.b) (p' : Fin x.A) (hp : p'.val = x.h * (d.val % 2) + p.val) :
    (x.send d).src.view.read (Elt F) f (ix2 p q) = x.a.view.read (Elt F) f (ix2 p' q) := by
  show x.a.view.read (Elt F) f ((Rect.unit (s := ⟨2, ![x.A, x.b]⟩) (x.cut d) (⟨2, ![x.h, x.b]⟩ : Shape).size (x.cut_inb d)).emb (ix2 p q)) = _
  have e0 : x.cut d 0 = x.h * (d.val % 2) := congrFun (x.cut_eq d) 0
  have e1 : x.cut d 1 = 0 := congrFun (x.cut_eq d) 1
  refine congrArg _ (funext fun a => Fin.ext ?_)
  match a with
  | ⟨0, _⟩ => show x.cut d 0 + 1 * p.val = p'.val; rw [e0, hp]; omega
  | ⟨1, _⟩ => show x.cut d 1 + 1 * q.val = q.val; rw [e1]; omega

theorem arrived_read (c' c : Dev nD) (o : Fin 3 → ℕ) (ho : x.put c' = o)
    (inb : ∀ a, o a + (⟨3, ![1, x.h, x.b]⟩ : Shape).size a ≤ (⟨3, ![4, x.A, x.b]⟩ : Shape).size a) :
    (seat x.r o inb x.sq).view.read (Elt F) (x.arrived m c' c) = (x.send c').src.view.read (Elt F) (m (x.a.view.loc (c'.tc : Thread nD τ))) := by
  subst ho
  unfold arrived
  exact View.read_write_univ _ _

/-- Everywhere in the result is the block of a device of the chip it belongs to. -/
theorem gathered (c : Dev nD) (g : x.r.view.ref.ty.Contents (Elt F)) (B : Dev nD → x.a.view.ref.ty.Contents (Elt F))
    (h1 : (x.home c).dst.view.read (Elt F) g = x.a.view.read (Elt F) (B c))
    (h2 : ∀ k, (x.send (x.peer k c)).dst.view.read (Elt F) g = (x.send (x.peer k c)).src.view.read (Elt F) (B (x.peer k c)))
    (h3 : ∀ k, (x.onward k (x.fwd k c)).dst.view.read (Elt F) g = (x.send (x.peer k (x.fwd k c))).src.view.read (Elt F) (B (x.peer k (x.fwd k c))))
    (j : Fin 4) (p : Fin x.A) (q : Fin x.b) :
    ∃ d : Dev nD, d.val / 2 = j.val ∧ x.r.view.read (Elt F) g (ix3 j p q) = x.a.view.read (Elt F) (B d) (ix2 p q) := by
  have hp : p.val < 2 * x.h := x.two ▸ p.isLt
  rcases chips c j with hj | ⟨k, hj⟩
  · refine ⟨c, hj.symm, ?_⟩
    have e := x.own_eq c
    rw [← h1]
    exact (seat_read x.r (x.own c) (x.own_inb c) x.sqA g p q (ix3 j p q) (hj.trans (congrFun e 0).symm)
      (by rw [e]; exact (Nat.zero_add _).symm) (by rw [e]; exact (Nat.zero_add _).symm)).symm
  · by_cases hq : x.h * (c.val % 2) ≤ p.val ∧ p.val < x.h * (c.val % 2) + x.h
    · have e := x.put_at k c
      have hc : (x.peer k c).val % 2 = c.val % 2 := by rw [x.peer_eq, other_core]
      refine ⟨x.peer k c, by rw [x.peer_eq]; exact hj.symm, ?_⟩
      rw [← x.cut_read (x.peer k c) (B (x.peer k c)) ⟨p.val - x.h * (c.val % 2), by omega⟩ q p (by rw [hc]; show p.val = _ + (p.val - _); omega), ← h2]
      exact (seat_read x.r (x.put (x.peer k c)) (x.put_inb _) x.sq g _ q (ix3 j p q) (hj.trans (congrFun e 0).symm)
        (by rw [e]; show p.val = x.h * (c.val % 2) + (p.val - x.h * (c.val % 2)); omega) (by rw [e]; exact (Nat.zero_add _).symm)).symm
    · have e := x.piece_at k c
      have hc : (x.peer k (x.fwd k c)).val % 2 = 1 - c.val % 2 := by rw [x.peer_eq, other_core, x.fwd_eq, sib_core]
      have hq' : x.h * (1 - c.val % 2) ≤ p.val ∧ p.val < x.h * (1 - c.val % 2) + x.h := by
        rcases Nat.mod_two_eq_zero_or_one c.val with z | z <;> rw [z] at hq ⊢ <;> simp only [Nat.mul_zero, Nat.mul_one, Nat.sub_zero, Nat.sub_self] at hq ⊢ <;> omega
      refine ⟨x.peer k (x.fwd k c), by rw [x.peer_eq, x.fwd_eq, other_sib]; exact hj.symm, ?_⟩
      rw [← x.cut_read (x.peer k (x.fwd k c)) (B (x.peer k (x.fwd k c))) ⟨p.val - x.h * (1 - c.val % 2), by omega⟩ q p
        (by rw [hc]; show p.val = _ + (p.val - _); omega), ← h3]
      exact (seat_read x.r (x.piece k (x.fwd k c)) (x.piece_inb k _) x.sq g _ q (ix3 j p q) (hj.trans (congrFun e 0).symm)
        (by rw [e]; show p.val = x.h * (1 - c.val % 2) + (p.val - x.h * (1 - c.val % 2)); omega) (by rw [e]; exact (Nat.zero_add _).symm)).symm

end Arr

/-! ## What a run leaves -/

variable (s : MemSt nD τ sig (Elt F)) (hl : ∀ t c, (plan m).Landed t c s) (hu : ∀ u c, (plan m).Copied u c s)

include hl in
theorem first_read (i : Fin 8) (k : Fin 3) (c : Dev nD) :
    ((arr i).send ((arr i).peer k c)).dst.view.read (Elt F) (s.mem ((arr i).r.view.loc (c.tc : Thread nD τ)))
      = ((arr i).send ((arr i).peer k c)).src.view.read (Elt F) (m ((arr i).a.view.loc (((arr i).peer k c).tc : Thread nD τ))) := by
  have h : ((arr i).send ((arr i).peer k c)).dst.view.read (Elt F) (s.mem ((arr i).r.view.loc (((arr i).peer k ((arr i).peer k c)).tc : Thread nD τ)))
      = ((arr i).send ((arr i).peer k c)).src.view.read (Elt F) (m ((arr i).a.view.loc (((arr i).peer k c).tc : Thread nD τ))) := hl (first i k) ((arr i).peer k c)
  have e : (arr i).peer k ((arr i).peer k c) = c := peer_peer (first i k) c
  rwa [e] at h

include hl in
theorem second_read (i : Fin 8) (k : Fin 3) (c : Dev nD) :
    ((arr i).onward k ((arr i).fwd k c)).dst.view.read (Elt F) (s.mem ((arr i).r.view.loc (c.tc : Thread nD τ)))
      = ((arr i).send ((arr i).peer k ((arr i).fwd k c))).src.view.read (Elt F) (m ((arr i).a.view.loc (((arr i).peer k ((arr i).fwd k c)).tc : Thread nD τ))) := by
  have h : ((arr i).onward k ((arr i).fwd k c)).dst.view.read (Elt F) (s.mem ((arr i).r.view.loc (((arr i).fwd k ((arr i).fwd k c)).tc : Thread nD τ)))
      = ((arr i).onward k ((arr i).fwd k c)).dst.view.read (Elt F) ((arr i).arrived m ((arr i).peer k ((arr i).fwd k c)) ((arr i).fwd k c)) := hl (second i k) ((arr i).fwd k c)
  have e : (arr i).fwd k ((arr i).fwd k c) = c := peer_peer (second i k) c
  rw [e] at h
  exact h.trans ((arr i).arrived_read m _ _ _ (piece_put (arr i) k _) _)

include hl hu in
theorem weight (i : Fin 8) (c : Dev nD) (j : Fin 4) (p : Fin (arr i).A) (q : Fin (arr i).b) :
    ∃ d : Dev nD, d.val / 2 = j.val ∧ (arr i).r.view.read (Elt F) (s.mem ((arr i).r.view.loc (c.tc : Thread nD τ))) (ix3 j p q)
      = (arr i).a.view.read (Elt F) (m ((arr i).a.view.loc (d.tc : Thread nD τ))) (ix2 p q) :=
  (arr i).gathered c (s.mem ((arr i).r.view.loc (c.tc : Thread nD τ))) (fun d => m ((arr i).a.view.loc (d.tc : Thread nD τ))) (hu (.inl i) c)
    (fun k => first_read m s hl i k c) (fun k => second_read m s hl i k c) j p q

include hl hu in
theorem small_gathered (c : Dev nD) (j : Fin 4) (p : Fin 8) (q : Fin 256) :
    ∃ d : Dev nD, d.val / 2 = j.val ∧ (s.mem ((c.tc : Thread nD τ).loc main_v1_8) : (⟨3, ![4, 8, 256]⟩ : Shape).Idx → Elt F .f32) (ix3 j p q)
      = (m ((d.tc : Thread nD τ).loc main_arg8) : (⟨2, ![8, 256]⟩ : Shape).Idx → Elt F .f32) (ix2 p q) := by
  have key (d : Dev nD) (hj : j.val = d.val / 2)
      (h : (small d).dst.view.read (Elt F) (s.mem ((c.tc : Thread nD τ).loc main_v1_8)) = (small d).src.view.read (Elt F) (m ((d.tc : Thread nD τ).loc main_arg8))) :
      (s.mem ((c.tc : Thread nD τ).loc main_v1_8) : (⟨3, ![4, 8, 256]⟩ : Shape).Idx → Elt F .f32) (ix3 j p q)
        = (m ((d.tc : Thread nD τ).loc main_arg8) : (⟨2, ![8, 256]⟩ : Shape).Idx → Elt F .f32) (ix2 p q) := by
    have e := small_eq d
    refine Eq.trans ?_ (congrFun h (ix2 p q))
    exact (seat_read (Val := Elt F) (Memref.whole main_v1_8) (k0_off5 d) (k0_off5_inb d) squeezes_S1x8x256_S8x256 (s.mem ((c.tc : Thread nD τ).loc main_v1_8)) p q (ix3 j p q) (hj.trans (congrFun e 0).symm)
      (by rw [e]; exact (Nat.zero_add _).symm) (by rw [e]; exact (Nat.zero_add _).symm)).symm
  rcases chips c j with hj | ⟨k, hj⟩
  · exact ⟨c, hj.symm, key c hj (hu (.inr ()) c)⟩
  · have e : smallPeer k (smallPeer k c) = c := peer_peer (tiny k) c
    have h : (small (smallPeer k c)).dst.view.read (Elt F) (s.mem (((smallPeer k (smallPeer k c)).tc : Thread nD τ).loc main_v1_8))
        = (small (smallPeer k c)).src.view.read (Elt F) (m (((smallPeer k c).tc : Thread nD τ).loc main_arg8)) := hl (tiny k) (smallPeer k c)
    rw [e] at h
    exact ⟨smallPeer k c, by rw [smallPeer_eq]; exact hj.symm, key _ (by rw [smallPeer_eq]; exact hj) h⟩

variable (m' : Mem0 Cert.GatherRefIdeal.nD Cert.GatherRefIdeal.τ Cert.GatherRefIdeal.sig (Elt F))

/-- The reference's arrays. -/
abbrev whole (r : Ref Cert.GatherRefIdeal.sig .tc) := m' (((0 : Dev Cert.GatherRefIdeal.nD).tc : Thread Cert.GatherRefIdeal.nD Cert.GatherRefIdeal.τ).loc r)

/-- Every device holds its block of the reference's arrays. -/
def Holds : Prop := ∀ c : Dev nD,
    m ((c.tc : Thread nD τ).loc main_arg0) = Layout.blockN ⟨2, ![2048, 1408]⟩ ⟨2, ![8192, 1408]⟩ (Layout.meshBlock [2, 2, 2] ![[0, 1], []] c) (whole m' Cert.GatherRefIdeal.main_arg0)
    ∧ m ((c.tc : Thread nD τ).loc main_arg1) = Layout.blockN ⟨2, ![2048, 1408]⟩ ⟨2, ![8192, 1408]⟩ (Layout.meshBlock [2, 2, 2] ![[0, 1], []] c) (whole m' Cert.GatherRefIdeal.main_arg1)
    ∧ m ((c.tc : Thread nD τ).loc main_arg2) = Layout.blockN ⟨2, ![1408, 2048]⟩ ⟨2, ![5632, 2048]⟩ (Layout.meshBlock [2, 2, 2] ![[0, 1], []] c) (whole m' Cert.GatherRefIdeal.main_arg2)
    ∧ m ((c.tc : Thread nD τ).loc main_arg3) = Layout.blockN ⟨2, ![2048, 1280]⟩ ⟨2, ![8192, 1280]⟩ (Layout.meshBlock [2, 2, 2] ![[0, 1], []] c) (whole m' Cert.GatherRefIdeal.main_arg3)
    ∧ m ((c.tc : Thread nD τ).loc main_arg4) = Layout.blockN ⟨2, ![512, 2048]⟩ ⟨2, ![2048, 2048]⟩ (Layout.meshBlock [2, 2, 2] ![[0, 1], []] c) (whole m' Cert.GatherRefIdeal.main_arg4)
    ∧ m ((c.tc : Thread nD τ).loc main_arg5) = Layout.blockN ⟨2, ![2048, 1408]⟩ ⟨2, ![8192, 1408]⟩ (Layout.meshBlock [2, 2, 2] ![[0, 1], []] c) (whole m' Cert.GatherRefIdeal.main_arg5)
    ∧ m ((c.tc : Thread nD τ).loc main_arg6) = Layout.blockN ⟨2, ![2048, 1408]⟩ ⟨2, ![8192, 1408]⟩ (Layout.meshBlock [2, 2, 2] ![[0, 1], []] c) (whole m' Cert.GatherRefIdeal.main_arg6)
    ∧ m ((c.tc : Thread nD τ).loc main_arg7) = Layout.blockN ⟨2, ![1408, 2048]⟩ ⟨2, ![5632, 2048]⟩ (Layout.meshBlock [2, 2, 2] ![[0, 1], []] c) (whole m' Cert.GatherRefIdeal.main_arg7)
    ∧ m ((c.tc : Thread nD τ).loc main_arg8) = Layout.blockN ⟨2, ![8, 256]⟩ ⟨2, ![32, 256]⟩ (Layout.meshBlock [2, 2, 2] ![[0, 1], []] c) (whole m' Cert.GatherRefIdeal.main_arg8)

/-- A result of which every row is a row of a device's block is the array reshaped. -/
theorem whole_value {α : Type} {N A b : ℕ} (hN : N = 4 * A) {g : (⟨3, ![4, A, b]⟩ : Shape).Idx → α} {B : Dev nD → (⟨2, ![A, b]⟩ : Shape).Idx → α}
    {W : (⟨2, ![N, b]⟩ : Shape).Idx → α}
    (hT : Layout.TilesN ⟨2, ![A, b]⟩ ⟨2, ![N, b]⟩ fun i => Layout.cutSize [2, 2, 2] ((![[0, 1], []] : Fin 2 → List ℕ) i))
    (hs : (⟨2, ![N, b]⟩ : Shape).ShapeCasts ⟨3, ![4, A, b]⟩) (hB : ∀ d, B d = blockOf W hT d)
    (h : ∀ (j : Fin 4) (p : Fin A) (q : Fin b), ∃ d : Dev nD, d.val / 2 = j.val ∧ g (ix3 j p q) = B d (ix2 p q)) : g = shapeCast _ W hs :=
  stacked hN W hT hs g fun j p q => by
    obtain ⟨d, hd, e⟩ := h j p q
    exact ⟨d, hd, e.trans (congrFun (hB d) _)⟩

/-- Both programs' runs, side by side. -/
theorem values (ρ : Dev nD → PrngReg) (ρ' : Dev Cert.GatherRefIdeal.nD → PrngReg) (hm : Holds m m') :
    θ_run (defs (F := F)) (onTc (τ := τ) (main (F := F))) ⟨m, fun _ => 0, ρ⟩ (fun r => ∀ c : Dev nD,
        r.2.mem ((c.tc : Thread nD τ).loc main_v1_0) = shapeCast ⟨3, ![4, 2048, 1408]⟩ (whole m' Cert.GatherRefIdeal.main_arg0) Cert.GatherRefIdeal.Gen.facts₀.shapeCasts_S8192x1408_S4x2048x1408
        ∧ r.2.mem ((c.tc : Thread nD τ).loc main_v1_1) = shapeCast ⟨3, ![4, 2048, 1408]⟩ (whole m' Cert.GatherRefIdeal.main_arg1) Cert.GatherRefIdeal.Gen.facts₀.shapeCasts_S8192x1408_S4x2048x1408
        ∧ r.2.mem ((c.tc : Thread nD τ).loc main_v1_2) = shapeCast ⟨3, ![4, 1408, 2048]⟩ (whole m' Cert.GatherRefIdeal.main_arg2) Cert.GatherRefIdeal.Gen.facts₀.shapeCasts_S5632x2048_S4x1408x2048
        ∧ r.2.mem ((c.tc : Thread nD τ).loc main_v1_3) = shapeCast ⟨3, ![4, 2048, 1280]⟩ (whole m' Cert.GatherRefIdeal.main_arg3) Cert.GatherRefIdeal.Gen.facts₀.shapeCasts_S8192x1280_S4x2048x1280
        ∧ r.2.mem ((c.tc : Thread nD τ).loc main_v1_4) = shapeCast ⟨3, ![4, 512, 2048]⟩ (whole m' Cert.GatherRefIdeal.main_arg4) Cert.GatherRefIdeal.Gen.facts₀.shapeCasts_S2048x2048_S4x512x2048
        ∧ r.2.mem ((c.tc : Thread nD τ).loc main_v1_5) = shapeCast ⟨3, ![4, 2048, 1408]⟩ (whole m' Cert.GatherRefIdeal.main_arg5) Cert.GatherRefIdeal.Gen.facts₀.shapeCasts_S8192x1408_S4x2048x1408
        ∧ r.2.mem ((c.tc : Thread nD τ).loc main_v1_6) = shapeCast ⟨3, ![4, 2048, 1408]⟩ (whole m' Cert.GatherRefIdeal.main_arg6) Cert.GatherRefIdeal.Gen.facts₀.shapeCasts_S8192x1408_S4x2048x1408
        ∧ r.2.mem ((c.tc : Thread nD τ).loc main_v1_7) = shapeCast ⟨3, ![4, 1408, 2048]⟩ (whole m' Cert.GatherRefIdeal.main_arg7) Cert.GatherRefIdeal.Gen.facts₀.shapeCasts_S5632x2048_S4x1408x2048
        ∧ r.2.mem ((c.tc : Thread nD τ).loc main_v1_8) = shapeCast ⟨3, ![4, 8, 256]⟩ (whole m' Cert.GatherRefIdeal.main_arg8) Cert.GatherRefIdeal.Gen.facts₀.shapeCasts_S32x256_S4x8x256
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8))
      ∧ θ_run (Cert.GatherRefIdeal.defs (F := F)) (onTc (τ := Cert.GatherRefIdeal.τ) (Cert.GatherRefIdeal.main (F := F))) ⟨m', fun _ => 0, ρ'⟩ (fun r =>
        r.2.mem (((0 : Dev Cert.GatherRefIdeal.nD).tc : Thread Cert.GatherRefIdeal.nD Cert.GatherRefIdeal.τ).loc Cert.GatherRefIdeal.main_v0) = shapeCast ⟨3, ![4, 2048, 1408]⟩ (whole m' Cert.GatherRefIdeal.main_arg0) Cert.GatherRefIdeal.Gen.facts₀.shapeCasts_S8192x1408_S4x2048x1408
        ∧ r.2.mem (((0 : Dev Cert.GatherRefIdeal.nD).tc : Thread Cert.GatherRefIdeal.nD Cert.GatherRefIdeal.τ).loc Cert.GatherRefIdeal.main_v1) = shapeCast ⟨3, ![4, 2048, 1408]⟩ (whole m' Cert.GatherRefIdeal.main_arg1) Cert.GatherRefIdeal.Gen.facts₀.shapeCasts_S8192x1408_S4x2048x1408
        ∧ r.2.mem (((0 : Dev Cert.GatherRefIdeal.nD).tc : Thread Cert.GatherRefIdeal.nD Cert.GatherRefIdeal.τ).loc Cert.GatherRefIdeal.main_v2) = shapeCast ⟨3, ![4, 1408, 2048]⟩ (whole m' Cert.GatherRefIdeal.main_arg2) Cert.GatherRefIdeal.Gen.facts₀.shapeCasts_S5632x2048_S4x1408x2048
        ∧ r.2.mem (((0 : Dev Cert.GatherRefIdeal.nD).tc : Thread Cert.GatherRefIdeal.nD Cert.GatherRefIdeal.τ).loc Cert.GatherRefIdeal.main_v3) = shapeCast ⟨3, ![4, 2048, 1280]⟩ (whole m' Cert.GatherRefIdeal.main_arg3) Cert.GatherRefIdeal.Gen.facts₀.shapeCasts_S8192x1280_S4x2048x1280
        ∧ r.2.mem (((0 : Dev Cert.GatherRefIdeal.nD).tc : Thread Cert.GatherRefIdeal.nD Cert.GatherRefIdeal.τ).loc Cert.GatherRefIdeal.main_v4) = shapeCast ⟨3, ![4, 512, 2048]⟩ (whole m' Cert.GatherRefIdeal.main_arg4) Cert.GatherRefIdeal.Gen.facts₀.shapeCasts_S2048x2048_S4x512x2048
        ∧ r.2.mem (((0 : Dev Cert.GatherRefIdeal.nD).tc : Thread Cert.GatherRefIdeal.nD Cert.GatherRefIdeal.τ).loc Cert.GatherRefIdeal.main_v5) = shapeCast ⟨3, ![4, 2048, 1408]⟩ (whole m' Cert.GatherRefIdeal.main_arg5) Cert.GatherRefIdeal.Gen.facts₀.shapeCasts_S8192x1408_S4x2048x1408
        ∧ r.2.mem (((0 : Dev Cert.GatherRefIdeal.nD).tc : Thread Cert.GatherRefIdeal.nD Cert.GatherRefIdeal.τ).loc Cert.GatherRefIdeal.main_v6) = shapeCast ⟨3, ![4, 2048, 1408]⟩ (whole m' Cert.GatherRefIdeal.main_arg6) Cert.GatherRefIdeal.Gen.facts₀.shapeCasts_S8192x1408_S4x2048x1408
        ∧ r.2.mem (((0 : Dev Cert.GatherRefIdeal.nD).tc : Thread Cert.GatherRefIdeal.nD Cert.GatherRefIdeal.τ).loc Cert.GatherRefIdeal.main_v7) = shapeCast ⟨3, ![4, 1408, 2048]⟩ (whole m' Cert.GatherRefIdeal.main_arg7) Cert.GatherRefIdeal.Gen.facts₀.shapeCasts_S5632x2048_S4x1408x2048
        ∧ r.2.mem (((0 : Dev Cert.GatherRefIdeal.nD).tc : Thread Cert.GatherRefIdeal.nD Cert.GatherRefIdeal.τ).loc Cert.GatherRefIdeal.main_v8) = shapeCast ⟨3, ![4, 8, 256]⟩ (whole m' Cert.GatherRefIdeal.main_arg8) Cert.GatherRefIdeal.Gen.facts₀.shapeCasts_S32x256_S4x8x256
        ∧ r.2.mem (((0 : Dev Cert.GatherRefIdeal.nD).tc : Thread Cert.GatherRefIdeal.nD Cert.GatherRefIdeal.τ).loc Cert.GatherRefIdeal.main_arg0) = whole m' Cert.GatherRefIdeal.main_arg0
        ∧ r.2.mem (((0 : Dev Cert.GatherRefIdeal.nD).tc : Thread Cert.GatherRefIdeal.nD Cert.GatherRefIdeal.τ).loc Cert.GatherRefIdeal.main_arg1) = whole m' Cert.GatherRefIdeal.main_arg1
        ∧ r.2.mem (((0 : Dev Cert.GatherRefIdeal.nD).tc : Thread Cert.GatherRefIdeal.nD Cert.GatherRefIdeal.τ).loc Cert.GatherRefIdeal.main_arg2) = whole m' Cert.GatherRefIdeal.main_arg2
        ∧ r.2.mem (((0 : Dev Cert.GatherRefIdeal.nD).tc : Thread Cert.GatherRefIdeal.nD Cert.GatherRefIdeal.τ).loc Cert.GatherRefIdeal.main_arg3) = whole m' Cert.GatherRefIdeal.main_arg3
        ∧ r.2.mem (((0 : Dev Cert.GatherRefIdeal.nD).tc : Thread Cert.GatherRefIdeal.nD Cert.GatherRefIdeal.τ).loc Cert.GatherRefIdeal.main_arg4) = whole m' Cert.GatherRefIdeal.main_arg4
        ∧ r.2.mem (((0 : Dev Cert.GatherRefIdeal.nD).tc : Thread Cert.GatherRefIdeal.nD Cert.GatherRefIdeal.τ).loc Cert.GatherRefIdeal.main_arg5) = whole m' Cert.GatherRefIdeal.main_arg5
        ∧ r.2.mem (((0 : Dev Cert.GatherRefIdeal.nD).tc : Thread Cert.GatherRefIdeal.nD Cert.GatherRefIdeal.τ).loc Cert.GatherRefIdeal.main_arg6) = whole m' Cert.GatherRefIdeal.main_arg6
        ∧ r.2.mem (((0 : Dev Cert.GatherRefIdeal.nD).tc : Thread Cert.GatherRefIdeal.nD Cert.GatherRefIdeal.τ).loc Cert.GatherRefIdeal.main_arg7) = whole m' Cert.GatherRefIdeal.main_arg7
        ∧ r.2.mem (((0 : Dev Cert.GatherRefIdeal.nD).tc : Thread Cert.GatherRefIdeal.nD Cert.GatherRefIdeal.τ).loc Cert.GatherRefIdeal.main_arg8) = whole m' Cert.GatherRefIdeal.main_arg8) := by
  refine ⟨(θ_run defs _ _).mono (fun r h c => ?_) (ends m ρ), (θ_run Cert.GatherRefIdeal.defs _ _).mono (fun _ h => h 0) (Cert.GatherRefIdeal.Value.run m' ρ')⟩
  obtain ⟨hl, hu, hk, -⟩ := h
  have hk' (i : Fin 8) : r.2.mem ((c.tc : Thread nD τ).loc (argRef i)) = m ((c.tc : Thread nD τ).loc (argRef i)) :=
    hk c _ (List.mem_append_left _ (List.mem_map.mpr ⟨i, by revert i; decide, rfl⟩))
  have w := weight m r.2 hl hu
  exact ⟨whole_value (by decide) (by decide) _ (fun d => (hm d).1) (w 0 c),
    whole_value (by decide) (by decide) _ (fun d => (hm d).2.1) (w 1 c),
    whole_value (by decide) (by decide) _ (fun d => (hm d).2.2.1) (w 2 c),
    whole_value (by decide) (by decide) _ (fun d => (hm d).2.2.2.1) (w 3 c),
    whole_value (by decide) (by decide) _ (fun d => (hm d).2.2.2.2.1) (w 4 c),
    whole_value (by decide) (by decide) _ (fun d => (hm d).2.2.2.2.2.1) (w 5 c),
    whole_value (by decide) (by decide) _ (fun d => (hm d).2.2.2.2.2.2.1) (w 6 c),
    whole_value (by decide) (by decide) _ (fun d => (hm d).2.2.2.2.2.2.2.1) (w 7 c),
    whole_value (by decide) (by decide) _ (fun d => (hm d).2.2.2.2.2.2.2.2) (small_gathered m r.2 hl hu c),
    hk' 0, hk' 1, hk' 2, hk' 3, hk' 4, hk' 5, hk' 6, hk' 7, hk c _ (List.mem_append_right _ (List.mem_singleton.mpr rfl))⟩

end Cert.GatherIdeal.Run
-- ==== Proof.GatherClaims.lean ====
/-
# The claims on the gathering of the weights
-/
module

public import proofs.«01_k».proof.Defs
public import proofs.«01_k».proof.Proof.GatherValue
public import proofs.«01_k».proof.Proof.Gen.Gather
public import proofs.«01_k».proof.Proof.Gen.GatherRef
public import Idealize.ShloMosaic.Lib.Quiescent

@[expose] public section

noncomputable section

namespace Cert.Proof.Gather

open Idealize.ShloMosaic Idealize.ShloMosaic.TcCoe Idealize.SL.Sem
open Cert.GatherIdeal.Run

/-- The arguments at the end are those of the launch. -/
theorem unchanged {F : FTy → Type} [FloatOps F] (m : Cert.Moves.Mem0 Cert.GatherIdeal.nD Cert.GatherIdeal.τ Cert.GatherIdeal.sig (Elt F))
    {r : PUnit × MemSt Cert.GatherIdeal.nD Cert.GatherIdeal.τ Cert.GatherIdeal.sig (Elt F)} (h : Ends m r) (c : Dev Cert.GatherIdeal.nD)
    (a : Ref Cert.GatherIdeal.sig .tc) (ha : a ∈ args := by decide) : r.2.mem ((c.tc : Thread Cert.GatherIdeal.nD Cert.GatherIdeal.τ).loc a)
      = m ((c.tc : Thread Cert.GatherIdeal.nD Cert.GatherIdeal.τ).loc a) := h.2.2.1 c a ha

theorem frame_kernel : Cert.quiescent_Gather := fun m ρ _ =>
  (θ_run Cert.GatherIdeal.defs _ _).mono (fun _ h => ⟨fun c => ⟨unchanged m h c _, unchanged m h c _, unchanged m h c _, unchanged m h c _, unchanged m h c _, unchanged m h c _,
    unchanged m h c _, unchanged m h c _, unchanged m h c _⟩, h.2.2.2⟩)
    (ends (F := Bits) m ρ)

theorem frame_ideal : Cert.quiescent_GatherIdeal := fun m ρ _ =>
  (θ_run Cert.GatherIdeal.defs _ _).mono (fun _ h => ⟨fun c => ⟨unchanged m h c _, unchanged m h c _, unchanged m h c _, unchanged m h c _, unchanged m h c _, unchanged m h c _,
    unchanged m h c _, unchanged m h c _, unchanged m h c _⟩, h.2.2.2⟩)
    (ends (F := Ideal) m ρ)

theorem frame_ref_ideal : Cert.quiescent_GatherRefIdeal := fun m ρ _ =>
  (θ_run Cert.GatherRefIdeal.defs _ _).mono (fun r h => ⟨fun c => (h c).2.2.2.2.2.2.2.2.2, sem_eq_zero_of_no_sems (by decide) r.2⟩)
    (Cert.GatherRefIdeal.Value.run (F := Ideal) m ρ)

theorem frame_ref : Cert.quiescent_GatherRef := fun m ρ _ =>
  (θ_run Cert.GatherRefIdeal.defs _ _).mono (fun r h => ⟨fun c => (h c).2.2.2.2.2.2.2.2.2, sem_eq_zero_of_no_sems (by decide) r.2⟩)
    (Cert.GatherRefIdeal.Value.run (F := Bits) m ρ)

theorem bitexact : Cert.bitexact_Gather_GatherRef := fun m ρ m' ρ' _ hm => ⟨_, _, _, _, _, _, _, _, _, values (F := Bits) m m' ρ ρ' hm⟩

theorem algebraic : Cert.algebraic_GatherIdeal_GatherRefIdeal := fun m ρ m' ρ' _ hm => ⟨_, _, _, _, _, _, _, _, _, values (F := Ideal) m m' ρ ρ' hm⟩

end Cert.Proof.Gather
-- ==== Proof.AdamClaims.lean ====
/-
# The claims on the optimizer's step, for the four shapes of its weights

The kernel's run and its results index by index are the generated ones; the reference is the same formula on whole
arrays, so at every index the two terms are the same extended real.
-/
module

public import proofs.«01_k».proof.Defs
public import proofs.«01_k».proof.Proof.Gen.AdamCols.Frame
public import proofs.«01_k».proof.Proof.Gen.AdamColsIdeal.Value
public import proofs.«01_k».proof.Proof.Gen.AdamColsRefIdeal.Run
public import proofs.«01_k».proof.Proof.Gen.AdamDown.Frame
public import proofs.«01_k».proof.Proof.Gen.AdamDownIdeal.Value
public import proofs.«01_k».proof.Proof.Gen.AdamDownRefIdeal.Run
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamOut.Frame
public import proofs.«01_k».proof.Proof.Gen.AdamOutIdeal.Value
public import proofs.«01_k».proof.Proof.Gen.AdamOutRefIdeal.Run
public import Idealize.ShloMosaic.Lib.Quiescent

@[expose] public section

noncomputable section

namespace Cert.Proof

open Idealize.ShloMosaic Idealize.ShloMosaic.TcCoe Idealize.SL.Sem

section Formula

variable {S : Shape} (hb : (⟨0, ![]⟩ : Shape).BroadcastsInDim S (![] : Fin 0 → Fin S.rank)) (w g f s : FVec Ideal S .f32)

/-- A constant on every weight. -/
abbrev num (b : BitVec 32) : FVec Ideal S .f32 := broadcastInDim S ![] hb (constant ⟨0, ![]⟩ .f32 b)

/-- The first moment: 0.9 of the old one and 0.1 of the gradient. -/
abbrev first : FVec Ideal S .f32 := addf (mulf (num hb 0x3F666666#32) f) (mulf (num hb 0x3DCCCCCD#32) g)

/-- The second moment: 0.999 of the old one and 0.001 of the gradient's square. -/
abbrev second : FVec Ideal S .f32 := addf (mulf (num hb 0x3F7FBE77#32) s) (mulf (num hb 0x3A83126F#32) (mulf g g))

/-- The change of the weight: the corrected first moment over the root of the corrected second one, and the decay, times
minus the rate. -/
abbrev change : FVec Ideal S .f32 :=
  mulf (num hb 0xBA83126F#32)
    (addf (Host.divf (Host.divf (first hb g f) (num hb 0x3F26BD02#32))
        (addf (Host.sqrt (Host.divf (second hb g s) (num hb 0x3C231ACC#32))) (num hb 0x322BCC77#32)))
      (mulf (num hb 0x3C23D70A#32) w))

/-- Results that the formula gives of some arguments are those it gives of equal ones. -/
theorem adam_results {w' g' f' s' r₀ r₁ r₂ : FVec Ideal S .f32} {K : Prop} (e : w' = w ∧ g' = g ∧ f' = f ∧ s' = s)
    (h : r₀ = change hb w' g' f' s' ∧ r₁ = first hb g' f' ∧ r₂ = second hb g' s' ∧ K) :
    r₀ = change hb w g f s ∧ r₁ = first hb g f ∧ r₂ = second hb g s ∧ K := by
  obtain ⟨rfl, rfl, rfl, rfl⟩ := e
  exact h

end Formula

/-! ## Weights of 2048 rows of 1408 -/

namespace AdamCols

theorem frame_kernel : Cert.quiescent_AdamCols := fun m ρ _ => Cert.AdamCols.Gen.frame (F := Bits) m ρ

theorem frame_ideal : Cert.quiescent_AdamColsIdeal := fun m ρ _ => Cert.AdamColsIdeal.Gen.frame (F := Ideal) m ρ

theorem frame_ref_ideal : Cert.quiescent_AdamColsRefIdeal := fun m ρ _ =>
  (θ_run Cert.AdamColsRefIdeal.defs _ _).mono (fun r h => ⟨fun c => (h c).2.2.2, sem_eq_zero_of_no_sems (by decide) r.2⟩)
    (Cert.AdamColsRefIdeal.Value.run (F := Ideal) m ρ)

theorem algebraic : Cert.algebraic_AdamColsIdeal_AdamColsRefIdeal := fun m ρ m' ρ' _ hm =>
  ⟨_, _, _, Cert.AdamColsIdeal.Value.run (F := Ideal) m ρ, (θ_run Cert.AdamColsRefIdeal.defs _ _).mono
    (fun _ h c => adam_results _ _ _ _ _ (hm c) (h c)) (Cert.AdamColsRefIdeal.Value.run (F := Ideal) m' ρ')⟩

end AdamCols

/-! ## Weights of 1408 rows of 2048 -/

namespace AdamDown

theorem frame_kernel : Cert.quiescent_AdamDown := fun m ρ _ => Cert.AdamDown.Gen.frame (F := Bits) m ρ

theorem frame_ideal : Cert.quiescent_AdamDownIdeal := fun m ρ _ => Cert.AdamDownIdeal.Gen.frame (F := Ideal) m ρ

theorem frame_ref_ideal : Cert.quiescent_AdamDownRefIdeal := fun m ρ _ =>
  (θ_run Cert.AdamDownRefIdeal.defs _ _).mono (fun r h => ⟨fun c => (h c).2.2.2, sem_eq_zero_of_no_sems (by decide) r.2⟩)
    (Cert.AdamDownRefIdeal.Value.run (F := Ideal) m ρ)

theorem algebraic : Cert.algebraic_AdamDownIdeal_AdamDownRefIdeal := fun m ρ m' ρ' _ hm =>
  ⟨_, _, _, Cert.AdamDownIdeal.Value.run (F := Ideal) m ρ, (θ_run Cert.AdamDownRefIdeal.defs _ _).mono
    (fun _ h c => adam_results _ _ _ _ _ (hm c) (h c)) (Cert.AdamDownRefIdeal.Value.run (F := Ideal) m' ρ')⟩

end AdamDown

/-! ## Weights of 2048 rows of 1280 -/

namespace AdamIn

theorem frame_kernel : Cert.quiescent_AdamIn := fun m ρ _ => Cert.AdamIn.Gen.frame (F := Bits) m ρ

theorem frame_ideal : Cert.quiescent_AdamInIdeal := fun m ρ _ => Cert.AdamInIdeal.Gen.frame (F := Ideal) m ρ

theorem frame_ref_ideal : Cert.quiescent_AdamInRefIdeal := fun m ρ _ =>
  (θ_run Cert.AdamInRefIdeal.defs _ _).mono (fun r h => ⟨fun c => (h c).2.2.2, sem_eq_zero_of_no_sems (by decide) r.2⟩)
    (Cert.AdamInRefIdeal.Value.run (F := Ideal) m ρ)

theorem algebraic : Cert.algebraic_AdamInIdeal_AdamInRefIdeal := fun m ρ m' ρ' _ hm =>
  ⟨_, _, _, Cert.AdamInIdeal.Value.run (F := Ideal) m ρ, (θ_run Cert.AdamInRefIdeal.defs _ _).mono
    (fun _ h c => adam_results _ _ _ _ _ (hm c) (h c)) (Cert.AdamInRefIdeal.Value.run (F := Ideal) m' ρ')⟩

end AdamIn

/-! ## Weights of 512 rows of 2048 -/

namespace AdamOut

theorem frame_kernel : Cert.quiescent_AdamOut := fun m ρ _ => Cert.AdamOut.Gen.frame (F := Bits) m ρ

theorem frame_ideal : Cert.quiescent_AdamOutIdeal := fun m ρ _ => Cert.AdamOutIdeal.Gen.frame (F := Ideal) m ρ

theorem frame_ref_ideal : Cert.quiescent_AdamOutRefIdeal := fun m ρ _ =>
  (θ_run Cert.AdamOutRefIdeal.defs _ _).mono (fun r h => ⟨fun c => (h c).2.2.2, sem_eq_zero_of_no_sems (by decide) r.2⟩)
    (Cert.AdamOutRefIdeal.Value.run (F := Ideal) m ρ)

theorem algebraic : Cert.algebraic_AdamOutIdeal_AdamOutRefIdeal := fun m ρ m' ρ' _ hm =>
  ⟨_, _, _, Cert.AdamOutIdeal.Value.run (F := Ideal) m ρ, (θ_run Cert.AdamOutRefIdeal.defs _ _).mono
    (fun _ h c => adam_results _ _ _ _ _ (hm c) (h c)) (Cert.AdamOutRefIdeal.Value.run (F := Ideal) m' ρ')⟩

end AdamOut

end Cert.Proof
-- ==== Proof.GradXSteps.lean ====
/-
# The last product of the backward pass, point by point: what a point of the grid leaves in the accumulator and in the output's block
-/
module

public import proofs.«01_k».proof.Proof.Gen.GradXIdeal.Value
public import Idealize.ShloMosaic.Lib.Pointwise
public import Idealize.ShloMosaic.Lib.Pipeline.Value
public import Idealize.ShloMosaic.Lib.Tactic

@[expose] public section

noncomputable section

namespace Cert.Proof.GradX

open Idealize.ShloMosaic Idealize.ShloMosaic.TcCoe Idealize.SL.Sem
open Cert.GradXIdeal Cert.GradXIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- A load of a whole buffer after several stores of the whole buffer reads the last one's payload. -/
theorem readCov_last {Val : EltTy → Type} [∀ e, Nonempty (Val e)] {sig : RefSig} {κ : Kind} {sp : Space} {S : Shape} {e : EltTy}
    (v : View sig κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

/-- What a point makes of the accumulator: both products of its blocks added to it. -/
def step (acc : Vec F S1024x1024 .f32) (g u : Vec F S1024x1408 .bf16) (wg wu : Vec F S1x1024x1408 .bf16) : Vec F S1024x1024 .f32 :=
  k0_pay3 (k0_pay2 acc g wg) u wu

section Cases

variable (c : Dev nD) (i : grid0.Coords)
  (a3 : Memref sig .tc .vmem S1024x1408 .bf16) (h3 : a3.IsWhole) (a4 : Memref sig .tc .vmem S1024x1408 .bf16) (h4 : a4.IsWhole)
  (a5 : Memref sig .tc .vmem S1x1024x1408 .bf16) (h5 : a5.IsWhole) (a6 : Memref sig .tc .vmem S1x1024x1408 .bf16) (h6 : a6.IsWhole)
  (a7 : Memref sig .tc .vmem S1024x1024 .f32) (h7 : a7.IsWhole) (a8 : Memref sig .tc .vmem S1024x1024 .f32) (h8 : a8.IsWhole)
  (a9 : Memref sig .tc .vmem S1024x1024 .f32) (h9 : a9.IsWhole)
  (g u : Vec F S1024x1408 .bf16) (wg wu : Vec F S1x1024x1408 .bf16) (x acc : Vec F S1024x1024 .f32)

/-- The first point of a run starts from zeros. -/
theorem scratch_first (hc : cond0_0 i) (hd : ¬cond0_1 i) :
    sout0_A_0 c i a3 h3 a4 h4 a5 h5 a6 h6 a7 h7 a8 h8 a9 h9 hc hd g u wg wu x = step k0_pay1 g u wg wu := by
  unfold sout0_A_0
  rw [View.read_writes_eq_canon _ _ _ (scover0_A_0 c i a3 h3 a4 h4 a5 h5 a6 h6 a7 h7 a8 h8 a9 h9 hc hd g u wg wu x)]
  unfold kernelRun0_A
  dsimp only
  sl_unfold_words
  rw [View.canon_cons_unit_zero (S := S1024x1024) hz]
  simp only [readCov_last (S := S1024x1024) _ hz, View.readCov_unit_zero (S := S1024x1024) _ hz, View.readAt_eq_ld, h3.read_unread,
    h4.read_unread, h5.read_unread, h6.read_unread, View.ld_unit_zero (S := S1024x1408) hz, View.ld_unit_zero (S := S1x1024x1408) hz3]
  rfl

/-- A point inside a run goes on from what the point before left. -/
theorem scratch_next (hc : ¬cond0_0 i) (hd : ¬cond0_1 i) :
    sout0_B_0 c i a3 h3 a4 h4 a5 h5 a6 h6 a7 h7 a8 h8 a9 h9 hc hd g u wg wu x acc = step acc g u wg wu := by
  unfold sout0_B_0
  rw [View.read_writes_eq_canon _ _ _ (scover0_B_0 c i a3 h3 a4 h4 a5 h5 a6 h6 a7 h7 a8 h8 a9 h9 hc hd g u wg wu x acc)]
  unfold kernelRun0_B
  dsimp only
  sl_unfold_words
  rw [View.canon_cons_unit_zero (S := S1024x1024) hz]
  simp only [readCov_last (S := S1024x1024) _ hz, View.readCov_unit_zero (S := S1024x1024) _ hz, View.readAt_eq_ld, h3.read_unread,
    h4.read_unread, h5.read_unread, h6.read_unread, h9.read_unread, View.ld_unit_zero (S := S1024x1024) hz,
    View.ld_unit_zero (S := S1024x1408) hz, View.ld_unit_zero (S := S1x1024x1408) hz3]
  rfl

/-- The last point of a run leaves the accumulator and the residual's block, added, in the output's block. -/
theorem block_last (hc : ¬cond0_0 i) (hd : cond0_1 i) :
    out0_C_5 c i a3 h3 a4 h4 a5 h5 a6 h6 a7 h7 a8 h8 a9 h9 hc hd g u wg wu x acc = addf (step acc g u wg wu) x := by
  unfold out0_C_5
  rw [View.read_writes_eq_canon _ _ _ (cover0_C_5 c i a3 h3 a4 h4 a5 h5 a6 h6 a7 h7 a8 h8 a9 h9 hc hd g u wg wu x acc)]
  unfold kernelRun0_C
  dsimp only
  sl_unfold_words
  rw [View.canon_unit_zero (S := S1024x1024) hz]
  simp only [readCov_last (S := S1024x1024) _ hz, View.readCov_unit_zero (S := S1024x1024) _ hz, View.readAt_eq_ld, h3.read_unread,
    h4.read_unread, h5.read_unread, h6.read_unread, h7.read_unread, h9.read_unread, View.ld_unit_zero (S := S1024x1024) hz,
    View.ld_unit_zero (S := S1024x1408) hz, View.ld_unit_zero (S := S1x1024x1408) hz3]
  rfl

end Cases

variable (m : (ℓ : Loc nD τ sig) → Buf (Elt F) ℓ) (c : Dev nD)

/-- The step at point `t`, over the point's blocks. -/
def stepAt (t : Fin cfg0.N) (acc : Vec F S1024x1024 .f32) : Vec F S1024x1024 .f32 :=
  step acc (iblk m c 0 t) (iblk m c 1 t) (iblk m c 2 t) (iblk m c 3 t)

theorem scratch_at_first (t : Fin cfg0.N) (h : t.val % 4 = 0) :
    (outsAt0 m c t.val t.isLt).2 = stepAt m c t k0_pay1 := by
  rw [outsAt0_A m c t h (by omega)]
  dsimp only
  rw [scratch_first, stepAt]

theorem scratch_at_next (t : Fin cfg0.N) (h : ¬t.val % 4 = 0) (h' : ¬t.val % 4 = 3) :
    (outsAt0 m c t.val t.isLt).2 = stepAt m c t (outsAt0 m c (t.val - 1) (Nat.lt_of_le_of_lt (Nat.sub_le _ _) t.isLt)).2 := by
  rw [outsAt0_B m c t h h']
  dsimp only
  rw [scratch_next, stepAt]

theorem block_at_last (t : Fin cfg0.N) (h : t.val % 4 = 3) :
    (outsAt0 m c t.val t.isLt).1
      = addf (stepAt m c t (outsAt0 m c (t.val - 1) (Nat.lt_of_le_of_lt (Nat.sub_le _ _) t.isLt)).2) (iblk m c 4 t) := by
  rw [outsAt0_C m c t (by omega) h]
  dsimp only
  rw [block_last, stepAt]

/-- Point `4 q + j` of the grid. -/
abbrev pt (q : Fin 16) (j : Fin 4) : Fin cfg0.N := ⟨4 * q.val + j.val, lt_of_lt_of_eq (by omega) (show 64 = cfg0.N from N_0.symm)⟩

/-- The output's block after the last point of a run: the run's four steps from zeros, and the residual's block. -/
theorem block_of_run (q : Fin 16) :
    (outsAt0 m c (pt q 3).val (pt q 3).isLt).1
      = addf (stepAt m c (pt q 3) (stepAt m c (pt q 2) (stepAt m c (pt q 1) (stepAt m c (pt q 0) k0_pay1)))) (iblk m c 4 (pt q 3)) := by
  have e0 := scratch_at_first m c (pt q 0) (by show (4 * q.val + 0) % 4 = 0; omega)
  have e1 := scratch_at_next m c (pt q 1) (by show ¬(4 * q.val + 1) % 4 = 0; omega) (by show ¬(4 * q.val + 1) % 4 = 3; omega)
  have e2 := scratch_at_next m c (pt q 2) (by show ¬(4 * q.val + 2) % 4 = 0; omega) (by show ¬(4 * q.val + 2) % 4 = 3; omega)
  have e3 := block_at_last m c (pt q 3) (by show (4 * q.val + 3) % 4 = 3; omega)
  rw [e3]
  refine congrArg (fun s => addf (stepAt m c (pt q 3) s) (iblk m c 4 (pt q 3))) ?_
  refine Eq.trans (show _ = (outsAt0 m c (pt q 2).val (pt q 2).isLt).2 from rfl) (e2.trans (congrArg (stepAt m c (pt q 2)) ?_))
  refine Eq.trans (show _ = (outsAt0 m c (pt q 1).val (pt q 1).isLt).2 from rfl) (e1.trans (congrArg (stepAt m c (pt q 1)) ?_))
  exact Eq.trans (show _ = (outsAt0 m c (pt q 0).val (pt q 0).isLt).2 from rfl) e0

end Cert.Proof.GradX

end
-- ==== Proof.GradXValue.lean ====
/-
# The last product of the backward pass: the kernel's array and the reference's are one
-/
module

public import proofs.«01_k».proof.Proof.GradXSteps
public import proofs.«01_k».proof.Proof.Gen.GradXRefIdeal.Run

@[expose] public section

noncomputable section

namespace Cert.Proof.GradX

open Idealize.ShloMosaic Idealize.ShloMosaic.TcCoe Idealize.SL.Sem
open Cert.GradXIdeal Cert.GradXIdeal.Gen

/-! ## A point's step, element by element -/

theorem step_apply (acc : FVec Ideal S1024x1024 .f32) (g u : FVec Ideal S1024x1408 .bf16) (wg wu : FVec Ideal S1x1024x1408 .bf16)
    (r q : Fin 1024) :
    step (F := Ideal) acc g u wg wu (ix2 r q)
      = (acc (ix2 r q) + ∑ k : Fin 1408, g (ix2 r k) * wg (ix3 0 q k)) + ∑ k : Fin 1408, u (ix2 r k) * wu (ix3 0 q k) := by
  pointwise [step, k0_pay3, k0_pay2]

theorem zeros_apply (r q : Fin 1024) : k0_pay1 (F := Ideal) (ix2 r q) = 0 := by
  pointwise [k0_pay1]

/-! ## The blocks of a point -/

section Blocks

variable {F : FTy → Type} [FloatOps F]
variable (m : (ℓ : Loc nD τ sig) → Buf (Elt F) ℓ) (c : Dev nD)

/-- Row `p` of the blocks of 1024, inside the 8192 rows; the same for the 2048 columns and for the blocks of 1408. -/
abbrev row (p : Fin 8) (r : Fin 1024) : Fin 8192 := ⟨1024 * p.val + r.val, by omega⟩
abbrev col (s : Fin 2) (q : Fin 1024) : Fin 2048 := ⟨1024 * s.val + q.val, by omega⟩
abbrev mid (j : Fin 4) (k : Fin 1408) : Fin 5632 := ⟨1408 * j.val + k.val, by omega⟩

/-- The run of the grid that computes block `(p, s)`. -/
abbrev runOf (p : Fin 8) (s : Fin 2) : Fin 16 := ⟨2 * p.val + s.val, by omega⟩

theorem index_rows : ∀ t : Fin cfg0.N, win0_0.index t (0 : Fin 2) = t.val / 8 ∧ win0_0.index t (1 : Fin 2) = t.val % 4
    ∧ win0_1.index t (0 : Fin 2) = t.val / 8 ∧ win0_1.index t (1 : Fin 2) = t.val % 4 :=
  (by decide +kernel : ∀ t : Fin grid0.N, _)

theorem index_weights : ∀ t : Fin cfg0.N, win0_2.index t (0 : Fin 3) = t.val % 4 ∧ win0_2.index t (1 : Fin 3) = t.val / 4 % 2
    ∧ win0_2.index t (2 : Fin 3) = 0 ∧ win0_3.index t (0 : Fin 3) = t.val % 4 ∧ win0_3.index t (1 : Fin 3) = t.val / 4 % 2
    ∧ win0_3.index t (2 : Fin 3) = 0 :=
  (by decide +kernel : ∀ t : Fin grid0.N, _)

theorem index_residual : ∀ t : Fin cfg0.N, win0_4.index t (0 : Fin 2) = t.val / 8 ∧ win0_4.index t (1 : Fin 2) = t.val / 4 % 2 :=
  (by decide +kernel : ∀ t : Fin grid0.N, _)

variable (p : Fin 8) (s : Fin 2) (j : Fin 4)

theorem pt_val : (pt (runOf p s) j).val = 4 * (2 * p.val + s.val) + j.val := rfl

theorem block_g (r : Fin 1024) (k : Fin 1408) :
    (iblk m c 0 (pt (runOf p s) j) : Vec F S1024x1408 .bf16) (ix2 r k) = m ((c : Thread nD τ).loc main_arg0) (ix2 (row p r) (mid j k)) := by
  show m ((c : Thread nD τ).loc main_arg0) (((cfg0.win 0).blk (pt (runOf p s) j)).view.emb (ix2 r k)) = _
  refine congrArg _ (funext fun a => Fin.ext ?_)
  obtain ⟨e0, e1, -, -⟩ := index_rows (pt (runOf p s) j)
  rw [pt_val] at e0 e1
  match a with
  | ⟨0, _⟩ => show win0_0.index (pt (runOf p s) j) (0 : Fin 2) * 1024 + 1 * r.val = 1024 * p.val + r.val; omega
  | ⟨1, _⟩ => show win0_0.index (pt (runOf p s) j) (1 : Fin 2) * 1408 + 1 * k.val = 1408 * j.val + k.val; omega

theorem block_u (r : Fin 1024) (k : Fin 1408) :
    (iblk m c 1 (pt (runOf p s) j) : Vec F S1024x1408 .bf16) (ix2 r k) = m ((c : Thread nD τ).loc main_arg1) (ix2 (row p r) (mid j k)) := by
  show m ((c : Thread nD τ).loc main_arg1) (((cfg0.win 1).blk (pt (runOf p s) j)).view.emb (ix2 r k)) = _
  refine congrArg _ (funext fun a => Fin.ext ?_)
  obtain ⟨-, -, e0, e1⟩ := index_rows (pt (runOf p s) j)
  rw [pt_val] at e0 e1
  match a with
  | ⟨0, _⟩ => show win0_1.index (pt (runOf p s) j) (0 : Fin 2) * 1024 + 1 * r.val = 1024 * p.val + r.val; omega
  | ⟨1, _⟩ => show win0_1.index (pt (runOf p s) j) (1 : Fin 2) * 1408 + 1 * k.val = 1408 * j.val + k.val; omega

theorem block_wg (q : Fin 1024) (k : Fin 1408) :
    (iblk m c 2 (pt (runOf p s) j) : Vec F S1x1024x1408 .bf16) (ix3 0 q k) = m ((c : Thread nD τ).loc main_arg2) (ix3 j (col s q) k) := by
  show m ((c : Thread nD τ).loc main_arg2) (((cfg0.win 2).blk (pt (runOf p s) j)).view.emb (ix3 0 q k)) = _
  refine congrArg _ (funext fun a => Fin.ext ?_)
  obtain ⟨e0, e1, e2, -, -, -⟩ := index_weights (pt (runOf p s) j)
  rw [pt_val] at e0 e1
  match a with
  | ⟨0, _⟩ => show win0_2.index (pt (runOf p s) j) (0 : Fin 3) * 1 + 1 * 0 = j.val; omega
  | ⟨1, _⟩ => show win0_2.index (pt (runOf p s) j) (1 : Fin 3) * 1024 + 1 * q.val = 1024 * s.val + q.val; omega
  | ⟨2, _⟩ => show win0_2.index (pt (runOf p s) j) (2 : Fin 3) * 1408 + 1 * k.val = k.val; omega

theorem block_wu (q : Fin 1024) (k : Fin 1408) :
    (iblk m c 3 (pt (runOf p s) j) : Vec F S1x1024x1408 .bf16) (ix3 0 q k) = m ((c : Thread nD τ).loc main_arg3) (ix3 j (col s q) k) := by
  show m ((c : Thread nD τ).loc main_arg3) (((cfg0.win 3).blk (pt (runOf p s) j)).view.emb (ix3 0 q k)) = _
  refine congrArg _ (funext fun a => Fin.ext ?_)
  obtain ⟨-, -, -, e0, e1, e2⟩ := index_weights (pt (runOf p s) j)
  rw [pt_val] at e0 e1
  match a with
  | ⟨0, _⟩ => show win0_3.index (pt (runOf p s) j) (0 : Fin 3) * 1 + 1 * 0 = j.val; omega
  | ⟨1, _⟩ => show win0_3.index (pt (runOf p s) j) (1 : Fin 3) * 1024 + 1 * q.val = 1024 * s.val + q.val; omega
  | ⟨2, _⟩ => show win0_3.index (pt (runOf p s) j) (2 : Fin 3) * 1408 + 1 * k.val = k.val; omega

theorem block_x (r q : Fin 1024) :
    (iblk m c 4 (pt (runOf p s) j) : Vec F S1024x1024 .f32) (ix2 r q) = m ((c : Thread nD τ).loc main_arg4) (ix2 (row p r) (col s q)) := by
  show m ((c : Thread nD τ).loc main_arg4) (((cfg0.win 4).blk (pt (runOf p s) j)).view.emb (ix2 r q)) = _
  refine congrArg _ (funext fun a => Fin.ext ?_)
  obtain ⟨e0, e1⟩ := index_residual (pt (runOf p s) j)
  rw [pt_val] at e0 e1
  match a with
  | ⟨0, _⟩ => show win0_4.index (pt (runOf p s) j) (0 : Fin 2) * 1024 + 1 * r.val = 1024 * p.val + r.val; omega
  | ⟨1, _⟩ => show win0_4.index (pt (runOf p s) j) (1 : Fin 2) * 1024 + 1 * q.val = 1024 * s.val + q.val; omega

end Blocks

/-! ## The kernel's array -/

/-- The part of a product that block `j` of the middle axis gives to the element at row `R` and column `C`. -/
def part (G : FVec Ideal S8192x5632 .bf16) (W : FVec Ideal S4x2048x1408 .bf16) (R : Fin 8192) (C : Fin 2048) (j : Fin 4) : EReal :=
  ∑ k : Fin 1408, G (ix2 R (mid j k)) * W (ix3 j C k)

variable (m : (ℓ : Loc nD τ sig) → Buf (Elt Ideal) ℓ) (c : Dev nD)

abbrev partG := part (m ((c : Thread nD τ).loc main_arg0)) (m ((c : Thread nD τ).loc main_arg2))
abbrev partU := part (m ((c : Thread nD τ).loc main_arg1)) (m ((c : Thread nD τ).loc main_arg3))

theorem stepAt_apply (p : Fin 8) (s : Fin 2) (j : Fin 4) (acc : FVec Ideal S1024x1024 .f32) (r q : Fin 1024) :
    stepAt m c (pt (runOf p s) j) acc (ix2 r q)
      = (acc (ix2 r q) + partG m c (row p r) (col s q) j) + partU m c (row p r) (col s q) j := by
  rw [stepAt, step_apply]
  simp only [block_g, block_u, block_wg, block_wu]
  rfl

theorem block_apply (p : Fin 8) (s : Fin 2) (r q : Fin 1024) :
    (outsAt0 m c (pt (runOf p s) 3).val (pt (runOf p s) 3).isLt).1 (ix2 r q)
      = (∑ j : Fin 4, partG m c (row p r) (col s q) j + ∑ j : Fin 4, partU m c (row p r) (col s q) j)
        + m ((c : Thread nD τ).loc main_arg4) (ix2 (row p r) (col s q)) := by
  rw [block_of_run, Fin.sum_univ_four, Fin.sum_univ_four]
  show stepAt m c _ _ (ix2 r q) + iblk m c 4 (pt (runOf p s) 3) (ix2 r q) = _
  rw [stepAt_apply, stepAt_apply, stepAt_apply, stepAt_apply, zeros_apply, zero_add, block_x]
  refine congrArg (· + _) ?_
  generalize partG m c (row p r) (col s q) = a
  generalize partU m c (row p r) (col s q) = b
  ac_rfl

theorem split_row (i : Fin 8192) : ∃ p r, row p r = i :=
  ⟨⟨i.val / 1024, by omega⟩, ⟨i.val % 1024, by omega⟩, Fin.ext (by show 1024 * (i.val / 1024) + i.val % 1024 = i.val; omega)⟩

theorem split_col (i : Fin 2048) : ∃ s q, col s q = i :=
  ⟨⟨i.val / 1024, by omega⟩, ⟨i.val % 1024, by omega⟩, Fin.ext (by show 1024 * (i.val / 1024) + i.val % 1024 = i.val; omega)⟩

theorem array_apply (R : Fin 8192) (C : Fin 2048) :
    Value.G5 m c (ix2 R C)
      = (∑ j : Fin 4, partG m c R C j + ∑ j : Fin 4, partU m c R C j) + m ((c : Thread nD τ).loc main_arg4) (ix2 R C) := by
  obtain ⟨p, r, rfl⟩ := split_row R
  obtain ⟨s, q, rfl⟩ := split_col C
  have hp : Value.pt5Of (ix2 (row p r) (col s q)) = (pt (runOf p s) 3).val := by
    show 4 * (2 * ((1024 * p.val + r.val) / 1024 - 0) + 1 * ((1024 * s.val + q.val) / 1024 - 0)) + 3 = 4 * (2 * p.val + s.val) + 3
    omega
  have hl : Value.loc5Of (ix2 (row p r) (col s q)) = ix2 r q := by
    funext a; apply Fin.ext
    match a with
    | ⟨0, _⟩ => show (1024 * p.val + r.val) % 1024 = r.val; omega
    | ⟨1, _⟩ => show (1024 * s.val + q.val) % 1024 = q.val; omega
  rw [← block_apply, Value.outsAt0_sweep]
  unfold Value.G5
  rw [dif_pos (by rw [hp]; exact (pt (runOf p s) 3).isLt), hl, Value.fold0_congr m c _ _ _ _ hp]

/-! ## The reference's array -/

theorem dot_apply [Cert.GradXRefIdeal.Facts₀] (G : FVec Ideal S8192x5632 .bf16) (W : FVec Ideal ⟨2, ![2048, 5632]⟩ .bf16) (R : Fin 8192) (C : Fin 2048) :
    Host.dotGeneral (F := Ideal) Cert.GradXRefIdeal.dot_S8192x5632_S2048x5632_S8192x2048_1_1_0_0_n_n none G W (ix2 R C)
      = ∑ K : Fin 5632, G (ix2 R K) * W (ix2 C K) := by
  pointwise [Cert.GradXRefIdeal.dot_S8192x5632_S2048x5632_S8192x2048_1_1_0_0_n_n]

theorem sum_mid (f : Fin 5632 → EReal) : ∑ K : Fin 5632, f K = ∑ j : Fin 4, ∑ k : Fin 1408, f (mid j k) := by
  rw [← Fintype.sum_prod_type', ← (finProdFinEquiv (m := 4) (n := 1408)).sum_comp]
  refine Finset.sum_congr rfl fun x _ => congrArg f (Fin.ext ?_)
  show x.2.val + 1408 * x.1.val = 1408 * x.1.val + x.2.val
  omega

/-- The weights laid side by side, read at column `C` and place `k` of block `j`. -/
theorem side_apply (W : FVec Ideal S4x2048x1408 .bf16) (ht : S4x2048x1408.Transposes [1, 0, 2] ⟨3, ![2048, 4, 1408]⟩)
    (hs : (⟨3, ![2048, 4, 1408]⟩ : Shape).ShapeCasts ⟨2, ![2048, 5632]⟩) (C : Fin 2048) (j : Fin 4) (k : Fin 1408) :
    shapeCast ⟨2, ![2048, 5632]⟩ (transpose ⟨3, ![2048, 4, 1408]⟩ [1, 0, 2] W ht) hs (ix2 C (mid j k)) = W (ix3 j C k) := by
  refine (shapeCast_apply _ hs _ (ix3 C j k) ?_).trans ?_
  · rw [Shape.rowMajor_val_three, Shape.rowMajor_val_two]
    show (C.val * 4 + j.val) * 1408 + k.val = C.val * 5632 + (1408 * j.val + k.val)
    omega
  · pointwise

/-- The reference's term at row `R` and column `C`, by the blocks of the middle axis. -/
theorem term_apply [Cert.GradXRefIdeal.Facts₀] (G U : FVec Ideal S8192x5632 .bf16) (Wg Wu : FVec Ideal S4x2048x1408 .bf16)
    (X : FVec Ideal S8192x2048 .f32) (ht : S4x2048x1408.Transposes [1, 0, 2] ⟨3, ![2048, 4, 1408]⟩)
    (hs : (⟨3, ![2048, 4, 1408]⟩ : Shape).ShapeCasts ⟨2, ![2048, 5632]⟩) (R : Fin 8192) (C : Fin 2048) :
    addf (addf
        (Host.dotGeneral (F := Ideal) (φ₁ := .bf16) (φ₂ := .bf16) Cert.GradXRefIdeal.dot_S8192x5632_S2048x5632_S8192x2048_1_1_0_0_n_n none G
          (shapeCast ⟨2, ![2048, 5632]⟩ (transpose ⟨3, ![2048, 4, 1408]⟩ [1, 0, 2] Wg ht) hs))
        (Host.dotGeneral (F := Ideal) (φ₁ := .bf16) (φ₂ := .bf16) Cert.GradXRefIdeal.dot_S8192x5632_S2048x5632_S8192x2048_1_1_0_0_n_n none U
          (shapeCast ⟨2, ![2048, 5632]⟩ (transpose ⟨3, ![2048, 4, 1408]⟩ [1, 0, 2] Wu ht) hs))) X (ix2 R C)
      = (∑ j : Fin 4, part G Wg R C j + ∑ j : Fin 4, part U Wu R C j) + X (ix2 R C) := by
  refine congrArg (· + X (ix2 R C)) (congrArg₂ (· + ·) ?_ ?_)
  all_goals
    refine (dot_apply _ _ R C).trans ((sum_mid _).trans (Finset.sum_congr rfl fun j _ => Finset.sum_congr rfl fun k _ => ?_))
    exact congrArg (_ * ·) (side_apply _ ht hs C j k)

/-- An array with these elements is the kernel's. -/
theorem eq_array (f : FVec Ideal S8192x2048 .f32)
    (hf : ∀ R C, f (ix2 R C) = (∑ j : Fin 4, partG m c R C j + ∑ j : Fin 4, partU m c R C j) + m ((c : Thread nD τ).loc main_arg4) (ix2 R C)) :
    f = Value.G5 m c := by
  funext i
  obtain ⟨R, C, rfl⟩ : ∃ (R : Fin 8192) (C : Fin 2048), ix2 R C = i := ⟨i 0, i 1, funext fun a => by fin_cases a <;> rfl⟩
  rw [array_apply, hf]

end Cert.Proof.GradX

end
-- ==== Proof.GradXClaims.lean ====
/-
# The claims on the last product of the backward pass

The kernel adds eight products of blocks in a scratch buffer, two at each of four points, and the residual at the last;
the reference multiplies whole rows by whole columns. Over the extended reals the sums are the same.
-/
module

public import proofs.«01_k».proof.Defs
public import proofs.«01_k».proof.Proof.Gen.GradX.Frame
public import proofs.«01_k».proof.Proof.GradXValue
public import Idealize.ShloMosaic.Lib.Quiescent

@[expose] public section

noncomputable section

namespace Cert.Proof.GradX

open Idealize.ShloMosaic Idealize.ShloMosaic.TcCoe Idealize.SL.Sem
open Cert.GradXIdeal

theorem frame_kernel : Cert.quiescent_GradX := fun m ρ _ => Cert.GradX.Gen.frame (F := Bits) m ρ

theorem frame_ideal : Cert.quiescent_GradXIdeal := fun m ρ _ => Gen.frame (F := Ideal) m ρ

theorem frame_ref_ideal : Cert.quiescent_GradXRefIdeal := fun m ρ _ =>
  (θ_run Cert.GradXRefIdeal.defs _ _).mono (fun r h => ⟨fun c => (h c).2, sem_eq_zero_of_no_sems (by decide) r.2⟩)
    (Cert.GradXRefIdeal.Value.run (F := Ideal) m ρ)

theorem algebraic : Cert.algebraic_GradXIdeal_GradXRefIdeal := fun m ρ m' ρ' _ hm =>
  ⟨_, Value.run (F := Ideal) m ρ,
    (θ_run Cert.GradXRefIdeal.defs _ _).mono (fun r h c => by
      obtain ⟨h0, h1, h2, h3, h4⟩ := hm c
      obtain ⟨hv, hk⟩ := h c
      rw [h0, h1, h2, h3, h4] at hv
      exact ⟨hv.trans (eq_array m c _ fun R C => term_apply _ _ _ _ _ _ _ R C), hk⟩) (Cert.GradXRefIdeal.Value.run (F := Ideal) m' ρ')⟩

end Cert.Proof.GradX
-- ==== Proof.Norm.lean ====
/-
# Normalization of a row over the extended reals, and the reference's whole-array term read at a row and a column
-/
module

public import Idealize.ShloMosaic.Lib.Pointwise
public import Idealize.ShloMosaic.Lib.IdealHost
public import Idealize.ShloMosaic.Lib.Tactic

@[expose] public section

noncomputable section

namespace Cert.Proof.Norm

open Idealize.ShloMosaic Idealize.ShloMosaic.TcCoe Idealize.SL.Sem

/-! ## One row of 2048 -/

/-- The mean of a row. -/
def mean (f : Fin 2048 → EReal) : EReal := Ideal.div (∑ k, f k) (Ideal.ofBits .f32 0x45000000#32)

/-- The distance of an element from its row's mean. -/
def away (f : Fin 2048 → EReal) (q : Fin 2048) : EReal := f q - mean f

/-- The row normalized, read at `q`, scaled by `g` and moved by `b`. -/
def normed (f : Fin 2048 → EReal) (q : Fin 2048) (g b : EReal) : EReal :=
  away f q * Ideal.rsqrt (mean (fun k => away f k * away f k) + Ideal.ofBits .f32 0x3727C5AC#32) * g + b

/-! ## The reference's term -/

abbrev Rows : Shape := ⟨2, ![8192, 2048]⟩
abbrev Cols : Shape := ⟨2, ![8192, 1]⟩
abbrev Line : Shape := ⟨2, ![1, 2048]⟩
abbrev Sums : Shape := ⟨1, ![8192]⟩
abbrev One : Shape := ⟨0, ![]⟩

variable (hr : Rows.ReducesTo [1] Sums) (hu : 0 < One.numel) (hc : Sums.BroadcastsInDim Cols ![0])
  (hs : One.BroadcastsInDim Cols ![]) (hb : Cols.BroadcastsInDim Rows ![0, 1]) (hl : Line.BroadcastsInDim Rows ![0, 1])

abbrev hostMean (x : FVec Ideal Rows .f32) : FVec Ideal Cols .f32 :=
  Host.divf (broadcastInDim Cols ![0] hc (Host.reduceAdd x (constant One .f32 0x00000000#32) hr hu))
    (broadcastInDim Cols ![] hs (constant One .f32 0x45000000#32))

abbrev hostAway (x : FVec Ideal Rows .f32) : FVec Ideal Rows .f32 :=
  subf x (broadcastInDim Rows ![0, 1] hb (hostMean hr hu hc hs x))

abbrev hostNormed (x : FVec Ideal Rows .f32) (g b : FVec Ideal Line .f32) : FVec Ideal Rows .f32 :=
  addf (mulf (mulf (hostAway hr hu hc hs hb x) (broadcastInDim Rows ![0, 1] hb (Host.rsqrt (addf
      (hostMean hr hu hc hs (mulf (hostAway hr hu hc hs hb x) (hostAway hr hu hc hs hb x)))
      (broadcastInDim Cols ![] hs (constant One .f32 0x3727C5AC#32)))))) (broadcastInDim Rows ![0, 1] hl g))
    (broadcastInDim Rows ![0, 1] hl b)

theorem hostMean_apply (x : FVec Ideal Rows .f32) (R : Fin 8192) :
    hostMean hr hu hc hs x (ix2 R (0 : Fin 1)) = mean fun k => x (ix2 R k) := by
  unfold mean
  pointwise

theorem hostAway_apply (x : FVec Ideal Rows .f32) (R : Fin 8192) (C : Fin 2048) :
    hostAway hr hu hc hs hb x (ix2 R C) = away (fun k => x (ix2 R k)) C := by
  unfold away mean
  pointwise

theorem hostNormed_apply (x : FVec Ideal Rows .f32) (g b : FVec Ideal Line .f32) (R : Fin 8192) (C : Fin 2048) :
    hostNormed hr hu hc hs hb hl x g b (ix2 R C) = normed (fun k => x (ix2 R k)) C (g (ix2 (0 : Fin 1) C)) (b (ix2 (0 : Fin 1) C)) := by
  unfold normed away mean
  pointwise

end Cert.Proof.Norm

end
-- ==== Proof.LnFwdValue.lean ====
/-
# The forward normalization: the kernel's arrays, element by element
-/
module

public import proofs.«01_k».proof.Proof.Norm
public import proofs.«01_k».proof.Proof.Gen.LnFwdIdeal.Value
public import Idealize.ShloMosaic.Lib.Pipeline.Value

@[expose] public section

noncomputable section

namespace Cert.Proof.LnFwd

open Idealize.ShloMosaic Idealize.ShloMosaic.TcCoe Idealize.SL.Sem
open Cert.LnFwdIdeal Cert.LnFwdIdeal.Gen

theorem hz : (![0, 0] : Fin 2 → Nat) = fun _ => 0 := funext fun a => by fin_cases a <;> rfl

theorem pay_apply (x : FVec Ideal S256x2048 .f32) (g b : FVec Ideal S1x2048 .f32) (r : Fin 256) (q : Fin 2048) :
    k0_pay1 (F := Ideal) x g b (ix2 r q) = Norm.normed (fun k => x (ix2 r k)) q (g (ix2 (0 : Fin 1) q)) (b (ix2 (0 : Fin 1) q)) := by
  unfold Norm.normed Norm.away Norm.mean
  pointwise [k0_pay1]

theorem pay_bf16_apply (x : FVec Ideal S256x2048 .f32) (g b : FVec Ideal S1x2048 .f32) (r : Fin 256) (q : Fin 2048) :
    k0_pay2 (F := Ideal) x g b (ix2 r q) = k0_pay1 (F := Ideal) x g b (ix2 r q) := rfl

section Blocks

variable {F : FTy → Type} [FloatOps F]
variable (m : (ℓ : Loc nD τ sig) → Buf (Elt F) ℓ) (c : Dev nD)

/-- Row `r` of block `t`, inside the 8192 rows. -/
abbrev row (t : Fin cfg0.N) (r : Fin 256) : Fin 8192 := ⟨256 * t.val + r.val, by have h : t.val < 32 := lt_of_lt_of_eq t.isLt N_0; omega⟩

theorem index_rows : ∀ t : Fin cfg0.N, win0_0.index t (0 : Fin 2) = t.val ∧ win0_0.index t (1 : Fin 2) = 0 :=
  (by decide +kernel : ∀ t : Fin grid0.N, _)

theorem index_lines : ∀ t : Fin cfg0.N, win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

theorem index_out : ∀ t : Fin cfg0.N, win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem flush_out : ∀ t : Fin cfg0.N, win0_3.flush t = true ∧ win0_4.flush t = true :=
  (by decide +kernel : ∀ t : Fin grid0.N, _)

variable (t : Fin cfg0.N)

theorem block_x (r : Fin 256) (q : Fin 2048) :
    (iblk m c 0 t : Vec F S256x2048 .f32) (ix2 r q) = m ((c : Thread nD τ).loc main_arg0) (ix2 (row t r) q) := by
  show m ((c : Thread nD τ).loc main_arg0) (((cfg0.win 0).blk t).view.emb (ix2 r q)) = _
  refine congrArg _ (funext fun a => Fin.ext ?_)
  obtain ⟨e0, e1⟩ := index_rows t
  match a with
  | ⟨0, _⟩ => show win0_0.index t (0 : Fin 2) * 256 + 1 * r.val = 256 * t.val + r.val; omega
  | ⟨1, _⟩ => show win0_0.index t (1 : Fin 2) * 2048 + 1 * q.val = q.val; omega

theorem block_g (q : Fin 2048) :
    (iblk m c 1 t : Vec F S1x2048 .f32) (ix2 (0 : Fin 1) q) = m ((c : Thread nD τ).loc main_arg1) (ix2 (0 : Fin 1) q) := by
  show m ((c : Thread nD τ).loc main_arg1) (((cfg0.win 1).blk t).view.emb (ix2 (0 : Fin 1) q)) = _
  refine congrArg _ (funext fun a => Fin.ext ?_)
  obtain ⟨e0, e1, -, -⟩ := index_lines t
  match a with
  | ⟨0, _⟩ => show win0_1.index t (0 : Fin 2) * 1 + 1 * 0 = 0; omega
  | ⟨1, _⟩ => show win0_1.index t (1 : Fin 2) * 2048 + 1 * q.val = q.val; omega

theorem block_b (q : Fin 2048) :
    (iblk m c 2 t : Vec F S1x2048 .f32) (ix2 (0 : Fin 1) q) = m ((c : Thread nD τ).loc main_arg2) (ix2 (0 : Fin 1) q) := by
  show m ((c : Thread nD τ).loc main_arg2) (((cfg0.win 2).blk t).view.emb (ix2 (0 : Fin 1) q)) = _
  refine congrArg _ (funext fun a => Fin.ext ?_)
  obtain ⟨-, -, e0, e1⟩ := index_lines t
  match a with
  | ⟨0, _⟩ => show win0_2.index t (0 : Fin 2) * 1 + 1 * 0 = 0; omega
  | ⟨1, _⟩ => show win0_2.index t (1 : Fin 2) * 2048 + 1 * q.val = q.val; omega

theorem out_block (x : Vec F S256x2048 .f32) (g b : Vec F S1x2048 .f32) : out0_3 x g b = k0_pay1 x g b := by
  unfold out0_3
  rw [View.canon_unit_zero (S := S256x2048) hz, View.ld_unit_zero (S := S256x2048) hz, View.ld_unit_zero (S := S1x2048) hz,
    View.ld_unit_zero (S := S1x2048) hz]

theorem out_block_bf16 (x : Vec F S256x2048 .f32) (g b : Vec F S1x2048 .f32) : out0_4 x g b = k0_pay2 x g b := by
  unfold out0_4
  rw [View.canon_unit_zero (S := S256x2048) hz, View.ld_unit_zero (S := S256x2048) hz, View.ld_unit_zero (S := S1x2048) hz,
    View.ld_unit_zero (S := S1x2048) hz]

/-- The element of the f32 result in row `r` of block `t` is that of the block the point computed. -/
theorem array_block (r : Fin 256) (q : Fin 2048) :
    (dats m 0 c).arrAt 3 cfg0.N (ix2 (row t r) q) = k0_pay1 (iblk m c 0 t) (iblk m c 1 t) (iblk m c 2 t) (ix2 r q) := by
  have h := congrFun ((Value.blocks3 m c t (flush_out t).1).trans (Value.flushed3 m c t)) (ix2 r q)
  rw [out_block] at h
  refine Eq.trans (congrArg _ (funext fun a => Fin.ext ?_)) h
  obtain ⟨e0, e1, -, -⟩ := index_out t
  match a with
  | ⟨0, _⟩ => show 256 * t.val + r.val = win0_3.index t (0 : Fin 2) * 256 + 1 * r.val; omega
  | ⟨1, _⟩ => show q.val = win0_3.index t (1 : Fin 2) * 2048 + 1 * q.val; omega

theorem array_block_bf16 (r : Fin 256) (q : Fin 2048) :
    (dats m 0 c).arrAt 4 cfg0.N (ix2 (row t r) q) = k0_pay2 (iblk m c 0 t) (iblk m c 1 t) (iblk m c 2 t) (ix2 r q) := by
  have h := congrFun ((Value.blocks4 m c t (flush_out t).2).trans (Value.flushed4 m c t)) (ix2 r q)
  rw [out_block_bf16] at h
  refine Eq.trans (congrArg _ (funext fun a => Fin.ext ?_)) h
  obtain ⟨-, -, e0, e1⟩ := index_out t
  match a with
  | ⟨0, _⟩ => show 256 * t.val + r.val = win0_4.index t (0 : Fin 2) * 256 + 1 * r.val; omega
  | ⟨1, _⟩ => show q.val = win0_4.index t (1 : Fin 2) * 2048 + 1 * q.val; omega

end Blocks

theorem split_row (i : Fin 8192) : ∃ t r, row t r = i :=
  ⟨⟨i.val / 256, lt_of_lt_of_eq (by omega) (show 32 = cfg0.N from N_0.symm)⟩, ⟨i.val % 256, by omega⟩,
    Fin.ext (by show 256 * (i.val / 256) + i.val % 256 = i.val; omega)⟩

variable (m : (ℓ : Loc nD τ sig) → Buf (Elt Ideal) ℓ) (c : Dev nD)

/-- The argument's row normalized, at a row and a column. -/
abbrev spec (R : Fin 8192) (C : Fin 2048) : EReal :=
  Norm.normed (fun k => m ((c : Thread nD τ).loc main_arg0) (ix2 R k)) C (m ((c : Thread nD τ).loc main_arg1) (ix2 (0 : Fin 1) C))
    (m ((c : Thread nD τ).loc main_arg2) (ix2 (0 : Fin 1) C))

theorem array_apply (R : Fin 8192) (C : Fin 2048) : (dats m 0 c).arrAt 3 cfg0.N (ix2 R C) = spec m c R C := by
  obtain ⟨t, r, rfl⟩ := split_row R
  rw [array_block, pay_apply]
  simp only [block_x, block_g, block_b]

theorem array_bf16_apply (R : Fin 8192) (C : Fin 2048) : (dats m 0 c).arrAt 4 cfg0.N (ix2 R C) = spec m c R C := by
  obtain ⟨t, r, rfl⟩ := split_row R
  rw [array_block_bf16, pay_bf16_apply, pay_apply]
  simp only [block_x, block_g, block_b]

/-- Arrays with these elements are the kernel's. -/
theorem eq_array (f : FVec Ideal S8192x2048 .f32) (hf : ∀ R C, f (ix2 R C) = spec m c R C) : f = (dats m 0 c).arrAt 3 cfg0.N := by
  funext i
  obtain ⟨R, C, rfl⟩ : ∃ (R : Fin 8192) (C : Fin 2048), ix2 R C = i := ⟨i 0, i 1, funext fun a => by fin_cases a <;> rfl⟩
  exact (hf R C).trans (array_apply m c R C).symm

theorem eq_array_bf16 (f : FVec Ideal S8192x2048 .bf16) (hf : ∀ R C, f (ix2 R C) = spec m c R C) : f = (dats m 0 c).arrAt 4 cfg0.N := by
  funext i
  obtain ⟨R, C, rfl⟩ : ∃ (R : Fin 8192) (C : Fin 2048), ix2 R C = i := ⟨i 0, i 1, funext fun a => by fin_cases a <;> rfl⟩
  exact (hf R C).trans (array_bf16_apply m c R C).symm

end Cert.Proof.LnFwd

end
-- ==== Proof.LnFwdClaims.lean ====
/-
# The claims on the forward normalization

The kernel normalizes 256 rows at a point of its grid and writes them twice, as f32 and rounded to bf16; the reference
normalizes all 8192 rows at once. Over the extended reals the two agree at every row and column.
-/
module

public import proofs.«01_k».proof.Defs
public import proofs.«01_k».proof.Proof.Gen.LnFwd.Frame
public import proofs.«01_k».proof.Proof.Gen.LnFwdRefIdeal.Run
public import proofs.«01_k».proof.Proof.LnFwdValue
public import Idealize.ShloMosaic.Lib.Quiescent

@[expose] public section

noncomputable section

namespace Cert.Proof.LnFwd

open Idealize.ShloMosaic Idealize.ShloMosaic.TcCoe Idealize.SL.Sem
open Cert.LnFwdIdeal

theorem frame_kernel : Cert.quiescent_LnFwd := fun m ρ _ => Cert.LnFwd.Gen.frame (F := Bits) m ρ

theorem frame_ideal : Cert.quiescent_LnFwdIdeal := fun m ρ _ => Gen.frame (F := Ideal) m ρ

theorem frame_ref_ideal : Cert.quiescent_LnFwdRefIdeal := fun m ρ _ =>
  (θ_run Cert.LnFwdRefIdeal.defs _ _).mono (fun r h => ⟨fun c => (h c).2.2, sem_eq_zero_of_no_sems (by decide) r.2⟩)
    (Cert.LnFwdRefIdeal.Value.run (F := Ideal) m ρ)

theorem algebraic : Cert.algebraic_LnFwdIdeal_LnFwdRefIdeal := fun m ρ m' ρ' _ hm =>
  ⟨_, _, Value.run_blocks (F := Ideal) m ρ,
    (θ_run Cert.LnFwdRefIdeal.defs _ _).mono (fun r h c => by
      obtain ⟨hx, hg, hb⟩ := hm c
      obtain ⟨h0, h1, hk⟩ := h c
      rw [hx, hg, hb] at h0 h1
      exact ⟨h0.trans (eq_array m c _ fun R C => Norm.hostNormed_apply _ _ _ _ _ _ _ _ _ R C),
        h1.trans (eq_array_bf16 m c _ fun R C => Norm.hostNormed_apply _ _ _ _ _ _ _ _ _ R C), hk⟩)
      (Cert.LnFwdRefIdeal.Value.run (F := Ideal) m' ρ')⟩

end Cert.Proof.LnFwd

end
-- ==== Proof.LnLossSteps.lean ====
/-
# The loss over the normalized rows, point by point: what a point of the grid leaves in its block and in the sums
-/
module

public import proofs.«01_k».proof.Proof.Norm
public import proofs.«01_k».proof.Proof.GradXSteps
public import proofs.«01_k».proof.Proof.Gen.LnLossIdeal.Value
public import Idealize.ShloMosaic.Lib.Pipeline.Value
public import Idealize.ShloMosaic.Lib.Tactic

@[expose] public section

noncomputable section

namespace Cert.Proof.LnLoss

open Idealize.ShloMosaic Idealize.ShloMosaic.TcCoe Idealize.SL.Sem
open Cert.LnLossIdeal Cert.LnLossIdeal.Gen
open Cert.Proof.GradX (hz readCov_last)

variable {F : FTy → Type} [FloatOps F]

/-- What a point makes of the sums: its block's squares, added by columns. -/
def step (acc : Vec F S1x2048 .f32) (x y : Vec F S256x2048 .f32) (g b : Vec F S1x2048 .f32) : Vec F S1x2048 .f32 :=
  k0_pay1 (k0_pay5 acc) (k0_pay6 x g b y)

section Cases

variable (c : Dev nD) (i : grid0.Coords)
  (a1 : Memref sig .tc .vmem S256x2048 .f32) (h1 : a1.IsWhole) (a2 : Memref sig .tc .vmem S256x2048 .f32) (h2 : a2.IsWhole)
  (a3 : Memref sig .tc .vmem S1x2048 .f32) (h3 : a3.IsWhole) (a4 : Memref sig .tc .vmem S1x2048 .f32) (h4 : a4.IsWhole)
  (a5 : Memref sig .tc .vmem S256x2048 .f32) (h5 : a5.IsWhole) (a6 : Memref sig .tc .vmem S1x2048 .f32) (h6 : a6.IsWhole)
  (x y : Vec F S256x2048 .f32) (g b acc : Vec F S1x2048 .f32)

theorem block_first (hc : cond0_0 i) : out0_A_4 c i a1 h1 a2 h2 a3 h3 a4 h4 a5 h5 a6 h6 hc x y g b = k0_pay4 x g b y := by
  unfold out0_A_4
  rw [View.read_writes_eq_canon _ _ _ (cover0_A_4 c i a1 h1 a2 h2 a3 h3 a4 h4 a5 h5 a6 h6 hc x y g b)]
  unfold kernelRun0_A
  dsimp only
  sl_unfold_words
  rw [View.canon_unit_zero (S := S256x2048) hz]
  simp only [View.readAt_eq_ld, h1.read_unread, h2.read_unread, h3.read_unread, h4.read_unread,
    View.ld_unit_zero (S := S256x2048) hz, View.ld_unit_zero (S := S1x2048) hz]

theorem block_next (hc : ¬cond0_0 i) : out0_B_4 c i a1 h1 a2 h2 a3 h3 a4 h4 a5 h5 a6 h6 hc x y g b acc = k0_pay4 x g b y := by
  unfold out0_B_4
  rw [View.read_writes_eq_canon _ _ _ (cover0_B_4 c i a1 h1 a2 h2 a3 h3 a4 h4 a5 h5 a6 h6 hc x y g b acc)]
  unfold kernelRun0_B
  dsimp only
  sl_unfold_words
  rw [View.canon_unit_zero (S := S256x2048) hz]
  simp only [View.readAt_eq_ld, h1.read_unread, h2.read_unread, h3.read_unread, h4.read_unread,
    View.ld_unit_zero (S := S256x2048) hz, View.ld_unit_zero (S := S1x2048) hz]

/-- The first point starts the sums from zeros. -/
theorem sums_first (hc : cond0_0 i) :
    out0_A_5 c i a1 h1 a2 h2 a3 h3 a4 h4 a5 h5 a6 h6 hc x y g b = step k0_pay2 x y g b := by
  unfold out0_A_5
  rw [View.read_writes_eq_canon _ _ _ (cover0_A_5 c i a1 h1 a2 h2 a3 h3 a4 h4 a5 h5 a6 h6 hc x y g b)]
  unfold kernelRun0_A
  dsimp only
  sl_unfold_words
  rw [View.canon_cons_unit_zero (S := S1x2048) hz]
  simp only [readCov_last (S := S1x2048) _ hz, View.readCov_unit_zero (S := S1x2048) _ hz, View.readAt_eq_ld, h1.read_unread,
    h2.read_unread, h3.read_unread, h4.read_unread, View.ld_unit_zero (S := S256x2048) hz, View.ld_unit_zero (S := S1x2048) hz]
  rfl

/-- Every other point goes on from what the point before left. -/
theorem sums_next (hc : ¬cond0_0 i) :
    out0_B_5 c i a1 h1 a2 h2 a3 h3 a4 h4 a5 h5 a6 h6 hc x y g b acc = step acc x y g b := by
  unfold out0_B_5
  rw [View.read_writes_eq_canon _ _ _ (cover0_B_5 c i a1 h1 a2 h2 a3 h3 a4 h4 a5 h5 a6 h6 hc x y g b acc)]
  unfold kernelRun0_B
  dsimp only
  sl_unfold_words
  rw [View.canon_unit_zero (S := S1x2048) hz]
  simp only [View.readCov_unit_zero (S := S1x2048) _ hz, View.readAt_eq_ld, h1.read_unread, h2.read_unread, h3.read_unread,
    h4.read_unread, h6.read_unread, View.ld_unit_zero (S := S256x2048) hz, View.ld_unit_zero (S := S1x2048) hz]
  rfl

end Cases

variable (m : (ℓ : Loc nD τ sig) → Buf (Elt F) ℓ) (c : Dev nD)

/-- The step at point `t`, over the point's blocks. -/
def stepAt (t : Fin cfg0.N) (acc : Vec F S1x2048 .f32) : Vec F S1x2048 .f32 :=
  step acc (iblk m c 0 t) (iblk m c 1 t) (iblk m c 2 t) (iblk m c 3 t)

theorem lt_points (t : Fin cfg0.N) : t.val < 32 := lt_of_lt_of_eq t.isLt N_0

theorem block_at (t : Fin cfg0.N) :
    (outsAt0 m c t.val t.isLt).1 = k0_pay4 (iblk m c 0 t) (iblk m c 2 t) (iblk m c 3 t) (iblk m c 1 t) := by
  by_cases h : t.val % 32 = 0
  · rw [outsAt0_A m c t h]; dsimp only; rw [block_first]
  · rw [outsAt0_B m c t h]; dsimp only; rw [block_next]

theorem sums_at_first (t : Fin cfg0.N) (h : t.val = 0) : (outsAt0 m c t.val t.isLt).2 = stepAt m c t k0_pay2 := by
  rw [outsAt0_A m c t (by omega)]
  dsimp only
  rw [sums_first, stepAt]

theorem sums_at_next (t : Fin cfg0.N) (h : ¬t.val = 0) :
    (outsAt0 m c t.val t.isLt).2 = stepAt m c t (outsAt0 m c (t.val - 1) (Nat.lt_of_le_of_lt (Nat.sub_le _ _) t.isLt)).2 := by
  rw [outsAt0_B m c t (by have := lt_points t; omega)]
  dsimp only
  rw [sums_next, stepAt]

end Cert.Proof.LnLoss

end
-- ==== Proof.LnLossValue.lean ====
/-
# The loss over the normalized rows: the kernel's arrays and the reference's, element by element
-/
module

public import proofs.«01_k».proof.Proof.LnLossSteps

@[expose] public section

noncomputable section

namespace Cert.Proof.LnLoss

open Idealize.ShloMosaic Idealize.ShloMosaic.TcCoe Idealize.SL.Sem
open Cert.LnLossIdeal Cert.LnLossIdeal.Gen

/-! ## A point's terms -/

/-- The distance of a normalized element from its target. -/
abbrev miss (f : Fin 2048 → EReal) (q : Fin 2048) (g b y : EReal) : EReal := Norm.normed f q g b - y

section Terms

variable (x y : FVec Ideal S256x2048 .f32) (g b acc : FVec Ideal S1x2048 .f32) (r : Fin 256) (q : Fin 2048)

theorem miss_apply : k0_pay3 (F := Ideal) x g b y (ix2 r q)
    = miss (fun k => x (ix2 r k)) q (g (ix2 (0 : Fin 1) q)) (b (ix2 (0 : Fin 1) q)) (y (ix2 r q)) := by
  unfold miss Norm.normed Norm.away Norm.mean
  pointwise [k0_pay3]

theorem scaled_apply : k0_pay4 (F := Ideal) x g b y (ix2 r q)
    = k0_pay3 (F := Ideal) x g b y (ix2 r q) * Ideal.ofBits .f32 0x3A000000#32 := rfl

theorem step_apply : step (F := Ideal) acc x y g b (ix2 (0 : Fin 1) q)
    = acc (ix2 (0 : Fin 1) q) + ∑ r : Fin 256, k0_pay3 (F := Ideal) x g b y (ix2 r q) * k0_pay3 (F := Ideal) x g b y (ix2 r q) := by
  unfold step k0_pay1 k0_pay5 k0_pay6
  generalize k0_pay3 (F := Ideal) x g b y = e
  pointwise

theorem zeros_apply : k0_pay2 (F := Ideal) (ix2 (0 : Fin 1) q) = 0 := by
  pointwise [k0_pay2]

end Terms

/-- Times 1/2048 is divided by 2048. -/
theorem scale_eq (e : EReal) : e * Ideal.ofBits .f32 0x3A000000#32 = Ideal.div e (Ideal.ofBits .f32 0x45000000#32) := by
  have h1 : Ideal.ofBits .f32 0x3A000000#32 = (((2048 : ℝ)⁻¹ : ℝ) : EReal) := by
    simp [Ideal.ofBits, Ideal.ieee, -EReal.coe_mul]; norm_num
  have h2 : Ideal.ofBits .f32 0x45000000#32 = ((2048 : ℝ) : EReal) := by
    simp [Ideal.ofBits, Ideal.ieee, -EReal.coe_mul]; norm_num
  rw [h1, h2]
  unfold Ideal.div
  rw [if_neg (by norm_num), EReal.coe_inv]

/-! ## The blocks of a point -/

section Blocks

variable {F : FTy → Type} [FloatOps F]
variable (m : (ℓ : Loc nD τ sig) → Buf (Elt F) ℓ) (c : Dev nD)

/-- Row `r` of block `n`, inside the 8192 rows. -/
abbrev row (n : Nat) (r : Fin 256) : Fin 8192 := ⟨(256 * n + r.val) % 8192, Nat.mod_lt _ (by decide)⟩

theorem index_rows : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem index_lines : ∀ t : Fin cfg0.N, win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

theorem index_out : ∀ t : Fin cfg0.N, win0_4.index t (0 : Fin 2) = t.val ∧ win0_4.index t (1 : Fin 2) = 0
    ∧ win0_5.index t (0 : Fin 2) = 0 ∧ win0_5.index t (1 : Fin 2) = 0 :=
  (by decide +kernel : ∀ t : Fin grid0.N, _)

/-- Every point writes its block back; the sums go back at the last point alone. -/
theorem flush_out : ∀ t : Fin cfg0.N, win0_4.flush t = true ∧ (win0_5.flush t = true ↔ t.val = 31) :=
  (by decide +kernel : ∀ t : Fin grid0.N, _)

variable (t : Fin cfg0.N)

theorem block_x (r : Fin 256) (q : Fin 2048) :
    (iblk m c 0 t : Vec F S256x2048 .f32) (ix2 r q) = m ((c : Thread nD τ).loc main_arg0) (ix2 (row t.val r) q) := by
  show m ((c : Thread nD τ).loc main_arg0) (((cfg0.win 0).blk t).view.emb (ix2 r q)) = _
  refine congrArg _ (funext fun a => Fin.ext ?_)
  obtain ⟨e0, e1, -, -⟩ := index_rows t
  have ht := lt_points t
  match a with
  | ⟨0, _⟩ => show win0_0.index t (0 : Fin 2) * 256 + 1 * r.val = (256 * t.val + r.val) % 8192; omega
  | ⟨1, _⟩ => show win0_0.index t (1 : Fin 2) * 2048 + 1 * q.val = q.val; omega

theorem block_y (r : Fin 256) (q : Fin 2048) :
    (iblk m c 1 t : Vec F S256x2048 .f32) (ix2 r q) = m ((c : Thread nD τ).loc main_arg1) (ix2 (row t.val r) q) := by
  show m ((c : Thread nD τ).loc main_arg1) (((cfg0.win 1).blk t).view.emb (ix2 r q)) = _
  refine congrArg _ (funext fun a => Fin.ext ?_)
  obtain ⟨-, -, e0, e1⟩ := index_rows t
  have ht := lt_points t
  match a with
  | ⟨0, _⟩ => show win0_1.index t (0 : Fin 2) * 256 + 1 * r.val = (256 * t.val + r.val) % 8192; omega
  | ⟨1, _⟩ => show win0_1.index t (1 : Fin 2) * 2048 + 1 * q.val = q.val; omega

theorem block_g (q : Fin 2048) :
    (iblk m c 2 t : Vec F S1x2048 .f32) (ix2 (0 : Fin 1) q) = m ((c : Thread nD τ).loc main_arg2) (ix2 (0 : Fin 1) q) := by
  show m ((c : Thread nD τ).loc main_arg2) (((cfg0.win 2).blk t).view.emb (ix2 (0 : Fin 1) q)) = _
  refine congrArg _ (funext fun a => Fin.ext ?_)
  obtain ⟨e0, e1, -, -⟩ := index_lines t
  match a with
  | ⟨0, _⟩ => show win0_2.index t (0 : Fin 2) * 1 + 1 * 0 = 0; omega
  | ⟨1, _⟩ => show win0_2.index t (1 : Fin 2) * 2048 + 1 * q.val = q.val; omega

theorem block_b (q : Fin 2048) :
    (iblk m c 3 t : Vec F S1x2048 .f32) (ix2 (0 : Fin 1) q) = m ((c : Thread nD τ).loc main_arg3) (ix2 (0 : Fin 1) q) := by
  show m ((c : Thread nD τ).loc main_arg3) (((cfg0.win 3).blk t).view.emb (ix2 (0 : Fin 1) q)) = _
  refine congrArg _ (funext fun a => Fin.ext ?_)
  obtain ⟨-, -, e0, e1⟩ := index_lines t
  match a with
  | ⟨0, _⟩ => show win0_3.index t (0 : Fin 2) * 1 + 1 * 0 = 0; omega
  | ⟨1, _⟩ => show win0_3.index t (1 : Fin 2) * 2048 + 1 * q.val = q.val; omega

/-- The element of the first result in row `r` of block `t` is that of the block the point computed. -/
theorem array_block (r : Fin 256) (q : Fin 2048) :
    (dats m 0 c).arrAt 4 cfg0.N (ix2 (row t.val r) q)
      = k0_pay4 (iblk m c 0 t) (iblk m c 2 t) (iblk m c 3 t) (iblk m c 1 t) (ix2 r q) := by
  have h := congrFun ((Value.blocks4 m c t (flush_out t).1).trans (Value.flushed4 m c t)) (ix2 r q)
  rw [block_at] at h
  refine Eq.trans (congrArg _ (funext fun a => Fin.ext ?_)) h
  obtain ⟨e0, e1, -, -⟩ := index_out t
  have ht := lt_points t
  match a with
  | ⟨0, _⟩ => show (256 * t.val + r.val) % 8192 = win0_4.index t (0 : Fin 2) * 256 + 1 * r.val; omega
  | ⟨1, _⟩ => show q.val = win0_4.index t (1 : Fin 2) * 2048 + 1 * q.val; omega

/-- The last point. -/
abbrev last : Fin cfg0.N := ⟨31, lt_of_lt_of_eq (by decide) (show 32 = cfg0.N from N_0.symm)⟩

/-- The second result is what the last point left. -/
theorem array_sums (q : Fin 2048) :
    (dats m 0 c).arrAt 5 cfg0.N (ix2 (0 : Fin 1) q) = (outsAt0 m c last.val last.isLt).2 (ix2 (0 : Fin 1) q) := by
  have h := congrFun (((dats m 0 c).read_blk_arrAt_eq_flushed 5
    (fun t t' hf hf' hne => absurd (Fin.ext (((flush_out t).2.1 hf).trans ((flush_out t').2.1 hf').symm)) hne)
    cfg0.N last last.isLt ((flush_out last).2.2 rfl)).trans (Value.flushed5 m c last)) (ix2 (0 : Fin 1) q)
  refine Eq.trans (congrArg _ (funext fun a => Fin.ext ?_)) h
  obtain ⟨-, -, e0, e1⟩ := index_out last
  match a with
  | ⟨0, _⟩ => show 0 = win0_5.index last (0 : Fin 2) * 1 + 1 * 0; omega
  | ⟨1, _⟩ => show q.val = win0_5.index last (1 : Fin 2) * 2048 + 1 * q.val; omega

end Blocks

theorem split_row (i : Fin 8192) : ∃ (t : Fin cfg0.N) (r : Fin 256), row t.val r = i :=
  ⟨⟨i.val / 256, lt_of_lt_of_eq (by omega) (show 32 = cfg0.N from N_0.symm)⟩, ⟨i.val % 256, by omega⟩,
    Fin.ext (by show (256 * (i.val / 256) + i.val % 256) % 8192 = i.val; omega)⟩

/-! ## The kernel's arrays -/

variable (m : (ℓ : Loc nD τ sig) → Buf (Elt Ideal) ℓ) (c : Dev nD)

/-- The distance from the target at a row and a column of the arguments. -/
abbrev missAt (R : Fin 8192) (C : Fin 2048) : EReal :=
  miss (fun k => m ((c : Thread nD τ).loc main_arg0) (ix2 R k)) C (m ((c : Thread nD τ).loc main_arg2) (ix2 (0 : Fin 1) C))
    (m ((c : Thread nD τ).loc main_arg3) (ix2 (0 : Fin 1) C)) (m ((c : Thread nD τ).loc main_arg1) (ix2 R C))

theorem miss_block (t : Fin cfg0.N) (r : Fin 256) (q : Fin 2048) :
    k0_pay3 (F := Ideal) (iblk m c 0 t) (iblk m c 2 t) (iblk m c 3 t) (iblk m c 1 t) (ix2 r q) = missAt m c (row t.val r) q := by
  rw [miss_apply]
  simp only [block_x, block_y, block_g, block_b]

theorem array_apply (R : Fin 8192) (C : Fin 2048) :
    (dats m 0 c).arrAt 4 cfg0.N (ix2 R C) = Ideal.div (missAt m c R C) (Ideal.ofBits .f32 0x45000000#32) := by
  obtain ⟨t, r, rfl⟩ := split_row R
  rw [array_block, scaled_apply, miss_block, scale_eq]

/-- After point `n` the sums run over the blocks up to it. -/
theorem sums_upto (C : Fin 2048) : ∀ (n : Nat) (hn : n < cfg0.N), (outsAt0 m c n hn).2 (ix2 (0 : Fin 1) C)
    = ∑ u ∈ Finset.range (n + 1), ∑ r : Fin 256, missAt m c (row u r) C * missAt m c (row u r) C
  | 0, hn => by
    rw [sums_at_first m c ⟨0, hn⟩ rfl, stepAt, step_apply, zeros_apply, zero_add, Finset.sum_range_one]
    exact Finset.sum_congr rfl fun r _ => by rw [miss_block]
  | n + 1, hn => by
    rw [sums_at_next m c ⟨n + 1, hn⟩ (Nat.succ_ne_zero n), stepAt, step_apply, Finset.sum_range_succ _ (n + 1)]
    refine congrArg₂ (· + ·) (sums_upto C n (Nat.lt_of_succ_lt hn)) ?_
    exact Finset.sum_congr rfl fun r _ => by rw [miss_block]

theorem sum_rows (f : Fin 8192 → EReal) : ∑ R : Fin 8192, f R = ∑ u ∈ Finset.range 32, ∑ r : Fin 256, f (row u r) := by
  rw [Finset.sum_range, ← Fintype.sum_prod_type', ← (finProdFinEquiv (m := 32) (n := 256)).sum_comp]
  refine Finset.sum_congr rfl fun x _ => congrArg f (Fin.ext ?_)
  show x.2.val + 256 * x.1.val = (256 * x.1.val + x.2.val) % 8192
  omega

theorem sums_apply (C : Fin 2048) :
    (dats m 0 c).arrAt 5 cfg0.N (ix2 (0 : Fin 1) C) = ∑ R : Fin 8192, missAt m c R C * missAt m c R C := by
  rw [array_sums, sums_upto, sum_rows]

/-- Arrays with these elements are the kernel's. -/
theorem eq_array (f : FVec Ideal S8192x2048 .f32)
    (hf : ∀ R C, f (ix2 R C) = Ideal.div (missAt m c R C) (Ideal.ofBits .f32 0x45000000#32)) : f = (dats m 0 c).arrAt 4 cfg0.N := by
  funext i
  obtain ⟨R, C, rfl⟩ : ∃ (R : Fin 8192) (C : Fin 2048), ix2 R C = i := ⟨i 0, i 1, funext fun a => by fin_cases a <;> rfl⟩
  exact (hf R C).trans (array_apply m c R C).symm

theorem eq_sums (f : FVec Ideal S1x2048 .f32)
    (hf : ∀ C, f (ix2 (0 : Fin 1) C) = ∑ R : Fin 8192, missAt m c R C * missAt m c R C) : f = (dats m 0 c).arrAt 5 cfg0.N := by
  funext i
  obtain ⟨C, rfl⟩ : ∃ C : Fin 2048, ix2 (0 : Fin 1) C = i :=
    ⟨i 1, funext fun a => by
      match a with
      | ⟨0, _⟩ => exact Fin.ext (by show 0 = (i 0).val; have : (i 0).val < 1 := (i 0).isLt; omega)
      | ⟨1, _⟩ => rfl⟩
  exact (hf C).trans (sums_apply m c C).symm

/-! ## The reference's sums -/

theorem hostSums_apply (e : FVec Ideal Norm.Rows .f32) (hr : Norm.Rows.ReducesTo [0] ⟨1, ![2048]⟩) (hu : 0 < Norm.One.numel)
    (hc : (⟨1, ![2048]⟩ : Shape).BroadcastsInDim Norm.Line ![1]) (C : Fin 2048) :
    broadcastInDim Norm.Line ![1] hc (Host.reduceAdd (mulf e e) (constant (F := Ideal) Norm.One .f32 0x00000000#32) hr hu) (ix2 (0 : Fin 1) C)
      = ∑ R : Fin 8192, e (ix2 R C) * e (ix2 R C) := by
  pointwise

end Cert.Proof.LnLoss

end
-- ==== Proof.LnLossClaims.lean ====
/-
# The claims on the loss over the normalized rows

The kernel normalizes 256 rows at a point of its grid, writes their distances from the target times 1/2048, and keeps the
column sums of the squares in one block over all 32 points; the reference does the same on all 8192 rows at once, with a
division. Over the extended reals the sums may be taken in any order, and the product is the quotient.
-/
module

public import proofs.«01_k».proof.Defs
public import proofs.«01_k».proof.Proof.Gen.LnLoss.Frame
public import proofs.«01_k».proof.Proof.Gen.LnLossRefIdeal.Run
public import proofs.«01_k».proof.Proof.LnLossValue
public import Idealize.ShloMosaic.Lib.Quiescent

@[expose] public section

noncomputable section

namespace Cert.Proof.LnLoss

open Idealize.ShloMosaic Idealize.ShloMosaic.TcCoe Idealize.SL.Sem
open Cert.LnLossIdeal

theorem frame_kernel : Cert.quiescent_LnLoss := fun m ρ _ => Cert.LnLoss.Gen.frame (F := Bits) m ρ

theorem frame_ideal : Cert.quiescent_LnLossIdeal := fun m ρ _ => Gen.frame (F := Ideal) m ρ

theorem frame_ref_ideal : Cert.quiescent_LnLossRefIdeal := fun m ρ _ =>
  (θ_run Cert.LnLossRefIdeal.defs _ _).mono (fun r h => ⟨fun c => (h c).2.2, sem_eq_zero_of_no_sems (by decide) r.2⟩)
    (Cert.LnLossRefIdeal.Value.run (F := Ideal) m ρ)

theorem algebraic : Cert.algebraic_LnLossIdeal_LnLossRefIdeal := fun m ρ m' ρ' _ hm =>
  ⟨_, _, Value.run_blocks (F := Ideal) m ρ,
    (θ_run Cert.LnLossRefIdeal.defs _ _).mono (fun r h c => by
      obtain ⟨hx, hy, hg, hb⟩ := hm c
      obtain ⟨h0, h1, hk⟩ := h c
      rw [hx, hy, hg, hb] at h0 h1
      exact ⟨h0.trans (eq_array m c _ fun R C => congrArg (fun e => Ideal.div (e - _) _) (Norm.hostNormed_apply _ _ _ _ _ _ _ _ _ R C)),
        h1.trans (eq_sums m c _ fun C => (hostSums_apply _ _ _ _ C).trans (Finset.sum_congr rfl fun R _ =>
          congrArg (fun e => (e - _) * (e - _)) (Norm.hostNormed_apply _ _ _ _ _ _ _ _ _ R C))), hk⟩)
      (Cert.LnLossRefIdeal.Value.run (F := Ideal) m' ρ')⟩

end Cert.Proof.LnLoss

end
-- ==== Proof.FfnUpValue.lean ====
/-
# The first two products of a feed-forward and their gate: the kernel's arrays and the reference's, element by element
-/
module

public import proofs.«01_k».proof.Proof.Gen.FfnUpIdeal.Value
public import proofs.«01_k».proof.Proof.Gen.FfnUpRefIdeal.Run
public import proofs.«01_k».proof.Proof.GradXValue

@[expose] public section

noncomputable section

namespace Cert.Proof.FfnUp

open Idealize.ShloMosaic Idealize.ShloMosaic.TcCoe Idealize.SL.Sem
open Cert.FfnUpIdeal Cert.FfnUpIdeal.Gen
open Cert.Proof.GradX (hz hz3 mid side_apply)

/-- A row times a column. -/
abbrev prod (x w : Fin 2048 → EReal) : EReal := ∑ d, x d * w d

/-- The gate: `g` times its sigmoid, times `u`. -/
abbrev gated (g u : EReal) : EReal := g * Ideal.logistic g * u

section Terms

variable (x : FVec Ideal S256x2048 .bf16) (w v : FVec Ideal S1x2048x1408 .bf16) (r : Fin 256) (k : Fin 1408)

theorem pay_gate_apply : k0_pay1 (F := Ideal) x w (ix2 r k) = prod (fun d => x (ix2 r d)) (fun d => w (ix3 (0 : Fin 1) d k)) := by
  pointwise [k0_pay1]

theorem pay_up_apply : k0_pay2 (F := Ideal) x w (ix2 r k) = prod (fun d => x (ix2 r d)) (fun d => w (ix3 (0 : Fin 1) d k)) := by
  pointwise [k0_pay2]

theorem pay_act_apply :
    k0_pay5 (F := Ideal) x w x v (ix2 r k) = gated (k0_pay1 (F := Ideal) x w (ix2 r k)) (k0_pay2 (F := Ideal) x v (ix2 r k)) := rfl

end Terms

section Blocks

variable {F : FTy → Type} [FloatOps F]
variable (m : (ℓ : Loc nD τ sig) → Buf (Elt F) ℓ) (c : Dev nD)

/-- Row `r` of the `i`-th 256 rows. -/
abbrev row (i : Fin 32) (r : Fin 256) : Fin 8192 := ⟨256 * i.val + r.val, by omega⟩

/-- The point of the grid that computes the rows' block `i` for the weights' block `j`. -/
abbrev pt (j : Fin 4) (i : Fin 32) : Fin cfg0.N := ⟨32 * j.val + i.val, lt_of_lt_of_eq (by omega) (show 128 = cfg0.N from N_0.symm)⟩

theorem index_rows : ∀ t : Fin cfg0.N, win0_0.index t (0 : Fin 2) = t.val % 32 ∧ win0_0.index t (1 : Fin 2) = 0 :=
  (by decide +kernel : ∀ t : Fin grid0.N, _)

theorem index_weights : ∀ t : Fin cfg0.N, win0_1.index t (0 : Fin 3) = t.val / 32 ∧ win0_1.index t (1 : Fin 3) = 0
    ∧ win0_1.index t (2 : Fin 3) = 0 ∧ win0_2.index t (0 : Fin 3) = t.val / 32 ∧ win0_2.index t (1 : Fin 3) = 0
    ∧ win0_2.index t (2 : Fin 3) = 0 :=
  (by decide +kernel : ∀ t : Fin grid0.N, _)

theorem index_out : ∀ t : Fin cfg0.N, (win0_3.index t (0 : Fin 2) = t.val % 32 ∧ win0_3.index t (1 : Fin 2) = t.val / 32)
    ∧ (win0_4.index t (0 : Fin 2) = t.val % 32 ∧ win0_4.index t (1 : Fin 2) = t.val / 32)
    ∧ (win0_5.index t (0 : Fin 2) = t.val % 32 ∧ win0_5.index t (1 : Fin 2) = t.val / 32) :=
  (by decide +kernel : ∀ t : Fin grid0.N, _)

theorem flush_out : ∀ t : Fin cfg0.N, win0_3.flush t = true ∧ win0_4.flush t = true ∧ win0_5.flush t = true :=
  (by decide +kernel : ∀ t : Fin grid0.N, _)

variable (j : Fin 4) (i : Fin 32)

theorem pt_val : (pt j i).val = 32 * j.val + i.val := rfl

theorem block_x (r : Fin 256) (d : Fin 2048) :
    (iblk m c 0 (pt j i) : Vec F S256x2048 .bf16) (ix2 r d) = m ((c : Thread nD τ).loc main_arg0) (ix2 (row i r) d) := by
  show m ((c : Thread nD τ).loc main_arg0) (((cfg0.win 0).blk (pt j i)).view.emb (ix2 r d)) = _
  refine congrArg _ (funext fun a => Fin.ext ?_)
  obtain ⟨e0, e1⟩ := index_rows (pt j i)
  rw [pt_val] at e0
  match a with
  | ⟨0, _⟩ => show win0_0.index (pt j i) (0 : Fin 2) * 256 + 1 * r.val = 256 * i.val + r.val; omega
  | ⟨1, _⟩ => show win0_0.index (pt j i) (1 : Fin 2) * 2048 + 1 * d.val = d.val; omega

theorem block_wg (d : Fin 2048) (k : Fin 1408) :
    (iblk m c 1 (pt j i) : Vec F S1x2048x1408 .bf16) (ix3 (0 : Fin 1) d k) = m ((c : Thread nD τ).loc main_arg1) (ix3 j d k) := by
  show m ((c : Thread nD τ).loc main_arg1) (((cfg0.win 1).blk (pt j i)).view.emb (ix3 (0 : Fin 1) d k)) = _
  refine congrArg _ (funext fun a => Fin.ext ?_)
  obtain ⟨e0, e1, e2, -, -, -⟩ := index_weights (pt j i)
  rw [pt_val] at e0
  match a with
  | ⟨0, _⟩ => show win0_1.index (pt j i) (0 : Fin 3) * 1 + 1 * 0 = j.val; omega
  | ⟨1, _⟩ => show win0_1.index (pt j i) (1 : Fin 3) * 2048 + 1 * d.val = d.val; omega
  | ⟨2, _⟩ => show win0_1.index (pt j i) (2 : Fin 3) * 1408 + 1 * k.val = k.val; omega

theorem block_wu (d : Fin 2048) (k : Fin 1408) :
    (iblk m c 2 (pt j i) : Vec F S1x2048x1408 .bf16) (ix3 (0 : Fin 1) d k) = m ((c : Thread nD τ).loc main_arg2) (ix3 j d k) := by
  show m ((c : Thread nD τ).loc main_arg2) (((cfg0.win 2).blk (pt j i)).view.emb (ix3 (0 : Fin 1) d k)) = _
  refine congrArg _ (funext fun a => Fin.ext ?_)
  obtain ⟨-, -, -, e0, e1, e2⟩ := index_weights (pt j i)
  rw [pt_val] at e0
  match a with
  | ⟨0, _⟩ => show win0_2.index (pt j i) (0 : Fin 3) * 1 + 1 * 0 = j.val; omega
  | ⟨1, _⟩ => show win0_2.index (pt j i) (1 : Fin 3) * 2048 + 1 * d.val = d.val; omega
  | ⟨2, _⟩ => show win0_2.index (pt j i) (2 : Fin 3) * 1408 + 1 * k.val = k.val; omega

section Outs

variable (x : Vec F S256x2048 .bf16) (w v : Vec F S1x2048x1408 .bf16)

theorem out_gate : out0_3 x w v = k0_pay3 x w := by
  unfold out0_3
  rw [View.canon_unit_zero (S := S256x1408) hz, View.ld_unit_zero (S := S256x2048) hz, View.ld_unit_zero (S := S1x2048x1408) hz3]

theorem out_up : out0_4 x w v = k0_pay4 x v := by
  unfold out0_4
  rw [View.canon_unit_zero (S := S256x1408) hz, View.ld_unit_zero (S := S256x2048) hz, View.ld_unit_zero (S := S1x2048x1408) hz3]

theorem out_act : out0_5 x w v = k0_pay5 x w x v := by
  unfold out0_5
  rw [View.canon_unit_zero (S := S256x1408) hz, View.ld_unit_zero (S := S256x2048) hz, View.ld_unit_zero (S := S1x2048x1408) hz3,
    View.ld_unit_zero (S := S1x2048x1408) hz3]

end Outs

/-- The elements of the three results in row `r` of block `i` and place `k` of block `j` are those of the blocks the point computed. -/
theorem array_gate (r : Fin 256) (k : Fin 1408) :
    (dats m 0 c).arrAt 3 cfg0.N (ix2 (row i r) (mid j k)) = k0_pay3 (iblk m c 0 (pt j i)) (iblk m c 1 (pt j i)) (ix2 r k) := by
  have h := congrFun ((Value.blocks3 m c (pt j i) (flush_out _).1).trans (Value.flushed3 m c (pt j i))) (ix2 r k)
  rw [out_gate] at h
  refine Eq.trans (congrArg _ (funext fun a => Fin.ext ?_)) h
  obtain ⟨⟨e0, e1⟩, -, -⟩ := index_out (pt j i)
  rw [pt_val] at e0 e1
  match a with
  | ⟨0, _⟩ => show 256 * i.val + r.val = win0_3.index (pt j i) (0 : Fin 2) * 256 + 1 * r.val; omega
  | ⟨1, _⟩ => show 1408 * j.val + k.val = win0_3.index (pt j i) (1 : Fin 2) * 1408 + 1 * k.val; omega

theorem array_up (r : Fin 256) (k : Fin 1408) :
    (dats m 0 c).arrAt 4 cfg0.N (ix2 (row i r) (mid j k)) = k0_pay4 (iblk m c 0 (pt j i)) (iblk m c 2 (pt j i)) (ix2 r k) := by
  have h := congrFun ((Value.blocks4 m c (pt j i) (flush_out _).2.1).trans (Value.flushed4 m c (pt j i))) (ix2 r k)
  rw [out_up] at h
  refine Eq.trans (congrArg _ (funext fun a => Fin.ext ?_)) h
  obtain ⟨-, ⟨e0, e1⟩, -⟩ := index_out (pt j i)
  rw [pt_val] at e0 e1
  match a with
  | ⟨0, _⟩ => show 256 * i.val + r.val = win0_4.index (pt j i) (0 : Fin 2) * 256 + 1 * r.val; omega
  | ⟨1, _⟩ => show 1408 * j.val + k.val = win0_4.index (pt j i) (1 : Fin 2) * 1408 + 1 * k.val; omega

theorem array_act (r : Fin 256) (k : Fin 1408) :
    (dats m 0 c).arrAt 5 cfg0.N (ix2 (row i r) (mid j k))
      = k0_pay5 (iblk m c 0 (pt j i)) (iblk m c 1 (pt j i)) (iblk m c 0 (pt j i)) (iblk m c 2 (pt j i)) (ix2 r k) := by
  have h := congrFun ((Value.blocks5 m c (pt j i) (flush_out _).2.2).trans (Value.flushed5 m c (pt j i))) (ix2 r k)
  rw [out_act] at h
  refine Eq.trans (congrArg _ (funext fun a => Fin.ext ?_)) h
  obtain ⟨-, -, e0, e1⟩ := index_out (pt j i)
  rw [pt_val] at e0 e1
  match a with
  | ⟨0, _⟩ => show 256 * i.val + r.val = win0_5.index (pt j i) (0 : Fin 2) * 256 + 1 * r.val; omega
  | ⟨1, _⟩ => show 1408 * j.val + k.val = win0_5.index (pt j i) (1 : Fin 2) * 1408 + 1 * k.val; omega

end Blocks

theorem split_row (R : Fin 8192) : ∃ i r, row i r = R :=
  ⟨⟨R.val / 256, by omega⟩, ⟨R.val % 256, by omega⟩, Fin.ext (by show 256 * (R.val / 256) + R.val % 256 = R.val; omega)⟩

theorem split_mid (C : Fin 5632) : ∃ j k, mid j k = C :=
  ⟨⟨C.val / 1408, by omega⟩, ⟨C.val % 1408, by omega⟩, Fin.ext (by show 1408 * (C.val / 1408) + C.val % 1408 = C.val; omega)⟩

/-! ## The kernel's arrays -/

variable (m : (ℓ : Loc nD τ sig) → Buf (Elt Ideal) ℓ) (c : Dev nD)

/-- Row `R` of the argument times column `k` of block `j` of the weights. -/
abbrev prodAt (X : FVec Ideal S8192x2048 .bf16) (W : FVec Ideal S4x2048x1408 .bf16) (R : Fin 8192) (j : Fin 4) (k : Fin 1408) : EReal :=
  prod (fun d => X (ix2 R d)) (fun d => W (ix3 j d k))

abbrev gate := prodAt (m ((c : Thread nD τ).loc main_arg0)) (m ((c : Thread nD τ).loc main_arg1))
abbrev up := prodAt (m ((c : Thread nD τ).loc main_arg0)) (m ((c : Thread nD τ).loc main_arg2))

theorem gate_apply (R : Fin 8192) (j : Fin 4) (k : Fin 1408) : (dats m 0 c).arrAt 3 cfg0.N (ix2 R (mid j k)) = gate m c R j k := by
  obtain ⟨i, r, rfl⟩ := split_row R
  rw [array_gate]
  refine (pay_gate_apply _ _ r k).trans ?_
  simp only [block_x, block_wg]

theorem up_apply (R : Fin 8192) (j : Fin 4) (k : Fin 1408) : (dats m 0 c).arrAt 4 cfg0.N (ix2 R (mid j k)) = up m c R j k := by
  obtain ⟨i, r, rfl⟩ := split_row R
  rw [array_up]
  refine (pay_up_apply _ _ r k).trans ?_
  simp only [block_x, block_wu]

theorem act_apply (R : Fin 8192) (j : Fin 4) (k : Fin 1408) :
    (dats m 0 c).arrAt 5 cfg0.N (ix2 R (mid j k)) = gated (gate m c R j k) (up m c R j k) := by
  obtain ⟨i, r, rfl⟩ := split_row R
  rw [array_act, pay_act_apply, pay_gate_apply, pay_up_apply]
  simp only [block_x, block_wg, block_wu]

/-- Two arrays with the same elements, by the blocks of the columns, are one. -/
theorem eq_array (f g : FVec Ideal S8192x5632 .bf16) (h : ∀ R j k, f (ix2 R (mid j k)) = g (ix2 R (mid j k))) : f = g := by
  funext i
  obtain ⟨R, C, rfl⟩ : ∃ (R : Fin 8192) (C : Fin 5632), ix2 R C = i := ⟨i 0, i 1, funext fun a => by fin_cases a <;> rfl⟩
  obtain ⟨j, k, rfl⟩ := split_mid C
  exact h R j k

/-! ## The reference's terms -/

section Reference

variable [Cert.FfnUpRefIdeal.Facts₀]

theorem dot_apply (X : FVec Ideal S8192x2048 .bf16) (W : FVec Ideal ⟨2, ![2048, 5632]⟩ .bf16) (R : Fin 8192) (C : Fin 5632) :
    Host.dotGeneral (F := Ideal) Cert.FfnUpRefIdeal.dot_S8192x2048_S2048x5632_S8192x5632_1_0_0_1_n_n none X W (ix2 R C)
      = prod (fun d => X (ix2 R d)) (fun d => W (ix2 d C)) := by
  pointwise [Cert.FfnUpRefIdeal.dot_S8192x2048_S2048x5632_S8192x5632_1_0_0_1_n_n]

variable (ht : S4x2048x1408.Transposes [1, 0, 2] ⟨3, ![2048, 4, 1408]⟩) (hs : (⟨3, ![2048, 4, 1408]⟩ : Shape).ShapeCasts ⟨2, ![2048, 5632]⟩)

/-- The reference's product. -/
abbrev hostProd (X : FVec Ideal S8192x2048 .bf16) (W : FVec Ideal S4x2048x1408 .bf16) : FVec Ideal S8192x5632 .f32 :=
  Host.dotGeneral (F := Ideal) (φ₁ := .bf16) (φ₂ := .bf16) Cert.FfnUpRefIdeal.dot_S8192x2048_S2048x5632_S8192x5632_1_0_0_1_n_n none X
    (shapeCast ⟨2, ![2048, 5632]⟩ (transpose ⟨3, ![2048, 4, 1408]⟩ [1, 0, 2] W ht) hs)

theorem hostProd_apply (X : FVec Ideal S8192x2048 .bf16) (W : FVec Ideal S4x2048x1408 .bf16) (R : Fin 8192) (j : Fin 4) (k : Fin 1408) :
    hostProd ht hs X W (ix2 R (mid j k)) = prodAt X W R j k :=
  (dot_apply _ _ R (mid j k)).trans (Finset.sum_congr rfl fun d _ => congrArg (_ * ·) (side_apply W ht hs d j k))

theorem one_eq : Ideal.ofBits .f32 0x3F800000#32 = 1 := by
  simp [Ideal.ofBits, Ideal.ieee, -EReal.coe_mul]; norm_num

/-- The reference's sigmoid, spelt out, and its gate. -/
theorem hostGated_apply (b : (⟨0, ![]⟩ : Shape).BroadcastsInDim S8192x5632 ![]) (g u : FVec Ideal S8192x5632 .f32) (R : Fin 8192) (C : Fin 5632) :
    mulf (mulf g (Host.divf (broadcastInDim S8192x5632 ![] b (constant (F := Ideal) ⟨0, ![]⟩ .f32 0x3F800000#32))
        (addf (broadcastInDim S8192x5632 ![] b (constant (F := Ideal) ⟨0, ![]⟩ .f32 0x3F800000#32)) (Host.exp (Host.negf g))))) u (ix2 R C)
      = gated (g (ix2 R C)) (u (ix2 R C)) := by
  have h : Ideal.logistic (g (ix2 R C)) = Ideal.div (Ideal.ofBits .f32 0x3F800000#32)
      (Ideal.ofBits .f32 0x3F800000#32 + Ideal.exp (-g (ix2 R C))) := by
    rw [one_eq]; rfl
  unfold gated
  rw [h]
  rfl

end Reference

end Cert.Proof.FfnUp

end
-- ==== Proof.FfnUpClaims.lean ====
/-
# The claims on the first two products of a feed-forward and their gate

The kernel computes 256 rows at a point of its grid, for one chip's block of the weights; the reference lays the four chips'
blocks side by side and multiplies the whole arrays. The kernel's sigmoid is one operation, the reference's is spelt out:
over the extended reals the two are one.
-/
module

public import proofs.«01_k».proof.Defs
public import proofs.«01_k».proof.Proof.Gen.FfnUp.Frame
public import proofs.«01_k».proof.Proof.FfnUpValue
public import Idealize.ShloMosaic.Lib.Quiescent

@[expose] public section

noncomputable section

namespace Cert.Proof.FfnUp

open Idealize.ShloMosaic Idealize.ShloMosaic.TcCoe Idealize.SL.Sem
open Cert.FfnUpIdeal
open Cert.Proof.GradX (mid)

theorem frame_kernel : Cert.quiescent_FfnUp := fun m ρ _ => Cert.FfnUp.Gen.frame (F := Bits) m ρ

theorem frame_ideal : Cert.quiescent_FfnUpIdeal := fun m ρ _ => Gen.frame (F := Ideal) m ρ

theorem frame_ref_ideal : Cert.quiescent_FfnUpRefIdeal := fun m ρ _ =>
  (θ_run Cert.FfnUpRefIdeal.defs _ _).mono (fun r h => ⟨fun c => (h c).2.2.2, sem_eq_zero_of_no_sems (by decide) r.2⟩)
    (Cert.FfnUpRefIdeal.Value.run (F := Ideal) m ρ)

theorem algebraic : Cert.algebraic_FfnUpIdeal_FfnUpRefIdeal := fun m ρ m' ρ' _ hm =>
  ⟨_, _, _, Value.run_blocks (F := Ideal) m ρ,
    (θ_run Cert.FfnUpRefIdeal.defs _ _).mono (fun r h c => by
      obtain ⟨hx, hg, hu⟩ := hm c
      obtain ⟨h0, h1, h2, hk⟩ := h c
      rw [hx, hg] at h0
      rw [hx, hu] at h1
      rw [hx, hg, hu] at h2
      refine ⟨h0.trans (eq_array _ _ fun R j k => ?_), h1.trans (eq_array _ _ fun R j k => ?_),
        h2.trans (eq_array _ _ fun R j k => ?_), hk⟩
      · exact (hostProd_apply _ _ _ _ R j k).trans (gate_apply m c R j k).symm
      · exact (hostProd_apply _ _ _ _ R j k).trans (up_apply m c R j k).symm
      · exact ((hostGated_apply _ _ _ R (mid j k)).trans
          (congrArg₂ gated (hostProd_apply _ _ _ _ R j k) (hostProd_apply _ _ _ _ R j k))).trans (act_apply m c R j k).symm)
      (Cert.FfnUpRefIdeal.Value.run (F := Ideal) m' ρ')⟩

end Cert.Proof.FfnUp

end
-- ==== Proof.FfnDownValue.lean ====
/-
# The second product of a feed-forward: the kernel's array and the reference's, element by element
-/
module

public import proofs.«01_k».proof.Proof.Gen.FfnDownIdeal.Value
public import proofs.«01_k».proof.Proof.Gen.FfnDownRefIdeal.Run
public import Idealize.ShloMosaic.Lib.Pointwise
public import Idealize.ShloMosaic.Lib.Pipeline.Value
public import Idealize.ShloMosaic.Lib.Tactic

@[expose] public section

noncomputable section

namespace Cert.Proof.FfnDown

open Idealize.ShloMosaic Idealize.ShloMosaic.TcCoe Idealize.SL.Sem
open Cert.FfnDownIdeal Cert.FfnDownIdeal.Gen

theorem hz : (![0, 0] : Fin 2 → Nat) = fun _ => 0 := funext fun a => by fin_cases a <;> rfl

/-- The residual scaled, and half of a row times a column. -/
abbrev blend (x : EReal) (a w : Fin 5632 → EReal) : EReal :=
  Ideal.ofBits .f32 0x3F9837F0#32 * x + Ideal.ofBits .f32 0x3F000000#32 * ∑ k, a k * w k

theorem pay_apply (a : FVec Ideal S1024x5632 .bf16) (w : FVec Ideal S5632x512 .bf16) (x : FVec Ideal S1024x512 .f32)
    (r : Fin 1024) (q : Fin 512) :
    k0_pay1 (F := Ideal) a w x (ix2 r q) = blend (x (ix2 r q)) (fun k => a (ix2 r k)) (fun k => w (ix2 k q)) := by
  pointwise [k0_pay1]

section Blocks

variable {F : FTy → Type} [FloatOps F]
variable (m : (ℓ : Loc nD τ sig) → Buf (Elt F) ℓ) (c : Dev nD)

/-- Row `r` of the `p`-th 1024 rows, and column `q` of the `s`-th 512 columns. -/
abbrev row (p : Fin 8) (r : Fin 1024) : Fin 8192 := ⟨1024 * p.val + r.val, by omega⟩
abbrev col (s : Fin 4) (q : Fin 512) : Fin 2048 := ⟨512 * s.val + q.val, by omega⟩

/-- The point of the grid that computes block `(p, s)`. -/
abbrev pt (p : Fin 8) (s : Fin 4) : Fin cfg0.N := ⟨4 * p.val + s.val, lt_of_lt_of_eq (by omega) (show 32 = cfg0.N from N_0.symm)⟩

theorem index_in : ∀ t : Fin cfg0.N, win0_0.index t (0 : Fin 2) = t.val / 4 ∧ win0_0.index t (1 : Fin 2) = 0
    ∧ win0_1.index t (0 : Fin 2) = 0 ∧ win0_1.index t (1 : Fin 2) = t.val % 4 :=
  (by decide +kernel : ∀ t : Fin grid0.N, _)

theorem index_tile : ∀ t : Fin cfg0.N, win0_2.index t (0 : Fin 2) = t.val / 4 ∧ win0_2.index t (1 : Fin 2) = t.val % 4
    ∧ win0_3.index t (0 : Fin 2) = t.val / 4 ∧ win0_3.index t (1 : Fin 2) = t.val % 4 :=
  (by decide +kernel : ∀ t : Fin grid0.N, _)

theorem flush_out : ∀ t : Fin cfg0.N, win0_3.flush t = true := (by decide +kernel : ∀ t : Fin grid0.N, _)

variable (p : Fin 8) (s : Fin 4)

theorem pt_val : (pt p s).val = 4 * p.val + s.val := rfl

theorem block_a (r : Fin 1024) (k : Fin 5632) :
    (iblk m c 0 (pt p s) : Vec F S1024x5632 .bf16) (ix2 r k) = m ((c : Thread nD τ).loc main_arg0) (ix2 (row p r) k) := by
  show m ((c : Thread nD τ).loc main_arg0) (((cfg0.win 0).blk (pt p s)).view.emb (ix2 r k)) = _
  refine congrArg _ (funext fun a => Fin.ext ?_)
  obtain ⟨e0, e1, -, -⟩ := index_in (pt p s)
  rw [pt_val] at e0
  match a with
  | ⟨0, _⟩ => show win0_0.index (pt p s) (0 : Fin 2) * 1024 + 1 * r.val = 1024 * p.val + r.val; omega
  | ⟨1, _⟩ => show win0_0.index (pt p s) (1 : Fin 2) * 5632 + 1 * k.val = k.val; omega

theorem block_w (k : Fin 5632) (q : Fin 512) :
    (iblk m c 1 (pt p s) : Vec F S5632x512 .bf16) (ix2 k q) = m ((c : Thread nD τ).loc main_arg2) (ix2 k (col s q)) := by
  show m ((c : Thread nD τ).loc main_arg2) (((cfg0.win 1).blk (pt p s)).view.emb (ix2 k q)) = _
  refine congrArg _ (funext fun a => Fin.ext ?_)
  obtain ⟨-, -, e0, e1⟩ := index_in (pt p s)
  rw [pt_val] at e1
  match a with
  | ⟨0, _⟩ => show win0_1.index (pt p s) (0 : Fin 2) * 5632 + 1 * k.val = k.val; omega
  | ⟨1, _⟩ => show win0_1.index (pt p s) (1 : Fin 2) * 512 + 1 * q.val = 512 * s.val + q.val; omega

theorem block_x (r : Fin 1024) (q : Fin 512) :
    (iblk m c 2 (pt p s) : Vec F S1024x512 .f32) (ix2 r q) = m ((c : Thread nD τ).loc main_arg1) (ix2 (row p r) (col s q)) := by
  show m ((c : Thread nD τ).loc main_arg1) (((cfg0.win 2).blk (pt p s)).view.emb (ix2 r q)) = _
  refine congrArg _ (funext fun a => Fin.ext ?_)
  obtain ⟨e0, e1, -, -⟩ := index_tile (pt p s)
  rw [pt_val] at e0 e1
  match a with
  | ⟨0, _⟩ => show win0_2.index (pt p s) (0 : Fin 2) * 1024 + 1 * r.val = 1024 * p.val + r.val; omega
  | ⟨1, _⟩ => show win0_2.index (pt p s) (1 : Fin 2) * 512 + 1 * q.val = 512 * s.val + q.val; omega

theorem out_block (a : Vec F S1024x5632 .bf16) (w : Vec F S5632x512 .bf16) (x : Vec F S1024x512 .f32) :
    out0_3 a w x = k0_pay1 a w x := by
  unfold out0_3
  rw [View.canon_unit_zero (S := S1024x512) hz, View.ld_unit_zero (S := S1024x5632) hz, View.ld_unit_zero (S := S5632x512) hz,
    View.ld_unit_zero (S := S1024x512) hz]

/-- The element of the result in row `r` and column `q` of block `(p, s)` is that of the block the point computed. -/
theorem array_block (r : Fin 1024) (q : Fin 512) :
    (dats m 0 c).arrAt 3 cfg0.N (ix2 (row p r) (col s q))
      = k0_pay1 (iblk m c 0 (pt p s)) (iblk m c 1 (pt p s)) (iblk m c 2 (pt p s)) (ix2 r q) := by
  have h := congrFun ((Value.blocks3 m c (pt p s) (flush_out _)).trans (Value.flushed3 m c (pt p s))) (ix2 r q)
  rw [out_block] at h
  refine Eq.trans (congrArg _ (funext fun a => Fin.ext ?_)) h
  obtain ⟨-, -, e0, e1⟩ := index_tile (pt p s)
  rw [pt_val] at e0 e1
  match a with
  | ⟨0, _⟩ => show 1024 * p.val + r.val = win0_3.index (pt p s) (0 : Fin 2) * 1024 + 1 * r.val; omega
  | ⟨1, _⟩ => show 512 * s.val + q.val = win0_3.index (pt p s) (1 : Fin 2) * 512 + 1 * q.val; omega

end Blocks

theorem split_row (i : Fin 8192) : ∃ p r, row p r = i :=
  ⟨⟨i.val / 1024, by omega⟩, ⟨i.val % 1024, by omega⟩, Fin.ext (by show 1024 * (i.val / 1024) + i.val % 1024 = i.val; omega)⟩

theorem split_col (i : Fin 2048) : ∃ s q, col s q = i :=
  ⟨⟨i.val / 512, by omega⟩, ⟨i.val % 512, by omega⟩, Fin.ext (by show 512 * (i.val / 512) + i.val % 512 = i.val; omega)⟩

variable (m : (ℓ : Loc nD τ sig) → Buf (Elt Ideal) ℓ) (c : Dev nD)

/-- The result at a row and a column, over the arguments. -/
abbrev spec (R : Fin 8192) (C : Fin 2048) : EReal :=
  blend (m ((c : Thread nD τ).loc main_arg1) (ix2 R C)) (fun k => m ((c : Thread nD τ).loc main_arg0) (ix2 R k))
    (fun k => m ((c : Thread nD τ).loc main_arg2) (ix2 k C))

theorem array_apply (R : Fin 8192) (C : Fin 2048) : (dats m 0 c).arrAt 3 cfg0.N (ix2 R C) = spec m c R C := by
  obtain ⟨p, r, rfl⟩ := split_row R
  obtain ⟨s, q, rfl⟩ := split_col C
  rw [array_block, pay_apply]
  simp only [block_a, block_w, block_x]

/-- An array with these elements is the kernel's. -/
theorem eq_array (f : FVec Ideal S8192x2048 .f32) (hf : ∀ R C, f (ix2 R C) = spec m c R C) : f = (dats m 0 c).arrAt 3 cfg0.N := by
  funext i
  obtain ⟨R, C, rfl⟩ : ∃ (R : Fin 8192) (C : Fin 2048), ix2 R C = i := ⟨i 0, i 1, funext fun a => by fin_cases a <;> rfl⟩
  exact (hf R C).trans (array_apply m c R C).symm

/-- The reference's term at a row and a column. -/
theorem term_apply [Cert.FfnDownRefIdeal.Facts₀] (a : FVec Ideal S8192x5632 .bf16) (x : FVec Ideal S8192x2048 .f32)
    (w : FVec Ideal S5632x2048 .bf16) {b₁ b₂ : (⟨0, ![]⟩ : Shape).BroadcastsInDim S8192x2048 ![]} (R : Fin 8192) (C : Fin 2048) :
    addf (mulf (broadcastInDim S8192x2048 ![] b₁ (constant (F := Ideal) ⟨0, ![]⟩ .f32 0x3F9837F0#32)) x)
        (mulf (broadcastInDim S8192x2048 ![] b₂ (constant (F := Ideal) ⟨0, ![]⟩ .f32 0x3F000000#32))
          (Host.dotGeneral (F := Ideal) (φ₁ := .bf16) (φ₂ := .bf16) Cert.FfnDownRefIdeal.dot_S8192x5632_S5632x2048_S8192x2048_1_0_0_1_n_n none a w)) (ix2 R C)
      = blend (x (ix2 R C)) (fun k => a (ix2 R k)) (fun k => w (ix2 k C)) := by
  pointwise [Cert.FfnDownRefIdeal.dot_S8192x5632_S5632x2048_S8192x2048_1_0_0_1_n_n]

end Cert.Proof.FfnDown

end
-- ==== Proof.FfnDownClaims.lean ====
/-
# The claims on the second product of a feed-forward

The kernel computes a block of 1024 rows and 512 columns at a point of its grid, over the whole shared axis, and adds the
scaled residual's block to half of it; the reference does so over the whole arrays.
-/
module

public import proofs.«01_k».proof.Defs
public import proofs.«01_k».proof.Proof.Gen.FfnDown.Frame
public import proofs.«01_k».proof.Proof.FfnDownValue
public import Idealize.ShloMosaic.Lib.Quiescent

@[expose] public section

noncomputable section

namespace Cert.Proof.FfnDown

open Idealize.ShloMosaic Idealize.ShloMosaic.TcCoe Idealize.SL.Sem
open Cert.FfnDownIdeal

theorem frame_kernel : Cert.quiescent_FfnDown := fun m ρ _ => Cert.FfnDown.Gen.frame (F := Bits) m ρ

theorem frame_ideal : Cert.quiescent_FfnDownIdeal := fun m ρ _ => Gen.frame (F := Ideal) m ρ

theorem frame_ref_ideal : Cert.quiescent_FfnDownRefIdeal := fun m ρ _ =>
  (θ_run Cert.FfnDownRefIdeal.defs _ _).mono (fun r h => ⟨fun c => (h c).2, sem_eq_zero_of_no_sems (by decide) r.2⟩)
    (Cert.FfnDownRefIdeal.Value.run (F := Ideal) m ρ)

theorem algebraic : Cert.algebraic_FfnDownIdeal_FfnDownRefIdeal := fun m ρ m' ρ' _ hm =>
  ⟨_, Value.run_blocks (F := Ideal) m ρ,
    (θ_run Cert.FfnDownRefIdeal.defs _ _).mono (fun r h c => by
      obtain ⟨ha, hx, hw⟩ := hm c
      obtain ⟨hv, hk⟩ := h c
      rw [ha, hx, hw] at hv
      exact ⟨hv.trans (eq_array m c _ fun R C => term_apply _ _ _ R C), hk⟩) (Cert.FfnDownRefIdeal.Value.run (F := Ideal) m' ρ')⟩

end Cert.Proof.FfnDown

end
-- ==== Proof.MixInValue.lean ====
/-
# The product before the mixing: the kernel's array and the reference's, element by element
-/
module

public import proofs.«01_k».proof.Proof.Gen.MixInIdeal.Value
public import proofs.«01_k».proof.Proof.Gen.MixInRefIdeal.Run
public import Idealize.ShloMosaic.Lib.Pointwise
public import Idealize.ShloMosaic.Lib.Pipeline.Value
public import Idealize.ShloMosaic.Lib.Tactic

@[expose] public section

noncomputable section

namespace Cert.Proof.MixIn

open Idealize.ShloMosaic Idealize.ShloMosaic.TcCoe Idealize.SL.Sem
open Cert.MixInIdeal Cert.MixInIdeal.Gen

theorem hz : (![0, 0] : Fin 2 → Nat) = fun _ => 0 := funext fun a => by fin_cases a <;> rfl
theorem hz3 : (![0, 0, 0] : Fin 3 → Nat) = fun _ => 0 := funext fun a => by fin_cases a <;> rfl

/-- A row times a column, and the column's bias. -/
abbrev affine (x w : Fin 2048 → EReal) (b : EReal) : EReal := ∑ d, x d * w d + b

theorem pay_apply (x : FVec Ideal S512x2048 .bf16) (w : FVec Ideal S1x2048x1280 .bf16) (b : FVec Ideal S1x1280 .f32)
    (r : Fin 512) (k : Fin 1280) :
    k0_pay1 (F := Ideal) x w b (ix2 r k)
      = affine (fun d => x (ix2 r d)) (fun d => w (ix3 (0 : Fin 1) d k)) (b (ix2 (0 : Fin 1) k)) := by
  pointwise [k0_pay1]

section Blocks

variable {F : FTy → Type} [FloatOps F]
variable (m : (ℓ : Loc nD τ sig) → Buf (Elt F) ℓ) (c : Dev nD)

/-- Row `r` of the `i`-th 512 rows, and place `k` of the `j`-th 1280 columns. -/
abbrev row (i : Fin 16) (r : Fin 512) : Fin 8192 := ⟨512 * i.val + r.val, by omega⟩
abbrev col (j : Fin 4) (k : Fin 1280) : Fin 5120 := ⟨1280 * j.val + k.val, by omega⟩

/-- The point of the grid that computes the rows' block `i` for the weight's block `j`. -/
abbrev pt (j : Fin 4) (i : Fin 16) : Fin cfg0.N := ⟨16 * j.val + i.val, lt_of_lt_of_eq (by omega) (show 64 = cfg0.N from N_0.symm)⟩

theorem index_in : ∀ t : Fin cfg0.N, win0_0.index t (0 : Fin 2) = t.val % 16 ∧ win0_0.index t (1 : Fin 2) = 0
    ∧ win0_1.index t (0 : Fin 3) = t.val / 16 ∧ win0_1.index t (1 : Fin 3) = 0 ∧ win0_1.index t (2 : Fin 3) = 0 :=
  (by decide +kernel : ∀ t : Fin grid0.N, _)

theorem index_cols : ∀ t : Fin cfg0.N, win0_2.index t (0 : Fin 2) = 0 ∧ win0_2.index t (1 : Fin 2) = t.val / 16
    ∧ win0_3.index t (0 : Fin 2) = t.val % 16 ∧ win0_3.index t (1 : Fin 2) = t.val / 16 :=
  (by decide +kernel : ∀ t : Fin grid0.N, _)

theorem flush_out : ∀ t : Fin cfg0.N, win0_3.flush t = true := (by decide +kernel : ∀ t : Fin grid0.N, _)

variable (j : Fin 4) (i : Fin 16)

theorem pt_val : (pt j i).val = 16 * j.val + i.val := rfl

theorem block_x (r : Fin 512) (d : Fin 2048) :
    (iblk m c 0 (pt j i) : Vec F S512x2048 .bf16) (ix2 r d) = m ((c : Thread nD τ).loc main_arg0) (ix2 (row i r) d) := by
  show m ((c : Thread nD τ).loc main_arg0) (((cfg0.win 0).blk (pt j i)).view.emb (ix2 r d)) = _
  refine congrArg _ (funext fun a => Fin.ext ?_)
  obtain ⟨e0, e1, -, -, -⟩ := index_in (pt j i)
  rw [pt_val] at e0
  match a with
  | ⟨0, _⟩ => show win0_0.index (pt j i) (0 : Fin 2) * 512 + 1 * r.val = 512 * i.val + r.val; omega
  | ⟨1, _⟩ => show win0_0.index (pt j i) (1 : Fin 2) * 2048 + 1 * d.val = d.val; omega

theorem block_w (d : Fin 2048) (k : Fin 1280) :
    (iblk m c 1 (pt j i) : Vec F S1x2048x1280 .bf16) (ix3 (0 : Fin 1) d k) = m ((c : Thread nD τ).loc main_arg1) (ix3 j d k) := by
  show m ((c : Thread nD τ).loc main_arg1) (((cfg0.win 1).blk (pt j i)).view.emb (ix3 (0 : Fin 1) d k)) = _
  refine congrArg _ (funext fun a => Fin.ext ?_)
  obtain ⟨-, -, e0, e1, e2⟩ := index_in (pt j i)
  rw [pt_val] at e0
  match a with
  | ⟨0, _⟩ => show win0_1.index (pt j i) (0 : Fin 3) * 1 + 1 * 0 = j.val; omega
  | ⟨1, _⟩ => show win0_1.index (pt j i) (1 : Fin 3) * 2048 + 1 * d.val = d.val; omega
  | ⟨2, _⟩ => show win0_1.index (pt j i) (2 : Fin 3) * 1280 + 1 * k.val = k.val; omega

theorem block_b (k : Fin 1280) :
    (iblk m c 2 (pt j i) : Vec F S1x1280 .f32) (ix2 (0 : Fin 1) k) = m ((c : Thread nD τ).loc main_arg2) (ix2 (0 : Fin 1) (col j k)) := by
  show m ((c : Thread nD τ).loc main_arg2) (((cfg0.win 2).blk (pt j i)).view.emb (ix2 (0 : Fin 1) k)) = _
  refine congrArg _ (funext fun a => Fin.ext ?_)
  obtain ⟨e0, e1, -, -⟩ := index_cols (pt j i)
  rw [pt_val] at e1
  match a with
  | ⟨0, _⟩ => show win0_2.index (pt j i) (0 : Fin 2) * 1 + 1 * 0 = 0; omega
  | ⟨1, _⟩ => show win0_2.index (pt j i) (1 : Fin 2) * 1280 + 1 * k.val = 1280 * j.val + k.val; omega

theorem out_block (x : Vec F S512x2048 .bf16) (w : Vec F S1x2048x1280 .bf16) (b : Vec F S1x1280 .f32) :
    out0_3 x w b = k0_pay1 x w b := by
  unfold out0_3
  rw [View.canon_unit_zero (S := S512x1280) hz, View.ld_unit_zero (S := S512x2048) hz, View.ld_unit_zero (S := S1x2048x1280) hz3,
    View.ld_unit_zero (S := S1x1280) hz]

/-- The element of the result in row `r` of block `i` and place `k` of block `j` is that of the block the point computed. -/
theorem array_block (r : Fin 512) (k : Fin 1280) :
    (dats m 0 c).arrAt 3 cfg0.N (ix2 (row i r) (col j k))
      = k0_pay1 (iblk m c 0 (pt j i)) (iblk m c 1 (pt j i)) (iblk m c 2 (pt j i)) (ix2 r k) := by
  have h := congrFun ((Value.blocks3 m c (pt j i) (flush_out _)).trans (Value.flushed3 m c (pt j i))) (ix2 r k)
  rw [out_block] at h
  refine Eq.trans (congrArg _ (funext fun a => Fin.ext ?_)) h
  obtain ⟨-, -, e0, e1⟩ := index_cols (pt j i)
  rw [pt_val] at e0 e1
  match a with
  | ⟨0, _⟩ => show 512 * i.val + r.val = win0_3.index (pt j i) (0 : Fin 2) * 512 + 1 * r.val; omega
  | ⟨1, _⟩ => show 1280 * j.val + k.val = win0_3.index (pt j i) (1 : Fin 2) * 1280 + 1 * k.val; omega

end Blocks

theorem split_row (R : Fin 8192) : ∃ i r, row i r = R :=
  ⟨⟨R.val / 512, by omega⟩, ⟨R.val % 512, by omega⟩, Fin.ext (by show 512 * (R.val / 512) + R.val % 512 = R.val; omega)⟩

theorem split_col (C : Fin 5120) : ∃ j k, col j k = C :=
  ⟨⟨C.val / 1280, by omega⟩, ⟨C.val % 1280, by omega⟩, Fin.ext (by show 1280 * (C.val / 1280) + C.val % 1280 = C.val; omega)⟩

variable (m : (ℓ : Loc nD τ sig) → Buf (Elt Ideal) ℓ) (c : Dev nD)

/-- The result in row `R` and place `k` of block `j` of the columns, over the arguments. -/
abbrev spec (R : Fin 8192) (j : Fin 4) (k : Fin 1280) : EReal :=
  affine (fun d => m ((c : Thread nD τ).loc main_arg0) (ix2 R d)) (fun d => m ((c : Thread nD τ).loc main_arg1) (ix3 j d k))
    (m ((c : Thread nD τ).loc main_arg2) (ix2 (0 : Fin 1) (col j k)))

theorem array_apply (R : Fin 8192) (j : Fin 4) (k : Fin 1280) : (dats m 0 c).arrAt 3 cfg0.N (ix2 R (col j k)) = spec m c R j k := by
  obtain ⟨i, r, rfl⟩ := split_row R
  rw [array_block, pay_apply]
  simp only [block_x, block_w, block_b]

/-- An array with these elements is the kernel's. -/
theorem eq_array (f : FVec Ideal S8192x5120 .f32) (hf : ∀ R j k, f (ix2 R (col j k)) = spec m c R j k) :
    f = (dats m 0 c).arrAt 3 cfg0.N := by
  funext i
  obtain ⟨R, C, rfl⟩ : ∃ (R : Fin 8192) (C : Fin 5120), ix2 R C = i := ⟨i 0, i 1, funext fun a => by fin_cases a <;> rfl⟩
  obtain ⟨j, k, rfl⟩ := split_col C
  exact (hf R j k).trans (array_apply m c R j k).symm

/-! ## The reference's term -/

section Reference

variable [Cert.MixInRefIdeal.Facts₀]

theorem affine_apply (X : FVec Ideal S8192x2048 .bf16) (W : FVec Ideal ⟨2, ![2048, 5120]⟩ .bf16) (B : FVec Ideal S1x5120 .f32)
    (hb : S1x5120.BroadcastsInDim S8192x5120 ![0, 1]) (R : Fin 8192) (C : Fin 5120) :
    addf (Host.dotGeneral (F := Ideal) (φ₁ := .bf16) (φ₂ := .bf16) Cert.MixInRefIdeal.dot_S8192x2048_S2048x5120_S8192x5120_1_0_0_1_n_n none X W)
        (broadcastInDim S8192x5120 ![0, 1] hb B) (ix2 R C)
      = affine (fun d => X (ix2 R d)) (fun d => W (ix2 d C)) (B (ix2 (0 : Fin 1) C)) := by
  pointwise [Cert.MixInRefIdeal.dot_S8192x2048_S2048x5120_S8192x5120_1_0_0_1_n_n]

/-- The weights laid side by side, read at row `d` and place `k` of block `j`. -/
theorem side_apply (W : FVec Ideal S4x2048x1280 .bf16) (ht : S4x2048x1280.Transposes [1, 0, 2] ⟨3, ![2048, 4, 1280]⟩)
    (hs : (⟨3, ![2048, 4, 1280]⟩ : Shape).ShapeCasts ⟨2, ![2048, 5120]⟩) (d : Fin 2048) (j : Fin 4) (k : Fin 1280) :
    shapeCast ⟨2, ![2048, 5120]⟩ (transpose ⟨3, ![2048, 4, 1280]⟩ [1, 0, 2] W ht) hs (ix2 d (col j k)) = W (ix3 j d k) := by
  refine (shapeCast_apply _ hs _ (ix3 d j k) ?_).trans ?_
  · rw [Shape.rowMajor_val_three, Shape.rowMajor_val_two]
    show (d.val * 4 + j.val) * 1280 + k.val = d.val * 5120 + (1280 * j.val + k.val)
    omega
  · pointwise

theorem term_apply (X : FVec Ideal S8192x2048 .bf16) (W : FVec Ideal S4x2048x1280 .bf16) (B : FVec Ideal S1x5120 .f32)
    (ht : S4x2048x1280.Transposes [1, 0, 2] ⟨3, ![2048, 4, 1280]⟩) (hs : (⟨3, ![2048, 4, 1280]⟩ : Shape).ShapeCasts ⟨2, ![2048, 5120]⟩)
    (hb : S1x5120.BroadcastsInDim S8192x5120 ![0, 1]) (R : Fin 8192) (j : Fin 4) (k : Fin 1280) :
    addf (Host.dotGeneral (F := Ideal) (φ₁ := .bf16) (φ₂ := .bf16) Cert.MixInRefIdeal.dot_S8192x2048_S2048x5120_S8192x5120_1_0_0_1_n_n none X
        (shapeCast ⟨2, ![2048, 5120]⟩ (transpose ⟨3, ![2048, 4, 1280]⟩ [1, 0, 2] W ht) hs)) (broadcastInDim S8192x5120 ![0, 1] hb B) (ix2 R (col j k))
      = affine (fun d => X (ix2 R d)) (fun d => W (ix3 j d k)) (B (ix2 (0 : Fin 1) (col j k))) :=
  (affine_apply X _ B hb R (col j k)).trans
    (congrArg (· + _) (Finset.sum_congr rfl fun d _ => congrArg (_ * ·) (side_apply W ht hs d j k)))

end Reference

end Cert.Proof.MixIn

end
-- ==== Proof.MixInClaims.lean ====
/-
# The claims on the product before the mixing

The kernel computes 512 rows at a point of its grid, for one chip's block of the weight; the reference lays the four chips'
blocks side by side and multiplies the whole arrays. Both add the bias.
-/
module

public import proofs.«01_k».proof.Defs
public import proofs.«01_k».proof.Proof.Gen.MixIn.Frame
public import proofs.«01_k».proof.Proof.MixInValue
public import Idealize.ShloMosaic.Lib.Quiescent

@[expose] public section

noncomputable section

namespace Cert.Proof.MixIn

open Idealize.ShloMosaic Idealize.ShloMosaic.TcCoe Idealize.SL.Sem
open Cert.MixInIdeal

theorem frame_kernel : Cert.quiescent_MixIn := fun m ρ _ => Cert.MixIn.Gen.frame (F := Bits) m ρ

theorem frame_ideal : Cert.quiescent_MixInIdeal := fun m ρ _ => Gen.frame (F := Ideal) m ρ

theorem frame_ref_ideal : Cert.quiescent_MixInRefIdeal := fun m ρ _ =>
  (θ_run Cert.MixInRefIdeal.defs _ _).mono (fun r h => ⟨fun c => (h c).2, sem_eq_zero_of_no_sems (by decide) r.2⟩)
    (Cert.MixInRefIdeal.Value.run (F := Ideal) m ρ)

theorem algebraic : Cert.algebraic_MixInIdeal_MixInRefIdeal := fun m ρ m' ρ' _ hm =>
  ⟨_, Value.run_blocks (F := Ideal) m ρ,
    (θ_run Cert.MixInRefIdeal.defs _ _).mono (fun r h c => by
      obtain ⟨hx, hw, hb⟩ := hm c
      obtain ⟨hv, hk⟩ := h c
      rw [hx, hw, hb] at hv
      exact ⟨hv.trans (eq_array m c _ fun R j k => term_apply _ _ _ _ _ _ R j k), hk⟩) (Cert.MixInRefIdeal.Value.run (F := Ideal) m' ρ')⟩

end Cert.Proof.MixIn

end
-- ==== Proof.MixOutValue.lean ====
/-
# The product after the mixing: the kernel's array and the reference's, element by element
-/
module

public import proofs.«01_k».proof.Proof.Gen.MixOutIdeal.Value
public import proofs.«01_k».proof.Proof.Gen.MixOutRefIdeal.Run
public import Idealize.ShloMosaic.Lib.Pointwise
public import Idealize.ShloMosaic.Lib.Pipeline.Value
public import Idealize.ShloMosaic.Lib.Tactic

@[expose] public section

noncomputable section

namespace Cert.Proof.MixOut

open Idealize.ShloMosaic Idealize.ShloMosaic.TcCoe Idealize.SL.Sem
open Cert.MixOutIdeal Cert.MixOutIdeal.Gen

theorem hz : (![0, 0] : Fin 2 → Nat) = fun _ => 0 := funext fun a => by fin_cases a <;> rfl

/-- The residual scaled, and a row times a column with the column's bias. -/
abbrev mixed (x b : EReal) (y w : Fin 2048 → EReal) : EReal := Ideal.ofBits .f32 0x3F9837F0#32 * x + (∑ k, y k * w k + b)

theorem pay_apply (y : FVec Ideal S1024x2048 .bf16) (w : FVec Ideal S2048x1024 .bf16) (x : FVec Ideal S1024x1024 .f32)
    (b : FVec Ideal S1x1024 .f32) (r q : Fin 1024) :
    k0_pay1 (F := Ideal) y w x b (ix2 r q)
      = mixed (x (ix2 r q)) (b (ix2 (0 : Fin 1) q)) (fun k => y (ix2 r k)) (fun k => w (ix2 k q)) := by
  refine Eq.trans ?_ (add_comm _ _)
  pointwise [k0_pay1]

section Blocks

variable {F : FTy → Type} [FloatOps F]
variable (m : (ℓ : Loc nD τ sig) → Buf (Elt F) ℓ) (c : Dev nD)

/-- Row `r` of the `p`-th 1024 rows, and column `q` of the `s`-th 1024 columns. -/
abbrev row (p : Fin 8) (r : Fin 1024) : Fin 8192 := ⟨1024 * p.val + r.val, by omega⟩
abbrev col (s : Fin 2) (q : Fin 1024) : Fin 2048 := ⟨1024 * s.val + q.val, by omega⟩

/-- The point of the grid that computes block `(p, s)`. -/
abbrev pt (p : Fin 8) (s : Fin 2) : Fin cfg0.N := ⟨2 * p.val + s.val, lt_of_lt_of_eq (by omega) (show 16 = cfg0.N from N_0.symm)⟩

theorem index_in : ∀ t : Fin cfg0.N, win0_0.index t (0 : Fin 2) = t.val / 2 ∧ win0_0.index t (1 : Fin 2) = 0
    ∧ win0_1.index t (0 : Fin 2) = 0 ∧ win0_1.index t (1 : Fin 2) = t.val % 2 :=
  (by decide +kernel : ∀ t : Fin grid0.N, _)

theorem index_tile : ∀ t : Fin cfg0.N, win0_2.index t (0 : Fin 2) = t.val / 2 ∧ win0_2.index t (1 : Fin 2) = t.val % 2
    ∧ win0_3.index t (0 : Fin 2) = 0 ∧ win0_3.index t (1 : Fin 2) = t.val % 2
    ∧ win0_4.index t (0 : Fin 2) = t.val / 2 ∧ win0_4.index t (1 : Fin 2) = t.val % 2 :=
  (by decide +kernel : ∀ t : Fin grid0.N, _)

theorem flush_out : ∀ t : Fin cfg0.N, win0_4.flush t = true := (by decide +kernel : ∀ t : Fin grid0.N, _)

variable (p : Fin 8) (s : Fin 2)

theorem pt_val : (pt p s).val = 2 * p.val + s.val := rfl

theorem block_y (r : Fin 1024) (k : Fin 2048) :
    (iblk m c 0 (pt p s) : Vec F S1024x2048 .bf16) (ix2 r k) = m ((c : Thread nD τ).loc main_arg0) (ix2 (row p r) k) := by
  show m ((c : Thread nD τ).loc main_arg0) (((cfg0.win 0).blk (pt p s)).view.emb (ix2 r k)) = _
  refine congrArg _ (funext fun a => Fin.ext ?_)
  obtain ⟨e0, e1, -, -⟩ := index_in (pt p s)
  rw [pt_val] at e0
  match a with
  | ⟨0, _⟩ => show win0_0.index (pt p s) (0 : Fin 2) * 1024 + 1 * r.val = 1024 * p.val + r.val; omega
  | ⟨1, _⟩ => show win0_0.index (pt p s) (1 : Fin 2) * 2048 + 1 * k.val = k.val; omega

theorem block_w (k : Fin 2048) (q : Fin 1024) :
    (iblk m c 1 (pt p s) : Vec F S2048x1024 .bf16) (ix2 k q) = m ((c : Thread nD τ).loc main_arg2) (ix2 k (col s q)) := by
  show m ((c : Thread nD τ).loc main_arg2) (((cfg0.win 1).blk (pt p s)).view.emb (ix2 k q)) = _
  refine congrArg _ (funext fun a => Fin.ext ?_)
  obtain ⟨-, -, e0, e1⟩ := index_in (pt p s)
  rw [pt_val] at e1
  match a with
  | ⟨0, _⟩ => show win0_1.index (pt p s) (0 : Fin 2) * 2048 + 1 * k.val = k.val; omega
  | ⟨1, _⟩ => show win0_1.index (pt p s) (1 : Fin 2) * 1024 + 1 * q.val = 1024 * s.val + q.val; omega

theorem block_x (r q : Fin 1024) :
    (iblk m c 2 (pt p s) : Vec F S1024x1024 .f32) (ix2 r q) = m ((c : Thread nD τ).loc main_arg1) (ix2 (row p r) (col s q)) := by
  show m ((c : Thread nD τ).loc main_arg1) (((cfg0.win 2).blk (pt p s)).view.emb (ix2 r q)) = _
  refine congrArg _ (funext fun a => Fin.ext ?_)
  obtain ⟨e0, e1, -, -, -, -⟩ := index_tile (pt p s)
  rw [pt_val] at e0 e1
  match a with
  | ⟨0, _⟩ => show win0_2.index (pt p s) (0 : Fin 2) * 1024 + 1 * r.val = 1024 * p.val + r.val; omega
  | ⟨1, _⟩ => show win0_2.index (pt p s) (1 : Fin 2) * 1024 + 1 * q.val = 1024 * s.val + q.val; omega

theorem block_b (q : Fin 1024) :
    (iblk m c 3 (pt p s) : Vec F S1x1024 .f32) (ix2 (0 : Fin 1) q) = m ((c : Thread nD τ).loc main_arg3) (ix2 (0 : Fin 1) (col s q)) := by
  show m ((c : Thread nD τ).loc main_arg3) (((cfg0.win 3).blk (pt p s)).view.emb (ix2 (0 : Fin 1) q)) = _
  refine congrArg _ (funext fun a => Fin.ext ?_)
  obtain ⟨-, -, e0, e1, -, -⟩ := index_tile (pt p s)
  rw [pt_val] at e1
  match a with
  | ⟨0, _⟩ => show win0_3.index (pt p s) (0 : Fin 2) * 1 + 1 * 0 = 0; omega
  | ⟨1, _⟩ => show win0_3.index (pt p s) (1 : Fin 2) * 1024 + 1 * q.val = 1024 * s.val + q.val; omega

theorem out_block (y : Vec F S1024x2048 .bf16) (w : Vec F S2048x1024 .bf16) (x : Vec F S1024x1024 .f32) (b : Vec F S1x1024 .f32) :
    out0_4 y w x b = k0_pay1 y w x b := by
  unfold out0_4
  rw [View.canon_unit_zero (S := S1024x1024) hz, View.ld_unit_zero (S := S1024x2048) hz, View.ld_unit_zero (S := S2048x1024) hz,
    View.ld_unit_zero (S := S1024x1024) hz, View.ld_unit_zero (S := S1x1024) hz]

/-- The element of the result in row `r` and column `q` of block `(p, s)` is that of the block the point computed. -/
theorem array_block (r q : Fin 1024) :
    (dats m 0 c).arrAt 4 cfg0.N (ix2 (row p r) (col s q))
      = k0_pay1 (iblk m c 0 (pt p s)) (iblk m c 1 (pt p s)) (iblk m c 2 (pt p s)) (iblk m c 3 (pt p s)) (ix2 r q) := by
  have h := congrFun ((Value.blocks4 m c (pt p s) (flush_out _)).trans (Value.flushed4 m c (pt p s))) (ix2 r q)
  rw [out_block] at h
  refine Eq.trans (congrArg _ (funext fun a => Fin.ext ?_)) h
  obtain ⟨-, -, -, -, e0, e1⟩ := index_tile (pt p s)
  rw [pt_val] at e0 e1
  match a with
  | ⟨0, _⟩ => show 1024 * p.val + r.val = win0_4.index (pt p s) (0 : Fin 2) * 1024 + 1 * r.val; omega
  | ⟨1, _⟩ => show 1024 * s.val + q.val = win0_4.index (pt p s) (1 : Fin 2) * 1024 + 1 * q.val; omega

end Blocks

theorem split_row (i : Fin 8192) : ∃ p r, row p r = i :=
  ⟨⟨i.val / 1024, by omega⟩, ⟨i.val % 1024, by omega⟩, Fin.ext (by show 1024 * (i.val / 1024) + i.val % 1024 = i.val; omega)⟩

theorem split_col (i : Fin 2048) : ∃ s q, col s q = i :=
  ⟨⟨i.val / 1024, by omega⟩, ⟨i.val % 1024, by omega⟩, Fin.ext (by show 1024 * (i.val / 1024) + i.val % 1024 = i.val; omega)⟩

variable (m : (ℓ : Loc nD τ sig) → Buf (Elt Ideal) ℓ) (c : Dev nD)

/-- The result at a row and a column, over the arguments. -/
abbrev spec (R : Fin 8192) (C : Fin 2048) : EReal :=
  mixed (m ((c : Thread nD τ).loc main_arg1) (ix2 R C)) (m ((c : Thread nD τ).loc main_arg3) (ix2 (0 : Fin 1) C))
    (fun k => m ((c : Thread nD τ).loc main_arg0) (ix2 R k)) (fun k => m ((c : Thread nD τ).loc main_arg2) (ix2 k C))

theorem array_apply (R : Fin 8192) (C : Fin 2048) : (dats m 0 c).arrAt 4 cfg0.N (ix2 R C) = spec m c R C := by
  obtain ⟨p, r, rfl⟩ := split_row R
  obtain ⟨s, q, rfl⟩ := split_col C
  rw [array_block, pay_apply]
  simp only [block_y, block_w, block_x, block_b]

/-- An array with these elements is the kernel's. -/
theorem eq_array (f : FVec Ideal S8192x2048 .f32) (hf : ∀ R C, f (ix2 R C) = spec m c R C) : f = (dats m 0 c).arrAt 4 cfg0.N := by
  funext i
  obtain ⟨R, C, rfl⟩ : ∃ (R : Fin 8192) (C : Fin 2048), ix2 R C = i := ⟨i 0, i 1, funext fun a => by fin_cases a <;> rfl⟩
  exact (hf R C).trans (array_apply m c R C).symm

/-- The reference's term at a row and a column. -/
theorem term_apply [Cert.MixOutRefIdeal.Facts₀] (y : FVec Ideal S8192x2048 .bf16) (x : FVec Ideal S8192x2048 .f32)
    (w : FVec Ideal S2048x2048 .bf16) (b : FVec Ideal S1x2048 .f32) {hs : (⟨0, ![]⟩ : Shape).BroadcastsInDim S8192x2048 ![]}
    {hb : S1x2048.BroadcastsInDim S8192x2048 ![0, 1]} (R : Fin 8192) (C : Fin 2048) :
    addf (mulf (broadcastInDim S8192x2048 ![] hs (constant (F := Ideal) ⟨0, ![]⟩ .f32 0x3F9837F0#32)) x)
        (addf (Host.dotGeneral (F := Ideal) (φ₁ := .bf16) (φ₂ := .bf16) Cert.MixOutRefIdeal.dot_S8192x2048_S2048x2048_S8192x2048_1_0_0_1_n_n none y w)
          (broadcastInDim S8192x2048 ![0, 1] hb b)) (ix2 R C)
      = mixed (x (ix2 R C)) (b (ix2 (0 : Fin 1) C)) (fun k => y (ix2 R k)) (fun k => w (ix2 k C)) := by
  pointwise [Cert.MixOutRefIdeal.dot_S8192x2048_S2048x2048_S8192x2048_1_0_0_1_n_n]

end Cert.Proof.MixOut

end
-- ==== Proof.MixOutClaims.lean ====
/-
# The claims on the product after the mixing

The kernel computes a block of 1024 rows and 1024 columns at a point of its grid, over the whole shared axis, and adds the
bias and then the scaled residual; the reference adds the product with its bias to the scaled residual.
-/
module

public import proofs.«01_k».proof.Defs
public import proofs.«01_k».proof.Proof.Gen.MixOut.Frame
public import proofs.«01_k».proof.Proof.MixOutValue
public import Idealize.ShloMosaic.Lib.Quiescent

@[expose] public section

noncomputable section

namespace Cert.Proof.MixOut

open Idealize.ShloMosaic Idealize.ShloMosaic.TcCoe Idealize.SL.Sem
open Cert.MixOutIdeal

theorem frame_kernel : Cert.quiescent_MixOut := fun m ρ _ => Cert.MixOut.Gen.frame (F := Bits) m ρ

theorem frame_ideal : Cert.quiescent_MixOutIdeal := fun m ρ _ => Gen.frame (F := Ideal) m ρ

theorem frame_ref_ideal : Cert.quiescent_MixOutRefIdeal := fun m ρ _ =>
  (θ_run Cert.MixOutRefIdeal.defs _ _).mono (fun r h => ⟨fun c => (h c).2, sem_eq_zero_of_no_sems (by decide) r.2⟩)
    (Cert.MixOutRefIdeal.Value.run (F := Ideal) m ρ)

theorem algebraic : Cert.algebraic_MixOutIdeal_MixOutRefIdeal := fun m ρ m' ρ' _ hm =>
  ⟨_, Value.run_blocks (F := Ideal) m ρ,
    (θ_run Cert.MixOutRefIdeal.defs _ _).mono (fun r h c => by
      obtain ⟨hy, hx, hw, hb⟩ := hm c
      obtain ⟨hv, hk⟩ := h c
      rw [hy, hx, hw, hb] at hv
      exact ⟨hv.trans (eq_array m c _ fun R C => term_apply _ _ _ _ R C), hk⟩) (Cert.MixOutRefIdeal.Value.run (F := Ideal) m' ρ')⟩

end Cert.Proof.MixOut

end
-- ==== Proof.GradDownSteps.lean ====
/-
# The gradient of a down weight, point by point: what a point of the grid leaves in the accumulator and in the output's block
-/
module

public import proofs.«01_k».proof.Proof.Gen.GradDownIdeal.Value
public import proofs.«01_k».proof.Proof.GradXSteps

@[expose] public section

noncomputable section

namespace Cert.Proof.GradDown

open Idealize.ShloMosaic Idealize.ShloMosaic.TcCoe Idealize.SL.Sem
open Cert.GradDownIdeal Cert.GradDownIdeal.Gen
open Cert.Proof.GradX (hz readCov_last)

variable {F : FTy → Type} [FloatOps F]

section Cases

variable (c : Dev nD) (i : grid0.Coords)
  (a3 : Memref sig .tc .vmem S1024x1408 .bf16) (h3 : a3.IsWhole) (a4 : Memref sig .tc .vmem S1024x1024 .bf16) (h4 : a4.IsWhole)
  (a5 : Memref sig .tc .vmem S1408x1024 .bf16) (h5 : a5.IsWhole) (a6 : Memref sig .tc .vmem S1408x1024 .f32) (h6 : a6.IsWhole)
  (x : Vec F S1024x1408 .bf16) (y : Vec F S1024x1024 .bf16) (acc : Vec F S1408x1024 .f32)

/-- The first point of a run starts from zeros. -/
theorem scratch_first (hc : cond0_0 i) (hd : ¬cond0_1 i) :
    sout0_A_0 c i a3 h3 a4 h4 a5 h5 a6 h6 hc hd x y = k0_pay2 k0_pay1 x y := by
  unfold sout0_A_0
  rw [View.read_writes_eq_canon _ _ _ (scover0_A_0 c i a3 h3 a4 h4 a5 h5 a6 h6 hc hd x y)]
  unfold kernelRun0_A
  dsimp only
  sl_unfold_words
  rw [View.canon_cons_unit_zero (S := S1408x1024) hz]
  simp only [readCov_last (S := S1408x1024) _ hz, View.readCov_unit_zero (S := S1408x1024) _ hz, View.readAt_eq_ld, h3.read_unread,
    h4.read_unread, View.ld_unit_zero (S := S1024x1408) hz, View.ld_unit_zero (S := S1024x1024) hz]

/-- A point inside a run goes on from what the point before left. -/
theorem scratch_next (hc : ¬cond0_0 i) (hd : ¬cond0_1 i) :
    sout0_B_0 c i a3 h3 a4 h4 a5 h5 a6 h6 hc hd x y acc = k0_pay2 acc x y := by
  unfold sout0_B_0
  rw [View.read_writes_eq_canon _ _ _ (scover0_B_0 c i a3 h3 a4 h4 a5 h5 a6 h6 hc hd x y acc)]
  unfold kernelRun0_B
  dsimp only
  sl_unfold_words
  rw [View.canon_unit_zero (S := S1408x1024) hz]
  simp only [View.readCov_unit_zero (S := S1408x1024) _ hz, View.readAt_eq_ld, h3.read_unread, h4.read_unread, h6.read_unread,
    View.ld_unit_zero (S := S1408x1024) hz, View.ld_unit_zero (S := S1024x1408) hz, View.ld_unit_zero (S := S1024x1024) hz]

/-- The last point of a run leaves the accumulator, rounded, in the output's block. -/
theorem block_last (hc : ¬cond0_0 i) (hd : cond0_1 i) :
    out0_C_2 c i a3 h3 a4 h4 a5 h5 a6 h6 hc hd x y acc = k0_pay3 (k0_pay2 acc x y) := by
  unfold out0_C_2
  rw [View.read_writes_eq_canon _ _ _ (cover0_C_2 c i a3 h3 a4 h4 a5 h5 a6 h6 hc hd x y acc)]
  unfold kernelRun0_C
  dsimp only
  sl_unfold_words
  rw [View.canon_unit_zero (S := S1408x1024) hz]
  simp only [View.readCov_unit_zero (S := S1408x1024) _ hz, View.readAt_eq_ld, h3.read_unread, h4.read_unread, h6.read_unread,
    View.ld_unit_zero (S := S1408x1024) hz, View.ld_unit_zero (S := S1024x1408) hz, View.ld_unit_zero (S := S1024x1024) hz]

end Cases

variable (m : (ℓ : Loc nD τ sig) → Buf (Elt F) ℓ) (c : Dev nD)

theorem scratch_at_first (t : Fin cfg0.N) (h : t.val % 8 = 0) :
    (outsAt0 m c t.val t.isLt).2 = k0_pay2 k0_pay1 (iblk m c 0 t) (iblk m c 1 t) := by
  rw [outsAt0_A m c t h (by omega)]
  dsimp only
  rw [scratch_first]

theorem scratch_at_next (t : Fin cfg0.N) (h : ¬t.val % 8 = 0) (h' : ¬t.val % 8 = 7) :
    (outsAt0 m c t.val t.isLt).2
      = k0_pay2 (outsAt0 m c (t.val - 1) (Nat.lt_of_le_of_lt (Nat.sub_le _ _) t.isLt)).2 (iblk m c 0 t) (iblk m c 1 t) := by
  rw [outsAt0_B m c t h h']
  dsimp only
  rw [scratch_next]

theorem block_at_last (t : Fin cfg0.N) (h : t.val % 8 = 7) :
    (outsAt0 m c t.val t.isLt).1
      = k0_pay3 (k0_pay2 (outsAt0 m c (t.val - 1) (Nat.lt_of_le_of_lt (Nat.sub_le _ _) t.isLt)).2 (iblk m c 0 t) (iblk m c 1 t)) := by
  rw [outsAt0_C m c t (by omega) h]
  dsimp only
  rw [block_last]

end Cert.Proof.GradDown

end
-- ==== Proof.GradDownValue.lean ====
/-
# The gradient of a down weight: the kernel's array and the reference's, element by element
-/
module

public import proofs.«01_k».proof.Proof.GradDownSteps
public import proofs.«01_k».proof.Proof.Gen.GradDownRefIdeal.Run

@[expose] public section

noncomputable section

namespace Cert.Proof.GradDown

open Idealize.ShloMosaic Idealize.ShloMosaic.TcCoe Idealize.SL.Sem
open Cert.GradDownIdeal Cert.GradDownIdeal.Gen

theorem step_apply (acc : FVec Ideal S1408x1024 .f32) (x : FVec Ideal S1024x1408 .bf16) (y : FVec Ideal S1024x1024 .bf16)
    (r : Fin 1408) (q : Fin 1024) :
    k0_pay2 (F := Ideal) acc x y (ix2 r q) = acc (ix2 r q) + ∑ k : Fin 1024, x (ix2 k r) * y (ix2 k q) := by
  pointwise [k0_pay2]

theorem zeros_apply (r : Fin 1408) (q : Fin 1024) : k0_pay1 (F := Ideal) (ix2 r q) = 0 := by
  pointwise [k0_pay1]

/-! ## The blocks of a point -/

section Blocks

variable {F : FTy → Type} [FloatOps F]
variable (m : (ℓ : Loc nD τ sig) → Buf (Elt F) ℓ) (c : Dev nD)

/-- Row `r` of the `p`-th 1408 rows, column `q` of the `s`-th 1024 columns, and token `k` of the `j`-th 1024 tokens. -/
abbrev row (p : Fin 4) (r : Fin 1408) : Fin 5632 := ⟨1408 * p.val + r.val, by omega⟩
abbrev col (s : Fin 2) (q : Fin 1024) : Fin 2048 := ⟨1024 * s.val + q.val, by omega⟩
abbrev tok (j : Fin 8) (k : Fin 1024) : Fin 8192 := ⟨1024 * j.val + k.val, by omega⟩

/-- Point `j` of the run that computes block `(p, s)`. -/
abbrev pt (p : Fin 4) (s : Fin 2) (j : Fin 8) : Fin cfg0.N :=
  ⟨8 * (2 * p.val + s.val) + j.val, lt_of_lt_of_eq (by omega) (show 64 = cfg0.N from N_0.symm)⟩

theorem index_in : ∀ t : Fin cfg0.N, win0_0.index t (0 : Fin 2) = t.val % 8 ∧ win0_0.index t (1 : Fin 2) = t.val / 16
    ∧ win0_1.index t (0 : Fin 2) = t.val % 8 ∧ win0_1.index t (1 : Fin 2) = t.val / 8 % 2 :=
  (by decide +kernel : ∀ t : Fin grid0.N, _)

variable (p : Fin 4) (s : Fin 2) (j : Fin 8)

theorem pt_val : (pt p s j).val = 8 * (2 * p.val + s.val) + j.val := rfl

theorem block_x (k : Fin 1024) (r : Fin 1408) :
    (iblk m c 0 (pt p s j) : Vec F S1024x1408 .bf16) (ix2 k r) = m ((c : Thread nD τ).loc main_arg0) (ix2 (tok j k) (row p r)) := by
  show m ((c : Thread nD τ).loc main_arg0) (((cfg0.win 0).blk (pt p s j)).view.emb (ix2 k r)) = _
  refine congrArg _ (funext fun a => Fin.ext ?_)
  obtain ⟨e0, e1, -, -⟩ := index_in (pt p s j)
  rw [pt_val] at e0 e1
  match a with
  | ⟨0, _⟩ => show win0_0.index (pt p s j) (0 : Fin 2) * 1024 + 1 * k.val = 1024 * j.val + k.val; omega
  | ⟨1, _⟩ => show win0_0.index (pt p s j) (1 : Fin 2) * 1408 + 1 * r.val = 1408 * p.val + r.val; omega

theorem block_y (k q : Fin 1024) :
    (iblk m c 1 (pt p s j) : Vec F S1024x1024 .bf16) (ix2 k q) = m ((c : Thread nD τ).loc main_arg1) (ix2 (tok j k) (col s q)) := by
  show m ((c : Thread nD τ).loc main_arg1) (((cfg0.win 1).blk (pt p s j)).view.emb (ix2 k q)) = _
  refine congrArg _ (funext fun a => Fin.ext ?_)
  obtain ⟨-, -, e0, e1⟩ := index_in (pt p s j)
  rw [pt_val] at e0 e1
  match a with
  | ⟨0, _⟩ => show win0_1.index (pt p s j) (0 : Fin 2) * 1024 + 1 * k.val = 1024 * j.val + k.val; omega
  | ⟨1, _⟩ => show win0_1.index (pt p s j) (1 : Fin 2) * 1024 + 1 * q.val = 1024 * s.val + q.val; omega

end Blocks

/-! ## The kernel's array -/

/-- What the `j`-th 1024 tokens give to the element in row `R` and column `C`. -/
def part (X : FVec Ideal S8192x5632 .bf16) (Y : FVec Ideal S8192x2048 .bf16) (R : Fin 5632) (C : Fin 2048) (j : Fin 8) : EReal :=
  ∑ k : Fin 1024, X (ix2 (tok j k) R) * Y (ix2 (tok j k) C)

variable (m : (ℓ : Loc nD τ sig) → Buf (Elt Ideal) ℓ) (c : Dev nD)

abbrev partAt := part (m ((c : Thread nD τ).loc main_arg0)) (m ((c : Thread nD τ).loc main_arg1))

theorem step_at (p : Fin 4) (s : Fin 2) (j : Fin 8) (acc : FVec Ideal S1408x1024 .f32) (r : Fin 1408) (q : Fin 1024) :
    k0_pay2 (F := Ideal) acc (iblk m c 0 (pt p s j)) (iblk m c 1 (pt p s j)) (ix2 r q)
      = acc (ix2 r q) + partAt m c (row p r) (col s q) j := by
  rw [step_apply]
  simp only [block_x, block_y]
  rfl

/-- The accumulator after point `j` of a run, before the last: the parts up to `j`. -/
theorem scratch_apply (p : Fin 4) (s : Fin 2) (r : Fin 1408) (q : Fin 1024) : ∀ (j : ℕ) (h : j < 7),
    (outsAt0 m c (pt p s ⟨j, by omega⟩).val (pt p s ⟨j, by omega⟩).isLt).2 (ix2 r q)
      = ∑ i : Fin (j + 1), partAt m c (row p r) (col s q) ⟨i.val, by omega⟩
  | 0, h => by
    rw [scratch_at_first m c (pt p s ⟨0, by omega⟩) (by show (8 * (2 * p.val + s.val) + 0) % 8 = 0; omega), step_at, zeros_apply, zero_add]
    rw [Fin.sum_univ_one]
    rfl
  | j + 1, h => by
    rw [scratch_at_next m c (pt p s ⟨j + 1, by omega⟩) (by show ¬(8 * (2 * p.val + s.val) + (j + 1)) % 8 = 0; omega)
      (by show ¬(8 * (2 * p.val + s.val) + (j + 1)) % 8 = 7; omega), step_at, Fin.sum_univ_castSucc]
    exact congrArg (· + partAt m c (row p r) (col s q) ⟨j + 1, by omega⟩) (scratch_apply p s r q j (by omega))

theorem block_apply (p : Fin 4) (s : Fin 2) (r : Fin 1408) (q : Fin 1024) :
    (outsAt0 m c (pt p s 7).val (pt p s 7).isLt).1 (ix2 r q) = ∑ j : Fin 8, partAt m c (row p r) (col s q) j := by
  rw [block_at_last m c (pt p s 7) (by show (8 * (2 * p.val + s.val) + 7) % 8 = 7; omega)]
  refine (step_at m c p s 7 _ r q).trans ?_
  rw [Fin.sum_univ_castSucc]
  exact congrArg (· + partAt m c (row p r) (col s q) 7) (scratch_apply m c p s r q 6 (by omega))

theorem split_row (i : Fin 5632) : ∃ p r, row p r = i :=
  ⟨⟨i.val / 1408, by omega⟩, ⟨i.val % 1408, by omega⟩, Fin.ext (by show 1408 * (i.val / 1408) + i.val % 1408 = i.val; omega)⟩

theorem split_col (i : Fin 2048) : ∃ s q, col s q = i :=
  ⟨⟨i.val / 1024, by omega⟩, ⟨i.val % 1024, by omega⟩, Fin.ext (by show 1024 * (i.val / 1024) + i.val % 1024 = i.val; omega)⟩

theorem array_apply (R : Fin 5632) (C : Fin 2048) : Value.G2 m c (ix2 R C) = ∑ j : Fin 8, partAt m c R C j := by
  obtain ⟨p, r, rfl⟩ := split_row R
  obtain ⟨s, q, rfl⟩ := split_col C
  have hp : Value.pt2Of (ix2 (row p r) (col s q)) = (pt p s 7).val := by
    show 8 * (2 * ((1408 * p.val + r.val) / 1408 - 0) + 1 * ((1024 * s.val + q.val) / 1024 - 0)) + 7 = 8 * (2 * p.val + s.val) + 7
    omega
  have hl : Value.loc2Of (ix2 (row p r) (col s q)) = ix2 r q := by
    funext a; apply Fin.ext
    match a with
    | ⟨0, _⟩ => show (1408 * p.val + r.val) % 1408 = r.val; omega
    | ⟨1, _⟩ => show (1024 * s.val + q.val) % 1024 = q.val; omega
  rw [← block_apply, Value.outsAt0_sweep]
  unfold Value.G2
  rw [dif_pos (by rw [hp]; exact (pt p s 7).isLt), hl, Value.fold0_congr m c _ _ _ _ hp]

/-- An array with these elements is the kernel's. -/
theorem eq_array (f : FVec Ideal S5632x2048 .bf16) (hf : ∀ R C, f (ix2 R C) = ∑ j : Fin 8, partAt m c R C j) : f = Value.G2 m c := by
  funext i
  obtain ⟨R, C, rfl⟩ : ∃ (R : Fin 5632) (C : Fin 2048), ix2 R C = i := ⟨i 0, i 1, funext fun a => by fin_cases a <;> rfl⟩
  exact (hf R C).trans (array_apply m c R C).symm

/-! ## The reference's array -/

theorem sum_tok (f : Fin 8192 → EReal) : ∑ K : Fin 8192, f K = ∑ j : Fin 8, ∑ k : Fin 1024, f (tok j k) := by
  rw [← Fintype.sum_prod_type', ← (finProdFinEquiv (m := 8) (n := 1024)).sum_comp]
  refine Finset.sum_congr rfl fun x _ => congrArg f (Fin.ext ?_)
  show x.2.val + 1024 * x.1.val = 1024 * x.1.val + x.2.val
  omega

theorem dot_apply [Cert.GradDownRefIdeal.Facts₀] (X : FVec Ideal S8192x5632 .bf16) (Y : FVec Ideal S8192x2048 .bf16)
    (ht : S8192x5632.Transposes [1, 0] ⟨2, ![5632, 8192]⟩) (R : Fin 5632) (C : Fin 2048) :
    Host.dotGeneral (F := Ideal) (φ₁ := .bf16) (φ₂ := .bf16) Cert.GradDownRefIdeal.dot_S5632x8192_S8192x2048_S5632x2048_1_0_0_1_n_n none
        (transpose ⟨2, ![5632, 8192]⟩ [1, 0] X ht) Y (ix2 R C)
      = ∑ K : Fin 8192, X (ix2 K R) * Y (ix2 K C) := by
  pointwise [Cert.GradDownRefIdeal.dot_S5632x8192_S8192x2048_S5632x2048_1_0_0_1_n_n]

/-- The reference's term in row `R` and column `C`, by the blocks of the tokens. -/
theorem term_apply [Cert.GradDownRefIdeal.Facts₀] (X : FVec Ideal S8192x5632 .bf16) (Y : FVec Ideal S8192x2048 .bf16)
    (ht : S8192x5632.Transposes [1, 0] ⟨2, ![5632, 8192]⟩) (R : Fin 5632) (C : Fin 2048) :
    Host.dotGeneral (F := Ideal) (φ₁ := .bf16) (φ₂ := .bf16) Cert.GradDownRefIdeal.dot_S5632x8192_S8192x2048_S5632x2048_1_0_0_1_n_n none
        (transpose ⟨2, ![5632, 8192]⟩ [1, 0] X ht) Y (ix2 R C)
      = ∑ j : Fin 8, part X Y R C j :=
  (dot_apply X Y ht R C).trans (sum_tok _)

end Cert.Proof.GradDown

end
-- ==== Proof.GradDownClaims.lean ====
/-
# The claims on the gradient of a down weight

The kernel adds the products of eight blocks of 1024 tokens in a scratch buffer, one at each of eight points, and rounds at
the last; the reference multiplies the transposed array by the other. Over the extended reals the sums are the same.
-/
module

public import proofs.«01_k».proof.Defs
public import proofs.«01_k».proof.Proof.Gen.GradDown.Frame
public import proofs.«01_k».proof.Proof.GradDownValue
public import Idealize.ShloMosaic.Lib.Quiescent

@[expose] public section

noncomputable section

namespace Cert.Proof.GradDown

open Idealize.ShloMosaic Idealize.ShloMosaic.TcCoe Idealize.SL.Sem
open Cert.GradDownIdeal

theorem frame_kernel : Cert.quiescent_GradDown := fun m ρ _ => Cert.GradDown.Gen.frame (F := Bits) m ρ

theorem frame_ideal : Cert.quiescent_GradDownIdeal := fun m ρ _ => Gen.frame (F := Ideal) m ρ

theorem frame_ref_ideal : Cert.quiescent_GradDownRefIdeal := fun m ρ _ =>
  (θ_run Cert.GradDownRefIdeal.defs _ _).mono (fun r h => ⟨fun c => (h c).2, sem_eq_zero_of_no_sems (by decide) r.2⟩)
    (Cert.GradDownRefIdeal.Value.run (F := Ideal) m ρ)

theorem algebraic : Cert.algebraic_GradDownIdeal_GradDownRefIdeal := fun m ρ m' ρ' _ hm =>
  ⟨_, Value.run (F := Ideal) m ρ,
    (θ_run Cert.GradDownRefIdeal.defs _ _).mono (fun r h c => by
      obtain ⟨h0, h1⟩ := hm c
      obtain ⟨hv, hk⟩ := h c
      rw [h0, h1] at hv
      exact ⟨hv.trans (eq_array m c _ fun R C => term_apply _ _ _ R C), hk⟩) (Cert.GradDownRefIdeal.Value.run (F := Ideal) m' ρ')⟩

end Cert.Proof.GradDown
-- ==== Proof.GradColsSteps.lean ====
/-
# The gradient of a gate or up weight, point by point: what a point of the grid leaves in the accumulator and in the output's block
-/
module

public import proofs.«01_k».proof.Proof.Gen.GradColsIdeal.Value
public import proofs.«01_k».proof.Proof.GradXSteps

@[expose] public section

noncomputable section

namespace Cert.Proof.GradCols

open Idealize.ShloMosaic Idealize.ShloMosaic.TcCoe Idealize.SL.Sem
open Cert.GradColsIdeal Cert.GradColsIdeal.Gen
open Cert.Proof.GradX (hz hz3 readCov_last)

variable {F : FTy → Type} [FloatOps F]

section Cases

variable (c : Dev nD) (i : grid0.Coords)
  (a3 : Memref sig .tc .vmem S1024x1024 .bf16) (h3 : a3.IsWhole) (a4 : Memref sig .tc .vmem S1024x1408 .bf16) (h4 : a4.IsWhole)
  (a5 : Memref sig .tc .vmem S1x1024x1408 .bf16) (h5 : a5.IsWhole) (a6 : Memref sig .tc .vmem S1024x1408 .f32) (h6 : a6.IsWhole)
  (x : Vec F S1024x1024 .bf16) (y : Vec F S1024x1408 .bf16) (acc : Vec F S1024x1408 .f32)

/-- The first of eight points puts the product of its blocks on zeros. -/
theorem acc_first (hc : cond0_0 i) (hd : ¬cond0_1 i) :
    sout0_A_0 c i a3 h3 a4 h4 a5 h5 a6 h6 hc hd x y = k0_pay2 k0_pay1 x y := by
  unfold sout0_A_0
  rw [View.read_writes_eq_canon _ _ _ (scover0_A_0 c i a3 h3 a4 h4 a5 h5 a6 h6 hc hd x y)]
  unfold kernelRun0_A
  dsimp only
  sl_unfold_words
  rw [View.canon_cons_unit_zero (S := S1024x1408) hz]
  simp only [readCov_last (S := S1024x1408) _ hz, View.readCov_unit_zero (S := S1024x1408) _ hz, View.readAt_eq_ld, h3.read_unread,
    h4.read_unread, View.ld_unit_zero (S := S1024x1024) hz, View.ld_unit_zero (S := S1024x1408) hz]

/-- A later point adds the product of its blocks to what it finds. -/
theorem acc_next (hc : ¬cond0_0 i) (hd : ¬cond0_1 i) :
    sout0_B_0 c i a3 h3 a4 h4 a5 h5 a6 h6 hc hd x y acc = k0_pay2 acc x y := by
  unfold sout0_B_0
  rw [View.read_writes_eq_canon _ _ _ (scover0_B_0 c i a3 h3 a4 h4 a5 h5 a6 h6 hc hd x y acc)]
  unfold kernelRun0_B
  dsimp only
  sl_unfold_words
  rw [View.canon_unit_zero (S := S1024x1408) hz]
  simp only [View.readCov_unit_zero (S := S1024x1408) _ hz, View.readAt_eq_ld, h3.read_unread, h4.read_unread, h6.read_unread,
    View.ld_unit_zero (S := S1024x1024) hz, View.ld_unit_zero (S := S1024x1408) hz]

/-- The eighth point stores the whole sum, rounded, as the chip's block. -/
theorem out_last (hc : ¬cond0_0 i) (hd : cond0_1 i) :
    out0_C_2 c i a3 h3 a4 h4 a5 h5 a6 h6 hc hd x y acc = k0_pay3 (k0_pay2 acc x y) := by
  unfold out0_C_2
  rw [View.read_writes_eq_canon _ _ _ (cover0_C_2 c i a3 h3 a4 h4 a5 h5 a6 h6 hc hd x y acc)]
  unfold kernelRun0_C
  dsimp only
  sl_unfold_words
  rw [View.canon_unit_zero (S := S1x1024x1408) hz3]
  simp only [View.readCov_unit_zero (S := S1024x1408) _ hz, View.readAt_eq_ld, h3.read_unread, h4.read_unread, h6.read_unread,
    View.ld_unit_zero (S := S1024x1024) hz, View.ld_unit_zero (S := S1024x1408) hz]

end Cases

variable (m : (ℓ : Loc nD τ sig) → Buf (Elt F) ℓ) (c : Dev nD) (t : Fin cfg0.N)

/-- What the point before `t` left in the accumulator. -/
abbrev before : Vec F S1024x1408 .f32 := (outsAt0 m c (t.val - 1) (Nat.lt_of_le_of_lt (Nat.sub_le _ _) t.isLt)).2

theorem acc_at_first (h : t.val % 8 = 0) : (outsAt0 m c t.val t.isLt).2 = k0_pay2 k0_pay1 (iblk m c 0 t) (iblk m c 1 t) := by
  rw [outsAt0_A m c t h (by omega)]
  dsimp only
  rw [acc_first]

theorem acc_at_next (h : ¬t.val % 8 = 0) (h' : ¬t.val % 8 = 7) :
    (outsAt0 m c t.val t.isLt).2 = k0_pay2 (before m c t) (iblk m c 0 t) (iblk m c 1 t) := by
  rw [outsAt0_B m c t h h']
  dsimp only
  rw [acc_next]

theorem out_at_last (h : t.val % 8 = 7) :
    (outsAt0 m c t.val t.isLt).1 = k0_pay3 (k0_pay2 (before m c t) (iblk m c 0 t) (iblk m c 1 t)) := by
  rw [outsAt0_C m c t (by omega) h]
  dsimp only
  rw [out_last]

end Cert.Proof.GradCols

end
-- ==== Proof.GradColsValue.lean ====
/-
# The gradient of a gate or up weight: the kernel's array and the reference's, element by element
-/
module

public import proofs.«01_k».proof.Proof.GradColsSteps
public import proofs.«01_k».proof.Proof.GradDownValue
public import proofs.«01_k».proof.Proof.Gen.GradColsRefIdeal.Run

@[expose] public section

noncomputable section

namespace Cert.Proof.GradCols

open Idealize.ShloMosaic Idealize.ShloMosaic.TcCoe Idealize.SL.Sem
open Cert.GradColsIdeal Cert.GradColsIdeal.Gen
open Cert.Proof.GradDown (tok sum_tok)

theorem step_apply (acc : FVec Ideal S1024x1408 .f32) (x : FVec Ideal S1024x1024 .bf16) (y : FVec Ideal S1024x1408 .bf16)
    (r : Fin 1024) (q : Fin 1408) :
    k0_pay2 (F := Ideal) acc x y (ix2 r q) = acc (ix2 r q) + ∑ k : Fin 1024, x (ix2 k r) * y (ix2 k q) := by
  pointwise [k0_pay2]

theorem zeros_apply (r : Fin 1024) (q : Fin 1408) : k0_pay1 (F := Ideal) (ix2 r q) = 0 := by
  pointwise [k0_pay1]

theorem rounded_apply (acc : FVec Ideal S1024x1408 .f32) (r : Fin 1024) (q : Fin 1408) :
    k0_pay3 (F := Ideal) acc (ix3 (0 : Fin 1) r q) = acc (ix2 r q) := by
  pointwise [k0_pay3]

/-! ## The blocks of a point -/

/-- Row `r` of the `p`-th 1024 rows, and column `q` of chip `s`. -/
abbrev row (p : Fin 2) (r : Fin 1024) : Fin 2048 := ⟨1024 * p.val + r.val, by omega⟩
abbrev col (s : Fin 4) (q : Fin 1408) : Fin 5632 := ⟨1408 * s.val + q.val, by omega⟩

/-- The point that adds the `j`-th tokens to the `p`-th rows of chip `s`. -/
abbrev pt (p : Fin 2) (s : Fin 4) (j : Fin 8) : Fin cfg0.N :=
  ⟨8 * (4 * p.val + s.val) + j.val, lt_of_lt_of_eq (by omega) (show 64 = cfg0.N from N_0.symm)⟩

theorem index_in : ∀ t : Fin cfg0.N, win0_0.index t (0 : Fin 2) = t.val % 8 ∧ win0_0.index t (1 : Fin 2) = t.val / 32
    ∧ win0_1.index t (0 : Fin 2) = t.val % 8 ∧ win0_1.index t (1 : Fin 2) = t.val / 8 % 4 :=
  (by decide +kernel : ∀ t : Fin grid0.N, _)

variable (m : (ℓ : Loc nD τ sig) → Buf (Elt Ideal) ℓ) (c : Dev nD) (p : Fin 2) (s : Fin 4)

theorem pt_val (j : Fin 8) : (pt p s j).val = 8 * (4 * p.val + s.val) + j.val := rfl

theorem block_x (j : Fin 8) (k r : Fin 1024) :
    (iblk m c 0 (pt p s j) : Vec Ideal S1024x1024 .bf16) (ix2 k r) = m ((c : Thread nD τ).loc main_arg0) (ix2 (tok j k) (row p r)) := by
  show m ((c : Thread nD τ).loc main_arg0) (((cfg0.win 0).blk (pt p s j)).view.emb (ix2 k r)) = _
  refine congrArg _ (funext fun a => Fin.ext ?_)
  obtain ⟨e0, e1, -, -⟩ := index_in (pt p s j)
  rw [pt_val] at e0 e1
  match a with
  | ⟨0, _⟩ => show win0_0.index (pt p s j) (0 : Fin 2) * 1024 + 1 * k.val = 1024 * j.val + k.val; omega
  | ⟨1, _⟩ => show win0_0.index (pt p s j) (1 : Fin 2) * 1024 + 1 * r.val = 1024 * p.val + r.val; omega

theorem block_y (j : Fin 8) (k : Fin 1024) (q : Fin 1408) :
    (iblk m c 1 (pt p s j) : Vec Ideal S1024x1408 .bf16) (ix2 k q) = m ((c : Thread nD τ).loc main_arg1) (ix2 (tok j k) (col s q)) := by
  show m ((c : Thread nD τ).loc main_arg1) (((cfg0.win 1).blk (pt p s j)).view.emb (ix2 k q)) = _
  refine congrArg _ (funext fun a => Fin.ext ?_)
  obtain ⟨-, -, e0, e1⟩ := index_in (pt p s j)
  rw [pt_val] at e0 e1
  match a with
  | ⟨0, _⟩ => show win0_1.index (pt p s j) (0 : Fin 2) * 1024 + 1 * k.val = 1024 * j.val + k.val; omega
  | ⟨1, _⟩ => show win0_1.index (pt p s j) (1 : Fin 2) * 1408 + 1 * q.val = 1408 * s.val + q.val; omega

/-! ## The kernel's array -/

/-- What the `j`-th 1024 tokens give to the element in row `R` and column `C`. -/
def part (X : FVec Ideal S8192x2048 .bf16) (Y : FVec Ideal S8192x5632 .bf16) (R : Fin 2048) (C : Fin 5632) (j : Fin 8) : EReal :=
  ∑ k : Fin 1024, X (ix2 (tok j k) R) * Y (ix2 (tok j k) C)

abbrev partAt := part (m ((c : Thread nD τ).loc main_arg0)) (m ((c : Thread nD τ).loc main_arg1))

theorem step_at (j : Fin 8) (acc : FVec Ideal S1024x1408 .f32) (r : Fin 1024) (q : Fin 1408) :
    k0_pay2 (F := Ideal) acc (iblk m c 0 (pt p s j)) (iblk m c 1 (pt p s j)) (ix2 r q)
      = acc (ix2 r q) + partAt m c (row p r) (col s q) j := by
  rw [step_apply]
  simp only [block_x, block_y]
  rfl

/-- The accumulator after point `j`, before the last: the tokens up to the `j`-th. -/
theorem acc_apply (r : Fin 1024) (q : Fin 1408) : ∀ (j : ℕ) (h : j < 7),
    (outsAt0 m c (pt p s ⟨j, by omega⟩).val (pt p s ⟨j, by omega⟩).isLt).2 (ix2 r q)
      = ∑ i : Fin (j + 1), partAt m c (row p r) (col s q) ⟨i.val, by omega⟩
  | 0, h => by
    rw [acc_at_first m c (pt p s ⟨0, by omega⟩) (by show (8 * (4 * p.val + s.val) + 0) % 8 = 0; omega), step_at, zeros_apply, zero_add,
      Fin.sum_univ_one]
    rfl
  | j + 1, h => by
    rw [acc_at_next m c (pt p s ⟨j + 1, by omega⟩) (by show ¬(8 * (4 * p.val + s.val) + (j + 1)) % 8 = 0; omega)
      (by show ¬(8 * (4 * p.val + s.val) + (j + 1)) % 8 = 7; omega), step_at, Fin.sum_univ_castSucc]
    exact congrArg (· + partAt m c (row p r) (col s q) ⟨j + 1, by omega⟩) (acc_apply r q j (by omega))

theorem out_apply (r : Fin 1024) (q : Fin 1408) :
    (outsAt0 m c (pt p s 7).val (pt p s 7).isLt).1 (ix3 (0 : Fin 1) r q) = ∑ j : Fin 8, partAt m c (row p r) (col s q) j := by
  rw [out_at_last m c (pt p s 7) (by show (8 * (4 * p.val + s.val) + 7) % 8 = 7; omega), rounded_apply]
  refine (step_at m c p s 7 _ r q).trans ?_
  rw [Fin.sum_univ_castSucc]
  exact congrArg (· + partAt m c (row p r) (col s q) 7) (acc_apply m c p s r q 6 (by omega))

theorem split_row (i : Fin 2048) : ∃ p r, row p r = i :=
  ⟨⟨i.val / 1024, by omega⟩, ⟨i.val % 1024, by omega⟩, Fin.ext (by show 1024 * (i.val / 1024) + i.val % 1024 = i.val; omega)⟩

/-- Chip `s` gets the columns of its block. -/
theorem array_apply (R : Fin 2048) (q : Fin 1408) : Value.G2 m c (ix3 s R q) = ∑ j : Fin 8, partAt m c R (col s q) j := by
  obtain ⟨p, r, rfl⟩ := split_row R
  have hp : Value.pt2Of (ix3 s (row p r) q) = (pt p s 7).val := by
    show 8 * (1 * (s.val / 1 - 0) + 4 * ((1024 * p.val + r.val) / 1024 - 0) + 8 * (q.val / 1408 - 0)) + 7 = 8 * (4 * p.val + s.val) + 7
    omega
  have hl : Value.loc2Of (ix3 s (row p r) q) = ix3 (0 : Fin 1) r q := by
    funext a; apply Fin.ext
    match a with
    | ⟨0, _⟩ => show s.val % 1 = 0; omega
    | ⟨1, _⟩ => show (1024 * p.val + r.val) % 1024 = r.val; omega
    | ⟨2, _⟩ => show q.val % 1408 = q.val; omega
  rw [← out_apply, Value.outsAt0_sweep]
  unfold Value.G2
  rw [dif_pos (by rw [hp]; exact (pt p s 7).isLt), hl, Value.fold0_congr m c _ _ _ _ hp]

/-- An array with these elements is the kernel's. -/
theorem eq_array (f : FVec Ideal S4x2048x1408 .bf16) (hf : ∀ s R q, f (ix3 s R q) = ∑ j : Fin 8, partAt m c R (col s q) j) :
    f = Value.G2 m c := by
  funext i
  obtain ⟨s, R, q, rfl⟩ : ∃ (s : Fin 4) (R : Fin 2048) (q : Fin 1408), ix3 s R q = i :=
    ⟨i 0, i 1, i 2, funext fun a => by fin_cases a <;> rfl⟩
  exact (hf s R q).trans (array_apply m c s R q).symm

/-! ## The reference's array -/

/-- The columns of a product, dealt out to the chips. -/
theorem deal_apply (Z : FVec Ideal ⟨2, ![2048, 5632]⟩ .f32) (hs : (⟨2, ![2048, 5632]⟩ : Shape).ShapeCasts ⟨3, ![2048, 4, 1408]⟩)
    (hq : (⟨3, ![2048, 4, 1408]⟩ : Shape).Transposes [1, 0, 2] S4x2048x1408) (R : Fin 2048) (q : Fin 1408) :
    transpose S4x2048x1408 [1, 0, 2] (shapeCast ⟨3, ![2048, 4, 1408]⟩ Z hs) hq (ix3 s R q) = Z (ix2 R (col s q)) := by
  refine Eq.trans (b := shapeCast ⟨3, ![2048, 4, 1408]⟩ Z hs (ix3 R s q)) ?_ (shapeCast_apply _ hs _ (ix2 R (col s q)) ?_)
  · generalize shapeCast ⟨3, ![2048, 4, 1408]⟩ Z hs = W
    pointwise
  · rw [Shape.rowMajor_val_three, Shape.rowMajor_val_two]
    show R.val * 5632 + (1408 * s.val + q.val) = (R.val * 4 + s.val) * 1408 + q.val
    omega

section Reference

variable [Cert.GradColsRefIdeal.Facts₀] (X : FVec Ideal S8192x2048 .bf16) (Y : FVec Ideal S8192x5632 .bf16)
  (ht : S8192x2048.Transposes [1, 0] ⟨2, ![2048, 8192]⟩)

theorem dot_apply (R : Fin 2048) (C : Fin 5632) :
    Host.dotGeneral (F := Ideal) (φ₁ := .bf16) (φ₂ := .bf16) Cert.GradColsRefIdeal.dot_S2048x8192_S8192x5632_S2048x5632_1_0_0_1_n_n none
        (transpose ⟨2, ![2048, 8192]⟩ [1, 0] X ht) Y (ix2 R C)
      = ∑ K : Fin 8192, X (ix2 K R) * Y (ix2 K C) := by
  pointwise [Cert.GradColsRefIdeal.dot_S2048x8192_S8192x5632_S2048x5632_1_0_0_1_n_n]

/-- The reference's term, by the blocks of the tokens. -/
theorem term_apply (hs : (⟨2, ![2048, 5632]⟩ : Shape).ShapeCasts ⟨3, ![2048, 4, 1408]⟩)
    (hq : (⟨3, ![2048, 4, 1408]⟩ : Shape).Transposes [1, 0, 2] S4x2048x1408) (R : Fin 2048) (q : Fin 1408) :
    transpose S4x2048x1408 [1, 0, 2] (shapeCast ⟨3, ![2048, 4, 1408]⟩
        (Host.dotGeneral (F := Ideal) (φ₁ := .bf16) (φ₂ := .bf16) Cert.GradColsRefIdeal.dot_S2048x8192_S8192x5632_S2048x5632_1_0_0_1_n_n none
          (transpose ⟨2, ![2048, 8192]⟩ [1, 0] X ht) Y) hs) hq (ix3 s R q)
      = ∑ j : Fin 8, part X Y R (col s q) j :=
  (deal_apply s _ hs hq R q).trans ((dot_apply X Y ht R (col s q)).trans (sum_tok _))

end Reference

end Cert.Proof.GradCols

end
-- ==== Proof.GradColsClaims.lean ====
/-
# The claims on the gradient of a gate or up weight

The kernel computes every chip's columns apart, as a sum over eight blocks of 1024 tokens; the reference makes one product
and cuts its columns into four.
-/
module

public import proofs.«01_k».proof.Defs
public import proofs.«01_k».proof.Proof.Gen.GradCols.Frame
public import proofs.«01_k».proof.Proof.GradColsValue
public import Idealize.ShloMosaic.Lib.Quiescent

@[expose] public section

noncomputable section

namespace Cert.Proof.GradCols

open Idealize.ShloMosaic Idealize.ShloMosaic.TcCoe Idealize.SL.Sem
open Cert.GradColsIdeal

theorem frame_kernel : Cert.quiescent_GradCols := fun m ρ _ => Cert.GradCols.Gen.frame (F := Bits) m ρ

theorem frame_ideal : Cert.quiescent_GradColsIdeal := fun m ρ _ => Gen.frame (F := Ideal) m ρ

theorem frame_ref_ideal : Cert.quiescent_GradColsRefIdeal := fun m ρ _ =>
  (θ_run Cert.GradColsRefIdeal.defs _ _).mono (fun r h => ⟨fun c => (h c).2, sem_eq_zero_of_no_sems (by decide) r.2⟩)
    (Cert.GradColsRefIdeal.Value.run (F := Ideal) m ρ)

theorem algebraic : Cert.algebraic_GradColsIdeal_GradColsRefIdeal := fun m ρ m' ρ' _ hm =>
  ⟨_, Value.run (F := Ideal) m ρ,
    (θ_run Cert.GradColsRefIdeal.defs _ _).mono (fun r h c => by
      obtain ⟨h0, h1⟩ := hm c
      obtain ⟨hv, hk⟩ := h c
      rw [h0, h1] at hv
      exact ⟨hv.trans (eq_array m c _ fun s R q => term_apply s _ _ _ _ _ R q), hk⟩)
      (Cert.GradColsRefIdeal.Value.run (F := Ideal) m' ρ')⟩

end Cert.Proof.GradCols
-- ==== Proof.lean ====
/-
# The claims
-/
module

public import proofs.«01_k».proof.Defs
public import proofs.«01_k».proof.Proof.PairClaims
public import proofs.«01_k».proof.Proof.ChipsClaims
public import proofs.«01_k».proof.Proof.HalvesClaims
public import proofs.«01_k».proof.Proof.GatherClaims
public import proofs.«01_k».proof.Proof.AdamClaims
public import proofs.«01_k».proof.Proof.GradXClaims
public import proofs.«01_k».proof.Proof.LnFwdClaims
public import proofs.«01_k».proof.Proof.LnLossClaims
public import proofs.«01_k».proof.Proof.Gen.LnFwd
public import proofs.«01_k».proof.Proof.Gen.LnFwdIdeal
public import proofs.«01_k».proof.Proof.Gen.LnFwdRefIdeal
public import proofs.«01_k».proof.Proof.Gen.LnFwd.Frame
public import proofs.«01_k».proof.Proof.Gen.LnFwdIdeal.Value
public import proofs.«01_k».proof.Proof.Gen.LnFwdRefIdeal.Run
public import proofs.«01_k».proof.Proof.Gen.LnLoss
public import proofs.«01_k».proof.Proof.Gen.LnLossIdeal
public import proofs.«01_k».proof.Proof.Gen.LnLossRefIdeal
public import proofs.«01_k».proof.Proof.Gen.LnLoss.Frame
public import proofs.«01_k».proof.Proof.Gen.LnLossIdeal.Value
public import proofs.«01_k».proof.Proof.Gen.LnLossRefIdeal.Run
public import proofs.«01_k».proof.Proof.FfnUpClaims
public import proofs.«01_k».proof.Proof.Gen.FfnUp
public import proofs.«01_k».proof.Proof.Gen.FfnUpIdeal
public import proofs.«01_k».proof.Proof.Gen.FfnUpRefIdeal
public import proofs.«01_k».proof.Proof.Gen.FfnUp.Frame
public import proofs.«01_k».proof.Proof.Gen.FfnUpIdeal.Value
public import proofs.«01_k».proof.Proof.Gen.FfnUpRefIdeal.Run
public import proofs.«01_k».proof.Proof.FfnDownClaims
public import proofs.«01_k».proof.Proof.Gen.FfnDown
public import proofs.«01_k».proof.Proof.Gen.FfnDownIdeal
public import proofs.«01_k».proof.Proof.Gen.FfnDownRefIdeal
public import proofs.«01_k».proof.Proof.Gen.FfnDown.Frame
public import proofs.«01_k».proof.Proof.Gen.FfnDownIdeal.Value
public import proofs.«01_k».proof.Proof.Gen.FfnDownRefIdeal.Run
public import proofs.«01_k».proof.Proof.MixInClaims
public import proofs.«01_k».proof.Proof.Gen.MixIn
public import proofs.«01_k».proof.Proof.Gen.MixInIdeal
public import proofs.«01_k».proof.Proof.Gen.MixInRefIdeal
public import proofs.«01_k».proof.Proof.Gen.MixIn.Frame
public import proofs.«01_k».proof.Proof.Gen.MixInIdeal.Value
public import proofs.«01_k».proof.Proof.Gen.MixInRefIdeal.Run
public import proofs.«01_k».proof.Proof.MixOutClaims
public import proofs.«01_k».proof.Proof.Gen.MixOut
public import proofs.«01_k».proof.Proof.Gen.MixOutIdeal
public import proofs.«01_k».proof.Proof.Gen.MixOutRefIdeal
public import proofs.«01_k».proof.Proof.Gen.MixOut.Frame
public import proofs.«01_k».proof.Proof.Gen.MixOutIdeal.Value
public import proofs.«01_k».proof.Proof.Gen.MixOutRefIdeal.Run
public import proofs.«01_k».proof.Proof.GradDownClaims
public import proofs.«01_k».proof.Proof.Gen.GradDown
public import proofs.«01_k».proof.Proof.Gen.GradDownIdeal
public import proofs.«01_k».proof.Proof.Gen.GradDownRefIdeal
public import proofs.«01_k».proof.Proof.Gen.GradDown.Frame
public import proofs.«01_k».proof.Proof.Gen.GradDownIdeal.Value
public import proofs.«01_k».proof.Proof.Gen.GradDownRefIdeal.Run
public import proofs.«01_k».proof.Proof.GradColsClaims
public import proofs.«01_k».proof.Proof.Gen.GradCols
public import proofs.«01_k».proof.Proof.Gen.GradColsIdeal
public import proofs.«01_k».proof.Proof.Gen.GradColsRefIdeal
public import proofs.«01_k».proof.Proof.Gen.GradCols.Frame
public import proofs.«01_k».proof.Proof.Gen.GradColsIdeal.Value
public import proofs.«01_k».proof.Proof.Gen.GradColsRefIdeal.Run
public import proofs.«01_k».proof.Proof.Gen.GradX
public import proofs.«01_k».proof.Proof.Gen.GradX.Launch
public import proofs.«01_k».proof.Proof.Gen.GradX.Points
public import proofs.«01_k».proof.Proof.Gen.GradX.Skeleton
public import proofs.«01_k».proof.Proof.Gen.GradX.Frame
public import proofs.«01_k».proof.Proof.Gen.GradXIdeal
public import proofs.«01_k».proof.Proof.Gen.GradXRefIdeal
public import proofs.«01_k».proof.Proof.Gen.GradXIdeal.Launch
public import proofs.«01_k».proof.Proof.Gen.GradXIdeal.Points
public import proofs.«01_k».proof.Proof.Gen.GradXIdeal.Skeleton
public import proofs.«01_k».proof.Proof.Gen.GradXIdeal.Value
public import proofs.«01_k».proof.Proof.Gen.GradXRefIdeal.Run
public import proofs.«01_k».proof.Proof.Gen.AdamCols
public import proofs.«01_k».proof.Proof.Gen.AdamCols.Launch
public import proofs.«01_k».proof.Proof.Gen.AdamCols.Points
public import proofs.«01_k».proof.Proof.Gen.AdamCols.Skeleton
public import proofs.«01_k».proof.Proof.Gen.AdamCols.Frame
public import proofs.«01_k».proof.Proof.Gen.AdamColsIdeal
public import proofs.«01_k».proof.Proof.Gen.AdamColsRefIdeal
public import proofs.«01_k».proof.Proof.Gen.AdamColsIdeal.Launch
public import proofs.«01_k».proof.Proof.Gen.AdamColsIdeal.Points
public import proofs.«01_k».proof.Proof.Gen.AdamColsIdeal.Skeleton
public import proofs.«01_k».proof.Proof.Gen.AdamColsIdeal.Value
public import proofs.«01_k».proof.Proof.Gen.AdamColsRefIdeal.Run
public import proofs.«01_k».proof.Proof.Gen.AdamDown
public import proofs.«01_k».proof.Proof.Gen.AdamDown.Launch
public import proofs.«01_k».proof.Proof.Gen.AdamDown.Points
public import proofs.«01_k».proof.Proof.Gen.AdamDown.Skeleton
public import proofs.«01_k».proof.Proof.Gen.AdamDown.Frame
public import proofs.«01_k».proof.Proof.Gen.AdamDownIdeal
public import proofs.«01_k».proof.Proof.Gen.AdamDownRefIdeal
public import proofs.«01_k».proof.Proof.Gen.AdamDownIdeal.Launch
public import proofs.«01_k».proof.Proof.Gen.AdamDownIdeal.Points
public import proofs.«01_k».proof.Proof.Gen.AdamDownIdeal.Skeleton
public import proofs.«01_k».proof.Proof.Gen.AdamDownIdeal.Value
public import proofs.«01_k».proof.Proof.Gen.AdamDownRefIdeal.Run
public import proofs.«01_k».proof.Proof.Gen.AdamIn
public import proofs.«01_k».proof.Proof.Gen.AdamIn.Launch
public import proofs.«01_k».proof.Proof.Gen.AdamIn.Points
public import proofs.«01_k».proof.Proof.Gen.AdamIn.Skeleton
public import proofs.«01_k».proof.Proof.Gen.AdamIn.Frame
public import proofs.«01_k».proof.Proof.Gen.AdamInIdeal
public import proofs.«01_k».proof.Proof.Gen.AdamInRefIdeal
public import proofs.«01_k».proof.Proof.Gen.AdamInIdeal.Launch
public import proofs.«01_k».proof.Proof.Gen.AdamInIdeal.Points
public import proofs.«01_k».proof.Proof.Gen.AdamInIdeal.Skeleton
public import proofs.«01_k».proof.Proof.Gen.AdamInIdeal.Value
public import proofs.«01_k».proof.Proof.Gen.AdamInRefIdeal.Run
public import proofs.«01_k».proof.Proof.Gen.AdamOut
public import proofs.«01_k».proof.Proof.Gen.AdamOut.Launch
public import proofs.«01_k».proof.Proof.Gen.AdamOut.Points
public import proofs.«01_k».proof.Proof.Gen.AdamOut.Skeleton
public import proofs.«01_k».proof.Proof.Gen.AdamOut.Frame
public import proofs.«01_k».proof.Proof.Gen.AdamOutIdeal
public import proofs.«01_k».proof.Proof.Gen.AdamOutRefIdeal
public import proofs.«01_k».proof.Proof.Gen.AdamOutIdeal.Launch
public import proofs.«01_k».proof.Proof.Gen.AdamOutIdeal.Points
public import proofs.«01_k».proof.Proof.Gen.AdamOutIdeal.Skeleton
public import proofs.«01_k».proof.Proof.Gen.AdamOutIdeal.Value
public import proofs.«01_k».proof.Proof.Gen.AdamOutRefIdeal.Run
public import proofs.«01_k».proof.Proof.Gen.Pair
public import proofs.«01_k».proof.Proof.Gen.PairIdeal
public import proofs.«01_k».proof.Proof.Gen.PairRef
public import proofs.«01_k».proof.Proof.Gen.PairRefIdeal
public import proofs.«01_k».proof.Proof.Gen.PairRefIdeal.Run
public import proofs.«01_k».proof.Proof.Gen.Chips
public import proofs.«01_k».proof.Proof.Gen.ChipsIdeal
public import proofs.«01_k».proof.Proof.Gen.ChipsRef
public import proofs.«01_k».proof.Proof.Gen.ChipsRefIdeal
public import proofs.«01_k».proof.Proof.Gen.ChipsRefIdeal.Run
public import proofs.«01_k».proof.Proof.Gen.ChipsIdeal.Launch
public import proofs.«01_k».proof.Proof.Gen.ChipsIdeal.Points
public import proofs.«01_k».proof.Proof.Gen.ChipsIdeal.Skeleton
public import proofs.«01_k».proof.Proof.Gen.Halves
public import proofs.«01_k».proof.Proof.Gen.HalvesIdeal
public import proofs.«01_k».proof.Proof.Gen.HalvesRef
public import proofs.«01_k».proof.Proof.Gen.HalvesRefIdeal
public import proofs.«01_k».proof.Proof.Gen.HalvesRefIdeal.Run
public import proofs.«01_k».proof.Proof.Gen.HalvesIdeal.Launch
public import proofs.«01_k».proof.Proof.Gen.HalvesIdeal.Points
public import proofs.«01_k».proof.Proof.Gen.HalvesIdeal.Skeleton
public import proofs.«01_k».proof.Proof.Gen.Gather
public import proofs.«01_k».proof.Proof.Gen.GatherIdeal
public import proofs.«01_k».proof.Proof.Gen.GatherRef
public import proofs.«01_k».proof.Proof.Gen.GatherRefIdeal
public import proofs.«01_k».proof.Proof.Gen.GatherRefIdeal.Run
public import proofs.«01_k».proof.Proof.Gen.GatherIdeal.Launch
public import proofs.«01_k».proof.Proof.Gen.GatherIdeal.Points
public import proofs.«01_k».proof.Proof.Gen.GatherIdeal.Skeleton

@[expose] public section

noncomputable section

namespace Cert.Proof

theorem claim : Cert.Claim := ⟨Cert.Pair.Gen.facts, Cert.PairIdeal.Gen.facts, Cert.PairRefIdeal.Gen.facts, Cert.PairRef.Gen.facts,
  Cert.Chips.Gen.facts, Cert.ChipsIdeal.Gen.facts, Cert.ChipsRefIdeal.Gen.facts, Cert.ChipsRef.Gen.facts,
  Cert.Halves.Gen.facts, Cert.HalvesIdeal.Gen.facts, Cert.HalvesRefIdeal.Gen.facts, Cert.HalvesRef.Gen.facts,
  Cert.Gather.Gen.facts, Cert.GatherIdeal.Gen.facts, Cert.GatherRefIdeal.Gen.facts, Cert.GatherRef.Gen.facts,
  Cert.AdamCols.Gen.facts, Cert.AdamColsIdeal.Gen.facts, Cert.AdamColsRefIdeal.Gen.facts,
  Cert.AdamDown.Gen.facts, Cert.AdamDownIdeal.Gen.facts, Cert.AdamDownRefIdeal.Gen.facts,
  Cert.AdamIn.Gen.facts, Cert.AdamInIdeal.Gen.facts, Cert.AdamInRefIdeal.Gen.facts,
  Cert.AdamOut.Gen.facts, Cert.AdamOutIdeal.Gen.facts, Cert.AdamOutRefIdeal.Gen.facts,
  Cert.GradX.Gen.facts, Cert.GradXIdeal.Gen.facts, Cert.GradXRefIdeal.Gen.facts,
  Cert.LnFwd.Gen.facts, Cert.LnFwdIdeal.Gen.facts, Cert.LnFwdRefIdeal.Gen.facts,
  Cert.LnLoss.Gen.facts, Cert.LnLossIdeal.Gen.facts, Cert.LnLossRefIdeal.Gen.facts,
  Cert.FfnUp.Gen.facts, Cert.FfnUpIdeal.Gen.facts, Cert.FfnUpRefIdeal.Gen.facts,
  Cert.FfnDown.Gen.facts, Cert.FfnDownIdeal.Gen.facts, Cert.FfnDownRefIdeal.Gen.facts,
  Cert.MixIn.Gen.facts, Cert.MixInIdeal.Gen.facts, Cert.MixInRefIdeal.Gen.facts,
  Cert.MixOut.Gen.facts, Cert.MixOutIdeal.Gen.facts, Cert.MixOutRefIdeal.Gen.facts,
  Cert.GradDown.Gen.facts, Cert.GradDownIdeal.Gen.facts, Cert.GradDownRefIdeal.Gen.facts,
  Cert.GradCols.Gen.facts, Cert.GradColsIdeal.Gen.facts, Cert.GradColsRefIdeal.Gen.facts,
  Pair.frame_kernel, Pair.frame_ideal, Pair.frame_ref_ideal, Pair.frame_ref,
  Chips.frame_kernel, Chips.frame_ideal, Chips.frame_ref_ideal, Chips.frame_ref,
  Halves.frame_kernel, Halves.frame_ideal, Halves.frame_ref_ideal, Halves.frame_ref,
  Gather.frame_kernel, Gather.frame_ideal, Gather.frame_ref_ideal, Gather.frame_ref,
  AdamCols.frame_kernel, AdamCols.frame_ideal, AdamCols.frame_ref_ideal,
  AdamDown.frame_kernel, AdamDown.frame_ideal, AdamDown.frame_ref_ideal,
  AdamIn.frame_kernel, AdamIn.frame_ideal, AdamIn.frame_ref_ideal,
  AdamOut.frame_kernel, AdamOut.frame_ideal, AdamOut.frame_ref_ideal,
  GradX.frame_kernel, GradX.frame_ideal, GradX.frame_ref_ideal,
  LnFwd.frame_kernel, LnFwd.frame_ideal, LnFwd.frame_ref_ideal,
  LnLoss.frame_kernel, LnLoss.frame_ideal, LnLoss.frame_ref_ideal,
  FfnUp.frame_kernel, FfnUp.frame_ideal, FfnUp.frame_ref_ideal,
  FfnDown.frame_kernel, FfnDown.frame_ideal, FfnDown.frame_ref_ideal,
  MixIn.frame_kernel, MixIn.frame_ideal, MixIn.frame_ref_ideal,
  MixOut.frame_kernel, MixOut.frame_ideal, MixOut.frame_ref_ideal,
  GradDown.frame_kernel, GradDown.frame_ideal, GradDown.frame_ref_ideal,
  GradCols.frame_kernel, GradCols.frame_ideal, GradCols.frame_ref_ideal,
  trivial, Pair.bitexact, Pair.algebraic,
  trivial, Chips.bitexact, Chips.algebraic,
  trivial, Halves.bitexact, Halves.algebraic,
  trivial, Gather.bitexact, Gather.algebraic,
  trivial, AdamCols.algebraic,
  trivial, AdamDown.algebraic,
  trivial, AdamIn.algebraic,
  trivial, AdamOut.algebraic,
  trivial, GradX.algebraic,
  trivial, LnFwd.algebraic,
  trivial, LnLoss.algebraic,
  trivial, FfnUp.algebraic,
  trivial, FfnDown.algebraic,
  trivial, MixIn.algebraic,
  trivial, MixOut.algebraic,
  trivial, GradDown.algebraic,
  trivial, GradCols.algebraic⟩

end Cert.Proof
